-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_GradWGateUp (m : (ℓ : Loc Cert.GradWGateUp.nD Cert.GradWGateUp.τ Cert.GradWGateUp.sig) → Buf (Elt Bits) ℓ) : Prop :=
  True

def Pre_GradWGateUpIdeal (m : (ℓ : Loc Cert.GradWGateUpIdeal.nD Cert.GradWGateUpIdeal.τ Cert.GradWGateUpIdeal.sig) → Buf (Elt Ideal) ℓ) : Prop :=
  True

def Pre_RefGradWGateUpIdeal (m : (ℓ : Loc Cert.RefGradWGateUpIdeal.nD Cert.RefGradWGateUpIdeal.τ Cert.RefGradWGateUpIdeal.sig) → Buf (Elt Ideal) ℓ) : Prop :=
  True

def Pre_GradHGateUp (m : (ℓ : Loc Cert.GradHGateUp.nD Cert.GradHGateUp.τ Cert.GradHGateUp.sig) → Buf (Elt Bits) ℓ) : Prop :=
  True

def Pre_GradHGateUpIdeal (m : (ℓ : Loc Cert.GradHGateUpIdeal.nD Cert.GradHGateUpIdeal.τ Cert.GradHGateUpIdeal.sig) → Buf (Elt Ideal) ℓ) : Prop :=
  True

def Pre_RefGradHGateUpIdeal (m : (ℓ : Loc Cert.RefGradHGateUpIdeal.nD Cert.RefGradHGateUpIdeal.τ Cert.RefGradHGateUpIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_RefGateUpIdeal (m : (ℓ : Loc Cert.RefGateUpIdeal.nD Cert.RefGateUpIdeal.τ Cert.RefGateUpIdeal.sig) → Buf (Elt Ideal) ℓ) : Prop :=
  True

def Pre_GradWDown (m : (ℓ : Loc Cert.GradWDown.nD Cert.GradWDown.τ Cert.GradWDown.sig) → Buf (Elt Bits) ℓ) : Prop :=
  True

def Pre_GradWDownIdeal (m : (ℓ : Loc Cert.GradWDownIdeal.nD Cert.GradWDownIdeal.τ Cert.GradWDownIdeal.sig) → Buf (Elt Ideal) ℓ) : Prop :=
  True

def Pre_RefGradWDownIdeal (m : (ℓ : Loc Cert.RefGradWDownIdeal.nD Cert.RefGradWDownIdeal.τ Cert.RefGradWDownIdeal.sig) → Buf (Elt Ideal) ℓ) : Prop :=
  True

def Pre_GradHDown (m : (ℓ : Loc Cert.GradHDown.nD Cert.GradHDown.τ Cert.GradHDown.sig) → Buf (Elt Bits) ℓ) : Prop :=
  True

def Pre_GradHDownIdeal (m : (ℓ : Loc Cert.GradHDownIdeal.nD Cert.GradHDownIdeal.τ Cert.GradHDownIdeal.sig) → Buf (Elt Ideal) ℓ) : Prop :=
  True

def Pre_RefGradHDownIdeal (m : (ℓ : Loc Cert.RefGradHDownIdeal.nD Cert.RefGradHDownIdeal.τ Cert.RefGradHDownIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_ProjZ (m : (ℓ : Loc Cert.ProjZ.nD Cert.ProjZ.τ Cert.ProjZ.sig) → Buf (Elt Bits) ℓ) : Prop :=
  True

def Pre_ProjZIdeal (m : (ℓ : Loc Cert.ProjZIdeal.nD Cert.ProjZIdeal.τ Cert.ProjZIdeal.sig) → Buf (Elt Ideal) ℓ) : Prop :=
  True

def Pre_RefProjZIdeal (m : (ℓ : Loc Cert.RefProjZIdeal.nD Cert.RefProjZIdeal.τ Cert.RefProjZIdeal.sig) → Buf (Elt Ideal) ℓ) : Prop :=
  True

def Pre_ProjXbc (m : (ℓ : Loc Cert.ProjXbc.nD Cert.ProjXbc.τ Cert.ProjXbc.sig) → Buf (Elt Bits) ℓ) : Prop :=
  True

def Pre_ProjXbcIdeal (m : (ℓ : Loc Cert.ProjXbcIdeal.nD Cert.ProjXbcIdeal.τ Cert.ProjXbcIdeal.sig) → Buf (Elt Ideal) ℓ) : Prop :=
  True

def Pre_RefProjXbcIdeal (m : (ℓ : Loc Cert.RefProjXbcIdeal.nD Cert.RefProjXbcIdeal.τ Cert.RefProjXbcIdeal.sig) → Buf (Elt Ideal) ℓ) : Prop :=
  True

def Pre_ProjGlu (m : (ℓ : Loc Cert.ProjGlu.nD Cert.ProjGlu.τ Cert.ProjGlu.sig) → Buf (Elt Bits) ℓ) : Prop :=
  True

def Pre_ProjGluIdeal (m : (ℓ : Loc Cert.ProjGluIdeal.nD Cert.ProjGluIdeal.τ Cert.ProjGluIdeal.sig) → Buf (Elt Ideal) ℓ) : Prop :=
  True

def Pre_RefProjGluIdeal (m : (ℓ : Loc Cert.RefProjGluIdeal.nD Cert.RefProjGluIdeal.τ Cert.RefProjGluIdeal.sig) → Buf (Elt Ideal) ℓ) : Prop :=
  True

def Pre_ProjGate (m : (ℓ : Loc Cert.ProjGate.nD Cert.ProjGate.τ Cert.ProjGate.sig) → Buf (Elt Bits) ℓ) : Prop :=
  True

def Pre_ProjGateIdeal (m : (ℓ : Loc Cert.ProjGateIdeal.nD Cert.ProjGateIdeal.τ Cert.ProjGateIdeal.sig) → Buf (Elt Ideal) ℓ) : Prop :=
  True

def Pre_RefProjGateIdeal (m : (ℓ : Loc Cert.RefProjGateIdeal.nD Cert.RefProjGateIdeal.τ Cert.RefProjGateIdeal.sig) → Buf (Elt Ideal) ℓ) : Prop :=
  True

def Pre_GradWSsmOut (m : (ℓ : Loc Cert.GradWSsmOut.nD Cert.GradWSsmOut.τ Cert.GradWSsmOut.sig) → Buf (Elt Bits) ℓ) : Prop :=
  True

def Pre_GradWSsmOutIdeal (m : (ℓ : Loc Cert.GradWSsmOutIdeal.nD Cert.GradWSsmOutIdeal.τ Cert.GradWSsmOutIdeal.sig) → Buf (Elt Ideal) ℓ) : Prop :=
  True

def Pre_RefGradWSsmOutIdeal (m : (ℓ : Loc Cert.RefGradWSsmOutIdeal.nD Cert.RefGradWSsmOutIdeal.τ Cert.RefGradWSsmOutIdeal.sig) → Buf (Elt Ideal) ℓ) : Prop :=
  True

def Pre_GradHSsmOut (m : (ℓ : Loc Cert.GradHSsmOut.nD Cert.GradHSsmOut.τ Cert.GradHSsmOut.sig) → Buf (Elt Bits) ℓ) : Prop :=
  True

def Pre_GradHSsmOutIdeal (m : (ℓ : Loc Cert.GradHSsmOutIdeal.nD Cert.GradHSsmOutIdeal.τ Cert.GradHSsmOutIdeal.sig) → Buf (Elt Ideal) ℓ) : Prop :=
  True

def Pre_RefGradHSsmOutIdeal (m : (ℓ : Loc Cert.RefGradHSsmOutIdeal.nD Cert.RefGradHSsmOutIdeal.τ Cert.RefGradHSsmOutIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_RefSsmOutIdeal (m : (ℓ : Loc Cert.RefSsmOutIdeal.nD Cert.RefSsmOutIdeal.τ Cert.RefSsmOutIdeal.sig) → Buf (Elt Ideal) ℓ) : Prop :=
  True

def Pre_GradWMixOut (m : (ℓ : Loc Cert.GradWMixOut.nD Cert.GradWMixOut.τ Cert.GradWMixOut.sig) → Buf (Elt Bits) ℓ) : Prop :=
  True

def Pre_GradWMixOutIdeal (m : (ℓ : Loc Cert.GradWMixOutIdeal.nD Cert.GradWMixOutIdeal.τ Cert.GradWMixOutIdeal.sig) → Buf (Elt Ideal) ℓ) : Prop :=
  True

def Pre_RefGradWMixOutIdeal (m : (ℓ : Loc Cert.RefGradWMixOutIdeal.nD Cert.RefGradWMixOutIdeal.τ Cert.RefGradWMixOutIdeal.sig) → Buf (Elt Ideal) ℓ) : Prop :=
  True

def Pre_GradHMixOut (m : (ℓ : Loc Cert.GradHMixOut.nD Cert.GradHMixOut.τ Cert.GradHMixOut.sig) → Buf (Elt Bits) ℓ) : Prop :=
  True

def Pre_GradHMixOutIdeal (m : (ℓ : Loc Cert.GradHMixOutIdeal.nD Cert.GradHMixOutIdeal.τ Cert.GradHMixOutIdeal.sig) → Buf (Elt Ideal) ℓ) : Prop :=
  True

def Pre_RefGradHMixOutIdeal (m : (ℓ : Loc Cert.RefGradHMixOutIdeal.nD Cert.RefGradHMixOutIdeal.τ Cert.RefGradHMixOutIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_RefMixOutIdeal (m : (ℓ : Loc Cert.RefMixOutIdeal.nD Cert.RefMixOutIdeal.τ Cert.RefMixOutIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_RefConvOutIdeal (m : (ℓ : Loc Cert.RefConvOutIdeal.nD Cert.RefConvOutIdeal.τ Cert.RefConvOutIdeal.sig) → Buf (Elt Ideal) ℓ) : Prop :=
  True

def Pre_ProjDt (m : (ℓ : Loc Cert.ProjDt.nD Cert.ProjDt.τ Cert.ProjDt.sig) → Buf (Elt Bits) ℓ) : Prop :=
  True

def Pre_ProjDtIdeal (m : (ℓ : Loc Cert.ProjDtIdeal.nD Cert.ProjDtIdeal.τ Cert.ProjDtIdeal.sig) → Buf (Elt Ideal) ℓ) : Prop :=
  True

def Pre_RefProjDtIdeal (m : (ℓ : Loc Cert.RefProjDtIdeal.nD Cert.RefProjDtIdeal.τ Cert.RefProjDtIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_GradWGateUp [hGradWGateUp : Cert.GradWGateUp.Facts] : Prop :=
  ∀ (m : (ℓ : Loc Cert.GradWGateUp.nD Cert.GradWGateUp.τ Cert.GradWGateUp.sig) → Buf (Elt Bits) ℓ) (g : Dev Cert.GradWGateUp.nD → PrngReg), Pre_GradWGateUp m →
    θ_run (Cert.GradWGateUp.defs (F := Bits)) (onTc (τ := Cert.GradWGateUp.τ) (Cert.GradWGateUp.main (F := Bits))) ⟨m, fun _ => 0, g⟩ (fun r => (∀ c : Dev Cert.GradWGateUp.nD,
      r.2.mem ((c.tc : Thread Cert.GradWGateUp.nD Cert.GradWGateUp.τ).loc Cert.GradWGateUp.main_arg0) = m ((c.tc : Thread Cert.GradWGateUp.nD Cert.GradWGateUp.τ).loc Cert.GradWGateUp.main_arg0)
      ∧ r.2.mem ((c.tc : Thread Cert.GradWGateUp.nD Cert.GradWGateUp.τ).loc Cert.GradWGateUp.main_arg1) = m ((c.tc : Thread Cert.GradWGateUp.nD Cert.GradWGateUp.τ).loc Cert.GradWGateUp.main_arg1))
      ∧ r.2.sem = fun _ => 0)

def quiescent_GradWGateUpIdeal [hGradWGateUpIdeal : Cert.GradWGateUpIdeal.Facts] : Prop :=
  ∀ (m : (ℓ : Loc Cert.GradWGateUpIdeal.nD Cert.GradWGateUpIdeal.τ Cert.GradWGateUpIdeal.sig) → Buf (Elt Ideal) ℓ) (g : Dev Cert.GradWGateUpIdeal.nD → PrngReg), Pre_GradWGateUpIdeal m →
    θ_run (Cert.GradWGateUpIdeal.defs (F := Ideal)) (onTc (τ := Cert.GradWGateUpIdeal.τ) (Cert.GradWGateUpIdeal.main (F := Ideal))) ⟨m, fun _ => 0, g⟩ (fun r => (∀ c : Dev Cert.GradWGateUpIdeal.nD,
      r.2.mem ((c.tc : Thread Cert.GradWGateUpIdeal.nD Cert.GradWGateUpIdeal.τ).loc Cert.GradWGateUpIdeal.main_arg0) = m ((c.tc : Thread Cert.GradWGateUpIdeal.nD Cert.GradWGateUpIdeal.τ).loc Cert.GradWGateUpIdeal.main_arg0)
      ∧ r.2.mem ((c.tc : Thread Cert.GradWGateUpIdeal.nD Cert.GradWGateUpIdeal.τ).loc Cert.GradWGateUpIdeal.main_arg1) = m ((c.tc : Thread Cert.GradWGateUpIdeal.nD Cert.GradWGateUpIdeal.τ).loc Cert.GradWGateUpIdeal.main_arg1))
      ∧ r.2.sem = fun _ => 0)

def quiescent_RefGradWGateUpIdeal [hRefGradWGateUpIdeal : Cert.RefGradWGateUpIdeal.Facts] : Prop :=
  ∀ (m : (ℓ : Loc Cert.RefGradWGateUpIdeal.nD Cert.RefGradWGateUpIdeal.τ Cert.RefGradWGateUpIdeal.sig) → Buf (Elt Ideal) ℓ) (g : Dev Cert.RefGradWGateUpIdeal.nD → PrngReg), Pre_RefGradWGateUpIdeal m →
    θ_run (Cert.RefGradWGateUpIdeal.defs (F := Ideal)) (onTc (τ := Cert.RefGradWGateUpIdeal.τ) (Cert.RefGradWGateUpIdeal.main (F := Ideal))) ⟨m, fun _ => 0, g⟩ (fun r => (∀ c : Dev Cert.RefGradWGateUpIdeal.nD,
      r.2.mem ((c.tc : Thread Cert.RefGradWGateUpIdeal.nD Cert.RefGradWGateUpIdeal.τ).loc Cert.RefGradWGateUpIdeal.main_arg0) = m ((c.tc : Thread Cert.RefGradWGateUpIdeal.nD Cert.RefGradWGateUpIdeal.τ).loc Cert.RefGradWGateUpIdeal.main_arg0)
      ∧ r.2.mem ((c.tc : Thread Cert.RefGradWGateUpIdeal.nD Cert.RefGradWGateUpIdeal.τ).loc Cert.RefGradWGateUpIdeal.main_arg1) = m ((c.tc : Thread Cert.RefGradWGateUpIdeal.nD Cert.RefGradWGateUpIdeal.τ).loc Cert.RefGradWGateUpIdeal.main_arg1))
      ∧ r.2.sem = fun _ => 0)

def quiescent_GradHGateUp [hGradHGateUp : Cert.GradHGateUp.Facts] : Prop :=
  ∀ (m : (ℓ : Loc Cert.GradHGateUp.nD Cert.GradHGateUp.τ Cert.GradHGateUp.sig) → Buf (Elt Bits) ℓ) (g : Dev Cert.GradHGateUp.nD → PrngReg), Pre_GradHGateUp m →
    θ_run (Cert.GradHGateUp.defs (F := Bits)) (onTc (τ := Cert.GradHGateUp.τ) (Cert.GradHGateUp.main (F := Bits))) ⟨m, fun _ => 0, g⟩ (fun r => (∀ c : Dev Cert.GradHGateUp.nD,
      r.2.mem ((c.tc : Thread Cert.GradHGateUp.nD Cert.GradHGateUp.τ).loc Cert.GradHGateUp.main_arg0) = m ((c.tc : Thread Cert.GradHGateUp.nD Cert.GradHGateUp.τ).loc Cert.GradHGateUp.main_arg0)
      ∧ r.2.mem ((c.tc : Thread Cert.GradHGateUp.nD Cert.GradHGateUp.τ).loc Cert.GradHGateUp.main_arg1) = m ((c.tc : Thread Cert.GradHGateUp.nD Cert.GradHGateUp.τ).loc Cert.GradHGateUp.main_arg1))
      ∧ r.2.sem = fun _ => 0)

def quiescent_GradHGateUpIdeal [hGradHGateUpIdeal : Cert.GradHGateUpIdeal.Facts] : Prop :=
  ∀ (m : (ℓ : Loc Cert.GradHGateUpIdeal.nD Cert.GradHGateUpIdeal.τ Cert.GradHGateUpIdeal.sig) → Buf (Elt Ideal) ℓ) (g : Dev Cert.GradHGateUpIdeal.nD → PrngReg), Pre_GradHGateUpIdeal m →
    θ_run (Cert.GradHGateUpIdeal.defs (F := Ideal)) (onTc (τ := Cert.GradHGateUpIdeal.τ) (Cert.GradHGateUpIdeal.main (F := Ideal))) ⟨m, fun _ => 0, g⟩ (fun r => (∀ c : Dev Cert.GradHGateUpIdeal.nD,
      r.2.mem ((c.tc : Thread Cert.GradHGateUpIdeal.nD Cert.GradHGateUpIdeal.τ).loc Cert.GradHGateUpIdeal.main_arg0) = m ((c.tc : Thread Cert.GradHGateUpIdeal.nD Cert.GradHGateUpIdeal.τ).loc Cert.GradHGateUpIdeal.main_arg0)
      ∧ r.2.mem ((c.tc : Thread Cert.GradHGateUpIdeal.nD Cert.GradHGateUpIdeal.τ).loc Cert.GradHGateUpIdeal.main_arg1) = m ((c.tc : Thread Cert.GradHGateUpIdeal.nD Cert.GradHGateUpIdeal.τ).loc Cert.GradHGateUpIdeal.main_arg1))
      ∧ r.2.sem = fun _ => 0)

def quiescent_RefGradHGateUpIdeal [hRefGradHGateUpIdeal : Cert.RefGradHGateUpIdeal.Facts] : Prop :=
  ∀ (m : (ℓ : Loc Cert.RefGradHGateUpIdeal.nD Cert.RefGradHGateUpIdeal.τ Cert.RefGradHGateUpIdeal.sig) → Buf (Elt Ideal) ℓ) (g : Dev Cert.RefGradHGateUpIdeal.nD → PrngReg), Pre_RefGradHGateUpIdeal m →
    θ_run (Cert.RefGradHGateUpIdeal.defs (F := Ideal)) (onTc (τ := Cert.RefGradHGateUpIdeal.τ) (Cert.RefGradHGateUpIdeal.main (F := Ideal))) ⟨m, fun _ => 0, g⟩ (fun r => (∀ c : Dev Cert.RefGradHGateUpIdeal.nD,
      r.2.mem ((c.tc : Thread Cert.RefGradHGateUpIdeal.nD Cert.RefGradHGateUpIdeal.τ).loc Cert.RefGradHGateUpIdeal.main_arg0) = m ((c.tc : Thread Cert.RefGradHGateUpIdeal.nD Cert.RefGradHGateUpIdeal.τ).loc Cert.RefGradHGateUpIdeal.main_arg0)
      ∧ r.2.mem ((c.tc : Thread Cert.RefGradHGateUpIdeal.nD Cert.RefGradHGateUpIdeal.τ).loc Cert.RefGradHGateUpIdeal.main_arg1) = m ((c.tc : Thread Cert.RefGradHGateUpIdeal.nD Cert.RefGradHGateUpIdeal.τ).loc Cert.RefGradHGateUpIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_RefGateUpIdeal [hRefGateUpIdeal : Cert.RefGateUpIdeal.Facts] : Prop :=
  ∀ (m : (ℓ : Loc Cert.RefGateUpIdeal.nD Cert.RefGateUpIdeal.τ Cert.RefGateUpIdeal.sig) → Buf (Elt Ideal) ℓ) (g : Dev Cert.RefGateUpIdeal.nD → PrngReg), Pre_RefGateUpIdeal m →
    θ_run (Cert.RefGateUpIdeal.defs (F := Ideal)) (onTc (τ := Cert.RefGateUpIdeal.τ) (Cert.RefGateUpIdeal.main (F := Ideal))) ⟨m, fun _ => 0, g⟩ (fun r => (∀ c : Dev Cert.RefGateUpIdeal.nD,
      r.2.mem ((c.tc : Thread Cert.RefGateUpIdeal.nD Cert.RefGateUpIdeal.τ).loc Cert.RefGateUpIdeal.main_arg0) = m ((c.tc : Thread Cert.RefGateUpIdeal.nD Cert.RefGateUpIdeal.τ).loc Cert.RefGateUpIdeal.main_arg0)
      ∧ r.2.mem ((c.tc : Thread Cert.RefGateUpIdeal.nD Cert.RefGateUpIdeal.τ).loc Cert.RefGateUpIdeal.main_arg1) = m ((c.tc : Thread Cert.RefGateUpIdeal.nD Cert.RefGateUpIdeal.τ).loc Cert.RefGateUpIdeal.main_arg1))
      ∧ r.2.sem = fun _ => 0)

def quiescent_GradWDown [hGradWDown : Cert.GradWDown.Facts] : Prop :=
  ∀ (m : (ℓ : Loc Cert.GradWDown.nD Cert.GradWDown.τ Cert.GradWDown.sig) → Buf (Elt Bits) ℓ) (g : Dev Cert.GradWDown.nD → PrngReg), Pre_GradWDown m →
    θ_run (Cert.GradWDown.defs (F := Bits)) (onTc (τ := Cert.GradWDown.τ) (Cert.GradWDown.main (F := Bits))) ⟨m, fun _ => 0, g⟩ (fun r => (∀ c : Dev Cert.GradWDown.nD,
      r.2.mem ((c.tc : Thread Cert.GradWDown.nD Cert.GradWDown.τ).loc Cert.GradWDown.main_arg0) = m ((c.tc : Thread Cert.GradWDown.nD Cert.GradWDown.τ).loc Cert.GradWDown.main_arg0)
      ∧ r.2.mem ((c.tc : Thread Cert.GradWDown.nD Cert.GradWDown.τ).loc Cert.GradWDown.main_arg1) = m ((c.tc : Thread Cert.GradWDown.nD Cert.GradWDown.τ).loc Cert.GradWDown.main_arg1))
      ∧ r.2.sem = fun _ => 0)

def quiescent_GradWDownIdeal [hGradWDownIdeal : Cert.GradWDownIdeal.Facts] : Prop :=
  ∀ (m : (ℓ : Loc Cert.GradWDownIdeal.nD Cert.GradWDownIdeal.τ Cert.GradWDownIdeal.sig) → Buf (Elt Ideal) ℓ) (g : Dev Cert.GradWDownIdeal.nD → PrngReg), Pre_GradWDownIdeal m →
    θ_run (Cert.GradWDownIdeal.defs (F := Ideal)) (onTc (τ := Cert.GradWDownIdeal.τ) (Cert.GradWDownIdeal.main (F := Ideal))) ⟨m, fun _ => 0, g⟩ (fun r => (∀ c : Dev Cert.GradWDownIdeal.nD,
      r.2.mem ((c.tc : Thread Cert.GradWDownIdeal.nD Cert.GradWDownIdeal.τ).loc Cert.GradWDownIdeal.main_arg0) = m ((c.tc : Thread Cert.GradWDownIdeal.nD Cert.GradWDownIdeal.τ).loc Cert.GradWDownIdeal.main_arg0)
      ∧ r.2.mem ((c.tc : Thread Cert.GradWDownIdeal.nD Cert.GradWDownIdeal.τ).loc Cert.GradWDownIdeal.main_arg1) = m ((c.tc : Thread Cert.GradWDownIdeal.nD Cert.GradWDownIdeal.τ).loc Cert.GradWDownIdeal.main_arg1))
      ∧ r.2.sem = fun _ => 0)

def quiescent_RefGradWDownIdeal [hRefGradWDownIdeal : Cert.RefGradWDownIdeal.Facts] : Prop :=
  ∀ (m : (ℓ : Loc Cert.RefGradWDownIdeal.nD Cert.RefGradWDownIdeal.τ Cert.RefGradWDownIdeal.sig) → Buf (Elt Ideal) ℓ) (g : Dev Cert.RefGradWDownIdeal.nD → PrngReg), Pre_RefGradWDownIdeal m →
    θ_run (Cert.RefGradWDownIdeal.defs (F := Ideal)) (onTc (τ := Cert.RefGradWDownIdeal.τ) (Cert.RefGradWDownIdeal.main (F := Ideal))) ⟨m, fun _ => 0, g⟩ (fun r => (∀ c : Dev Cert.RefGradWDownIdeal.nD,
      r.2.mem ((c.tc : Thread Cert.RefGradWDownIdeal.nD Cert.RefGradWDownIdeal.τ).loc Cert.RefGradWDownIdeal.main_arg0) = m ((c.tc : Thread Cert.RefGradWDownIdeal.nD Cert.RefGradWDownIdeal.τ).loc Cert.RefGradWDownIdeal.main_arg0)
      ∧ r.2.mem ((c.tc : Thread Cert.RefGradWDownIdeal.nD Cert.RefGradWDownIdeal.τ).loc Cert.RefGradWDownIdeal.main_arg1) = m ((c.tc : Thread Cert.RefGradWDownIdeal.nD Cert.RefGradWDownIdeal.τ).loc Cert.RefGradWDownIdeal.main_arg1))
      ∧ r.2.sem = fun _ => 0)

def quiescent_GradHDown [hGradHDown : Cert.GradHDown.Facts] : Prop :=
  ∀ (m : (ℓ : Loc Cert.GradHDown.nD Cert.GradHDown.τ Cert.GradHDown.sig) → Buf (Elt Bits) ℓ) (g : Dev Cert.GradHDown.nD → PrngReg), Pre_GradHDown m →
    θ_run (Cert.GradHDown.defs (F := Bits)) (onTc (τ := Cert.GradHDown.τ) (Cert.GradHDown.main (F := Bits))) ⟨m, fun _ => 0, g⟩ (fun r => (∀ c : Dev Cert.GradHDown.nD,
      r.2.mem ((c.tc : Thread Cert.GradHDown.nD Cert.GradHDown.τ).loc Cert.GradHDown.main_arg0) = m ((c.tc : Thread Cert.GradHDown.nD Cert.GradHDown.τ).loc Cert.GradHDown.main_arg0)
      ∧ r.2.mem ((c.tc : Thread Cert.GradHDown.nD Cert.GradHDown.τ).loc Cert.GradHDown.main_arg1) = m ((c.tc : Thread Cert.GradHDown.nD Cert.GradHDown.τ).loc Cert.GradHDown.main_arg1))
      ∧ r.2.sem = fun _ => 0)

def quiescent_GradHDownIdeal [hGradHDownIdeal : Cert.GradHDownIdeal.Facts] : Prop :=
  ∀ (m : (ℓ : Loc Cert.GradHDownIdeal.nD Cert.GradHDownIdeal.τ Cert.GradHDownIdeal.sig) → Buf (Elt Ideal) ℓ) (g : Dev Cert.GradHDownIdeal.nD → PrngReg), Pre_GradHDownIdeal m →
    θ_run (Cert.GradHDownIdeal.defs (F := Ideal)) (onTc (τ := Cert.GradHDownIdeal.τ) (Cert.GradHDownIdeal.main (F := Ideal))) ⟨m, fun _ => 0, g⟩ (fun r => (∀ c : Dev Cert.GradHDownIdeal.nD,
      r.2.mem ((c.tc : Thread Cert.GradHDownIdeal.nD Cert.GradHDownIdeal.τ).loc Cert.GradHDownIdeal.main_arg0) = m ((c.tc : Thread Cert.GradHDownIdeal.nD Cert.GradHDownIdeal.τ).loc Cert.GradHDownIdeal.main_arg0)
      ∧ r.2.mem ((c.tc : Thread Cert.GradHDownIdeal.nD Cert.GradHDownIdeal.τ).loc Cert.GradHDownIdeal.main_arg1) = m ((c.tc : Thread Cert.GradHDownIdeal.nD Cert.GradHDownIdeal.τ).loc Cert.GradHDownIdeal.main_arg1))
      ∧ r.2.sem = fun _ => 0)

def quiescent_RefGradHDownIdeal [hRefGradHDownIdeal : Cert.RefGradHDownIdeal.Facts] : Prop :=
  ∀ (m : (ℓ : Loc Cert.RefGradHDownIdeal.nD Cert.RefGradHDownIdeal.τ Cert.RefGradHDownIdeal.sig) → Buf (Elt Ideal) ℓ) (g : Dev Cert.RefGradHDownIdeal.nD → PrngReg), Pre_RefGradHDownIdeal m →
    θ_run (Cert.RefGradHDownIdeal.defs (F := Ideal)) (onTc (τ := Cert.RefGradHDownIdeal.τ) (Cert.RefGradHDownIdeal.main (F := Ideal))) ⟨m, fun _ => 0, g⟩ (fun r => (∀ c : Dev Cert.RefGradHDownIdeal.nD,
      r.2.mem ((c.tc : Thread Cert.RefGradHDownIdeal.nD Cert.RefGradHDownIdeal.τ).loc Cert.RefGradHDownIdeal.main_arg0) = m ((c.tc : Thread Cert.RefGradHDownIdeal.nD Cert.RefGradHDownIdeal.τ).loc Cert.RefGradHDownIdeal.main_arg0)
      ∧ r.2.mem ((c.tc : Thread Cert.RefGradHDownIdeal.nD Cert.RefGradHDownIdeal.τ).loc Cert.RefGradHDownIdeal.main_arg1) = m ((c.tc : Thread Cert.RefGradHDownIdeal.nD Cert.RefGradHDownIdeal.τ).loc Cert.RefGradHDownIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1))
      ∧ r.2.sem = fun _ => 0)

def quiescent_ProjZ [hProjZ : Cert.ProjZ.Facts] : Prop :=
  ∀ (m : (ℓ : Loc Cert.ProjZ.nD Cert.ProjZ.τ Cert.ProjZ.sig) → Buf (Elt Bits) ℓ) (g : Dev Cert.ProjZ.nD → PrngReg), Pre_ProjZ m →
    θ_run (Cert.ProjZ.defs (F := Bits)) (onTc (τ := Cert.ProjZ.τ) (Cert.ProjZ.main (F := Bits))) ⟨m, fun _ => 0, g⟩ (fun r => (∀ c : Dev Cert.ProjZ.nD,
      r.2.mem ((c.tc : Thread Cert.ProjZ.nD Cert.ProjZ.τ).loc Cert.ProjZ.main_arg0) = m ((c.tc : Thread Cert.ProjZ.nD Cert.ProjZ.τ).loc Cert.ProjZ.main_arg0)
      ∧ r.2.mem ((c.tc : Thread Cert.ProjZ.nD Cert.ProjZ.τ).loc Cert.ProjZ.main_arg1) = m ((c.tc : Thread Cert.ProjZ.nD Cert.ProjZ.τ).loc Cert.ProjZ.main_arg1))
      ∧ r.2.sem = fun _ => 0)

def quiescent_ProjZIdeal [hProjZIdeal : Cert.ProjZIdeal.Facts] : Prop :=
  ∀ (m : (ℓ : Loc Cert.ProjZIdeal.nD Cert.ProjZIdeal.τ Cert.ProjZIdeal.sig) → Buf (Elt Ideal) ℓ) (g : Dev Cert.ProjZIdeal.nD → PrngReg), Pre_ProjZIdeal m →
    θ_run (Cert.ProjZIdeal.defs (F := Ideal)) (onTc (τ := Cert.ProjZIdeal.τ) (Cert.ProjZIdeal.main (F := Ideal))) ⟨m, fun _ => 0, g⟩ (fun r => (∀ c : Dev Cert.ProjZIdeal.nD,
      r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
      ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ r.2.sem = fun _ => 0)

def quiescent_RefProjZIdeal [hRefProjZIdeal : Cert.RefProjZIdeal.Facts] : Prop :=
  ∀ (m : (ℓ : Loc Cert.RefProjZIdeal.nD Cert.RefProjZIdeal.τ Cert.RefProjZIdeal.sig) → Buf (Elt Ideal) ℓ) (g : Dev Cert.RefProjZIdeal.nD → PrngReg), Pre_RefProjZIdeal m →
    θ_run (Cert.RefProjZIdeal.defs (F := Ideal)) (onTc (τ := Cert.RefProjZIdeal.τ) (Cert.RefProjZIdeal.main (F := Ideal))) ⟨m, fun _ => 0, g⟩ (fun r => (∀ c : Dev Cert.RefProjZIdeal.nD,
      r.2.mem ((c.tc : Thread Cert.RefProjZIdeal.nD Cert.RefProjZIdeal.τ).loc Cert.RefProjZIdeal.main_arg0) = m ((c.tc : Thread Cert.RefProjZIdeal.nD Cert.RefProjZIdeal.τ).loc Cert.RefProjZIdeal.main_arg0)
      ∧ r.2.mem ((c.tc : Thread Cert.RefProjZIdeal.nD Cert.RefProjZIdeal.τ).loc Cert.RefProjZIdeal.main_arg1) = m ((c.tc : Thread Cert.RefProjZIdeal.nD Cert.RefProjZIdeal.τ).loc Cert.RefProjZIdeal.main_arg1))
      ∧ r.2.sem = fun _ => 0)

def quiescent_ProjXbc [hProjXbc : Cert.ProjXbc.Facts] : Prop :=
  ∀ (m : (ℓ : Loc Cert.ProjXbc.nD Cert.ProjXbc.τ Cert.ProjXbc.sig) → Buf (Elt Bits) ℓ) (g : Dev Cert.ProjXbc.nD → PrngReg), Pre_ProjXbc m →
    θ_run (Cert.ProjXbc.defs (F := Bits)) (onTc (τ := Cert.ProjXbc.τ) (Cert.ProjXbc.main (F := Bits))) ⟨m, fun _ => 0, g⟩ (fun r => (∀ c : Dev Cert.ProjXbc.nD,
      r.2.mem ((c.tc : Thread Cert.ProjXbc.nD Cert.ProjXbc.τ).loc Cert.ProjXbc.main_arg0) = m ((c.tc : Thread Cert.ProjXbc.nD Cert.ProjXbc.τ).loc Cert.ProjXbc.main_arg0)
      ∧ r.2.mem ((c.tc : Thread Cert.ProjXbc.nD Cert.ProjXbc.τ).loc Cert.ProjXbc.main_arg1) = m ((c.tc : Thread Cert.ProjXbc.nD Cert.ProjXbc.τ).loc Cert.ProjXbc.main_arg1))
      ∧ r.2.sem = fun _ => 0)

def quiescent_ProjXbcIdeal [hProjXbcIdeal : Cert.ProjXbcIdeal.Facts] : Prop :=
  ∀ (m : (ℓ : Loc Cert.ProjXbcIdeal.nD Cert.ProjXbcIdeal.τ Cert.ProjXbcIdeal.sig) → Buf (Elt Ideal) ℓ) (g : Dev Cert.ProjXbcIdeal.nD → PrngReg), Pre_ProjXbcIdeal m →
    θ_run (Cert.ProjXbcIdeal.defs (F := Ideal)) (onTc (τ := Cert.ProjXbcIdeal.τ) (Cert.ProjXbcIdeal.main (F := Ideal))) ⟨m, fun _ => 0, g⟩ (fun r => (∀ c : Dev Cert.ProjXbcIdeal.nD,
      r.2.mem ((c.tc : Thread Cert.ProjXbcIdeal.nD Cert.ProjXbcIdeal.τ).loc Cert.ProjXbcIdeal.main_arg0) = m ((c.tc : Thread Cert.ProjXbcIdeal.nD Cert.ProjXbcIdeal.τ).loc Cert.ProjXbcIdeal.main_arg0)
      ∧ r.2.mem ((c.tc : Thread Cert.ProjXbcIdeal.nD Cert.ProjXbcIdeal.τ).loc Cert.ProjXbcIdeal.main_arg1) = m ((c.tc : Thread Cert.ProjXbcIdeal.nD Cert.ProjXbcIdeal.τ).loc Cert.ProjXbcIdeal.main_arg1))
      ∧ r.2.sem = fun _ => 0)

def quiescent_RefProjXbcIdeal [hRefProjXbcIdeal : Cert.RefProjXbcIdeal.Facts] : Prop :=
  ∀ (m : (ℓ : Loc Cert.RefProjXbcIdeal.nD Cert.RefProjXbcIdeal.τ Cert.RefProjXbcIdeal.sig) → Buf (Elt Ideal) ℓ) (g : Dev Cert.RefProjXbcIdeal.nD → PrngReg), Pre_RefProjXbcIdeal m →
    θ_run (Cert.RefProjXbcIdeal.defs (F := Ideal)) (onTc (τ := Cert.RefProjXbcIdeal.τ) (Cert.RefProjXbcIdeal.main (F := Ideal))) ⟨m, fun _ => 0, g⟩ (fun r => (∀ c : Dev Cert.RefProjXbcIdeal.nD,
      r.2.mem ((c.tc : Thread Cert.RefProjXbcIdeal.nD Cert.RefProjXbcIdeal.τ).loc Cert.RefProjXbcIdeal.main_arg0) = m ((c.tc : Thread Cert.RefProjXbcIdeal.nD Cert.RefProjXbcIdeal.τ).loc Cert.RefProjXbcIdeal.main_arg0)
      ∧ r.2.mem ((c.tc : Thread Cert.RefProjXbcIdeal.nD Cert.RefProjXbcIdeal.τ).loc Cert.RefProjXbcIdeal.main_arg1) = m ((c.tc : Thread Cert.RefProjXbcIdeal.nD Cert.RefProjXbcIdeal.τ).loc Cert.RefProjXbcIdeal.main_arg1))
      ∧ r.2.sem = fun _ => 0)

def quiescent_ProjGlu [hProjGlu : Cert.ProjGlu.Facts] : Prop :=
  ∀ (m : (ℓ : Loc Cert.ProjGlu.nD Cert.ProjGlu.τ Cert.ProjGlu.sig) → Buf (Elt Bits) ℓ) (g : Dev Cert.ProjGlu.nD → PrngReg), Pre_ProjGlu m →
    θ_run (Cert.ProjGlu.defs (F := Bits)) (onTc (τ := Cert.ProjGlu.τ) (Cert.ProjGlu.main (F := Bits))) ⟨m, fun _ => 0, g⟩ (fun r => (∀ c : Dev Cert.ProjGlu.nD,
      r.2.mem ((c.tc : Thread Cert.ProjGlu.nD Cert.ProjGlu.τ).loc Cert.ProjGlu.main_arg0) = m ((c.tc : Thread Cert.ProjGlu.nD Cert.ProjGlu.τ).loc Cert.ProjGlu.main_arg0)
      ∧ r.2.mem ((c.tc : Thread Cert.ProjGlu.nD Cert.ProjGlu.τ).loc Cert.ProjGlu.main_arg1) = m ((c.tc : Thread Cert.ProjGlu.nD Cert.ProjGlu.τ).loc Cert.ProjGlu.main_arg1))
      ∧ r.2.sem = fun _ => 0)

def quiescent_ProjGluIdeal [hProjGluIdeal : Cert.ProjGluIdeal.Facts] : Prop :=
  ∀ (m : (ℓ : Loc Cert.ProjGluIdeal.nD Cert.ProjGluIdeal.τ Cert.ProjGluIdeal.sig) → Buf (Elt Ideal) ℓ) (g : Dev Cert.ProjGluIdeal.nD → PrngReg), Pre_ProjGluIdeal m →
    θ_run (Cert.ProjGluIdeal.defs (F := Ideal)) (onTc (τ := Cert.ProjGluIdeal.τ) (Cert.ProjGluIdeal.main (F := Ideal))) ⟨m, fun _ => 0, g⟩ (fun r => (∀ c : Dev Cert.ProjGluIdeal.nD,
      r.2.mem ((c.tc : Thread Cert.ProjGluIdeal.nD Cert.ProjGluIdeal.τ).loc Cert.ProjGluIdeal.main_arg0) = m ((c.tc : Thread Cert.ProjGluIdeal.nD Cert.ProjGluIdeal.τ).loc Cert.ProjGluIdeal.main_arg0)
      ∧ r.2.mem ((c.tc : Thread Cert.ProjGluIdeal.nD Cert.ProjGluIdeal.τ).loc Cert.ProjGluIdeal.main_arg1) = m ((c.tc : Thread Cert.ProjGluIdeal.nD Cert.ProjGluIdeal.τ).loc Cert.ProjGluIdeal.main_arg1))
      ∧ r.2.sem = fun _ => 0)

def quiescent_RefProjGluIdeal [hRefProjGluIdeal : Cert.RefProjGluIdeal.Facts] : Prop :=
  ∀ (m : (ℓ : Loc Cert.RefProjGluIdeal.nD Cert.RefProjGluIdeal.τ Cert.RefProjGluIdeal.sig) → Buf (Elt Ideal) ℓ) (g : Dev Cert.RefProjGluIdeal.nD → PrngReg), Pre_RefProjGluIdeal m →
    θ_run (Cert.RefProjGluIdeal.defs (F := Ideal)) (onTc (τ := Cert.RefProjGluIdeal.τ) (Cert.RefProjGluIdeal.main (F := Ideal))) ⟨m, fun _ => 0, g⟩ (fun r => (∀ c : Dev Cert.RefProjGluIdeal.nD,
      r.2.mem ((c.tc : Thread Cert.RefProjGluIdeal.nD Cert.RefProjGluIdeal.τ).loc Cert.RefProjGluIdeal.main_arg0) = m ((c.tc : Thread Cert.RefProjGluIdeal.nD Cert.RefProjGluIdeal.τ).loc Cert.RefProjGluIdeal.main_arg0)
      ∧ r.2.mem ((c.tc : Thread Cert.RefProjGluIdeal.nD Cert.RefProjGluIdeal.τ).loc Cert.RefProjGluIdeal.main_arg1) = m ((c.tc : Thread Cert.RefProjGluIdeal.nD Cert.RefProjGluIdeal.τ).loc Cert.RefProjGluIdeal.main_arg1))
      ∧ r.2.sem = fun _ => 0)

def quiescent_ProjGate [hProjGate : Cert.ProjGate.Facts] : Prop :=
  ∀ (m : (ℓ : Loc Cert.ProjGate.nD Cert.ProjGate.τ Cert.ProjGate.sig) → Buf (Elt Bits) ℓ) (g : Dev Cert.ProjGate.nD → PrngReg), Pre_ProjGate m →
    θ_run (Cert.ProjGate.defs (F := Bits)) (onTc (τ := Cert.ProjGate.τ) (Cert.ProjGate.main (F := Bits))) ⟨m, fun _ => 0, g⟩ (fun r => (∀ c : Dev Cert.ProjGate.nD,
      r.2.mem ((c.tc : Thread Cert.ProjGate.nD Cert.ProjGate.τ).loc Cert.ProjGate.main_arg0) = m ((c.tc : Thread Cert.ProjGate.nD Cert.ProjGate.τ).loc Cert.ProjGate.main_arg0)
      ∧ r.2.mem ((c.tc : Thread Cert.ProjGate.nD Cert.ProjGate.τ).loc Cert.ProjGate.main_arg1) = m ((c.tc : Thread Cert.ProjGate.nD Cert.ProjGate.τ).loc Cert.ProjGate.main_arg1))
      ∧ r.2.sem = fun _ => 0)

def quiescent_ProjGateIdeal [hProjGateIdeal : Cert.ProjGateIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg), Pre_ProjGateIdeal m →
    θ_run (Cert.ProjGateIdeal.defs (F := Ideal)) (onTc (τ := Cert.ProjGateIdeal.τ) (Cert.ProjGateIdeal.main (F := Ideal))) ⟨m, fun _ => 0, g⟩ (fun r => (∀ c : Dev Cert.ProjGateIdeal.nD,
      r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
      ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ r.2.sem = fun _ => 0)

def quiescent_RefProjGateIdeal [hRefProjGateIdeal : Cert.RefProjGateIdeal.Facts] : Prop :=
  ∀ (m : (ℓ : Loc Cert.RefProjGateIdeal.nD Cert.RefProjGateIdeal.τ Cert.RefProjGateIdeal.sig) → Buf (Elt Ideal) ℓ) (g : Dev Cert.RefProjGateIdeal.nD → PrngReg), Pre_RefProjGateIdeal m →
    θ_run (Cert.RefProjGateIdeal.defs (F := Ideal)) (onTc (τ := Cert.RefProjGateIdeal.τ) (Cert.RefProjGateIdeal.main (F := Ideal))) ⟨m, fun _ => 0, g⟩ (fun r => (∀ c : Dev Cert.RefProjGateIdeal.nD,
      r.2.mem ((c.tc : Thread Cert.RefProjGateIdeal.nD Cert.RefProjGateIdeal.τ).loc Cert.RefProjGateIdeal.main_arg0) = m ((c.tc : Thread Cert.RefProjGateIdeal.nD Cert.RefProjGateIdeal.τ).loc Cert.RefProjGateIdeal.main_arg0)
      ∧ r.2.mem ((c.tc : Thread Cert.RefProjGateIdeal.nD Cert.RefProjGateIdeal.τ).loc Cert.RefProjGateIdeal.main_arg1) = m ((c.tc : Thread Cert.RefProjGateIdeal.nD Cert.RefProjGateIdeal.τ).loc Cert.RefProjGateIdeal.main_arg1))
      ∧ r.2.sem = fun _ => 0)

def quiescent_GradWSsmOut [hGradWSsmOut : Cert.GradWSsmOut.Facts] : Prop :=
  ∀ (m : (ℓ : Loc Cert.GradWSsmOut.nD Cert.GradWSsmOut.τ Cert.GradWSsmOut.sig) → Buf (Elt Bits) ℓ) (g : Dev Cert.GradWSsmOut.nD → PrngReg), Pre_GradWSsmOut m →
    θ_run (Cert.GradWSsmOut.defs (F := Bits)) (onTc (τ := Cert.GradWSsmOut.τ) (Cert.GradWSsmOut.main (F := Bits))) ⟨m, fun _ => 0, g⟩ (fun r => (∀ c : Dev Cert.GradWSsmOut.nD,
      r.2.mem ((c.tc : Thread Cert.GradWSsmOut.nD Cert.GradWSsmOut.τ).loc Cert.GradWSsmOut.main_arg0) = m ((c.tc : Thread Cert.GradWSsmOut.nD Cert.GradWSsmOut.τ).loc Cert.GradWSsmOut.main_arg0)
      ∧ r.2.mem ((c.tc : Thread Cert.GradWSsmOut.nD Cert.GradWSsmOut.τ).loc Cert.GradWSsmOut.main_arg1) = m ((c.tc : Thread Cert.GradWSsmOut.nD Cert.GradWSsmOut.τ).loc Cert.GradWSsmOut.main_arg1))
      ∧ r.2.sem = fun _ => 0)

def quiescent_GradWSsmOutIdeal [hGradWSsmOutIdeal : Cert.GradWSsmOutIdeal.Facts] : Prop :=
  ∀ (m : (ℓ : Loc Cert.GradWSsmOutIdeal.nD Cert.GradWSsmOutIdeal.τ Cert.GradWSsmOutIdeal.sig) → Buf (Elt Ideal) ℓ) (g : Dev Cert.GradWSsmOutIdeal.nD → PrngReg), Pre_GradWSsmOutIdeal m →
    θ_run (Cert.GradWSsmOutIdeal.defs (F := Ideal)) (onTc (τ := Cert.GradWSsmOutIdeal.τ) (Cert.GradWSsmOutIdeal.main (F := Ideal))) ⟨m, fun _ => 0, g⟩ (fun r => (∀ c : Dev Cert.GradWSsmOutIdeal.nD,
      r.2.mem ((c.tc : Thread Cert.GradWSsmOutIdeal.nD Cert.GradWSsmOutIdeal.τ).loc Cert.GradWSsmOutIdeal.main_arg0) = m ((c.tc : Thread Cert.GradWSsmOutIdeal.nD Cert.GradWSsmOutIdeal.τ).loc Cert.GradWSsmOutIdeal.main_arg0)
      ∧ r.2.mem ((c.tc : Thread Cert.GradWSsmOutIdeal.nD Cert.GradWSsmOutIdeal.τ).loc Cert.GradWSsmOutIdeal.main_arg1) = m ((c.tc : Thread Cert.GradWSsmOutIdeal.nD Cert.GradWSsmOutIdeal.τ).loc Cert.GradWSsmOutIdeal.main_arg1))
      ∧ r.2.sem = fun _ => 0)

def quiescent_RefGradWSsmOutIdeal [hRefGradWSsmOutIdeal : Cert.RefGradWSsmOutIdeal.Facts] : Prop :=
  ∀ (m : (ℓ : Loc Cert.RefGradWSsmOutIdeal.nD Cert.RefGradWSsmOutIdeal.τ Cert.RefGradWSsmOutIdeal.sig) → Buf (Elt Ideal) ℓ) (g : Dev Cert.RefGradWSsmOutIdeal.nD → PrngReg), Pre_RefGradWSsmOutIdeal m →
    θ_run (Cert.RefGradWSsmOutIdeal.defs (F := Ideal)) (onTc (τ := Cert.RefGradWSsmOutIdeal.τ) (Cert.RefGradWSsmOutIdeal.main (F := Ideal))) ⟨m, fun _ => 0, g⟩ (fun r => (∀ c : Dev Cert.RefGradWSsmOutIdeal.nD,
      r.2.mem ((c.tc : Thread Cert.RefGradWSsmOutIdeal.nD Cert.RefGradWSsmOutIdeal.τ).loc Cert.RefGradWSsmOutIdeal.main_arg0) = m ((c.tc : Thread Cert.RefGradWSsmOutIdeal.nD Cert.RefGradWSsmOutIdeal.τ).loc Cert.RefGradWSsmOutIdeal.main_arg0)
      ∧ r.2.mem ((c.tc : Thread Cert.RefGradWSsmOutIdeal.nD Cert.RefGradWSsmOutIdeal.τ).loc Cert.RefGradWSsmOutIdeal.main_arg1) = m ((c.tc : Thread Cert.RefGradWSsmOutIdeal.nD Cert.RefGradWSsmOutIdeal.τ).loc Cert.RefGradWSsmOutIdeal.main_arg1))
      ∧ r.2.sem = fun _ => 0)

def quiescent_GradHSsmOut [hGradHSsmOut : Cert.GradHSsmOut.Facts] : Prop :=
  ∀ (m : (ℓ : Loc Cert.GradHSsmOut.nD Cert.GradHSsmOut.τ Cert.GradHSsmOut.sig) → Buf (Elt Bits) ℓ) (g : Dev Cert.GradHSsmOut.nD → PrngReg), Pre_GradHSsmOut m →
    θ_run (Cert.GradHSsmOut.defs (F := Bits)) (onTc (τ := Cert.GradHSsmOut.τ) (Cert.GradHSsmOut.main (F := Bits))) ⟨m, fun _ => 0, g⟩ (fun r => (∀ c : Dev Cert.GradHSsmOut.nD,
      r.2.mem ((c.tc : Thread Cert.GradHSsmOut.nD Cert.GradHSsmOut.τ).loc Cert.GradHSsmOut.main_arg0) = m ((c.tc : Thread Cert.GradHSsmOut.nD Cert.GradHSsmOut.τ).loc Cert.GradHSsmOut.main_arg0)
      ∧ r.2.mem ((c.tc : Thread Cert.GradHSsmOut.nD Cert.GradHSsmOut.τ).loc Cert.GradHSsmOut.main_arg1) = m ((c.tc : Thread Cert.GradHSsmOut.nD Cert.GradHSsmOut.τ).loc Cert.GradHSsmOut.main_arg1))
      ∧ r.2.sem = fun _ => 0)

def quiescent_GradHSsmOutIdeal [hGradHSsmOutIdeal : Cert.GradHSsmOutIdeal.Facts] : Prop :=
  ∀ (m : (ℓ : Loc Cert.GradHSsmOutIdeal.nD Cert.GradHSsmOutIdeal.τ Cert.GradHSsmOutIdeal.sig) → Buf (Elt Ideal) ℓ) (g : Dev Cert.GradHSsmOutIdeal.nD → PrngReg), Pre_GradHSsmOutIdeal m →
    θ_run (Cert.GradHSsmOutIdeal.defs (F := Ideal)) (onTc (τ := Cert.GradHSsmOutIdeal.τ) (Cert.GradHSsmOutIdeal.main (F := Ideal))) ⟨m, fun _ => 0, g⟩ (fun r => (∀ c : Dev Cert.GradHSsmOutIdeal.nD,
      r.2.mem ((c.tc : Thread Cert.GradHSsmOutIdeal.nD Cert.GradHSsmOutIdeal.τ).loc Cert.GradHSsmOutIdeal.main_arg0) = m ((c.tc : Thread Cert.GradHSsmOutIdeal.nD Cert.GradHSsmOutIdeal.τ).loc Cert.GradHSsmOutIdeal.main_arg0)
      ∧ r.2.mem ((c.tc : Thread Cert.GradHSsmOutIdeal.nD Cert.GradHSsmOutIdeal.τ).loc Cert.GradHSsmOutIdeal.main_arg1) = m ((c.tc : Thread Cert.GradHSsmOutIdeal.nD Cert.GradHSsmOutIdeal.τ).loc Cert.GradHSsmOutIdeal.main_arg1))
      ∧ r.2.sem = fun _ => 0)

def quiescent_RefGradHSsmOutIdeal [hRefGradHSsmOutIdeal : Cert.RefGradHSsmOutIdeal.Facts] : Prop :=
  ∀ (m : (ℓ : Loc Cert.RefGradHSsmOutIdeal.nD Cert.RefGradHSsmOutIdeal.τ Cert.RefGradHSsmOutIdeal.sig) → Buf (Elt Ideal) ℓ) (g : Dev Cert.RefGradHSsmOutIdeal.nD → PrngReg), Pre_RefGradHSsmOutIdeal m →
    θ_run (Cert.RefGradHSsmOutIdeal.defs (F := Ideal)) (onTc (τ := Cert.RefGradHSsmOutIdeal.τ) (Cert.RefGradHSsmOutIdeal.main (F := Ideal))) ⟨m, fun _ => 0, g⟩ (fun r => (∀ c : Dev Cert.RefGradHSsmOutIdeal.nD,
      r.2.mem ((c.tc : Thread Cert.RefGradHSsmOutIdeal.nD Cert.RefGradHSsmOutIdeal.τ).loc Cert.RefGradHSsmOutIdeal.main_arg0) = m ((c.tc : Thread Cert.RefGradHSsmOutIdeal.nD Cert.RefGradHSsmOutIdeal.τ).loc Cert.RefGradHSsmOutIdeal.main_arg0)
      ∧ r.2.mem ((c.tc : Thread Cert.RefGradHSsmOutIdeal.nD Cert.RefGradHSsmOutIdeal.τ).loc Cert.RefGradHSsmOutIdeal.main_arg1) = m ((c.tc : Thread Cert.RefGradHSsmOutIdeal.nD Cert.RefGradHSsmOutIdeal.τ).loc Cert.RefGradHSsmOutIdeal.main_arg1))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1))
      ∧ r.2.sem = fun _ => 0)

def quiescent_RefSsmOutIdeal [hRefSsmOutIdeal : Cert.RefSsmOutIdeal.Facts] : Prop :=
  ∀ (m : (ℓ : Loc Cert.RefSsmOutIdeal.nD Cert.RefSsmOutIdeal.τ Cert.RefSsmOutIdeal.sig) → Buf (Elt Ideal) ℓ) (g : Dev Cert.RefSsmOutIdeal.nD → PrngReg), Pre_RefSsmOutIdeal m →
    θ_run (Cert.RefSsmOutIdeal.defs (F := Ideal)) (onTc (τ := Cert.RefSsmOutIdeal.τ) (Cert.RefSsmOutIdeal.main (F := Ideal))) ⟨m, fun _ => 0, g⟩ (fun r => (∀ c : Dev Cert.RefSsmOutIdeal.nD,
      r.2.mem ((c.tc : Thread Cert.RefSsmOutIdeal.nD Cert.RefSsmOutIdeal.τ).loc Cert.RefSsmOutIdeal.main_arg0) = m ((c.tc : Thread Cert.RefSsmOutIdeal.nD Cert.RefSsmOutIdeal.τ).loc Cert.RefSsmOutIdeal.main_arg0)
      ∧ r.2.mem ((c.tc : Thread Cert.RefSsmOutIdeal.nD Cert.RefSsmOutIdeal.τ).loc Cert.RefSsmOutIdeal.main_arg1) = m ((c.tc : Thread Cert.RefSsmOutIdeal.nD Cert.RefSsmOutIdeal.τ).loc Cert.RefSsmOutIdeal.main_arg1))
      ∧ r.2.sem = fun _ => 0)

def quiescent_GradWMixOut [hGradWMixOut : Cert.GradWMixOut.Facts] : Prop :=
  ∀ (m : (ℓ : Loc Cert.GradWMixOut.nD Cert.GradWMixOut.τ Cert.GradWMixOut.sig) → Buf (Elt Bits) ℓ) (g : Dev Cert.GradWMixOut.nD → PrngReg), Pre_GradWMixOut m →
    θ_run (Cert.GradWMixOut.defs (F := Bits)) (onTc (τ := Cert.GradWMixOut.τ) (Cert.GradWMixOut.main (F := Bits))) ⟨m, fun _ => 0, g⟩ (fun r => (∀ c : Dev Cert.GradWMixOut.nD,
      r.2.mem ((c.tc : Thread Cert.GradWMixOut.nD Cert.GradWMixOut.τ).loc Cert.GradWMixOut.main_arg0) = m ((c.tc : Thread Cert.GradWMixOut.nD Cert.GradWMixOut.τ).loc Cert.GradWMixOut.main_arg0)
      ∧ r.2.mem ((c.tc : Thread Cert.GradWMixOut.nD Cert.GradWMixOut.τ).loc Cert.GradWMixOut.main_arg1) = m ((c.tc : Thread Cert.GradWMixOut.nD Cert.GradWMixOut.τ).loc Cert.GradWMixOut.main_arg1))
      ∧ r.2.sem = fun _ => 0)

def quiescent_GradWMixOutIdeal [hGradWMixOutIdeal : Cert.GradWMixOutIdeal.Facts] : Prop :=
  ∀ (m : (ℓ : Loc Cert.GradWMixOutIdeal.nD Cert.GradWMixOutIdeal.τ Cert.GradWMixOutIdeal.sig) → Buf (Elt Ideal) ℓ) (g : Dev Cert.GradWMixOutIdeal.nD → PrngReg), Pre_GradWMixOutIdeal m →
    θ_run (Cert.GradWMixOutIdeal.defs (F := Ideal)) (onTc (τ := Cert.GradWMixOutIdeal.τ) (Cert.GradWMixOutIdeal.main (F := Ideal))) ⟨m, fun _ => 0, g⟩ (fun r => (∀ c : Dev Cert.GradWMixOutIdeal.nD,
      r.2.mem ((c.tc : Thread Cert.GradWMixOutIdeal.nD Cert.GradWMixOutIdeal.τ).loc Cert.GradWMixOutIdeal.main_arg0) = m ((c.tc : Thread Cert.GradWMixOutIdeal.nD Cert.GradWMixOutIdeal.τ).loc Cert.GradWMixOutIdeal.main_arg0)
      ∧ r.2.mem ((c.tc : Thread Cert.GradWMixOutIdeal.nD Cert.GradWMixOutIdeal.τ).loc Cert.GradWMixOutIdeal.main_arg1) = m ((c.tc : Thread Cert.GradWMixOutIdeal.nD Cert.GradWMixOutIdeal.τ).loc Cert.GradWMixOutIdeal.main_arg1))
      ∧ r.2.sem = fun _ => 0)

def quiescent_RefGradWMixOutIdeal [hRefGradWMixOutIdeal : Cert.RefGradWMixOutIdeal.Facts] : Prop :=
  ∀ (m : (ℓ : Loc Cert.RefGradWMixOutIdeal.nD Cert.RefGradWMixOutIdeal.τ Cert.RefGradWMixOutIdeal.sig) → Buf (Elt Ideal) ℓ) (g : Dev Cert.RefGradWMixOutIdeal.nD → PrngReg), Pre_RefGradWMixOutIdeal m →
    θ_run (Cert.RefGradWMixOutIdeal.defs (F := Ideal)) (onTc (τ := Cert.RefGradWMixOutIdeal.τ) (Cert.RefGradWMixOutIdeal.main (F := Ideal))) ⟨m, fun _ => 0, g⟩ (fun r => (∀ c : Dev Cert.RefGradWMixOutIdeal.nD,
      r.2.mem ((c.tc : Thread Cert.RefGradWMixOutIdeal.nD Cert.RefGradWMixOutIdeal.τ).loc Cert.RefGradWMixOutIdeal.main_arg0) = m ((c.tc : Thread Cert.RefGradWMixOutIdeal.nD Cert.RefGradWMixOutIdeal.τ).loc Cert.RefGradWMixOutIdeal.main_arg0)
      ∧ r.2.mem ((c.tc : Thread Cert.RefGradWMixOutIdeal.nD Cert.RefGradWMixOutIdeal.τ).loc Cert.RefGradWMixOutIdeal.main_arg1) = m ((c.tc : Thread Cert.RefGradWMixOutIdeal.nD Cert.RefGradWMixOutIdeal.τ).loc Cert.RefGradWMixOutIdeal.main_arg1))
      ∧ r.2.sem = fun _ => 0)

def quiescent_GradHMixOut [hGradHMixOut : Cert.GradHMixOut.Facts] : Prop :=
  ∀ (m : (ℓ : Loc Cert.GradHMixOut.nD Cert.GradHMixOut.τ Cert.GradHMixOut.sig) → Buf (Elt Bits) ℓ) (g : Dev Cert.GradHMixOut.nD → PrngReg), Pre_GradHMixOut m →
    θ_run (Cert.GradHMixOut.defs (F := Bits)) (onTc (τ := Cert.GradHMixOut.τ) (Cert.GradHMixOut.main (F := Bits))) ⟨m, fun _ => 0, g⟩ (fun r => (∀ c : Dev Cert.GradHMixOut.nD,
      r.2.mem ((c.tc : Thread Cert.GradHMixOut.nD Cert.GradHMixOut.τ).loc Cert.GradHMixOut.main_arg0) = m ((c.tc : Thread Cert.GradHMixOut.nD Cert.GradHMixOut.τ).loc Cert.GradHMixOut.main_arg0)
      ∧ r.2.mem ((c.tc : Thread Cert.GradHMixOut.nD Cert.GradHMixOut.τ).loc Cert.GradHMixOut.main_arg1) = m ((c.tc : Thread Cert.GradHMixOut.nD Cert.GradHMixOut.τ).loc Cert.GradHMixOut.main_arg1))
      ∧ r.2.sem = fun _ => 0)

def quiescent_GradHMixOutIdeal [hGradHMixOutIdeal : Cert.GradHMixOutIdeal.Facts] : Prop :=
  ∀ (m : (ℓ : Loc Cert.GradHMixOutIdeal.nD Cert.GradHMixOutIdeal.τ Cert.GradHMixOutIdeal.sig) → Buf (Elt Ideal) ℓ) (g : Dev Cert.GradHMixOutIdeal.nD → PrngReg), Pre_GradHMixOutIdeal m →
    θ_run (Cert.GradHMixOutIdeal.defs (F := Ideal)) (onTc (τ := Cert.GradHMixOutIdeal.τ) (Cert.GradHMixOutIdeal.main (F := Ideal))) ⟨m, fun _ => 0, g⟩ (fun r => (∀ c : Dev Cert.GradHMixOutIdeal.nD,
      r.2.mem ((c.tc : Thread Cert.GradHMixOutIdeal.nD Cert.GradHMixOutIdeal.τ).loc Cert.GradHMixOutIdeal.main_arg0) = m ((c.tc : Thread Cert.GradHMixOutIdeal.nD Cert.GradHMixOutIdeal.τ).loc Cert.GradHMixOutIdeal.main_arg0)
      ∧ r.2.mem ((c.tc : Thread Cert.GradHMixOutIdeal.nD Cert.GradHMixOutIdeal.τ).loc Cert.GradHMixOutIdeal.main_arg1) = m ((c.tc : Thread Cert.GradHMixOutIdeal.nD Cert.GradHMixOutIdeal.τ).loc Cert.GradHMixOutIdeal.main_arg1))
      ∧ r.2.sem = fun _ => 0)

def quiescent_RefGradHMixOutIdeal [hRefGradHMixOutIdeal : Cert.RefGradHMixOutIdeal.Facts] : Prop :=
  ∀ (m : (ℓ : Loc Cert.RefGradHMixOutIdeal.nD Cert.RefGradHMixOutIdeal.τ Cert.RefGradHMixOutIdeal.sig) → Buf (Elt Ideal) ℓ) (g : Dev Cert.RefGradHMixOutIdeal.nD → PrngReg), Pre_RefGradHMixOutIdeal m →
    θ_run (Cert.RefGradHMixOutIdeal.defs (F := Ideal)) (onTc (τ := Cert.RefGradHMixOutIdeal.τ) (Cert.RefGradHMixOutIdeal.main (F := Ideal))) ⟨m, fun _ => 0, g⟩ (fun r => (∀ c : Dev Cert.RefGradHMixOutIdeal.nD,
      r.2.mem ((c.tc : Thread Cert.RefGradHMixOutIdeal.nD Cert.RefGradHMixOutIdeal.τ).loc Cert.RefGradHMixOutIdeal.main_arg0) = m ((c.tc : Thread Cert.RefGradHMixOutIdeal.nD Cert.RefGradHMixOutIdeal.τ).loc Cert.RefGradHMixOutIdeal.main_arg0)
      ∧ r.2.mem ((c.tc : Thread Cert.RefGradHMixOutIdeal.nD Cert.RefGradHMixOutIdeal.τ).loc Cert.RefGradHMixOutIdeal.main_arg1) = m ((c.tc : Thread Cert.RefGradHMixOutIdeal.nD Cert.RefGradHMixOutIdeal.τ).loc Cert.RefGradHMixOutIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_RefMixOutIdeal [hRefMixOutIdeal : Cert.RefMixOutIdeal.Facts] : Prop :=
  ∀ (m : (ℓ : Loc Cert.RefMixOutIdeal.nD Cert.RefMixOutIdeal.τ Cert.RefMixOutIdeal.sig) → Buf (Elt Ideal) ℓ) (g : Dev Cert.RefMixOutIdeal.nD → PrngReg), Pre_RefMixOutIdeal m →
    θ_run (Cert.RefMixOutIdeal.defs (F := Ideal)) (onTc (τ := Cert.RefMixOutIdeal.τ) (Cert.RefMixOutIdeal.main (F := Ideal))) ⟨m, fun _ => 0, g⟩ (fun r => (∀ c : Dev Cert.RefMixOutIdeal.nD,
      r.2.mem ((c.tc : Thread Cert.RefMixOutIdeal.nD Cert.RefMixOutIdeal.τ).loc Cert.RefMixOutIdeal.main_arg0) = m ((c.tc : Thread Cert.RefMixOutIdeal.nD Cert.RefMixOutIdeal.τ).loc Cert.RefMixOutIdeal.main_arg0)
      ∧ r.2.mem ((c.tc : Thread Cert.RefMixOutIdeal.nD Cert.RefMixOutIdeal.τ).loc Cert.RefMixOutIdeal.main_arg1) = m ((c.tc : Thread Cert.RefMixOutIdeal.nD Cert.RefMixOutIdeal.τ).loc Cert.RefMixOutIdeal.main_arg1))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2))
      ∧ r.2.sem = fun _ => 0)

def quiescent_RefConvOutIdeal [hRefConvOutIdeal : Cert.RefConvOutIdeal.Facts] : Prop :=
  ∀ (m : (ℓ : Loc Cert.RefConvOutIdeal.nD Cert.RefConvOutIdeal.τ Cert.RefConvOutIdeal.sig) → Buf (Elt Ideal) ℓ) (g : Dev Cert.RefConvOutIdeal.nD → PrngReg), Pre_RefConvOutIdeal m →
    θ_run (Cert.RefConvOutIdeal.defs (F := Ideal)) (onTc (τ := Cert.RefConvOutIdeal.τ) (Cert.RefConvOutIdeal.main (F := Ideal))) ⟨m, fun _ => 0, g⟩ (fun r => (∀ c : Dev Cert.RefConvOutIdeal.nD,
      r.2.mem ((c.tc : Thread Cert.RefConvOutIdeal.nD Cert.RefConvOutIdeal.τ).loc Cert.RefConvOutIdeal.main_arg0) = m ((c.tc : Thread Cert.RefConvOutIdeal.nD Cert.RefConvOutIdeal.τ).loc Cert.RefConvOutIdeal.main_arg0)
      ∧ r.2.mem ((c.tc : Thread Cert.RefConvOutIdeal.nD Cert.RefConvOutIdeal.τ).loc Cert.RefConvOutIdeal.main_arg1) = m ((c.tc : Thread Cert.RefConvOutIdeal.nD Cert.RefConvOutIdeal.τ).loc Cert.RefConvOutIdeal.main_arg1)
      ∧ r.2.mem ((c.tc : Thread Cert.RefConvOutIdeal.nD Cert.RefConvOutIdeal.τ).loc Cert.RefConvOutIdeal.main_arg2) = m ((c.tc : Thread Cert.RefConvOutIdeal.nD Cert.RefConvOutIdeal.τ).loc Cert.RefConvOutIdeal.main_arg2))
      ∧ r.2.sem = fun _ => 0)

def quiescent_ProjDt [hProjDt : Cert.ProjDt.Facts] : Prop :=
  ∀ (m : (ℓ : Loc Cert.ProjDt.nD Cert.ProjDt.τ Cert.ProjDt.sig) → Buf (Elt Bits) ℓ) (g : Dev Cert.ProjDt.nD → PrngReg), Pre_ProjDt m →
    θ_run (Cert.ProjDt.defs (F := Bits)) (onTc (τ := Cert.ProjDt.τ) (Cert.ProjDt.main (F := Bits))) ⟨m, fun _ => 0, g⟩ (fun r => (∀ c : Dev Cert.ProjDt.nD,
      r.2.mem ((c.tc : Thread Cert.ProjDt.nD Cert.ProjDt.τ).loc Cert.ProjDt.main_arg0) = m ((c.tc : Thread Cert.ProjDt.nD Cert.ProjDt.τ).loc Cert.ProjDt.main_arg0)
      ∧ r.2.mem ((c.tc : Thread Cert.ProjDt.nD Cert.ProjDt.τ).loc Cert.ProjDt.main_arg1) = m ((c.tc : Thread Cert.ProjDt.nD Cert.ProjDt.τ).loc Cert.ProjDt.main_arg1))
      ∧ r.2.sem = fun _ => 0)

def quiescent_ProjDtIdeal [hProjDtIdeal : Cert.ProjDtIdeal.Facts] : Prop :=
  ∀ (m : (ℓ : Loc Cert.ProjDtIdeal.nD Cert.ProjDtIdeal.τ Cert.ProjDtIdeal.sig) → Buf (Elt Ideal) ℓ) (g : Dev Cert.ProjDtIdeal.nD → PrngReg), Pre_ProjDtIdeal m →
    θ_run (Cert.ProjDtIdeal.defs (F := Ideal)) (onTc (τ := Cert.ProjDtIdeal.τ) (Cert.ProjDtIdeal.main (F := Ideal))) ⟨m, fun _ => 0, g⟩ (fun r => (∀ c : Dev Cert.ProjDtIdeal.nD,
      r.2.mem ((c.tc : Thread Cert.ProjDtIdeal.nD Cert.ProjDtIdeal.τ).loc Cert.ProjDtIdeal.main_arg0) = m ((c.tc : Thread Cert.ProjDtIdeal.nD Cert.ProjDtIdeal.τ).loc Cert.ProjDtIdeal.main_arg0)
      ∧ r.2.mem ((c.tc : Thread Cert.ProjDtIdeal.nD Cert.ProjDtIdeal.τ).loc Cert.ProjDtIdeal.main_arg1) = m ((c.tc : Thread Cert.ProjDtIdeal.nD Cert.ProjDtIdeal.τ).loc Cert.ProjDtIdeal.main_arg1))
      ∧ r.2.sem = fun _ => 0)

def quiescent_RefProjDtIdeal [hRefProjDtIdeal : Cert.RefProjDtIdeal.Facts] : Prop :=
  ∀ (m : (ℓ : Loc Cert.RefProjDtIdeal.nD Cert.RefProjDtIdeal.τ Cert.RefProjDtIdeal.sig) → Buf (Elt Ideal) ℓ) (g : Dev Cert.RefProjDtIdeal.nD → PrngReg), Pre_RefProjDtIdeal m →
    θ_run (Cert.RefProjDtIdeal.defs (F := Ideal)) (onTc (τ := Cert.RefProjDtIdeal.τ) (Cert.RefProjDtIdeal.main (F := Ideal))) ⟨m, fun _ => 0, g⟩ (fun r => (∀ c : Dev Cert.RefProjDtIdeal.nD,
      r.2.mem ((c.tc : Thread Cert.RefProjDtIdeal.nD Cert.RefProjDtIdeal.τ).loc Cert.RefProjDtIdeal.main_arg0) = m ((c.tc : Thread Cert.RefProjDtIdeal.nD Cert.RefProjDtIdeal.τ).loc Cert.RefProjDtIdeal.main_arg0)
      ∧ r.2.mem ((c.tc : Thread Cert.RefProjDtIdeal.nD Cert.RefProjDtIdeal.τ).loc Cert.RefProjDtIdeal.main_arg1) = m ((c.tc : Thread Cert.RefProjDtIdeal.nD Cert.RefProjDtIdeal.τ).loc Cert.RefProjDtIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v213_0)) (v1 : (c : Dev Cert.KernelIdeal.nD) → Buf (Elt Ideal) ((c.tc : Thread Cert.KernelIdeal.nD Cert.KernelIdeal.τ).loc Cert.KernelIdeal.main_v213_1)) (v2 : (c : Dev Cert.KernelIdeal.nD) → Buf (Elt Ideal) ((c.tc : Thread Cert.KernelIdeal.nD Cert.KernelIdeal.τ).loc Cert.KernelIdeal.main_v213_2)) (v3 : (c : Dev Cert.KernelIdeal.nD) → Buf (Elt Ideal) ((c.tc : Thread Cert.KernelIdeal.nD Cert.KernelIdeal.τ).loc Cert.KernelIdeal.main_v213_3)) (v4 : (c : Dev Cert.KernelIdeal.nD) → Buf (Elt Ideal) ((c.tc : Thread Cert.KernelIdeal.nD Cert.KernelIdeal.τ).loc Cert.KernelIdeal.main_v213_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v213_0) = v0 c
          ∧ r.2.mem ((c.tc : Thread Cert.KernelIdeal.nD Cert.KernelIdeal.τ).loc Cert.KernelIdeal.main_v213_1) = v1 c
          ∧ r.2.mem ((c.tc : Thread Cert.KernelIdeal.nD Cert.KernelIdeal.τ).loc Cert.KernelIdeal.main_v213_2) = v2 c
          ∧ r.2.mem ((c.tc : Thread Cert.KernelIdeal.nD Cert.KernelIdeal.τ).loc Cert.KernelIdeal.main_v213_3) = v3 c
          ∧ r.2.mem ((c.tc : Thread Cert.KernelIdeal.nD Cert.KernelIdeal.τ).loc Cert.KernelIdeal.main_v213_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_v195) = v2 c
          ∧ r.2.mem ((c.tc : Thread Cert.ReferenceIdeal.nD Cert.ReferenceIdeal.τ).loc Cert.ReferenceIdeal.main_v197) = v3 c
          ∧ r.2.mem ((c.tc : Thread Cert.ReferenceIdeal.nD Cert.ReferenceIdeal.τ).loc Cert.ReferenceIdeal.main_v199) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_GradWGateUp_GradWGateUpIdeal : Prop :=
  True

def algebraic_GradWGateUpIdeal_RefGradWGateUpIdeal [hGradWGateUpIdeal : Cert.GradWGateUpIdeal.Facts] [hRefGradWGateUpIdeal : Cert.RefGradWGateUpIdeal.Facts] : Prop :=
  ∀ (m : (ℓ : Loc Cert.GradWGateUpIdeal.nD Cert.GradWGateUpIdeal.τ Cert.GradWGateUpIdeal.sig) → Buf (Elt Ideal) ℓ) (g : Dev Cert.GradWGateUpIdeal.nD → PrngReg)
    (m' : (ℓ : Loc Cert.RefGradWGateUpIdeal.nD Cert.RefGradWGateUpIdeal.τ Cert.RefGradWGateUpIdeal.sig) → Buf (Elt Ideal) ℓ) (g' : Dev Cert.RefGradWGateUpIdeal.nD → PrngReg), Pre_GradWGateUpIdeal m →
    (∀ c : Dev Cert.GradWGateUpIdeal.nD,
      m' ((c.tc : Thread Cert.RefGradWGateUpIdeal.nD Cert.RefGradWGateUpIdeal.τ).loc Cert.RefGradWGateUpIdeal.main_arg0) = m ((c.tc : Thread Cert.GradWGateUpIdeal.nD Cert.GradWGateUpIdeal.τ).loc Cert.GradWGateUpIdeal.main_arg0)
      ∧ m' ((c.tc : Thread Cert.RefGradWGateUpIdeal.nD Cert.RefGradWGateUpIdeal.τ).loc Cert.RefGradWGateUpIdeal.main_arg1) = m ((c.tc : Thread Cert.GradWGateUpIdeal.nD Cert.GradWGateUpIdeal.τ).loc Cert.GradWGateUpIdeal.main_arg1)) →
    ∃ (v0 : (c : Dev Cert.GradWGateUpIdeal.nD) → Buf (Elt Ideal) ((c.tc : Thread Cert.GradWGateUpIdeal.nD Cert.GradWGateUpIdeal.τ).loc Cert.GradWGateUpIdeal.main_v0)),
      θ_run (Cert.GradWGateUpIdeal.defs (F := Ideal)) (onTc (τ := Cert.GradWGateUpIdeal.τ) (Cert.GradWGateUpIdeal.main (F := Ideal))) ⟨m, fun _ => 0, g⟩ (fun r => ∀ c : Dev Cert.GradWGateUpIdeal.nD,
          r.2.mem ((c.tc : Thread Cert.GradWGateUpIdeal.nD Cert.GradWGateUpIdeal.τ).loc Cert.GradWGateUpIdeal.main_v0) = v0 c
          ∧ r.2.mem ((c.tc : Thread Cert.GradWGateUpIdeal.nD Cert.GradWGateUpIdeal.τ).loc Cert.GradWGateUpIdeal.main_arg0) = m ((c.tc : Thread Cert.GradWGateUpIdeal.nD Cert.GradWGateUpIdeal.τ).loc Cert.GradWGateUpIdeal.main_arg0)
          ∧ r.2.mem ((c.tc : Thread Cert.GradWGateUpIdeal.nD Cert.GradWGateUpIdeal.τ).loc Cert.GradWGateUpIdeal.main_arg1) = m ((c.tc : Thread Cert.GradWGateUpIdeal.nD Cert.GradWGateUpIdeal.τ).loc Cert.GradWGateUpIdeal.main_arg1))
      ∧ θ_run (Cert.RefGradWGateUpIdeal.defs (F := Ideal)) (onTc (τ := Cert.RefGradWGateUpIdeal.τ) (Cert.RefGradWGateUpIdeal.main (F := Ideal))) ⟨m', fun _ => 0, g'⟩ (fun r => ∀ c : Dev Cert.RefGradWGateUpIdeal.nD,
          r.2.mem ((c.tc : Thread Cert.RefGradWGateUpIdeal.nD Cert.RefGradWGateUpIdeal.τ).loc Cert.RefGradWGateUpIdeal.main_v8) = v0 c
          ∧ r.2.mem ((c.tc : Thread Cert.RefGradWGateUpIdeal.nD Cert.RefGradWGateUpIdeal.τ).loc Cert.RefGradWGateUpIdeal.main_arg0) = m' ((c.tc : Thread Cert.RefGradWGateUpIdeal.nD Cert.RefGradWGateUpIdeal.τ).loc Cert.RefGradWGateUpIdeal.main_arg0)
          ∧ r.2.mem ((c.tc : Thread Cert.RefGradWGateUpIdeal.nD Cert.RefGradWGateUpIdeal.τ).loc Cert.RefGradWGateUpIdeal.main_arg1) = m' ((c.tc : Thread Cert.RefGradWGateUpIdeal.nD Cert.RefGradWGateUpIdeal.τ).loc Cert.RefGradWGateUpIdeal.main_arg1))

def preserves_GradHGateUp_GradHGateUpIdeal : Prop :=
  True

def algebraic_GradHGateUpIdeal_RefGradHGateUpIdeal [hGradHGateUpIdeal : Cert.GradHGateUpIdeal.Facts] [hRefGradHGateUpIdeal : Cert.RefGradHGateUpIdeal.Facts] : Prop :=
  ∀ (m : (ℓ : Loc Cert.GradHGateUpIdeal.nD Cert.GradHGateUpIdeal.τ Cert.GradHGateUpIdeal.sig) → Buf (Elt Ideal) ℓ) (g : Dev Cert.GradHGateUpIdeal.nD → PrngReg)
    (m' : (ℓ : Loc Cert.RefGradHGateUpIdeal.nD Cert.RefGradHGateUpIdeal.τ Cert.RefGradHGateUpIdeal.sig) → Buf (Elt Ideal) ℓ) (g' : Dev Cert.RefGradHGateUpIdeal.nD → PrngReg), Pre_GradHGateUpIdeal m →
    (∀ c : Dev Cert.GradHGateUpIdeal.nD,
      m' ((c.tc : Thread Cert.RefGradHGateUpIdeal.nD Cert.RefGradHGateUpIdeal.τ).loc Cert.RefGradHGateUpIdeal.main_arg0) = m ((c.tc : Thread Cert.GradHGateUpIdeal.nD Cert.GradHGateUpIdeal.τ).loc Cert.GradHGateUpIdeal.main_arg0)
      ∧ m' ((c.tc : Thread Cert.RefGradHGateUpIdeal.nD Cert.RefGradHGateUpIdeal.τ).loc Cert.RefGradHGateUpIdeal.main_arg1) = m ((c.tc : Thread Cert.GradHGateUpIdeal.nD Cert.GradHGateUpIdeal.τ).loc Cert.GradHGateUpIdeal.main_arg1)) →
    ∃ (v0 : (c : Dev Cert.GradHGateUpIdeal.nD) → Buf (Elt Ideal) ((c.tc : Thread Cert.GradHGateUpIdeal.nD Cert.GradHGateUpIdeal.τ).loc Cert.GradHGateUpIdeal.main_v0)),
      θ_run (Cert.GradHGateUpIdeal.defs (F := Ideal)) (onTc (τ := Cert.GradHGateUpIdeal.τ) (Cert.GradHGateUpIdeal.main (F := Ideal))) ⟨m, fun _ => 0, g⟩ (fun r => ∀ c : Dev Cert.GradHGateUpIdeal.nD,
          r.2.mem ((c.tc : Thread Cert.GradHGateUpIdeal.nD Cert.GradHGateUpIdeal.τ).loc Cert.GradHGateUpIdeal.main_v0) = v0 c
          ∧ r.2.mem ((c.tc : Thread Cert.GradHGateUpIdeal.nD Cert.GradHGateUpIdeal.τ).loc Cert.GradHGateUpIdeal.main_arg0) = m ((c.tc : Thread Cert.GradHGateUpIdeal.nD Cert.GradHGateUpIdeal.τ).loc Cert.GradHGateUpIdeal.main_arg0)
          ∧ r.2.mem ((c.tc : Thread Cert.GradHGateUpIdeal.nD Cert.GradHGateUpIdeal.τ).loc Cert.GradHGateUpIdeal.main_arg1) = m ((c.tc : Thread Cert.GradHGateUpIdeal.nD Cert.GradHGateUpIdeal.τ).loc Cert.GradHGateUpIdeal.main_arg1))
      ∧ θ_run (Cert.RefGradHGateUpIdeal.defs (F := Ideal)) (onTc (τ := Cert.RefGradHGateUpIdeal.τ) (Cert.RefGradHGateUpIdeal.main (F := Ideal))) ⟨m', fun _ => 0, g'⟩ (fun r => ∀ c : Dev Cert.RefGradHGateUpIdeal.nD,
          r.2.mem ((c.tc : Thread Cert.RefGradHGateUpIdeal.nD Cert.RefGradHGateUpIdeal.τ).loc Cert.RefGradHGateUpIdeal.main_v6) = v0 c
          ∧ r.2.mem ((c.tc : Thread Cert.RefGradHGateUpIdeal.nD Cert.RefGradHGateUpIdeal.τ).loc Cert.RefGradHGateUpIdeal.main_arg0) = m' ((c.tc : Thread Cert.RefGradHGateUpIdeal.nD Cert.RefGradHGateUpIdeal.τ).loc Cert.RefGradHGateUpIdeal.main_arg0)
          ∧ r.2.mem ((c.tc : Thread Cert.RefGradHGateUpIdeal.nD Cert.RefGradHGateUpIdeal.τ).loc Cert.RefGradHGateUpIdeal.main_arg1) = m' ((c.tc : Thread Cert.RefGradHGateUpIdeal.nD Cert.RefGradHGateUpIdeal.τ).loc Cert.RefGradHGateUpIdeal.main_arg1))

def preserves_GateUp_GateUpIdeal : Prop :=
  True

def algebraic_GateUpIdeal_RefGateUpIdeal [hGateUpIdeal : Cert.GateUpIdeal.Facts] [hRefGateUpIdeal : Cert.RefGateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.RefGateUpIdeal.nD Cert.RefGateUpIdeal.τ Cert.RefGateUpIdeal.sig) → Buf (Elt Ideal) ℓ) (g' : Dev Cert.RefGateUpIdeal.nD → PrngReg), Pre_GateUpIdeal m →
    (∀ c : Dev Cert.GateUpIdeal.nD,
      m' ((c.tc : Thread Cert.RefGateUpIdeal.nD Cert.RefGateUpIdeal.τ).loc Cert.RefGateUpIdeal.main_arg0) = m ((c.tc : Thread Cert.GateUpIdeal.nD Cert.GateUpIdeal.τ).loc Cert.GateUpIdeal.main_arg0)
      ∧ m' ((c.tc : Thread Cert.RefGateUpIdeal.nD Cert.RefGateUpIdeal.τ).loc Cert.RefGateUpIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.RefGateUpIdeal.defs (F := Ideal)) (onTc (τ := Cert.RefGateUpIdeal.τ) (Cert.RefGateUpIdeal.main (F := Ideal))) ⟨m', fun _ => 0, g'⟩ (fun r => ∀ c : Dev Cert.RefGateUpIdeal.nD,
          r.2.mem ((c.tc : Thread Cert.RefGateUpIdeal.nD Cert.RefGateUpIdeal.τ).loc Cert.RefGateUpIdeal.main_v5) = v0 c
          ∧ r.2.mem ((c.tc : Thread Cert.RefGateUpIdeal.nD Cert.RefGateUpIdeal.τ).loc Cert.RefGateUpIdeal.main_arg0) = m' ((c.tc : Thread Cert.RefGateUpIdeal.nD Cert.RefGateUpIdeal.τ).loc Cert.RefGateUpIdeal.main_arg0)
          ∧ r.2.mem ((c.tc : Thread Cert.RefGateUpIdeal.nD Cert.RefGateUpIdeal.τ).loc Cert.RefGateUpIdeal.main_arg1) = m' ((c.tc : Thread Cert.RefGateUpIdeal.nD Cert.RefGateUpIdeal.τ).loc Cert.RefGateUpIdeal.main_arg1))

def preserves_GradWDown_GradWDownIdeal : Prop :=
  True

def algebraic_GradWDownIdeal_RefGradWDownIdeal [hGradWDownIdeal : Cert.GradWDownIdeal.Facts] [hRefGradWDownIdeal : Cert.RefGradWDownIdeal.Facts] : Prop :=
  ∀ (m : (ℓ : Loc Cert.GradWDownIdeal.nD Cert.GradWDownIdeal.τ Cert.GradWDownIdeal.sig) → Buf (Elt Ideal) ℓ) (g : Dev Cert.GradWDownIdeal.nD → PrngReg)
    (m' : (ℓ : Loc Cert.RefGradWDownIdeal.nD Cert.RefGradWDownIdeal.τ Cert.RefGradWDownIdeal.sig) → Buf (Elt Ideal) ℓ) (g' : Dev Cert.RefGradWDownIdeal.nD → PrngReg), Pre_GradWDownIdeal m →
    (∀ c : Dev Cert.GradWDownIdeal.nD,
      m' ((c.tc : Thread Cert.RefGradWDownIdeal.nD Cert.RefGradWDownIdeal.τ).loc Cert.RefGradWDownIdeal.main_arg0) = m ((c.tc : Thread Cert.GradWDownIdeal.nD Cert.GradWDownIdeal.τ).loc Cert.GradWDownIdeal.main_arg0)
      ∧ m' ((c.tc : Thread Cert.RefGradWDownIdeal.nD Cert.RefGradWDownIdeal.τ).loc Cert.RefGradWDownIdeal.main_arg1) = m ((c.tc : Thread Cert.GradWDownIdeal.nD Cert.GradWDownIdeal.τ).loc Cert.GradWDownIdeal.main_arg1)) →
    ∃ (v0 : (c : Dev Cert.GradWDownIdeal.nD) → Buf (Elt Ideal) ((c.tc : Thread Cert.GradWDownIdeal.nD Cert.GradWDownIdeal.τ).loc Cert.GradWDownIdeal.main_v0)),
      θ_run (Cert.GradWDownIdeal.defs (F := Ideal)) (onTc (τ := Cert.GradWDownIdeal.τ) (Cert.GradWDownIdeal.main (F := Ideal))) ⟨m, fun _ => 0, g⟩ (fun r => ∀ c : Dev Cert.GradWDownIdeal.nD,
          r.2.mem ((c.tc : Thread Cert.GradWDownIdeal.nD Cert.GradWDownIdeal.τ).loc Cert.GradWDownIdeal.main_v0) = v0 c
          ∧ r.2.mem ((c.tc : Thread Cert.GradWDownIdeal.nD Cert.GradWDownIdeal.τ).loc Cert.GradWDownIdeal.main_arg0) = m ((c.tc : Thread Cert.GradWDownIdeal.nD Cert.GradWDownIdeal.τ).loc Cert.GradWDownIdeal.main_arg0)
          ∧ r.2.mem ((c.tc : Thread Cert.GradWDownIdeal.nD Cert.GradWDownIdeal.τ).loc Cert.GradWDownIdeal.main_arg1) = m ((c.tc : Thread Cert.GradWDownIdeal.nD Cert.GradWDownIdeal.τ).loc Cert.GradWDownIdeal.main_arg1))
      ∧ θ_run (Cert.RefGradWDownIdeal.defs (F := Ideal)) (onTc (τ := Cert.RefGradWDownIdeal.τ) (Cert.RefGradWDownIdeal.main (F := Ideal))) ⟨m', fun _ => 0, g'⟩ (fun r => ∀ c : Dev Cert.RefGradWDownIdeal.nD,
          r.2.mem ((c.tc : Thread Cert.RefGradWDownIdeal.nD Cert.RefGradWDownIdeal.τ).loc Cert.RefGradWDownIdeal.main_v6) = v0 c
          ∧ r.2.mem ((c.tc : Thread Cert.RefGradWDownIdeal.nD Cert.RefGradWDownIdeal.τ).loc Cert.RefGradWDownIdeal.main_arg0) = m' ((c.tc : Thread Cert.RefGradWDownIdeal.nD Cert.RefGradWDownIdeal.τ).loc Cert.RefGradWDownIdeal.main_arg0)
          ∧ r.2.mem ((c.tc : Thread Cert.RefGradWDownIdeal.nD Cert.RefGradWDownIdeal.τ).loc Cert.RefGradWDownIdeal.main_arg1) = m' ((c.tc : Thread Cert.RefGradWDownIdeal.nD Cert.RefGradWDownIdeal.τ).loc Cert.RefGradWDownIdeal.main_arg1))

def preserves_GradHDown_GradHDownIdeal : Prop :=
  True

def algebraic_GradHDownIdeal_RefGradHDownIdeal [hGradHDownIdeal : Cert.GradHDownIdeal.Facts] [hRefGradHDownIdeal : Cert.RefGradHDownIdeal.Facts] : Prop :=
  ∀ (m : (ℓ : Loc Cert.GradHDownIdeal.nD Cert.GradHDownIdeal.τ Cert.GradHDownIdeal.sig) → Buf (Elt Ideal) ℓ) (g : Dev Cert.GradHDownIdeal.nD → PrngReg)
    (m' : (ℓ : Loc Cert.RefGradHDownIdeal.nD Cert.RefGradHDownIdeal.τ Cert.RefGradHDownIdeal.sig) → Buf (Elt Ideal) ℓ) (g' : Dev Cert.RefGradHDownIdeal.nD → PrngReg), Pre_GradHDownIdeal m →
    (∀ c : Dev Cert.GradHDownIdeal.nD,
      m' ((c.tc : Thread Cert.RefGradHDownIdeal.nD Cert.RefGradHDownIdeal.τ).loc Cert.RefGradHDownIdeal.main_arg0) = m ((c.tc : Thread Cert.GradHDownIdeal.nD Cert.GradHDownIdeal.τ).loc Cert.GradHDownIdeal.main_arg0)
      ∧ m' ((c.tc : Thread Cert.RefGradHDownIdeal.nD Cert.RefGradHDownIdeal.τ).loc Cert.RefGradHDownIdeal.main_arg1) = m ((c.tc : Thread Cert.GradHDownIdeal.nD Cert.GradHDownIdeal.τ).loc Cert.GradHDownIdeal.main_arg1)) →
    ∃ (v0 : (c : Dev Cert.GradHDownIdeal.nD) → Buf (Elt Ideal) ((c.tc : Thread Cert.GradHDownIdeal.nD Cert.GradHDownIdeal.τ).loc Cert.GradHDownIdeal.main_v0)),
      θ_run (Cert.GradHDownIdeal.defs (F := Ideal)) (onTc (τ := Cert.GradHDownIdeal.τ) (Cert.GradHDownIdeal.main (F := Ideal))) ⟨m, fun _ => 0, g⟩ (fun r => ∀ c : Dev Cert.GradHDownIdeal.nD,
          r.2.mem ((c.tc : Thread Cert.GradHDownIdeal.nD Cert.GradHDownIdeal.τ).loc Cert.GradHDownIdeal.main_v0) = v0 c
          ∧ r.2.mem ((c.tc : Thread Cert.GradHDownIdeal.nD Cert.GradHDownIdeal.τ).loc Cert.GradHDownIdeal.main_arg0) = m ((c.tc : Thread Cert.GradHDownIdeal.nD Cert.GradHDownIdeal.τ).loc Cert.GradHDownIdeal.main_arg0)
          ∧ r.2.mem ((c.tc : Thread Cert.GradHDownIdeal.nD Cert.GradHDownIdeal.τ).loc Cert.GradHDownIdeal.main_arg1) = m ((c.tc : Thread Cert.GradHDownIdeal.nD Cert.GradHDownIdeal.τ).loc Cert.GradHDownIdeal.main_arg1))
      ∧ θ_run (Cert.RefGradHDownIdeal.defs (F := Ideal)) (onTc (τ := Cert.RefGradHDownIdeal.τ) (Cert.RefGradHDownIdeal.main (F := Ideal))) ⟨m', fun _ => 0, g'⟩ (fun r => ∀ c : Dev Cert.RefGradHDownIdeal.nD,
          r.2.mem ((c.tc : Thread Cert.RefGradHDownIdeal.nD Cert.RefGradHDownIdeal.τ).loc Cert.RefGradHDownIdeal.main_v5) = v0 c
          ∧ r.2.mem ((c.tc : Thread Cert.RefGradHDownIdeal.nD Cert.RefGradHDownIdeal.τ).loc Cert.RefGradHDownIdeal.main_arg0) = m' ((c.tc : Thread Cert.RefGradHDownIdeal.nD Cert.RefGradHDownIdeal.τ).loc Cert.RefGradHDownIdeal.main_arg0)
          ∧ r.2.mem ((c.tc : Thread Cert.RefGradHDownIdeal.nD Cert.RefGradHDownIdeal.τ).loc Cert.RefGradHDownIdeal.main_arg1) = m' ((c.tc : Thread Cert.RefGradHDownIdeal.nD Cert.RefGradHDownIdeal.τ).loc Cert.RefGradHDownIdeal.main_arg1))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v2) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1))

def preserves_ProjZ_ProjZIdeal : Prop :=
  True

def algebraic_ProjZIdeal_RefProjZIdeal [hProjZIdeal : Cert.ProjZIdeal.Facts] [hRefProjZIdeal : Cert.RefProjZIdeal.Facts] : Prop :=
  ∀ (m : (ℓ : Loc Cert.ProjZIdeal.nD Cert.ProjZIdeal.τ Cert.ProjZIdeal.sig) → Buf (Elt Ideal) ℓ) (g : Dev Cert.ProjZIdeal.nD → PrngReg)
    (m' : (ℓ : Loc Cert.RefProjZIdeal.nD Cert.RefProjZIdeal.τ Cert.RefProjZIdeal.sig) → Buf (Elt Ideal) ℓ) (g' : Dev Cert.RefProjZIdeal.nD → PrngReg), Pre_ProjZIdeal m →
    (∀ c : Dev Cert.ProjZIdeal.nD,
      m' ((c.tc : Thread Cert.RefProjZIdeal.nD Cert.RefProjZIdeal.τ).loc Cert.RefProjZIdeal.main_arg0) = m ((c.tc : Thread Cert.ProjZIdeal.nD Cert.ProjZIdeal.τ).loc Cert.ProjZIdeal.main_arg0)
      ∧ m' ((c.tc : Thread Cert.RefProjZIdeal.nD Cert.RefProjZIdeal.τ).loc Cert.RefProjZIdeal.main_arg1) = m ((c.tc : Thread Cert.ProjZIdeal.nD Cert.ProjZIdeal.τ).loc Cert.ProjZIdeal.main_arg1)) →
    ∃ (v0 : (c : Dev Cert.ProjZIdeal.nD) → Buf (Elt Ideal) ((c.tc : Thread Cert.ProjZIdeal.nD Cert.ProjZIdeal.τ).loc Cert.ProjZIdeal.main_v0)),
      θ_run (Cert.ProjZIdeal.defs (F := Ideal)) (onTc (τ := Cert.ProjZIdeal.τ) (Cert.ProjZIdeal.main (F := Ideal))) ⟨m, fun _ => 0, g⟩ (fun r => ∀ c : Dev Cert.ProjZIdeal.nD,
          r.2.mem ((c.tc : Thread Cert.ProjZIdeal.nD Cert.ProjZIdeal.τ).loc Cert.ProjZIdeal.main_v0) = v0 c
          ∧ r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
          ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ θ_run (Cert.RefProjZIdeal.defs (F := Ideal)) (onTc (τ := Cert.RefProjZIdeal.τ) (Cert.RefProjZIdeal.main (F := Ideal))) ⟨m', fun _ => 0, g'⟩ (fun r => ∀ c : Dev Cert.RefProjZIdeal.nD,
          r.2.mem ((c.tc : Thread Cert.RefProjZIdeal.nD Cert.RefProjZIdeal.τ).loc Cert.RefProjZIdeal.main_v5) = v0 c
          ∧ r.2.mem ((c.tc : Thread Cert.RefProjZIdeal.nD Cert.RefProjZIdeal.τ).loc Cert.RefProjZIdeal.main_arg0) = m' ((c.tc : Thread Cert.RefProjZIdeal.nD Cert.RefProjZIdeal.τ).loc Cert.RefProjZIdeal.main_arg0)
          ∧ r.2.mem ((c.tc : Thread Cert.RefProjZIdeal.nD Cert.RefProjZIdeal.τ).loc Cert.RefProjZIdeal.main_arg1) = m' ((c.tc : Thread Cert.RefProjZIdeal.nD Cert.RefProjZIdeal.τ).loc Cert.RefProjZIdeal.main_arg1))

def preserves_ProjXbc_ProjXbcIdeal : Prop :=
  True

def algebraic_ProjXbcIdeal_RefProjXbcIdeal [hProjXbcIdeal : Cert.ProjXbcIdeal.Facts] [hRefProjXbcIdeal : Cert.RefProjXbcIdeal.Facts] : Prop :=
  ∀ (m : (ℓ : Loc Cert.ProjXbcIdeal.nD Cert.ProjXbcIdeal.τ Cert.ProjXbcIdeal.sig) → Buf (Elt Ideal) ℓ) (g : Dev Cert.ProjXbcIdeal.nD → PrngReg)
    (m' : (ℓ : Loc Cert.RefProjXbcIdeal.nD Cert.RefProjXbcIdeal.τ Cert.RefProjXbcIdeal.sig) → Buf (Elt Ideal) ℓ) (g' : Dev Cert.RefProjXbcIdeal.nD → PrngReg), Pre_ProjXbcIdeal m →
    (∀ c : Dev Cert.ProjXbcIdeal.nD,
      m' ((c.tc : Thread Cert.RefProjXbcIdeal.nD Cert.RefProjXbcIdeal.τ).loc Cert.RefProjXbcIdeal.main_arg0) = m ((c.tc : Thread Cert.ProjXbcIdeal.nD Cert.ProjXbcIdeal.τ).loc Cert.ProjXbcIdeal.main_arg0)
      ∧ m' ((c.tc : Thread Cert.RefProjXbcIdeal.nD Cert.RefProjXbcIdeal.τ).loc Cert.RefProjXbcIdeal.main_arg1) = m ((c.tc : Thread Cert.ProjXbcIdeal.nD Cert.ProjXbcIdeal.τ).loc Cert.ProjXbcIdeal.main_arg1)) →
    ∃ (v0 : (c : Dev Cert.ProjXbcIdeal.nD) → Buf (Elt Ideal) ((c.tc : Thread Cert.ProjXbcIdeal.nD Cert.ProjXbcIdeal.τ).loc Cert.ProjXbcIdeal.main_v0)),
      θ_run (Cert.ProjXbcIdeal.defs (F := Ideal)) (onTc (τ := Cert.ProjXbcIdeal.τ) (Cert.ProjXbcIdeal.main (F := Ideal))) ⟨m, fun _ => 0, g⟩ (fun r => ∀ c : Dev Cert.ProjXbcIdeal.nD,
          r.2.mem ((c.tc : Thread Cert.ProjXbcIdeal.nD Cert.ProjXbcIdeal.τ).loc Cert.ProjXbcIdeal.main_v0) = v0 c
          ∧ r.2.mem ((c.tc : Thread Cert.ProjXbcIdeal.nD Cert.ProjXbcIdeal.τ).loc Cert.ProjXbcIdeal.main_arg0) = m ((c.tc : Thread Cert.ProjXbcIdeal.nD Cert.ProjXbcIdeal.τ).loc Cert.ProjXbcIdeal.main_arg0)
          ∧ r.2.mem ((c.tc : Thread Cert.ProjXbcIdeal.nD Cert.ProjXbcIdeal.τ).loc Cert.ProjXbcIdeal.main_arg1) = m ((c.tc : Thread Cert.ProjXbcIdeal.nD Cert.ProjXbcIdeal.τ).loc Cert.ProjXbcIdeal.main_arg1))
      ∧ θ_run (Cert.RefProjXbcIdeal.defs (F := Ideal)) (onTc (τ := Cert.RefProjXbcIdeal.τ) (Cert.RefProjXbcIdeal.main (F := Ideal))) ⟨m', fun _ => 0, g'⟩ (fun r => ∀ c : Dev Cert.RefProjXbcIdeal.nD,
          r.2.mem ((c.tc : Thread Cert.RefProjXbcIdeal.nD Cert.RefProjXbcIdeal.τ).loc Cert.RefProjXbcIdeal.main_v5) = v0 c
          ∧ r.2.mem ((c.tc : Thread Cert.RefProjXbcIdeal.nD Cert.RefProjXbcIdeal.τ).loc Cert.RefProjXbcIdeal.main_arg0) = m' ((c.tc : Thread Cert.RefProjXbcIdeal.nD Cert.RefProjXbcIdeal.τ).loc Cert.RefProjXbcIdeal.main_arg0)
          ∧ r.2.mem ((c.tc : Thread Cert.RefProjXbcIdeal.nD Cert.RefProjXbcIdeal.τ).loc Cert.RefProjXbcIdeal.main_arg1) = m' ((c.tc : Thread Cert.RefProjXbcIdeal.nD Cert.RefProjXbcIdeal.τ).loc Cert.RefProjXbcIdeal.main_arg1))

def preserves_ProjGlu_ProjGluIdeal : Prop :=
  True

def algebraic_ProjGluIdeal_RefProjGluIdeal [hProjGluIdeal : Cert.ProjGluIdeal.Facts] [hRefProjGluIdeal : Cert.RefProjGluIdeal.Facts] : Prop :=
  ∀ (m : (ℓ : Loc Cert.ProjGluIdeal.nD Cert.ProjGluIdeal.τ Cert.ProjGluIdeal.sig) → Buf (Elt Ideal) ℓ) (g : Dev Cert.ProjGluIdeal.nD → PrngReg)
    (m' : (ℓ : Loc Cert.RefProjGluIdeal.nD Cert.RefProjGluIdeal.τ Cert.RefProjGluIdeal.sig) → Buf (Elt Ideal) ℓ) (g' : Dev Cert.RefProjGluIdeal.nD → PrngReg), Pre_ProjGluIdeal m →
    (∀ c : Dev Cert.ProjGluIdeal.nD,
      m' ((c.tc : Thread Cert.RefProjGluIdeal.nD Cert.RefProjGluIdeal.τ).loc Cert.RefProjGluIdeal.main_arg0) = m ((c.tc : Thread Cert.ProjGluIdeal.nD Cert.ProjGluIdeal.τ).loc Cert.ProjGluIdeal.main_arg0)
      ∧ m' ((c.tc : Thread Cert.RefProjGluIdeal.nD Cert.RefProjGluIdeal.τ).loc Cert.RefProjGluIdeal.main_arg1) = m ((c.tc : Thread Cert.ProjGluIdeal.nD Cert.ProjGluIdeal.τ).loc Cert.ProjGluIdeal.main_arg1)) →
    ∃ (v0 : (c : Dev Cert.ProjGluIdeal.nD) → Buf (Elt Ideal) ((c.tc : Thread Cert.ProjGluIdeal.nD Cert.ProjGluIdeal.τ).loc Cert.ProjGluIdeal.main_v0)),
      θ_run (Cert.ProjGluIdeal.defs (F := Ideal)) (onTc (τ := Cert.ProjGluIdeal.τ) (Cert.ProjGluIdeal.main (F := Ideal))) ⟨m, fun _ => 0, g⟩ (fun r => ∀ c : Dev Cert.ProjGluIdeal.nD,
          r.2.mem ((c.tc : Thread Cert.ProjGluIdeal.nD Cert.ProjGluIdeal.τ).loc Cert.ProjGluIdeal.main_v0) = v0 c
          ∧ r.2.mem ((c.tc : Thread Cert.ProjGluIdeal.nD Cert.ProjGluIdeal.τ).loc Cert.ProjGluIdeal.main_arg0) = m ((c.tc : Thread Cert.ProjGluIdeal.nD Cert.ProjGluIdeal.τ).loc Cert.ProjGluIdeal.main_arg0)
          ∧ r.2.mem ((c.tc : Thread Cert.ProjGluIdeal.nD Cert.ProjGluIdeal.τ).loc Cert.ProjGluIdeal.main_arg1) = m ((c.tc : Thread Cert.ProjGluIdeal.nD Cert.ProjGluIdeal.τ).loc Cert.ProjGluIdeal.main_arg1))
      ∧ θ_run (Cert.RefProjGluIdeal.defs (F := Ideal)) (onTc (τ := Cert.RefProjGluIdeal.τ) (Cert.RefProjGluIdeal.main (F := Ideal))) ⟨m', fun _ => 0, g'⟩ (fun r => ∀ c : Dev Cert.RefProjGluIdeal.nD,
          r.2.mem ((c.tc : Thread Cert.RefProjGluIdeal.nD Cert.RefProjGluIdeal.τ).loc Cert.RefProjGluIdeal.main_v5) = v0 c
          ∧ r.2.mem ((c.tc : Thread Cert.RefProjGluIdeal.nD Cert.RefProjGluIdeal.τ).loc Cert.RefProjGluIdeal.main_arg0) = m' ((c.tc : Thread Cert.RefProjGluIdeal.nD Cert.RefProjGluIdeal.τ).loc Cert.RefProjGluIdeal.main_arg0)
          ∧ r.2.mem ((c.tc : Thread Cert.RefProjGluIdeal.nD Cert.RefProjGluIdeal.τ).loc Cert.RefProjGluIdeal.main_arg1) = m' ((c.tc : Thread Cert.RefProjGluIdeal.nD Cert.RefProjGluIdeal.τ).loc Cert.RefProjGluIdeal.main_arg1))

def preserves_ProjGate_ProjGateIdeal : Prop :=
  True

def algebraic_ProjGateIdeal_RefProjGateIdeal [hProjGateIdeal : Cert.ProjGateIdeal.Facts] [hRefProjGateIdeal : Cert.RefProjGateIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg)
    (m' : (ℓ : Loc Cert.RefProjGateIdeal.nD Cert.RefProjGateIdeal.τ Cert.RefProjGateIdeal.sig) → Buf (Elt Ideal) ℓ) (g' : Dev Cert.RefProjGateIdeal.nD → PrngReg), Pre_ProjGateIdeal m →
    (∀ c : Dev Cert.ProjGateIdeal.nD,
      m' ((c.tc : Thread Cert.RefProjGateIdeal.nD Cert.RefProjGateIdeal.τ).loc Cert.RefProjGateIdeal.main_arg0) = m ((c.tc : Thread Cert.ProjGateIdeal.nD Cert.ProjGateIdeal.τ).loc Cert.ProjGateIdeal.main_arg0)
      ∧ m' ((c.tc : Thread Cert.RefProjGateIdeal.nD Cert.RefProjGateIdeal.τ).loc Cert.RefProjGateIdeal.main_arg1) = m ((c.tc : Thread Cert.ProjGateIdeal.nD Cert.ProjGateIdeal.τ).loc Cert.ProjGateIdeal.main_arg1)) →
    ∃ (v0 : (c : Dev Cert.ProjGateIdeal.nD) → Buf (Elt Ideal) ((c.tc : Thread Cert.ProjGateIdeal.nD Cert.ProjGateIdeal.τ).loc Cert.ProjGateIdeal.main_v0)),
      θ_run (Cert.ProjGateIdeal.defs (F := Ideal)) (onTc (τ := Cert.ProjGateIdeal.τ) (Cert.ProjGateIdeal.main (F := Ideal))) ⟨m, fun _ => 0, g⟩ (fun r => ∀ c : Dev Cert.ProjGateIdeal.nD,
          r.2.mem ((c.tc : Thread Cert.ProjGateIdeal.nD Cert.ProjGateIdeal.τ).loc Cert.ProjGateIdeal.main_v0) = v0 c
          ∧ r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
          ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ θ_run (Cert.RefProjGateIdeal.defs (F := Ideal)) (onTc (τ := Cert.RefProjGateIdeal.τ) (Cert.RefProjGateIdeal.main (F := Ideal))) ⟨m', fun _ => 0, g'⟩ (fun r => ∀ c : Dev Cert.RefProjGateIdeal.nD,
          r.2.mem ((c.tc : Thread Cert.RefProjGateIdeal.nD Cert.RefProjGateIdeal.τ).loc Cert.RefProjGateIdeal.main_v5) = v0 c
          ∧ r.2.mem ((c.tc : Thread Cert.RefProjGateIdeal.nD Cert.RefProjGateIdeal.τ).loc Cert.RefProjGateIdeal.main_arg0) = m' ((c.tc : Thread Cert.RefProjGateIdeal.nD Cert.RefProjGateIdeal.τ).loc Cert.RefProjGateIdeal.main_arg0)
          ∧ r.2.mem ((c.tc : Thread Cert.RefProjGateIdeal.nD Cert.RefProjGateIdeal.τ).loc Cert.RefProjGateIdeal.main_arg1) = m' ((c.tc : Thread Cert.RefProjGateIdeal.nD Cert.RefProjGateIdeal.τ).loc Cert.RefProjGateIdeal.main_arg1))

def preserves_GradWSsmOut_GradWSsmOutIdeal : Prop :=
  True

def algebraic_GradWSsmOutIdeal_RefGradWSsmOutIdeal [hGradWSsmOutIdeal : Cert.GradWSsmOutIdeal.Facts] [hRefGradWSsmOutIdeal : Cert.RefGradWSsmOutIdeal.Facts] : Prop :=
  ∀ (m : (ℓ : Loc Cert.GradWSsmOutIdeal.nD Cert.GradWSsmOutIdeal.τ Cert.GradWSsmOutIdeal.sig) → Buf (Elt Ideal) ℓ) (g : Dev Cert.GradWSsmOutIdeal.nD → PrngReg)
    (m' : (ℓ : Loc Cert.RefGradWSsmOutIdeal.nD Cert.RefGradWSsmOutIdeal.τ Cert.RefGradWSsmOutIdeal.sig) → Buf (Elt Ideal) ℓ) (g' : Dev Cert.RefGradWSsmOutIdeal.nD → PrngReg), Pre_GradWSsmOutIdeal m →
    (∀ c : Dev Cert.GradWSsmOutIdeal.nD,
      m' ((c.tc : Thread Cert.RefGradWSsmOutIdeal.nD Cert.RefGradWSsmOutIdeal.τ).loc Cert.RefGradWSsmOutIdeal.main_arg0) = m ((c.tc : Thread Cert.GradWSsmOutIdeal.nD Cert.GradWSsmOutIdeal.τ).loc Cert.GradWSsmOutIdeal.main_arg0)
      ∧ m' ((c.tc : Thread Cert.RefGradWSsmOutIdeal.nD Cert.RefGradWSsmOutIdeal.τ).loc Cert.RefGradWSsmOutIdeal.main_arg1) = m ((c.tc : Thread Cert.GradWSsmOutIdeal.nD Cert.GradWSsmOutIdeal.τ).loc Cert.GradWSsmOutIdeal.main_arg1)) →
    ∃ (v0 : (c : Dev Cert.GradWSsmOutIdeal.nD) → Buf (Elt Ideal) ((c.tc : Thread Cert.GradWSsmOutIdeal.nD Cert.GradWSsmOutIdeal.τ).loc Cert.GradWSsmOutIdeal.main_v0)),
      θ_run (Cert.GradWSsmOutIdeal.defs (F := Ideal)) (onTc (τ := Cert.GradWSsmOutIdeal.τ) (Cert.GradWSsmOutIdeal.main (F := Ideal))) ⟨m, fun _ => 0, g⟩ (fun r => ∀ c : Dev Cert.GradWSsmOutIdeal.nD,
          r.2.mem ((c.tc : Thread Cert.GradWSsmOutIdeal.nD Cert.GradWSsmOutIdeal.τ).loc Cert.GradWSsmOutIdeal.main_v0) = v0 c
          ∧ r.2.mem ((c.tc : Thread Cert.GradWSsmOutIdeal.nD Cert.GradWSsmOutIdeal.τ).loc Cert.GradWSsmOutIdeal.main_arg0) = m ((c.tc : Thread Cert.GradWSsmOutIdeal.nD Cert.GradWSsmOutIdeal.τ).loc Cert.GradWSsmOutIdeal.main_arg0)
          ∧ r.2.mem ((c.tc : Thread Cert.GradWSsmOutIdeal.nD Cert.GradWSsmOutIdeal.τ).loc Cert.GradWSsmOutIdeal.main_arg1) = m ((c.tc : Thread Cert.GradWSsmOutIdeal.nD Cert.GradWSsmOutIdeal.τ).loc Cert.GradWSsmOutIdeal.main_arg1))
      ∧ θ_run (Cert.RefGradWSsmOutIdeal.defs (F := Ideal)) (onTc (τ := Cert.RefGradWSsmOutIdeal.τ) (Cert.RefGradWSsmOutIdeal.main (F := Ideal))) ⟨m', fun _ => 0, g'⟩ (fun r => ∀ c : Dev Cert.RefGradWSsmOutIdeal.nD,
          r.2.mem ((c.tc : Thread Cert.RefGradWSsmOutIdeal.nD Cert.RefGradWSsmOutIdeal.τ).loc Cert.RefGradWSsmOutIdeal.main_v6) = v0 c
          ∧ r.2.mem ((c.tc : Thread Cert.RefGradWSsmOutIdeal.nD Cert.RefGradWSsmOutIdeal.τ).loc Cert.RefGradWSsmOutIdeal.main_arg0) = m' ((c.tc : Thread Cert.RefGradWSsmOutIdeal.nD Cert.RefGradWSsmOutIdeal.τ).loc Cert.RefGradWSsmOutIdeal.main_arg0)
          ∧ r.2.mem ((c.tc : Thread Cert.RefGradWSsmOutIdeal.nD Cert.RefGradWSsmOutIdeal.τ).loc Cert.RefGradWSsmOutIdeal.main_arg1) = m' ((c.tc : Thread Cert.RefGradWSsmOutIdeal.nD Cert.RefGradWSsmOutIdeal.τ).loc Cert.RefGradWSsmOutIdeal.main_arg1))

def preserves_GradHSsmOut_GradHSsmOutIdeal : Prop :=
  True

def algebraic_GradHSsmOutIdeal_RefGradHSsmOutIdeal [hGradHSsmOutIdeal : Cert.GradHSsmOutIdeal.Facts] [hRefGradHSsmOutIdeal : Cert.RefGradHSsmOutIdeal.Facts] : Prop :=
  ∀ (m : (ℓ : Loc Cert.GradHSsmOutIdeal.nD Cert.GradHSsmOutIdeal.τ Cert.GradHSsmOutIdeal.sig) → Buf (Elt Ideal) ℓ) (g : Dev Cert.GradHSsmOutIdeal.nD → PrngReg)
    (m' : (ℓ : Loc Cert.RefGradHSsmOutIdeal.nD Cert.RefGradHSsmOutIdeal.τ Cert.RefGradHSsmOutIdeal.sig) → Buf (Elt Ideal) ℓ) (g' : Dev Cert.RefGradHSsmOutIdeal.nD → PrngReg), Pre_GradHSsmOutIdeal m →
    (∀ c : Dev Cert.GradHSsmOutIdeal.nD,
      m' ((c.tc : Thread Cert.RefGradHSsmOutIdeal.nD Cert.RefGradHSsmOutIdeal.τ).loc Cert.RefGradHSsmOutIdeal.main_arg0) = m ((c.tc : Thread Cert.GradHSsmOutIdeal.nD Cert.GradHSsmOutIdeal.τ).loc Cert.GradHSsmOutIdeal.main_arg0)
      ∧ m' ((c.tc : Thread Cert.RefGradHSsmOutIdeal.nD Cert.RefGradHSsmOutIdeal.τ).loc Cert.RefGradHSsmOutIdeal.main_arg1) = m ((c.tc : Thread Cert.GradHSsmOutIdeal.nD Cert.GradHSsmOutIdeal.τ).loc Cert.GradHSsmOutIdeal.main_arg1)) →
    ∃ (v0 : (c : Dev Cert.GradHSsmOutIdeal.nD) → Buf (Elt Ideal) ((c.tc : Thread Cert.GradHSsmOutIdeal.nD Cert.GradHSsmOutIdeal.τ).loc Cert.GradHSsmOutIdeal.main_v0)),
      θ_run (Cert.GradHSsmOutIdeal.defs (F := Ideal)) (onTc (τ := Cert.GradHSsmOutIdeal.τ) (Cert.GradHSsmOutIdeal.main (F := Ideal))) ⟨m, fun _ => 0, g⟩ (fun r => ∀ c : Dev Cert.GradHSsmOutIdeal.nD,
          r.2.mem ((c.tc : Thread Cert.GradHSsmOutIdeal.nD Cert.GradHSsmOutIdeal.τ).loc Cert.GradHSsmOutIdeal.main_v0) = v0 c
          ∧ r.2.mem ((c.tc : Thread Cert.GradHSsmOutIdeal.nD Cert.GradHSsmOutIdeal.τ).loc Cert.GradHSsmOutIdeal.main_arg0) = m ((c.tc : Thread Cert.GradHSsmOutIdeal.nD Cert.GradHSsmOutIdeal.τ).loc Cert.GradHSsmOutIdeal.main_arg0)
          ∧ r.2.mem ((c.tc : Thread Cert.GradHSsmOutIdeal.nD Cert.GradHSsmOutIdeal.τ).loc Cert.GradHSsmOutIdeal.main_arg1) = m ((c.tc : Thread Cert.GradHSsmOutIdeal.nD Cert.GradHSsmOutIdeal.τ).loc Cert.GradHSsmOutIdeal.main_arg1))
      ∧ θ_run (Cert.RefGradHSsmOutIdeal.defs (F := Ideal)) (onTc (τ := Cert.RefGradHSsmOutIdeal.τ) (Cert.RefGradHSsmOutIdeal.main (F := Ideal))) ⟨m', fun _ => 0, g'⟩ (fun r => ∀ c : Dev Cert.RefGradHSsmOutIdeal.nD,
          r.2.mem ((c.tc : Thread Cert.RefGradHSsmOutIdeal.nD Cert.RefGradHSsmOutIdeal.τ).loc Cert.RefGradHSsmOutIdeal.main_v5) = v0 c
          ∧ r.2.mem ((c.tc : Thread Cert.RefGradHSsmOutIdeal.nD Cert.RefGradHSsmOutIdeal.τ).loc Cert.RefGradHSsmOutIdeal.main_arg0) = m' ((c.tc : Thread Cert.RefGradHSsmOutIdeal.nD Cert.RefGradHSsmOutIdeal.τ).loc Cert.RefGradHSsmOutIdeal.main_arg0)
          ∧ r.2.mem ((c.tc : Thread Cert.RefGradHSsmOutIdeal.nD Cert.RefGradHSsmOutIdeal.τ).loc Cert.RefGradHSsmOutIdeal.main_arg1) = m' ((c.tc : Thread Cert.RefGradHSsmOutIdeal.nD Cert.RefGradHSsmOutIdeal.τ).loc Cert.RefGradHSsmOutIdeal.main_arg1))

def preserves_SsmOut_SsmOutIdeal : Prop :=
  True

def algebraic_SsmOutIdeal_RefSsmOutIdeal [hSsmOutIdeal : Cert.SsmOutIdeal.Facts] [hRefSsmOutIdeal : Cert.RefSsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.RefSsmOutIdeal.nD Cert.RefSsmOutIdeal.τ Cert.RefSsmOutIdeal.sig) → Buf (Elt Ideal) ℓ) (g' : Dev Cert.RefSsmOutIdeal.nD → PrngReg), Pre_SsmOutIdeal m →
    (∀ c : Dev Cert.SsmOutIdeal.nD,
      m' ((c.tc : Thread Cert.RefSsmOutIdeal.nD Cert.RefSsmOutIdeal.τ).loc Cert.RefSsmOutIdeal.main_arg0) = m ((c.tc : Thread Cert.SsmOutIdeal.nD Cert.SsmOutIdeal.τ).loc Cert.SsmOutIdeal.main_arg0)
      ∧ m' ((c.tc : Thread Cert.RefSsmOutIdeal.nD Cert.RefSsmOutIdeal.τ).loc Cert.RefSsmOutIdeal.main_arg1) = m ((c.tc : Thread Cert.SsmOutIdeal.nD Cert.SsmOutIdeal.τ).loc Cert.SsmOutIdeal.main_arg1)) →
    ∃ (v0 : (c : Dev Cert.SsmOutIdeal.nD) → Buf (Elt Ideal) ((c.tc : Thread Cert.SsmOutIdeal.nD Cert.SsmOutIdeal.τ).loc Cert.SsmOutIdeal.main_v0)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v0) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1))
      ∧ θ_run (Cert.RefSsmOutIdeal.defs (F := Ideal)) (onTc (τ := Cert.RefSsmOutIdeal.τ) (Cert.RefSsmOutIdeal.main (F := Ideal))) ⟨m', fun _ => 0, g'⟩ (fun r => ∀ c : Dev Cert.RefSsmOutIdeal.nD,
          r.2.mem ((c.tc : Thread Cert.RefSsmOutIdeal.nD Cert.RefSsmOutIdeal.τ).loc Cert.RefSsmOutIdeal.main_v2) = v0 c
          ∧ r.2.mem ((c.tc : Thread Cert.RefSsmOutIdeal.nD Cert.RefSsmOutIdeal.τ).loc Cert.RefSsmOutIdeal.main_arg0) = m' ((c.tc : Thread Cert.RefSsmOutIdeal.nD Cert.RefSsmOutIdeal.τ).loc Cert.RefSsmOutIdeal.main_arg0)
          ∧ r.2.mem ((c.tc : Thread Cert.RefSsmOutIdeal.nD Cert.RefSsmOutIdeal.τ).loc Cert.RefSsmOutIdeal.main_arg1) = m' ((c.tc : Thread Cert.RefSsmOutIdeal.nD Cert.RefSsmOutIdeal.τ).loc Cert.RefSsmOutIdeal.main_arg1))

def preserves_GradWMixOut_GradWMixOutIdeal : Prop :=
  True

def algebraic_GradWMixOutIdeal_RefGradWMixOutIdeal [hGradWMixOutIdeal : Cert.GradWMixOutIdeal.Facts] [hRefGradWMixOutIdeal : Cert.RefGradWMixOutIdeal.Facts] : Prop :=
  ∀ (m : (ℓ : Loc Cert.GradWMixOutIdeal.nD Cert.GradWMixOutIdeal.τ Cert.GradWMixOutIdeal.sig) → Buf (Elt Ideal) ℓ) (g : Dev Cert.GradWMixOutIdeal.nD → PrngReg)
    (m' : (ℓ : Loc Cert.RefGradWMixOutIdeal.nD Cert.RefGradWMixOutIdeal.τ Cert.RefGradWMixOutIdeal.sig) → Buf (Elt Ideal) ℓ) (g' : Dev Cert.RefGradWMixOutIdeal.nD → PrngReg), Pre_GradWMixOutIdeal m →
    (∀ c : Dev Cert.GradWMixOutIdeal.nD,
      m' ((c.tc : Thread Cert.RefGradWMixOutIdeal.nD Cert.RefGradWMixOutIdeal.τ).loc Cert.RefGradWMixOutIdeal.main_arg0) = m ((c.tc : Thread Cert.GradWMixOutIdeal.nD Cert.GradWMixOutIdeal.τ).loc Cert.GradWMixOutIdeal.main_arg0)
      ∧ m' ((c.tc : Thread Cert.RefGradWMixOutIdeal.nD Cert.RefGradWMixOutIdeal.τ).loc Cert.RefGradWMixOutIdeal.main_arg1) = m ((c.tc : Thread Cert.GradWMixOutIdeal.nD Cert.GradWMixOutIdeal.τ).loc Cert.GradWMixOutIdeal.main_arg1)) →
    ∃ (v0 : (c : Dev Cert.GradWMixOutIdeal.nD) → Buf (Elt Ideal) ((c.tc : Thread Cert.GradWMixOutIdeal.nD Cert.GradWMixOutIdeal.τ).loc Cert.GradWMixOutIdeal.main_v0)),
      θ_run (Cert.GradWMixOutIdeal.defs (F := Ideal)) (onTc (τ := Cert.GradWMixOutIdeal.τ) (Cert.GradWMixOutIdeal.main (F := Ideal))) ⟨m, fun _ => 0, g⟩ (fun r => ∀ c : Dev Cert.GradWMixOutIdeal.nD,
          r.2.mem ((c.tc : Thread Cert.GradWMixOutIdeal.nD Cert.GradWMixOutIdeal.τ).loc Cert.GradWMixOutIdeal.main_v0) = v0 c
          ∧ r.2.mem ((c.tc : Thread Cert.GradWMixOutIdeal.nD Cert.GradWMixOutIdeal.τ).loc Cert.GradWMixOutIdeal.main_arg0) = m ((c.tc : Thread Cert.GradWMixOutIdeal.nD Cert.GradWMixOutIdeal.τ).loc Cert.GradWMixOutIdeal.main_arg0)
          ∧ r.2.mem ((c.tc : Thread Cert.GradWMixOutIdeal.nD Cert.GradWMixOutIdeal.τ).loc Cert.GradWMixOutIdeal.main_arg1) = m ((c.tc : Thread Cert.GradWMixOutIdeal.nD Cert.GradWMixOutIdeal.τ).loc Cert.GradWMixOutIdeal.main_arg1))
      ∧ θ_run (Cert.RefGradWMixOutIdeal.defs (F := Ideal)) (onTc (τ := Cert.RefGradWMixOutIdeal.τ) (Cert.RefGradWMixOutIdeal.main (F := Ideal))) ⟨m', fun _ => 0, g'⟩ (fun r => ∀ c : Dev Cert.RefGradWMixOutIdeal.nD,
          r.2.mem ((c.tc : Thread Cert.RefGradWMixOutIdeal.nD Cert.RefGradWMixOutIdeal.τ).loc Cert.RefGradWMixOutIdeal.main_v6) = v0 c
          ∧ r.2.mem ((c.tc : Thread Cert.RefGradWMixOutIdeal.nD Cert.RefGradWMixOutIdeal.τ).loc Cert.RefGradWMixOutIdeal.main_arg0) = m' ((c.tc : Thread Cert.RefGradWMixOutIdeal.nD Cert.RefGradWMixOutIdeal.τ).loc Cert.RefGradWMixOutIdeal.main_arg0)
          ∧ r.2.mem ((c.tc : Thread Cert.RefGradWMixOutIdeal.nD Cert.RefGradWMixOutIdeal.τ).loc Cert.RefGradWMixOutIdeal.main_arg1) = m' ((c.tc : Thread Cert.RefGradWMixOutIdeal.nD Cert.RefGradWMixOutIdeal.τ).loc Cert.RefGradWMixOutIdeal.main_arg1))

def preserves_GradHMixOut_GradHMixOutIdeal : Prop :=
  True

def algebraic_GradHMixOutIdeal_RefGradHMixOutIdeal [hGradHMixOutIdeal : Cert.GradHMixOutIdeal.Facts] [hRefGradHMixOutIdeal : Cert.RefGradHMixOutIdeal.Facts] : Prop :=
  ∀ (m : (ℓ : Loc Cert.GradHMixOutIdeal.nD Cert.GradHMixOutIdeal.τ Cert.GradHMixOutIdeal.sig) → Buf (Elt Ideal) ℓ) (g : Dev Cert.GradHMixOutIdeal.nD → PrngReg)
    (m' : (ℓ : Loc Cert.RefGradHMixOutIdeal.nD Cert.RefGradHMixOutIdeal.τ Cert.RefGradHMixOutIdeal.sig) → Buf (Elt Ideal) ℓ) (g' : Dev Cert.RefGradHMixOutIdeal.nD → PrngReg), Pre_GradHMixOutIdeal m →
    (∀ c : Dev Cert.GradHMixOutIdeal.nD,
      m' ((c.tc : Thread Cert.RefGradHMixOutIdeal.nD Cert.RefGradHMixOutIdeal.τ).loc Cert.RefGradHMixOutIdeal.main_arg0) = m ((c.tc : Thread Cert.GradHMixOutIdeal.nD Cert.GradHMixOutIdeal.τ).loc Cert.GradHMixOutIdeal.main_arg0)
      ∧ m' ((c.tc : Thread Cert.RefGradHMixOutIdeal.nD Cert.RefGradHMixOutIdeal.τ).loc Cert.RefGradHMixOutIdeal.main_arg1) = m ((c.tc : Thread Cert.GradHMixOutIdeal.nD Cert.GradHMixOutIdeal.τ).loc Cert.GradHMixOutIdeal.main_arg1)) →
    ∃ (v0 : (c : Dev Cert.GradHMixOutIdeal.nD) → Buf (Elt Ideal) ((c.tc : Thread Cert.GradHMixOutIdeal.nD Cert.GradHMixOutIdeal.τ).loc Cert.GradHMixOutIdeal.main_v0)),
      θ_run (Cert.GradHMixOutIdeal.defs (F := Ideal)) (onTc (τ := Cert.GradHMixOutIdeal.τ) (Cert.GradHMixOutIdeal.main (F := Ideal))) ⟨m, fun _ => 0, g⟩ (fun r => ∀ c : Dev Cert.GradHMixOutIdeal.nD,
          r.2.mem ((c.tc : Thread Cert.GradHMixOutIdeal.nD Cert.GradHMixOutIdeal.τ).loc Cert.GradHMixOutIdeal.main_v0) = v0 c
          ∧ r.2.mem ((c.tc : Thread Cert.GradHMixOutIdeal.nD Cert.GradHMixOutIdeal.τ).loc Cert.GradHMixOutIdeal.main_arg0) = m ((c.tc : Thread Cert.GradHMixOutIdeal.nD Cert.GradHMixOutIdeal.τ).loc Cert.GradHMixOutIdeal.main_arg0)
          ∧ r.2.mem ((c.tc : Thread Cert.GradHMixOutIdeal.nD Cert.GradHMixOutIdeal.τ).loc Cert.GradHMixOutIdeal.main_arg1) = m ((c.tc : Thread Cert.GradHMixOutIdeal.nD Cert.GradHMixOutIdeal.τ).loc Cert.GradHMixOutIdeal.main_arg1))
      ∧ θ_run (Cert.RefGradHMixOutIdeal.defs (F := Ideal)) (onTc (τ := Cert.RefGradHMixOutIdeal.τ) (Cert.RefGradHMixOutIdeal.main (F := Ideal))) ⟨m', fun _ => 0, g'⟩ (fun r => ∀ c : Dev Cert.RefGradHMixOutIdeal.nD,
          r.2.mem ((c.tc : Thread Cert.RefGradHMixOutIdeal.nD Cert.RefGradHMixOutIdeal.τ).loc Cert.RefGradHMixOutIdeal.main_v5) = v0 c
          ∧ r.2.mem ((c.tc : Thread Cert.RefGradHMixOutIdeal.nD Cert.RefGradHMixOutIdeal.τ).loc Cert.RefGradHMixOutIdeal.main_arg0) = m' ((c.tc : Thread Cert.RefGradHMixOutIdeal.nD Cert.RefGradHMixOutIdeal.τ).loc Cert.RefGradHMixOutIdeal.main_arg0)
          ∧ r.2.mem ((c.tc : Thread Cert.RefGradHMixOutIdeal.nD Cert.RefGradHMixOutIdeal.τ).loc Cert.RefGradHMixOutIdeal.main_arg1) = m' ((c.tc : Thread Cert.RefGradHMixOutIdeal.nD Cert.RefGradHMixOutIdeal.τ).loc Cert.RefGradHMixOutIdeal.main_arg1))

def preserves_MixOut_MixOutIdeal : Prop :=
  True

def algebraic_MixOutIdeal_RefMixOutIdeal [hMixOutIdeal : Cert.MixOutIdeal.Facts] [hRefMixOutIdeal : Cert.RefMixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.RefMixOutIdeal.nD Cert.RefMixOutIdeal.τ Cert.RefMixOutIdeal.sig) → Buf (Elt Ideal) ℓ) (g' : Dev Cert.RefMixOutIdeal.nD → PrngReg), Pre_MixOutIdeal m →
    (∀ c : Dev Cert.MixOutIdeal.nD,
      m' ((c.tc : Thread Cert.RefMixOutIdeal.nD Cert.RefMixOutIdeal.τ).loc Cert.RefMixOutIdeal.main_arg0) = m ((c.tc : Thread Cert.MixOutIdeal.nD Cert.MixOutIdeal.τ).loc Cert.MixOutIdeal.main_arg0)
      ∧ m' ((c.tc : Thread Cert.RefMixOutIdeal.nD Cert.RefMixOutIdeal.τ).loc Cert.RefMixOutIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.RefMixOutIdeal.defs (F := Ideal)) (onTc (τ := Cert.RefMixOutIdeal.τ) (Cert.RefMixOutIdeal.main (F := Ideal))) ⟨m', fun _ => 0, g'⟩ (fun r => ∀ c : Dev Cert.RefMixOutIdeal.nD,
          r.2.mem ((c.tc : Thread Cert.RefMixOutIdeal.nD Cert.RefMixOutIdeal.τ).loc Cert.RefMixOutIdeal.main_v2) = v0 c
          ∧ r.2.mem ((c.tc : Thread Cert.RefMixOutIdeal.nD Cert.RefMixOutIdeal.τ).loc Cert.RefMixOutIdeal.main_arg0) = m' ((c.tc : Thread Cert.RefMixOutIdeal.nD Cert.RefMixOutIdeal.τ).loc Cert.RefMixOutIdeal.main_arg0)
          ∧ r.2.mem ((c.tc : Thread Cert.RefMixOutIdeal.nD Cert.RefMixOutIdeal.τ).loc Cert.RefMixOutIdeal.main_arg1) = m' ((c.tc : Thread Cert.RefMixOutIdeal.nD Cert.RefMixOutIdeal.τ).loc Cert.RefMixOutIdeal.main_arg1))

def preserves_ConvOut_ConvOutIdeal : Prop :=
  True

def algebraic_ConvOutIdeal_RefConvOutIdeal [hConvOutIdeal : Cert.ConvOutIdeal.Facts] [hRefConvOutIdeal : Cert.RefConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.RefConvOutIdeal.nD Cert.RefConvOutIdeal.τ Cert.RefConvOutIdeal.sig) → Buf (Elt Ideal) ℓ) (g' : Dev Cert.RefConvOutIdeal.nD → PrngReg), Pre_ConvOutIdeal m →
    (∀ c : Dev Cert.ConvOutIdeal.nD,
      m' ((c.tc : Thread Cert.RefConvOutIdeal.nD Cert.RefConvOutIdeal.τ).loc Cert.RefConvOutIdeal.main_arg0) = m ((c.tc : Thread Cert.ConvOutIdeal.nD Cert.ConvOutIdeal.τ).loc Cert.ConvOutIdeal.main_arg0)
      ∧ m' ((c.tc : Thread Cert.RefConvOutIdeal.nD Cert.RefConvOutIdeal.τ).loc Cert.RefConvOutIdeal.main_arg1) = m ((c.tc : Thread Cert.ConvOutIdeal.nD Cert.ConvOutIdeal.τ).loc Cert.ConvOutIdeal.main_arg1)
      ∧ m' ((c.tc : Thread Cert.RefConvOutIdeal.nD Cert.RefConvOutIdeal.τ).loc Cert.RefConvOutIdeal.main_arg2) = m ((c.tc : Thread Cert.ConvOutIdeal.nD Cert.ConvOutIdeal.τ).loc Cert.ConvOutIdeal.main_arg2)) →
    ∃ (v0 : (c : Dev Cert.ConvOutIdeal.nD) → Buf (Elt Ideal) ((c.tc : Thread Cert.ConvOutIdeal.nD Cert.ConvOutIdeal.τ).loc Cert.ConvOutIdeal.main_v0)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v0) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
          ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2))
      ∧ θ_run (Cert.RefConvOutIdeal.defs (F := Ideal)) (onTc (τ := Cert.RefConvOutIdeal.τ) (Cert.RefConvOutIdeal.main (F := Ideal))) ⟨m', fun _ => 0, g'⟩ (fun r => ∀ c : Dev Cert.RefConvOutIdeal.nD,
          r.2.mem ((c.tc : Thread Cert.RefConvOutIdeal.nD Cert.RefConvOutIdeal.τ).loc Cert.RefConvOutIdeal.main_v4) = v0 c
          ∧ r.2.mem ((c.tc : Thread Cert.RefConvOutIdeal.nD Cert.RefConvOutIdeal.τ).loc Cert.RefConvOutIdeal.main_arg0) = m' ((c.tc : Thread Cert.RefConvOutIdeal.nD Cert.RefConvOutIdeal.τ).loc Cert.RefConvOutIdeal.main_arg0)
          ∧ r.2.mem ((c.tc : Thread Cert.RefConvOutIdeal.nD Cert.RefConvOutIdeal.τ).loc Cert.RefConvOutIdeal.main_arg1) = m' ((c.tc : Thread Cert.RefConvOutIdeal.nD Cert.RefConvOutIdeal.τ).loc Cert.RefConvOutIdeal.main_arg1)
          ∧ r.2.mem ((c.tc : Thread Cert.RefConvOutIdeal.nD Cert.RefConvOutIdeal.τ).loc Cert.RefConvOutIdeal.main_arg2) = m' ((c.tc : Thread Cert.RefConvOutIdeal.nD Cert.RefConvOutIdeal.τ).loc Cert.RefConvOutIdeal.main_arg2))

def preserves_ProjDt_ProjDtIdeal : Prop :=
  True

def algebraic_ProjDtIdeal_RefProjDtIdeal [hProjDtIdeal : Cert.ProjDtIdeal.Facts] [hRefProjDtIdeal : Cert.RefProjDtIdeal.Facts] : Prop :=
  ∀ (m : (ℓ : Loc Cert.ProjDtIdeal.nD Cert.ProjDtIdeal.τ Cert.ProjDtIdeal.sig) → Buf (Elt Ideal) ℓ) (g : Dev Cert.ProjDtIdeal.nD → PrngReg)
    (m' : (ℓ : Loc Cert.RefProjDtIdeal.nD Cert.RefProjDtIdeal.τ Cert.RefProjDtIdeal.sig) → Buf (Elt Ideal) ℓ) (g' : Dev Cert.RefProjDtIdeal.nD → PrngReg), Pre_ProjDtIdeal m →
    (∀ c : Dev Cert.ProjDtIdeal.nD,
      m' ((c.tc : Thread Cert.RefProjDtIdeal.nD Cert.RefProjDtIdeal.τ).loc Cert.RefProjDtIdeal.main_arg0) = m ((c.tc : Thread Cert.ProjDtIdeal.nD Cert.ProjDtIdeal.τ).loc Cert.ProjDtIdeal.main_arg0)
      ∧ m' ((c.tc : Thread Cert.RefProjDtIdeal.nD Cert.RefProjDtIdeal.τ).loc Cert.RefProjDtIdeal.main_arg1) = m ((c.tc : Thread Cert.ProjDtIdeal.nD Cert.ProjDtIdeal.τ).loc Cert.ProjDtIdeal.main_arg1)) →
    ∃ (v0 : (c : Dev Cert.ProjDtIdeal.nD) → Buf (Elt Ideal) ((c.tc : Thread Cert.ProjDtIdeal.nD Cert.ProjDtIdeal.τ).loc Cert.ProjDtIdeal.main_v0)),
      θ_run (Cert.ProjDtIdeal.defs (F := Ideal)) (onTc (τ := Cert.ProjDtIdeal.τ) (Cert.ProjDtIdeal.main (F := Ideal))) ⟨m, fun _ => 0, g⟩ (fun r => ∀ c : Dev Cert.ProjDtIdeal.nD,
          r.2.mem ((c.tc : Thread Cert.ProjDtIdeal.nD Cert.ProjDtIdeal.τ).loc Cert.ProjDtIdeal.main_v0) = v0 c
          ∧ r.2.mem ((c.tc : Thread Cert.ProjDtIdeal.nD Cert.ProjDtIdeal.τ).loc Cert.ProjDtIdeal.main_arg0) = m ((c.tc : Thread Cert.ProjDtIdeal.nD Cert.ProjDtIdeal.τ).loc Cert.ProjDtIdeal.main_arg0)
          ∧ r.2.mem ((c.tc : Thread Cert.ProjDtIdeal.nD Cert.ProjDtIdeal.τ).loc Cert.ProjDtIdeal.main_arg1) = m ((c.tc : Thread Cert.ProjDtIdeal.nD Cert.ProjDtIdeal.τ).loc Cert.ProjDtIdeal.main_arg1))
      ∧ θ_run (Cert.RefProjDtIdeal.defs (F := Ideal)) (onTc (τ := Cert.RefProjDtIdeal.τ) (Cert.RefProjDtIdeal.main (F := Ideal))) ⟨m', fun _ => 0, g'⟩ (fun r => ∀ c : Dev Cert.RefProjDtIdeal.nD,
          r.2.mem ((c.tc : Thread Cert.RefProjDtIdeal.nD Cert.RefProjDtIdeal.τ).loc Cert.RefProjDtIdeal.main_v4) = v0 c
          ∧ r.2.mem ((c.tc : Thread Cert.RefProjDtIdeal.nD Cert.RefProjDtIdeal.τ).loc Cert.RefProjDtIdeal.main_arg0) = m' ((c.tc : Thread Cert.RefProjDtIdeal.nD Cert.RefProjDtIdeal.τ).loc Cert.RefProjDtIdeal.main_arg0)
          ∧ r.2.mem ((c.tc : Thread Cert.RefProjDtIdeal.nD Cert.RefProjDtIdeal.τ).loc Cert.RefProjDtIdeal.main_arg1) = m' ((c.tc : Thread Cert.RefProjDtIdeal.nD Cert.RefProjDtIdeal.τ).loc Cert.RefProjDtIdeal.main_arg1))

def Claim : Prop :=
  ∃ (hKernel : Cert.Kernel.Facts) (hKernelIdeal : Cert.KernelIdeal.Facts) (hReferenceIdeal : Cert.ReferenceIdeal.Facts) (hGradWGateUp : Cert.GradWGateUp.Facts) (hGradWGateUpIdeal : Cert.GradWGateUpIdeal.Facts) (hRefGradWGateUpIdeal : Cert.RefGradWGateUpIdeal.Facts) (hGradHGateUp : Cert.GradHGateUp.Facts) (hGradHGateUpIdeal : Cert.GradHGateUpIdeal.Facts) (hRefGradHGateUpIdeal : Cert.RefGradHGateUpIdeal.Facts) (hGateUp : Cert.GateUp.Facts) (hGateUpIdeal : Cert.GateUpIdeal.Facts) (hRefGateUpIdeal : Cert.RefGateUpIdeal.Facts) (hGradWDown : Cert.GradWDown.Facts) (hGradWDownIdeal : Cert.GradWDownIdeal.Facts) (hRefGradWDownIdeal : Cert.RefGradWDownIdeal.Facts) (hGradHDown : Cert.GradHDown.Facts) (hGradHDownIdeal : Cert.GradHDownIdeal.Facts) (hRefGradHDownIdeal : Cert.RefGradHDownIdeal.Facts) (hDown : Cert.Down.Facts) (hDownIdeal : Cert.DownIdeal.Facts) (hRefDownIdeal : Cert.RefDownIdeal.Facts) (hProjZ : Cert.ProjZ.Facts) (hProjZIdeal : Cert.ProjZIdeal.Facts) (hRefProjZIdeal : Cert.RefProjZIdeal.Facts) (hProjXbc : Cert.ProjXbc.Facts) (hProjXbcIdeal : Cert.ProjXbcIdeal.Facts) (hRefProjXbcIdeal : Cert.RefProjXbcIdeal.Facts) (hProjGlu : Cert.ProjGlu.Facts) (hProjGluIdeal : Cert.ProjGluIdeal.Facts) (hRefProjGluIdeal : Cert.RefProjGluIdeal.Facts) (hProjGate : Cert.ProjGate.Facts) (hProjGateIdeal : Cert.ProjGateIdeal.Facts) (hRefProjGateIdeal : Cert.RefProjGateIdeal.Facts) (hGradWSsmOut : Cert.GradWSsmOut.Facts) (hGradWSsmOutIdeal : Cert.GradWSsmOutIdeal.Facts) (hRefGradWSsmOutIdeal : Cert.RefGradWSsmOutIdeal.Facts) (hGradHSsmOut : Cert.GradHSsmOut.Facts) (hGradHSsmOutIdeal : Cert.GradHSsmOutIdeal.Facts) (hRefGradHSsmOutIdeal : Cert.RefGradHSsmOutIdeal.Facts) (hSsmOut : Cert.SsmOut.Facts) (hSsmOutIdeal : Cert.SsmOutIdeal.Facts) (hRefSsmOutIdeal : Cert.RefSsmOutIdeal.Facts) (hGradWMixOut : Cert.GradWMixOut.Facts) (hGradWMixOutIdeal : Cert.GradWMixOutIdeal.Facts) (hRefGradWMixOutIdeal : Cert.RefGradWMixOutIdeal.Facts) (hGradHMixOut : Cert.GradHMixOut.Facts) (hGradHMixOutIdeal : Cert.GradHMixOutIdeal.Facts) (hRefGradHMixOutIdeal : Cert.RefGradHMixOutIdeal.Facts) (hMixOut : Cert.MixOut.Facts) (hMixOutIdeal : Cert.MixOutIdeal.Facts) (hRefMixOutIdeal : Cert.RefMixOutIdeal.Facts) (hConvOut : Cert.ConvOut.Facts) (hConvOutIdeal : Cert.ConvOutIdeal.Facts) (hRefConvOutIdeal : Cert.RefConvOutIdeal.Facts) (hProjDt : Cert.ProjDt.Facts) (hProjDtIdeal : Cert.ProjDtIdeal.Facts) (hRefProjDtIdeal : Cert.RefProjDtIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GradWGateUp (hGradWGateUp := hGradWGateUp)
    ∧ quiescent_GradWGateUpIdeal (hGradWGateUpIdeal := hGradWGateUpIdeal)
    ∧ quiescent_RefGradWGateUpIdeal (hRefGradWGateUpIdeal := hRefGradWGateUpIdeal)
    ∧ quiescent_GradHGateUp (hGradHGateUp := hGradHGateUp)
    ∧ quiescent_GradHGateUpIdeal (hGradHGateUpIdeal := hGradHGateUpIdeal)
    ∧ quiescent_RefGradHGateUpIdeal (hRefGradHGateUpIdeal := hRefGradHGateUpIdeal)
    ∧ quiescent_GateUp (hGateUp := hGateUp)
    ∧ quiescent_GateUpIdeal (hGateUpIdeal := hGateUpIdeal)
    ∧ quiescent_RefGateUpIdeal (hRefGateUpIdeal := hRefGateUpIdeal)
    ∧ quiescent_GradWDown (hGradWDown := hGradWDown)
    ∧ quiescent_GradWDownIdeal (hGradWDownIdeal := hGradWDownIdeal)
    ∧ quiescent_RefGradWDownIdeal (hRefGradWDownIdeal := hRefGradWDownIdeal)
    ∧ quiescent_GradHDown (hGradHDown := hGradHDown)
    ∧ quiescent_GradHDownIdeal (hGradHDownIdeal := hGradHDownIdeal)
    ∧ quiescent_RefGradHDownIdeal (hRefGradHDownIdeal := hRefGradHDownIdeal)
    ∧ quiescent_Down (hDown := hDown)
    ∧ quiescent_DownIdeal (hDownIdeal := hDownIdeal)
    ∧ quiescent_RefDownIdeal (hRefDownIdeal := hRefDownIdeal)
    ∧ quiescent_ProjZ (hProjZ := hProjZ)
    ∧ quiescent_ProjZIdeal (hProjZIdeal := hProjZIdeal)
    ∧ quiescent_RefProjZIdeal (hRefProjZIdeal := hRefProjZIdeal)
    ∧ quiescent_ProjXbc (hProjXbc := hProjXbc)
    ∧ quiescent_ProjXbcIdeal (hProjXbcIdeal := hProjXbcIdeal)
    ∧ quiescent_RefProjXbcIdeal (hRefProjXbcIdeal := hRefProjXbcIdeal)
    ∧ quiescent_ProjGlu (hProjGlu := hProjGlu)
    ∧ quiescent_ProjGluIdeal (hProjGluIdeal := hProjGluIdeal)
    ∧ quiescent_RefProjGluIdeal (hRefProjGluIdeal := hRefProjGluIdeal)
    ∧ quiescent_ProjGate (hProjGate := hProjGate)
    ∧ quiescent_ProjGateIdeal (hProjGateIdeal := hProjGateIdeal)
    ∧ quiescent_RefProjGateIdeal (hRefProjGateIdeal := hRefProjGateIdeal)
    ∧ quiescent_GradWSsmOut (hGradWSsmOut := hGradWSsmOut)
    ∧ quiescent_GradWSsmOutIdeal (hGradWSsmOutIdeal := hGradWSsmOutIdeal)
    ∧ quiescent_RefGradWSsmOutIdeal (hRefGradWSsmOutIdeal := hRefGradWSsmOutIdeal)
    ∧ quiescent_GradHSsmOut (hGradHSsmOut := hGradHSsmOut)
    ∧ quiescent_GradHSsmOutIdeal (hGradHSsmOutIdeal := hGradHSsmOutIdeal)
    ∧ quiescent_RefGradHSsmOutIdeal (hRefGradHSsmOutIdeal := hRefGradHSsmOutIdeal)
    ∧ quiescent_SsmOut (hSsmOut := hSsmOut)
    ∧ quiescent_SsmOutIdeal (hSsmOutIdeal := hSsmOutIdeal)
    ∧ quiescent_RefSsmOutIdeal (hRefSsmOutIdeal := hRefSsmOutIdeal)
    ∧ quiescent_GradWMixOut (hGradWMixOut := hGradWMixOut)
    ∧ quiescent_GradWMixOutIdeal (hGradWMixOutIdeal := hGradWMixOutIdeal)
    ∧ quiescent_RefGradWMixOutIdeal (hRefGradWMixOutIdeal := hRefGradWMixOutIdeal)
    ∧ quiescent_GradHMixOut (hGradHMixOut := hGradHMixOut)
    ∧ quiescent_GradHMixOutIdeal (hGradHMixOutIdeal := hGradHMixOutIdeal)
    ∧ quiescent_RefGradHMixOutIdeal (hRefGradHMixOutIdeal := hRefGradHMixOutIdeal)
    ∧ quiescent_MixOut (hMixOut := hMixOut)
    ∧ quiescent_MixOutIdeal (hMixOutIdeal := hMixOutIdeal)
    ∧ quiescent_RefMixOutIdeal (hRefMixOutIdeal := hRefMixOutIdeal)
    ∧ quiescent_ConvOut (hConvOut := hConvOut)
    ∧ quiescent_ConvOutIdeal (hConvOutIdeal := hConvOutIdeal)
    ∧ quiescent_RefConvOutIdeal (hRefConvOutIdeal := hRefConvOutIdeal)
    ∧ quiescent_ProjDt (hProjDt := hProjDt)
    ∧ quiescent_ProjDtIdeal (hProjDtIdeal := hProjDtIdeal)
    ∧ quiescent_RefProjDtIdeal (hRefProjDtIdeal := hRefProjDtIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GradWGateUp_GradWGateUpIdeal
    ∧ algebraic_GradWGateUpIdeal_RefGradWGateUpIdeal (hGradWGateUpIdeal := hGradWGateUpIdeal) (hRefGradWGateUpIdeal := hRefGradWGateUpIdeal)
    ∧ preserves_GradHGateUp_GradHGateUpIdeal
    ∧ algebraic_GradHGateUpIdeal_RefGradHGateUpIdeal (hGradHGateUpIdeal := hGradHGateUpIdeal) (hRefGradHGateUpIdeal := hRefGradHGateUpIdeal)
    ∧ preserves_GateUp_GateUpIdeal
    ∧ algebraic_GateUpIdeal_RefGateUpIdeal (hGateUpIdeal := hGateUpIdeal) (hRefGateUpIdeal := hRefGateUpIdeal)
    ∧ preserves_GradWDown_GradWDownIdeal
    ∧ algebraic_GradWDownIdeal_RefGradWDownIdeal (hGradWDownIdeal := hGradWDownIdeal) (hRefGradWDownIdeal := hRefGradWDownIdeal)
    ∧ preserves_GradHDown_GradHDownIdeal
    ∧ algebraic_GradHDownIdeal_RefGradHDownIdeal (hGradHDownIdeal := hGradHDownIdeal) (hRefGradHDownIdeal := hRefGradHDownIdeal)
    ∧ preserves_Down_DownIdeal
    ∧ algebraic_DownIdeal_RefDownIdeal (hDownIdeal := hDownIdeal) (hRefDownIdeal := hRefDownIdeal)
    ∧ preserves_ProjZ_ProjZIdeal
    ∧ algebraic_ProjZIdeal_RefProjZIdeal (hProjZIdeal := hProjZIdeal) (hRefProjZIdeal := hRefProjZIdeal)
    ∧ preserves_ProjXbc_ProjXbcIdeal
    ∧ algebraic_ProjXbcIdeal_RefProjXbcIdeal (hProjXbcIdeal := hProjXbcIdeal) (hRefProjXbcIdeal := hRefProjXbcIdeal)
    ∧ preserves_ProjGlu_ProjGluIdeal
    ∧ algebraic_ProjGluIdeal_RefProjGluIdeal (hProjGluIdeal := hProjGluIdeal) (hRefProjGluIdeal := hRefProjGluIdeal)
    ∧ preserves_ProjGate_ProjGateIdeal
    ∧ algebraic_ProjGateIdeal_RefProjGateIdeal (hProjGateIdeal := hProjGateIdeal) (hRefProjGateIdeal := hRefProjGateIdeal)
    ∧ preserves_GradWSsmOut_GradWSsmOutIdeal
    ∧ algebraic_GradWSsmOutIdeal_RefGradWSsmOutIdeal (hGradWSsmOutIdeal := hGradWSsmOutIdeal) (hRefGradWSsmOutIdeal := hRefGradWSsmOutIdeal)
    ∧ preserves_GradHSsmOut_GradHSsmOutIdeal
    ∧ algebraic_GradHSsmOutIdeal_RefGradHSsmOutIdeal (hGradHSsmOutIdeal := hGradHSsmOutIdeal) (hRefGradHSsmOutIdeal := hRefGradHSsmOutIdeal)
    ∧ preserves_SsmOut_SsmOutIdeal
    ∧ algebraic_SsmOutIdeal_RefSsmOutIdeal (hSsmOutIdeal := hSsmOutIdeal) (hRefSsmOutIdeal := hRefSsmOutIdeal)
    ∧ preserves_GradWMixOut_GradWMixOutIdeal
    ∧ algebraic_GradWMixOutIdeal_RefGradWMixOutIdeal (hGradWMixOutIdeal := hGradWMixOutIdeal) (hRefGradWMixOutIdeal := hRefGradWMixOutIdeal)
    ∧ preserves_GradHMixOut_GradHMixOutIdeal
    ∧ algebraic_GradHMixOutIdeal_RefGradHMixOutIdeal (hGradHMixOutIdeal := hGradHMixOutIdeal) (hRefGradHMixOutIdeal := hRefGradHMixOutIdeal)
    ∧ preserves_MixOut_MixOutIdeal
    ∧ algebraic_MixOutIdeal_RefMixOutIdeal (hMixOutIdeal := hMixOutIdeal) (hRefMixOutIdeal := hRefMixOutIdeal)
    ∧ preserves_ConvOut_ConvOutIdeal
    ∧ algebraic_ConvOutIdeal_RefConvOutIdeal (hConvOutIdeal := hConvOutIdeal) (hRefConvOutIdeal := hRefConvOutIdeal)
    ∧ preserves_ProjDt_ProjDtIdeal
    ∧ algebraic_ProjDtIdeal_RefProjDtIdeal (hProjDtIdeal := hProjDtIdeal) (hRefProjDtIdeal := hRefProjDtIdeal)
-- ==== Pre_finite.lean ====
abbrev S8192x6144 : Shape := ⟨2, ![8192, 6144]⟩
abbrev S8192x4096 : Shape := ⟨2, ![8192, 4096]⟩
abbrev S8192x128 : Shape := ⟨2, ![8192, 128]⟩
abbrev S128 : Shape := ⟨1, ![128]⟩
abbrev S_ : Shape := ⟨0, ![]⟩

class Facts : Prop where
  bitsLt_bf16_f32 : FTy.bits .bf16 < FTy.bits .f32
  bcast_S_S8192x6144 : S_.BroadcastsInDim S8192x6144 (![] : Fin 0 → Fin S8192x6144.rank)
  bcast_S_S8192x4096 : S_.BroadcastsInDim S8192x4096 (![] : Fin 0 → Fin S8192x4096.rank)
  bcast_S_S8192x128 : S_.BroadcastsInDim S8192x128 (![] : Fin 0 → Fin S8192x128.rank)
  bcast_S_S128 : S_.BroadcastsInDim S128 (![] : Fin 0 → Fin S128.rank)

variable [Facts]

def fn {F : FTy → Type} [FloatOps F] (main_arg0 : FVec F S8192x6144 .bf16) (main_arg1 : FVec F S8192x4096 .bf16) (main_arg2 : FVec F S8192x128 .f32) (main_arg3 : FVec F S128 .f32) (main_arg4 : FVec F S128 .f32) : IVec S8192x6144 1 × IVec S8192x4096 1 × IVec S8192x128 1 × IVec S128 1 × IVec S128 1 :=
  let main_v0 : FVec F S8192x6144 .f32 := (extf .f32 · bitsLt_bf16_f32) main_arg0
  let main_v1 : FVec F S8192x6144 .f32 := Host.absf main_v0
  let main_cst : FVec F S_ .f32 := constant S_ .f32 0x7F800000#32
  let main_v2 : FVec F S8192x6144 .f32 := broadcastInDim S8192x6144 ![] bcast_S_S8192x6144 main_cst
  let main_v3 : IVec S8192x6144 1 := cmpf .olt main_v1 main_v2
  let main_v4 : FVec F S8192x4096 .f32 := (extf .f32 · bitsLt_bf16_f32) main_arg1
  let main_v5 : FVec F S8192x4096 .f32 := Host.absf main_v4
  let main_cst_0 : FVec F S_ .f32 := constant S_ .f32 0x7F800000#32
  let main_v6 : FVec F S8192x4096 .f32 := broadcastInDim S8192x4096 ![] bcast_S_S8192x4096 main_cst_0
  let main_v7 : IVec S8192x4096 1 := cmpf .olt main_v5 main_v6
  let main_v8 : FVec F S8192x128 .f32 := Host.absf main_arg2
  let main_cst_1 : FVec F S_ .f32 := constant S_ .f32 0x7F800000#32
  let main_v9 : FVec F S8192x128 .f32 := broadcastInDim S8192x128 ![] bcast_S_S8192x128 main_cst_1
  let main_v10 : IVec S8192x128 1 := cmpf .olt main_v8 main_v9
  let main_v11 : FVec F S128 .f32 := Host.absf main_arg3
  let main_cst_2 : FVec F S_ .f32 := constant S_ .f32 0x7F800000#32
  let main_v12 : FVec F S128 .f32 := broadcastInDim S128 ![] bcast_S_S128 main_cst_2
  let main_v13 : IVec S128 1 := cmpf .olt main_v11 main_v12
  let main_v14 : FVec F S128 .f32 := Host.absf main_arg4
  let main_cst_3 : FVec F S_ .f32 := constant S_ .f32 0x7F800000#32
  let main_v15 : FVec F S128 .f32 := broadcastInDim S128 ![] bcast_S_S128 main_cst_3
  let main_v16 : IVec S128 1 := cmpf .olt main_v14 main_v15
  (main_v3, main_v7, main_v10, main_v13, main_v16)
-- ==== Kernel.lean ====
abbrev S8192x6144 : Shape := ⟨2, ![8192, 6144]⟩
abbrev S8192x4096 : Shape := ⟨2, ![8192, 4096]⟩
abbrev S8192x128 : Shape := ⟨2, ![8192, 128]⟩
abbrev S128 : Shape := ⟨1, ![128]⟩
abbrev S128x1 : Shape := ⟨2, ![128, 1]⟩
abbrev S512 : Shape := ⟨1, ![512]⟩
abbrev S512x1 : Shape := ⟨2, ![512, 1]⟩
abbrev S_ : Shape := ⟨0, ![]⟩
abbrev S1x128 : Shape := ⟨2, ![1, 128]⟩
abbrev S512x128 : Shape := ⟨2, ![512, 128]⟩
abbrev S1x512 : Shape := ⟨2, ![1, 512]⟩
abbrev S128x512 : Shape := ⟨2, ![128, 512]⟩
abbrev S1024 : Shape := ⟨1, ![1024]⟩
abbrev S1x1024 : Shape := ⟨2, ![1, 1024]⟩
abbrev S128x1024 : Shape := ⟨2, ![128, 1024]⟩
abbrev S64x128x128 : Shape := ⟨3, ![64, 128, 128]⟩
abbrev S64x128 : Shape := ⟨2, ![64, 128]⟩
abbrev S64x1x128 : Shape := ⟨3, ![64, 1, 128]⟩
abbrev S8192x1536 : Shape := ⟨2, ![8192, 1536]⟩
abbrev S8192x12x2x8x8 : Shape := ⟨5, ![8192, 12, 2, 8, 8]⟩
abbrev S8192x2x8x12x8 : Shape := ⟨5, ![8192, 2, 8, 12, 8]⟩
abbrev S8192x2x8x96 : Shape := ⟨4, ![8192, 2, 8, 96]⟩
abbrev S8192x2x8x128 : Shape := ⟨4, ![8192, 2, 8, 128]⟩
abbrev S8192x2048 : Shape := ⟨2, ![8192, 2048]⟩
abbrev S128x8192 : Shape := ⟨2, ![128, 8192]⟩
abbrev S64x8x128 : Shape := ⟨3, ![64, 8, 128]⟩
abbrev S64x8x64 : Shape := ⟨3, ![64, 8, 64]⟩
abbrev S64x8x8x8 : Shape := ⟨4, ![64, 8, 8, 8]⟩
abbrev S64x8x8x128 : Shape := ⟨4, ![64, 8, 8, 128]⟩
abbrev S64x8x64x64 : Shape := ⟨4, ![64, 8, 64, 64]⟩
abbrev S64x8x4096 : Shape := ⟨3, ![64, 8, 4096]⟩
abbrev S64x8x1024 : Shape := ⟨3, ![64, 8, 1024]⟩
abbrev S8192x1024 : Shape := ⟨2, ![8192, 1024]⟩
abbrev S8192x8x8x64 : Shape := ⟨4, ![8192, 8, 8, 64]⟩
abbrev S8192x8x128 : Shape := ⟨3, ![8192, 8, 128]⟩
abbrev S8192x64 : Shape := ⟨2, ![8192, 64]⟩
abbrev S8192x8x8 : Shape := ⟨3, ![8192, 8, 8]⟩
abbrev S8192x8x8x1 : Shape := ⟨4, ![8192, 8, 8, 1]⟩
abbrev S64x128x8x8x64 : Shape := ⟨5, ![64, 128, 8, 8, 64]⟩
abbrev S64x128x8x128 : Shape := ⟨4, ![64, 128, 8, 128]⟩
abbrev S64x128x8x8 : Shape := ⟨4, ![64, 128, 8, 8]⟩
abbrev S8x8x64x128 : Shape := ⟨4, ![8, 8, 64, 128]⟩
abbrev S8x8x64x1 : Shape := ⟨4, ![8, 8, 64, 1]⟩
abbrev S64x128x8x8x1 : Shape := ⟨5, ![64, 128, 8, 8, 1]⟩
abbrev S64x8x8x64x128 : Shape := ⟨5, ![64, 8, 8, 64, 128]⟩
abbrev S8x8x64 : Shape := ⟨3, ![8, 8, 64]⟩
abbrev S8x8x1x64 : Shape := ⟨4, ![8, 8, 1, 64]⟩
abbrev S8x8x64x64 : Shape := ⟨4, ![8, 8, 64, 64]⟩
abbrev S64x64 : Shape := ⟨2, ![64, 64]⟩
abbrev S8x8x64x128x64 : Shape := ⟨5, ![8, 8, 64, 128, 64]⟩
abbrev S8x64x128x8x64 : Shape := ⟨5, ![8, 64, 128, 8, 64]⟩
abbrev S8x64x128x512 : Shape := ⟨4, ![8, 64, 128, 512]⟩
abbrev S128x4096 : Shape := ⟨2, ![128, 4096]⟩
abbrev S8x1x128x512 : Shape := ⟨4, ![8, 1, 128, 512]⟩
abbrev S1x8x1024 : Shape := ⟨3, ![1, 8, 1024]⟩
abbrev S1x8x4096 : Shape := ⟨3, ![1, 8, 4096]⟩
abbrev S8x128x512 : Shape := ⟨3, ![8, 128, 512]⟩
abbrev S128x128 : Shape := ⟨2, ![128, 128]⟩
abbrev S1x1x128x512 : Shape := ⟨4, ![1, 1, 128, 512]⟩
abbrev S1x128x512 : Shape := ⟨3, ![1, 128, 512]⟩
abbrev S1x1x512 : Shape := ⟨3, ![1, 1, 512]⟩
abbrev S1x1x128 : Shape := ⟨3, ![1, 1, 128]⟩

abbrev nBuf : Space → Nat
  | .hbm => 495
  | .vmem => 35
  | .smem => 0
  | _ => 0

abbrev hbmTy0_0 (i : Nat) : BufTy := match i % 128 with
  | 0 => ⟨S8192x6144, .bf16⟩
  | 1 => ⟨S8192x4096, .bf16⟩
  | 2 => ⟨S8192x128, .f32⟩
  | 3 => ⟨S128, .f32⟩
  | 4 => ⟨S128, .f32⟩
  | 5 => ⟨S128, .i32⟩
  | 6 => ⟨S128x1, .i32⟩
  | 7 => ⟨S512, .i32⟩
  | 8 => ⟨S512x1, .i32⟩
  | 9 => ⟨S_, .i32⟩
  | 10 => ⟨S_, .i32⟩
  | 11 => ⟨S512x1, .i32⟩
  | 12 => ⟨S512x1, .i32⟩
  | 13 => ⟨S512x1, .i32⟩
  | 14 => ⟨S_, .i32⟩
  | 15 => ⟨S512x1, .i32⟩
  | 16 => ⟨S512x1, .i1⟩
  | 17 => ⟨S512x1, .i32⟩
  | 18 => ⟨S512x1, .i32⟩
  | 19 => ⟨S_, .i32⟩
  | 20 => ⟨S512x1, .i32⟩
  | 21 => ⟨S512x1, .i1⟩
  | 22 => ⟨S512x1, .i1⟩
  | 23 => ⟨S_, .i32⟩
  | 24 => ⟨S512x1, .i32⟩
  | 25 => ⟨S512x1, .i32⟩
  | 26 => ⟨S512x1, .i32⟩
  | 27 => ⟨S128, .i32⟩
  | 28 => ⟨S1x128, .i32⟩
  | 29 => ⟨S512x128, .i32⟩
  | 30 => ⟨S512x128, .i32⟩
  | 31 => ⟨S512x128, .i1⟩
  | 32 => ⟨S512x128, .bf16⟩
  | 33 => ⟨S512, .i32⟩
  | 34 => ⟨S1x512, .i32⟩
  | 35 => ⟨S_, .i32⟩
  | 36 => ⟨S_, .i32⟩
  | 37 => ⟨S1x512, .i32⟩
  | 38 => ⟨S1x512, .i32⟩
  | 39 => ⟨S1x512, .i32⟩
  | 40 => ⟨S_, .i32⟩
  | 41 => ⟨S1x512, .i32⟩
  | 42 => ⟨S1x512, .i1⟩
  | 43 => ⟨S1x512, .i32⟩
  | 44 => ⟨S1x512, .i32⟩
  | 45 => ⟨S_, .i32⟩
  | 46 => ⟨S1x512, .i32⟩
  | 47 => ⟨S1x512, .i1⟩
  | 48 => ⟨S1x512, .i1⟩
  | 49 => ⟨S_, .i32⟩
  | 50 => ⟨S1x512, .i32⟩
  | 51 => ⟨S1x512, .i32⟩
  | 52 => ⟨S1x512, .i32⟩
  | 53 => ⟨S_, .i32⟩
  | 54 => ⟨S_, .i32⟩
  | 55 => ⟨S128x1, .i32⟩
  | 56 => ⟨S128x1, .i32⟩
  | 57 => ⟨S128x1, .i32⟩
  | 58 => ⟨S_, .i32⟩
  | 59 => ⟨S128x1, .i32⟩
  | 60 => ⟨S128x1, .i1⟩
  | 61 => ⟨S128x1, .i32⟩
  | 62 => ⟨S128x1, .i32⟩
  | 63 => ⟨S_, .i32⟩
  | 64 => ⟨S128x1, .i32⟩
  | 65 => ⟨S128x1, .i1⟩
  | 66 => ⟨S128x1, .i1⟩
  | 67 => ⟨S_, .i32⟩
  | 68 => ⟨S128x1, .i32⟩
  | 69 => ⟨S128x1, .i32⟩
  | 70 => ⟨S128x1, .i32⟩
  | 71 => ⟨S_, .i32⟩
  | 72 => ⟨S128x1, .i32⟩
  | 73 => ⟨S128x1, .i1⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S128x1, .i32⟩
  | 81 => ⟨S128x1, .i32⟩
  | 82 => ⟨S_, .i32⟩
  | 83 => ⟨S128x1, .i32⟩
  | 84 => ⟨S128x1, .i1⟩
  | 85 => ⟨S_, .i32⟩
  | 86 => ⟨S128x1, .i32⟩
  | 87 => ⟨S128x1, .i1⟩
  | 88 => ⟨S_, .i32⟩
  | 89 => ⟨S_, .i1⟩
  | 90 => ⟨S128x1, .i1⟩
  | 91 => ⟨S128x1, .i1⟩
  | 92 => ⟨S128x1, .i1⟩
  | 93 => ⟨S128x1, .i32⟩
  | 94 => ⟨S128x1, .i32⟩
  | 95 => ⟨S128x1, .i32⟩
  | 96 => ⟨S128x512, .i32⟩
  | 97 => ⟨S128x512, .i32⟩
  | 98 => ⟨S128x512, .i1⟩
  | 99 => ⟨S128x512, .i1⟩
  | 100 => ⟨S128x512, .i1⟩
  | 101 => ⟨S_, .i32⟩
  | 102 => ⟨S128x1, .i32⟩
  | 103 => ⟨S128x1, .i1⟩
  | 104 => ⟨S128x512, .i1⟩
  | 105 => ⟨S128x512, .i1⟩
  | 106 => ⟨S128x512, .bf16⟩
  | 107 => ⟨S1024, .i32⟩
  | 108 => ⟨S1x1024, .i32⟩
  | 109 => ⟨S_, .i32⟩
  | 110 => ⟨S_, .i32⟩
  | 111 => ⟨S1x1024, .i32⟩
  | 112 => ⟨S1x1024, .i32⟩
  | 113 => ⟨S1x1024, .i32⟩
  | 114 => ⟨S_, .i32⟩
  | 115 => ⟨S1x1024, .i32⟩
  | 116 => ⟨S1x1024, .i1⟩
  | 117 => ⟨S1x1024, .i32⟩
  | 118 => ⟨S1x1024, .i32⟩
  | 119 => ⟨S_, .i32⟩
  | 120 => ⟨S1x1024, .i32⟩
  | 121 => ⟨S1x1024, .i1⟩
  | 122 => ⟨S1x1024, .i1⟩
  | 123 => ⟨S_, .i32⟩
  | 124 => ⟨S1x1024, .i32⟩
  | 125 => ⟨S1x1024, .i32⟩
  | 126 => ⟨S1x1024, .i32⟩
  | 127 => ⟨S_, .i32⟩
  | _ => ⟨S8192x6144, .bf16⟩

abbrev hbmTy0_1 (i : Nat) : BufTy := match i % 128 with
  | 0 => ⟨S_, .i32⟩
  | 1 => ⟨S128x1, .i32⟩
  | 2 => ⟨S128x1, .i32⟩
  | 3 => ⟨S128x1, .i32⟩
  | 4 => ⟨S_, .i32⟩
  | 5 => ⟨S128x1, .i32⟩
  | 6 => ⟨S128x1, .i1⟩
  | 7 => ⟨S128x1, .i32⟩
  | 8 => ⟨S128x1, .i32⟩
  | 9 => ⟨S_, .i32⟩
  | 10 => ⟨S128x1, .i32⟩
  | 11 => ⟨S128x1, .i1⟩
  | 12 => ⟨S128x1, .i1⟩
  | 13 => ⟨S_, .i32⟩
  | 14 => ⟨S128x1, .i32⟩
  | 15 => ⟨S128x1, .i32⟩
  | 16 => ⟨S128x1, .i32⟩
  | 17 => ⟨S_, .i32⟩
  | 18 => ⟨S128x1, .i32⟩
  | 19 => ⟨S128x1, .i1⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S128x1, .i32⟩
  | 27 => ⟨S128x1, .i32⟩
  | 28 => ⟨S_, .i32⟩
  | 29 => ⟨S128x1, .i32⟩
  | 30 => ⟨S128x1, .i1⟩
  | 31 => ⟨S_, .i32⟩
  | 32 => ⟨S128x1, .i32⟩
  | 33 => ⟨S128x1, .i1⟩
  | 34 => ⟨S_, .i32⟩
  | 35 => ⟨S_, .i1⟩
  | 36 => ⟨S128x1, .i1⟩
  | 37 => ⟨S128x1, .i1⟩
  | 38 => ⟨S128x1, .i1⟩
  | 39 => ⟨S128x1, .i32⟩
  | 40 => ⟨S128x1, .i32⟩
  | 41 => ⟨S128x1, .i32⟩
  | 42 => ⟨S128x1024, .i32⟩
  | 43 => ⟨S128x1024, .i32⟩
  | 44 => ⟨S128x1024, .i1⟩
  | 45 => ⟨S128x1024, .i1⟩
  | 46 => ⟨S128x1024, .i1⟩
  | 47 => ⟨S_, .i32⟩
  | 48 => ⟨S128x1, .i32⟩
  | 49 => ⟨S128x1, .i1⟩
  | 50 => ⟨S128x1024, .i1⟩
  | 51 => ⟨S128x1024, .i1⟩
  | 52 => ⟨S128x1024, .bf16⟩
  | 53 => ⟨S512, .i32⟩
  | 54 => ⟨S1x512, .i32⟩
  | 55 => ⟨S_, .i32⟩
  | 56 => ⟨S_, .i32⟩
  | 57 => ⟨S1x512, .i32⟩
  | 58 => ⟨S1x512, .i32⟩
  | 59 => ⟨S1x512, .i32⟩
  | 60 => ⟨S_, .i32⟩
  | 61 => ⟨S1x512, .i32⟩
  | 62 => ⟨S1x512, .i1⟩
  | 63 => ⟨S1x512, .i32⟩
  | 64 => ⟨S1x512, .i32⟩
  | 65 => ⟨S_, .i32⟩
  | 66 => ⟨S1x512, .i32⟩
  | 67 => ⟨S1x512, .i1⟩
  | 68 => ⟨S1x512, .i1⟩
  | 69 => ⟨S_, .i32⟩
  | 70 => ⟨S1x512, .i32⟩
  | 71 => ⟨S1x512, .i32⟩
  | 72 => ⟨S1x512, .i32⟩
  | 73 => ⟨S_, .i32⟩
  | 74 => ⟨S_, .i32⟩
  | 75 => ⟨S128x1, .i32⟩
  | 76 => ⟨S128x1, .i32⟩
  | 77 => ⟨S128x1, .i32⟩
  | 78 => ⟨S_, .i32⟩
  | 79 => ⟨S128x1, .i32⟩
  | 80 => ⟨S128x1, .i1⟩
  | 81 => ⟨S128x1, .i32⟩
  | 82 => ⟨S128x1, .i32⟩
  | 83 => ⟨S_, .i32⟩
  | 84 => ⟨S128x1, .i32⟩
  | 85 => ⟨S128x1, .i1⟩
  | 86 => ⟨S128x1, .i1⟩
  | 87 => ⟨S_, .i32⟩
  | 88 => ⟨S128x1, .i32⟩
  | 89 => ⟨S128x1, .i32⟩
  | 90 => ⟨S128x1, .i32⟩
  | 91 => ⟨S_, .i32⟩
  | 92 => ⟨S128x1, .i32⟩
  | 93 => ⟨S128x1, .i1⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S128x1, .i32⟩
  | 101 => ⟨S128x1, .i32⟩
  | 102 => ⟨S_, .i32⟩
  | 103 => ⟨S128x1, .i32⟩
  | 104 => ⟨S128x1, .i1⟩
  | 105 => ⟨S_, .i32⟩
  | 106 => ⟨S128x1, .i32⟩
  | 107 => ⟨S128x1, .i1⟩
  | 108 => ⟨S_, .i32⟩
  | 109 => ⟨S_, .i1⟩
  | 110 => ⟨S128x1, .i1⟩
  | 111 => ⟨S128x1, .i1⟩
  | 112 => ⟨S128x1, .i1⟩
  | 113 => ⟨S128x1, .i32⟩
  | 114 => ⟨S128x1, .i32⟩
  | 115 => ⟨S128x1, .i32⟩
  | 116 => ⟨S128x512, .i32⟩
  | 117 => ⟨S128x512, .i32⟩
  | 118 => ⟨S128x512, .i1⟩
  | 119 => ⟨S128x512, .i1⟩
  | 120 => ⟨S128x512, .i1⟩
  | 121 => ⟨S_, .i32⟩
  | 122 => ⟨S128x1, .i32⟩
  | 123 => ⟨S128x1, .i1⟩
  | 124 => ⟨S128x512, .i1⟩
  | 125 => ⟨S128x512, .i1⟩
  | 126 => ⟨S128x512, .bf16⟩
  | 127 => ⟨S512, .i32⟩
  | _ => ⟨S8192x6144, .bf16⟩

abbrev hbmTy0_2 (i : Nat) : BufTy := match i % 128 with
  | 0 => ⟨S1x512, .i32⟩
  | 1 => ⟨S_, .i32⟩
  | 2 => ⟨S_, .i32⟩
  | 3 => ⟨S1x512, .i32⟩
  | 4 => ⟨S1x512, .i32⟩
  | 5 => ⟨S1x512, .i32⟩
  | 6 => ⟨S_, .i32⟩
  | 7 => ⟨S1x512, .i32⟩
  | 8 => ⟨S1x512, .i1⟩
  | 9 => ⟨S1x512, .i32⟩
  | 10 => ⟨S1x512, .i32⟩
  | 11 => ⟨S_, .i32⟩
  | 12 => ⟨S1x512, .i32⟩
  | 13 => ⟨S1x512, .i1⟩
  | 14 => ⟨S1x512, .i1⟩
  | 15 => ⟨S_, .i32⟩
  | 16 => ⟨S1x512, .i32⟩
  | 17 => ⟨S1x512, .i32⟩
  | 18 => ⟨S1x512, .i32⟩
  | 19 => ⟨S_, .i32⟩
  | 20 => ⟨S_, .i32⟩
  | 21 => ⟨S128x1, .i32⟩
  | 22 => ⟨S128x1, .i32⟩
  | 23 => ⟨S128x1, .i32⟩
  | 24 => ⟨S_, .i32⟩
  | 25 => ⟨S128x1, .i32⟩
  | 26 => ⟨S128x1, .i1⟩
  | 27 => ⟨S128x1, .i32⟩
  | 28 => ⟨S128x1, .i32⟩
  | 29 => ⟨S_, .i32⟩
  | 30 => ⟨S128x1, .i32⟩
  | 31 => ⟨S128x1, .i1⟩
  | 32 => ⟨S128x1, .i1⟩
  | 33 => ⟨S_, .i32⟩
  | 34 => ⟨S128x1, .i32⟩
  | 35 => ⟨S128x1, .i32⟩
  | 36 => ⟨S128x1, .i32⟩
  | 37 => ⟨S_, .i32⟩
  | 38 => ⟨S128x1, .i32⟩
  | 39 => ⟨S128x1, .i1⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S128x1, .i32⟩
  | 47 => ⟨S128x1, .i32⟩
  | 48 => ⟨S_, .i32⟩
  | 49 => ⟨S128x1, .i32⟩
  | 50 => ⟨S128x1, .i1⟩
  | 51 => ⟨S_, .i32⟩
  | 52 => ⟨S128x1, .i32⟩
  | 53 => ⟨S128x1, .i1⟩
  | 54 => ⟨S_, .i32⟩
  | 55 => ⟨S_, .i1⟩
  | 56 => ⟨S128x1, .i1⟩
  | 57 => ⟨S128x1, .i1⟩
  | 58 => ⟨S128x1, .i1⟩
  | 59 => ⟨S128x1, .i32⟩
  | 60 => ⟨S128x1, .i32⟩
  | 61 => ⟨S128x1, .i32⟩
  | 62 => ⟨S128x512, .i32⟩
  | 63 => ⟨S128x512, .i32⟩
  | 64 => ⟨S128x512, .i1⟩
  | 65 => ⟨S128x512, .i1⟩
  | 66 => ⟨S128x512, .i1⟩
  | 67 => ⟨S_, .i32⟩
  | 68 => ⟨S128x1, .i32⟩
  | 69 => ⟨S128x1, .i1⟩
  | 70 => ⟨S128x512, .i1⟩
  | 71 => ⟨S128x512, .i1⟩
  | 72 => ⟨S128x512, .bf16⟩
  | 73 => ⟨S128, .f32⟩
  | 74 => ⟨S128, .f32⟩
  | 75 => ⟨S1x128, .f32⟩
  | 76 => ⟨S8192x128, .f32⟩
  | 77 => ⟨S8192x128, .f32⟩
  | 78 => ⟨S_, .f32⟩
  | 79 => ⟨S8192x128, .f32⟩
  | 80 => ⟨S8192x128, .f32⟩
  | 81 => ⟨S8192x128, .f32⟩
  | 82 => ⟨S8192x128, .f32⟩
  | 83 => ⟨S8192x128, .f32⟩
  | 84 => ⟨S_, .f32⟩
  | 85 => ⟨S8192x128, .f32⟩
  | 86 => ⟨S8192x128, .f32⟩
  | 87 => ⟨S8192x128, .f32⟩
  | 88 => ⟨S8192x128, .f32⟩
  | 89 => ⟨S1x128, .f32⟩
  | 90 => ⟨S8192x128, .f32⟩
  | 91 => ⟨S8192x128, .f32⟩
  | 92 => ⟨S64x128x128, .f32⟩
  | 93 => ⟨S_, .f32⟩
  | 94 => ⟨S_, .f32⟩
  | 95 => ⟨S64x128x128, .f32⟩
  | 96 => ⟨S_, .f32⟩
  | 97 => ⟨S64x128, .f32⟩
  | 98 => ⟨S64x1x128, .f32⟩
  | 99 => ⟨S64x128x128, .i32⟩
  | 100 => ⟨S_, .i32⟩
  | 101 => ⟨S64x128x128, .i32⟩
  | 102 => ⟨S64x128x128, .i1⟩
  | 103 => ⟨S64x128x128, .f32⟩
  | 104 => ⟨S64x128x128, .f32⟩
  | 105 => ⟨S64x128x128, .f32⟩
  | 106 => ⟨S64x128x128, .f32⟩
  | 107 => ⟨S64x128x128, .f32⟩
  | 108 => ⟨S64x128x128, .f32⟩
  | 109 => ⟨S64x128x128, .f32⟩
  | 110 => ⟨S64x128x128, .f32⟩
  | 111 => ⟨S64x128x128, .f32⟩
  | 112 => ⟨S64x128x128, .f32⟩
  | 113 => ⟨S64x128x128, .f32⟩
  | 114 => ⟨S64x128x128, .f32⟩
  | 115 => ⟨S64x128x128, .f32⟩
  | 116 => ⟨S8192x128, .f32⟩
  | 117 => ⟨S8192x128, .f32⟩
  | 118 => ⟨S8192x128, .f32⟩
  | 119 => ⟨S8192x128, .bf16⟩
  | 120 => ⟨S8192x128, .f32⟩
  | 121 => ⟨S8192x128, .f32⟩
  | 122 => ⟨S8192x128, .bf16⟩
  | 123 => ⟨S8192x128, .f32⟩
  | 124 => ⟨S8192x128, .f32⟩
  | 125 => ⟨S8192x128, .bf16⟩
  | 126 => ⟨S8192x128, .bf16⟩
  | 127 => ⟨S8192x128, .f32⟩
  | _ => ⟨S8192x6144, .bf16⟩

abbrev hbmTy0_3 (i : Nat) : BufTy := match i % 128 with
  | 0 => ⟨S8192x128, .f32⟩
  | 1 => ⟨S8192x128, .bf16⟩
  | 2 => ⟨S8192x128, .f32⟩
  | 3 => ⟨S8192x128, .f32⟩
  | 4 => ⟨S8192x128, .bf16⟩
  | 5 => ⟨S8192x128, .bf16⟩
  | 6 => ⟨S8192x128, .f32⟩
  | 7 => ⟨S8192x128, .f32⟩
  | 8 => ⟨S8192x128, .bf16⟩
  | 9 => ⟨S8192x128, .f32⟩
  | 10 => ⟨S8192x128, .f32⟩
  | 11 => ⟨S8192x128, .bf16⟩
  | 12 => ⟨S8192x128, .bf16⟩
  | 13 => ⟨S8192x128, .f32⟩
  | 14 => ⟨S8192x128, .f32⟩
  | 15 => ⟨S8192x128, .bf16⟩
  | 16 => ⟨S8192x128, .f32⟩
  | 17 => ⟨S8192x128, .f32⟩
  | 18 => ⟨S8192x128, .bf16⟩
  | 19 => ⟨S8192x1536, .bf16⟩
  | 20 => ⟨S8192x12x2x8x8, .bf16⟩
  | 21 => ⟨S8192x2x8x12x8, .bf16⟩
  | 22 => ⟨S8192x2x8x96, .bf16⟩
  | 23 => ⟨S_, .i32⟩
  | 24 => ⟨S_, .bf16⟩
  | 25 => ⟨S8192x2x8x128, .bf16⟩
  | 26 => ⟨S8192x2048, .bf16⟩
  | 27 => ⟨S128x8192, .f32⟩
  | 28 => ⟨S64x1x128, .f32⟩
  | 29 => ⟨S64x8x128, .f32⟩
  | 30 => ⟨S64x8x64, .f32⟩
  | 31 => ⟨S64x8x8x8, .f32⟩
  | 32 => ⟨S_, .i32⟩
  | 33 => ⟨S_, .f32⟩
  | 34 => ⟨S64x8x8x128, .f32⟩
  | 35 => ⟨S64x8x64x64, .f32⟩
  | 36 => ⟨S64x8x4096, .f32⟩
  | 37 => ⟨S64x8x1024, .f32⟩
  | 38 => ⟨S8192x6144, .f32⟩
  | 39 => ⟨S8192x4096, .f32⟩
  | 40 => ⟨S8192x1024, .f32⟩
  | 41 => ⟨S8192x1024, .f32⟩
  | 42 => ⟨S8192x8x8x64, .f32⟩
  | 43 => ⟨S8192x8x128, .f32⟩
  | 44 => ⟨S8192x8x128, .f32⟩
  | 45 => ⟨S8192x64, .f32⟩
  | 46 => ⟨S8192x64, .f32⟩
  | 47 => ⟨S8192x8x8, .f32⟩
  | 48 => ⟨S8192x8x8x1, .f32⟩
  | 49 => ⟨S8192x8x8x64, .f32⟩
  | 50 => ⟨S8192x8x8x64, .f32⟩
  | 51 => ⟨S8192x8x8x64, .f32⟩
  | 52 => ⟨S8192x64, .f32⟩
  | 53 => ⟨S8192x64, .f32⟩
  | 54 => ⟨S8192x8x8, .f32⟩
  | 55 => ⟨S8192x8x8, .f32⟩
  | 56 => ⟨S8192x8x128, .f32⟩
  | 57 => ⟨S64x128x8x8x64, .f32⟩
  | 58 => ⟨S64x128x8x128, .f32⟩
  | 59 => ⟨S64x128x8x8, .f32⟩
  | 60 => ⟨S8x8x64x128, .f32⟩
  | 61 => ⟨S_, .f32⟩
  | 62 => ⟨S_, .f32⟩
  | 63 => ⟨S8x8x64x128, .f32⟩
  | 64 => ⟨S8x8x64x1, .f32⟩
  | 65 => ⟨S8x8x64x128, .f32⟩
  | 66 => ⟨S8x8x64x128, .f32⟩
  | 67 => ⟨S8x8x64x128, .f32⟩
  | 68 => ⟨S64x128x8x8, .f32⟩
  | 69 => ⟨S64x128x8x8x1, .f32⟩
  | 70 => ⟨S64x128x8x8x64, .f32⟩
  | 71 => ⟨S64x128x8x8x64, .f32⟩
  | 72 => ⟨S64x8x8x64x128, .f32⟩
  | 73 => ⟨S8x8x64x1, .f32⟩
  | 74 => ⟨S8x8x64, .f32⟩
  | 75 => ⟨S_, .f32⟩
  | 76 => ⟨S_, .f32⟩
  | 77 => ⟨S8x8x64, .f32⟩
  | 78 => ⟨S8x8x64, .f32⟩
  | 79 => ⟨S8x8x64x1, .f32⟩
  | 80 => ⟨S8x8x1x64, .f32⟩
  | 81 => ⟨S8x8x64x64, .f32⟩
  | 82 => ⟨S8x8x64x64, .f32⟩
  | 83 => ⟨S8x8x64x64, .f32⟩
  | 84 => ⟨S_, .i1⟩
  | 85 => ⟨S64x64, .i1⟩
  | 86 => ⟨S64x64, .i32⟩
  | 87 => ⟨S_, .i32⟩
  | 88 => ⟨S64x64, .i32⟩
  | 89 => ⟨S64x64, .i32⟩
  | 90 => ⟨S64x64, .i32⟩
  | 91 => ⟨S64x64, .i1⟩
  | 92 => ⟨S_, .i1⟩
  | 93 => ⟨S64x64, .i1⟩
  | 94 => ⟨S64x64, .i1⟩
  | 95 => ⟨S_, .f32⟩
  | 96 => ⟨S_, .f32⟩
  | 97 => ⟨S8x8x64x64, .i1⟩
  | 98 => ⟨S8x8x64x64, .f32⟩
  | 99 => ⟨S8x8x64x64, .f32⟩
  | 100 => ⟨S8x8x64x64, .f32⟩
  | 101 => ⟨S8x8x64x128x64, .f32⟩
  | 102 => ⟨S64x8x8x64x128, .f32⟩
  | 103 => ⟨S64x8x8x64x128, .f32⟩
  | 104 => ⟨S8x64x128x8x64, .f32⟩
  | 105 => ⟨S8x64x128x512, .f32⟩
  | 106 => ⟨S8192x4096, .bf16⟩
  | 107 => ⟨S8192x1024, .bf16⟩
  | 108 => ⟨S8192x1024, .bf16⟩
  | 109 => ⟨S8192x1024, .f32⟩
  | 110 => ⟨S8192x1024, .f32⟩
  | _ => ⟨S8192x6144, .bf16⟩

abbrev hbmTy (i : Nat) : BufTy := match i / 128 with
  | 0 => hbmTy0_0 i
  | 1 => hbmTy0_1 i
  | 2 => hbmTy0_2 i
  | 3 => hbmTy0_3 i
  | _ => ⟨S8192x6144, .bf16⟩

abbrev bufTy : (tb : Table) → Fin (tcTables nBuf tb) → BufTy
  | .hbm, ⟨i, _⟩ => hbmTy i
  | .local _ .vmem, ⟨0, _⟩ => ⟨S128x4096, .bf16⟩
  | .local _ .vmem, ⟨1, _⟩ => ⟨S128x4096, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x4096, .bf16⟩
  | .local _ .vmem, ⟨7, _⟩ => ⟨S128x4096, .bf16⟩
  | .local _ .vmem, ⟨8, _⟩ => ⟨S8x1x128x512, .f32⟩
  | .local _ .vmem, ⟨9, _⟩ => ⟨S8x1x128x512, .f32⟩
  | .local _ .vmem, ⟨10, _⟩ => ⟨S128x1024, .bf16⟩
  | .local _ .vmem, ⟨11, _⟩ => ⟨S128x1024, .bf16⟩
  | .local _ .vmem, ⟨12, _⟩ => ⟨S64x128, .f32⟩
  | .local _ .vmem, ⟨13, _⟩ => ⟨S64x128, .f32⟩
  | .local _ .vmem, ⟨14, _⟩ => ⟨S1x8x1024, .f32⟩
  | .local _ .vmem, ⟨15, _⟩ => ⟨S1x8x1024, .f32⟩
  | .local _ .vmem, ⟨16, _⟩ => ⟨S1x8x4096, .f32⟩
  | .local _ .vmem, ⟨17, _⟩ => ⟨S1x8x4096, .f32⟩
  | .local _ .vmem, ⟨18, _⟩ => ⟨S128x512, .bf16⟩
  | .local _ .vmem, ⟨19, _⟩ => ⟨S128x1024, .bf16⟩
  | .local _ .vmem, ⟨20, _⟩ => ⟨S128x512, .bf16⟩
  | .local _ .vmem, ⟨21, _⟩ => ⟨S128x512, .bf16⟩
  | .local _ .vmem, ⟨22, _⟩ => ⟨S512x128, .bf16⟩
  | .local _ .vmem, ⟨23, _⟩ => ⟨S128x4096, .bf16⟩
  | .local _ .vmem, ⟨24, _⟩ => ⟨S128x4096, .bf16⟩
  | .local _ .vmem, ⟨25, _⟩ => ⟨S128x1024, .bf16⟩
  | .local _ .vmem, ⟨26, _⟩ => ⟨S128x1024, .bf16⟩
  | .local _ .vmem, ⟨27, _⟩ => ⟨S128x1024, .bf16⟩
  | .local _ .vmem, ⟨28, _⟩ => ⟨S128x1024, .bf16⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S128x1024, .f32⟩
  | .local _ .vmem, ⟨33, _⟩ => ⟨S8x128x512, .f32⟩
  | .local _ .vmem, ⟨34, _⟩ => ⟨S128x512, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v13 : Ref sig .tc := ⟨.hbm, 52, rfl⟩
abbrev main_c_1 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v14 : Ref sig .tc := ⟨.hbm, 70, rfl⟩
abbrev main_c_2 : Ref sig .tc := ⟨.hbm, 71, rfl⟩
abbrev main_v15 : Ref sig .tc := ⟨.hbm, 72, rfl⟩
abbrev main_v16 : Ref sig .tc := ⟨.hbm, 73, rfl⟩
abbrev main_c_3 : Ref sig .tc := ⟨.hbm, 74, rfl⟩
abbrev main_call3_v0 : Ref sig .tc := ⟨.hbm, 75, rfl⟩
abbrev main_call3_c : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_c_1 : Ref sig .tc := ⟨.hbm, 82, rfl⟩
abbrev main_call3_v5 : Ref sig .tc := ⟨.hbm, 83, rfl⟩
abbrev main_call3_v6 : Ref sig .tc := ⟨.hbm, 84, rfl⟩
abbrev main_call3_c_2 : Ref sig .tc := ⟨.hbm, 85, rfl⟩
abbrev main_call3_v7 : Ref sig .tc := ⟨.hbm, 86, rfl⟩
abbrev main_call3_v8 : Ref sig .tc := ⟨.hbm, 87, rfl⟩
abbrev main_call3_c_3 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_v17 : Ref sig .tc := ⟨.hbm, 95, rfl⟩
abbrev main_v18 : Ref sig .tc := ⟨.hbm, 96, rfl⟩
abbrev main_v19 : Ref sig .tc := ⟨.hbm, 97, rfl⟩
abbrev main_v20 : Ref sig .tc := ⟨.hbm, 98, rfl⟩
abbrev main_v21 : Ref sig .tc := ⟨.hbm, 99, rfl⟩
abbrev main_v22 : Ref sig .tc := ⟨.hbm, 100, rfl⟩
abbrev main_c_4 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_c_5 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_v6 : Ref sig .tc := ⟨.hbm, 116, rfl⟩
abbrev main_call4_v7 : Ref sig .tc := ⟨.hbm, 117, rfl⟩
abbrev main_call4_v8 : Ref sig .tc := ⟨.hbm, 118, rfl⟩
abbrev main_call4_c : Ref sig .tc := ⟨.hbm, 119, rfl⟩
abbrev main_call4_v9 : Ref sig .tc := ⟨.hbm, 120, rfl⟩
abbrev main_call4_v10 : Ref sig .tc := ⟨.hbm, 121, rfl⟩
abbrev main_call4_v11 : Ref sig .tc := ⟨.hbm, 122, rfl⟩
abbrev main_call4_c_0 : Ref sig .tc := ⟨.hbm, 123, rfl⟩
abbrev main_call4_v12 : Ref sig .tc := ⟨.hbm, 124, rfl⟩
abbrev main_call4_v13 : Ref sig .tc := ⟨.hbm, 125, rfl⟩
abbrev main_v30 : Ref sig .tc := ⟨.hbm, 126, rfl⟩
abbrev main_c_6 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_call5_v5 : Ref sig .tc := ⟨.hbm, 133, rfl⟩
abbrev main_call5_v6 : Ref sig .tc := ⟨.hbm, 134, rfl⟩
abbrev main_call5_v7 : Ref sig .tc := ⟨.hbm, 135, rfl⟩
abbrev main_call5_v8 : Ref sig .tc := ⟨.hbm, 136, rfl⟩
abbrev main_call5_c : Ref sig .tc := ⟨.hbm, 137, rfl⟩
abbrev main_call5_v9 : Ref sig .tc := ⟨.hbm, 138, rfl⟩
abbrev main_call5_v10 : Ref sig .tc := ⟨.hbm, 139, rfl⟩
abbrev main_call5_v11 : Ref sig .tc := ⟨.hbm, 140, rfl⟩
abbrev main_call5_c_0 : Ref sig .tc := ⟨.hbm, 141, rfl⟩
abbrev main_call5_v12 : Ref sig .tc := ⟨.hbm, 142, rfl⟩
abbrev main_call5_v13 : Ref sig .tc := ⟨.hbm, 143, rfl⟩
abbrev main_v31 : Ref sig .tc := ⟨.hbm, 144, rfl⟩
abbrev main_c_7 : Ref sig .tc := ⟨.hbm, 145, rfl⟩
abbrev main_v32 : Ref sig .tc := ⟨.hbm, 146, rfl⟩
abbrev main_v33 : Ref sig .tc := ⟨.hbm, 147, rfl⟩
abbrev main_c_8 : Ref sig .tc := ⟨.hbm, 148, rfl⟩
abbrev main_call6_v0 : Ref sig .tc := ⟨.hbm, 149, rfl⟩
abbrev main_call6_c : Ref sig .tc := ⟨.hbm, 150, rfl⟩
abbrev main_call6_v1 : Ref sig .tc := ⟨.hbm, 151, rfl⟩
abbrev main_call6_c_0 : Ref sig .tc := ⟨.hbm, 152, rfl⟩
abbrev main_call6_v2 : Ref sig .tc := ⟨.hbm, 153, rfl⟩
abbrev main_call6_v3 : Ref sig .tc := ⟨.hbm, 154, rfl⟩
abbrev main_call6_v4 : Ref sig .tc := ⟨.hbm, 155, rfl⟩
abbrev main_call6_c_1 : Ref sig .tc := ⟨.hbm, 156, rfl⟩
abbrev main_call6_v5 : Ref sig .tc := ⟨.hbm, 157, rfl⟩
abbrev main_call6_v6 : Ref sig .tc := ⟨.hbm, 158, rfl⟩
abbrev main_call6_c_2 : Ref sig .tc := ⟨.hbm, 159, rfl⟩
abbrev main_call6_v7 : Ref sig .tc := ⟨.hbm, 160, rfl⟩
abbrev main_call6_v8 : Ref sig .tc := ⟨.hbm, 161, rfl⟩
abbrev main_call6_c_3 : Ref sig .tc := ⟨.hbm, 162, rfl⟩
abbrev main_call6_v9 : Ref sig .tc := ⟨.hbm, 163, rfl⟩
abbrev main_call6_v10 : Ref sig .tc := ⟨.hbm, 164, rfl⟩
abbrev main_call6_v11 : Ref sig .tc := ⟨.hbm, 165, rfl⟩
abbrev main_call6_v12 : Ref sig .tc := ⟨.hbm, 166, rfl⟩
abbrev main_call6_v13 : Ref sig .tc := ⟨.hbm, 167, rfl⟩
abbrev main_call6_v14 : Ref sig .tc := ⟨.hbm, 168, rfl⟩
abbrev main_v34 : Ref sig .tc := ⟨.hbm, 169, rfl⟩
abbrev main_v35 : Ref sig .tc := ⟨.hbm, 170, rfl⟩
abbrev main_v36 : Ref sig .tc := ⟨.hbm, 171, rfl⟩
abbrev main_v37 : Ref sig .tc := ⟨.hbm, 172, rfl⟩
abbrev main_v38 : Ref sig .tc := ⟨.hbm, 173, rfl⟩
abbrev main_v39 : Ref sig .tc := ⟨.hbm, 174, rfl⟩
abbrev main_c_9 : Ref sig .tc := ⟨.hbm, 175, rfl⟩
abbrev main_v40 : Ref sig .tc := ⟨.hbm, 176, rfl⟩
abbrev main_v41 : Ref sig .tc := ⟨.hbm, 177, rfl⟩
abbrev main_v42 : Ref sig .tc := ⟨.hbm, 178, rfl⟩
abbrev main_v43 : Ref sig .tc := ⟨.hbm, 179, rfl⟩
abbrev main_v44 : Ref sig .tc := ⟨.hbm, 180, rfl⟩
abbrev main_v45 : Ref sig .tc := ⟨.hbm, 181, rfl⟩
abbrev main_v46 : Ref sig .tc := ⟨.hbm, 182, rfl⟩
abbrev main_c_10 : Ref sig .tc := ⟨.hbm, 183, rfl⟩
abbrev main_call7_v0 : Ref sig .tc := ⟨.hbm, 184, rfl⟩
abbrev main_call7_v1 : Ref sig .tc := ⟨.hbm, 185, rfl⟩
abbrev main_call7_v2 : Ref sig .tc := ⟨.hbm, 186, rfl⟩
abbrev main_call7_v3 : Ref sig .tc := ⟨.hbm, 187, rfl⟩
abbrev main_call7_v4 : Ref sig .tc := ⟨.hbm, 188, rfl⟩
abbrev main_call7_v5 : Ref sig .tc := ⟨.hbm, 189, rfl⟩
abbrev main_call7_v6 : Ref sig .tc := ⟨.hbm, 190, rfl⟩
abbrev main_call7_v7 : Ref sig .tc := ⟨.hbm, 191, rfl⟩
abbrev main_call7_v8 : Ref sig .tc := ⟨.hbm, 192, rfl⟩
abbrev main_call7_c : Ref sig .tc := ⟨.hbm, 193, rfl⟩
abbrev main_call7_v9 : Ref sig .tc := ⟨.hbm, 194, rfl⟩
abbrev main_call7_v10 : Ref sig .tc := ⟨.hbm, 195, rfl⟩
abbrev main_call7_v11 : Ref sig .tc := ⟨.hbm, 196, rfl⟩
abbrev main_call7_c_0 : Ref sig .tc := ⟨.hbm, 197, rfl⟩
abbrev main_call7_v12 : Ref sig .tc := ⟨.hbm, 198, rfl⟩
abbrev main_call7_v13 : Ref sig .tc := ⟨.hbm, 199, rfl⟩
abbrev main_v47 : Ref sig .tc := ⟨.hbm, 200, rfl⟩
abbrev main_c_11 : Ref sig .tc := ⟨.hbm, 201, rfl⟩
abbrev main_call8_v0 : Ref sig .tc := ⟨.hbm, 202, rfl⟩
abbrev main_call8_v1 : Ref sig .tc := ⟨.hbm, 203, rfl⟩
abbrev main_call8_v2 : Ref sig .tc := ⟨.hbm, 204, rfl⟩
abbrev main_call8_v3 : Ref sig .tc := ⟨.hbm, 205, rfl⟩
abbrev main_call8_v4 : Ref sig .tc := ⟨.hbm, 206, rfl⟩
abbrev main_call8_v5 : Ref sig .tc := ⟨.hbm, 207, rfl⟩
abbrev main_call8_v6 : Ref sig .tc := ⟨.hbm, 208, rfl⟩
abbrev main_call8_v7 : Ref sig .tc := ⟨.hbm, 209, rfl⟩
abbrev main_call8_v8 : Ref sig .tc := ⟨.hbm, 210, rfl⟩
abbrev main_call8_c : Ref sig .tc := ⟨.hbm, 211, rfl⟩
abbrev main_call8_v9 : Ref sig .tc := ⟨.hbm, 212, rfl⟩
abbrev main_call8_v10 : Ref sig .tc := ⟨.hbm, 213, rfl⟩
abbrev main_call8_v11 : Ref sig .tc := ⟨.hbm, 214, rfl⟩
abbrev main_call8_c_0 : Ref sig .tc := ⟨.hbm, 215, rfl⟩
abbrev main_call8_v12 : Ref sig .tc := ⟨.hbm, 216, rfl⟩
abbrev main_call8_v13 : Ref sig .tc := ⟨.hbm, 217, rfl⟩
abbrev main_v48 : Ref sig .tc := ⟨.hbm, 218, rfl⟩
abbrev main_c_12 : Ref sig .tc := ⟨.hbm, 219, rfl⟩
abbrev main_v49 : Ref sig .tc := ⟨.hbm, 220, rfl⟩
abbrev main_v50 : Ref sig .tc := ⟨.hbm, 221, rfl⟩
abbrev main_c_13 : Ref sig .tc := ⟨.hbm, 222, rfl⟩
abbrev main_call9_v0 : Ref sig .tc := ⟨.hbm, 223, rfl⟩
abbrev main_call9_c : Ref sig .tc := ⟨.hbm, 224, rfl⟩
abbrev main_call9_v1 : Ref sig .tc := ⟨.hbm, 225, rfl⟩
abbrev main_call9_c_0 : Ref sig .tc := ⟨.hbm, 226, rfl⟩
abbrev main_call9_v2 : Ref sig .tc := ⟨.hbm, 227, rfl⟩
abbrev main_call9_v3 : Ref sig .tc := ⟨.hbm, 228, rfl⟩
abbrev main_call9_v4 : Ref sig .tc := ⟨.hbm, 229, rfl⟩
abbrev main_call9_c_1 : Ref sig .tc := ⟨.hbm, 230, rfl⟩
abbrev main_call9_v5 : Ref sig .tc := ⟨.hbm, 231, rfl⟩
abbrev main_call9_v6 : Ref sig .tc := ⟨.hbm, 232, rfl⟩
abbrev main_call9_c_2 : Ref sig .tc := ⟨.hbm, 233, rfl⟩
abbrev main_call9_v7 : Ref sig .tc := ⟨.hbm, 234, rfl⟩
abbrev main_call9_v8 : Ref sig .tc := ⟨.hbm, 235, rfl⟩
abbrev main_call9_c_3 : Ref sig .tc := ⟨.hbm, 236, rfl⟩
abbrev main_call9_v9 : Ref sig .tc := ⟨.hbm, 237, rfl⟩
abbrev main_call9_v10 : Ref sig .tc := ⟨.hbm, 238, rfl⟩
abbrev main_call9_v11 : Ref sig .tc := ⟨.hbm, 239, rfl⟩
abbrev main_call9_v12 : Ref sig .tc := ⟨.hbm, 240, rfl⟩
abbrev main_call9_v13 : Ref sig .tc := ⟨.hbm, 241, rfl⟩
abbrev main_call9_v14 : Ref sig .tc := ⟨.hbm, 242, rfl⟩
abbrev main_v51 : Ref sig .tc := ⟨.hbm, 243, rfl⟩
abbrev main_v52 : Ref sig .tc := ⟨.hbm, 244, rfl⟩
abbrev main_v53 : Ref sig .tc := ⟨.hbm, 245, rfl⟩
abbrev main_v54 : Ref sig .tc := ⟨.hbm, 246, rfl⟩
abbrev main_v55 : Ref sig .tc := ⟨.hbm, 247, rfl⟩
abbrev main_v56 : Ref sig .tc := ⟨.hbm, 248, rfl⟩
abbrev main_c_14 : Ref sig .tc := ⟨.hbm, 249, rfl⟩
abbrev main_v57 : Ref sig .tc := ⟨.hbm, 250, rfl⟩
abbrev main_v58 : Ref sig .tc := ⟨.hbm, 251, rfl⟩
abbrev main_v59 : Ref sig .tc := ⟨.hbm, 252, rfl⟩
abbrev main_v60 : Ref sig .tc := ⟨.hbm, 253, rfl⟩
abbrev main_v61 : Ref sig .tc := ⟨.hbm, 254, rfl⟩
abbrev main_v62 : Ref sig .tc := ⟨.hbm, 255, rfl⟩
abbrev main_v63 : Ref sig .tc := ⟨.hbm, 256, rfl⟩
abbrev main_c_15 : Ref sig .tc := ⟨.hbm, 257, rfl⟩
abbrev main_call10_v0 : Ref sig .tc := ⟨.hbm, 258, rfl⟩
abbrev main_call10_v1 : Ref sig .tc := ⟨.hbm, 259, rfl⟩
abbrev main_call10_v2 : Ref sig .tc := ⟨.hbm, 260, rfl⟩
abbrev main_call10_v3 : Ref sig .tc := ⟨.hbm, 261, rfl⟩
abbrev main_call10_v4 : Ref sig .tc := ⟨.hbm, 262, rfl⟩
abbrev main_call10_v5 : Ref sig .tc := ⟨.hbm, 263, rfl⟩
abbrev main_call10_v6 : Ref sig .tc := ⟨.hbm, 264, rfl⟩
abbrev main_call10_v7 : Ref sig .tc := ⟨.hbm, 265, rfl⟩
abbrev main_call10_v8 : Ref sig .tc := ⟨.hbm, 266, rfl⟩
abbrev main_call10_c : Ref sig .tc := ⟨.hbm, 267, rfl⟩
abbrev main_call10_v9 : Ref sig .tc := ⟨.hbm, 268, rfl⟩
abbrev main_call10_v10 : Ref sig .tc := ⟨.hbm, 269, rfl⟩
abbrev main_call10_v11 : Ref sig .tc := ⟨.hbm, 270, rfl⟩
abbrev main_call10_c_0 : Ref sig .tc := ⟨.hbm, 271, rfl⟩
abbrev main_call10_v12 : Ref sig .tc := ⟨.hbm, 272, rfl⟩
abbrev main_call10_v13 : Ref sig .tc := ⟨.hbm, 273, rfl⟩
abbrev main_v64 : Ref sig .tc := ⟨.hbm, 274, rfl⟩
abbrev main_c_16 : Ref sig .tc := ⟨.hbm, 275, rfl⟩
abbrev main_call11_v0 : Ref sig .tc := ⟨.hbm, 276, rfl⟩
abbrev main_call11_v1 : Ref sig .tc := ⟨.hbm, 277, rfl⟩
abbrev main_call11_v2 : Ref sig .tc := ⟨.hbm, 278, rfl⟩
abbrev main_call11_v3 : Ref sig .tc := ⟨.hbm, 279, rfl⟩
abbrev main_call11_v4 : Ref sig .tc := ⟨.hbm, 280, rfl⟩
abbrev main_call11_v5 : Ref sig .tc := ⟨.hbm, 281, rfl⟩
abbrev main_call11_v6 : Ref sig .tc := ⟨.hbm, 282, rfl⟩
abbrev main_call11_v7 : Ref sig .tc := ⟨.hbm, 283, rfl⟩
abbrev main_call11_v8 : Ref sig .tc := ⟨.hbm, 284, rfl⟩
abbrev main_call11_c : Ref sig .tc := ⟨.hbm, 285, rfl⟩
abbrev main_call11_v9 : Ref sig .tc := ⟨.hbm, 286, rfl⟩
abbrev main_call11_v10 : Ref sig .tc := ⟨.hbm, 287, rfl⟩
abbrev main_call11_v11 : Ref sig .tc := ⟨.hbm, 288, rfl⟩
abbrev main_call11_c_0 : Ref sig .tc := ⟨.hbm, 289, rfl⟩
abbrev main_call11_v12 : Ref sig .tc := ⟨.hbm, 290, rfl⟩
abbrev main_call11_v13 : Ref sig .tc := ⟨.hbm, 291, rfl⟩
abbrev main_v65 : Ref sig .tc := ⟨.hbm, 292, rfl⟩
abbrev main_c_17 : Ref sig .tc := ⟨.hbm, 293, rfl⟩
abbrev main_v66 : Ref sig .tc := ⟨.hbm, 294, rfl⟩
abbrev main_v67 : Ref sig .tc := ⟨.hbm, 295, rfl⟩
abbrev main_c_18 : Ref sig .tc := ⟨.hbm, 296, rfl⟩
abbrev main_call12_v0 : Ref sig .tc := ⟨.hbm, 297, rfl⟩
abbrev main_call12_c : Ref sig .tc := ⟨.hbm, 298, rfl⟩
abbrev main_call12_v1 : Ref sig .tc := ⟨.hbm, 299, rfl⟩
abbrev main_call12_c_0 : Ref sig .tc := ⟨.hbm, 300, rfl⟩
abbrev main_call12_v2 : Ref sig .tc := ⟨.hbm, 301, rfl⟩
abbrev main_call12_v3 : Ref sig .tc := ⟨.hbm, 302, rfl⟩
abbrev main_call12_v4 : Ref sig .tc := ⟨.hbm, 303, rfl⟩
abbrev main_call12_c_1 : Ref sig .tc := ⟨.hbm, 304, rfl⟩
abbrev main_call12_v5 : Ref sig .tc := ⟨.hbm, 305, rfl⟩
abbrev main_call12_v6 : Ref sig .tc := ⟨.hbm, 306, rfl⟩
abbrev main_call12_c_2 : Ref sig .tc := ⟨.hbm, 307, rfl⟩
abbrev main_call12_v7 : Ref sig .tc := ⟨.hbm, 308, rfl⟩
abbrev main_call12_v8 : Ref sig .tc := ⟨.hbm, 309, rfl⟩
abbrev main_call12_c_3 : Ref sig .tc := ⟨.hbm, 310, rfl⟩
abbrev main_call12_v9 : Ref sig .tc := ⟨.hbm, 311, rfl⟩
abbrev main_call12_v10 : Ref sig .tc := ⟨.hbm, 312, rfl⟩
abbrev main_call12_v11 : Ref sig .tc := ⟨.hbm, 313, rfl⟩
abbrev main_call12_v12 : Ref sig .tc := ⟨.hbm, 314, rfl⟩
abbrev main_call12_v13 : Ref sig .tc := ⟨.hbm, 315, rfl⟩
abbrev main_call12_v14 : Ref sig .tc := ⟨.hbm, 316, rfl⟩
abbrev main_v68 : Ref sig .tc := ⟨.hbm, 317, rfl⟩
abbrev main_v69 : Ref sig .tc := ⟨.hbm, 318, rfl⟩
abbrev main_v70 : Ref sig .tc := ⟨.hbm, 319, rfl⟩
abbrev main_v71 : Ref sig .tc := ⟨.hbm, 320, rfl⟩
abbrev main_v72 : Ref sig .tc := ⟨.hbm, 321, rfl⟩
abbrev main_v73 : Ref sig .tc := ⟨.hbm, 322, rfl⟩
abbrev main_c_19 : Ref sig .tc := ⟨.hbm, 323, rfl⟩
abbrev main_v74 : Ref sig .tc := ⟨.hbm, 324, rfl⟩
abbrev main_v75 : Ref sig .tc := ⟨.hbm, 325, rfl⟩
abbrev main_v76 : Ref sig .tc := ⟨.hbm, 326, rfl⟩
abbrev main_v77 : Ref sig .tc := ⟨.hbm, 327, rfl⟩
abbrev main_v78 : Ref sig .tc := ⟨.hbm, 328, rfl⟩
abbrev main_v79 : Ref sig .tc := ⟨.hbm, 329, rfl⟩
abbrev main_v80 : Ref sig .tc := ⟨.hbm, 330, rfl⟩
abbrev main_v81 : Ref sig .tc := ⟨.hbm, 331, rfl⟩
abbrev main_v82 : Ref sig .tc := ⟨.hbm, 332, rfl⟩
abbrev main_v83 : Ref sig .tc := ⟨.hbm, 333, rfl⟩
abbrev main_cst : Ref sig .tc := ⟨.hbm, 334, rfl⟩
abbrev main_v84 : Ref sig .tc := ⟨.hbm, 335, rfl⟩
abbrev main_v85 : Ref sig .tc := ⟨.hbm, 336, rfl⟩
abbrev main_v86 : Ref sig .tc := ⟨.hbm, 337, rfl⟩
abbrev main_v87 : Ref sig .tc := ⟨.hbm, 338, rfl⟩
abbrev main_v88 : Ref sig .tc := ⟨.hbm, 339, rfl⟩
abbrev main_cst_20 : Ref sig .tc := ⟨.hbm, 340, rfl⟩
abbrev main_v89 : Ref sig .tc := ⟨.hbm, 341, rfl⟩
abbrev main_v90 : Ref sig .tc := ⟨.hbm, 342, rfl⟩
abbrev main_v91 : Ref sig .tc := ⟨.hbm, 343, rfl⟩
abbrev main_v92 : Ref sig .tc := ⟨.hbm, 344, rfl⟩
abbrev main_v93 : Ref sig .tc := ⟨.hbm, 345, rfl⟩
abbrev main_v94 : Ref sig .tc := ⟨.hbm, 346, rfl⟩
abbrev main_v95 : Ref sig .tc := ⟨.hbm, 347, rfl⟩
abbrev main_v96 : Ref sig .tc := ⟨.hbm, 348, rfl⟩
abbrev main_call13_call0_cst : Ref sig .tc := ⟨.hbm, 349, rfl⟩
abbrev main_call13_call0_v0 : Ref sig .tc := ⟨.hbm, 350, rfl⟩
abbrev main_v97 : Ref sig .tc := ⟨.hbm, 351, rfl⟩
abbrev main_cst_21 : Ref sig .tc := ⟨.hbm, 352, rfl⟩
abbrev main_v98 : Ref sig .tc := ⟨.hbm, 353, rfl⟩
abbrev main_v99 : Ref sig .tc := ⟨.hbm, 354, rfl⟩
abbrev main_v100 : Ref sig .tc := ⟨.hbm, 355, rfl⟩
abbrev main_c_22 : Ref sig .tc := ⟨.hbm, 356, rfl⟩
abbrev main_v101 : Ref sig .tc := ⟨.hbm, 357, rfl⟩
abbrev main_v102 : Ref sig .tc := ⟨.hbm, 358, rfl⟩
abbrev main_v103 : Ref sig .tc := ⟨.hbm, 359, rfl⟩
abbrev main_v104 : Ref sig .tc := ⟨.hbm, 360, rfl⟩
abbrev main_v105 : Ref sig .tc := ⟨.hbm, 361, rfl⟩
abbrev main_v106 : Ref sig .tc := ⟨.hbm, 362, rfl⟩
abbrev main_v107 : Ref sig .tc := ⟨.hbm, 363, rfl⟩
abbrev main_v108 : Ref sig .tc := ⟨.hbm, 364, rfl⟩
abbrev main_v109 : Ref sig .tc := ⟨.hbm, 365, rfl⟩
abbrev main_v110 : Ref sig .tc := ⟨.hbm, 366, rfl⟩
abbrev main_v111 : Ref sig .tc := ⟨.hbm, 367, rfl⟩
abbrev main_v112 : Ref sig .tc := ⟨.hbm, 368, rfl⟩
abbrev main_v113 : Ref sig .tc := ⟨.hbm, 369, rfl⟩
abbrev main_v114 : Ref sig .tc := ⟨.hbm, 370, rfl⟩
abbrev main_v115 : Ref sig .tc := ⟨.hbm, 371, rfl⟩
abbrev main_v116 : Ref sig .tc := ⟨.hbm, 372, rfl⟩
abbrev main_v117 : Ref sig .tc := ⟨.hbm, 373, rfl⟩
abbrev main_v118 : Ref sig .tc := ⟨.hbm, 374, rfl⟩
abbrev main_v119 : Ref sig .tc := ⟨.hbm, 375, rfl⟩
abbrev main_v120 : Ref sig .tc := ⟨.hbm, 376, rfl⟩
abbrev main_v121 : Ref sig .tc := ⟨.hbm, 377, rfl⟩
abbrev main_v122 : Ref sig .tc := ⟨.hbm, 378, rfl⟩
abbrev main_v123 : Ref sig .tc := ⟨.hbm, 379, rfl⟩
abbrev main_v124 : Ref sig .tc := ⟨.hbm, 380, rfl⟩
abbrev main_v125 : Ref sig .tc := ⟨.hbm, 381, rfl⟩
abbrev main_v126 : Ref sig .tc := ⟨.hbm, 382, rfl⟩
abbrev main_v127 : Ref sig .tc := ⟨.hbm, 383, rfl⟩
abbrev main_v128 : Ref sig .tc := ⟨.hbm, 384, rfl⟩
abbrev main_v129 : Ref sig .tc := ⟨.hbm, 385, rfl⟩
abbrev main_v130 : Ref sig .tc := ⟨.hbm, 386, rfl⟩
abbrev main_v131 : Ref sig .tc := ⟨.hbm, 387, rfl⟩
abbrev main_v132 : Ref sig .tc := ⟨.hbm, 388, rfl⟩
abbrev main_v133 : Ref sig .tc := ⟨.hbm, 389, rfl⟩
abbrev main_v134 : Ref sig .tc := ⟨.hbm, 390, rfl⟩
abbrev main_v135 : Ref sig .tc := ⟨.hbm, 391, rfl⟩
abbrev main_v136 : Ref sig .tc := ⟨.hbm, 392, rfl⟩
abbrev main_v137 : Ref sig .tc := ⟨.hbm, 393, rfl⟩
abbrev main_v138 : Ref sig .tc := ⟨.hbm, 394, rfl⟩
abbrev main_v139 : Ref sig .tc := ⟨.hbm, 395, rfl⟩
abbrev main_v140 : Ref sig .tc := ⟨.hbm, 396, rfl⟩
abbrev main_v141 : Ref sig .tc := ⟨.hbm, 397, rfl⟩
abbrev main_v142 : Ref sig .tc := ⟨.hbm, 398, rfl⟩
abbrev main_v143 : Ref sig .tc := ⟨.hbm, 399, rfl⟩
abbrev main_v144 : Ref sig .tc := ⟨.hbm, 400, rfl⟩
abbrev main_v145 : Ref sig .tc := ⟨.hbm, 401, rfl⟩
abbrev main_v146 : Ref sig .tc := ⟨.hbm, 402, rfl⟩
abbrev main_v147 : Ref sig .tc := ⟨.hbm, 403, rfl⟩
abbrev main_v148 : Ref sig .tc := ⟨.hbm, 404, rfl⟩
abbrev main_v149 : Ref sig .tc := ⟨.hbm, 405, rfl⟩
abbrev main_v150 : Ref sig .tc := ⟨.hbm, 406, rfl⟩
abbrev main_c_23 : Ref sig .tc := ⟨.hbm, 407, rfl⟩
abbrev main_call17_v0 : Ref sig .tc := ⟨.hbm, 408, rfl⟩
abbrev main_v151 : Ref sig .tc := ⟨.hbm, 409, rfl⟩
abbrev main_v152 : Ref sig .tc := ⟨.hbm, 410, rfl⟩
abbrev main_v153 : Ref sig .tc := ⟨.hbm, 411, rfl⟩
abbrev main_v154 : Ref sig .tc := ⟨.hbm, 412, rfl⟩
abbrev main_v155 : Ref sig .tc := ⟨.hbm, 413, rfl⟩
abbrev main_v156 : Ref sig .tc := ⟨.hbm, 414, rfl⟩
abbrev main_v157 : Ref sig .tc := ⟨.hbm, 415, rfl⟩
abbrev main_c_24 : Ref sig .tc := ⟨.hbm, 416, rfl⟩
abbrev main_call18_v0 : Ref sig .tc := ⟨.hbm, 417, rfl⟩
abbrev main_v158 : Ref sig .tc := ⟨.hbm, 418, rfl⟩
abbrev main_v159 : Ref sig .tc := ⟨.hbm, 419, rfl⟩
abbrev main_v160 : Ref sig .tc := ⟨.hbm, 420, rfl⟩
abbrev main_v161 : Ref sig .tc := ⟨.hbm, 421, rfl⟩
abbrev main_v162 : Ref sig .tc := ⟨.hbm, 422, rfl⟩
abbrev main_v163 : Ref sig .tc := ⟨.hbm, 423, rfl⟩
abbrev main_v164 : Ref sig .tc := ⟨.hbm, 424, rfl⟩
abbrev main_v165 : Ref sig .tc := ⟨.hbm, 425, rfl⟩
abbrev main_v166 : Ref sig .tc := ⟨.hbm, 426, rfl⟩
abbrev main_v167 : Ref sig .tc := ⟨.hbm, 427, rfl⟩
abbrev main_v168 : Ref sig .tc := ⟨.hbm, 428, rfl⟩
abbrev main_v169 : Ref sig .tc := ⟨.hbm, 429, rfl⟩
abbrev main_v170 : Ref sig .tc := ⟨.hbm, 430, rfl⟩
abbrev main_v171 : Ref sig .tc := ⟨.hbm, 431, rfl⟩
abbrev main_v172 : Ref sig .tc := ⟨.hbm, 432, rfl⟩
abbrev main_v173 : Ref sig .tc := ⟨.hbm, 433, rfl⟩
abbrev main_v174 : Ref sig .tc := ⟨.hbm, 434, rfl⟩
abbrev main_v175 : Ref sig .tc := ⟨.hbm, 435, rfl⟩
abbrev main_v176 : Ref sig .tc := ⟨.hbm, 436, rfl⟩
abbrev main_v177 : Ref sig .tc := ⟨.hbm, 437, rfl⟩
abbrev main_v178 : Ref sig .tc := ⟨.hbm, 438, rfl⟩
abbrev main_v179 : Ref sig .tc := ⟨.hbm, 439, rfl⟩
abbrev main_v180 : Ref sig .tc := ⟨.hbm, 440, rfl⟩
abbrev main_v181 : Ref sig .tc := ⟨.hbm, 441, rfl⟩
abbrev main_v182 : Ref sig .tc := ⟨.hbm, 442, rfl⟩
abbrev main_v183 : Ref sig .tc := ⟨.hbm, 443, rfl⟩
abbrev main_v184 : Ref sig .tc := ⟨.hbm, 444, rfl⟩
abbrev main_call22_call0_cst : Ref sig .tc := ⟨.hbm, 445, rfl⟩
abbrev main_call22_call0_v0 : Ref sig .tc := ⟨.hbm, 446, rfl⟩
abbrev main_v185 : Ref sig .tc := ⟨.hbm, 447, rfl⟩
abbrev main_v186 : Ref sig .tc := ⟨.hbm, 448, rfl⟩
abbrev main_v187 : Ref sig .tc := ⟨.hbm, 449, rfl⟩
abbrev main_v188 : Ref sig .tc := ⟨.hbm, 450, rfl⟩
abbrev main_v189 : Ref sig .tc := ⟨.hbm, 451, rfl⟩
abbrev main_v190 : Ref sig .tc := ⟨.hbm, 452, rfl⟩
abbrev main_v191 : Ref sig .tc := ⟨.hbm, 453, rfl⟩
abbrev main_v192 : Ref sig .tc := ⟨.hbm, 454, rfl⟩
abbrev main_v193 : Ref sig .tc := ⟨.hbm, 455, rfl⟩
abbrev main_v194 : Ref sig .tc := ⟨.hbm, 456, rfl⟩
abbrev main_v195 : Ref sig .tc := ⟨.hbm, 457, rfl⟩
abbrev main_v196 : Ref sig .tc := ⟨.hbm, 458, rfl⟩
abbrev main_call23_call0_cst : Ref sig .tc := ⟨.hbm, 459, rfl⟩
abbrev main_call23_call0_v0 : Ref sig .tc := ⟨.hbm, 460, rfl⟩
abbrev main_v197 : Ref sig .tc := ⟨.hbm, 461, rfl⟩
abbrev main_v198 : Ref sig .tc := ⟨.hbm, 462, rfl⟩
abbrev main_v199 : Ref sig .tc := ⟨.hbm, 463, rfl⟩
abbrev main_v200 : Ref sig .tc := ⟨.hbm, 464, rfl⟩
abbrev main_v201 : Ref sig .tc := ⟨.hbm, 465, rfl⟩
abbrev main_v202 : Ref sig .tc := ⟨.hbm, 466, rfl⟩
abbrev main_v203 : Ref sig .tc := ⟨.hbm, 467, rfl⟩
abbrev main_c_25 : Ref sig .tc := ⟨.hbm, 468, rfl⟩
abbrev main_v204 : Ref sig .tc := ⟨.hbm, 469, rfl⟩
abbrev main_call24_v0 : Ref sig .tc := ⟨.hbm, 470, rfl⟩
abbrev main_call24_c : Ref sig .tc := ⟨.hbm, 471, rfl⟩
abbrev main_call24_v1 : Ref sig .tc := ⟨.hbm, 472, rfl⟩
abbrev main_call24_v2 : Ref sig .tc := ⟨.hbm, 473, rfl⟩
abbrev main_call24_v3 : Ref sig .tc := ⟨.hbm, 474, rfl⟩
abbrev main_call24_v4 : Ref sig .tc := ⟨.hbm, 475, rfl⟩
abbrev main_call24_c_0 : Ref sig .tc := ⟨.hbm, 476, rfl⟩
abbrev main_call24_v5 : Ref sig .tc := ⟨.hbm, 477, rfl⟩
abbrev main_v205 : Ref sig .tc := ⟨.hbm, 478, rfl⟩
abbrev main_cst_26 : Ref sig .tc := ⟨.hbm, 479, rfl⟩
abbrev main_call25_v0 : Ref sig .tc := ⟨.hbm, 480, rfl⟩
abbrev main_call25_v1 : Ref sig .tc := ⟨.hbm, 481, rfl⟩
abbrev main_call25_v2 : Ref sig .tc := ⟨.hbm, 482, rfl⟩
abbrev main_v206 : Ref sig .tc := ⟨.hbm, 483, rfl⟩
abbrev main_v207 : Ref sig .tc := ⟨.hbm, 484, rfl⟩
abbrev main_v208 : Ref sig .tc := ⟨.hbm, 485, rfl⟩
abbrev main_v209 : Ref sig .tc := ⟨.hbm, 486, rfl⟩
abbrev main_v210 : Ref sig .tc := ⟨.hbm, 487, rfl⟩
abbrev main_v211 : Ref sig .tc := ⟨.hbm, 488, rfl⟩
abbrev main_v212 : Ref sig .tc := ⟨.hbm, 489, rfl⟩
abbrev main_v213_0 : Ref sig .tc := ⟨.hbm, 490, rfl⟩
abbrev main_v213_1 : Ref sig .tc := ⟨.hbm, 491, rfl⟩
abbrev main_v213_2 : Ref sig .tc := ⟨.hbm, 492, rfl⟩
abbrev main_v213_3 : Ref sig .tc := ⟨.hbm, 493, rfl⟩
abbrev main_v213_4 : Ref sig .tc := ⟨.hbm, 494, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![v0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S128x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x6144 : Shape := ⟨2, ![8192, 6144]⟩
abbrev S8192x4096 : Shape := ⟨2, ![8192, 4096]⟩
abbrev S8192x128 : Shape := ⟨2, ![8192, 128]⟩
abbrev S128 : Shape := ⟨1, ![128]⟩
abbrev S8192x1024 : Shape := ⟨2, ![8192, 1024]⟩
abbrev S8192x8x8x64 : Shape := ⟨4, ![8192, 8, 8, 64]⟩
abbrev S8192x8x128 : Shape := ⟨3, ![8192, 8, 128]⟩
abbrev S8192x64 : Shape := ⟨2, ![8192, 64]⟩
abbrev S8192x8x8 : Shape := ⟨3, ![8192, 8, 8]⟩
abbrev S64 : Shape := ⟨1, ![64]⟩
abbrev S8x8 : Shape := ⟨2, ![8, 8]⟩
abbrev S1x8x8 : Shape := ⟨3, ![1, 8, 8]⟩
abbrev S_ : Shape := ⟨0, ![]⟩
abbrev S8192x8x8x1 : Shape := ⟨4, ![8192, 8, 8, 1]⟩
abbrev S64x128x8x8x64 : Shape := ⟨5, ![64, 128, 8, 8, 64]⟩
abbrev S64x128x8x128 : Shape := ⟨4, ![64, 128, 8, 128]⟩
abbrev S64x128x8x8 : Shape := ⟨4, ![64, 128, 8, 8]⟩
abbrev S8x8x64x128 : Shape := ⟨4, ![8, 8, 64, 128]⟩
abbrev S8x64x128x128 : Shape := ⟨4, ![8, 64, 128, 128]⟩
abbrev S8x1x64x128x128 : Shape := ⟨5, ![8, 1, 64, 128, 128]⟩
abbrev S8x8x64x128x1 : Shape := ⟨5, ![8, 8, 64, 128, 1]⟩
abbrev S8x8x64x1x128 : Shape := ⟨5, ![8, 8, 64, 1, 128]⟩
abbrev S8x8x64x128x128 : Shape := ⟨5, ![8, 8, 64, 128, 128]⟩
abbrev S128x128 : Shape := ⟨2, ![128, 128]⟩
abbrev S64x8x8x64x128 : Shape := ⟨5, ![64, 8, 8, 64, 128]⟩
abbrev S8x8x64x1 : Shape := ⟨4, ![8, 8, 64, 1]⟩
abbrev S64x128x8x8x1 : Shape := ⟨5, ![64, 128, 8, 8, 1]⟩
abbrev S8x8x64 : Shape := ⟨3, ![8, 8, 64]⟩
abbrev S8x8x1x64 : Shape := ⟨4, ![8, 8, 1, 64]⟩
abbrev S8x8x64x64 : Shape := ⟨4, ![8, 8, 64, 64]⟩
abbrev S64x64 : Shape := ⟨2, ![64, 64]⟩
abbrev S8x8x64x128x64 : Shape := ⟨5, ![8, 8, 64, 128, 64]⟩
abbrev S64x8x128x128 : Shape := ⟨4, ![64, 8, 128, 128]⟩
abbrev S64x8x8x128x128 : Shape := ⟨5, ![64, 8, 8, 128, 128]⟩

abbrev nBuf : Space → Nat
  | .hbm => 291
  | .vmem => 0
  | .smem => 0
  | _ => 0

abbrev hbmTy0_0 (i : Nat) : BufTy := match i % 128 with
  | 0 => ⟨S8192x6144, .bf16⟩
  | 1 => ⟨S8192x4096, .bf16⟩
  | 2 => ⟨S8192x128, .f32⟩
  | 3 => ⟨S128, .f32⟩
  | 4 => ⟨S128, .f32⟩
  | 5 => ⟨S8192x6144, .f32⟩
  | 6 => ⟨S8192x4096, .f32⟩
  | 7 => ⟨S8192x1024, .f32⟩
  | 8 => ⟨S8192x1024, .f32⟩
  | 9 => ⟨S8192x8x8x64, .f32⟩
  | 10 => ⟨S8192x8x128, .f32⟩
  | 11 => ⟨S8192x8x128, .f32⟩
  | 12 => ⟨S8192x64, .f32⟩
  | 13 => ⟨S8192x64, .f32⟩
  | 14 => ⟨S8192x8x8, .f32⟩
  | 15 => ⟨S64, .f32⟩
  | 16 => ⟨S64, .f32⟩
  | 17 => ⟨S8x8, .f32⟩
  | 18 => ⟨S1x8x8, .f32⟩
  | 19 => ⟨S8192x8x8, .f32⟩
  | 20 => ⟨S8192x8x8, .f32⟩
  | 21 => ⟨S_, .f32⟩
  | 22 => ⟨S8192x8x8, .f32⟩
  | 23 => ⟨S8192x8x8, .f32⟩
  | 24 => ⟨S8192x8x8, .f32⟩
  | 25 => ⟨S8192x8x8, .f32⟩
  | 26 => ⟨S8192x8x8, .i1⟩
  | 27 => ⟨S8192x8x8, .f32⟩
  | 28 => ⟨S8192x8x8, .f32⟩
  | 29 => ⟨S8192x8x8, .f32⟩
  | 30 => ⟨S8192x8x8, .f32⟩
  | 31 => ⟨S8192x8x8, .f32⟩
  | 32 => ⟨S8192x8x8, .f32⟩
  | 33 => ⟨S8192x8x8, .f32⟩
  | 34 => ⟨S8192x8x8, .f32⟩
  | 35 => ⟨S64, .f32⟩
  | 36 => ⟨S64, .f32⟩
  | 37 => ⟨S8x8, .f32⟩
  | 38 => ⟨S8x8, .f32⟩
  | 39 => ⟨S8x8, .f32⟩
  | 40 => ⟨S1x8x8, .f32⟩
  | 41 => ⟨S8192x8x8, .f32⟩
  | 42 => ⟨S8192x8x8, .f32⟩
  | 43 => ⟨S8192x4096, .f32⟩
  | 44 => ⟨S8192x8x8x64, .f32⟩
  | 45 => ⟨S8192x8x8x1, .f32⟩
  | 46 => ⟨S8192x8x8x64, .f32⟩
  | 47 => ⟨S8192x8x8x64, .f32⟩
  | 48 => ⟨S8192x8x8x64, .f32⟩
  | 49 => ⟨S8192x8x8, .f32⟩
  | 50 => ⟨S8192x8x128, .f32⟩
  | 51 => ⟨S8192x8x128, .f32⟩
  | 52 => ⟨S64x128x8x8x64, .f32⟩
  | 53 => ⟨S64x128x8x128, .f32⟩
  | 54 => ⟨S64x128x8x8, .f32⟩
  | 55 => ⟨S8x8x64x128, .f32⟩
  | 56 => ⟨S64x128x8x128, .f32⟩
  | 57 => ⟨S_, .f32⟩
  | 58 => ⟨S_, .f32⟩
  | 59 => ⟨S8x8x64x128, .f32⟩
  | 60 => ⟨S8x64x128x128, .f32⟩
  | 61 => ⟨S8x1x64x128x128, .f32⟩
  | 62 => ⟨S_, .f32⟩
  | 63 => ⟨S_, .f32⟩
  | 64 => ⟨S8x8x64x128, .f32⟩
  | 65 => ⟨S8x8x64x128x1, .f32⟩
  | 66 => ⟨S8x8x64x1x128, .f32⟩
  | 67 => ⟨S8x8x64x128x128, .f32⟩
  | 68 => ⟨S8x8x64x128x128, .f32⟩
  | 69 => ⟨S8x8x64x128x128, .f32⟩
  | 70 => ⟨S_, .i1⟩
  | 71 => ⟨S128x128, .i1⟩
  | 72 => ⟨S128x128, .i32⟩
  | 73 => ⟨S_, .i32⟩
  | 74 => ⟨S128x128, .i32⟩
  | 75 => ⟨S128x128, .i32⟩
  | 76 => ⟨S128x128, .i32⟩
  | 77 => ⟨S128x128, .i1⟩
  | 78 => ⟨S_, .i1⟩
  | 79 => ⟨S128x128, .i1⟩
  | 80 => ⟨S128x128, .i1⟩
  | 81 => ⟨S_, .f32⟩
  | 82 => ⟨S_, .f32⟩
  | 83 => ⟨S8x8x64x128x128, .i1⟩
  | 84 => ⟨S8x8x64x128x128, .f32⟩
  | 85 => ⟨S8x8x64x128x128, .f32⟩
  | 86 => ⟨S_, .f32⟩
  | 87 => ⟨S8x8x64x128x128, .f32⟩
  | 88 => ⟨S8x8x64x128x128, .f32⟩
  | 89 => ⟨S8x8x64x128x128, .f32⟩
  | 90 => ⟨S8x8x64x128x128, .f32⟩
  | 91 => ⟨S64x8x8x64x128, .f32⟩
  | 92 => ⟨S64x128x8x8x64, .f32⟩
  | 93 => ⟨S_, .f32⟩
  | 94 => ⟨S_, .f32⟩
  | 95 => ⟨S8x8x64x128, .f32⟩
  | 96 => ⟨S8x8x64x1, .f32⟩
  | 97 => ⟨S8x8x64x128, .f32⟩
  | 98 => ⟨S8x8x64x128, .f32⟩
  | 99 => ⟨S8x8x64x128, .f32⟩
  | 100 => ⟨S64x128x8x8, .f32⟩
  | 101 => ⟨S64x128x8x8x1, .f32⟩
  | 102 => ⟨S64x128x8x8x64, .f32⟩
  | 103 => ⟨S64x128x8x8x64, .f32⟩
  | 104 => ⟨S64x8x8x64x128, .f32⟩
  | 105 => ⟨S8x8x64x1, .f32⟩
  | 106 => ⟨S8x8x64, .f32⟩
  | 107 => ⟨S_, .f32⟩
  | 108 => ⟨S_, .f32⟩
  | 109 => ⟨S8x8x64, .f32⟩
  | 110 => ⟨S8x8x64, .f32⟩
  | 111 => ⟨S8x8x64x1, .f32⟩
  | 112 => ⟨S8x8x1x64, .f32⟩
  | 113 => ⟨S8x8x64x64, .f32⟩
  | 114 => ⟨S8x8x64x64, .f32⟩
  | 115 => ⟨S8x8x64x64, .f32⟩
  | 116 => ⟨S_, .i1⟩
  | 117 => ⟨S64x64, .i1⟩
  | 118 => ⟨S64x64, .i32⟩
  | 119 => ⟨S_, .i32⟩
  | 120 => ⟨S64x64, .i32⟩
  | 121 => ⟨S64x64, .i32⟩
  | 122 => ⟨S64x64, .i32⟩
  | 123 => ⟨S64x64, .i1⟩
  | 124 => ⟨S_, .i1⟩
  | 125 => ⟨S64x64, .i1⟩
  | 126 => ⟨S64x64, .i1⟩
  | 127 => ⟨S_, .f32⟩
  | _ => ⟨S8192x6144, .bf16⟩

abbrev hbmTy0_1 (i : Nat) : BufTy := match i % 128 with
  | 0 => ⟨S_, .f32⟩
  | 1 => ⟨S8x8x64x64, .i1⟩
  | 2 => ⟨S8x8x64x64, .f32⟩
  | 3 => ⟨S8x8x64x64, .f32⟩
  | 4 => ⟨S_, .f32⟩
  | 5 => ⟨S8x8x64x64, .f32⟩
  | 6 => ⟨S8x8x64x64, .f32⟩
  | 7 => ⟨S8x8x64x128x64, .f32⟩
  | 8 => ⟨S64x8x8x64x128, .f32⟩
  | 9 => ⟨S8x8x64x128, .f32⟩
  | 10 => ⟨S64x128x8x8, .f32⟩
  | 11 => ⟨S64x8x8x64x128, .f32⟩
  | 12 => ⟨S64x128x8x8x64, .f32⟩
  | 13 => ⟨S64x128x8x8x1, .f32⟩
  | 14 => ⟨S64x128x8x8x64, .f32⟩
  | 15 => ⟨S64x128x8x8x64, .f32⟩
  | 16 => ⟨S64x128x8x8x64, .f32⟩
  | 17 => ⟨S8192x8x8x64, .f32⟩
  | 18 => ⟨S8192x8x8x64, .f32⟩
  | 19 => ⟨S8192x8x8x64, .f32⟩
  | 20 => ⟨S64x128x8x8x64, .f32⟩
  | 21 => ⟨S64x128x8x8x64, .f32⟩
  | 22 => ⟨S_, .f32⟩
  | 23 => ⟨S64x128x8x8, .f32⟩
  | 24 => ⟨S64x128x8x8x1, .f32⟩
  | 25 => ⟨S64x128x8x8x64, .f32⟩
  | 26 => ⟨S64x128x8x8x64, .f32⟩
  | 27 => ⟨S_, .f32⟩
  | 28 => ⟨S64x128x8x8, .f32⟩
  | 29 => ⟨S64x8x8x64x128, .f32⟩
  | 30 => ⟨S64x8x128x128, .f32⟩
  | 31 => ⟨S64x128x8x128, .f32⟩
  | 32 => ⟨S64x8x8x64x128, .f32⟩
  | 33 => ⟨S8x8x64x128, .f32⟩
  | 34 => ⟨S8x8x64x128, .f32⟩
  | 35 => ⟨S8x8x64x128x64, .f32⟩
  | 36 => ⟨S8x8x64x64, .f32⟩
  | 37 => ⟨S8x8x64x128x64, .f32⟩
  | 38 => ⟨S64x8x8x64x128, .f32⟩
  | 39 => ⟨S8x8x64x64, .f32⟩
  | 40 => ⟨S_, .f32⟩
  | 41 => ⟨S8x8x64x64, .f32⟩
  | 42 => ⟨S8x8x64x64, .f32⟩
  | 43 => ⟨S_, .f32⟩
  | 44 => ⟨S8x8x64, .f32⟩
  | 45 => ⟨S8x8x64x1, .f32⟩
  | 46 => ⟨S8x8x64x64, .f32⟩
  | 47 => ⟨S_, .f32⟩
  | 48 => ⟨S8x8x64, .f32⟩
  | 49 => ⟨S8x8x1x64, .f32⟩
  | 50 => ⟨S_, .f32⟩
  | 51 => ⟨S8x8x64, .f32⟩
  | 52 => ⟨S_, .f32⟩
  | 53 => ⟨S8x8x64, .f32⟩
  | 54 => ⟨S8x8x64, .f32⟩
  | 55 => ⟨S8x8x64, .f32⟩
  | 56 => ⟨S_, .f32⟩
  | 57 => ⟨S_, .f32⟩
  | 58 => ⟨S8x8x64, .f32⟩
  | 59 => ⟨S8x8x64, .f32⟩
  | 60 => ⟨S8x8x64x1, .f32⟩
  | 61 => ⟨S_, .f32⟩
  | 62 => ⟨S8x8x64x128, .f32⟩
  | 63 => ⟨S64x8x128x128, .f32⟩
  | 64 => ⟨S64x128x8x128, .f32⟩
  | 65 => ⟨S64x8x8x64x128, .f32⟩
  | 66 => ⟨S64x128x8x8x64, .f32⟩
  | 67 => ⟨S64x128x8x8x64, .f32⟩
  | 68 => ⟨S_, .f32⟩
  | 69 => ⟨S64x128x8x8, .f32⟩
  | 70 => ⟨S64x128x8x8x1, .f32⟩
  | 71 => ⟨S64x128x8x8x64, .f32⟩
  | 72 => ⟨S64x128x8x8x64, .f32⟩
  | 73 => ⟨S_, .f32⟩
  | 74 => ⟨S64x128x8x8, .f32⟩
  | 75 => ⟨S8x8x64x128, .f32⟩
  | 76 => ⟨S8x8x64x128, .f32⟩
  | 77 => ⟨S_, .f32⟩
  | 78 => ⟨S8x8x64, .f32⟩
  | 79 => ⟨S8x8x64x1, .f32⟩
  | 80 => ⟨S8x8x64x128, .f32⟩
  | 81 => ⟨S8x8x64x128, .f32⟩
  | 82 => ⟨S_, .f32⟩
  | 83 => ⟨S8x8x64x128, .f32⟩
  | 84 => ⟨S8x8x64x128, .f32⟩
  | 85 => ⟨S_, .f32⟩
  | 86 => ⟨S_, .f32⟩
  | 87 => ⟨S8x8x64x128, .f32⟩
  | 88 => ⟨S64x8x8x64x128, .f32⟩
  | 89 => ⟨S64x8x8x128x128, .f32⟩
  | 90 => ⟨S8x8x64x128x128, .f32⟩
  | 91 => ⟨S64x8x8x64x128, .f32⟩
  | 92 => ⟨S64x128x8x8x64, .f32⟩
  | 93 => ⟨S64x128x8x8x64, .f32⟩
  | 94 => ⟨S8x8x64x128x128, .f32⟩
  | 95 => ⟨S8x8x64x128x128, .f32⟩
  | 96 => ⟨S8x8x64x128x128, .f32⟩
  | 97 => ⟨S_, .f32⟩
  | 98 => ⟨S8x64x128x128, .f32⟩
  | 99 => ⟨S8x1x64x128x128, .f32⟩
  | 100 => ⟨S8x8x64x128x128, .f32⟩
  | 101 => ⟨S_, .f32⟩
  | 102 => ⟨S8x8x64x128x128, .f32⟩
  | 103 => ⟨S8x8x64x128x128, .f32⟩
  | 104 => ⟨S_, .f32⟩
  | 105 => ⟨S8x8x64x128, .f32⟩
  | 106 => ⟨S8x8x64x128x1, .f32⟩
  | 107 => ⟨S8x8x64x128x128, .f32⟩
  | 108 => ⟨S_, .f32⟩
  | 109 => ⟨S8x8x64x128, .f32⟩
  | 110 => ⟨S8x8x64x1x128, .f32⟩
  | 111 => ⟨S_, .f32⟩
  | 112 => ⟨S8x8x64x128, .f32⟩
  | 113 => ⟨S_, .f32⟩
  | 114 => ⟨S8x8x64x128, .f32⟩
  | 115 => ⟨S8x8x64x128, .f32⟩
  | 116 => ⟨S_, .f32⟩
  | 117 => ⟨S_, .f32⟩
  | 118 => ⟨S8x8x64x128, .f32⟩
  | 119 => ⟨S8x8x64x128, .f32⟩
  | 120 => ⟨S_, .f32⟩
  | 121 => ⟨S8x64x128x128, .f32⟩
  | 122 => ⟨S8x64x128x128, .f32⟩
  | 123 => ⟨S64x128x8x128, .f32⟩
  | 124 => ⟨S64x128x8x128, .f32⟩
  | 125 => ⟨S8x64x128x128, .f32⟩
  | 126 => ⟨S64x128x8x128, .f32⟩
  | 127 => ⟨S64x128x8x128, .f32⟩
  | _ => ⟨S8192x6144, .bf16⟩

abbrev hbmTy0_2 (i : Nat) : BufTy := match i % 128 with
  | 0 => ⟨S_, .f32⟩
  | 1 => ⟨S_, .f32⟩
  | 2 => ⟨S8x8x64x128, .f32⟩
  | 3 => ⟨S8x8x64x128, .f32⟩
  | 4 => ⟨S8192x8x128, .f32⟩
  | 5 => ⟨S64x128x8x8, .f32⟩
  | 6 => ⟨S8192x8x8, .f32⟩
  | 7 => ⟨S8192x8x128, .f32⟩
  | 8 => ⟨S8192x8x8x64, .f32⟩
  | 9 => ⟨S8192x8x128, .f32⟩
  | 10 => ⟨S8192x8x128, .f32⟩
  | 11 => ⟨S8192x8x8, .f32⟩
  | 12 => ⟨S8192x8x8x64, .f32⟩
  | 13 => ⟨S8192x8x8x64, .f32⟩
  | 14 => ⟨S_, .f32⟩
  | 15 => ⟨S8192x8x8, .f32⟩
  | 16 => ⟨S8192x8x8x1, .f32⟩
  | 17 => ⟨S8192x8x8x64, .f32⟩
  | 18 => ⟨S8192x8x8x64, .f32⟩
  | 19 => ⟨S_, .f32⟩
  | 20 => ⟨S8192x8x8, .f32⟩
  | 21 => ⟨S8192x4096, .f32⟩
  | 22 => ⟨S8192x4096, .bf16⟩
  | 23 => ⟨S8192x1024, .f32⟩
  | 24 => ⟨S8192x1024, .bf16⟩
  | 25 => ⟨S8192x1024, .f32⟩
  | 26 => ⟨S8192x1024, .bf16⟩
  | 27 => ⟨S_, .i32⟩
  | 28 => ⟨S_, .f32⟩
  | 29 => ⟨S8192x8x128, .f32⟩
  | 30 => ⟨S8192x1024, .f32⟩
  | 31 => ⟨S_, .i32⟩
  | 32 => ⟨S_, .f32⟩
  | 33 => ⟨S8192x8x128, .f32⟩
  | 34 => ⟨S8192x1024, .f32⟩
  | _ => ⟨S8192x6144, .bf16⟩

abbrev hbmTy (i : Nat) : BufTy := match i / 128 with
  | 0 => hbmTy0_0 i
  | 1 => hbmTy0_1 i
  | 2 => hbmTy0_2 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call5_call0_cst : Ref sig .tc := ⟨.hbm, 57, rfl⟩
abbrev main_call5_call0_v0 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call6_call0_cst : Ref sig .tc := ⟨.hbm, 62, rfl⟩
abbrev main_call6_call0_v0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c : Ref sig .tc := ⟨.hbm, 70, rfl⟩
abbrev main_v48 : Ref sig .tc := ⟨.hbm, 71, rfl⟩
abbrev main_call7_v0 : Ref sig .tc := ⟨.hbm, 72, rfl⟩
abbrev main_call7_c : Ref sig .tc := ⟨.hbm, 73, rfl⟩
abbrev main_call7_v1 : Ref sig .tc := ⟨.hbm, 74, rfl⟩
abbrev main_call7_v2 : Ref sig .tc := ⟨.hbm, 75, rfl⟩
abbrev main_call7_v3 : Ref sig .tc := ⟨.hbm, 76, rfl⟩
abbrev main_call7_v4 : Ref sig .tc := ⟨.hbm, 77, rfl⟩
abbrev main_call7_c_0 : Ref sig .tc := ⟨.hbm, 78, rfl⟩
abbrev main_call7_v5 : Ref sig .tc := ⟨.hbm, 79, rfl⟩
abbrev main_v49 : Ref sig .tc := ⟨.hbm, 80, rfl⟩
abbrev main_cst : Ref sig .tc := ⟨.hbm, 81, rfl⟩
abbrev main_call8_v0 : Ref sig .tc := ⟨.hbm, 82, rfl⟩
abbrev main_v50_1 : Ref sig .tc := ⟨.hbm, 83, rfl⟩
abbrev main_call8_v2 : Ref sig .tc := ⟨.hbm, 84, rfl⟩
abbrev main_v50_0 : Ref sig .tc := ⟨.hbm, 85, rfl⟩
abbrev main_call8_cst : Ref sig .tc := ⟨.hbm, 86, rfl⟩
abbrev main_v50_2 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_call9_call0_cst : Ref sig .tc := ⟨.hbm, 93, rfl⟩
abbrev main_call9_call0_v0 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_call10_call0_cst : Ref sig .tc := ⟨.hbm, 107, rfl⟩
abbrev main_call10_call0_v0 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_c_0 : Ref sig .tc := ⟨.hbm, 116, rfl⟩
abbrev main_v75 : Ref sig .tc := ⟨.hbm, 117, rfl⟩
abbrev main_call11_v0 : Ref sig .tc := ⟨.hbm, 118, rfl⟩
abbrev main_call11_c : Ref sig .tc := ⟨.hbm, 119, rfl⟩
abbrev main_call11_v1 : Ref sig .tc := ⟨.hbm, 120, rfl⟩
abbrev main_call11_v2 : Ref sig .tc := ⟨.hbm, 121, rfl⟩
abbrev main_call11_v3 : Ref sig .tc := ⟨.hbm, 122, rfl⟩
abbrev main_call11_v4 : Ref sig .tc := ⟨.hbm, 123, rfl⟩
abbrev main_call11_c_0 : Ref sig .tc := ⟨.hbm, 124, rfl⟩
abbrev main_call11_v5 : Ref sig .tc := ⟨.hbm, 125, rfl⟩
abbrev main_v76 : Ref sig .tc := ⟨.hbm, 126, rfl⟩
abbrev main_cst_1 : Ref sig .tc := ⟨.hbm, 127, rfl⟩
abbrev main_call12_v0 : Ref sig .tc := ⟨.hbm, 128, rfl⟩
abbrev main_v77_1 : Ref sig .tc := ⟨.hbm, 129, rfl⟩
abbrev main_call12_v2 : Ref sig .tc := ⟨.hbm, 130, rfl⟩
abbrev main_v77_0 : Ref sig .tc := ⟨.hbm, 131, rfl⟩
abbrev main_call12_cst : Ref sig .tc := ⟨.hbm, 132, rfl⟩
abbrev main_v77_2 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_cst_2 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_cst_3 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_call15_cst : Ref sig .tc := ⟨.hbm, 168, rfl⟩
abbrev main_call15_v0 : Ref sig .tc := ⟨.hbm, 169, rfl⟩
abbrev main_v110 : Ref sig .tc := ⟨.hbm, 170, rfl⟩
abbrev main_cst_4 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_cst_5 : Ref sig .tc := ⟨.hbm, 175, rfl⟩
abbrev main_v114 : Ref sig .tc := ⟨.hbm, 176, rfl⟩
abbrev main_v115 : Ref sig .tc := ⟨.hbm, 177, rfl⟩
abbrev main_cst_6 : Ref sig .tc := ⟨.hbm, 178, rfl⟩
abbrev main_v116 : Ref sig .tc := ⟨.hbm, 179, rfl⟩
abbrev main_cst_7 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_call16_call0_cst : Ref sig .tc := ⟨.hbm, 184, rfl⟩
abbrev main_call16_call0_v0 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_cst_8 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_cst_9 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_cst_10 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_cst_11 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_cst_12 : Ref sig .tc := ⟨.hbm, 210, rfl⟩
abbrev main_v140 : Ref sig .tc := ⟨.hbm, 211, rfl⟩
abbrev main_v141 : Ref sig .tc := ⟨.hbm, 212, rfl⟩
abbrev main_call17_call0_cst : Ref sig .tc := ⟨.hbm, 213, rfl⟩
abbrev main_call17_call0_v0 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_cst_13 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_call18_cst : Ref sig .tc := ⟨.hbm, 229, rfl⟩
abbrev main_call18_v0 : Ref sig .tc := ⟨.hbm, 230, rfl⟩
abbrev main_v155 : Ref sig .tc := ⟨.hbm, 231, rfl⟩
abbrev main_cst_14 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_cst_15 : Ref sig .tc := ⟨.hbm, 236, rfl⟩
abbrev main_v159 : Ref sig .tc := ⟨.hbm, 237, rfl⟩
abbrev main_v160 : Ref sig .tc := ⟨.hbm, 238, rfl⟩
abbrev main_cst_16 : Ref sig .tc := ⟨.hbm, 239, rfl⟩
abbrev main_v161 : Ref sig .tc := ⟨.hbm, 240, rfl⟩
abbrev main_cst_17 : Ref sig .tc := ⟨.hbm, 241, rfl⟩
abbrev main_v162 : Ref sig .tc := ⟨.hbm, 242, rfl⟩
abbrev main_v163 : Ref sig .tc := ⟨.hbm, 243, rfl⟩
abbrev main_call19_call0_cst : Ref sig .tc := ⟨.hbm, 244, rfl⟩
abbrev main_call19_call0_v0 : Ref sig .tc := ⟨.hbm, 245, rfl⟩
abbrev main_v164 : Ref sig .tc := ⟨.hbm, 246, rfl⟩
abbrev main_v165 : Ref sig .tc := ⟨.hbm, 247, rfl⟩
abbrev main_cst_18 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_call20_call0_cst : Ref sig .tc := ⟨.hbm, 256, rfl⟩
abbrev main_call20_call0_v0 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_cst_19 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_cst_20 : Ref sig .tc := ⟨.hbm, 275, rfl⟩
abbrev main_v189 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_c_21 : Ref sig .tc := ⟨.hbm, 283, rfl⟩
abbrev main_call25_v0 : Ref sig .tc := ⟨.hbm, 284, rfl⟩
abbrev main_v196 : Ref sig .tc := ⟨.hbm, 285, rfl⟩
abbrev main_v197 : Ref sig .tc := ⟨.hbm, 286, rfl⟩
abbrev main_c_22 : Ref sig .tc := ⟨.hbm, 287, rfl⟩
abbrev main_call26_v0 : Ref sig .tc := ⟨.hbm, 288, rfl⟩
abbrev main_v198 : Ref sig .tc := ⟨.hbm, 289, rfl⟩
abbrev main_v199 : Ref sig .tc := ⟨.hbm, 290, rfl⟩

abbrev nD : Nat := 1
abbrev τ : Topo := Topo.v7x

variable {F : FTy → Type} [FloatOps F]
-- ==== GradWGateUp.lean ====
abbrev S8192x2048 : Shape := ⟨2, ![8192, 2048]⟩
abbrev S8192x11264 : Shape := ⟨2, ![8192, 11264]⟩
abbrev S4x2048x2816 : Shape := ⟨3, ![4, 2048, 2816]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGradWGateUpIdeal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S_, .f32⟩
  | .hbm, ⟨3, _⟩ => ⟨S2048x11264, .f32⟩
  | .hbm, ⟨4, _⟩ => ⟨S8192x2048, .f32⟩
  | .hbm, ⟨5, _⟩ => ⟨S8192x11264, .f32⟩
  | .hbm, ⟨6, _⟩ => ⟨S8192x11264, .f32⟩
  | .hbm, ⟨7, _⟩ => ⟨S11264x2048, .f32⟩
  | .hbm, ⟨8, _⟩ => ⟨S2048x11264, .f32⟩
  | .hbm, ⟨9, _⟩ => ⟨S2048x4x2816, .f32⟩
  | .hbm, ⟨10, _⟩ => ⟨S4x2048x2816, .f32⟩
  | .hbm, ⟨11, _⟩ => ⟨S4x2048x2816, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GradHGateUp.lean ====
abbrev S8192x11264 : Shape := ⟨2, ![8192, 11264]⟩
abbrev S4x2048x2816 : Shape := ⟨3, ![4, 2048, 2816]⟩
abbrev S8192x2048 : Shape := ⟨2, ![8192, 2048]⟩
abbrev S1024x2816 : Shape := ⟨2, ![1024, 2816]⟩
abbrev S1x1024x2816 : Shape := ⟨3, ![1, 1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x11264, .bf16⟩
  | .hbm, ⟨1, _⟩ => ⟨S4x2048x2816, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGradHGateUpIdeal.lean ====
abbrev S8192x11264 : Shape := ⟨2, ![8192, 11264]⟩
abbrev S4x2048x2816 : Shape := ⟨3, ![4, 2048, 2816]⟩
abbrev S_ : Shape := ⟨0, ![]⟩
abbrev S8192x2048 : Shape := ⟨2, ![8192, 2048]⟩
abbrev S2048x4x2816 : Shape := ⟨3, ![2048, 4, 2816]⟩
abbrev S2048x11264 : Shape := ⟨2, ![2048, 11264]⟩

abbrev nBuf : Space → Nat
  | .hbm => 10
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S4x2048x2816, .bf16⟩
  | .hbm, ⟨2, _⟩ => ⟨S_, .f32⟩
  | .hbm, ⟨3, _⟩ => ⟨S8192x2048, .f32⟩
  | .hbm, ⟨4, _⟩ => ⟨S2048x4x2816, .bf16⟩
  | .hbm, ⟨5, _⟩ => ⟨S2048x11264, .bf16⟩
  | .hbm, ⟨6, _⟩ => ⟨S2048x11264, .f32⟩
  | .hbm, ⟨7, _⟩ => ⟨S8192x11264, .f32⟩
  | .hbm, ⟨8, _⟩ => ⟨S8192x11264, .f32⟩
  | .hbm, ⟨9, _⟩ => ⟨S8192x2048, .f32⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateUp.lean ====
abbrev S8192x2048 : Shape := ⟨2, ![8192, 2048]⟩
abbrev S4x2048x2816 : Shape := ⟨3, ![4, 2048, 2816]⟩
abbrev S8192x11264 : Shape := ⟨2, ![8192, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x2816, .bf16⟩
  | .hbm, ⟨2, _⟩ => ⟨S8192x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGateUpIdeal.lean ====
abbrev S8192x2048 : Shape := ⟨2, ![8192, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S8192x11264 : Shape := ⟨2, ![8192, 11264]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2816, .bf16⟩
  | .hbm, ⟨2, _⟩ => ⟨S8192x2048, .f32⟩
  | .hbm, ⟨3, _⟩ => ⟨S2048x4x2816, .bf16⟩
  | .hbm, ⟨4, _⟩ => ⟨S2048x11264, .bf16⟩
  | .hbm, ⟨5, _⟩ => ⟨S2048x11264, .f32⟩
  | .hbm, ⟨6, _⟩ => ⟨S8192x11264, .f32⟩
  | .hbm, ⟨7, _⟩ => ⟨S8192x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GradWDown.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGradWDownIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradHDown.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGradHDownIdeal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S_, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S8192x5632, .f32⟩
  | .hbm, ⟨8, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjZ.lean ====
abbrev S8192x2048 : Shape := ⟨2, ![8192, 2048]⟩
abbrev S18560x2048 : Shape := ⟨2, ![18560, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S18560x2048, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_mult1 (i : grid0.Coords) : BitVec 32 :=
  let c0_i32 : BitVec 32 := 0#32
  let arg1 : BitVec 32 := BitVec.ofNat 32 (i 1).val
  let c1024_i32 : BitVec 32 := 1024#32
  let v0 : BitVec 32 := Scalar.muli arg1 c1024_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c0_i32 : BitVec 32 := 0#32
  let v1 : BitVec 32 := Scalar.addi c0_i32 v0
  let v2 : BitVec 32 := v1
  let c2048_i32 : BitVec 32 := 2048#32
  let v3 : BitVec 32 := Scalar.muli arg2 c2048_i32
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefProjZIdeal.lean ====
abbrev S8192x2048 : Shape := ⟨2, ![8192, 2048]⟩
abbrev S18560x2048 : Shape := ⟨2, ![18560, 2048]⟩
abbrev S2048x18560 : Shape := ⟨2, ![2048, 18560]⟩
abbrev S8192x18560 : Shape := ⟨2, ![8192, 18560]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S18560x2048, .bf16⟩
  | .hbm, ⟨2, _⟩ => ⟨S8192x2048, .f32⟩
  | .hbm, ⟨3, _⟩ => ⟨S18560x2048, .f32⟩
  | .hbm, ⟨4, _⟩ => ⟨S2048x18560, .f32⟩
  | .hbm, ⟨5, _⟩ => ⟨S8192x18560, .f32⟩
  | .hbm, ⟨6, _⟩ => ⟨S8192x4096, .f32⟩
  | .hbm, ⟨7, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ProjXbc.lean ====
abbrev S8192x2048 : Shape := ⟨2, ![8192, 2048]⟩
abbrev S18560x2048 : Shape := ⟨2, ![18560, 2048]⟩
abbrev S8192x6144 : Shape := ⟨2, ![8192, 6144]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S18560x2048, .bf16⟩
  | .hbm, ⟨2, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def k0_mult1 (i : grid0.Coords) : BitVec 32 :=
  let c4096_i32 : BitVec 32 := 4096#32
  let arg1 : BitVec 32 := BitVec.ofNat 32 (i 1).val
  let c1024_i32 : BitVec 32 := 1024#32
  let v0 : BitVec 32 := Scalar.muli arg1 c1024_i32
  let v1 : BitVec 32 := Scalar.addi c4096_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c4096_i32 : BitVec 32 := 4096#32
  let v1 : BitVec 32 := Scalar.addi c4096_i32 v0
  let v2 : BitVec 32 := v1
  let c2048_i32 : BitVec 32 := 2048#32
  let v3 : BitVec 32 := Scalar.muli arg2 c2048_i32
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefProjXbcIdeal.lean ====
abbrev S8192x2048 : Shape := ⟨2, ![8192, 2048]⟩
abbrev S18560x2048 : Shape := ⟨2, ![18560, 2048]⟩
abbrev S2048x18560 : Shape := ⟨2, ![2048, 18560]⟩
abbrev S8192x18560 : Shape := ⟨2, ![8192, 18560]⟩
abbrev S8192x6144 : Shape := ⟨2, ![8192, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S18560x2048, .bf16⟩
  | .hbm, ⟨2, _⟩ => ⟨S8192x2048, .f32⟩
  | .hbm, ⟨3, _⟩ => ⟨S18560x2048, .f32⟩
  | .hbm, ⟨4, _⟩ => ⟨S2048x18560, .f32⟩
  | .hbm, ⟨5, _⟩ => ⟨S8192x18560, .f32⟩
  | .hbm, ⟨6, _⟩ => ⟨S8192x6144, .f32⟩
  | .hbm, ⟨7, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ProjGlu.lean ====
abbrev S8192x2048 : Shape := ⟨2, ![8192, 2048]⟩
abbrev S18560x2048 : Shape := ⟨2, ![18560, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S18560x2048, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_mult1 (i : grid0.Coords) : BitVec 32 :=
  let c10368_i32 : BitVec 32 := 10368#32
  let arg1 : BitVec 32 := BitVec.ofNat 32 (i 1).val
  let c1024_i32 : BitVec 32 := 1024#32
  let v0 : BitVec 32 := Scalar.muli arg1 c1024_i32
  let v1 : BitVec 32 := Scalar.addi c10368_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c10368_i32 : BitVec 32 := 10368#32
  let v1 : BitVec 32 := Scalar.addi c10368_i32 v0
  let v2 : BitVec 32 := v1
  let c2048_i32 : BitVec 32 := 2048#32
  let v3 : BitVec 32 := Scalar.muli arg2 c2048_i32
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefProjGluIdeal.lean ====
abbrev S8192x2048 : Shape := ⟨2, ![8192, 2048]⟩
abbrev S18560x2048 : Shape := ⟨2, ![18560, 2048]⟩
abbrev S2048x18560 : Shape := ⟨2, ![2048, 18560]⟩
abbrev S8192x18560 : Shape := ⟨2, ![8192, 18560]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S18560x2048, .bf16⟩
  | .hbm, ⟨2, _⟩ => ⟨S8192x2048, .f32⟩
  | .hbm, ⟨3, _⟩ => ⟨S18560x2048, .f32⟩
  | .hbm, ⟨4, _⟩ => ⟨S2048x18560, .f32⟩
  | .hbm, ⟨5, _⟩ => ⟨S8192x18560, .f32⟩
  | .hbm, ⟨6, _⟩ => ⟨S8192x4096, .f32⟩
  | .hbm, ⟨7, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ProjGate.lean ====
abbrev S8192x2048 : Shape := ⟨2, ![8192, 2048]⟩
abbrev S18560x2048 : Shape := ⟨2, ![18560, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S18560x2048, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_mult1 (i : grid0.Coords) : BitVec 32 :=
  let c14464_i32 : BitVec 32 := 14464#32
  let arg1 : BitVec 32 := BitVec.ofNat 32 (i 1).val
  let c1024_i32 : BitVec 32 := 1024#32
  let v0 : BitVec 32 := Scalar.muli arg1 c1024_i32
  let v1 : BitVec 32 := Scalar.addi c14464_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c14464_i32 : BitVec 32 := 14464#32
  let v1 : BitVec 32 := Scalar.addi c14464_i32 v0
  let v2 : BitVec 32 := v1
  let c2048_i32 : BitVec 32 := 2048#32
  let v3 : BitVec 32 := Scalar.muli arg2 c2048_i32
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefProjGateIdeal.lean ====
abbrev S8192x2048 : Shape := ⟨2, ![8192, 2048]⟩
abbrev S18560x2048 : Shape := ⟨2, ![18560, 2048]⟩
abbrev S2048x18560 : Shape := ⟨2, ![2048, 18560]⟩
abbrev S8192x18560 : Shape := ⟨2, ![8192, 18560]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S18560x2048, .bf16⟩
  | .hbm, ⟨2, _⟩ => ⟨S8192x2048, .f32⟩
  | .hbm, ⟨3, _⟩ => ⟨S18560x2048, .f32⟩
  | .hbm, ⟨4, _⟩ => ⟨S2048x18560, .f32⟩
  | .hbm, ⟨5, _⟩ => ⟨S8192x18560, .f32⟩
  | .hbm, ⟨6, _⟩ => ⟨S8192x4096, .f32⟩
  | .hbm, ⟨7, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GradWSsmOut.lean ====
abbrev S8192x4096 : Shape := ⟨2, ![8192, 4096]⟩
abbrev S8192x2048 : Shape := ⟨2, ![8192, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGradWSsmOutIdeal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S_, .f32⟩
  | .hbm, ⟨3, _⟩ => ⟨S4096x2048, .f32⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradHSsmOut.lean ====
abbrev S8192x2048 : Shape := ⟨2, ![8192, 2048]⟩
abbrev S4096x2048 : Shape := ⟨2, ![4096, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGradHSsmOutIdeal.lean ====
abbrev S8192x2048 : Shape := ⟨2, ![8192, 2048]⟩
abbrev S4096x2048 : Shape := ⟨2, ![4096, 2048]⟩
abbrev S_ : Shape := ⟨0, ![]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S_, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | .hbm, ⟨7, _⟩ => ⟨S8192x4096, .f32⟩
  | .hbm, ⟨8, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmOut.lean ====
abbrev S8192x4096 : Shape := ⟨2, ![8192, 4096]⟩
abbrev S4096x2048 : Shape := ⟨2, ![4096, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefSsmOutIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x4096, .f32⟩
  | .hbm, ⟨3, _⟩ => ⟨S4096x2048, .f32⟩
  | .hbm, ⟨4, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradWMixOut.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGradWMixOutIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradHMixOut.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGradHMixOutIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixOut.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMixOutIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ConvOut.lean ====
abbrev S8192x2048 : Shape := ⟨2, ![8192, 2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S1x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefConvOutIdeal.lean ====
abbrev S8192x2048 : Shape := ⟨2, ![8192, 2048]⟩
abbrev S2048x2048 : Shape := ⟨2, ![2048, 2048]⟩
abbrev S1x2048 : Shape := ⟨2, ![1, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S1x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjDt.lean ====
abbrev S8192x2048 : Shape := ⟨2, ![8192, 2048]⟩
abbrev S18560x2048 : Shape := ⟨2, ![18560, 2048]⟩
abbrev S8192x128 : Shape := ⟨2, ![8192, 128]⟩
abbrev S1024x2048 : Shape := ⟨2, ![1024, 2048]⟩
abbrev S128x2048 : Shape := ⟨2, ![128, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S18560x2048, .bf16⟩
  | .hbm, ⟨2, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_mult1 (i : grid0.Coords) : BitVec 32 :=
  let c10240_i32 : BitVec 32 := 10240#32
  let arg1 : BitVec 32 := BitVec.ofNat 32 (i 1).val
  let c128_i32 : BitVec 32 := 128#32
  let v0 : BitVec 32 := Scalar.muli arg1 c128_i32
  let v1 : BitVec 32 := Scalar.addi c10240_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c10240_i32 : BitVec 32 := 10240#32
  let v1 : BitVec 32 := Scalar.addi c10240_i32 v0
  let v2 : BitVec 32 := v1
  let c2048_i32 : BitVec 32 := 2048#32
  let v3 : BitVec 32 := Scalar.muli arg2 c2048_i32
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefProjDtIdeal.lean ====
abbrev S8192x2048 : Shape := ⟨2, ![8192, 2048]⟩
abbrev S18560x2048 : Shape := ⟨2, ![18560, 2048]⟩
abbrev S2048x18560 : Shape := ⟨2, ![2048, 18560]⟩
abbrev S8192x18560 : Shape := ⟨2, ![8192, 18560]⟩
abbrev S8192x128 : Shape := ⟨2, ![8192, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S18560x2048, .bf16⟩
  | .hbm, ⟨2, _⟩ => ⟨S8192x2048, .f32⟩
  | .hbm, ⟨3, _⟩ => ⟨S18560x2048, .f32⟩
  | .hbm, ⟨4, _⟩ => ⟨S2048x18560, .f32⟩
  | .hbm, ⟨5, _⟩ => ⟨S8192x18560, .f32⟩
  | .hbm, ⟨6, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.HostOps.lean ====
module

public import Idealize.ShloMosaic.Lib.TwoAxisContraction
public import Idealize.ShloMosaic.Lib.Pointwise
public import Idealize.ShloMosaic.PureOps.Ideal

/-!
# Host operations read at an index

The running sums along one axis, and sums of real numbers among the extended ones.
-/

@[expose] public section

open Idealize.ShloMosaic
open scoped BigOperators

namespace Scan

/-- A finite sum of real numbers, as an extended real. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, EReal.coe_add, ih]

theorem coe_ite (p : Prop) [Decidable p] (a b : ℝ) :
    (if p then (a : EReal) else (b : EReal)) = ((if p then a else b : ℝ) : EReal) := by split_ifs <;> rfl

theorem coe_ite_zero (p : Prop) [Decidable p] (a : ℝ) :
    (if p then (a : EReal) else 0) = ((if p then a else 0 : ℝ) : EReal) := by split_ifs <;> rfl

/-- A fold of additions is a sum. -/
theorem foldl_add_eq {ι : Type*} (l : List ι) (f : ι → EReal) (v : EReal) :
    l.foldl (fun r n => r + f n) v = v + (l.map f).sum := by
  induction l generalizing v with
  | nil => simp
  | cons a l ih => rw [List.foldl_cons, ih, List.map_cons, List.sum_cons, add_assoc]

/-- The host's window sum, as a sum over the window. -/
theorem windowAdd_eq {s t u : Shape} {φ : FTy} (window strides lo hi : Fin s.rank → ℕ) (x : FVec Ideal s φ)
    (init : u.Idx → Ideal φ) (h : s.ReduceWindows window strides lo hi t) (hu : 0 < u.numel) (j : t.Idx)
    (h0 : init (Shape.Idx.first hu) = (0 : EReal)) :
    Host.reduceWindowAdd window strides lo hi x init h hu j
      = ∑ i : (⟨s.rank, window⟩ : Shape).Idx,
          if hin : ∀ a, lo a ≤ (j (a.cast h.1.symm)).val * strides a + (i a).val
              ∧ (j (a.cast h.1.symm)).val * strides a + (i a).val - lo a < s.size a
          then (x (fun a => ⟨(j (a.cast h.1.symm)).val * strides a + (i a).val - lo a, (hin a).2⟩) : EReal)
          else (0 : EReal) := by
  unfold Host.reduceWindowAdd
  rw [Ideal.hostReduceWindowAdd_def, h0]
  unfold Ideal.hostReduceWindowAdd Host.reduceWindow
  rw [foldl_add_eq, zero_add, ← List.ofFn_eq_map, List.sum_ofFn]
  rw [← Equiv.sum_comp (⟨s.rank, window⟩ : Shape).rowMajor.symm]
  refine Finset.sum_congr rfl fun n _ => ?_
  dsimp only
  by_cases hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · rw [dif_pos hin, dif_pos hin]
  · rw [dif_neg hin, dif_neg hin]

/-- The running sum from the front along an axis of extent `K`. -/
theorem cumsum_low {r : ℕ} {size : Fin r → ℕ} {u : Shape} {φ : FTy} (d : Fin r) (K : ℕ) (hK : size d = K + 1)
    (window strides lo hi : Fin r → ℕ)
    (hw : ∀ a, window a = if a = d then K + 1 else 1) (hs : ∀ a, strides a = 1)
    (hlo : ∀ a, lo a = if a = d then K else 0)
    (x : FVec Ideal ⟨r, size⟩ φ) (init : u.Idx → Ideal φ)
    (h : (⟨r, size⟩ : Shape).ReduceWindows window strides lo hi ⟨r, size⟩) (hu : 0 < u.numel)
    (h0 : init (Shape.Idx.first hu) = (0 : EReal)) (j : (⟨r, size⟩ : Shape).Idx)
    (row : Fin (K + 1) → EReal)
    (hrow : ∀ i : (⟨r, size⟩ : Shape).Idx, (∀ a, a ≠ d → (i a).val = (j a).val) → x i = row ((i d).cast hK)) :
    Host.reduceWindowAdd window strides lo hi x init h hu j
      = ∑ k : Fin (K + 1), if k.val ≤ (j d).val then row k else 0 := by
  rw [windowAdd_eq (s := ⟨r, size⟩) window strides lo hi x init h hu j h0]
  have hwd : window d = K + 1 := by rw [hw, if_pos rfl]
  have hwn : ∀ a, a ≠ d → window a = 1 := fun a ha => by rw [hw, if_neg ha]
  have hjd : (j d).val < K + 1 := hK ▸ (j d).isLt
  rw [← Finset.sum_filter, ← Finset.sum_filter_ne_zero]
  rw [← Finset.sum_filter_ne_zero (s := Finset.univ.filter fun k : Fin (K + 1) => k.val ≤ (j d).val)]
  have hcond : ∀ i : (⟨r, window⟩ : Shape).Idx, K ≤ (j d).val + (i d).val → ∀ a : Fin r,
      lo a ≤ (j a).val * strides a + (i a).val ∧ (j a).val * strides a + (i a).val - lo a < size a := by
    intro i hi a
    have hia : (i a).val < window a := (i a).isLt
    have hja : (j a).val < size a := (j a).isLt
    rw [hs, hlo, mul_one]
    by_cases ha : a = d
    · subst ha; rw [if_pos rfl]; rw [hwd] at hia; omega
    · rw [if_neg ha]; rw [hwn a ha] at hia; omega
  have hval : ∀ i : (⟨r, window⟩ : Shape).Idx, ∀ hi : K ≤ (j d).val + (i d).val, ∀ hid : (i d).val < K + 1,
      (if hin : ∀ a : Fin r, lo a ≤ (j a).val * strides a + (i a).val
          ∧ (j a).val * strides a + (i a).val - lo a < size a
        then (x (fun a => ⟨(j a).val * strides a + (i a).val - lo a, (hin a).2⟩) : EReal) else (0 : EReal))
        = row ⟨(j d).val + (i d).val - K, by omega⟩ := by
    intro i hi hid
    rw [dif_pos (hcond i hi), hrow]
    · congr 1
      apply Fin.ext
      show (j d).val * strides d + (i d).val - lo d = _
      rw [hs, hlo, if_pos rfl, mul_one]
    · intro a ha
      show (j a).val * strides a + (i a).val - lo a = _
      have hia : (i a).val < window a := (i a).isLt
      rw [hwn a ha] at hia
      rw [hs, hlo, if_neg ha]; omega
  have hneg : ∀ i : (⟨r, window⟩ : Shape).Idx, ¬ K ≤ (j d).val + (i d).val →
      (if hin : ∀ a : Fin r, lo a ≤ (j a).val * strides a + (i a).val
          ∧ (j a).val * strides a + (i a).val - lo a < size a
        then (x (fun a => ⟨(j a).val * strides a + (i a).val - lo a, (hin a).2⟩) : EReal) else (0 : EReal)) = 0 := by
    intro i hi
    rw [dif_neg]
    intro hin
    have := (hin d).1
    rw [hs, hlo, if_pos rfl, mul_one] at this
    exact hi this
  have hidlt : ∀ i : (⟨r, window⟩ : Shape).Idx, (i d).val < K + 1 := fun i => hwd ▸ (i d).isLt
  refine Finset.sum_bij (fun i hi => ⟨(j d).val + (i d).val - K, ?_⟩) ?_ ?_ ?_ ?_
  · have := hidlt i; omega
  · intro i hi
    have hne := (Finset.mem_filter.1 hi).2
    have hc : K ≤ (j d).val + (i d).val := by
      by_contra hc; exact hne (hneg i hc)
    have hl := hidlt i
    refine Finset.mem_filter.2 ⟨Finset.mem_filter.2 ⟨Finset.mem_univ _, ?_⟩, ?_⟩
    · show (j d).val + (i d).val - K ≤ (j d).val; omega
    · rw [← hval i hc hl]; exact hne
  · intro i hi i' hi' e
    have hc : K ≤ (j d).val + (i d).val := by
      by_contra hc; exact (Finset.mem_filter.1 hi).2 (hneg i hc)
    have hc' : K ≤ (j d).val + (i' d).val := by
      by_contra hc; exact (Finset.mem_filter.1 hi').2 (hneg i' hc)
    have e' : (j d).val + (i d).val - K = (j d).val + (i' d).val - K := congrArg Fin.val e
    funext a
    apply Fin.ext
    by_cases ha : a = d
    · subst ha; omega
    · have h1 : (i a).val < window a := (i a).isLt
      have h2 : (i' a).val < window a := (i' a).isLt
      rw [hwn a ha] at h1 h2
      omega
  · intro k hk
    have hk1 : k.val ≤ (j d).val := (Finset.mem_filter.1 (Finset.mem_filter.1 hk).1).2
    have hk2 := (Finset.mem_filter.1 hk).2
    let i : (⟨r, window⟩ : Shape).Idx := fun a => ⟨if a = d then k.val + K - (j d).val else 0, by
      show _ < window a
      rw [hw a]; split_ifs
      · have := k.isLt; omega
      · omega⟩
    have hid : (i d).val = k.val + K - (j d).val := if_pos rfl
    have hc : K ≤ (j d).val + (i d).val := by omega
    have hkk : (⟨(j d).val + (i d).val - K, by have := hidlt i; omega⟩ : Fin (K + 1)) = k := Fin.ext (by
      show (j d).val + (i d).val - K = k.val; omega)
    refine ⟨i, Finset.mem_filter.2 ⟨Finset.mem_univ _, ?_⟩, hkk⟩
    have := hval i hc (hidlt i)
    intro hz
    apply hk2
    rw [← hkk]
    exact this.symm.trans hz
  · intro i hi
    have hc : K ≤ (j d).val + (i d).val := by
      by_contra hc; exact (Finset.mem_filter.1 hi).2 (hneg i hc)
    exact hval i hc (hidlt i)

/-- The running sum from the back along an axis of extent `K`. -/
theorem cumsum_high {r : ℕ} {size : Fin r → ℕ} {u : Shape} {φ : FTy} (d : Fin r) (K : ℕ) (hK : size d = K + 1)
    (window strides lo hi : Fin r → ℕ)
    (hw : ∀ a, window a = if a = d then K + 1 else 1) (hs : ∀ a, strides a = 1)
    (hlo : ∀ a, lo a = 0)
    (x : FVec Ideal ⟨r, size⟩ φ) (init : u.Idx → Ideal φ)
    (h : (⟨r, size⟩ : Shape).ReduceWindows window strides lo hi ⟨r, size⟩) (hu : 0 < u.numel)
    (h0 : init (Shape.Idx.first hu) = (0 : EReal)) (j : (⟨r, size⟩ : Shape).Idx)
    (row : Fin (K + 1) → EReal)
    (hrow : ∀ i : (⟨r, size⟩ : Shape).Idx, (∀ a, a ≠ d → (i a).val = (j a).val) → x i = row ((i d).cast hK)) :
    Host.reduceWindowAdd window strides lo hi x init h hu j
      = ∑ k : Fin (K + 1), if (j d).val ≤ k.val then row k else 0 := by
  rw [windowAdd_eq (s := ⟨r, size⟩) window strides lo hi x init h hu j h0]
  have hwd : window d = K + 1 := by rw [hw, if_pos rfl]
  have hwn : ∀ a, a ≠ d → window a = 1 := fun a ha => by rw [hw, if_neg ha]
  have hjd : (j d).val < K + 1 := hK ▸ (j d).isLt
  rw [← Finset.sum_filter, ← Finset.sum_filter_ne_zero]
  rw [← Finset.sum_filter_ne_zero (s := Finset.univ.filter fun k : Fin (K + 1) => (j d).val ≤ k.val)]
  have hcond : ∀ i : (⟨r, window⟩ : Shape).Idx, (j d).val + (i d).val ≤ K → ∀ a : Fin r,
      lo a ≤ (j a).val * strides a + (i a).val ∧ (j a).val * strides a + (i a).val - lo a < size a := by
    intro i hi a
    have hia : (i a).val < window a := (i a).isLt
    have hja : (j a).val < size a := (j a).isLt
    rw [hs, hlo, mul_one]
    by_cases ha : a = d
    · subst ha; have e : size a = K + 1 := hK; omega
    · rw [hwn a ha] at hia; omega
  have hval : ∀ i : (⟨r, window⟩ : Shape).Idx, ∀ hi : (j d).val + (i d).val ≤ K, ∀ hid : (i d).val < K + 1,
      (if hin : ∀ a : Fin r, lo a ≤ (j a).val * strides a + (i a).val
          ∧ (j a).val * strides a + (i a).val - lo a < size a
        then (x (fun a => ⟨(j a).val * strides a + (i a).val - lo a, (hin a).2⟩) : EReal) else (0 : EReal))
        = row ⟨(j d).val + (i d).val, by omega⟩ := by
    intro i hi hid
    rw [dif_pos (hcond i hi), hrow]
    · congr 1
      apply Fin.ext
      show (j d).val * strides d + (i d).val - lo d = _
      rw [hs, hlo, mul_one]; rfl
    · intro a ha
      show (j a).val * strides a + (i a).val - lo a = _
      have hia : (i a).val < window a := (i a).isLt
      rw [hwn a ha] at hia
      rw [hs, hlo]; omega
  have hneg : ∀ i : (⟨r, window⟩ : Shape).Idx, ¬ (j d).val + (i d).val ≤ K →
      (if hin : ∀ a : Fin r, lo a ≤ (j a).val * strides a + (i a).val
          ∧ (j a).val * strides a + (i a).val - lo a < size a
        then (x (fun a => ⟨(j a).val * strides a + (i a).val - lo a, (hin a).2⟩) : EReal) else (0 : EReal)) = 0 := by
    intro i hi
    rw [dif_neg]
    intro hin
    have := (hin d).2
    rw [hs, hlo, mul_one] at this
    have e : size d = K + 1 := hK
    omega
  have hidlt : ∀ i : (⟨r, window⟩ : Shape).Idx, (i d).val < K + 1 := fun i => hwd ▸ (i d).isLt
  have hne0 : ∀ i : (⟨r, window⟩ : Shape).Idx,
      i ∈ Finset.univ.filter (fun i : (⟨r, window⟩ : Shape).Idx =>
        (if hin : ∀ a : Fin r, lo a ≤ (j a).val * strides a + (i a).val
          ∧ (j a).val * strides a + (i a).val - lo a < size a
        then (x (fun a => ⟨(j a).val * strides a + (i a).val - lo a, (hin a).2⟩) : EReal) else (0 : EReal)) ≠ 0) →
      (j d).val + (i d).val ≤ K := fun i hi => by
    by_contra hc; exact (Finset.mem_filter.1 hi).2 (hneg i hc)
  refine Finset.sum_bij (fun i hi => ⟨(j d).val + (i d).val, ?_⟩) ?_ ?_ ?_ ?_
  · have := hne0 i hi; omega
  · intro i hi
    have hne := (Finset.mem_filter.1 hi).2
    have hc : (j d).val + (i d).val ≤ K := by
      by_contra hc; exact hne (hneg i hc)
    have hl := hidlt i
    refine Finset.mem_filter.2 ⟨Finset.mem_filter.2 ⟨Finset.mem_univ _, ?_⟩, ?_⟩
    · show (j d).val ≤ (j d).val + (i d).val; omega
    · rw [← hval i hc hl]; exact hne
  · intro i hi i' hi' e
    have hc : (j d).val + (i d).val ≤ K := by
      by_contra hc; exact (Finset.mem_filter.1 hi).2 (hneg i hc)
    have hc' : (j d).val + (i' d).val ≤ K := by
      by_contra hc; exact (Finset.mem_filter.1 hi').2 (hneg i' hc)
    have e' : (j d).val + (i d).val = (j d).val + (i' d).val := congrArg Fin.val e
    funext a
    apply Fin.ext
    by_cases ha : a = d
    · subst ha; omega
    · have h1 : (i a).val < window a := (i a).isLt
      have h2 : (i' a).val < window a := (i' a).isLt
      rw [hwn a ha] at h1 h2
      omega
  · intro k hk
    have hk1 : (j d).val ≤ k.val := (Finset.mem_filter.1 (Finset.mem_filter.1 hk).1).2
    have hk2 := (Finset.mem_filter.1 hk).2
    let i : (⟨r, window⟩ : Shape).Idx := fun a => ⟨if a = d then k.val - (j d).val else 0, by
      show _ < window a
      rw [hw a]; split_ifs
      · have := k.isLt; omega
      · omega⟩
    have hid : (i d).val = k.val - (j d).val := if_pos rfl
    have hc : (j d).val + (i d).val ≤ K := by omega
    have hkk : (⟨(j d).val + (i d).val, by have := hidlt i; omega⟩ : Fin (K + 1)) = k := Fin.ext (by
      show (j d).val + (i d).val = k.val; omega)
    refine ⟨i, Finset.mem_filter.2 ⟨Finset.mem_univ _, ?_⟩, hkk⟩
    have := hval i hc (hidlt i)
    intro hz
    apply hk2
    rw [← hkk]
    exact this.symm.trans hz
  · intro i hi
    have hc : (j d).val + (i d).val ≤ K := by
      by_contra hc; exact (Finset.mem_filter.1 hi).2 (hneg i hc)
    exact hval i hc (hidlt i)

end Scan
-- ==== Proof.Spec.lean ====
module

public import Mathlib.Analysis.SpecialFunctions.Exp
public import Mathlib.Algebra.BigOperators.Fin
public import Mathlib.Tactic.Ring
public import Mathlib.Tactic.Linarith

/-!
# The gradient of the chunked scan, in real numbers

Everything here is about one head (or one group of heads) of the scan that runs from the last token to the first, over
64 chunks of 128 tokens. `Rev` is the scan as the reference reads it: the sequence is reversed first and read forwards,
so chunk `z` and token `l` below count from the end. `Ker` is what the kernel computes, chunk by chunk in the original
order, from the state gradient it carries. The last section says that the two agree.
-/

@[expose] public noncomputable section

open Finset BigOperators

namespace Scan

/-- A value for each chunk and token. -/
abbrev Tok (α : Type) := Fin 64 → Fin 128 → α

/-- The tokens in the opposite order. -/
def back {α : Type} (f : Tok α) : Tok α := fun z l => f z.rev l.rev

theorem sum_rev {n : ℕ} (f : Fin n → ℝ) : ∑ l : Fin n, f l.rev = ∑ l, f l :=
  Equiv.sum_comp Fin.revPerm f

theorem sum_ite_rev {n : ℕ} (P : Fin n → Prop) [DecidablePred P] (f : Fin n → ℝ) :
    ∑ l : Fin n, (if P l.rev then f l.rev else 0) = ∑ l, if P l then f l else 0 :=
  sum_rev fun l => if P l then f l else 0

/-! ## The reference's quantities -/

namespace Rev

section head
variable (A : Tok ℝ) (X Y : Tok (Fin 64 → ℝ)) (B C : Tok (Fin 128 → ℝ))

/-- The running sum of the log decays. -/
def cs (z : Fin 64) (l : Fin 128) : ℝ := ∑ k, if k ≤ l then A z k else 0
/-- A chunk's whole log decay. -/
def tot (z : Fin 64) : ℝ := cs A z (Fin.last 127)
/-- The log decay up to the end of a chunk. -/
def en (z : Fin 64) : ℝ := ∑ w, if w ≤ z then tot A w else 0
/-- The decay from the end of chunk `w` to the beginning of chunk `z`. -/
def cd (z w : Fin 64) : ℝ := if w < z then Real.exp (en A z - tot A z - en A w) else 0
/-- The decay from the chunk's beginning. -/
def din (z : Fin 64) (l : Fin 128) : ℝ := Real.exp (cs A z l)
/-- The decay to the chunk's end. -/
def dst (z : Fin 64) (l : Fin 128) : ℝ := Real.exp (tot A z - cs A z l)
/-- The decay from token `s` to token `l`. -/
def dec (z : Fin 64) (l s : Fin 128) : ℝ := if s ≤ l then Real.exp (cs A z l - cs A z s) else 0

/-- The state a chunk adds, from `X` scaled by its step. -/
def st (z : Fin 64) (p : Fin 64) (n : Fin 128) : ℝ := ∑ l, X z l p * dst A z l * B z l n
/-- The state a chunk begins with. -/
def h (z : Fin 64) (p : Fin 64) (n : Fin 128) : ℝ := ∑ w, st A X B w p n * cd A z w
/-- What the state at the chunk's beginning gives to the outputs, before its decay. -/
def ych (z : Fin 64) (l : Fin 128) (p : Fin 64) : ℝ := ∑ n, h A X B z p n * C z l n
/-- The output gradient scaled by the decay. -/
def yd (z : Fin 64) (l : Fin 128) (p : Fin 64) : ℝ := Y z l p * din A z l
/-- The gradient at the decay `din`, times `din`. -/
def gin (z : Fin 64) (l : Fin 128) : ℝ := (∑ p, ych A X B C z l p * Y z l p) * din A z l
/-- The gradient at the state a chunk begins with. -/
def dh (z : Fin 64) (p : Fin 64) (n : Fin 128) : ℝ := ∑ l, yd A Y z l p * C z l n
/-- The gradient at the decay between chunks. -/
def dcd (z w : Fin 64) : ℝ := ∑ p, ∑ n, dh A Y C z p n * st A X B w p n
/-- The gradient at the state a chunk adds. -/
def ds (w : Fin 64) (p : Fin 64) (n : Fin 128) : ℝ := ∑ z, dh A Y C z p n * cd A z w
/-- The gradient at the exponent of the decay between chunks. -/
def ecd (z w : Fin 64) : ℝ := if w < z then dcd A X Y B C z w * cd A z w else 0
/-- The gradient at a chunk's whole log decay. -/
def dtot (u : Fin 64) : ℝ :=
  (∑ v, if u ≤ v then (∑ w, ecd A X Y B C v w) - ∑ z, ecd A X Y B C z v else 0) - ∑ w, ecd A X Y B C u w
/-- The state's part of the gradient at `X`, before its decay. -/
def xst (z : Fin 64) (l : Fin 128) (p : Fin 64) : ℝ := ∑ n, ds A Y C z p n * B z l n
/-- The gradient at the decay `dst`, times `dst`. -/
def gst (z : Fin 64) (l : Fin 128) : ℝ := (∑ p, X z l p * xst A Y B C z l p) * dst A z l
/-- The products of the group. -/
def cb (B C : Tok (Fin 128 → ℝ)) (z : Fin 64) (l s : Fin 128) : ℝ := ∑ n, C z l n * B z s n
/-- The gradient at the masked products. -/
def dm (X Y : Tok (Fin 64 → ℝ)) (z : Fin 64) (l s : Fin 128) : ℝ := ∑ p, Y z l p * X z s p
/-- The gradient at `X`. -/
def dx (z : Fin 64) (s : Fin 128) (p : Fin 64) : ℝ :=
  xst A Y B C z s p * dst A z s + ∑ l, Y z l p * (cb B C z l s * dec A z l s)
/-- The gradient at the exponents of the decays inside a chunk. -/
def eg (z : Fin 64) (l s : Fin 128) : ℝ := if s ≤ l then cb B C z l s * dm X Y z l s * dec A z l s else 0
/-- The gradient at the log decays. -/
def da (z : Fin 64) (l : Fin 128) : ℝ :=
  (∑ k, if l ≤ k then -gst A X Y B C z k
      + (if k = Fin.last 127 then dtot A X Y B C z + ∑ m, gst A X Y B C z m else 0) else 0)
    + (∑ k, if l ≤ k then (∑ s, eg A X Y B C z k s) - ∑ m, eg A X Y B C z m k else 0)
    + ∑ k, if l ≤ k then gin A X Y B C z k else 0
end head

section group
variable (A : Fin 8 → Tok ℝ) (X Y : Fin 8 → Tok (Fin 64 → ℝ)) (B C : Tok (Fin 128 → ℝ))
/-- The gradient at the products of the group. -/
def dcb (z : Fin 64) (l s : Fin 128) : ℝ := ∑ j, dm (X j) (Y j) z l s * dec (A j) z l s
/-- The gradient at `C`. -/
def dC (z : Fin 64) (l n : Fin 128) : ℝ :=
  (∑ j, ∑ p, yd (A j) (Y j) z l p * h (A j) (X j) B z p n) + ∑ s, dcb A X Y z l s * B z s n
/-- The gradient at `B`. -/
def dB (z : Fin 64) (s n : Fin 128) : ℝ :=
  (∑ j, ∑ p, ds (A j) (Y j) C z p n * (X j z s p * dst (A j) z s)) + ∑ l, dcb A X Y z l s * C z l n
end group

end Rev

/-! ## The kernel's quantities, of one chunk -/

namespace Ker

section head
variable (a : Fin 128 → ℝ) (x y : Fin 128 → Fin 64 → ℝ) (b c : Fin 128 → Fin 128 → ℝ) (h d : Fin 64 → Fin 128 → ℝ)

/-- The running sum of a chunk's log decays. -/
def cs (l : Fin 128) : ℝ := ∑ k, if k ≤ l then a k else 0
/-- The chunk's whole log decay. -/
def tot : ℝ := ∑ k, a k
/-- The sum of the log decays before a token, with the opposite sign. -/
def gam (l : Fin 128) : ℝ := a l - cs a l
def din (l : Fin 128) : ℝ := Real.exp (tot a + gam a l)
def dst (l : Fin 128) : ℝ := Real.exp (cs a l - a l)
def dec (l s : Fin 128) : ℝ := if l ≤ s then Real.exp (gam a l - gam a s) else 0
def yoff (l : Fin 128) (p : Fin 64) : ℝ := (∑ n, c l n * h p n) * din a l
def xoff (s : Fin 128) (p : Fin 64) : ℝ := (∑ n, b s n * d p n) * dst a s
def cb (b c : Fin 128 → Fin 128 → ℝ) (l s : Fin 128) : ℝ := ∑ n, c l n * b s n
/-- The gradient at `X`. -/
def acc (s : Fin 128) (p : Fin 64) : ℝ := xoff a b d s p + ∑ l, cb b c l s * dec a l s * y l p
def dm (l s : Fin 128) : ℝ := dec a l s * ∑ p, y l p * x s p
/-- The part of the gradient at the log decays that is summed from the front. -/
def qcol (l : Fin 128) : ℝ :=
  (∑ p, y l p * yoff a c h l p) + (∑ s, cb b c l s * dm a x y l s) - ∑ m, cb b c m l * dm a x y m l
/-- The part of the gradient at the log decays that is summed from the back. -/
def ccol (s : Fin 128) : ℝ := ∑ p, x s p * xoff a b d s p
def through : ℝ := ∑ n, ∑ p, d p n * h p n
/-- The gradient at the log decays. -/
def da (l : Fin 128) : ℝ :=
  (∑ s, if s ≤ l then qcol a x y b c h s else 0) + (∑ s, if l < s then ccol a x b d s else 0)
    + through h d * Real.exp (tot a)
/-- The state gradient the next chunk begins with. -/
def next (p : Fin 64) (n : Fin 128) : ℝ := d p n * Real.exp (tot a) + ∑ l, c l n * (y l p * din a l)
end head

section group
variable (a : Fin 8 → Fin 128 → ℝ) (x y : Fin 8 → Fin 128 → Fin 64 → ℝ) (b c : Fin 128 → Fin 128 → ℝ)
  (h d : Fin 8 → Fin 64 → Fin 128 → ℝ)
def dcb (l s : Fin 128) : ℝ := ∑ j, dm (a j) (x j) (y j) l s
def dC (l n : Fin 128) : ℝ := (∑ j, ∑ p, y j l p * din (a j) l * h j p n) + ∑ s, dcb a x y l s * b s n
def dB (s n : Fin 128) : ℝ := (∑ j, ∑ p, x j s p * dst (a j) s * d j p n) + ∑ l, dcb a x y l s * c l n
end group

/-- The state gradient the kernel carries into chunk `t`. -/
def carry (A : Tok ℝ) (Y : Tok (Fin 64 → ℝ)) (C : Tok (Fin 128 → ℝ)) : ℕ → Fin 64 → Fin 128 → ℝ
  | 0 => fun _ _ => 0
  | t + 1 => fun p n => if ht : t < 64 then next (A ⟨t, ht⟩) (Y ⟨t, ht⟩) (C ⟨t, ht⟩) (carry A Y C t) p n else 0

end Ker

/-! ## The two agree -/

section decays
variable (A : Tok ℝ)

theorem tot_eq (z : Fin 64) : Rev.tot A z = ∑ k, A z k := by
  unfold Rev.tot Rev.cs
  exact Finset.sum_congr rfl fun k _ => if_pos (Fin.le_last k)

theorem kcs_eq (z : Fin 64) (l : Fin 128) :
    Ker.cs (back A z) l - back A z l + Rev.cs A z.rev l.rev = Rev.tot A z.rev := by
  rw [tot_eq]
  unfold Ker.cs Rev.cs back
  have e := sum_ite_rev (fun k => l.rev ≤ k) (fun k => A z.rev k)
  simp only [Fin.rev_le_rev] at e
  rw [e]
  have h : ∀ k : Fin 128, A z.rev k = (if l.rev ≤ k then A z.rev k else 0) + (if k ≤ l.rev then A z.rev k else 0)
      - (if k = l.rev then A z.rev k else 0) := by
    intro k
    rcases lt_trichotomy k l.rev with q | q | q
    · rw [if_neg (not_le.2 q), if_pos q.le, if_neg q.ne]; ring
    · rw [if_pos q.ge, if_pos q.le, if_pos q]; ring
    · rw [if_pos q.le, if_neg (not_le.2 q), if_neg q.ne']; ring
  rw [Finset.sum_congr rfl fun k _ => h k, Finset.sum_sub_distrib, Finset.sum_add_distrib]
  rw [Finset.sum_ite_eq' univ l.rev (fun k => A z.rev k), if_pos (Finset.mem_univ _)]
  ring

theorem ktot_eq (z : Fin 64) : Ker.tot (back A z) = Rev.tot A z.rev := by
  rw [tot_eq]; exact sum_rev fun k => A z.rev k

theorem kgam_eq (z : Fin 64) (l : Fin 128) : Ker.gam (back A z) l = Rev.cs A z.rev l.rev - Rev.tot A z.rev := by
  have := kcs_eq A z l; unfold Ker.gam; linarith

theorem kdin_eq (z : Fin 64) (l : Fin 128) : Ker.din (back A z) l = Rev.din A z.rev l.rev := by
  unfold Ker.din Rev.din; rw [kgam_eq, ktot_eq]; congr 1; ring

theorem kdst_eq (z : Fin 64) (l : Fin 128) : Ker.dst (back A z) l = Rev.dst A z.rev l.rev := by
  have := kcs_eq A z l; unfold Ker.dst Rev.dst; congr 1; linarith

theorem kdec_eq (z : Fin 64) (l s : Fin 128) : Ker.dec (back A z) l s = Rev.dec A z.rev l.rev s.rev := by
  unfold Ker.dec Rev.dec
  rw [kgam_eq, kgam_eq]
  simp only [Fin.rev_le_rev]
  split_ifs
  · congr 1; ring
  · rfl

theorem en_rev_succ (t : ℕ) (ht : t + 1 < 64) :
    Rev.en A (⟨t, by omega⟩ : Fin 64).rev
      = Rev.en A (⟨t + 1, ht⟩ : Fin 64).rev + Rev.tot A (⟨t, by omega⟩ : Fin 64).rev := by
  unfold Rev.en
  have h : ∀ w : Fin 64, (if w ≤ (⟨t, by omega⟩ : Fin 64).rev then Rev.tot A w else 0)
      = (if w ≤ (⟨t + 1, ht⟩ : Fin 64).rev then Rev.tot A w else 0)
        + if w = (⟨t, by omega⟩ : Fin 64).rev then Rev.tot A w else 0 := by
    intro w
    have e1 : ((⟨t, by omega⟩ : Fin 64).rev).val = 63 - t := by simp [Fin.val_rev]
    have e2 : ((⟨t + 1, ht⟩ : Fin 64).rev).val = 62 - t := by simp [Fin.val_rev]
    simp only [Fin.le_def, Fin.ext_iff, e1, e2]
    rcases lt_trichotomy w.val (63 - t) with q | q | q
    · rw [if_pos q.le, if_pos (by omega), if_neg q.ne]; ring
    · rw [if_pos q.le, if_neg (by omega), if_pos q]; ring
    · rw [if_neg (by omega), if_neg (by omega), if_neg q.ne']; ring
  rw [Finset.sum_congr rfl fun w _ => h w, Finset.sum_add_distrib]
  rw [Finset.sum_ite_eq' univ _ (fun w => Rev.tot A w), if_pos (Finset.mem_univ _)]

end decays

section carried
variable (A : Tok ℝ) (X Y : Tok (Fin 64 → ℝ)) (B C : Tok (Fin 128 → ℝ))

theorem knext_sum (z : Fin 64) (p : Fin 64) (n : Fin 128) :
    ∑ l, back C z l n * (back Y z l p * Ker.din (back A z) l) = Rev.dh A Y C z.rev p n := by
  unfold Rev.dh Rev.yd
  rw [← sum_rev fun l => Y z.rev l p * Rev.din A z.rev l * C z.rev l n]
  refine Finset.sum_congr rfl fun l _ => ?_
  rw [kdin_eq]; unfold back; ring

/-- The carried state gradient is the sum over the chunks already seen. -/
theorem carry_eq (t : ℕ) (ht : t < 64) (p : Fin 64) (n : Fin 128) :
    Ker.carry (back A) (back Y) (back C) t p n = Rev.ds A Y C (⟨t, ht⟩ : Fin 64).rev p n := by
  induction t with
  | zero =>
    unfold Rev.ds Rev.cd
    symm
    refine Finset.sum_eq_zero fun z _ => ?_
    rw [if_neg, mul_zero]
    rw [Fin.lt_def]; simp only [Fin.val_rev]; omega
  | succ t ih =>
    have ht' : t < 64 := by omega
    simp only [Ker.carry, dif_pos ht', Ker.next]
    rw [ih ht', ktot_eq, knext_sum]
    unfold Rev.ds
    have e1 : ((⟨t, ht'⟩ : Fin 64).rev).val = 63 - t := by simp [Fin.val_rev]
    have e2 : ((⟨t + 1, ht⟩ : Fin 64).rev).val = 62 - t := by simp [Fin.val_rev]
    have hen := en_rev_succ A t ht
    generalize (⟨t, ht'⟩ : Fin 64).rev = w at *
    generalize (⟨t + 1, ht⟩ : Fin 64).rev = w' at *
    have h : ∀ z : Fin 64, Rev.dh A Y C z p n * Rev.cd A z w'
        = Rev.dh A Y C z p n * Rev.cd A z w * Real.exp (Rev.tot A w) + if z = w then Rev.dh A Y C z p n else 0 := by
      intro z
      unfold Rev.cd
      simp only [Fin.lt_def, Fin.ext_iff, e1, e2]
      rcases lt_trichotomy z.val (63 - t) with q | q | q
      · rw [if_neg (by omega), if_neg (by omega), if_neg q.ne]; ring
      · obtain rfl : z = w := Fin.ext (q.trans e1.symm)
        rw [if_pos (by omega), if_neg (by omega), if_pos q, hen]
        rw [show Rev.en A w' + Rev.tot A z - Rev.tot A z - Rev.en A w' = 0 by ring, Real.exp_zero]; ring
      · rw [if_pos (by omega), if_pos q, if_neg q.ne', mul_assoc, ← Real.exp_add, add_zero, hen]
        congr 2; ring
    rw [Finset.sum_congr rfl fun z _ => h z, Finset.sum_add_distrib, ← Finset.sum_mul]
    rw [Finset.sum_ite_eq' univ w (fun z => Rev.dh A Y C z p n), if_pos (Finset.mem_univ _)]

theorem kcb_eq (z : Fin 64) (l s : Fin 128) :
    Ker.cb (back B z) (back C z) l s = Rev.cb B C z.rev l.rev s.rev := rfl

theorem kdm_eq (z : Fin 64) (l s : Fin 128) :
    Ker.dm (back A z) (back X z) (back Y z) l s = Rev.dec A z.rev l.rev s.rev * Rev.dm X Y z.rev l.rev s.rev := by
  unfold Ker.dm; rw [kdec_eq]; rfl

theorem kxoff_eq (z : Fin 64) (s : Fin 128) (p : Fin 64) :
    Ker.xoff (back A z) (back B z) (Rev.ds A Y C z.rev) s p
      = Rev.xst A Y B C z.rev s.rev p * Rev.dst A z.rev s.rev := by
  unfold Ker.xoff Rev.xst; rw [kdst_eq]
  congr 1
  exact Finset.sum_congr rfl fun n _ => mul_comm _ _

/-- The gradient at `X`. -/
theorem acc_eq (z : Fin 64) (s : Fin 128) (p : Fin 64) :
    Ker.acc (back A z) (back Y z) (back B z) (back C z) (Rev.ds A Y C z.rev) s p = Rev.dx A Y B C z.rev s.rev p := by
  unfold Ker.acc Rev.dx
  rw [kxoff_eq]
  congr 1
  rw [← sum_rev fun l => Y z.rev l p * (Rev.cb B C z.rev l s.rev * Rev.dec A z.rev l s.rev)]
  refine Finset.sum_congr rfl fun l _ => ?_
  rw [kdec_eq, kcb_eq, mul_comm]; rfl

theorem gin_eq (z : Fin 64) (l : Fin 128) :
    ∑ p, back Y z l p * Ker.yoff (back A z) (back C z) (Rev.h A X B z.rev) l p = Rev.gin A X Y B C z.rev l.rev := by
  unfold Rev.gin Ker.yoff Rev.ych
  rw [Finset.sum_mul]
  refine Finset.sum_congr rfl fun p _ => ?_
  rw [kdin_eq]
  simp only [back]
  rw [Finset.sum_congr rfl fun n _ => mul_comm (C z.rev l.rev n) _]; ring

theorem keg_eq (z : Fin 64) (l s : Fin 128) :
    Ker.cb (back B z) (back C z) l s * Ker.dm (back A z) (back X z) (back Y z) l s
      = Rev.eg A X Y B C z.rev l.rev s.rev := by
  rw [kdm_eq, kcb_eq]
  unfold Rev.eg Rev.dec
  split_ifs
  · ring
  · ring

theorem qcol_eq (z : Fin 64) (l : Fin 128) :
    Ker.qcol (back A z) (back X z) (back Y z) (back B z) (back C z) (Rev.h A X B z.rev) l
      = Rev.gin A X Y B C z.rev l.rev
        + ((∑ s, Rev.eg A X Y B C z.rev l.rev s) - ∑ m, Rev.eg A X Y B C z.rev m l.rev) := by
  unfold Ker.qcol
  rw [gin_eq]
  simp only [keg_eq]
  rw [sum_rev fun s => Rev.eg A X Y B C z.rev l.rev s, sum_rev fun m => Rev.eg A X Y B C z.rev m l.rev]
  ring

theorem ccol_eq (z : Fin 64) (s : Fin 128) :
    Ker.ccol (back A z) (back X z) (back B z) (Rev.ds A Y C z.rev) s = Rev.gst A X Y B C z.rev s.rev := by
  unfold Ker.ccol Rev.gst
  rw [Finset.sum_mul]
  refine Finset.sum_congr rfl fun p _ => ?_
  rw [kxoff_eq]; simp only [back]; ring

/-- Rows from `u` on minus columns from `u` on minus the row `u`, of a strictly lower triangular array. -/
theorem corner (E : Fin 64 → Fin 64 → ℝ) (hE : ∀ z w, ¬ w < z → E z w = 0) (u : Fin 64) :
    (∑ v, if u ≤ v then (∑ w, E v w) - ∑ z, E z v else 0) - ∑ w, E u w
      = ∑ z, ∑ w, if u < z ∧ w < u then E z w else 0 := by
  have h1 : (∑ v, if u ≤ v then (∑ w, E v w) - ∑ z, E z v else 0)
      = ∑ z, ∑ w, ((if u ≤ z then E z w else 0) - if u ≤ w then E z w else 0) := by
    have : ∀ v, (if u ≤ v then (∑ w, E v w) - ∑ z, E z v else 0)
        = (∑ w, if u ≤ v then E v w else 0) - ∑ z, if u ≤ v then E z v else 0 := by
      intro v; split_ifs <;> simp
    rw [Finset.sum_congr rfl fun v _ => this v, Finset.sum_sub_distrib]
    rw [Finset.sum_comm (f := fun v z => if u ≤ v then E z v else 0), ← Finset.sum_sub_distrib]
    exact Finset.sum_congr rfl fun z _ => (Finset.sum_sub_distrib _ _).symm
  have h2 : (∑ w, E u w) = ∑ z, ∑ w, if z = u then E z w else 0 := by
    rw [Finset.sum_comm]
    refine Finset.sum_congr rfl fun w _ => ?_
    rw [Finset.sum_ite_eq' univ u (fun z => E z w), if_pos (Finset.mem_univ _)]
  rw [h1, h2, ← Finset.sum_sub_distrib]
  refine Finset.sum_congr rfl fun z _ => ?_
  rw [← Finset.sum_sub_distrib]
  refine Finset.sum_congr rfl fun w _ => ?_
  by_cases hw : w < z
  · simp only [Fin.le_def, Fin.lt_def, Fin.ext_iff] at *
    split_ifs <;> first | omega | ring
  · rw [hE z w hw]; simp

/-- The gradient at a chunk's whole log decay is the product of the two states that meet there. -/
theorem through_eq (u : Fin 64) :
    Ker.through (Rev.h A X B u) (Rev.ds A Y C u) * Real.exp (Rev.tot A u) = Rev.dtot A X Y B C u := by
  unfold Rev.dtot
  rw [corner _ (fun z w hw => by unfold Rev.ecd; rw [if_neg hw])]
  unfold Ker.through
  have e : ∀ z w, (if u < z ∧ w < u then Rev.ecd A X Y B C z w else 0)
      = ∑ p, ∑ n, Rev.dh A Y C z p n * Rev.st A X B w p n * (Rev.cd A z u * Rev.cd A u w * Real.exp (Rev.tot A u)) := by
    intro z w
    by_cases hz : u < z
    · by_cases hw : w < u
      · rw [if_pos ⟨hz, hw⟩]
        unfold Rev.ecd Rev.dcd Rev.cd
        rw [if_pos (hw.trans hz), if_pos (hw.trans hz), if_pos hz, if_pos hw, ← Real.exp_add, ← Real.exp_add,
          Finset.sum_mul]
        refine Finset.sum_congr rfl fun p _ => ?_
        rw [Finset.sum_mul]
        refine Finset.sum_congr rfl fun n _ => ?_
        congr 2; ring
      · rw [if_neg (fun h => hw h.2)]
        unfold Rev.cd; simp only [if_neg hw]; simp
    · rw [if_neg (fun h => hz h.1)]
      unfold Rev.cd; simp only [if_neg hz]; simp
  simp only [e]
  unfold Rev.h Rev.ds
  rw [Finset.sum_mul]
  -- both sides are sums over p, n, z, w
  have l1 : ∀ n : Fin 128, (∑ p : Fin 64, (∑ z, Rev.dh A Y C z p n * Rev.cd A z u)
        * ∑ w, Rev.st A X B w p n * Rev.cd A u w) * Real.exp (Rev.tot A u)
      = ∑ p : Fin 64, ∑ z, ∑ w, Rev.dh A Y C z p n * Rev.st A X B w p n
          * (Rev.cd A z u * Rev.cd A u w * Real.exp (Rev.tot A u)) := by
    intro n
    rw [Finset.sum_mul]
    refine Finset.sum_congr rfl fun p _ => ?_
    rw [Finset.sum_mul_sum, Finset.sum_mul]
    refine Finset.sum_congr rfl fun z _ => ?_
    rw [Finset.sum_mul]
    refine Finset.sum_congr rfl fun w _ => ?_
    ring
  rw [Finset.sum_congr rfl fun n _ => l1 n, Finset.sum_comm]
  rw [Finset.sum_congr rfl fun p _ => (Finset.sum_comm : (∑ n : Fin 128, ∑ z : Fin 64, _) = _)]
  rw [Finset.sum_comm]
  refine Finset.sum_congr rfl fun z _ => ?_
  rw [Finset.sum_congr rfl fun p _ => (Finset.sum_comm : (∑ n : Fin 128, ∑ w : Fin 64, _) = _)]
  rw [Finset.sum_comm]

/-- The gradient at the log decays. -/
theorem da_eq (z : Fin 64) (l : Fin 128) :
    Ker.da (back A z) (back X z) (back Y z) (back B z) (back C z) (Rev.h A X B z.rev) (Rev.ds A Y C z.rev) l
      = Rev.da A X Y B C z.rev l.rev := by
  unfold Ker.da
  simp only [qcol_eq, ccol_eq, ktot_eq, through_eq]
  have q1 := sum_ite_rev (fun k => l.rev ≤ k) (fun k => Rev.gin A X Y B C z.rev k
        + ((∑ s, Rev.eg A X Y B C z.rev k s) - ∑ m, Rev.eg A X Y B C z.rev m k))
  have q2 := sum_ite_rev (fun k => k < l.rev) (fun k => Rev.gst A X Y B C z.rev k)
  simp only [Fin.rev_le_rev] at q1
  simp only [Fin.rev_lt_rev] at q2
  rw [q1, q2]
  generalize z.rev = z
  generalize l.rev = l
  unfold Rev.da
  have s1 : (∑ k, if l ≤ k then -Rev.gst A X Y B C z k
      + (if k = Fin.last 127 then Rev.dtot A X Y B C z + ∑ m, Rev.gst A X Y B C z m else 0) else 0)
      = (∑ k, if k < l then Rev.gst A X Y B C z k else 0) + Rev.dtot A X Y B C z := by
    have : ∀ k, (if l ≤ k then -Rev.gst A X Y B C z k
        + (if k = Fin.last 127 then Rev.dtot A X Y B C z + ∑ m, Rev.gst A X Y B C z m else 0) else 0)
        = ((if k < l then Rev.gst A X Y B C z k else 0) - Rev.gst A X Y B C z k)
          + (if k = Fin.last 127 then Rev.dtot A X Y B C z + ∑ m, Rev.gst A X Y B C z m else 0) := by
      intro k
      by_cases hk : l ≤ k
      · rw [if_pos hk, if_neg (not_lt.2 hk)]; ring
      · have hn : k ≠ Fin.last 127 := fun h => hk (h ▸ Fin.le_last l)
        rw [if_neg hk, if_pos (not_le.1 hk), if_neg hn]; ring
    rw [Finset.sum_congr rfl fun k _ => this k, Finset.sum_add_distrib, Finset.sum_sub_distrib]
    rw [Finset.sum_ite_eq' univ (Fin.last 127) (fun _ => Rev.dtot A X Y B C z + ∑ m, Rev.gst A X Y B C z m),
      if_pos (Finset.mem_univ _)]
    ring
  rw [s1]
  have s2 : (∑ k, if l ≤ k then Rev.gin A X Y B C z k
        + ((∑ s, Rev.eg A X Y B C z k s) - ∑ m, Rev.eg A X Y B C z m k) else 0)
      = (∑ k, if l ≤ k then Rev.gin A X Y B C z k else 0)
        + ∑ k, if l ≤ k then (∑ s, Rev.eg A X Y B C z k s) - ∑ m, Rev.eg A X Y B C z m k else 0 := by
    rw [← Finset.sum_add_distrib]
    refine Finset.sum_congr rfl fun k _ => ?_
    split_ifs <;> simp
  rw [s2]; ring

end carried

section group
variable (A : Fin 8 → Tok ℝ) (X Y : Fin 8 → Tok (Fin 64 → ℝ)) (B C : Tok (Fin 128 → ℝ))

theorem kdcb_eq (z : Fin 64) (l s : Fin 128) :
    Ker.dcb (fun j => back (A j) z) (fun j => back (X j) z) (fun j => back (Y j) z) l s
      = Rev.dcb A X Y z.rev l.rev s.rev := by
  unfold Ker.dcb Rev.dcb
  refine Finset.sum_congr rfl fun j _ => ?_
  rw [kdm_eq, mul_comm]

/-- The gradient at `C`. -/
theorem dC_eq (z : Fin 64) (l n : Fin 128) :
    Ker.dC (fun j => back (A j) z) (fun j => back (X j) z) (fun j => back (Y j) z) (back B z)
        (fun j => Rev.h (A j) (X j) B z.rev) l n
      = Rev.dC A X Y B z.rev l.rev n := by
  unfold Ker.dC Rev.dC
  simp only [kdcb_eq, kdin_eq]
  rw [← sum_rev fun s => Rev.dcb A X Y z.rev l.rev s * B z.rev s n]
  rfl

/-- The gradient at `B`. -/
theorem dB_eq (z : Fin 64) (s n : Fin 128) :
    Ker.dB (fun j => back (A j) z) (fun j => back (X j) z) (fun j => back (Y j) z) (back C z)
        (fun j => Rev.ds (A j) (Y j) C z.rev) s n
      = Rev.dB A X Y C z.rev s.rev n := by
  unfold Ker.dB Rev.dB
  simp only [kdcb_eq, kdst_eq]
  rw [← sum_rev fun l => Rev.dcb A X Y z.rev l s.rev * C z.rev l n]
  congr 1
  refine Finset.sum_congr rfl fun j _ => Finset.sum_congr rfl fun p _ => ?_
  rw [mul_comm]; rfl

end group

end Scan
-- ==== Proof.Body.lean ====
module

public import proofs.«01_k».proof.Proof.Gen.KernelIdeal.Skeleton
public import proofs.«01_k».proof.Proof.HostOps
public import proofs.«01_k».proof.Proof.Spec

/-!
# One group of heads at one point of the launch

The region does the same work for each of its eight groups of heads. Here that work is written once, as functions of the
blocks a group loads (`In`). `Values` reads them at an index.
-/

@[expose] public section

namespace Scan.Body
open Idealize.ShloMosaic Idealize.ShloMosaic.TcCoe Cert.KernelIdeal Cert.KernelIdeal.Gen

noncomputable section

/-- What a group loads: its columns of `B`, `C` and the per-token quantities, its heads' columns of `X` and the cotangent,
    the state before the chunk, the state gradient carried in, the chunk's whole decay (per column, and per head), the
    opposite running sums of its eight heads as rows, and the tables. -/
structure In where
  b : FVec Ideal S128x128 .bf16
  c : FVec Ideal S128x128 .bf16
  q : FVec Ideal S128x128 .bf16
  x : FVec Ideal S128x512 .bf16
  y : FVec Ideal S128x512 .bf16
  hs : FVec Ideal S1x1x128x512 .f32
  dh : FVec Ideal S1x128x512 .f32
  ex : FVec Ideal S1x1x512 .f32
  eg : FVec Ideal S1x1x128 .f32
  gr : Fin 8 → FVec Ideal S1x128 .f32
  edt : FVec Ideal S128x512 .bf16
  egam : FVec Ideal S128x1024 .bf16
  edin : FVec Ideal S128x512 .bf16
  edst : FVec Ideal S128x512 .bf16
  sel : FVec Ideal S512x128 .bf16

/-! The masks: the token of a row, of a column, the order of the two, and the half of the columns a head of a pair has. -/
def li : IVec S128x128 32 := iota .tc S128x128 32 [0] iota_S128x128_d0_w32
def si : IVec S128x128 32 := iota .tc S128x128 32 [1] iota_S128x128_d1_w32
def fore : IVec S128x128 1 := cmpi .sle li si
def aft : IVec S128x128 1 := cmpi .sle si li
def low : IVec S128x128 1 := cmpi .slt si (broadcast S128x128 64#32)
def half : Bool → IVec S128x128 1
  | false => low
  | true => xori low (constantI S128x128 1 1#1)
def incl : FVec Ideal S128x128 .f32 := sitofp .f32 (extui 32 (cmpi .sle si li) natLt_1_32)
def excl : FVec Ideal S128x128 .f32 := sitofp .f32 (extui 32 (cmpi .sgt si li) natLt_1_32)
def zero : FVec Ideal S128x128 .f32 := broadcast S128x128 (Scalar.ofBits .f32 0x00000000#32 : Ideal .f32)
def one : FVec Ideal S128x128 .f32 := broadcast S128x128 (Scalar.ofBits .f32 0x3F800000#32 : Ideal .f32)
def far : FVec Ideal S128x128 .f32 := broadcast S128x128 (Named.named κ "mask" 0xF149F2CA#32 : Ideal .f32)
def z128 : FVec Ideal S128x128 .f32 := constant S128x128 .f32 0x00000000#32
def z512 : FVec Ideal S128x512 .f32 := constant S128x512 .f32 0x00000000#32
def z1024 : FVec Ideal S128x1024 .f32 := constant S128x1024 .f32 0x00000000#32

/-! Column blocks of 128. -/
theorem sl512 (p : Fin 4) : S128x512.Slices ![0, 128 * p.val] S128x128 := by revert p; decide
theorem sl1024 (j : Fin 8) : S128x1024.Slices ![0, 128 * j.val] S128x128 := by revert j; decide
def cut {φ : FTy} (v : FVec Ideal S128x512 φ) (p : Fin 4) : FVec Ideal S128x128 φ :=
  extractStridedSlice S128x128 ![0, 128 * p.val] v (sl512 p)
def cut' {φ : FTy} (v : FVec Ideal S128x1024 φ) (j : Fin 8) : FVec Ideal S128x128 φ :=
  extractStridedSlice S128x128 ![0, 128 * j.val] v (sl1024 j)

namespace In
variable (I : In)

def cbt : FVec Ideal S128x128 .f32 := matmul dot_S128x128_S128x128_S128x128_1_1_0_0_n_n none I.c I.b z128
def cbtT : FVec Ideal S128x128 .f32 := matmul dot_S128x128_S128x128_S128x128_1_1_0_0_n_n none I.b I.c z128
def quant : FVec Ideal S128x128 .bf16 := shapeCast S128x128 I.q shapeCasts_S128x128_S128x128
def selc : FVec Ideal S512x128 .bf16 := shapeCast S512x128 I.sel shapeCasts_S512x128_S512x128
def spread (e : FVec Ideal S128x512 .bf16) : FVec Ideal S128x512 .f32 :=
  matmul dot_S128x128_S128x512_S128x512_1_0_0_1_n_n none I.quant (shapeCast S128x512 e shapeCasts_S128x512_S128x512) z512
def dtx : FVec Ideal S128x512 .f32 := I.spread I.edt
def dinx : FVec Ideal S128x512 .f32 := I.spread I.edin
def dstx : FVec Ideal S128x512 .f32 := I.spread I.edst
def gcol : FVec Ideal S128x1024 .f32 := matmul dot_S128x128_S128x1024_S128x1024_1_0_0_1_n_n none I.quant
  (shapeCast S128x1024 I.egam shapeCasts_S128x1024_S128x1024) z1024
def xf : FVec Ideal S128x512 .f32 := extf .f32 I.x bitsLt_bf16_f32
def yf : FVec Ideal S128x512 .f32 := extf .f32 I.y bitsLt_bf16_f32
def xdt : FVec Ideal S128x512 .f32 := mulf I.xf I.dtx
def xb : FVec Ideal S128x512 .bf16 := truncf .bf16 I.xdt bitsLt_bf16_f32
def ht : FVec Ideal S128x512 .f32 := shapeCast S128x512 I.hs shapeCasts_S1x1x128x512_S128x512
def hb : FVec Ideal S128x512 .bf16 := truncf .bf16 I.ht bitsLt_bf16_f32
def dt : FVec Ideal S128x512 .f32 := shapeCast S128x512 I.dh shapeCasts_S1x128x512_S128x512
def db : FVec Ideal S128x512 .bf16 := truncf .bf16 I.dt bitsLt_bf16_f32
def yoff : FVec Ideal S128x512 .f32 := mulf (matmul dot_S128x128_S128x512_S128x512_1_0_0_1_n_n none I.c I.hb z512) I.dinx
def xoff : FVec Ideal S128x512 .f32 := mulf (matmul dot_S128x128_S128x512_S128x512_1_0_0_1_n_n none I.b I.db z512) I.dstx
def dyd : FVec Ideal S128x512 .bf16 := truncf .bf16 (mulf I.yf I.dinx) bitsLt_bf16_f32
def xd : FVec Ideal S128x512 .bf16 := truncf .bf16 (mulf I.xdt I.dstx) bitsLt_bf16_f32
def dcAcc : FVec Ideal S128x128 .f32 := matmul dot_S128x512_S128x512_S128x128_1_1_0_0_n_n none I.dyd I.hb z128
def dbAcc : FVec Ideal S128x128 .f32 := matmul dot_S128x512_S128x512_S128x128_1_1_0_0_n_n none I.xd I.db z128
/-- The state gradient carried out. -/
def next : FVec Ideal S1x128x512 .f32 :=
  shapeCast S1x128x512 (addf
    (mulf I.dt (broadcastTo S128x512 (shapeCast S1x512 I.ex shapeCasts_S1x1x512_S1x512) broadcasts_S1x512_S128x512))
    (matmul dot_S128x128_S128x512_S128x512_0_0_1_1_n_n none I.c I.dyd z512)) shapeCasts_S128x512_S1x128x512
def sums (v : FVec Ideal S128x512 .f32) : FVec Ideal S128x128 .f32 :=
  matmul dot_S128x512_S512x128_S128x128_1_0_0_1_n_n none (truncf .bf16 v bitsLt_bf16_f32) I.selc z128
def qcol0 : FVec Ideal S128x128 .f32 := I.sums (mulf I.yf I.yoff)
def ccol : FVec Ideal S128x128 .f32 := I.sums (mulf I.xdt I.xoff)
def through : FVec Ideal S1x128 .f32 :=
  shapeCast S1x128 (multiReduction .add [0] S128 (I.sums (mulf I.dt I.ht)) 0x00000000#32 reduces_S128x128_S128 (.inl rfl) rfl)
    shapeCasts_S128_S1x128

/-! One head. -/
section head
variable (j : Fin 8) (p : Fin 4) (o : Bool)
def row : FVec Ideal S128x128 .f32 :=
  broadcastTo S128x128 (shapeCast S1x128 (I.gr j) shapeCasts_S1x128_S1x128) broadcasts_S1x128_S128x128
def dec : FVec Ideal S128x128 .f32 := exp (select fore (subf (cut' I.gcol j) (I.row j)) far)
def decT : FVec Ideal S128x128 .f32 := exp (select aft (subf (I.row j) (cut' I.gcol j)) far)
def yh : FVec Ideal S128x128 .bf16 := truncf .bf16 (select (half o) (cut I.yf p) zero) bitsLt_bf16_f32
def push : FVec Ideal S128x128 .f32 :=
  matmul dot_S128x128_S128x128_S128x128_1_0_0_1_n_n none (truncf .bf16 (mulf I.cbtT (I.decT j)) bitsLt_bf16_f32) (I.yh p o) z128
def dm : FVec Ideal S128x128 .f32 :=
  mulf (I.dec j) (matmul dot_S128x128_S128x128_S128x128_1_1_0_0_n_n none (I.yh p o) (cut I.xb p) z128)
def eg' : FVec Ideal S128x128 .bf16 := truncf .bf16 (mulf I.cbt (I.dm j p o)) bitsLt_bf16_f32
def at' : IVec S128x128 1 := cmpi .eq si (broadcast S128x128 (BitVec.ofNat 32 j.val))
def rows (e : FVec Ideal S128x128 .bf16) : FVec Ideal S128x128 .f32 :=
  broadcastTo S128x128 (shapeCast S128x1 (shapeCast S128x1 (multiReduction .add [1] S128 (extf .f32 e bitsLt_bf16_f32)
    0x00000000#32 reduces_S128x128_S128_2 (.inl rfl) rfl) shapeCasts_S128_S128x1) shapeCasts_S128x1_S128x1) broadcasts_S128x1_S128x128
def cols (e : FVec Ideal S128x128 .bf16) : FVec Ideal S128x128 .f32 :=
  matmul dot_S128x128_S128x128_S128x128_0_0_1_1_n_n none e (truncf .bf16 (select (at' j) one zero) bitsLt_bf16_f32) z128
def qstep (q : FVec Ideal S128x128 .f32) : FVec Ideal S128x128 .f32 :=
  subf (addf q (select (at' j) (rows (I.eg' j p o)) zero)) (cols j (I.eg' j p o))
end head

/-- The first head of a pair, and the second. -/
def ev (p : Fin 4) : Fin 8 := ⟨2 * p.val, by omega⟩
def od (p : Fin 4) : Fin 8 := ⟨2 * p.val + 1, by omega⟩

def acc (p : Fin 4) : FVec Ideal S128x128 .f32 :=
  addf (addf (cut I.xoff p) (I.push (ev p) p false)) (I.push (od p) p true)
def dxs (p : Fin 4) : FVec Ideal S128x128 .bf16 := truncf .bf16 (mulf (I.acc p) (cut I.dtx p)) bitsLt_bf16_f32
def tmp (p : Fin 4) : FVec Ideal S128x128 .f32 :=
  shapeCast S128x128 (mulf (I.acc p) (cut I.xf p)) shapeCasts_S128x128_S128x128

def dmPair (p : Fin 4) (s : FVec Ideal S128x128 .f32) : FVec Ideal S128x128 .f32 :=
  addf (addf s (I.dm (ev p) p false)) (I.dm (od p) p true)
def qPair (p : Fin 4) (q : FVec Ideal S128x128 .f32) : FVec Ideal S128x128 .f32 :=
  I.qstep (od p) p true (I.qstep (ev p) p false q)

def dcb : FVec Ideal S128x128 .bf16 :=
  truncf .bf16 (I.dmPair 3 (I.dmPair 2 (I.dmPair 1 (I.dmPair 0 zero)))) bitsLt_bf16_f32
def qcol : FVec Ideal S128x128 .f32 := I.qPair 3 (I.qPair 2 (I.qPair 1 (I.qPair 0 I.qcol0)))
def dC : FVec Ideal S128x128 .bf16 :=
  truncf .bf16 (addf I.dcAcc (matmul dot_S128x128_S128x128_S128x128_1_0_0_1_n_n none I.dcb I.b z128)) bitsLt_bf16_f32
def dB : FVec Ideal S128x128 .bf16 :=
  truncf .bf16 (addf I.dbAcc (matmul dot_S128x128_S128x128_S128x128_0_0_1_1_n_n none I.dcb I.c z128)) bitsLt_bf16_f32
/-- The gradient at the steps, of what the products left in the second scratch (`t`). -/
def ddt (t : FVec Ideal S128x512 .f32) : FVec Ideal S128x128 .f32 := I.sums t
def da : FVec Ideal S128x128 .f32 :=
  addf (addf (matmul dot_S128x128_S128x128_S128x128_1_0_0_1_n_n (some .fp32) incl I.qcol z128)
    (matmul dot_S128x128_S128x128_S128x128_1_0_0_1_n_n (some .fp32) excl I.ccol z128))
    (broadcastTo S128x128 (mulf I.through (shapeCast S1x128 I.eg shapeCasts_S1x1x128_S1x128)) broadcasts_S1x128_S128x128)

end In
end
end Scan.Body
-- ==== Proof.Points.lean ====
module

public import proofs.«01_k».proof.Proof.Gen.KernelIdeal.Frame
public import proofs.«01_k».proof.Proof.Body

/-!
# What a point stores, by groups

The stores of a point are read off its run: each is one of `Body`'s functions of what its group loads.
-/

@[expose] public section

set_option maxRecDepth 16384

namespace Scan.Body
open Idealize.ShloMosaic Idealize.ShloMosaic.TcCoe Cert.KernelIdeal Cert.KernelIdeal.Gen

noncomputable section

theorem inB (g : Fin 8) : ∀ a, (![0, 128 * g.val] : Fin 2 → ℕ) a + S128x128.size a ≤ S128x1024.size a := by revert g; decide
theorem inX (g : Fin 8) : ∀ a, (![0, 512 * g.val] : Fin 2 → ℕ) a + S128x512.size a ≤ S128x4096.size a := by revert g; decide
theorem inH (g : Fin 8) : ∀ a, (![g.val, 0, 0, 0] : Fin 4 → ℕ) a + S1x1x128x512.size a ≤ S8x1x128x512.size a := by revert g; decide
theorem inD (g : Fin 8) : ∀ a, (![g.val, 0, 0] : Fin 3 → ℕ) a + S1x128x512.size a ≤ S8x128x512.size a := by revert g; decide
theorem inE (g : Fin 8) : ∀ a, (![0, 0, 512 * g.val] : Fin 3 → ℕ) a + S1x1x512.size a ≤ S1x8x4096.size a := by revert g; decide
theorem inG (g : Fin 8) : ∀ a, (![0, 0, 128 * g.val] : Fin 3 → ℕ) a + S1x1x128.size a ≤ S1x8x1024.size a := by revert g; decide
theorem inR (g j : Fin 8) : ∀ a, (![8 * g.val + j.val, 0] : Fin 2 → ℕ) a + S1x128.size a ≤ S64x128.size a := by revert g j; decide
theorem inO (g : Fin 8) (p : Fin 4) : ∀ a, (![0, 512 * g.val + 128 * p.val] : Fin 2 → ℕ) a + S128x128.size a ≤ S128x4096.size a := by
  revert g p; decide
theorem inT (p : Fin 4) : ∀ a, (![0, 128 * p.val] : Fin 2 → ℕ) a + S128x128.size a ≤ S128x512.size a := by revert p; decide

variable (c : Dev nD) (i : grid0.Coords) (arg2 : Memref sig .tc .vmem S128x4096 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x4096 .bf16) (harg5 : arg5.IsWhole) (arg6 : Memref sig .tc .vmem S8x1x128x512 .f32) (harg6 : arg6.IsWhole) (arg7 : Memref sig .tc .vmem S128x1024 .bf16) (harg7 : arg7.IsWhole) (arg8 : Memref sig .tc .vmem S64x128 .f32) (harg8 : arg8.IsWhole) (arg9 : Memref sig .tc .vmem S1x8x1024 .f32) (harg9 : arg9.IsWhole) (arg10 : Memref sig .tc .vmem S1x8x4096 .f32) (harg10 : arg10.IsWhole) (arg11 : Memref sig .tc .vmem S128x512 .bf16) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S128x512 .bf16) (harg14 : arg14.IsWhole) (arg15 : Memref sig .tc .vmem S512x128 .bf16) (harg15 : arg15.IsWhole) (arg16 : Memref sig .tc .vmem S128x4096 .bf16) (harg16 : arg16.IsWhole) (arg17 : Memref sig .tc .vmem S128x1024 .bf16) (harg17 : arg17.IsWhole) (arg18 : Memref sig .tc .vmem S128x1024 .bf16) (harg18 : arg18.IsWhole) (arg19 : Memref sig .tc .vmem S128x1024 .f32) (harg19 : arg19.IsWhole) (arg20 : Memref sig .tc .vmem S128x1024 .f32) (harg20 : arg20.IsWhole) (arg21 : Memref sig .tc .vmem S8x128x512 .f32) (harg21 : arg21.IsWhole) (arg22 : Memref sig .tc .vmem S128x512 .f32) (harg22 : arg22.IsWhole)

variable (x0 : Vec Ideal S128x4096 .bf16) (x1 : Vec Ideal S128x1024 .bf16) (x2 : Vec Ideal S128x1024 .bf16) (x3 : Vec Ideal S128x4096 .bf16) (x4 : Vec Ideal S8x1x128x512 .f32) (x5 : Vec Ideal S128x1024 .bf16) (x6 : Vec Ideal S64x128 .f32) (x7 : Vec Ideal S1x8x1024 .f32) (x8 : Vec Ideal S1x8x4096 .f32) (x9 : Vec Ideal S128x512 .bf16) (x10 : Vec Ideal S128x1024 .bf16) (x11 : Vec Ideal S128x512 .bf16) (x12 : Vec Ideal S128x512 .bf16) (x13 : Vec Ideal S512x128 .bf16) (xs0 : Vec Ideal S8x128x512 .f32)

/-- What group `g` loads at a point, the state gradient carried in being `d`. -/
def load (g : Fin 8) (d : FVec Ideal S1x128x512 .f32) : In where
  b := View.readAt (Elt Ideal) arg3.view (Rect.unit (s := S128x1024) ![0, 128 * g.val] S128x128.size (inB g)).toLoadRect (harg3.unread x1)
  c := View.readAt (Elt Ideal) arg4.view (Rect.unit (s := S128x1024) ![0, 128 * g.val] S128x128.size (inB g)).toLoadRect (harg4.unread x2)
  q := View.readAt (Elt Ideal) arg7.view (Rect.unit (s := S128x1024) ![0, 128 * g.val] S128x128.size (inB g)).toLoadRect (harg7.unread x5)
  x := View.readAt (Elt Ideal) arg2.view (Rect.unit (s := S128x4096) ![0, 512 * g.val] S128x512.size (inX g)).toLoadRect (harg2.unread x0)
  y := View.readAt (Elt Ideal) arg5.view (Rect.unit (s := S128x4096) ![0, 512 * g.val] S128x512.size (inX g)).toLoadRect (harg5.unread x3)
  hs := View.readAt (Elt Ideal) arg6.view (Rect.unit (s := S8x1x128x512) ![g.val, 0, 0, 0] S1x1x128x512.size (inH g)).toLoadRect (harg6.unread x4)
  ex := View.readAt (Elt Ideal) arg10.view (Rect.unit (s := S1x8x4096) ![0, 0, 512 * g.val] S1x1x512.size (inE g)).toLoadRect (harg10.unread x8)
  eg := View.readAt (Elt Ideal) arg9.view (Rect.unit (s := S1x8x1024) ![0, 0, 128 * g.val] S1x1x128.size (inG g)).toLoadRect (harg9.unread x7)
  gr := fun j => View.readAt (Elt Ideal) arg8.view (Rect.unit (s := S64x128) ![8 * g.val + j.val, 0] S1x128.size (inR g j)).toLoadRect (harg8.unread x6)
  edt := View.readAt (Elt Ideal) arg11.view (Rect.unit (s := S128x512) ![0, 0] S128x512.size inb_S128x512_S128x512_0_0).toLoadRect (harg11.unread x9)
  egam := View.readAt (Elt Ideal) arg12.view (Rect.unit (s := S128x1024) ![0, 0] S128x1024.size inb_S128x1024_S128x1024_0_0).toLoadRect (harg12.unread x10)
  edin := View.readAt (Elt Ideal) arg13.view (Rect.unit (s := S128x512) ![0, 0] S128x512.size inb_S128x512_S128x512_0_0).toLoadRect (harg13.unread x11)
  edst := View.readAt (Elt Ideal) arg14.view (Rect.unit (s := S128x512) ![0, 0] S128x512.size inb_S128x512_S128x512_0_0).toLoadRect (harg14.unread x12)
  sel := View.readAt (Elt Ideal) arg15.view (Rect.unit (s := S512x128) ![0, 0] S512x128.size inb_S512x128_S512x128_0_0).toLoadRect (harg15.unread x13)
  dh := d

/-- The state gradient group `g` finds in the scratch. -/
def carried (g : Fin 8) : FVec Ideal S1x128x512 .f32 :=
  View.readAt (Elt Ideal) arg21.view (Rect.unit (s := S8x128x512) ![g.val, 0, 0] S1x128x512.size (inD g)).toLoadRect (harg21.unread xs0)

/-- The same blocks, of the windows' contents. -/
def blocks (g : Fin 8) (d : FVec Ideal S1x128x512 .f32) : In where
  b := View.ld x1 (Rect.unit (s := S128x1024) ![0, 128 * g.val] S128x128.size (inB g))
  c := View.ld x2 (Rect.unit (s := S128x1024) ![0, 128 * g.val] S128x128.size (inB g))
  q := View.ld x5 (Rect.unit (s := S128x1024) ![0, 128 * g.val] S128x128.size (inB g))
  x := View.ld x0 (Rect.unit (s := S128x4096) ![0, 512 * g.val] S128x512.size (inX g))
  y := View.ld x3 (Rect.unit (s := S128x4096) ![0, 512 * g.val] S128x512.size (inX g))
  hs := View.ld x4 (Rect.unit (s := S8x1x128x512) ![g.val, 0, 0, 0] S1x1x128x512.size (inH g))
  ex := View.ld x8 (Rect.unit (s := S1x8x4096) ![0, 0, 512 * g.val] S1x1x512.size (inE g))
  eg := View.ld x7 (Rect.unit (s := S1x8x1024) ![0, 0, 128 * g.val] S1x1x128.size (inG g))
  gr := fun j => View.ld x6 (Rect.unit (s := S64x128) ![8 * g.val + j.val, 0] S1x128.size (inR g j))
  edt := View.ld x9 (Rect.unit (s := S128x512) ![0, 0] S128x512.size inb_S128x512_S128x512_0_0)
  egam := View.ld x10 (Rect.unit (s := S128x1024) ![0, 0] S128x1024.size inb_S128x1024_S128x1024_0_0)
  edin := View.ld x11 (Rect.unit (s := S128x512) ![0, 0] S128x512.size inb_S128x512_S128x512_0_0)
  edst := View.ld x12 (Rect.unit (s := S128x512) ![0, 0] S128x512.size inb_S128x512_S128x512_0_0)
  sel := View.ld x13 (Rect.unit (s := S512x128) ![0, 0] S512x128.size inb_S512x128_S512x128_0_0)
  dh := d

theorem load_eq (g : Fin 8) (d : FVec Ideal S1x128x512 .f32) : load arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 g d = blocks x0 x1 x2 x3 x4 x5 x6 x7 x8 x9 x10 x11 x12 x13 g d := by
  unfold load blocks
  simp only [View.readAt_eq_ld, Memref.IsWhole.read_unread]

section lists
variable (I : Fin 8 → In) (t : Fin 8 → FVec Ideal S128x512 .f32)

def eights {α : Type} (f : Fin 8 → α) : List α := [f 7, f 6, f 5, f 4, f 3, f 2, f 1, f 0]

theorem eights_all {α : Type} (f : Fin 8 → α) (P : α → Prop) (h : ∀ g, P (f g)) : ∀ q ∈ eights f, P q := by
  intro q hq
  simp only [eights, List.mem_cons, List.not_mem_nil, or_false] at hq
  rcases hq with rfl | rfl | rfl | rfl | rfl | rfl | rfl | rfl <;> exact h _

def tile (g : Fin 8) (p : Fin 4) : View.Piece (Elt Ideal) S128x4096 .bf16 :=
  ⟨Rect.unit (s := S128x4096) ![0, 512 * g.val + 128 * p.val] S128x128.size (inO g p), (I g).dxs p⟩
def row4 (g : Fin 8) (L : List (View.Piece (Elt Ideal) S128x4096 .bf16)) : List (View.Piece (Elt Ideal) S128x4096 .bf16) :=
  tile I g 3 :: tile I g 2 :: tile I g 1 :: tile I g 0 :: L
def list14 : List (View.Piece (Elt Ideal) S128x4096 .bf16) :=
  row4 I 7 (row4 I 6 (row4 I 5 (row4 I 4 (row4 I 3 (row4 I 2 (row4 I 1 (row4 I 0 [])))))))
def list15 : List (View.Piece (Elt Ideal) S128x1024 .bf16) :=
  eights fun g => ⟨Rect.unit (s := S128x1024) ![0, 128 * g.val] S128x128.size (inB g), (I g).dB⟩
def list16 : List (View.Piece (Elt Ideal) S128x1024 .bf16) :=
  eights fun g => ⟨Rect.unit (s := S128x1024) ![0, 128 * g.val] S128x128.size (inB g), (I g).dC⟩
def list17 : List (View.Piece (Elt Ideal) S128x1024 .f32) :=
  eights fun g => ⟨Rect.unit (s := S128x1024) ![0, 128 * g.val] S128x128.size (inB g), (I g).ddt (t g)⟩
def list18 : List (View.Piece (Elt Ideal) S128x1024 .f32) :=
  eights fun g => ⟨Rect.unit (s := S128x1024) ![0, 128 * g.val] S128x128.size (inB g), (I g).da⟩
def listD : List (View.Piece (Elt Ideal) S8x128x512 .f32) :=
  eights fun g => ⟨Rect.unit (s := S8x128x512) ![g.val, 0, 0] S1x128x512.size (inD g), (I g).next⟩

/-- The second scratch, once groups have written their products there. -/
def held : ℕ → List (View.Piece (Elt Ideal) S128x512 .f32)
  | 0 => []
  | k + 1 => ⟨Rect.unit (s := S128x512) ![0, 128 * (3 : Fin 4).val] S128x128.size (inT 3), (I (Fin.ofNat 8 k)).tmp 3⟩ ::
      ⟨Rect.unit (s := S128x512) ![0, 128 * (2 : Fin 4).val] S128x128.size (inT 2), (I (Fin.ofNat 8 k)).tmp 2⟩ ::
      ⟨Rect.unit (s := S128x512) ![0, 128 * (1 : Fin 4).val] S128x128.size (inT 1), (I (Fin.ofNat 8 k)).tmp 1⟩ ::
      ⟨Rect.unit (s := S128x512) ![0, 128 * (0 : Fin 4).val] S128x128.size (inT 0), (I (Fin.ofNat 8 k)).tmp 0⟩ :: held k

/-- What group `g` reads back of it. -/
def taken (g : Fin 8) : FVec Ideal S128x512 .f32 :=
  arg22.view.readCov (held I (g.val + 1)) (Rect.unit (s := S128x512) ![0, 0] S128x512.size inb_S128x512_S128x512_0_0).toLoadRect
end lists

/-- At a first point: the scratch after `k` groups, which it clears before the first. -/
def heldD : ℕ → List (View.Piece (Elt Ideal) S8x128x512 .f32)
  | 0 => [⟨Rect.unit (s := S8x128x512) ![0, 0, 0] S8x128x512.size inb_S8x128x512_S8x128x512_0_0_0,
      shapeCast S8x128x512 (broadcast S8x128x512 (Scalar.ofBits .f32 0x00000000#32 : Ideal .f32)) shapeCasts_S8x128x512_S8x128x512⟩]
  | k + 1 => ⟨Rect.unit (s := S8x128x512) ![(Fin.ofNat 8 k).val, 0, 0] S1x128x512.size (inD (Fin.ofNat 8 k)),
      (load arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 (Fin.ofNat 8 k) (arg21.view.readCov (heldD k)
        (Rect.unit (s := S8x128x512) ![(Fin.ofNat 8 k).val, 0, 0] S1x128x512.size (inD (Fin.ofNat 8 k))).toLoadRect)).next⟩ :: heldD k

/-- The state gradient group `g` finds there. -/
def fresh (g : Fin 8) : FVec Ideal S1x128x512 .f32 :=
  arg21.view.readCov (heldD arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 g.val) (Rect.unit (s := S8x128x512) ![g.val, 0, 0] S1x128x512.size (inD g)).toLoadRect

section runs
attribute [local irreducible] addf mulf subf truncf extf exp select shapeCast broadcastTo broadcast extractStridedSlice concatenate multiReduction cmpi constant iota View.readAt View.readCov

theorem B_14 (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0).1 = list14 (fun g => load arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 g (carried arg21 harg21 xs0 g)) := by
  unfold kernelRun0_B
  dsimp only
  rfl

theorem B_15 (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0).2.1 = list15 (fun g => load arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 g (carried arg21 harg21 xs0 g)) := by
  unfold kernelRun0_B
  dsimp only
  rfl

theorem B_16 (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0).2.2.1 = list16 (fun g => load arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 g (carried arg21 harg21 xs0 g)) := by
  unfold kernelRun0_B
  dsimp only
  rfl

theorem B_17 (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0).2.2.2.1 = list17 (fun g => load arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 g (carried arg21 harg21 xs0 g)) (taken arg22 (fun g => load arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 g (carried arg21 harg21 xs0 g))) := by
  unfold kernelRun0_B
  dsimp only
  rfl

theorem B_18 (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0).2.2.2.2.1 = list18 (fun g => load arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 g (carried arg21 harg21 xs0 g)) := by
  unfold kernelRun0_B
  dsimp only
  rfl

theorem B_D (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0).2.2.2.2.2.1 = listD (fun g => load arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 g (carried arg21 harg21 xs0 g)) := by
  unfold kernelRun0_B
  dsimp only
  rfl

theorem A_14 (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).1 = list14 (fun g => load arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 g (fresh arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 g)) := by
  unfold kernelRun0_A
  dsimp only
  rfl

theorem A_15 (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.1 = list15 (fun g => load arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 g (fresh arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 g)) := by
  unfold kernelRun0_A
  dsimp only
  rfl

theorem A_16 (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.1 = list16 (fun g => load arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 g (fresh arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 g)) := by
  unfold kernelRun0_A
  dsimp only
  rfl

theorem A_17 (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.2.1 = list17 (fun g => load arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 g (fresh arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 g)) (taken arg22 (fun g => load arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 g (fresh arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 g))) := by
  unfold kernelRun0_A
  dsimp only
  rfl

theorem A_18 (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.2.2.1 = list18 (fun g => load arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 g (fresh arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 g)) := by
  unfold kernelRun0_A
  dsimp only
  rfl

theorem A_D (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.2.2.2.1 = heldD arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 8 := by
  unfold kernelRun0_A
  dsimp only
  rfl

end runs

end
end Scan.Body
-- ==== Proof.Ops.lean ====
module

public import proofs.«01_k».proof.Proof.Body

/-!
# The operations of a group on real arrays

`Is v f`: the array `v` holds the reals `f`. Each operation of `Body` carries reals to reals.
-/

@[expose] public section

namespace Scan.Body
open Idealize.ShloMosaic Idealize.ShloMosaic.TcCoe Cert.KernelIdeal Cert.KernelIdeal.Gen
open scoped BigOperators

noncomputable section

def Is {s : Shape} (v : s.Idx → EReal) (f : s.Idx → ℝ) : Prop := ∀ i, v i = ((f i : ℝ) : EReal)

/-- The head of a column of a group, and its channel there. -/
def hd (k : Fin 512) : Fin 8 := ⟨k.val / 64, by omega⟩
def pd (k : Fin 512) : Fin 64 := ⟨k.val % 64, by omega⟩
/-- A column of a pair's block among the group's. -/
def wide (p : Fin 4) (m : Fin 128) : Fin 512 := ⟨128 * p.val + m.val, by omega⟩

def wide' (j : Fin 8) (m : Fin 128) : Fin 1024 := ⟨128 * j.val + m.val, by omega⟩

theorem sum512 (F : Fin 8 → Fin 64 → ℝ) : ∑ k : Fin 512, F (hd k) (pd k) = ∑ j, ∑ p, F j p := by
  rw [← Fintype.sum_prod_type' F]
  exact Fintype.sum_equiv (finProdFinEquiv (m := 8) (n := 64)).symm _ _ fun k => rfl

theorem sum128 (F : Fin 2 → Fin 64 → ℝ) :
    ∑ m : Fin 128, F ⟨m.val / 64, by omega⟩ ⟨m.val % 64, by omega⟩ = ∑ p, F 0 p + ∑ p, F 1 p := by
  rw [← Fin.sum_univ_two (fun o => ∑ p, F o p), ← Fintype.sum_prod_type' F]
  exact Fintype.sum_equiv (finProdFinEquiv (m := 2) (n := 64)).symm _ _ fun k => rfl

theorem idx2 {n m : ℕ} (i : (⟨2, ![n, m]⟩ : Shape).Idx) : i = ix2 (i 0) (i 1) := by
  funext a
  match a with
  | ⟨0, _⟩ => rfl
  | ⟨1, _⟩ => rfl

section ops
variable {s : Shape} {φ : FTy} {v w : FVec Ideal s φ} {f g : s.Idx → ℝ}

theorem Is.to {v : s.Idx → EReal} (h : Is v f) (e : ∀ i, f i = g i) : Is v g := fun i => (h i).trans (congrArg _ (e i))
theorem Is.eq {v : s.Idx → EReal} (h : Is v f) (i : s.Idx) : v i = ((f i : ℝ) : EReal) := h i

theorem Is.mul (h : Is v f) (k : Is w g) : Is (mulf v w) (fun i => f i * g i) := fun i => by
  show FloatOps.mulf (v i) (w i) = _
  rw [h.eq i, k.eq i, Ideal.mulf_def, ← EReal.coe_mul]
theorem Is.add (h : Is v f) (k : Is w g) : Is (addf v w) (fun i => f i + g i) := fun i => by
  show FloatOps.addf (v i) (w i) = _
  rw [h.eq i, k.eq i, Ideal.addf_def, ← EReal.coe_add]
theorem Is.sub (h : Is v f) (k : Is w g) : Is (subf v w) (fun i => f i - g i) := fun i => by
  show FloatOps.subf (v i) (w i) = _
  rw [h.eq i, k.eq i, Ideal.subf_def, ← EReal.coe_sub]
theorem Is.trunc {v : FVec Ideal s .f32} (h : Is v f) (b) : Is (truncf .bf16 v b) f := fun i => h i
theorem Is.ext {v : FVec Ideal s .bf16} (h : Is v f) (b) : Is (extf .f32 v b) f := fun i => h i

theorem select_bool {α : Type} (p : Prop) [Decidable p] (a b : α) :
    Scalar.select (BitVec.ofBool (decide p)) a b = if p then a else b := by
  by_cases h : p <;> simp [Scalar.select, h]

theorem sel_at {α : Type} (c : IVec s 1) (a b : s.Idx → α) (i : s.Idx) : select c a b i = Scalar.select (c i) (a i) (b i) := rfl

theorem Is.sel {c : IVec s 1} {P : s.Idx → Prop} [∀ i, Decidable (P i)] (hc : ∀ i, c i = BitVec.ofBool (decide (P i)))
    (h : Is v f) (k : Is w g) : Is (select c v w) (fun i => if P i then f i else g i) := fun i => by
  rw [sel_at, hc i, select_bool, h.eq i, k.eq i]; exact coe_ite _ _ _

/-- The exponential of a difference, masked to `0` by `-∞`. -/
theorem Is.expMask {c : IVec S128x128 1} {P : S128x128.Idx → Prop} [∀ i, Decidable (P i)] {v : FVec Ideal S128x128 .f32}
    {f : S128x128.Idx → ℝ} (hc : ∀ i, c i = BitVec.ofBool (decide (P i)))
    (h : Is v f) : Is (exp (select c v far)) (fun i => if P i then Real.exp (f i) else 0) := fun i => by
  have hf : (far i : EReal) = ⊥ := rfl
  show FloatOps.exp (select c v far i) = _
  rw [sel_at, hc i, select_bool, h.eq i, hf]
  by_cases q : P i
  · simp only [if_pos q]; exact Ideal.exp_coe _
  · simp only [if_neg q]; exact Ideal.exp_bot

end ops

theorem zero32 : (FloatOps.ofBits .f32 0#32 : Ideal .f32) = (0 : EReal) := Ideal.ofBits_zero_f32
theorem one32 : (FloatOps.ofBits .f32 0x3F800000#32 : Ideal .f32) = (1 : EReal) := Ideal.ofBits_one_f32
theorem is_zero : Is zero (fun _ => 0) := fun i => zero32
theorem is_one : Is one (fun _ => 1) := fun i => one32

/-! The masks. -/
theorem li_apply (i : S128x128.Idx) : li i = BitVec.ofNat 32 (i 0).val := by
  show BitVec.ofNat 32 (0 * 128 + (i 0).val) = _
  rw [Nat.zero_mul, Nat.zero_add]
theorem si_apply (i : S128x128.Idx) : si i = BitVec.ofNat 32 (i 1).val := by
  show BitVec.ofNat 32 (0 * 128 + (i 1).val) = _
  rw [Nat.zero_mul, Nat.zero_add]

theorem word_int (a : ℕ) (h : a < 2 ^ 16) : (BitVec.ofNat 32 a).toInt = a := by
  rw [BitVec.toInt_eq_toNat_cond, BitVec.toNat_ofNat]; omega
theorem sle_word (a b : ℕ) (ha : a < 2 ^ 16) (hb : b < 2 ^ 16) :
    IntOp.cmpi .sle (BitVec.ofNat 32 a) (BitVec.ofNat 32 b) = BitVec.ofBool (decide (a ≤ b)) := by
  unfold IntOp.cmpi
  simp only [BitVec.sle, word_int a ha, word_int b hb]
  congr 1; simp
theorem slt_word (a b : ℕ) (ha : a < 2 ^ 16) (hb : b < 2 ^ 16) :
    IntOp.cmpi .slt (BitVec.ofNat 32 a) (BitVec.ofNat 32 b) = BitVec.ofBool (decide (a < b)) := by
  unfold IntOp.cmpi
  simp only [BitVec.slt, word_int a ha, word_int b hb]
  congr 1; simp
theorem sgt_word (a b : ℕ) (ha : a < 2 ^ 16) (hb : b < 2 ^ 16) :
    IntOp.cmpi .sgt (BitVec.ofNat 32 a) (BitVec.ofNat 32 b) = BitVec.ofBool (decide (b < a)) := by
  unfold IntOp.cmpi
  simp only [BitVec.slt, word_int a ha, word_int b hb]
  congr 1; simp
theorem eq_word (a b : ℕ) (ha : a < 2 ^ 16) (hb : b < 2 ^ 16) :
    IntOp.cmpi .eq (BitVec.ofNat 32 a) (BitVec.ofNat 32 b) = BitVec.ofBool (decide (a = b)) := by
  unfold IntOp.cmpi
  by_cases h : a = b
  · subst h; simp
  · have : BitVec.ofNat 32 a ≠ BitVec.ofNat 32 b := fun e => h (by
      have := congrArg BitVec.toNat e
      rw [BitVec.toNat_ofNat, BitVec.toNat_ofNat] at this; omega)
    simp only [decide_eq_false h]
    rw [beq_eq_false_iff_ne.2 this]

section masks
variable (i : S128x128.Idx)
theorem b0 : (i 0).val < 128 := (i 0).isLt
theorem b1 : (i 1).val < 128 := (i 1).isLt
theorem fore_apply : fore i = BitVec.ofBool (decide ((i 0).val ≤ (i 1).val)) := by
  have := b0 i; have := b1 i
  unfold fore; rw [cmpi_apply, li_apply, si_apply]; exact sle_word _ _ (by omega) (by omega)
theorem aft_apply : aft i = BitVec.ofBool (decide ((i 1).val ≤ (i 0).val)) := by
  have := b0 i; have := b1 i
  unfold aft; rw [cmpi_apply, li_apply, si_apply]; exact sle_word _ _ (by omega) (by omega)
theorem half_apply (o : Bool) : half o i = BitVec.ofBool (decide ((i 1).val / 64 = o.toNat)) := by
  have := b1 i
  have e : low i = BitVec.ofBool (decide ((i 1).val < 64)) := by
    unfold low; rw [cmpi_apply, si_apply]; exact slt_word _ 64 (by omega) (by omega)
  cases o
  · show low i = _
    rw [e]; congr 1; simp only [Bool.toNat_false, decide_eq_decide]; omega
  · show IntOp.xori (low i) 1#1 = _
    rw [e]
    by_cases h : (i 1).val < 64
    · have : ¬ ((i 1).val / 64 = true.toNat) := by simp only [Bool.toNat_true]; omega
      rw [decide_eq_true h, decide_eq_false this]; rfl
    · have : (i 1).val / 64 = true.toNat := by simp only [Bool.toNat_true]; omega
      rw [decide_eq_false h, decide_eq_true this]; rfl
theorem at_apply (j : Fin 8) : In.at' j i = BitVec.ofBool (decide ((i 1).val = j.val)) := by
  have := b1 i; have := j.isLt
  unfold In.at'; rw [cmpi_apply, si_apply]; exact eq_word _ _ (by omega) (by omega)
end masks

theorem nat_bool (p : Prop) [Decidable p] :
    FloatOps.sitofp (F := Ideal) .f32 ((BitVec.ofBool (decide p)).setWidth 32) = (((if p then 1 else 0 : ℝ)) : EReal) := by
  by_cases h : p
  · rw [decide_eq_true h, if_pos h]
    show (((((BitVec.ofBool true).setWidth 32 : BitVec 32)).toInt : ℝ) : EReal) = _
    rw [show ((BitVec.ofBool true).setWidth 32 : BitVec 32).toInt = 1 from by decide]; simp
  · rw [decide_eq_false h, if_neg h]
    show (((((BitVec.ofBool false).setWidth 32 : BitVec 32)).toInt : ℝ) : EReal) = _
    rw [show ((BitVec.ofBool false).setWidth 32 : BitVec 32).toInt = 0 from by decide]; simp
theorem is_incl : Is incl (fun i => if (i 1).val ≤ (i 0).val then 1 else 0) := fun i => by
  have := b0 i; have := b1 i
  show FloatOps.sitofp (F := Ideal) .f32 ((IntOp.cmpi .sle (si i) (li i)).setWidth 32) = _
  rw [li_apply, si_apply, sle_word _ _ (by omega) (by omega)]; exact nat_bool _
theorem is_excl : Is excl (fun i => if (i 0).val < (i 1).val then 1 else 0) := fun i => by
  have := b0 i; have := b1 i
  show FloatOps.sitofp (F := Ideal) .f32 ((IntOp.cmpi .sgt (si i) (li i)).setWidth 32) = _
  rw [li_apply, si_apply, sgt_word _ _ (by omega) (by omega)]; exact nat_bool _

/-! Column blocks, and the rows and columns laid over a block. -/
theorem Is.cut {φ : FTy} {v : FVec Ideal S128x512 φ} {f : S128x512.Idx → ℝ} (h : Is v f) (p : Fin 4) :
    Is (Body.cut v p) (fun i => f (ix2 (i 0) (wide p (i 1)))) := fun i =>
  (extractStridedSlice_apply _ v (sl512 p) i (ix2 (i 0) (wide p (i 1)) : S128x512.Idx) (fun a => match a with
    | ⟨0, _⟩ => (Nat.zero_add _).symm
    | ⟨1, _⟩ => rfl)).trans (h _)
theorem Is.cut' {φ : FTy} {v : FVec Ideal S128x1024 φ} {f : S128x1024.Idx → ℝ} (h : Is v f) (j : Fin 8) :
    Is (Body.cut' v j) (fun i => f (ix2 (i 0) (wide' j (i 1)))) := fun i =>
  (extractStridedSlice_apply _ v (sl1024 j) i (ix2 (i 0) (wide' j (i 1)) : S128x1024.Idx) (fun a => match a with
    | ⟨0, _⟩ => (Nat.zero_add _).symm
    | ⟨1, _⟩ => rfl)).trans (h _)

section dots
variable {pr : Option ContractPrecision} {φ ψ : FTy}
variable {A B : S128x128.Idx → ℝ} {C D : S128x512.Idx → ℝ} {E : S512x128.Idx → ℝ} {H : S128x1024.Idx → ℝ}
variable {l r : FVec Ideal S128x128 φ} {u t : FVec Ideal S128x512 φ} {m : FVec Ideal S512x128 φ} {w : FVec Ideal S128x1024 φ}

theorem dot11 (hl : Is l A) (hr : Is r B) :
    Is (matmul dot_S128x128_S128x128_S128x128_1_1_0_0_n_n pr l r z128) (fun j => ∑ k : Fin 128, A (ix2 (j 0) k) * B (ix2 (j 1) k)) := by
  intro j
  have hz : (z128 j : EReal) = 0 := zero32
  simp only [pointwise]
  rw [hz, zero_add, ← coe_sum]
  exact Finset.sum_congr rfl fun k _ => by rw [hl.eq, hr.eq, EReal.coe_mul]

theorem dot10 (hl : Is l A) (hr : Is r B) :
    Is (matmul dot_S128x128_S128x128_S128x128_1_0_0_1_n_n pr l r z128) (fun j => ∑ k : Fin 128, A (ix2 (j 0) k) * B (ix2 k (j 1))) := by
  intro j
  have hz : (z128 j : EReal) = 0 := zero32
  simp only [pointwise]
  rw [hz, zero_add, ← coe_sum]
  exact Finset.sum_congr rfl fun k _ => by rw [hl.eq, hr.eq, EReal.coe_mul]

theorem dot00 (hl : Is l A) (hr : Is r B) :
    Is (matmul dot_S128x128_S128x128_S128x128_0_0_1_1_n_n pr l r z128) (fun j => ∑ k : Fin 128, A (ix2 k (j 0)) * B (ix2 k (j 1))) := by
  intro j
  have hz : (z128 j : EReal) = 0 := zero32
  simp only [pointwise]
  rw [hz, zero_add, ← coe_sum]
  exact Finset.sum_congr rfl fun k _ => by rw [hl.eq, hr.eq, EReal.coe_mul]

theorem dot10w (hl : Is l A) (hr : Is t D) :
    Is (matmul dot_S128x128_S128x512_S128x512_1_0_0_1_n_n pr l t z512) (fun j => ∑ k : Fin 128, A (ix2 (j 0) k) * D (ix2 k (j 1))) := by
  intro j
  have hz : (z512 j : EReal) = 0 := zero32
  simp only [pointwise]
  rw [hz, zero_add, ← coe_sum]
  exact Finset.sum_congr rfl fun k _ => by rw [hl.eq, hr.eq, EReal.coe_mul]

theorem dot00w (hl : Is l A) (hr : Is t D) :
    Is (matmul dot_S128x128_S128x512_S128x512_0_0_1_1_n_n pr l t z512) (fun j => ∑ k : Fin 128, A (ix2 k (j 0)) * D (ix2 k (j 1))) := by
  intro j
  have hz : (z512 j : EReal) = 0 := zero32
  simp only [pointwise]
  rw [hz, zero_add, ← coe_sum]
  exact Finset.sum_congr rfl fun k _ => by rw [hl.eq, hr.eq, EReal.coe_mul]

theorem dot11w (hl : Is u C) (hr : Is t D) :
    Is (matmul dot_S128x512_S128x512_S128x128_1_1_0_0_n_n pr u t z128) (fun j => ∑ k : Fin 512, C (ix2 (j 0) k) * D (ix2 (j 1) k)) := by
  intro j
  have hz : (z128 j : EReal) = 0 := zero32
  simp only [pointwise]
  rw [hz, zero_add, ← coe_sum]
  exact Finset.sum_congr rfl fun k _ => by rw [hl.eq, hr.eq, EReal.coe_mul]

theorem dot10s (hl : Is u C) (hr : Is m E) :
    Is (matmul dot_S128x512_S512x128_S128x128_1_0_0_1_n_n pr u m z128) (fun j => ∑ k : Fin 512, C (ix2 (j 0) k) * E (ix2 k (j 1))) := by
  intro j
  have hz : (z128 j : EReal) = 0 := zero32
  simp only [pointwise]
  rw [hz, zero_add, ← coe_sum]
  exact Finset.sum_congr rfl fun k _ => by rw [hl.eq, hr.eq, EReal.coe_mul]

theorem dot10x (hl : Is l A) (hr : Is w H) :
    Is (matmul dot_S128x128_S128x1024_S128x1024_1_0_0_1_n_n pr l w z1024) (fun j => ∑ k : Fin 128, A (ix2 (j 0) k) * H (ix2 k (j 1))) := by
  intro j
  have hz : (z1024 j : EReal) = 0 := zero32
  simp only [pointwise]
  rw [hz, zero_add, ← coe_sum]
  exact Finset.sum_congr rfl fun k _ => by rw [hl.eq, hr.eq, EReal.coe_mul]

end dots

/-! Re-shapings that only drop or add axes of size one. -/
theorem cast_ex {α : Type} {s t : Shape} (x : s.Idx → α) (h : s.ShapeCasts t) (j : t.Idx) :
    ∃ k, shapeCast t x h j = x k ∧ (s.rowMajor k).val = (t.rowMajor j).val :=
  ⟨s.rowMajor.symm ((t.rowMajor j).cast h), shapeCast_apply x h j _ (by simp), by simp⟩

theorem is_row {v : FVec Ideal S1x128 .f32} {f : Fin 128 → ℝ} (h : ∀ i, v i = ((f (i 1) : ℝ) : EReal)) :
    Is (broadcastTo S128x128 v broadcasts_S1x128_S128x128) (fun i => f (i 1)) := fun i =>
  (broadcastTo_apply v _ i (ix2 (0 : Fin 1) (i 1)) (fun a => match a with
    | ⟨0, _⟩ => rfl
    | ⟨1, _⟩ => rfl)).trans (h _)

theorem is_rowW {v : FVec Ideal S1x512 .f32} {f : Fin 512 → ℝ} (h : ∀ i, v i = ((f (i 1) : ℝ) : EReal)) :
    Is (broadcastTo S128x512 v broadcasts_S1x512_S128x512) (fun i => f (i 1)) := fun i =>
  (broadcastTo_apply v _ i (ix2 (0 : Fin 1) (i 1)) (fun a => match a with
    | ⟨0, _⟩ => rfl
    | ⟨1, _⟩ => rfl)).trans (h _)

theorem is_col {v : FVec Ideal S128x1 .f32} {f : Fin 128 → ℝ} (h : ∀ i, v i = ((f (i 0) : ℝ) : EReal)) :
    Is (broadcastTo S128x128 v broadcasts_S128x1_S128x128) (fun i => f (i 0)) := fun i =>
  (broadcastTo_apply v _ i (ix2 (i 0) (0 : Fin 1)) (fun a => match a with
    | ⟨0, _⟩ => rfl
    | ⟨1, _⟩ => rfl)).trans (h _)

/-- The sums of the rows, as a column. -/
theorem is_sumRow {v : FVec Ideal S128x128 .f32} {f : S128x128.Idx → ℝ} (h : Is v f) (i : S128x1.Idx) :
    shapeCast S128x1 (multiReduction .add [1] S128 v 0x00000000#32 reduces_S128x128_S128_2 (.inl rfl) rfl) shapeCasts_S128_S128x1 i
      = ((∑ k : Fin 128, f (ix2 (i 0) k) : ℝ) : EReal) := by
  obtain ⟨k, e, hk⟩ := cast_ex (multiReduction .add [1] S128 v 0x00000000#32 reduces_S128x128_S128_2 (.inl rfl) rfl)
    shapeCasts_S128_S128x1 i
  rw [Shape.rowMajor_val_one, Shape.rowMajor_val_two] at hk
  have h1 : (i 1).val < 1 := (i 1).isLt
  change (k 0).val = (i 0).val * 1 + (i 1).val at hk
  have hk0 : k 0 = i 0 := Fin.ext (by show (k 0).val = (i 0).val; omega)
  refine e.trans ?_
  simp only [pointwise]
  rw [← coe_sum]
  exact Finset.sum_congr rfl fun m _ => (h.eq _).trans (congrArg (fun z : Fin 128 => ((f (ix2 z m) : ℝ) : EReal)) hk0)

/-- The sums of the columns, as a row. -/
theorem is_sumCol {v : FVec Ideal S128x128 .f32} {f : S128x128.Idx → ℝ} (h : Is v f) (i : S1x128.Idx) :
    shapeCast S1x128 (multiReduction .add [0] S128 v 0x00000000#32 reduces_S128x128_S128 (.inl rfl) rfl) shapeCasts_S128_S1x128 i
      = ((∑ k : Fin 128, f (ix2 k (i 1)) : ℝ) : EReal) := by
  obtain ⟨k, e, hk⟩ := cast_ex (multiReduction .add [0] S128 v 0x00000000#32 reduces_S128x128_S128 (.inl rfl) rfl)
    shapeCasts_S128_S1x128 i
  rw [Shape.rowMajor_val_one, Shape.rowMajor_val_two] at hk
  have h1 : (i 0).val < 1 := (i 0).isLt
  change (k 0).val = (i 0).val * 128 + (i 1).val at hk
  have hk0 : k 0 = i 1 := Fin.ext (by show (k 0).val = (i 1).val; omega)
  refine e.trans ?_
  simp only [pointwise]
  rw [← coe_sum]
  exact Finset.sum_congr rfl fun m _ => (h.eq _).trans (congrArg (fun z : Fin 128 => ((f (ix2 m z) : ℝ) : EReal)) hk0)

/-- A state block without its leading axis. -/
theorem is_state {v : FVec Ideal S1x128x512 .f32} {f : Fin 128 → Fin 512 → ℝ} (h : ∀ i, v i = ((f (i 1) (i 2) : ℝ) : EReal)) :
    Is (shapeCast S128x512 v shapeCasts_S1x128x512_S128x512) (fun i => f (i 0) (i 1)) := fun i => by
  obtain ⟨k, e, hk⟩ := cast_ex v shapeCasts_S1x128x512_S128x512 i
  rw [Shape.rowMajor_val_three, Shape.rowMajor_val_two] at hk
  have h0 : (k 0).val < 1 := (k 0).isLt
  have h1 : (k 1).val < 128 := (k 1).isLt
  have h2 : (k 2).val < 512 := (k 2).isLt
  have g1 : (i 1).val < 512 := (i 1).isLt
  change ((k 0).val * 128 + (k 1).val) * 512 + (k 2).val = (i 0).val * 512 + (i 1).val at hk
  have e1 : k 1 = i 0 := Fin.ext (by show (k 1).val = (i 0).val; omega)
  have e2 : k 2 = i 1 := Fin.ext (by show (k 2).val = (i 1).val; omega)
  rw [e, h, e1, e2]

theorem is_state4 {v : FVec Ideal S1x1x128x512 .f32} {f : Fin 128 → Fin 512 → ℝ} (h : ∀ i, v i = ((f (i 2) (i 3) : ℝ) : EReal)) :
    Is (shapeCast S128x512 v shapeCasts_S1x1x128x512_S128x512) (fun i => f (i 0) (i 1)) := fun i => by
  obtain ⟨k, e, hk⟩ := cast_ex v shapeCasts_S1x1x128x512_S128x512 i
  rw [Shape.rowMajor_val_four, Shape.rowMajor_val_two] at hk
  have h0 : (k 0).val < 1 := (k 0).isLt
  have h0' : (k 1).val < 1 := (k 1).isLt
  have h1 : (k 2).val < 128 := (k 2).isLt
  have h2 : (k 3).val < 512 := (k 3).isLt
  have g1 : (i 1).val < 512 := (i 1).isLt
  change (((k 0).val * 1 + (k 1).val) * 128 + (k 2).val) * 512 + (k 3).val = (i 0).val * 512 + (i 1).val at hk
  have e1 : k 2 = i 0 := Fin.ext (by show (k 2).val = (i 0).val; omega)
  have e2 : k 3 = i 1 := Fin.ext (by show (k 3).val = (i 1).val; omega)
  rw [e, h, e1, e2]

theorem is_wide {v : FVec Ideal S1x1x512 .f32} {f : Fin 512 → ℝ} (h : ∀ i, v i = ((f (i 2) : ℝ) : EReal)) (i : S1x512.Idx) :
    shapeCast S1x512 v shapeCasts_S1x1x512_S1x512 i = ((f (i 1) : ℝ) : EReal) := by
  obtain ⟨k, e, hk⟩ := cast_ex v shapeCasts_S1x1x512_S1x512 i
  rw [Shape.rowMajor_val_three, Shape.rowMajor_val_two] at hk
  have h0 : (k 0).val < 1 := (k 0).isLt
  have h1 : (k 1).val < 1 := (k 1).isLt
  have g0 : (i 0).val < 1 := (i 0).isLt
  change ((k 0).val * 1 + (k 1).val) * 512 + (k 2).val = (i 0).val * 512 + (i 1).val at hk
  have e2 : k 2 = i 1 := Fin.ext (by show (k 2).val = (i 1).val; omega)
  rw [e, h, e2]

theorem is_narrow {v : FVec Ideal S1x1x128 .f32} {f : Fin 128 → ℝ} (h : ∀ i, v i = ((f (i 2) : ℝ) : EReal)) (i : S1x128.Idx) :
    shapeCast S1x128 v shapeCasts_S1x1x128_S1x128 i = ((f (i 1) : ℝ) : EReal) := by
  obtain ⟨k, e, hk⟩ := cast_ex v shapeCasts_S1x1x128_S1x128 i
  rw [Shape.rowMajor_val_three, Shape.rowMajor_val_two] at hk
  have h0 : (k 0).val < 1 := (k 0).isLt
  have h1 : (k 1).val < 1 := (k 1).isLt
  have g0 : (i 0).val < 1 := (i 0).isLt
  change ((k 0).val * 1 + (k 1).val) * 128 + (k 2).val = (i 0).val * 128 + (i 1).val at hk
  have e2 : k 2 = i 1 := Fin.ext (by show (k 2).val = (i 1).val; omega)
  rw [e, h, e2]

/-- A state block with its leading axis. -/
theorem is_lead {v : FVec Ideal S128x512 .f32} {f : S128x512.Idx → ℝ} (h : Is v f) (i : S1x128x512.Idx) :
    shapeCast S1x128x512 v shapeCasts_S128x512_S1x128x512 i = ((f (ix2 (i 1) (i 2)) : ℝ) : EReal) := by
  obtain ⟨k, e, hk⟩ := cast_ex v shapeCasts_S128x512_S1x128x512 i
  rw [Shape.rowMajor_val_three, Shape.rowMajor_val_two] at hk
  have h0 : (i 0).val < 1 := (i 0).isLt
  have h1 : (i 1).val < 128 := (i 1).isLt
  have h2 : (i 2).val < 512 := (i 2).isLt
  have g1 : (k 1).val < 512 := (k 1).isLt
  change (k 0).val * 512 + (k 1).val = ((i 0).val * 128 + (i 1).val) * 512 + (i 2).val at hk
  have a0 : k 0 = i 1 := Fin.ext (by show (k 0).val = (i 1).val; omega)
  have a1 : k 1 = i 2 := Fin.ext (by show (k 1).val = (i 2).val; omega)
  have e1 : k = ix2 (i 1) (i 2) := (idx2 k).trans (congr (congrArg ix2 a0) a1)
  exact e.trans ((h.eq k).trans (congrArg (fun z => ((f z : ℝ) : EReal)) e1))

end
end Scan.Body
-- ==== Proof.Data.lean ====
module

public import proofs.«01_k».proof.Proof.Spec
public import proofs.«01_k».proof.Proof.HostOps

/-!
# The scan's operands, as real numbers

`r0 … r4` are the arguments: the convolution's outputs (`x`, `B` and `C` beside one another), the output gradient, the
raw steps, their bias and the logarithms of the decay rates. The second half of the 128 heads runs backwards.
-/

@[expose] public noncomputable section

namespace Scan

/-- The token `l` of chunk `z`. -/
def tok (z : Fin 64) (l : Fin 128) : Fin 8192 := ⟨128 * z.val + l.val, by omega⟩

/-- `log (1 + exp x)`. -/
def softplus (x : ℝ) : ℝ := max x 0 + Real.log (1 + Real.exp (-|x|))

/-- A lane of a head of a group, among 4096. -/
def lane (g j : Fin 8) (p : Fin 64) : Fin 4096 := ⟨512 * g.val + 64 * j.val + p.val, by omega⟩
/-- A head of a group, among the 128 heads of both directions. -/
def head (g j : Fin 8) : Fin 128 := ⟨64 + 8 * g.val + j.val, by omega⟩
/-- A column of a group, among 1024. -/
def col (g : Fin 8) (n : Fin 128) : Fin 1024 := ⟨128 * g.val + n.val, by omega⟩

section
variable (r0 : Fin 8192 → Fin 6144 → ℝ) (r1 : Fin 8192 → Fin 4096 → ℝ) (r2 : Fin 8192 → Fin 128 → ℝ) (r3 r4 : Fin 128 → ℝ)

def rX (r : Fin 8192) (g j : Fin 8) (p : Fin 64) : ℝ := r0 r ((lane g j p).castLE (by omega))
def rY (r : Fin 8192) (g j : Fin 8) (p : Fin 64) : ℝ := r1 r (lane g j p)
def rB (r : Fin 8192) (g : Fin 8) (n : Fin 128) : ℝ := r0 r ⟨4096 + (col g n).val, by omega⟩
def rC (r : Fin 8192) (g : Fin 8) (n : Fin 128) : ℝ := r0 r ⟨5120 + (col g n).val, by omega⟩
/-- The steps. -/
def rD (r : Fin 8192) (g j : Fin 8) : ℝ := softplus (r2 r (head g j) + r3 (head g j))
/-- The log decays. -/
def rA (r : Fin 8192) (g j : Fin 8) : ℝ := rD r2 r3 r g j * -Real.exp (r4 (head g j))
/-- The inputs scaled by their steps. -/
def rU (r : Fin 8192) (g j : Fin 8) (p : Fin 64) : ℝ := rX r0 r g j p * rD r2 r3 r g j

/-- The same, from the last token to the first, by chunks. -/
def bA (g j : Fin 8) : Tok ℝ := fun z l => rA r2 r3 r4 (tok z l).rev g j
def bU (g j : Fin 8) : Tok (Fin 64 → ℝ) := fun z l => rU r0 r2 r3 (tok z l).rev g j
def bY (g j : Fin 8) : Tok (Fin 64 → ℝ) := fun z l => rY r1 (tok z l).rev g j
def bB (g : Fin 8) : Tok (Fin 128 → ℝ) := fun z l => rB r0 (tok z l).rev g
def bC (g : Fin 8) : Tok (Fin 128 → ℝ) := fun z l => rC r0 (tok z l).rev g
end

/-- A row's chunk and its place in the chunk. -/
def ch (r : Fin 8192) : Fin 64 := ⟨r.val / 128, by omega⟩
def pos (r : Fin 8192) : Fin 128 := ⟨r.val % 128, by omega⟩
/-- A column's group, head and channel, in the layout of `x`. -/
def xg (c : Fin 4096) : Fin 8 := ⟨c.val / 512, by omega⟩
def xj (c : Fin 4096) : Fin 8 := ⟨c.val / 64 % 8, by omega⟩
def xp (c : Fin 4096) : Fin 64 := ⟨c.val % 64, by omega⟩
/-- A column's group and place in the group, in the layout of `b`. -/
def bg (c : Fin 1024) : Fin 8 := ⟨c.val / 128, by omega⟩
def bn (c : Fin 1024) : Fin 128 := ⟨c.val % 128, by omega⟩

theorem tok_rev (z : Fin 64) (l : Fin 128) : (tok z.rev l.rev).rev = tok z l := by
  apply Fin.ext; simp only [tok, Fin.val_rev]; omega

/-! ## Casts of real numbers -/

open Idealize.ShloMosaic

theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem coe_abs (a : ℝ) : max (a : EReal) (-(a : EReal)) = ((|a| : ℝ) : EReal) := by
  rw [← EReal.coe_neg, coe_max]; rfl

theorem log_one_add_exp (a : ℝ) :
    Ideal.log ((1 : EReal) + ((Real.exp a : ℝ) : EReal)) = ((Real.log (1 + Real.exp a) : ℝ) : EReal) := by
  rw [← EReal.coe_one, ← EReal.coe_add]
  have h : ¬ (1 + Real.exp a ≤ 0) := not_le.2 (by have := Real.exp_pos a; linarith)
  show (if 1 + Real.exp a ≤ 0 then (⊥ : EReal) else (Real.log (1 + Real.exp a) : EReal)) = _
  rw [if_neg h]

/-- The softplus as both programs write it. -/
theorem softplus_eq (a : ℝ) :
    max (a : EReal) 0 + Ideal.log (1 + Ideal.exp (-(max (a : EReal) (-(a : EReal))))) = ((softplus a : ℝ) : EReal) := by
  rw [coe_abs, ← EReal.coe_neg, Ideal.exp_coe, log_one_add_exp, ← EReal.coe_zero, coe_max, ← EReal.coe_add]
  rfl

end Scan
-- ==== Proof.Values.lean ====
module

public import proofs.«01_k».proof.Proof.Ops
public import proofs.«01_k».proof.Proof.Data

/-!
# A group's results, in the reals

`Good`: the blocks a group loads hold the reals named. Its results are then the formulas of `Spec`'s section `Ker`.
-/

@[expose] public section

namespace Scan.Body
open Idealize.ShloMosaic Idealize.ShloMosaic.TcCoe Cert.KernelIdeal Cert.KernelIdeal.Gen
open scoped BigOperators

noncomputable section

/-- What a group's blocks hold: the projections `b`, `c`, the inputs `x`, the gradients `y`, the states `h` and their
gradients `d`, the log decays `a` and the steps `t`. -/
structure Good (I : In) (b c : Fin 128 → Fin 128 → ℝ) (x y : Fin 8 → Fin 128 → Fin 64 → ℝ)
    (h d : Fin 8 → Fin 64 → Fin 128 → ℝ) (a t : Fin 8 → Fin 128 → ℝ) : Prop where
  b : Is I.b (fun i => b (i 0) (i 1))
  c : Is I.c (fun i => c (i 0) (i 1))
  x : Is I.x (fun i => x (hd (i 1)) (i 0) (pd (i 1)))
  y : Is I.y (fun i => y (hd (i 1)) (i 0) (pd (i 1)))
  hs : ∀ i, I.hs i = ((h (hd (i 3)) (pd (i 3)) (i 2) : ℝ) : EReal)
  dh : ∀ i, I.dh i = ((d (hd (i 2)) (pd (i 2)) (i 1) : ℝ) : EReal)
  ex : ∀ i, I.ex i = ((Real.exp (Ker.tot (a (hd (i 2)))) : ℝ) : EReal)
  eg : ∀ i, I.eg i = ((if q : (i 2).val < 8 then Real.exp (Ker.tot (a ⟨(i 2).val, q⟩)) else 0 : ℝ) : EReal)
  gr : ∀ j i, I.gr j i = ((Ker.gam (a j) (i 1) : ℝ) : EReal)
  dtx : Is I.dtx (fun i => t (hd (i 1)) (i 0))
  dinx : Is I.dinx (fun i => Ker.din (a (hd (i 1))) (i 0))
  dstx : Is I.dstx (fun i => Ker.dst (a (hd (i 1))) (i 0))
  gcol : Is I.gcol (fun i => Ker.gam (a (bg (i 1))) (i 0))
  sel : Is I.selc (fun i => if (hd (i 0)).val = (i 1).val then 1 else 0)

namespace Good
variable {I : In} {b c : Fin 128 → Fin 128 → ℝ} {x y : Fin 8 → Fin 128 → Fin 64 → ℝ}
variable {h d : Fin 8 → Fin 64 → Fin 128 → ℝ} {a t : Fin 8 → Fin 128 → ℝ} (G : Good I b c x y h d a t)
include G

/-- The inputs times the steps. -/
theorem xdt : Is I.xdt (fun i => x (hd (i 1)) (i 0) (pd (i 1)) * t (hd (i 1)) (i 0)) := (G.x.ext _).mul G.dtx
theorem xb : Is I.xb (fun i => x (hd (i 1)) (i 0) (pd (i 1)) * t (hd (i 1)) (i 0)) := G.xdt.trunc _
theorem ht : Is I.ht (fun i => h (hd (i 1)) (pd (i 1)) (i 0)) := is_state4 (f := fun n k => h (hd k) (pd k) n) G.hs
theorem hb : Is I.hb (fun i => h (hd (i 1)) (pd (i 1)) (i 0)) := G.ht.trunc _
theorem dt : Is I.dt (fun i => d (hd (i 1)) (pd (i 1)) (i 0)) := is_state (f := fun n k => d (hd k) (pd k) n) G.dh
theorem db : Is I.db (fun i => d (hd (i 1)) (pd (i 1)) (i 0)) := G.dt.trunc _
theorem cbt : Is I.cbt (fun i => Ker.cb b c (i 0) (i 1)) := dot11 G.c G.b
theorem cbtT : Is I.cbtT (fun i => Ker.cb b c (i 1) (i 0)) :=
  (dot11 G.b G.c).to fun i => Finset.sum_congr rfl fun k _ => mul_comm _ _
theorem yoff : Is I.yoff (fun i => Ker.yoff (a (hd (i 1))) c (h (hd (i 1))) (i 0) (pd (i 1))) := (dot10w G.c G.hb).mul G.dinx
theorem xoff : Is I.xoff (fun i => Ker.xoff (a (hd (i 1))) b (d (hd (i 1))) (i 0) (pd (i 1))) := (dot10w G.b G.db).mul G.dstx
theorem dyd : Is I.dyd (fun i => y (hd (i 1)) (i 0) (pd (i 1)) * Ker.din (a (hd (i 1))) (i 0)) := ((G.y.ext _).mul G.dinx).trunc _
theorem xd : Is I.xd (fun i => x (hd (i 1)) (i 0) (pd (i 1)) * t (hd (i 1)) (i 0) * Ker.dst (a (hd (i 1))) (i 0)) :=
  (G.xdt.mul G.dstx).trunc _
theorem dcAcc : Is I.dcAcc (fun i => ∑ j, ∑ p, y j (i 0) p * Ker.din (a j) (i 0) * h j p (i 1)) :=
  (dot11w G.dyd G.hb).to fun i => sum512 fun j p => y j (i 0) p * Ker.din (a j) (i 0) * h j p (i 1)
theorem dbAcc : Is I.dbAcc (fun i => ∑ j, ∑ p, x j (i 0) p * t j (i 0) * Ker.dst (a j) (i 0) * d j p (i 1)) :=
  (dot11w G.xd G.db).to fun i => sum512 fun j p => x j (i 0) p * t j (i 0) * Ker.dst (a j) (i 0) * d j p (i 1)

theorem next (i : S1x128x512.Idx) :
    I.next i = ((Ker.next (a (hd (i 2))) (y (hd (i 2))) c (d (hd (i 2))) (pd (i 2)) (i 1) : ℝ) : EReal) :=
  is_lead ((G.dt.mul (is_rowW (f := fun k => Real.exp (Ker.tot (a (hd k)))) (is_wide (f := fun k => Real.exp (Ker.tot (a (hd k)))) G.ex))).add (dot00w G.c G.dyd)) i

/-- Sums over the channels of each head. -/
theorem sums {v : FVec Ideal S128x512 .f32} {f : Fin 128 → Fin 8 → Fin 64 → ℝ}
    (hv : Is v (fun i => f (i 0) (hd (i 1)) (pd (i 1)))) :
    Is (I.sums v) (fun i => if q : (i 1).val < 8 then ∑ p, f (i 0) ⟨(i 1).val, q⟩ p else 0) :=
  (dot10s (hv.trunc _) G.sel).to fun i => by
    refine (sum512 fun j p => f (i 0) j p * (if j.val = (i 1).val then 1 else 0)).trans ?_
    simp only [mul_ite, mul_one, mul_zero]
    by_cases q : (i 1).val < 8
    · rw [dif_pos q, Finset.sum_eq_single (⟨(i 1).val, q⟩ : Fin 8)]
      · simp
      · intro j _ hj
        exact Finset.sum_eq_zero fun p _ => if_neg fun e => hj (Fin.ext e)
      · simp
    · rw [dif_neg q]
      exact Finset.sum_eq_zero fun j _ => Finset.sum_eq_zero fun p _ => if_neg (by have := j.isLt; omega)

theorem qcol0 : Is I.qcol0 (fun i => if q : (i 1).val < 8 then
    ∑ p, y ⟨(i 1).val, q⟩ (i 0) p * Ker.yoff (a ⟨(i 1).val, q⟩) c (h ⟨(i 1).val, q⟩) (i 0) p else 0) :=
  G.sums (f := fun l j p => y j l p * Ker.yoff (a j) c (h j) l p) ((G.y.ext _).mul G.yoff)
theorem ccol : Is I.ccol (fun i => if q : (i 1).val < 8 then
    Ker.ccol (a ⟨(i 1).val, q⟩) (fun l p => x ⟨(i 1).val, q⟩ l p * t ⟨(i 1).val, q⟩ l) b (d ⟨(i 1).val, q⟩) (i 0) else 0) :=
  G.sums (f := fun l j p => x j l p * t j l * Ker.xoff (a j) b (d j) l p) (G.xdt.mul G.xoff)
theorem through (i : S1x128.Idx) : I.through i
    = ((if q : (i 1).val < 8 then Ker.through (h ⟨(i 1).val, q⟩) (d ⟨(i 1).val, q⟩) else 0 : ℝ) : EReal) := by
  refine (is_sumCol (G.sums (f := fun n j p => d j p n * h j p n) (G.dt.mul G.ht)) i).trans (congrArg _ ?_)
  by_cases q : (i 1).val < 8
  · rw [dif_pos q]
    exact Finset.sum_congr rfl fun n _ => dif_pos q
  · rw [dif_neg q]
    exact Finset.sum_eq_zero fun n _ => dif_neg q

/-! One head: `j`, the half `o` of pair `p`. -/
section head
variable (j : Fin 8) (p : Fin 4) (o : Bool) (e : j.val = 2 * p.val + o.toNat)

theorem row : Is (I.row j) (fun i => Ker.gam (a j) (i 1)) := by
  unfold In.row
  rw [shapeCast_self]
  exact is_row (G.gr j)

theorem gcut : Is (Body.cut' I.gcol j) (fun i => Ker.gam (a j) (i 0)) :=
  (G.gcol.cut' j).to fun i => by
    have e : bg (wide' j (i 1)) = j := Fin.ext (by
      have := b1 i
      show (128 * j.val + (i 1).val) / 128 = j.val; omega)
    show Ker.gam (a (bg (wide' j (i 1)))) (i 0) = _
    rw [e]

theorem dec : Is (I.dec j) (fun i => Ker.dec (a j) (i 0) (i 1)) := ((G.gcut j).sub (G.row j)).expMask fore_apply
theorem decT : Is (I.decT j) (fun i => Ker.dec (a j) (i 1) (i 0)) := ((G.row j).sub (G.gcut j)).expMask aft_apply

theorem yh : Is (I.yh p o) (fun i => if (i 1).val / 64 = o.toNat then
    y (hd (wide p (i 1))) (i 0) (pd (wide p (i 1))) else 0) :=
  (Is.sel (half_apply · o) ((G.y.ext _).cut p) is_zero).trunc _

include e in
omit G in
theorem head_wide (m : Fin 128) (q : m.val / 64 = o.toNat) : hd (wide p m) = j := Fin.ext (by
  show (128 * p.val + m.val) / 64 = j.val; omega)
omit G in
theorem chan_wide (m : Fin 128) : pd (wide p m) = ⟨m.val % 64, Nat.mod_lt _ (by decide)⟩ := Fin.ext (by
  show (128 * p.val + m.val) % 64 = m.val % 64; omega)

include e in
theorem push : Is (I.push j p o) (fun i => if (i 1).val / 64 = o.toNat then
    ∑ l, Ker.cb b c l (i 0) * Ker.dec (a j) l (i 0) * y j l (pd (wide p (i 1))) else 0) :=
  (dot10 ((G.cbtT.mul (G.decT j)).trunc _) (G.yh p o)).to fun i => by
    by_cases q : (i 1).val / 64 = o.toNat
    · rw [if_pos q]
      refine Finset.sum_congr rfl fun l _ => ?_
      refine (congrArg _ (if_pos q)).trans ?_
      show _ * y (hd (wide p (i 1))) l _ = _
      rw [head_wide j p o e (i 1) q]; rfl
    · rw [if_neg q]
      refine Finset.sum_eq_zero fun l _ => ?_
      exact (congrArg _ (if_neg q)).trans (mul_zero _)

include e in
theorem dm : Is (I.dm j p o) (fun i => Ker.dm (a j) (fun l p => x j l p * t j l) (y j) (i 0) (i 1)) :=
  ((G.dec j).mul (dot11 (G.yh p o) (G.xb.cut p))).to fun i => by
    refine congrArg (Ker.dec (a j) (i 0) (i 1) * ·) ?_
    have key : ∀ m : Fin 128, (if m.val / 64 = o.toNat then y (hd (wide p m)) (i 0) (pd (wide p m)) else 0)
        * (x (hd (wide p m)) (i 1) (pd (wide p m)) * t (hd (wide p m)) (i 1))
        = (fun (z : Fin 2) (p : Fin 64) => if z.val = o.toNat then y j (i 0) p * (x j (i 1) p * t j (i 1)) else 0)
          ⟨m.val / 64, by omega⟩ ⟨m.val % 64, by omega⟩ := by
      intro m
      by_cases q : m.val / 64 = o.toNat
      · simp only [if_pos q]; rw [head_wide j p o e m q, chan_wide]
      · simp only [if_neg q]; exact zero_mul _
    refine (Finset.sum_congr rfl fun m _ => key m).trans ((sum128 fun (z : Fin 2) (p : Fin 64) =>
      if z.val = o.toNat then y j (i 0) p * (x j (i 1) p * t j (i 1)) else 0).trans ?_)
    cases o <;> simp

include e in
theorem eg' : Is (I.eg' j p o) (fun i => Ker.cb b c (i 0) (i 1) * Ker.dm (a j) (fun l p => x j l p * t j l) (y j) (i 0) (i 1)) :=
  (G.cbt.mul (G.dm j p o e)).trunc _

omit G in
theorem is_rows {v : FVec Ideal S128x128 .bf16} {f : S128x128.Idx → ℝ} (hv : Is v f) :
    Is (In.rows v) (fun i => ∑ k : Fin 128, f (ix2 (i 0) k)) := by
  unfold In.rows
  rw [shapeCast_self]
  exact is_col (f := fun l => ∑ k : Fin 128, f (ix2 l k)) (is_sumRow (hv.ext _))

omit G in
theorem is_cols {v : FVec Ideal S128x128 .bf16} {f : S128x128.Idx → ℝ} (hv : Is v f) :
    Is (In.cols j v) (fun i => if (i 1).val = j.val then ∑ k : Fin 128, f (ix2 k (i 0)) else 0) :=
  (dot00 hv ((Is.sel (at_apply · j) is_one is_zero).trunc _)).to fun i => by
    by_cases q : (i 1).val = j.val
    · rw [if_pos q]
      exact Finset.sum_congr rfl fun k _ => (congrArg _ (if_pos q)).trans (mul_one _)
    · rw [if_neg q]
      exact Finset.sum_eq_zero fun k _ => (congrArg _ (if_neg q)).trans (mul_zero _)

/-- One head's part of the sums from the front. -/
def part (a : Fin 8 → Fin 128 → ℝ) (t : Fin 8 → Fin 128 → ℝ) (x y : Fin 8 → Fin 128 → Fin 64 → ℝ) (b c : Fin 128 → Fin 128 → ℝ)
    (j : Fin 8) (l : Fin 128) : ℝ :=
  (∑ s, Ker.cb b c l s * Ker.dm (a j) (fun l p => x j l p * t j l) (y j) l s)
    - ∑ m, Ker.cb b c m l * Ker.dm (a j) (fun l p => x j l p * t j l) (y j) m l

include e in
theorem qstep {q : FVec Ideal S128x128 .f32} {f : S128x128.Idx → ℝ} (hq : Is q f) :
    Is (I.qstep j p o q) (fun i => f i + (if (i 1).val = j.val then part a t x y b c j (i 0) else 0)) :=
  ((hq.add (Is.sel (at_apply · j) (is_rows (G.eg' j p o e)) is_zero)).sub (is_cols j (G.eg' j p o e))).to fun i => by
    unfold part
    by_cases r : (i 1).val = j.val
    · simp only [if_pos r]; rw [add_sub_assoc]; rfl
    · simp only [if_neg r]; rw [add_zero, sub_zero]
end head

section pair
variable (p : Fin 4)
omit G in
theorem ev_val : (In.ev p).val = 2 * p.val + false.toNat := rfl
omit G in
theorem od_val : (In.od p).val = 2 * p.val + true.toNat := rfl

theorem acc : Is (I.acc p) (fun i => Ker.acc (a (hd (wide p (i 1)))) (y (hd (wide p (i 1)))) b c (d (hd (wide p (i 1))))
    (i 0) (pd (wide p (i 1)))) :=
  (((G.xoff.cut p).add (G.push (In.ev p) p false (ev_val p))).add (G.push (In.od p) p true (od_val p))).to fun i => by
    have hm := b1 i
    by_cases q : (i 1).val / 64 = false.toNat
    · have r : ¬ ((i 1).val / 64 = true.toNat) := by rw [q]; decide
      simp only [if_pos q, if_neg r, add_zero]
      rw [head_wide (In.ev p) p false (ev_val p) (i 1) q]
      unfold Ker.acc
      refine congrArg (· + _) ?_
      show Ker.xoff (a (hd (wide p (i 1)))) b (d (hd (wide p (i 1)))) (i 0) (pd (wide p (i 1))) = _
      rw [head_wide (In.ev p) p false (ev_val p) (i 1) q]
    · have r : (i 1).val / 64 = true.toNat := by
        simp only [Bool.toNat_true, Bool.toNat_false] at q ⊢; omega
      simp only [if_neg q, if_pos r, add_zero]
      rw [head_wide (In.od p) p true (od_val p) (i 1) r]
      unfold Ker.acc
      refine congrArg (· + _) ?_
      show Ker.xoff (a (hd (wide p (i 1)))) b (d (hd (wide p (i 1)))) (i 0) (pd (wide p (i 1))) = _
      rw [head_wide (In.od p) p true (od_val p) (i 1) r]

theorem dxs : Is (I.dxs p) (fun i => Ker.acc (a (hd (wide p (i 1)))) (y (hd (wide p (i 1)))) b c (d (hd (wide p (i 1))))
    (i 0) (pd (wide p (i 1))) * t (hd (wide p (i 1))) (i 0)) :=
  ((G.acc p).mul (G.dtx.cut p)).trunc _

theorem tmp : Is (I.tmp p) (fun i => Ker.acc (a (hd (wide p (i 1)))) (y (hd (wide p (i 1)))) b c (d (hd (wide p (i 1))))
    (i 0) (pd (wide p (i 1))) * x (hd (wide p (i 1))) (i 0) (pd (wide p (i 1)))) := by
  unfold In.tmp
  rw [shapeCast_self]
  exact (G.acc p).mul ((G.x.ext _).cut p)

theorem dmPair {s : FVec Ideal S128x128 .f32} {f : S128x128.Idx → ℝ} (hs : Is s f) :
    Is (I.dmPair p s) (fun i => f i
      + Ker.dm (a (In.ev p)) (fun l q => x (In.ev p) l q * t (In.ev p) l) (y (In.ev p)) (i 0) (i 1)
      + Ker.dm (a (In.od p)) (fun l q => x (In.od p) l q * t (In.od p) l) (y (In.od p)) (i 0) (i 1)) :=
  (hs.add (G.dm (In.ev p) p false (ev_val p))).add (G.dm (In.od p) p true (od_val p))

theorem qPair {q : FVec Ideal S128x128 .f32} {f : S128x128.Idx → ℝ} (hq : Is q f) :
    Is (I.qPair p q) (fun i => f i + (if (i 1).val = (In.ev p).val then part a t x y b c (In.ev p) (i 0) else 0)
      + (if (i 1).val = (In.od p).val then part a t x y b c (In.od p) (i 0) else 0)) :=
  G.qstep (In.od p) p true (od_val p) (G.qstep (In.ev p) p false (ev_val p) hq)
end pair

theorem dcb : Is I.dcb (fun i => Ker.dcb a (fun j l q => x j l q * t j l) y (i 0) (i 1)) :=
  ((G.dmPair 3 (G.dmPair 2 (G.dmPair 1 (G.dmPair 0 is_zero)))).trunc _).to fun i => by
    unfold Ker.dcb
    rw [Fin.sum_univ_eight, zero_add]
    rfl

theorem qcol : Is I.qcol (fun i => if q : (i 1).val < 8 then
    Ker.qcol (a ⟨(i 1).val, q⟩) (fun l p => x ⟨(i 1).val, q⟩ l p * t ⟨(i 1).val, q⟩ l) (y ⟨(i 1).val, q⟩) b c (h ⟨(i 1).val, q⟩) (i 0)
    else 0) :=
  (G.qPair 3 (G.qPair 2 (G.qPair 1 (G.qPair 0 G.qcol0)))).to fun i => by
    by_cases q : (i 1).val < 8
    · rw [dif_pos q, dif_pos q]
      obtain ⟨j, hj⟩ : ∃ j : Fin 8, j = ⟨(i 1).val, q⟩ := ⟨_, rfl⟩
      have hv : (i 1).val = j.val := by rw [hj]
      rw [← hj]
      simp only [hv]
      unfold Ker.qcol
      have k : ∀ z : ℝ, z + part a t x y b c j (i 0) = z
          + (∑ s, Ker.cb b c (i 0) s * Ker.dm (a j) (fun l p => x j l p * t j l) (y j) (i 0) s)
          - ∑ m, Ker.cb b c m (i 0) * Ker.dm (a j) (fun l p => x j l p * t j l) (y j) m (i 0) := fun z => by
        unfold part; ring
      refine Eq.trans ?_ (k _)
      fin_cases j <;> simp [In.ev, In.od]
    · rw [dif_neg q, dif_neg q]
      have n : ∀ j : Fin 8, ¬ ((i 1).val = j.val) := fun j r => q (by rw [r]; exact j.isLt)
      simp only [if_neg (n _), add_zero]

theorem dC : Is I.dC (fun i => Ker.dC a (fun j l q => x j l q * t j l) y b h (i 0) (i 1)) :=
  (G.dcAcc.add (dot10 G.dcb G.b)).trunc _
theorem dB : Is I.dB (fun i => Ker.dB a (fun j l q => x j l q * t j l) y c d (i 0) (i 1)) :=
  (G.dbAcc.add (dot00 G.dcb G.c)).trunc _

/-- The gradient at the steps, through the products with the inputs. -/
theorem ddt {v : FVec Ideal S128x512 .f32}
    (hv : Is v (fun i => Ker.acc (a (hd (i 1))) (y (hd (i 1))) b c (d (hd (i 1))) (i 0) (pd (i 1)) * x (hd (i 1)) (i 0) (pd (i 1)))) :
    Is (I.ddt v) (fun i => if q : (i 1).val < 8 then ∑ p, Ker.acc (a ⟨(i 1).val, q⟩) (y ⟨(i 1).val, q⟩) b c (d ⟨(i 1).val, q⟩) (i 0) p
      * x ⟨(i 1).val, q⟩ (i 0) p else 0) :=
  G.sums (f := fun l j p => Ker.acc (a j) (y j) b c (d j) l p * x j l p) hv

omit G in
theorem add3 {a b c a' b' c' : ℝ} (h : a = a') (k : b = b') (l : c = c') : a + b + c = a' + b' + c' := by rw [h, k, l]

theorem da : Is I.da (fun i => if q : (i 1).val < 8 then
    Ker.da (a ⟨(i 1).val, q⟩) (fun l p => x ⟨(i 1).val, q⟩ l p * t ⟨(i 1).val, q⟩ l) (y ⟨(i 1).val, q⟩) b c
      (h ⟨(i 1).val, q⟩) (d ⟨(i 1).val, q⟩) (i 0) else 0) := by
  have hm : ∀ i : S1x128.Idx, mulf I.through (shapeCast S1x128 I.eg shapeCasts_S1x1x128_S1x128) i
      = (((fun m : Fin 128 => (if q : m.val < 8 then Ker.through (h ⟨m.val, q⟩) (d ⟨m.val, q⟩) else 0)
          * (if q : m.val < 8 then Real.exp (Ker.tot (a ⟨m.val, q⟩)) else 0)) (i 1) : ℝ) : EReal) := fun i => by
    show FloatOps.mulf (I.through i) (shapeCast S1x128 I.eg shapeCasts_S1x1x128_S1x128 i) = _
    rw [G.through i, is_narrow (f := fun m => if q : m.val < 8 then Real.exp (Ker.tot (a ⟨m.val, q⟩)) else 0) G.eg i,
      Ideal.mulf_def, ← EReal.coe_mul]
  refine (((dot10 is_incl G.qcol).add (dot10 is_excl G.ccol)).add (is_row (f := fun m : Fin 128 => (if q : m.val < 8 then Ker.through (h ⟨m.val, q⟩) (d ⟨m.val, q⟩) else 0)
          * (if q : m.val < 8 then Real.exp (Ker.tot (a ⟨m.val, q⟩)) else 0)) hm)).to fun i => ?_
  by_cases q : (i 1).val < 8
  · refine Eq.trans ?_ (dif_pos q).symm
    unfold Ker.da
    refine add3 ?_ ?_ ?_
    · refine Finset.sum_congr rfl fun s _ => ?_
      refine (congrArg _ (dif_pos q)).trans ?_
      show (if s.val ≤ (i 0).val then (1 : ℝ) else 0) * _ = _
      rw [ite_mul, one_mul, zero_mul]; rfl
    · refine Finset.sum_congr rfl fun s _ => ?_
      refine (congrArg _ (dif_pos q)).trans ?_
      show (if (i 0).val < s.val then (1 : ℝ) else 0) * _ = _
      rw [ite_mul, one_mul, zero_mul]; rfl
    · show (if q : (i 1).val < 8 then _ else _) * (if q : (i 1).val < 8 then _ else _) = _
      rw [dif_pos q, dif_pos q]
  · refine Eq.trans ?_ (dif_neg q).symm
    refine (add3 (a' := 0) (b' := 0) (c' := 0) ?_ ?_ ?_).trans (by norm_num)
    · exact Finset.sum_eq_zero fun s _ => (congrArg _ (dif_neg q)).trans (mul_zero _)
    · exact Finset.sum_eq_zero fun s _ => (congrArg _ (dif_neg q)).trans (mul_zero _)
    · show (if q : (i 1).val < 8 then _ else _) * (if q : (i 1).val < 8 then _ else _) = _
      rw [dif_neg q, zero_mul]

end Good
end
end Scan.Body
-- ==== Proof.Line.lean ====
/- The launch's host operations before the kernel: one line of operations, each writing a buffer of its own, in the
   order of the buffers. So an operation's operands, once written, stay; the contents in front of the kernel satisfy one
   equation an operation. -/
module

public import proofs.«01_k».proof.Proof.Gen.KernelIdeal.Frame.Runs
public import Idealize.ShloMosaic.Lib.StableHlo.RunRead

@[expose] public section

noncomputable section

namespace Scan.Line

open Idealize.ShloMosaic Idealize.ShloMosaic.TcCoe Cert.KernelIdeal Cert.KernelIdeal.Gen

/-- The operations, in order. -/
def line : List (HloOp τ sig (Elt Ideal)) :=
  List.flatten [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17,
    hostOps0_18, hostOps0_19, hostOps0_20, hostOps0_21, hostOps0_22, hostOps0_23, hostOps0_24, hostOps0_25, hostOps0_26,
    hostOps0_27, hostOps0_28, hostOps0_29, hostOps0_30, hostOps0_31, hostOps0_32, hostOps0_33, hostOps0_34, hostOps0_35,
    hostOps0_36, hostOps0_37, hostOps0_38, hostOps0_39, hostOps0_40, hostOps0_41, hostOps0_42, hostOps0_43, hostOps0_44,
    hostOps0_45, hostOps0_46, hostOps0_47, hostOps0_48, hostOps0_49, hostOps0_50, hostOps0_51, hostOps0_52, hostOps0_53]

/-- What the operations write, in order. -/
def outs : List (Ref sig .tc) := [
  main_v0, main_v1, main_v2, main_v3, main_c, main_call0_v0, main_call0_v1, main_call0_v2, main_call0_v3,
  main_call0_v4, main_call0_v5, main_call0_v6, main_call0_v7, main_call0_v8, main_call0_c, main_call0_v9,
  main_call0_v10, main_call0_v11, main_call0_c_0, main_call0_v12, main_call0_v13, main_v4, main_v5, main_v6,
  main_v7, main_v8, main_v9, main_v10, main_v11, main_v12, main_c_0, main_call1_v0, main_call1_v1,
  main_call1_v2, main_call1_v3, main_call1_v4, main_call1_v5, main_call1_v6, main_call1_v7, main_call1_v8,
  main_call1_c, main_call1_v9, main_call1_v10, main_call1_v11, main_call1_c_0, main_call1_v12, main_call1_v13,
  main_v13, main_c_1, main_call2_v0, main_call2_v1, main_call2_v2, main_call2_v3, main_call2_v4,
  main_call2_v5, main_call2_v6, main_call2_v7, main_call2_v8, main_call2_c, main_call2_v9, main_call2_v10,
  main_call2_v11, main_call2_c_0, main_call2_v12, main_call2_v13, main_v14, main_c_2, main_v15, main_v16,
  main_c_3, main_call3_v0, main_call3_c, main_call3_v1, main_call3_c_0, main_call3_v2, main_call3_v3,
  main_call3_v4, main_call3_c_1, main_call3_v5, main_call3_v6, main_call3_c_2, main_call3_v7, main_call3_v8,
  main_call3_c_3, main_call3_v9, main_call3_v10, main_call3_v11, main_call3_v12, main_call3_v13,
  main_call3_v14, main_v17, main_v18, main_v19, main_v20, main_v21, main_v22, main_c_4, main_v23, main_v24,
  main_v25, main_v26, main_v27, main_v28, main_v29, main_c_5, main_call4_v0, main_call4_v1, main_call4_v2,
  main_call4_v3, main_call4_v4, main_call4_v5, main_call4_v6, main_call4_v7, main_call4_v8, main_call4_c,
  main_call4_v9, main_call4_v10, main_call4_v11, main_call4_c_0, main_call4_v12, main_call4_v13, main_v30,
  main_c_6, main_call5_v0, main_call5_v1, main_call5_v2, main_call5_v3, main_call5_v4, main_call5_v5,
  main_call5_v6, main_call5_v7, main_call5_v8, main_call5_c, main_call5_v9, main_call5_v10, main_call5_v11,
  main_call5_c_0, main_call5_v12, main_call5_v13, main_v31, main_c_7, main_v32, main_v33, main_c_8,
  main_call6_v0, main_call6_c, main_call6_v1, main_call6_c_0, main_call6_v2, main_call6_v3, main_call6_v4,
  main_call6_c_1, main_call6_v5, main_call6_v6, main_call6_c_2, main_call6_v7, main_call6_v8, main_call6_c_3,
  main_call6_v9, main_call6_v10, main_call6_v11, main_call6_v12, main_call6_v13, main_call6_v14, main_v34,
  main_v35, main_v36, main_v37, main_v38, main_v39, main_c_9, main_v40, main_v41, main_v42, main_v43,
  main_v44, main_v45, main_v46, main_c_10, main_call7_v0, main_call7_v1, main_call7_v2, main_call7_v3,
  main_call7_v4, main_call7_v5, main_call7_v6, main_call7_v7, main_call7_v8, main_call7_c, main_call7_v9,
  main_call7_v10, main_call7_v11, main_call7_c_0, main_call7_v12, main_call7_v13, main_v47, main_c_11,
  main_call8_v0, main_call8_v1, main_call8_v2, main_call8_v3, main_call8_v4, main_call8_v5, main_call8_v6,
  main_call8_v7, main_call8_v8, main_call8_c, main_call8_v9, main_call8_v10, main_call8_v11, main_call8_c_0,
  main_call8_v12, main_call8_v13, main_v48, main_c_12, main_v49, main_v50, main_c_13, main_call9_v0,
  main_call9_c, main_call9_v1, main_call9_c_0, main_call9_v2, main_call9_v3, main_call9_v4, main_call9_c_1,
  main_call9_v5, main_call9_v6, main_call9_c_2, main_call9_v7, main_call9_v8, main_call9_c_3, main_call9_v9,
  main_call9_v10, main_call9_v11, main_call9_v12, main_call9_v13, main_call9_v14, main_v51, main_v52,
  main_v53, main_v54, main_v55, main_v56, main_c_14, main_v57, main_v58, main_v59, main_v60, main_v61,
  main_v62, main_v63, main_c_15, main_call10_v0, main_call10_v1, main_call10_v2, main_call10_v3,
  main_call10_v4, main_call10_v5, main_call10_v6, main_call10_v7, main_call10_v8, main_call10_c,
  main_call10_v9, main_call10_v10, main_call10_v11, main_call10_c_0, main_call10_v12, main_call10_v13,
  main_v64, main_c_16, main_call11_v0, main_call11_v1, main_call11_v2, main_call11_v3, main_call11_v4,
  main_call11_v5, main_call11_v6, main_call11_v7, main_call11_v8, main_call11_c, main_call11_v9,
  main_call11_v10, main_call11_v11, main_call11_c_0, main_call11_v12, main_call11_v13, main_v65, main_c_17,
  main_v66, main_v67, main_c_18, main_call12_v0, main_call12_c, main_call12_v1, main_call12_c_0,
  main_call12_v2, main_call12_v3, main_call12_v4, main_call12_c_1, main_call12_v5, main_call12_v6,
  main_call12_c_2, main_call12_v7, main_call12_v8, main_call12_c_3, main_call12_v9, main_call12_v10,
  main_call12_v11, main_call12_v12, main_call12_v13, main_call12_v14, main_v68, main_v69, main_v70, main_v71,
  main_v72, main_v73, main_c_19, main_v74, main_v75, main_v76, main_v77, main_v78, main_v79, main_v80,
  main_v81, main_v82, main_v83, main_cst, main_v84, main_v85, main_v86, main_v87, main_v88, main_cst_20,
  main_v89, main_v90, main_v91, main_v92, main_v93, main_v94, main_v95, main_v96, main_call13_call0_cst,
  main_call13_call0_v0, main_v97, main_cst_21, main_v98, main_v99, main_v100, main_c_22, main_v101, main_v102,
  main_v103, main_v104, main_v105, main_v106, main_v107, main_v108, main_v109, main_v110, main_v111,
  main_v112, main_v113, main_v114, main_v115, main_v116, main_v117, main_v118, main_v119, main_v120,
  main_v121, main_v122, main_v123, main_v124, main_v125, main_v126, main_v127, main_v128, main_v129,
  main_v130, main_v131, main_v132, main_v133, main_v134, main_v135, main_v136, main_v137, main_v138,
  main_v139, main_v140, main_v141, main_v142, main_v143, main_v144, main_v145, main_v146, main_v147,
  main_v148, main_v149, main_v150, main_c_23, main_call17_v0, main_v151, main_v152, main_v153, main_v154,
  main_v155, main_v156, main_v157, main_c_24, main_call18_v0, main_v158, main_v159, main_v160, main_v161,
  main_v162, main_v163, main_v164, main_v165, main_v166, main_v167, main_v168, main_v169, main_v170,
  main_v171, main_v172, main_v173, main_v174, main_v175, main_v176, main_v177, main_v178, main_v179,
  main_v180, main_v181, main_v182, main_v183, main_v184, main_call22_call0_cst, main_call22_call0_v0,
  main_v185, main_v186, main_v187, main_v188, main_v189, main_v190, main_v191, main_v192, main_v193,
  main_v194, main_v195, main_v196, main_call23_call0_cst, main_call23_call0_v0, main_v197, main_v198,
  main_v199, main_v200, main_v201, main_v202, main_v203, main_c_25, main_v204, main_call24_v0, main_call24_c,
  main_call24_v1, main_call24_v2, main_call24_v3, main_call24_v4, main_call24_c_0, main_call24_v5, main_v205,
  main_cst_26, main_call25_v0, main_call25_v1, main_call25_v2, main_v206, main_v207, main_v208, main_v209,
  main_v210, main_v211, main_v212]

theorem line_writes :
    line.map HloOp.writes = outs.map fun w => {Proc.devRef (τ := τ) .tc w} := rfl

/-- A buffer's place: those of the arguments come first, those of the operations after them. -/
def key (r : Ref sig .tc) : ℕ := r.idx.val

theorem outs_key : outs.map key = List.range' 5 485 := by decide +kernel

theorem key_lt {i : ℕ} {r : Ref sig .tc} (hr : key r < 5 + i) : r ∉ outs.drop i := by
  intro h
  have h1 : key r ∈ (List.range' 5 485).drop i := by
    rw [← outs_key, ← List.map_drop]; exact List.mem_map_of_mem h
  rw [List.drop_range', List.mem_range'] at h1
  omega

variable (X : Valuation τ sig (Elt Ideal))

/-- What a buffer holds in front of the kernel, from contents `X` at the launch. -/
def rd (r : Ref sig .tc) : r.ty.Contents (Elt Ideal) := StableHlo.after line X (Proc.devRef .tc r)

theorem drop_writes (i : ℕ) :
    (line.drop i).map HloOp.writes = (outs.drop i).map fun w => {Proc.devRef (τ := τ) .tc w} := by
  rw [List.map_drop, line_writes, List.map_drop]

theorem rd_split (i : ℕ) (r : Ref sig .tc) (hr : key r < 5 + i) :
    rd X r = StableHlo.upto line X i (Proc.devRef .tc r) := by
  have h := StableHlo.after_unwritten (outs.drop i) (drop_writes i) (key_lt hr) (StableHlo.upto line X i)
  rw [← h, StableHlo.upto, rd]
  conv_lhs => rw [← List.take_append_drop i line]
  exact congrFun (StableHlo.after_append _ _ _) _

theorem rd_arg (r : Ref sig .tc) (hr : key r < 5) : rd X r = X (Proc.devRef .tc r) :=
  (rd_split X 0 r hr).trans rfl

theorem rd_op (i : ℕ) (op : HloOp τ sig (Elt Ideal)) (h : getElem? line i = some op) (r : Ref sig .tc) (hr : key r < 6 + i) :
    rd X r = op.result (StableHlo.upto line X i) (Proc.devRef .tc r) := by
  obtain ⟨hi, e⟩ := List.getElem?_eq_some_iff.mp h
  have hs : line.drop i = op :: line.drop (i + 1) := by rw [← e]; exact List.drop_eq_getElem_cons hi
  exact StableHlo.after_last_write (outs.drop (i + 1)) hs (drop_writes (i + 1)) (key_lt (by omega)) X

open StableHlo

theorem rd_nullary (i : ℕ) {y : Ref sig .tc} {v : y.ty.Contents (Elt Ideal)} {hy}
    (h : getElem? line i = some (nullary y v hy)) (ky : key y < 6 + i) : rd X y = v :=
  (rd_op X i _ h y ky).trans (nullary_result' v hy _)

theorem rd_unary (i : ℕ) {x y : Ref sig .tc} {f : x.ty.Contents (Elt Ideal) → y.ty.Contents (Elt Ideal)} {hx hy}
    (h : getElem? line i = some (unary x y f hx hy)) (ky : key y < 6 + i) (kx : key x < 5 + i) : rd X y = f (rd X x) := by
  rw [rd_op X i _ h y ky, rd_split X i x kx]; exact unary_result' f hx hy _

theorem rd_binary (i : ℕ) {a b y : Ref sig .tc}
    {f : a.ty.Contents (Elt Ideal) → b.ty.Contents (Elt Ideal) → y.ty.Contents (Elt Ideal)} {ha hb hy}
    (h : getElem? line i = some (binary a b y f ha hb hy)) (ky : key y < 6 + i) (ka : key a < 5 + i) (kb : key b < 5 + i) :
    rd X y = f (rd X a) (rd X b) := by
  rw [rd_op X i _ h y ky, rd_split X i a ka, rd_split X i b kb]; exact binary_result' f ha hb hy _

theorem rd_ternary (i : ℕ) {c a b y : Ref sig .tc}
    {f : c.ty.Contents (Elt Ideal) → a.ty.Contents (Elt Ideal) → b.ty.Contents (Elt Ideal) → y.ty.Contents (Elt Ideal)}
    {hc ha hb hy} (h : getElem? line i = some (ternary c a b y f hc ha hb hy)) (ky : key y < 6 + i) (kc : key c < 5 + i)
    (ka : key a < 5 + i) (kb : key b < 5 + i) : rd X y = f (rd X c) (rd X a) (rd X b) := by
  rw [rd_op X i _ h y ky, rd_split X i c kc, rd_split X i a ka, rd_split X i b kb]; exact ternary_result' f hc ha hb hy _

theorem rd_reshape (i : ℕ) {x y : Ref sig .tc} {he hn hx hy}
    (h : getElem? line i = some (reshape x y he hn hx hy)) (ky : key y < 6 + i) (kx : key x < 5 + i) :
    rd X y = fun k => he ▸ shapeCast y.ty.shape (rd X x) hn k := by
  rw [rd_op X i _ h y ky, rd_split X i x kx]; exact reshape_result' he hn hx hy _

theorem rd_nary (i : ℕ) {n : ℕ} {xs : Fin n → Ref sig .tc} {y : Ref sig .tc}
    {f : ((k : Fin n) → (xs k).ty.Contents (Elt Ideal)) → y.ty.Contents (Elt Ideal)} {hxs hy}
    (h : getElem? line i = some (nary xs y f hxs hy)) (ky : key y < 6 + i) (kx : ∀ k, key (xs k) < 5 + i) :
    rd X y = f fun k => rd X (xs k) := by
  rw [rd_op X i _ h y ky, funext fun k => rd_split X i (xs k) (kx k)]; exact nary_result' xs f hxs hy _

/-- The generated names of the same contents. -/
theorem V_eq (m : (ℓ : Loc nD τ sig) → Buf (Elt Ideal) ℓ) (c : Dev nD) (b : Ref sig .tc) :
    V m c b = rd (fun b => m (c, b)) b := rfl

end Scan.Line
-- ==== Proof.HostTab.lean ====
/- The tables of ones and zeros that the launch hands the kernel, entry by entry. -/
module

public import proofs.«01_k».proof.Proof.Line
public import Idealize.ShloMosaic.Lib.IdealHost
public import Idealize.ShloMosaic.Lib.Pipeline.Value

@[expose] public section

noncomputable section

namespace Scan.Line

open Idealize.ShloMosaic Idealize.ShloMosaic.TcCoe Cert.KernelIdeal Cert.KernelIdeal.Gen

variable (X : Valuation τ sig (Elt Ideal))

/-! ## Words -/

/-- The sign of a word. -/
def sgn (a : BitVec 32) : BitVec 32 := if a = 0 then 0 else if a.msb then -1 else 1

/-- The floor of a quotient, as the host computes it from the quotient rounded toward zero. -/
def fdiv (a b : BitVec 32) : BitVec 32 :=
  Scalar.select (IntOp.andi (IntOp.cmpi .ne (sgn a) (sgn b)) (IntOp.cmpi .ne (IntOp.remsi .host a b) 0#32))
    (IntOp.subi (IntOp.divsi .host a b) 1#32) (IntOp.divsi .host a b)

/-- The remainder with the divisor's sign, as the host computes it. -/
def fmod (a b : BitVec 32) : BitVec 32 :=
  let d := Scalar.select (IntOp.cmpi .eq b 0#32) 1#32 b
  let r := IntOp.remsi .host a d
  Scalar.select (IntOp.andi (IntOp.cmpi .ne (IntOp.cmpi .slt r 0#32) (IntOp.cmpi .slt d 0#32)) (IntOp.cmpi .ne r 0#32))
    (IntOp.addi r d) r

theorem fdiv_64 : ∀ k : Fin 512, fdiv (BitVec.ofNat 32 k.val) 64#32 = BitVec.ofNat 32 (k.val / 64) := by decide +kernel
theorem fdiv_24 : ∀ k : Fin 128, fdiv (BitVec.ofNat 32 k.val) 24#32 = BitVec.ofNat 32 (k.val / 24) := by decide +kernel
theorem fdiv_128 : ∀ k : Fin 1024, fdiv (BitVec.ofNat 32 k.val) 128#32 = BitVec.ofNat 32 (k.val / 128) := by
  decide +kernel
theorem fmod_8 : ∀ k : Fin 128, fmod (BitVec.ofNat 32 k.val) 8#32 = BitVec.ofNat 32 (k.val % 8) := by decide +kernel

theorem eq_word (a b : ℕ) (ha : a < 2 ^ 16) (hb : b < 2 ^ 16) :
    IntOp.cmpi .eq (BitVec.ofNat 32 a) (BitVec.ofNat 32 b) = BitVec.ofBool (decide (a = b)) := by
  have : (BitVec.ofNat 32 a = BitVec.ofNat 32 b) ↔ a = b := by
    rw [← BitVec.toNat_inj, BitVec.toNat_ofNat, BitVec.toNat_ofNat]; omega
  simp [IntOp.cmpi, this, beq_eq_decide]

theorem slt_word (a b : ℕ) (ha : a < 2 ^ 16) (hb : b < 2 ^ 16) :
    IntOp.cmpi .slt (BitVec.ofNat 32 a) (BitVec.ofNat 32 b) = BitVec.ofBool (decide (a < b)) := by
  have h1 : (BitVec.ofNat 32 a).toInt = a := by rw [BitVec.toInt_eq_toNat_cond, BitVec.toNat_ofNat]; omega
  have h2 : (BitVec.ofNat 32 b).toInt = b := by rw [BitVec.toInt_eq_toNat_cond, BitVec.toNat_ofNat]; omega
  simp [IntOp.cmpi, BitVec.slt, h1, h2]

theorem and_word (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]

theorem one_word (p : Prop) [Decidable p] :
    (FloatOps.uitofp .bf16 (BitVec.ofBool (decide p)) : Ideal .bf16) = (((if p then 1 else 0 : ℝ)) : EReal) := by
  by_cases h : p <;> simp [FloatOps.uitofp, h]

/-! ## Quotients and remainders -/

theorem v1 (i : S128x1.Idx) : rd X main_v1 i = BitVec.ofNat 32 (i 0).val := by
  rw [rd_unary X 1 rfl (by decide) (by decide), rd_nullary X 0 rfl (by decide)]
  rfl

theorem v3 (i : S512x1.Idx) : rd X main_v3 i = BitVec.ofNat 32 (i 0).val := by
  rw [rd_unary X 3 rfl (by decide) (by decide), rd_nullary X 2 rfl (by decide)]
  rfl

theorem v6 (i : S1x128.Idx) : rd X main_v6 i = BitVec.ofNat 32 (i 1).val := by
  rw [rd_unary X 23 rfl (by decide) (by decide), rd_nullary X 22 rfl (by decide)]
  rfl

theorem v12 (i : S1x512.Idx) : rd X main_v12 i = BitVec.ofNat 32 (i 1).val := by
  rw [rd_unary X 29 rfl (by decide) (by decide), rd_nullary X 28 rfl (by decide)]
  rfl

theorem v29 (i : S1x1024.Idx) : rd X main_v29 i = BitVec.ofNat 32 (i 1).val := by
  rw [rd_unary X 103 rfl (by decide) (by decide), rd_nullary X 102 rfl (by decide)]
  rfl

theorem v46 (i : S1x512.Idx) : rd X main_v46 i = BitVec.ofNat 32 (i 1).val := by
  rw [rd_unary X 177 rfl (by decide) (by decide), rd_nullary X 176 rfl (by decide)]
  rfl

theorem v63 (i : S1x512.Idx) : rd X main_v63 i = BitVec.ofNat 32 (i 1).val := by
  rw [rd_unary X 251 rfl (by decide) (by decide), rd_nullary X 250 rfl (by decide)]
  rfl

theorem v4 (i : S512x1.Idx) : rd X main_v4 i = BitVec.ofNat 32 ((i 0).val / 64) := by
  have hc : rd X main_c = constantI S_ 32 64#32 := rd_nullary X 4 rfl (by decide)
  have h : rd X main_v4 i = fdiv (rd X main_v3 i) 64#32 := by
    rw [rd_ternary X 21 rfl (by decide) (by decide) (by decide) (by decide), rd_binary X 20 rfl (by decide) (by decide) (by decide),
      rd_unary X 19 rfl (by decide) (by decide), rd_nullary X 18 rfl (by decide),
      rd_binary X 17 rfl (by decide) (by decide) (by decide), rd_binary X 16 rfl (by decide) (by decide) (by decide),
      rd_unary X 15 rfl (by decide) (by decide), rd_nullary X 14 rfl (by decide),
      rd_binary X 13 rfl (by decide) (by decide) (by decide), rd_unary X 12 rfl (by decide) (by decide),
      rd_binary X 11 rfl (by decide) (by decide) (by decide), rd_unary X 10 rfl (by decide) (by decide),
      rd_unary X 9 rfl (by decide) (by decide), rd_unary X 8 rfl (by decide) (by decide),
      rd_binary X 7 rfl (by decide) (by decide) (by decide), rd_unary X 6 rfl (by decide) (by decide),
      rd_unary X 5 rfl (by decide) (by decide)]
    simp only [StableHlo.TRef.ofBuf, StableHlo.TRef.toBuf, cast_cast, cast_eq, id_eq]
    rw [hc]
    generalize rd X main_v3 = x
    rfl
  rw [h, v3 X i]
  exact fdiv_64 (i 0)

theorem v13 (i : S1x512.Idx) : rd X main_v13 i = BitVec.ofNat 32 ((i 1).val / 64) := by
  have hc : rd X main_c_0 = constantI S_ 32 64#32 := rd_nullary X 30 rfl (by decide)
  have h : rd X main_v13 i = fdiv (rd X main_v12 i) 64#32 := by
    rw [rd_ternary X 47 rfl (by decide) (by decide) (by decide) (by decide), rd_binary X 46 rfl (by decide) (by decide) (by decide),
      rd_unary X 45 rfl (by decide) (by decide), rd_nullary X 44 rfl (by decide),
      rd_binary X 43 rfl (by decide) (by decide) (by decide), rd_binary X 42 rfl (by decide) (by decide) (by decide),
      rd_unary X 41 rfl (by decide) (by decide), rd_nullary X 40 rfl (by decide),
      rd_binary X 39 rfl (by decide) (by decide) (by decide), rd_unary X 38 rfl (by decide) (by decide),
      rd_binary X 37 rfl (by decide) (by decide) (by decide), rd_unary X 36 rfl (by decide) (by decide),
      rd_unary X 35 rfl (by decide) (by decide), rd_unary X 34 rfl (by decide) (by decide),
      rd_binary X 33 rfl (by decide) (by decide) (by decide), rd_unary X 32 rfl (by decide) (by decide),
      rd_unary X 31 rfl (by decide) (by decide)]
    simp only [StableHlo.TRef.ofBuf, StableHlo.TRef.toBuf, cast_cast, cast_eq, id_eq]
    rw [hc]
    generalize rd X main_v12 = x
    rfl
  rw [h, v12 X i]
  exact fdiv_64 (i 1)

theorem v14 (i : S128x1.Idx) : rd X main_v14 i = BitVec.ofNat 32 ((i 0).val / 24) := by
  have hc : rd X main_c_1 = constantI S_ 32 24#32 := rd_nullary X 48 rfl (by decide)
  have h : rd X main_v14 i = fdiv (rd X main_v1 i) 24#32 := by
    rw [rd_ternary X 65 rfl (by decide) (by decide) (by decide) (by decide), rd_binary X 64 rfl (by decide) (by decide) (by decide),
      rd_unary X 63 rfl (by decide) (by decide), rd_nullary X 62 rfl (by decide),
      rd_binary X 61 rfl (by decide) (by decide) (by decide), rd_binary X 60 rfl (by decide) (by decide) (by decide),
      rd_unary X 59 rfl (by decide) (by decide), rd_nullary X 58 rfl (by decide),
      rd_binary X 57 rfl (by decide) (by decide) (by decide), rd_unary X 56 rfl (by decide) (by decide),
      rd_binary X 55 rfl (by decide) (by decide) (by decide), rd_unary X 54 rfl (by decide) (by decide),
      rd_unary X 53 rfl (by decide) (by decide), rd_unary X 52 rfl (by decide) (by decide),
      rd_binary X 51 rfl (by decide) (by decide) (by decide), rd_unary X 50 rfl (by decide) (by decide),
      rd_unary X 49 rfl (by decide) (by decide)]
    simp only [StableHlo.TRef.ofBuf, StableHlo.TRef.toBuf, cast_cast, cast_eq, id_eq]
    rw [hc]
    generalize rd X main_v1 = x
    rfl
  rw [h, v1 X i]
  exact fdiv_24 (i 0)

theorem v17 (i : S128x1.Idx) : rd X main_v17 i = BitVec.ofNat 32 ((i 0).val % 8) := by
  have hc : rd X main_c_3 = constantI S_ 32 8#32 := rd_nullary X 69 rfl (by decide)
  have h : rd X main_v17 i = fmod (rd X main_v1 i) 8#32 := by
    rw [rd_ternary X 90 rfl (by decide) (by decide) (by decide) (by decide), rd_binary X 89 rfl (by decide) (by decide) (by decide),
      rd_unary X 88 rfl (by decide) (by decide), rd_binary X 87 rfl (by decide) (by decide) (by decide),
      rd_binary X 86 rfl (by decide) (by decide) (by decide), rd_unary X 85 rfl (by decide) (by decide),
      rd_binary X 84 rfl (by decide) (by decide) (by decide), rd_nullary X 83 rfl (by decide),
      rd_binary X 82 rfl (by decide) (by decide) (by decide), rd_unary X 81 rfl (by decide) (by decide),
      rd_nullary X 80 rfl (by decide), rd_binary X 79 rfl (by decide) (by decide) (by decide),
      rd_unary X 78 rfl (by decide) (by decide), rd_nullary X 77 rfl (by decide),
      rd_binary X 76 rfl (by decide) (by decide) (by decide), rd_unary X 75 rfl (by decide) (by decide),
      rd_ternary X 74 rfl (by decide) (by decide) (by decide) (by decide), rd_nullary X 73 rfl (by decide),
      rd_binary X 72 rfl (by decide) (by decide) (by decide), rd_nullary X 71 rfl (by decide),
      rd_unary X 70 rfl (by decide) (by decide)]
    simp only [StableHlo.TRef.ofBuf, StableHlo.TRef.toBuf, cast_cast, cast_eq, id_eq]
    rw [hc]
    generalize rd X main_v1 = x
    rfl
  rw [h, v1 X i]
  exact fmod_8 (i 0)

theorem v30 (i : S1x1024.Idx) : rd X main_v30 i = BitVec.ofNat 32 ((i 1).val / 128) := by
  have hc : rd X main_c_5 = constantI S_ 32 128#32 := rd_nullary X 104 rfl (by decide)
  have h : rd X main_v30 i = fdiv (rd X main_v29 i) 128#32 := by
    rw [rd_ternary X 121 rfl (by decide) (by decide) (by decide) (by decide), rd_binary X 120 rfl (by decide) (by decide) (by decide),
      rd_unary X 119 rfl (by decide) (by decide), rd_nullary X 118 rfl (by decide),
      rd_binary X 117 rfl (by decide) (by decide) (by decide), rd_binary X 116 rfl (by decide) (by decide) (by decide),
      rd_unary X 115 rfl (by decide) (by decide), rd_nullary X 114 rfl (by decide),
      rd_binary X 113 rfl (by decide) (by decide) (by decide), rd_unary X 112 rfl (by decide) (by decide),
      rd_binary X 111 rfl (by decide) (by decide) (by decide), rd_unary X 110 rfl (by decide) (by decide),
      rd_unary X 109 rfl (by decide) (by decide), rd_unary X 108 rfl (by decide) (by decide),
      rd_binary X 107 rfl (by decide) (by decide) (by decide), rd_unary X 106 rfl (by decide) (by decide),
      rd_unary X 105 rfl (by decide) (by decide)]
    simp only [StableHlo.TRef.ofBuf, StableHlo.TRef.toBuf, cast_cast, cast_eq, id_eq]
    rw [hc]
    generalize rd X main_v29 = x
    rfl
  rw [h, v29 X i]
  exact fdiv_128 (i 1)

theorem v31 (i : S128x1.Idx) : rd X main_v31 i = BitVec.ofNat 32 ((i 0).val / 24) := by
  have hc : rd X main_c_6 = constantI S_ 32 24#32 := rd_nullary X 122 rfl (by decide)
  have h : rd X main_v31 i = fdiv (rd X main_v1 i) 24#32 := by
    rw [rd_ternary X 139 rfl (by decide) (by decide) (by decide) (by decide), rd_binary X 138 rfl (by decide) (by decide) (by decide),
      rd_unary X 137 rfl (by decide) (by decide), rd_nullary X 136 rfl (by decide),
      rd_binary X 135 rfl (by decide) (by decide) (by decide), rd_binary X 134 rfl (by decide) (by decide) (by decide),
      rd_unary X 133 rfl (by decide) (by decide), rd_nullary X 132 rfl (by decide),
      rd_binary X 131 rfl (by decide) (by decide) (by decide), rd_unary X 130 rfl (by decide) (by decide),
      rd_binary X 129 rfl (by decide) (by decide) (by decide), rd_unary X 128 rfl (by decide) (by decide),
      rd_unary X 127 rfl (by decide) (by decide), rd_unary X 126 rfl (by decide) (by decide),
      rd_binary X 125 rfl (by decide) (by decide) (by decide), rd_unary X 124 rfl (by decide) (by decide),
      rd_unary X 123 rfl (by decide) (by decide)]
    simp only [StableHlo.TRef.ofBuf, StableHlo.TRef.toBuf, cast_cast, cast_eq, id_eq]
    rw [hc]
    generalize rd X main_v1 = x
    rfl
  rw [h, v1 X i]
  exact fdiv_24 (i 0)

theorem v34 (i : S128x1.Idx) : rd X main_v34 i = BitVec.ofNat 32 ((i 0).val % 8) := by
  have hc : rd X main_c_8 = constantI S_ 32 8#32 := rd_nullary X 143 rfl (by decide)
  have h : rd X main_v34 i = fmod (rd X main_v1 i) 8#32 := by
    rw [rd_ternary X 164 rfl (by decide) (by decide) (by decide) (by decide), rd_binary X 163 rfl (by decide) (by decide) (by decide),
      rd_unary X 162 rfl (by decide) (by decide), rd_binary X 161 rfl (by decide) (by decide) (by decide),
      rd_binary X 160 rfl (by decide) (by decide) (by decide), rd_unary X 159 rfl (by decide) (by decide),
      rd_binary X 158 rfl (by decide) (by decide) (by decide), rd_nullary X 157 rfl (by decide),
      rd_binary X 156 rfl (by decide) (by decide) (by decide), rd_unary X 155 rfl (by decide) (by decide),
      rd_nullary X 154 rfl (by decide), rd_binary X 153 rfl (by decide) (by decide) (by decide),
      rd_unary X 152 rfl (by decide) (by decide), rd_nullary X 151 rfl (by decide),
      rd_binary X 150 rfl (by decide) (by decide) (by decide), rd_unary X 149 rfl (by decide) (by decide),
      rd_ternary X 148 rfl (by decide) (by decide) (by decide) (by decide), rd_nullary X 147 rfl (by decide),
      rd_binary X 146 rfl (by decide) (by decide) (by decide), rd_nullary X 145 rfl (by decide),
      rd_unary X 144 rfl (by decide) (by decide)]
    simp only [StableHlo.TRef.ofBuf, StableHlo.TRef.toBuf, cast_cast, cast_eq, id_eq]
    rw [hc]
    generalize rd X main_v1 = x
    rfl
  rw [h, v1 X i]
  exact fmod_8 (i 0)

theorem v47 (i : S1x512.Idx) : rd X main_v47 i = BitVec.ofNat 32 ((i 1).val / 64) := by
  have hc : rd X main_c_10 = constantI S_ 32 64#32 := rd_nullary X 178 rfl (by decide)
  have h : rd X main_v47 i = fdiv (rd X main_v46 i) 64#32 := by
    rw [rd_ternary X 195 rfl (by decide) (by decide) (by decide) (by decide), rd_binary X 194 rfl (by decide) (by decide) (by decide),
      rd_unary X 193 rfl (by decide) (by decide), rd_nullary X 192 rfl (by decide),
      rd_binary X 191 rfl (by decide) (by decide) (by decide), rd_binary X 190 rfl (by decide) (by decide) (by decide),
      rd_unary X 189 rfl (by decide) (by decide), rd_nullary X 188 rfl (by decide),
      rd_binary X 187 rfl (by decide) (by decide) (by decide), rd_unary X 186 rfl (by decide) (by decide),
      rd_binary X 185 rfl (by decide) (by decide) (by decide), rd_unary X 184 rfl (by decide) (by decide),
      rd_unary X 183 rfl (by decide) (by decide), rd_unary X 182 rfl (by decide) (by decide),
      rd_binary X 181 rfl (by decide) (by decide) (by decide), rd_unary X 180 rfl (by decide) (by decide),
      rd_unary X 179 rfl (by decide) (by decide)]
    simp only [StableHlo.TRef.ofBuf, StableHlo.TRef.toBuf, cast_cast, cast_eq, id_eq]
    rw [hc]
    generalize rd X main_v46 = x
    rfl
  rw [h, v46 X i]
  exact fdiv_64 (i 1)

theorem v48 (i : S128x1.Idx) : rd X main_v48 i = BitVec.ofNat 32 ((i 0).val / 24) := by
  have hc : rd X main_c_11 = constantI S_ 32 24#32 := rd_nullary X 196 rfl (by decide)
  have h : rd X main_v48 i = fdiv (rd X main_v1 i) 24#32 := by
    rw [rd_ternary X 213 rfl (by decide) (by decide) (by decide) (by decide), rd_binary X 212 rfl (by decide) (by decide) (by decide),
      rd_unary X 211 rfl (by decide) (by decide), rd_nullary X 210 rfl (by decide),
      rd_binary X 209 rfl (by decide) (by decide) (by decide), rd_binary X 208 rfl (by decide) (by decide) (by decide),
      rd_unary X 207 rfl (by decide) (by decide), rd_nullary X 206 rfl (by decide),
      rd_binary X 205 rfl (by decide) (by decide) (by decide), rd_unary X 204 rfl (by decide) (by decide),
      rd_binary X 203 rfl (by decide) (by decide) (by decide), rd_unary X 202 rfl (by decide) (by decide),
      rd_unary X 201 rfl (by decide) (by decide), rd_unary X 200 rfl (by decide) (by decide),
      rd_binary X 199 rfl (by decide) (by decide) (by decide), rd_unary X 198 rfl (by decide) (by decide),
      rd_unary X 197 rfl (by decide) (by decide)]
    simp only [StableHlo.TRef.ofBuf, StableHlo.TRef.toBuf, cast_cast, cast_eq, id_eq]
    rw [hc]
    generalize rd X main_v1 = x
    rfl
  rw [h, v1 X i]
  exact fdiv_24 (i 0)

theorem v51 (i : S128x1.Idx) : rd X main_v51 i = BitVec.ofNat 32 ((i 0).val % 8) := by
  have hc : rd X main_c_13 = constantI S_ 32 8#32 := rd_nullary X 217 rfl (by decide)
  have h : rd X main_v51 i = fmod (rd X main_v1 i) 8#32 := by
    rw [rd_ternary X 238 rfl (by decide) (by decide) (by decide) (by decide), rd_binary X 237 rfl (by decide) (by decide) (by decide),
      rd_unary X 236 rfl (by decide) (by decide), rd_binary X 235 rfl (by decide) (by decide) (by decide),
      rd_binary X 234 rfl (by decide) (by decide) (by decide), rd_unary X 233 rfl (by decide) (by decide),
      rd_binary X 232 rfl (by decide) (by decide) (by decide), rd_nullary X 231 rfl (by decide),
      rd_binary X 230 rfl (by decide) (by decide) (by decide), rd_unary X 229 rfl (by decide) (by decide),
      rd_nullary X 228 rfl (by decide), rd_binary X 227 rfl (by decide) (by decide) (by decide),
      rd_unary X 226 rfl (by decide) (by decide), rd_nullary X 225 rfl (by decide),
      rd_binary X 224 rfl (by decide) (by decide) (by decide), rd_unary X 223 rfl (by decide) (by decide),
      rd_ternary X 222 rfl (by decide) (by decide) (by decide) (by decide), rd_nullary X 221 rfl (by decide),
      rd_binary X 220 rfl (by decide) (by decide) (by decide), rd_nullary X 219 rfl (by decide),
      rd_unary X 218 rfl (by decide) (by decide)]
    simp only [StableHlo.TRef.ofBuf, StableHlo.TRef.toBuf, cast_cast, cast_eq, id_eq]
    rw [hc]
    generalize rd X main_v1 = x
    rfl
  rw [h, v1 X i]
  exact fmod_8 (i 0)

theorem v64 (i : S1x512.Idx) : rd X main_v64 i = BitVec.ofNat 32 ((i 1).val / 64) := by
  have hc : rd X main_c_15 = constantI S_ 32 64#32 := rd_nullary X 252 rfl (by decide)
  have h : rd X main_v64 i = fdiv (rd X main_v63 i) 64#32 := by
    rw [rd_ternary X 269 rfl (by decide) (by decide) (by decide) (by decide), rd_binary X 268 rfl (by decide) (by decide) (by decide),
      rd_unary X 267 rfl (by decide) (by decide), rd_nullary X 266 rfl (by decide),
      rd_binary X 265 rfl (by decide) (by decide) (by decide), rd_binary X 264 rfl (by decide) (by decide) (by decide),
      rd_unary X 263 rfl (by decide) (by decide), rd_nullary X 262 rfl (by decide),
      rd_binary X 261 rfl (by decide) (by decide) (by decide), rd_unary X 260 rfl (by decide) (by decide),
      rd_binary X 259 rfl (by decide) (by decide) (by decide), rd_unary X 258 rfl (by decide) (by decide),
      rd_unary X 257 rfl (by decide) (by decide), rd_unary X 256 rfl (by decide) (by decide),
      rd_binary X 255 rfl (by decide) (by decide) (by decide), rd_unary X 254 rfl (by decide) (by decide),
      rd_unary X 253 rfl (by decide) (by decide)]
    simp only [StableHlo.TRef.ofBuf, StableHlo.TRef.toBuf, cast_cast, cast_eq, id_eq]
    rw [hc]
    generalize rd X main_v63 = x
    rfl
  rw [h, v63 X i]
  exact fdiv_64 (i 1)

theorem v65 (i : S128x1.Idx) : rd X main_v65 i = BitVec.ofNat 32 ((i 0).val / 24) := by
  have hc : rd X main_c_16 = constantI S_ 32 24#32 := rd_nullary X 270 rfl (by decide)
  have h : rd X main_v65 i = fdiv (rd X main_v1 i) 24#32 := by
    rw [rd_ternary X 287 rfl (by decide) (by decide) (by decide) (by decide), rd_binary X 286 rfl (by decide) (by decide) (by decide),
      rd_unary X 285 rfl (by decide) (by decide), rd_nullary X 284 rfl (by decide),
      rd_binary X 283 rfl (by decide) (by decide) (by decide), rd_binary X 282 rfl (by decide) (by decide) (by decide),
      rd_unary X 281 rfl (by decide) (by decide), rd_nullary X 280 rfl (by decide),
      rd_binary X 279 rfl (by decide) (by decide) (by decide), rd_unary X 278 rfl (by decide) (by decide),
      rd_binary X 277 rfl (by decide) (by decide) (by decide), rd_unary X 276 rfl (by decide) (by decide),
      rd_unary X 275 rfl (by decide) (by decide), rd_unary X 274 rfl (by decide) (by decide),
      rd_binary X 273 rfl (by decide) (by decide) (by decide), rd_unary X 272 rfl (by decide) (by decide),
      rd_unary X 271 rfl (by decide) (by decide)]
    simp only [StableHlo.TRef.ofBuf, StableHlo.TRef.toBuf, cast_cast, cast_eq, id_eq]
    rw [hc]
    generalize rd X main_v1 = x
    rfl
  rw [h, v1 X i]
  exact fdiv_24 (i 0)

theorem v68 (i : S128x1.Idx) : rd X main_v68 i = BitVec.ofNat 32 ((i 0).val % 8) := by
  have hc : rd X main_c_18 = constantI S_ 32 8#32 := rd_nullary X 291 rfl (by decide)
  have h : rd X main_v68 i = fmod (rd X main_v1 i) 8#32 := by
    rw [rd_ternary X 312 rfl (by decide) (by decide) (by decide) (by decide), rd_binary X 311 rfl (by decide) (by decide) (by decide),
      rd_unary X 310 rfl (by decide) (by decide), rd_binary X 309 rfl (by decide) (by decide) (by decide),
      rd_binary X 308 rfl (by decide) (by decide) (by decide), rd_unary X 307 rfl (by decide) (by decide),
      rd_binary X 306 rfl (by decide) (by decide) (by decide), rd_nullary X 305 rfl (by decide),
      rd_binary X 304 rfl (by decide) (by decide) (by decide), rd_unary X 303 rfl (by decide) (by decide),
      rd_nullary X 302 rfl (by decide), rd_binary X 301 rfl (by decide) (by decide) (by decide),
      rd_unary X 300 rfl (by decide) (by decide), rd_nullary X 299 rfl (by decide),
      rd_binary X 298 rfl (by decide) (by decide) (by decide), rd_unary X 297 rfl (by decide) (by decide),
      rd_ternary X 296 rfl (by decide) (by decide) (by decide) (by decide), rd_nullary X 295 rfl (by decide),
      rd_binary X 294 rfl (by decide) (by decide) (by decide), rd_nullary X 293 rfl (by decide),
      rd_unary X 292 rfl (by decide) (by decide)]
    simp only [StableHlo.TRef.ofBuf, StableHlo.TRef.toBuf, cast_cast, cast_eq, id_eq]
    rw [hc]
    generalize rd X main_v1 = x
    rfl
  rw [h, v1 X i]
  exact fmod_8 (i 0)

/-! ## The tables -/

theorem sel (i : S512x128.Idx) :
    rd X main_v10 i = (((if (i 0).val / 64 = (i 1).val then 1 else 0 : ℝ)) : EReal) := by
  rw [rd_unary X 27 rfl (by decide) (by decide), rd_binary X 26 rfl (by decide) (by decide) (by decide),
    rd_unary X 25 rfl (by decide) (by decide), rd_unary X 24 rfl (by decide) (by decide)]
  show FloatOps.uitofp .bf16 (IntOp.cmpi .eq (rd X main_v4 _) (rd X main_v6 _)) = _
  rw [v4 X, v6 X, eq_word _ _ (by have : (i 0).val < 512 := (i 0).isLt; show (i 0).val / 64 < _; omega)
    (by have : (i 1).val < 128 := (i 1).isLt; show (i 1).val < _; omega), one_word]
  rfl

theorem ex_dt_word (i : S128x512.Idx) : ∃ (k : S128x1.Idx) (l : S1x512.Idx),
    rd X main_v27 i = FloatOps.uitofp (F := Ideal) .bf16 (IntOp.andi (IntOp.andi (IntOp.cmpi .eq (rd X main_v14 k) 0#32)
      (IntOp.cmpi .eq (rd X main_v17 k) (rd X main_v13 l))) (IntOp.cmpi .slt (rd X main_v1 k) 96#32))
      ∧ (k 0).val = (i 0).val ∧ (l 1).val = (i 1).val := by
  rw [rd_unary X 101 rfl (by decide) (by decide), rd_binary X 100 rfl (by decide) (by decide) (by decide),
    rd_unary X 99 rfl (by decide) (by decide), rd_binary X 98 rfl (by decide) (by decide) (by decide),
    rd_unary X 97 rfl (by decide) (by decide), rd_nullary X 96 rfl (by decide),
    rd_binary X 95 rfl (by decide) (by decide) (by decide), rd_unary X 94 rfl (by decide) (by decide),
    rd_binary X 93 rfl (by decide) (by decide) (by decide), rd_unary X 92 rfl (by decide) (by decide),
    rd_unary X 91 rfl (by decide) (by decide), rd_binary X 68 rfl (by decide) (by decide) (by decide),
    rd_unary X 67 rfl (by decide) (by decide), rd_nullary X 66 rfl (by decide)]
  generalize rd X main_v14 = a
  generalize rd X main_v17 = b
  generalize rd X main_v13 = c
  generalize rd X main_v1 = d
  exact ⟨_, _, rfl, rfl, rfl⟩

theorem ex_dt (i : S128x512.Idx) :
    rd X main_v27 i = (((if ((i 0).val / 24 = 0 ∧ (i 0).val % 8 = (i 1).val / 64) ∧ (i 0).val < 96 then 1 else 0 : ℝ)) : EReal) := by
  have b0 : (i 0).val < 128 := (i 0).isLt
  have b1 : (i 1).val < 512 := (i 1).isLt
  obtain ⟨k, l, e, hk, hl⟩ := ex_dt_word X i
  rw [e, v14 X, v17 X, v13 X, v1 X, hk, hl]
  rw [eq_word _ 0 (by omega) (by omega), eq_word _ _ (by omega) (by omega), slt_word _ 96 (by omega) (by omega),
    and_word, and_word, one_word]

theorem ex_gam_word (i : S128x1024.Idx) : ∃ (k : S128x1.Idx) (l : S1x1024.Idx),
    rd X main_v44 i = FloatOps.uitofp (F := Ideal) .bf16 (IntOp.andi (IntOp.andi (IntOp.cmpi .eq (rd X main_v31 k) 1#32)
      (IntOp.cmpi .eq (rd X main_v34 k) (rd X main_v30 l))) (IntOp.cmpi .slt (rd X main_v1 k) 96#32))
      ∧ (k 0).val = (i 0).val ∧ (l 1).val = (i 1).val := by
  rw [rd_unary X 175 rfl (by decide) (by decide), rd_binary X 174 rfl (by decide) (by decide) (by decide),
    rd_unary X 173 rfl (by decide) (by decide), rd_binary X 172 rfl (by decide) (by decide) (by decide),
    rd_unary X 171 rfl (by decide) (by decide), rd_nullary X 170 rfl (by decide),
    rd_binary X 169 rfl (by decide) (by decide) (by decide), rd_unary X 168 rfl (by decide) (by decide),
    rd_binary X 167 rfl (by decide) (by decide) (by decide), rd_unary X 166 rfl (by decide) (by decide),
    rd_unary X 165 rfl (by decide) (by decide), rd_binary X 142 rfl (by decide) (by decide) (by decide),
    rd_unary X 141 rfl (by decide) (by decide), rd_nullary X 140 rfl (by decide)]
  generalize rd X main_v31 = a
  generalize rd X main_v34 = b
  generalize rd X main_v30 = c
  generalize rd X main_v1 = d
  exact ⟨_, _, rfl, rfl, rfl⟩

theorem ex_gam (i : S128x1024.Idx) :
    rd X main_v44 i = (((if ((i 0).val / 24 = 1 ∧ (i 0).val % 8 = (i 1).val / 128) ∧ (i 0).val < 96 then 1 else 0 : ℝ)) : EReal) := by
  have b0 : (i 0).val < 128 := (i 0).isLt
  have b1 : (i 1).val < 1024 := (i 1).isLt
  obtain ⟨k, l, e, hk, hl⟩ := ex_gam_word X i
  rw [e, v31 X, v34 X, v30 X, v1 X, hk, hl]
  rw [eq_word _ 1 (by omega) (by omega), eq_word _ _ (by omega) (by omega), slt_word _ 96 (by omega) (by omega),
    and_word, and_word, one_word]

theorem ex_din_word (i : S128x512.Idx) : ∃ (k : S128x1.Idx) (l : S1x512.Idx),
    rd X main_v61 i = FloatOps.uitofp (F := Ideal) .bf16 (IntOp.andi (IntOp.andi (IntOp.cmpi .eq (rd X main_v48 k) 2#32)
      (IntOp.cmpi .eq (rd X main_v51 k) (rd X main_v47 l))) (IntOp.cmpi .slt (rd X main_v1 k) 96#32))
      ∧ (k 0).val = (i 0).val ∧ (l 1).val = (i 1).val := by
  rw [rd_unary X 249 rfl (by decide) (by decide), rd_binary X 248 rfl (by decide) (by decide) (by decide),
    rd_unary X 247 rfl (by decide) (by decide), rd_binary X 246 rfl (by decide) (by decide) (by decide),
    rd_unary X 245 rfl (by decide) (by decide), rd_nullary X 244 rfl (by decide),
    rd_binary X 243 rfl (by decide) (by decide) (by decide), rd_unary X 242 rfl (by decide) (by decide),
    rd_binary X 241 rfl (by decide) (by decide) (by decide), rd_unary X 240 rfl (by decide) (by decide),
    rd_unary X 239 rfl (by decide) (by decide), rd_binary X 216 rfl (by decide) (by decide) (by decide),
    rd_unary X 215 rfl (by decide) (by decide), rd_nullary X 214 rfl (by decide)]
  generalize rd X main_v48 = a
  generalize rd X main_v51 = b
  generalize rd X main_v47 = c
  generalize rd X main_v1 = d
  exact ⟨_, _, rfl, rfl, rfl⟩

theorem ex_din (i : S128x512.Idx) :
    rd X main_v61 i = (((if ((i 0).val / 24 = 2 ∧ (i 0).val % 8 = (i 1).val / 64) ∧ (i 0).val < 96 then 1 else 0 : ℝ)) : EReal) := by
  have b0 : (i 0).val < 128 := (i 0).isLt
  have b1 : (i 1).val < 512 := (i 1).isLt
  obtain ⟨k, l, e, hk, hl⟩ := ex_din_word X i
  rw [e, v48 X, v51 X, v47 X, v1 X, hk, hl]
  rw [eq_word _ 2 (by omega) (by omega), eq_word _ _ (by omega) (by omega), slt_word _ 96 (by omega) (by omega),
    and_word, and_word, one_word]

theorem ex_dst_word (i : S128x512.Idx) : ∃ (k : S128x1.Idx) (l : S1x512.Idx),
    rd X main_v78 i = FloatOps.uitofp (F := Ideal) .bf16 (IntOp.andi (IntOp.andi (IntOp.cmpi .eq (rd X main_v65 k) 3#32)
      (IntOp.cmpi .eq (rd X main_v68 k) (rd X main_v64 l))) (IntOp.cmpi .slt (rd X main_v1 k) 96#32))
      ∧ (k 0).val = (i 0).val ∧ (l 1).val = (i 1).val := by
  rw [rd_unary X 323 rfl (by decide) (by decide), rd_binary X 322 rfl (by decide) (by decide) (by decide),
    rd_unary X 321 rfl (by decide) (by decide), rd_binary X 320 rfl (by decide) (by decide) (by decide),
    rd_unary X 319 rfl (by decide) (by decide), rd_nullary X 318 rfl (by decide),
    rd_binary X 317 rfl (by decide) (by decide) (by decide), rd_unary X 316 rfl (by decide) (by decide),
    rd_binary X 315 rfl (by decide) (by decide) (by decide), rd_unary X 314 rfl (by decide) (by decide),
    rd_unary X 313 rfl (by decide) (by decide), rd_binary X 290 rfl (by decide) (by decide) (by decide),
    rd_unary X 289 rfl (by decide) (by decide), rd_nullary X 288 rfl (by decide)]
  generalize rd X main_v65 = a
  generalize rd X main_v68 = b
  generalize rd X main_v64 = c
  generalize rd X main_v1 = d
  exact ⟨_, _, rfl, rfl, rfl⟩

theorem ex_dst (i : S128x512.Idx) :
    rd X main_v78 i = (((if ((i 0).val / 24 = 3 ∧ (i 0).val % 8 = (i 1).val / 64) ∧ (i 0).val < 96 then 1 else 0 : ℝ)) : EReal) := by
  have b0 : (i 0).val < 128 := (i 0).isLt
  have b1 : (i 1).val < 512 := (i 1).isLt
  obtain ⟨k, l, e, hk, hl⟩ := ex_dst_word X i
  rw [e, v65 X, v68 X, v64 X, v1 X, hk, hl]
  rw [eq_word _ 3 (by omega) (by omega), eq_word _ _ (by omega) (by omega), slt_word _ 96 (by omega) (by omega),
    and_word, and_word, one_word]

end Scan.Line
-- ==== Proof.HostQ.lean ====
/- The launch's tables of steps and decays, entry by entry, for the heads of the scan from the last token to the first. -/
module

public import proofs.«01_k».proof.Proof.HostTab
public import proofs.«01_k».proof.Proof.HostOps
public import proofs.«01_k».proof.Proof.Data
public import proofs.«01_k».proof.Proof.Spec
public import Idealize.ShloMosaic.Lib.KernelVsHost

@[expose] public section

noncomputable section

namespace Scan.Line

attribute [local irreducible] rd

open Idealize.ShloMosaic Idealize.ShloMosaic.TcCoe Cert.KernelIdeal Cert.KernelIdeal.Gen
open scoped BigOperators

/-! ## A layout operation reads one entry -/

section layout
variable {α : Type} {s t : Shape}

theorem cast_ex (x : s.Idx → α) (h : s.ShapeCasts t) (j : t.Idx) :
    ∃ k, shapeCast t x h j = x k ∧ (s.rowMajor k).val = (t.rowMajor j).val :=
  ⟨s.rowMajor.symm ((t.rowMajor j).cast h), shapeCast_apply x h j _ (by simp), by simp⟩

theorem pad_in (lo hi interior : Fin s.rank → ℕ) (x : s.Idx → α) {u : Shape} (v : u.Idx → α)
    (h : s.Pads lo hi interior t) (hu : 0 < u.numel) (j : t.Idx) (hlo : ∀ a, lo a = 0) (hin : ∀ a, interior a = 0)
    (hj : ∀ a : Fin s.rank, (j (a.cast h.1)).val < s.size a) :
    ∃ k, pad t lo hi interior x v h hu j = x k ∧ ∀ a : Fin s.rank, (k a).val = (j (a.cast h.1)).val :=
  ⟨fun a => ⟨_, hj a⟩, pad_apply_of_inside lo hi interior x v h hu j _
    (fun a => by show _ = lo a + (j (a.cast h.1)).val * (interior a + 1); rw [hlo, hin]; omega), fun _ => rfl⟩

end layout

variable {X : Valuation τ sig (Elt Ideal)}
variable {r0 : Fin 8192 → Fin 6144 → ℝ} {r2 : Fin 8192 → Fin 128 → ℝ} {r3 r4 : Fin 128 → ℝ}

/-! ## Steps and log decays, of both directions -/

def fD (r2 : Fin 8192 → Fin 128 → ℝ) (r3 : Fin 128 → ℝ) (r : Fin 8192) (h : Fin 128) : ℝ := softplus (r2 r h + r3 h)
def fA (r2 : Fin 8192 → Fin 128 → ℝ) (r3 r4 : Fin 128 → ℝ) (r : Fin 8192) (h : Fin 128) : ℝ :=
  fD r2 r3 r h * -Real.exp (r4 h)
/-- The log decays of a chunk. -/
def fZ (r2 : Fin 8192 → Fin 128 → ℝ) (r3 r4 : Fin 128 → ℝ) (z : Fin 64) (h : Fin 128) (l : Fin 128) : ℝ :=
  fA r2 r3 r4 (tok z l) h

theorem fD_head (r : Fin 8192) (g j : Fin 8) : fD r2 r3 r (head g j) = rD r2 r3 r g j := rfl
theorem fA_head (r : Fin 8192) (g j : Fin 8) : fA r2 r3 r4 r (head g j) = rA r2 r3 r4 r g j := rfl

section steps
variable (h2 : ∀ i : S8192x128.Idx, rd X main_arg2 i = ((r2 (i 0) (i 1) : ℝ) : EReal))
variable (h3 : ∀ i : S128.Idx, rd X main_arg3 i = ((r3 (i 0) : ℝ) : EReal))
variable (h4 : ∀ i : S128.Idx, rd X main_arg4 i = ((r4 (i 0) : ℝ) : EReal))

include h2 h3 in
theorem v83 (i : S8192x128.Idx) : rd X main_v83 i = ((r2 (i 0) (i 1) + r3 (i 1) : ℝ) : EReal) := by
  rw [rd_binary X 328 rfl (by decide) (by decide) (by decide), rd_unary X 327 rfl (by decide) (by decide),
    rd_unary X 326 rfl (by decide) (by decide)]
  show FloatOps.addf (F := Ideal) (rd X main_arg2 i) (rd X main_arg3 _) = _
  rw [h2, h3, Ideal.addf_def, ← EReal.coe_add]; rfl

theorem zero32 : (FloatOps.ofBits .f32 0#32 : Ideal .f32) = (0 : EReal) := Ideal.ofBits_zero_f32
theorem one32 : (FloatOps.ofBits .f32 0x3F800000#32 : Ideal .f32) = (1 : EReal) := Ideal.ofBits_one_f32

include h2 h3 in
theorem v92 (i : S8192x128.Idx) : rd X main_v92 i = ((fD r2 r3 (i 0) (i 1) : ℝ) : EReal) := by
  rw [rd_binary X 339 rfl (by decide) (by decide) (by decide), rd_unary X 338 rfl (by decide) (by decide),
    rd_binary X 337 rfl (by decide) (by decide) (by decide), rd_unary X 336 rfl (by decide) (by decide),
    rd_nullary X 335 rfl (by decide), rd_unary X 334 rfl (by decide) (by decide),
    rd_unary X 333 rfl (by decide) (by decide), rd_unary X 332 rfl (by decide) (by decide),
    rd_binary X 331 rfl (by decide) (by decide) (by decide), rd_unary X 330 rfl (by decide) (by decide),
    rd_nullary X 329 rfl (by decide)]
  show FloatOps.addf (F := Ideal) (FloatOps.maximumf (rd X main_v83 i) (FloatOps.ofBits .f32 0#32))
    (FloatOps.hostUnary .log (FloatOps.addf (FloatOps.ofBits .f32 0x3F800000#32)
      (FloatOps.hostUnary .exp (FloatOps.hostNegf (FloatOps.hostAbsf (rd X main_v83 i)))))) = _
  rw [v83 h2 h3, zero32, one32]
  simp only [Ideal.addf_def, Ideal.maximumf_def, Ideal.hostUnary_exp_def, Ideal.hostUnary_log_def, Ideal.hostNegf_def,
    Ideal.hostAbsf_def]
  exact softplus_eq _

include h2 h3 h4 in
theorem v95 (i : S8192x128.Idx) : rd X main_v95 i = ((fA r2 r3 r4 (i 0) (i 1) : ℝ) : EReal) := by
  rw [rd_binary X 342 rfl (by decide) (by decide) (by decide), rd_unary X 341 rfl (by decide) (by decide),
    rd_unary X 340 rfl (by decide) (by decide), rd_unary X 325 rfl (by decide) (by decide),
    rd_unary X 324 rfl (by decide) (by decide)]
  show FloatOps.mulf (F := Ideal) (rd X main_v92 i) (FloatOps.hostNegf (FloatOps.hostUnary .exp (rd X main_arg4 _))) = _
  rw [v92 h2 h3, h4]
  simp only [Ideal.hostUnary_exp_def, Ideal.hostNegf_def, Ideal.negf_def, Ideal.exp_coe, ← EReal.coe_neg, Ideal.mulf_def,
    ← EReal.coe_mul]
  rfl

theorem tok_eq (r : Fin 8192) (z : Fin 64) (l : Fin 128) (h : r.val = 128 * z.val + l.val) : r = tok z l := Fin.ext h

include h2 h3 h4 in
theorem v96 (i : S64x128x128.Idx) : rd X main_v96 i = ((fZ r2 r3 r4 (i 0) (i 2) (i 1) : ℝ) : EReal) := by
  rw [rd_reshape X 343 rfl (by decide) (by decide)]
  obtain ⟨k, e, hk⟩ := cast_ex (s := S8192x128) (rd X main_v95) shapeCasts_S8192x128_S64x128x128 i
  refine Eq.trans e ?_
  rw [v95 h2 h3 h4]
  rw [Shape.rowMajor_val_two, Shape.rowMajor_val_three] at hk
  change (k 0).val * 128 + (k 1).val = ((i 0).val * 128 + (i 1).val) * 128 + (i 2).val at hk
  have b1 : (k 1).val < 128 := (k 1).isLt
  have b2 : (i 2).val < 128 := (i 2).isLt
  have e0 : k 0 = tok (i 0) (i 1) := tok_eq _ _ _ (by omega)
  have e1 : k 1 = i 2 := Fin.ext (by omega)
  rw [e0, e1]; rfl

include h2 h3 h4 in
theorem v97 (i : S64x128x128.Idx) : rd X main_v97 i = ((Ker.cs (fZ r2 r3 r4 (i 0) (i 2)) (i 1) : ℝ) : EReal) := by
  rw [rd_binary X 346 rfl (by decide) (by decide) (by decide), rd_unary X 345 rfl (by decide) (by decide),
    rd_nullary X 344 rfl (by decide)]
  refine (cumsum_low (1 : Fin 3) 127 rfl _ _ _ _ (by decide) (by decide) (by decide) _ _ _ _ Ideal.ofBits_zero_f32 i
    (fun k => ((fZ r2 r3 r4 (i 0) (i 2) k : ℝ) : EReal)) ?_).trans ?_
  · intro k hk
    refine (v96 h2 h3 h4 k).trans ?_
    have e0 : k 0 = i 0 := Fin.ext (hk 0 (by decide))
    have e2 : k 2 = i 2 := Fin.ext (hk 2 (by decide))
    rw [e0, e2]; rfl
  · simp only [coe_ite_zero, coe_sum]; rfl

include h2 h3 h4 in
theorem v98 (i : S64x128.Idx) : rd X main_v98 i = ((Ker.tot (fZ r2 r3 r4 (i 0) (i 1)) : ℝ) : EReal) := by
  rw [rd_binary X 348 rfl (by decide) (by decide) (by decide), rd_nullary X 347 rfl (by decide)]
  refine (Ideal.hostReduceAdd_r3_a1 (n0 := 64) (n1 := 128) (n2 := 128) reducesTo_S64x128x128_S64x128_d1 (rd X main_v96) _ i).trans ?_
  simp only [v96 h2 h3 h4, coe_sum]
  refine (congrArg (· + _) Ideal.ofBits_zero_f32).trans ?_
  exact zero_add _

include h2 h3 h4 in
theorem v99 (i : S64x1x128.Idx) : rd X main_v99 i = ((Ker.tot (fZ r2 r3 r4 (i 0) (i 2)) : ℝ) : EReal) := by
  rw [rd_unary X 349 rfl (by decide) (by decide)]
  exact v98 h2 h3 h4 _

theorem v102 (i : S64x128x128.Idx) : rd X main_v102 i = BitVec.ofBool (decide ((i 2).val < 64)) := by
  rw [rd_binary X 353 rfl (by decide) (by decide) (by decide), rd_unary X 352 rfl (by decide) (by decide),
    rd_nullary X 351 rfl (by decide), rd_nullary X 350 rfl (by decide)]
  have b : (i 2).val < 128 := (i 2).isLt
  exact slt_word _ 64 (by omega) (by omega)

theorem not_fwd (i : S64x128x128.Idx) (hi : 64 ≤ (i 2).val) {α : Type} (a b : α) :
    Scalar.select (rd X main_v102 i) a b = b := by
  rw [v102, decide_eq_false (by omega)]; simp [Scalar.select]

include h2 h3 h4 in
theorem v104 (i : S64x128x128.Idx) (hi : 64 ≤ (i 2).val) :
    rd X main_v104 i = ((Ker.gam (fZ r2 r3 r4 (i 0) (i 2)) (i 1) : ℝ) : EReal) := by
  rw [rd_ternary X 355 rfl (by decide) (by decide) (by decide) (by decide),
    rd_binary X 354 rfl (by decide) (by decide) (by decide)]
  simp only [StableHlo.TRef.ofBuf, StableHlo.TRef.toBuf, cast_cast, cast_eq]
  refine (not_fwd i hi _ _).trans ?_
  show FloatOps.subf (F := Ideal) (rd X main_v96 i) (rd X main_v97 i) = _
  rw [v96 h2 h3 h4, v97 h2 h3 h4, Ideal.subf_def, ← EReal.coe_sub]; rfl

include h2 h3 h4 in
theorem v109 (i : S64x128x128.Idx) (hi : 64 ≤ (i 2).val) :
    rd X main_v109 i = ((Ker.din (fZ r2 r3 r4 (i 0) (i 2)) (i 1) : ℝ) : EReal) := by
  rw [rd_ternary X 360 rfl (by decide) (by decide) (by decide) (by decide),
    rd_unary X 359 rfl (by decide) (by decide), rd_binary X 358 rfl (by decide) (by decide) (by decide),
    rd_unary X 357 rfl (by decide) (by decide)]
  simp only [StableHlo.TRef.ofBuf, StableHlo.TRef.toBuf, cast_cast, cast_eq]
  refine (not_fwd i hi _ _).trans ?_
  show FloatOps.hostUnary .exp (FloatOps.addf (F := Ideal) (rd X main_v99 _) (rd X main_v104 i)) = _
  rw [v99 h2 h3 h4, v104 h2 h3 h4 i hi, Ideal.addf_def, ← EReal.coe_add, Ideal.hostUnary_exp_def, Ideal.exp_coe]; rfl

include h2 h3 h4 in
theorem v115 (i : S64x128x128.Idx) (hi : 64 ≤ (i 2).val) :
    rd X main_v115 i = ((Ker.dst (fZ r2 r3 r4 (i 0) (i 2)) (i 1) : ℝ) : EReal) := by
  rw [rd_ternary X 366 rfl (by decide) (by decide) (by decide) (by decide),
    rd_unary X 365 rfl (by decide) (by decide), rd_binary X 364 rfl (by decide) (by decide) (by decide)]
  simp only [StableHlo.TRef.ofBuf, StableHlo.TRef.toBuf, cast_cast, cast_eq]
  refine (not_fwd i hi _ _).trans ?_
  show FloatOps.hostUnary .exp (FloatOps.subf (F := Ideal) (rd X main_v97 i) (rd X main_v96 i)) = _
  rw [v96 h2 h3 h4, v97 h2 h3 h4, Ideal.subf_def, ← EReal.coe_sub, Ideal.hostUnary_exp_def, Ideal.exp_coe]; rfl

/-! ## By rows -/

/-- An entry of an array of rows is that of the array of chunks. -/
theorem rows (x : S64x128x128.Idx → EReal) (f : Fin 64 → Fin 128 → Fin 128 → ℝ)
    (hx : ∀ i : S64x128x128.Idx, 64 ≤ (i 2).val → x i = ((f (i 0) (i 1) (i 2) : ℝ) : EReal))
    (i : S8192x128.Idx) (hi : 64 ≤ (i 1).val) :
    shapeCast S8192x128 x shapeCasts_S64x128x128_S8192x128 i = ((f (ch (i 0)) (pos (i 0)) (i 1) : ℝ) : EReal) := by
  obtain ⟨k, e, hk⟩ := cast_ex x shapeCasts_S64x128x128_S8192x128 i
  rw [Shape.rowMajor_val_two, Shape.rowMajor_val_three] at hk
  change ((k 0).val * 128 + (k 1).val) * 128 + (k 2).val = (i 0).val * 128 + (i 1).val at hk
  have b1 : (k 1).val < 128 := (k 1).isLt
  have b2 : (k 2).val < 128 := (k 2).isLt
  have b3 : (i 1).val < 128 := (i 1).isLt
  have e2 : k 2 = i 1 := Fin.ext (by omega)
  rw [e, hx k (by rw [e2]; exact hi), e2]
  have e0 : k 0 = ch (i 0) := Fin.ext (by show _ = (i 0).val / 128; omega)
  have e1 : k 1 = pos (i 0) := Fin.ext (by show _ = (i 0).val % 128; omega)
  rw [e0, e1]

include h2 h3 h4 in
theorem v116 (i : S8192x128.Idx) (hi : 64 ≤ (i 1).val) :
    rd X main_v116 i = ((Ker.gam (fZ r2 r3 r4 (ch (i 0)) (i 1)) (pos (i 0)) : ℝ) : EReal) := by
  rw [rd_reshape X 367 rfl (by decide) (by decide)]
  exact rows _ (fun z l h => Ker.gam (fZ r2 r3 r4 z h) l) (v104 h2 h3 h4) i hi

include h2 h3 h4 in
theorem v117 (i : S8192x128.Idx) (hi : 64 ≤ (i 1).val) :
    rd X main_v117 i = ((Ker.din (fZ r2 r3 r4 (ch (i 0)) (i 1)) (pos (i 0)) : ℝ) : EReal) := by
  rw [rd_reshape X 368 rfl (by decide) (by decide)]
  exact rows _ (fun z l h => Ker.din (fZ r2 r3 r4 z h) l) (v109 h2 h3 h4) i hi

include h2 h3 h4 in
theorem v118 (i : S8192x128.Idx) (hi : 64 ≤ (i 1).val) :
    rd X main_v118 i = ((Ker.dst (fZ r2 r3 r4 (ch (i 0)) (i 1)) (pos (i 0)) : ℝ) : EReal) := by
  rw [rd_reshape X 369 rfl (by decide) (by decide)]
  exact rows _ (fun z l h => Ker.dst (fZ r2 r3 r4 z h) l) (v115 h2 h3 h4) i hi

/-! ## The table of quantities: three pieces of each, of which the first is the whole quantity -/

/-- A quantity of a row and a head: the step, the decay inside the chunk, and the decays to its two ends. -/
def qv (r2 : Fin 8192 → Fin 128 → ℝ) (r3 r4 : Fin 128 → ℝ) (q : ℕ) (r : Fin 8192) (h : Fin 128) : ℝ :=
  if q = 0 then fD r2 r3 r h
  else if q = 1 then Ker.gam (fZ r2 r3 r4 (ch r) h) (pos r)
  else if q = 2 then Ker.din (fZ r2 r3 r4 (ch r) h) (pos r)
  else Ker.dst (fZ r2 r3 r4 (ch r) h) (pos r)

/-- Twelve arrays beside one another, read at a place of the first, the second, … -/
theorem cat12 (x : Fin 12 → S8192x128.Idx → EReal)
    (h : Shape.Concatenates [S8192x128, S8192x128, S8192x128, S8192x128, S8192x128, S8192x128, S8192x128, S8192x128,
      S8192x128, S8192x128, S8192x128, S8192x128] S8192x1536 1) (i : S8192x1536.Idx) (n : Fin 12)
    (hn : (i 1).val / 128 = n.val) :
    ∃ k : S8192x128.Idx, concatenate S8192x1536 1 [⟨S8192x128, x 0⟩, ⟨S8192x128, x 1⟩, ⟨S8192x128, x 2⟩, ⟨S8192x128, x 3⟩,
      ⟨S8192x128, x 4⟩, ⟨S8192x128, x 5⟩, ⟨S8192x128, x 6⟩, ⟨S8192x128, x 7⟩, ⟨S8192x128, x 8⟩, ⟨S8192x128, x 9⟩,
      ⟨S8192x128, x 10⟩, ⟨S8192x128, x 11⟩] h i = x n k ∧ k 0 = i 0 ∧ (k 1).val = (i 1).val % 128 := by
  refine ⟨fun a => match a with
    | ⟨0, _⟩ => i 0
    | ⟨1, _⟩ => ⟨(i 1).val % 128, Nat.mod_lt _ (by decide)⟩, ?_, rfl, rfl⟩
  have hb : ∀ b : Fin 2, b ≠ (1 : Fin 2) → b = 0 := by decide
  exact concatenate_ofFn_apply (t := S8192x1536) (s₁ := S8192x128) (1 : Fin 2) x h rfl 128 rfl i n hn _ rfl
    (fun b hb' => by obtain rfl := hb b hb'; rfl)

/-- What is left of a real number once it is taken away. -/
theorem rest {x : EReal} {a : ℝ} (h : x = (a : EReal)) : x - x = ((0 : ℝ) : EReal) := by
  rw [h, ← EReal.coe_sub, sub_self]

theorem rest2 {x : EReal} {a : ℝ} (h : x = (a : EReal)) : (x - x) - (x - x) = ((0 : ℝ) : EReal) := by
  rw [rest h]; exact rest rfl

theorem qv0 (r2 : Fin 8192 → Fin 128 → ℝ) (r3 r4 : Fin 128 → ℝ) (r : Fin 8192) (h : Fin 128) :
    qv r2 r3 r4 0 r h = fD r2 r3 r h := by simp [qv]
theorem qv1 (r2 : Fin 8192 → Fin 128 → ℝ) (r3 r4 : Fin 128 → ℝ) (r : Fin 8192) (h : Fin 128) :
    qv r2 r3 r4 1 r h = Ker.gam (fZ r2 r3 r4 (ch r) h) (pos r) := by simp [qv]
theorem qv2 (r2 : Fin 8192 → Fin 128 → ℝ) (r3 r4 : Fin 128 → ℝ) (r : Fin 8192) (h : Fin 128) :
    qv r2 r3 r4 2 r h = Ker.din (fZ r2 r3 r4 (ch r) h) (pos r) := by simp [qv]
theorem qv3 (r2 : Fin 8192 → Fin 128 → ℝ) (r3 r4 : Fin 128 → ℝ) (r : Fin 8192) (h : Fin 128) :
    qv r2 r3 r4 3 r h = Ker.dst (fZ r2 r3 r4 (ch r) h) (pos r) := by simp [qv]

include h2 h3 in
theorem piece0a (k : S8192x128.Idx) (r4 : Fin 128 → ℝ) :
    rd X main_v119 k = ((qv r2 r3 r4 0 (k 0) (k 1) : ℝ) : EReal) := by
  rw [rd_unary X 370 rfl (by decide) (by decide)]; refine Eq.trans ?_ (congrArg _ (qv0 r2 r3 r4 _ _).symm)
  exact v92 h2 h3 k

include h2 h3 in
theorem piece0b (k : S8192x128.Idx) : rd X main_v122 k = ((0 : ℝ) : EReal) := by
  rw [rd_unary X 373 rfl (by decide) (by decide), rd_binary X 372 rfl (by decide) (by decide) (by decide),
    rd_unary X 371 rfl (by decide) (by decide), rd_unary X 370 rfl (by decide) (by decide)]
  exact rest (v92 h2 h3 k)

include h2 h3 in
theorem piece0c (k : S8192x128.Idx) : rd X main_v125 k = ((0 : ℝ) : EReal) := by
  rw [rd_unary X 376 rfl (by decide) (by decide), rd_binary X 375 rfl (by decide) (by decide) (by decide),
    rd_unary X 374 rfl (by decide) (by decide), rd_unary X 373 rfl (by decide) (by decide),
    rd_binary X 372 rfl (by decide) (by decide) (by decide), rd_unary X 371 rfl (by decide) (by decide),
    rd_unary X 370 rfl (by decide) (by decide)]
  exact rest2 (v92 h2 h3 k)

include h2 h3 h4 in
theorem piece1a (k : S8192x128.Idx) (hk : 64 ≤ (k 1).val) :
    rd X main_v126 k = ((qv r2 r3 r4 1 (k 0) (k 1) : ℝ) : EReal) := by
  rw [rd_unary X 377 rfl (by decide) (by decide)]; refine Eq.trans ?_ (congrArg _ (qv1 r2 r3 r4 _ _).symm)
  exact v116 h2 h3 h4 k hk

include h2 h3 h4 in
theorem piece1b (k : S8192x128.Idx) (hk : 64 ≤ (k 1).val) : rd X main_v129 k = ((0 : ℝ) : EReal) := by
  rw [rd_unary X 380 rfl (by decide) (by decide), rd_binary X 379 rfl (by decide) (by decide) (by decide),
    rd_unary X 378 rfl (by decide) (by decide), rd_unary X 377 rfl (by decide) (by decide)]
  exact rest (v116 h2 h3 h4 k hk)

include h2 h3 h4 in
theorem piece1c (k : S8192x128.Idx) (hk : 64 ≤ (k 1).val) : rd X main_v132 k = ((0 : ℝ) : EReal) := by
  rw [rd_unary X 383 rfl (by decide) (by decide), rd_binary X 382 rfl (by decide) (by decide) (by decide),
    rd_unary X 381 rfl (by decide) (by decide), rd_unary X 380 rfl (by decide) (by decide),
    rd_binary X 379 rfl (by decide) (by decide) (by decide), rd_unary X 378 rfl (by decide) (by decide),
    rd_unary X 377 rfl (by decide) (by decide)]
  exact rest2 (v116 h2 h3 h4 k hk)

include h2 h3 h4 in
theorem piece2a (k : S8192x128.Idx) (hk : 64 ≤ (k 1).val) :
    rd X main_v133 k = ((qv r2 r3 r4 2 (k 0) (k 1) : ℝ) : EReal) := by
  rw [rd_unary X 384 rfl (by decide) (by decide)]; refine Eq.trans ?_ (congrArg _ (qv2 r2 r3 r4 _ _).symm)
  exact v117 h2 h3 h4 k hk

include h2 h3 h4 in
theorem piece2b (k : S8192x128.Idx) (hk : 64 ≤ (k 1).val) : rd X main_v136 k = ((0 : ℝ) : EReal) := by
  rw [rd_unary X 387 rfl (by decide) (by decide), rd_binary X 386 rfl (by decide) (by decide) (by decide),
    rd_unary X 385 rfl (by decide) (by decide), rd_unary X 384 rfl (by decide) (by decide)]
  exact rest (v117 h2 h3 h4 k hk)

include h2 h3 h4 in
theorem piece2c (k : S8192x128.Idx) (hk : 64 ≤ (k 1).val) : rd X main_v139 k = ((0 : ℝ) : EReal) := by
  rw [rd_unary X 390 rfl (by decide) (by decide), rd_binary X 389 rfl (by decide) (by decide) (by decide),
    rd_unary X 388 rfl (by decide) (by decide), rd_unary X 387 rfl (by decide) (by decide),
    rd_binary X 386 rfl (by decide) (by decide) (by decide), rd_unary X 385 rfl (by decide) (by decide),
    rd_unary X 384 rfl (by decide) (by decide)]
  exact rest2 (v117 h2 h3 h4 k hk)

include h2 h3 h4 in
theorem piece3a (k : S8192x128.Idx) (hk : 64 ≤ (k 1).val) :
    rd X main_v140 k = ((qv r2 r3 r4 3 (k 0) (k 1) : ℝ) : EReal) := by
  rw [rd_unary X 391 rfl (by decide) (by decide)]; refine Eq.trans ?_ (congrArg _ (qv3 r2 r3 r4 _ _).symm)
  exact v118 h2 h3 h4 k hk

include h2 h3 h4 in
theorem piece3b (k : S8192x128.Idx) (hk : 64 ≤ (k 1).val) : rd X main_v143 k = ((0 : ℝ) : EReal) := by
  rw [rd_unary X 394 rfl (by decide) (by decide), rd_binary X 393 rfl (by decide) (by decide) (by decide),
    rd_unary X 392 rfl (by decide) (by decide), rd_unary X 391 rfl (by decide) (by decide)]
  exact rest (v118 h2 h3 h4 k hk)

include h2 h3 h4 in
theorem piece3c (k : S8192x128.Idx) (hk : 64 ≤ (k 1).val) : rd X main_v146 k = ((0 : ℝ) : EReal) := by
  rw [rd_unary X 397 rfl (by decide) (by decide), rd_binary X 396 rfl (by decide) (by decide) (by decide),
    rd_unary X 395 rfl (by decide) (by decide), rd_unary X 394 rfl (by decide) (by decide),
    rd_binary X 393 rfl (by decide) (by decide) (by decide), rd_unary X 392 rfl (by decide) (by decide),
    rd_unary X 391 rfl (by decide) (by decide)]
  exact rest2 (v118 h2 h3 h4 k hk)

/-- The pieces, in their order. -/
def pieces (X : Valuation τ sig (Elt Ideal)) : Fin 12 → S8192x128.Idx → EReal := ![rd X main_v119, rd X main_v122, rd X main_v125, rd X main_v126, rd X main_v129, rd X main_v132, rd X main_v133, rd X main_v136, rd X main_v139, rd X main_v140, rd X main_v143, rd X main_v146]

/-- What a piece holds. -/
def pieceVal (r2 : Fin 8192 → Fin 128 → ℝ) (r3 r4 : Fin 128 → ℝ) (n : ℕ) (r : Fin 8192) (h : Fin 128) : ℝ :=
  if n % 3 = 0 then qv r2 r3 r4 (n / 3) r h else 0

theorem pieceVal0 (r2 : Fin 8192 → Fin 128 → ℝ) (r3 r4 : Fin 128 → ℝ) (n : ℕ) (hn : n % 3 ≠ 0) (r : Fin 8192) (h : Fin 128) :
    pieceVal r2 r3 r4 n r h = 0 := if_neg hn
theorem pieceVal1 (r2 : Fin 8192 → Fin 128 → ℝ) (r3 r4 : Fin 128 → ℝ) (n q : ℕ) (hn : n = 3 * q) (r : Fin 8192) (h : Fin 128) :
    pieceVal r2 r3 r4 n r h = qv r2 r3 r4 q r h := by
  unfold pieceVal; rw [if_pos (by omega), show n / 3 = q by omega]

include h2 h3 h4 in
theorem piece (n : Fin 12) (k : S8192x128.Idx) (hk : 64 ≤ (k 1).val) :
    pieces X n k = ((pieceVal r2 r3 r4 n.val (k 0) (k 1) : ℝ) : EReal) := by
  match n with
  | ⟨0, _⟩ => exact (piece0a h2 h3 k r4).trans (congrArg _ (pieceVal1 r2 r3 r4 0 0 rfl _ _).symm)
  | ⟨1, _⟩ => exact (piece0b h2 h3 k).trans (congrArg _ (pieceVal0 r2 r3 r4 1 (by decide) _ _).symm)
  | ⟨2, _⟩ => exact (piece0c h2 h3 k).trans (congrArg _ (pieceVal0 r2 r3 r4 2 (by decide) _ _).symm)
  | ⟨3, _⟩ => exact (piece1a h2 h3 h4 k hk).trans (congrArg _ (pieceVal1 r2 r3 r4 3 1 rfl _ _).symm)
  | ⟨4, _⟩ => exact (piece1b h2 h3 h4 k hk).trans (congrArg _ (pieceVal0 r2 r3 r4 4 (by decide) _ _).symm)
  | ⟨5, _⟩ => exact (piece1c h2 h3 h4 k hk).trans (congrArg _ (pieceVal0 r2 r3 r4 5 (by decide) _ _).symm)
  | ⟨6, _⟩ => exact (piece2a h2 h3 h4 k hk).trans (congrArg _ (pieceVal1 r2 r3 r4 6 2 rfl _ _).symm)
  | ⟨7, _⟩ => exact (piece2b h2 h3 h4 k hk).trans (congrArg _ (pieceVal0 r2 r3 r4 7 (by decide) _ _).symm)
  | ⟨8, _⟩ => exact (piece2c h2 h3 h4 k hk).trans (congrArg _ (pieceVal0 r2 r3 r4 8 (by decide) _ _).symm)
  | ⟨9, _⟩ => exact (piece3a h2 h3 h4 k hk).trans (congrArg _ (pieceVal1 r2 r3 r4 9 3 rfl _ _).symm)
  | ⟨10, _⟩ => exact (piece3b h2 h3 h4 k hk).trans (congrArg _ (pieceVal0 r2 r3 r4 10 (by decide) _ _).symm)
  | ⟨11, _⟩ => exact (piece3c h2 h3 h4 k hk).trans (congrArg _ (pieceVal0 r2 r3 r4 11 (by decide) _ _).symm)

include h2 h3 h4 in
theorem v147 (i : S8192x1536.Idx) (hi : 64 ≤ (i 1).val % 128) (h : Fin 128) (hh : h.val = (i 1).val % 128) :
    rd X main_v147 i = ((pieceVal r2 r3 r4 ((i 1).val / 128) (i 0) h : ℝ) : EReal) := by
  rw [rd_nary X 398 rfl (by decide) (by decide)]
  have b1 : (i 1).val < 1536 := (i 1).isLt
  obtain ⟨k, e, e0, e1⟩ := cat12 (pieces X)
    concatenates_S8192x128_S8192x128_S8192x128_S8192x128_S8192x128_S8192x128_S8192x128_S8192x128_S8192x128_S8192x128_S8192x128_S8192x128_S8192x1536_d1
    i ⟨(i 1).val / 128, by omega⟩ rfl
  refine Eq.trans e ?_
  rw [piece h2 h3 h4 _ k (by rw [e1]; exact hi), e0, show k 1 = h from Fin.ext (by rw [e1, hh])]

/-- The lane of a row of the table: a lane of a group's 128. -/
def Q (r2 : Fin 8192 → Fin 128 → ℝ) (r3 r4 : Fin 128 → ℝ) (r : Fin 8192) (g : Fin 8) (n : Fin 128) : ℝ :=
  if n.val < 96 ∧ n.val % 24 < 8 then qv r2 r3 r4 (n.val / 24) r (head g ⟨n.val % 8, by omega⟩) else 0

/-- The table's layout: from groups of twelve pieces … -/
theorem v150_at (X : Valuation τ sig (Elt Ideal)) (i : S8192x2x8x96.Idx) :
    ∃ k : S8192x2x8x12x8.Idx, rd X main_v150 i = rd X main_v149 k
      ∧ ((((k 0).val * 2 + (k 1).val) * 8 + (k 2).val) * 12 + (k 3).val) * 8 + (k 4).val
        = (((i 0).val * 2 + (i 1).val) * 8 + (i 2).val) * 96 + (i 3).val := by
  rw [rd_reshape X 401 rfl (by decide) (by decide)]
  obtain ⟨k, e, hk⟩ := cast_ex (s := S8192x2x8x12x8) (rd X main_v149 : S8192x2x8x12x8.Idx → EReal)
    shapeCasts_S8192x2x8x12x8_S8192x2x8x96 i
  refine ⟨k, e, ?_⟩
  rw [Shape.rowMajor_val_five, Shape.rowMajor_val_four] at hk
  exact hk

/-- … to pieces of whole rows. -/
theorem v148_at (X : Valuation τ sig (Elt Ideal)) (k : S8192x2x8x12x8.Idx) :
    ∃ u : S8192x1536.Idx, rd X main_v149 k = rd X main_v147 u
      ∧ (u 0).val * 1536 + (u 1).val
        = ((((k 0).val * 12 + (k 3).val) * 2 + (k 1).val) * 8 + (k 2).val) * 8 + (k 4).val := by
  rw [rd_unary X 400 rfl (by decide) (by decide), rd_reshape X 399 rfl (by decide) (by decide)]
  obtain ⟨u, e, hu⟩ := cast_ex (s := S8192x1536) (rd X main_v147 : S8192x1536.Idx → EReal)
    shapeCasts_S8192x1536_S8192x12x2x8x8 (fun a => match a with
      | ⟨0, _⟩ => k 0 | ⟨1, _⟩ => k 3 | ⟨2, _⟩ => k 1 | ⟨3, _⟩ => k 2 | ⟨4, _⟩ => k 4)
  refine ⟨u, (transpose_apply (s := S8192x12x2x8x8) [0, 2, 3, 1, 4] _
    transposes_S8192x12x2x8x8_S8192x2x8x12x8_0_2_3_1_4 k _ (fun b => match b with
      | ⟨0, _⟩ => rfl | ⟨1, _⟩ => rfl | ⟨2, _⟩ => rfl | ⟨3, _⟩ => rfl | ⟨4, _⟩ => rfl)).trans e, ?_⟩
  rw [Shape.rowMajor_val_five, Shape.rowMajor_val_two] at hu
  exact hu

include h2 h3 h4 in
theorem v150 (i : S8192x2x8x96.Idx) (hi : (i 1).val = 1) (n : Fin 128) (hn : n.val = (i 3).val) :
    rd X main_v150 i = ((Q r2 r3 r4 (i 0) (i 2) n : ℝ) : EReal) := by
  have b3 : (i 3).val < 96 := (i 3).isLt
  have b2 : (i 2).val < 8 := (i 2).isLt
  obtain ⟨k, e, hk⟩ := v150_at X i
  obtain ⟨u, e', hu⟩ := v148_at X k
  rw [e, e']
  have d1 : (u 1).val < 1536 := (u 1).isLt
  have c1 : (k 1).val < 2 := (k 1).isLt
  have c2 : (k 2).val < 8 := (k 2).isLt
  have c3 : (k 3).val < 12 := (k 3).isLt
  have c4 : (k 4).val < 8 := (k 4).isLt
  have q0 : (k 0).val = (i 0).val ∧ (k 1).val = 1 ∧ (k 2).val = (i 2).val ∧ (k 3).val = (i 3).val / 8
      ∧ (k 4).val = (i 3).val % 8 := by omega
  obtain ⟨q0, q1, q2, q3, q4⟩ := q0
  have u1 : (u 0).val = (i 0).val ∧ (u 1).val = (i 3).val / 8 * 128 + (64 + 8 * (i 2).val + (i 3).val % 8) := by
    constructor <;> omega
  obtain ⟨u0, u1⟩ := u1
  rw [v147 h2 h3 h4 u (by omega) (head (i 2) ⟨(i 3).val % 8, by omega⟩)
    (by show 64 + 8 * (i 2).val + (i 3).val % 8 = _; omega), show u 0 = i 0 from Fin.ext u0]
  have w1 : (u 1).val / 128 % 3 = 0 ↔ n.val < 96 ∧ n.val % 24 < 8 := by rw [hn]; omega
  have w2 : (u 1).val / 128 / 3 = n.val / 24 := by omega
  unfold Q pieceVal
  by_cases hc : n.val < 96 ∧ n.val % 24 < 8
  · rw [if_pos (w1.2 hc), if_pos hc, w2]
    refine congrArg _ (congrArg (fun a => qv r2 r3 r4 (n.val / 24) (i 0) (head (i 2) a)) (Fin.ext ?_))
    show (i 3).val % 8 = n.val % 8; omega
  · rw [if_neg (fun h => hc (w1.1 h)), if_neg hc]

include h2 h3 h4 in
theorem v151 (i : S8192x2x8x128.Idx) (hi : (i 1).val = 1) :
    rd X main_v151 i = ((Q r2 r3 r4 (i 0) (i 2) (i 3) : ℝ) : EReal) := by
  rw [rd_binary X 404 rfl (by decide) (by decide) (by decide), rd_unary X 403 rfl (by decide) (by decide),
    rd_nullary X 402 rfl (by decide)]
  simp only [StableHlo.TRef.ofBuf, StableHlo.TRef.toBuf, cast_cast, cast_eq]
  by_cases hb : (i 3).val < 96
  · obtain ⟨k, e, hk⟩ := pad_in (s := S8192x2x8x96) (t := S8192x2x8x128) ![0, 0, 0, 0] ![0, 0, 0, 32] ![0, 0, 0, 0]
      (rd X main_v150 : S8192x2x8x96.Idx → EReal)
      (sitofp (F := Ideal) .bf16 (constantI S_ 32 0#32)) pads_S8192x2x8x96_S8192x2x8x128_000_000_000_0320 h_S_ i
      (by decide) (by decide) (fun a => match a with
        | ⟨0, _⟩ => (i 0).isLt | ⟨1, _⟩ => (i 1).isLt | ⟨2, _⟩ => (i 2).isLt | ⟨3, _⟩ => hb)
    refine Eq.trans e ?_
    rw [v150 h2 h3 h4 k ((hk 1).trans hi) (i 3) (hk 3).symm, show k 0 = i 0 from Fin.ext (hk 0),
      show k 2 = i 2 from Fin.ext (hk 2)]
  · refine (pad_apply_of_not_inside (s := S8192x2x8x96) (t := S8192x2x8x128) ![0, 0, 0, 0] ![0, 0, 0, 32] ![0, 0, 0, 0]
      (rd X main_v150 : S8192x2x8x96.Idx → EReal) (sitofp (F := Ideal) .bf16 (constantI S_ 32 0#32))
      pads_S8192x2x8x96_S8192x2x8x128_000_000_000_0320 h_S_ i (3 : Fin 4) ?_).trans ?_
    · rintro ⟨-, -, h⟩
      change ((i 3).val - 0) / (0 + 1) < 96 at h
      omega
    · unfold Q; rw [if_neg (fun h => hb h.1)]
      show (((0#32 : BitVec 32).toInt : ℝ) : EReal) = _
      simp

include h2 h3 h4 in
/-- The table the kernel reads, in the columns of the second direction. -/
theorem quantities (i : S8192x2048.Idx) (g : Fin 8) (n : Fin 128) (hi : (i 1).val = 1024 + 128 * g.val + n.val) :
    rd X main_v152 i = ((Q r2 r3 r4 (i 0) g n : ℝ) : EReal) := by
  rw [rd_reshape X 405 rfl (by decide) (by decide)]
  obtain ⟨k, e, hk⟩ := cast_ex (s := S8192x2x8x128) (rd X main_v151 : S8192x2x8x128.Idx → EReal) shapeCasts_S8192x2x8x128_S8192x2048 i
  refine Eq.trans e ?_
  rw [Shape.rowMajor_val_four, Shape.rowMajor_val_two] at hk
  change (((k 0).val * 2 + (k 1).val) * 8 + (k 2).val) * 128 + (k 3).val = (i 0).val * 2048 + (i 1).val at hk
  have c1 : (k 1).val < 2 := (k 1).isLt
  have c2 : (k 2).val < 8 := (k 2).isLt
  have c3 : (k 3).val < 128 := (k 3).isLt
  rw [v151 h2 h3 h4 k (by omega), show k 0 = i 0 from Fin.ext (by omega), show k 2 = g from Fin.ext (by omega),
    show k 3 = n from Fin.ext (by omega)]

/-- A product with a table of ones and zeros picks a quantity of a head. -/
theorem pick (q : ℕ) (hq : q < 4) (r : Fin 8192) (g j : Fin 8) :
    ∑ n : Fin 128, Q r2 r3 r4 r g n * (if (n.val / 24 = q ∧ n.val % 8 = j.val) ∧ n.val < 96 then 1 else 0)
      = qv r2 r3 r4 q r (head g j) := by
  have hj := j.isLt
  rw [Finset.sum_eq_single (⟨24 * q + j.val, by omega⟩ : Fin 128)]
  · have e : (24 * q + j.val) / 24 = q := by omega
    unfold Q
    rw [if_pos (by constructor <;> simp <;> omega), if_pos (by refine ⟨⟨?_, ?_⟩, ?_⟩ <;> simp <;> omega), mul_one]
    simp only [e]
    refine congrArg (fun a => qv r2 r3 r4 q r (head g a)) (Fin.ext ?_)
    show (24 * q + j.val) % 8 = j.val; omega
  · intro n _ hn
    unfold Q
    by_cases h1 : n.val < 96 ∧ n.val % 24 < 8
    · rw [if_neg (c := (n.val / 24 = q ∧ n.val % 8 = j.val) ∧ n.val < 96), mul_zero]
      rintro ⟨⟨ha, hb⟩, hc⟩
      exact hn (Fin.ext (by show n.val = 24 * q + j.val; omega))
    · rw [if_neg h1, zero_mul]
  · intro h; exact absurd (Finset.mem_univ _) h

include h2 h3 h4 in
/-- The decays inside a chunk, a head a row. -/
theorem gam_t (i : S128x8192.Idx) (hi : 64 ≤ (i 0).val) :
    rd X main_v153 i = ((Ker.gam (fZ r2 r3 r4 (ch (i 1)) (i 0)) (pos (i 1)) : ℝ) : EReal) := by
  rw [rd_unary X 406 rfl (by decide) (by decide)]
  refine (transpose_apply (s := S8192x128) [1, 0] _ transposes_S8192x128_S128x8192_1_0 i
    (fun a => match a with | ⟨0, _⟩ => i 1 | ⟨1, _⟩ => i 0) (fun b => match b with
      | ⟨0, _⟩ => rfl | ⟨1, _⟩ => rfl)).trans ?_
  exact v116 h2 h3 h4 _ hi

include h2 h3 h4 in
theorem v156 (i : S64x8x64.Idx) (h : Fin 128) (hh : h.val = 64 + (i 2).val) :
    rd X main_v156 i = ((Real.exp (Ker.tot (fZ r2 r3 r4 (i 0) h)) : ℝ) : EReal) := by
  rw [rd_unary X 409 rfl (by decide) (by decide), rd_unary X 408 rfl (by decide) (by decide),
    rd_unary X 407 rfl (by decide) (by decide)]
  show FloatOps.hostUnary (F := Ideal) .exp (rd X main_v99 _) = _
  rw [v99 h2 h3 h4, Ideal.hostUnary_exp_def, Ideal.exp_coe]
  refine congrArg _ (congrArg Real.exp (congrArg Ker.tot ?_))
  refine congrArg₂ (fZ r2 r3 r4) (Fin.ext ?_) (Fin.ext ?_)
  · show 0 + (i 0).val = _; omega
  · show 64 + (i 2).val = _; omega

include h2 h3 h4 in
/-- The chunks' whole decays, a lane a channel. -/
theorem etot_x (i : S64x8x4096.Idx) :
    rd X main_v160 i = ((Real.exp (Ker.tot (fZ r2 r3 r4 (i 0) (head (xg (i 2)) (xj (i 2))))) : ℝ) : EReal) := by
  rw [rd_reshape X 415 rfl (by decide) (by decide), rd_unary X 414 rfl (by decide) (by decide)]
  have b2 : (i 2).val < 4096 := (i 2).isLt
  obtain ⟨k, e, hk⟩ := cast_ex (broadcastInDim S64x8x64x64 ![0, 1, 2] bcast_S64x8x64_S64x8x64x64_0_1_2
    (rd X main_v156 : S64x8x64.Idx → EReal)) shapeCasts_S64x8x64x64_S64x8x4096 i
  refine Eq.trans e ?_
  rw [Shape.rowMajor_val_four, Shape.rowMajor_val_three] at hk
  change (((k 0).val * 8 + (k 1).val) * 64 + (k 2).val) * 64 + (k 3).val
    = ((i 0).val * 8 + (i 1).val) * 4096 + (i 2).val at hk
  have c1 : (k 1).val < 8 := (k 1).isLt
  have c2 : (k 2).val < 64 := (k 2).isLt
  have c3 : (k 3).val < 64 := (k 3).isLt
  have d1 : (i 1).val < 8 := (i 1).isLt
  refine (v156 h2 h3 h4 _ (head (xg (i 2)) (xj (i 2))) ?_).trans ?_
  · show 64 + 8 * ((i 2).val / 512) + (i 2).val / 64 % 8 = 64 + (k 2).val; omega
  · have e0 : k 0 = i 0 := Fin.ext (by omega)
    show ((Real.exp (Ker.tot (fZ r2 r3 r4 (k 0) _)) : ℝ) : EReal) = _
    rw [e0]

include h2 h3 h4 in
/-- The chunks' whole decays, a lane a head. -/
theorem etot_g (i : S64x8x1024.Idx) (g : Fin 8) (n : Fin 128) (hi : (i 2).val = 128 * g.val + n.val) :
    rd X main_v161 i = (((if h : n.val < 8 then Real.exp (Ker.tot (fZ r2 r3 r4 (i 0) (head g ⟨n.val, h⟩))) else 0 : ℝ)) : EReal) := by
  rw [rd_reshape X 416 rfl (by decide) (by decide), rd_binary X 413 rfl (by decide) (by decide) (by decide),
    rd_unary X 412 rfl (by decide) (by decide), rd_nullary X 411 rfl (by decide),
    rd_reshape X 410 rfl (by decide) (by decide)]
  simp only [StableHlo.TRef.ofBuf, StableHlo.TRef.toBuf, cast_cast, cast_eq]
  obtain ⟨k, e, hk⟩ := cast_ex (pad (s := S64x8x8x8) S64x8x8x128 ![0, 0, 0, 0] ![0, 0, 0, 120] ![0, 0, 0, 0]
      (shapeCast S64x8x8x8 (rd X main_v156 : S64x8x64.Idx → EReal) shapeCasts_S64x8x64_S64x8x8x8)
      (sitofp (F := Ideal) .f32 (constantI S_ 32 0#32)) pads_S64x8x8x8_S64x8x8x128_000_000_000_01200 h_S_)
      shapeCasts_S64x8x8x128_S64x8x1024 i
  refine Eq.trans e ?_
  rw [Shape.rowMajor_val_four, Shape.rowMajor_val_three] at hk
  change (((k 0).val * 8 + (k 1).val) * 8 + (k 2).val) * 128 + (k 3).val
    = ((i 0).val * 8 + (i 1).val) * 1024 + (i 2).val at hk
  have c1 : (k 1).val < 8 := (k 1).isLt
  have c2 : (k 2).val < 8 := (k 2).isLt
  have c3 : (k 3).val < 128 := (k 3).isLt
  have d1 : (i 1).val < 8 := (i 1).isLt
  have q : (k 0).val = (i 0).val ∧ (k 2).val = g.val ∧ (k 3).val = n.val := by omega
  obtain ⟨q0, q2, q3⟩ := q
  by_cases hb : n.val < 8
  · rw [dif_pos hb]
    obtain ⟨u, e', hu⟩ := pad_in (s := S64x8x8x8) (t := S64x8x8x128) ![0, 0, 0, 0] ![0, 0, 0, 120] ![0, 0, 0, 0]
      (shapeCast S64x8x8x8 (rd X main_v156 : S64x8x64.Idx → EReal) shapeCasts_S64x8x64_S64x8x8x8)
      (sitofp (F := Ideal) .f32 (constantI S_ 32 0#32)) pads_S64x8x8x8_S64x8x8x128_000_000_000_01200 h_S_ k
      (by decide) (by decide) (fun a => match a with
        | ⟨0, _⟩ => (k 0).isLt | ⟨1, _⟩ => (k 1).isLt | ⟨2, _⟩ => (k 2).isLt
        | ⟨3, _⟩ => by show (k 3).val < 8; omega)
    refine Eq.trans e' ?_
    obtain ⟨w, e'', hw⟩ := cast_ex (s := S64x8x64) (rd X main_v156 : S64x8x64.Idx → EReal) shapeCasts_S64x8x64_S64x8x8x8 u
    refine Eq.trans e'' ?_
    rw [Shape.rowMajor_val_four, Shape.rowMajor_val_three] at hw
    change ((w 0).val * 8 + (w 1).val) * 64 + (w 2).val
      = (((u 0).val * 8 + (u 1).val) * 8 + (u 2).val) * 8 + (u 3).val at hw
    have u0 : (u 0).val = (k 0).val := hu 0
    have u1 : (u 1).val = (k 1).val := hu 1
    have u2 : (u 2).val = (k 2).val := hu 2
    have u3 : (u 3).val = (k 3).val := hu 3
    have c1 : (w 1).val < 8 := (w 1).isLt
    have c2 : (w 2).val < 64 := (w 2).isLt
    have e0 : w 0 = i 0 := Fin.ext (by omega)
    rw [v156 h2 h3 h4 w (head g ⟨n.val, hb⟩) (by show 64 + 8 * g.val + n.val = _; omega), e0]
  · rw [dif_neg hb]
    refine (pad_apply_of_not_inside (s := S64x8x8x8) (t := S64x8x8x128) ![0, 0, 0, 0] ![0, 0, 0, 120] ![0, 0, 0, 0]
      (shapeCast S64x8x8x8 (rd X main_v156 : S64x8x64.Idx → EReal) shapeCasts_S64x8x64_S64x8x8x8)
      (sitofp (F := Ideal) .f32 (constantI S_ 32 0#32))
      pads_S64x8x8x8_S64x8x8x128_000_000_000_01200 h_S_ k (3 : Fin 4) ?_).trans ?_
    · rintro ⟨-, -, h⟩
      change ((k 3).val - 0) / (0 + 1) < 8 at h
      omega
    · show (((0#32 : BitVec 32).toInt : ℝ) : EReal) = _
      simp

end steps

end Scan.Line
-- ==== Proof.Inputs.lean ====
module

public import proofs.«01_k».proof.Proof.Points
public import proofs.«01_k».proof.Proof.Values
public import proofs.«01_k».proof.Proof.HostQ

/-!
# A chunk's inputs, in the reals

If the launch's arrays hold, for the chunk `z`, what the host computes, then each group's loads are `Good`.
-/

@[expose] public section

set_option maxRecDepth 16384

namespace Scan.Body
open Idealize.ShloMosaic Idealize.ShloMosaic.TcCoe Cert.KernelIdeal Cert.KernelIdeal.Gen Scan.Line

noncomputable section

theorem at_val {s : Shape} (off size : Fin s.rank → ℕ) (inb : ∀ a, off a + size a ≤ s.size a)
    (x : (Rect.unit off size inb).shape.Idx) (a : Fin s.rank) : ((Rect.unit off size inb).idx x a).val = off a + (x a).val := by
  show off a + 1 * (x a).val = _
  rw [Nat.one_mul]

theorem ch_tok (z : Fin 64) (l : Fin 128) : ch (tok z l) = z := Fin.ext (by simp only [ch, tok]; omega)
theorem pos_tok (z : Fin 64) (l : Fin 128) : pos (tok z l) = l := Fin.ext (by simp only [pos, tok]; omega)

variable (r0 : Fin 8192 → Fin 6144 → ℝ) (r1 : Fin 8192 → Fin 4096 → ℝ) (r2 : Fin 8192 → Fin 128 → ℝ) (r3 r4 : Fin 128 → ℝ)

theorem qv_gam (z : Fin 64) (l h : Fin 128) : qv r2 r3 r4 1 (tok z l) h = Ker.gam (fZ r2 r3 r4 z h) l := by
  show Ker.gam (fZ r2 r3 r4 (ch (tok z l)) h) (pos (tok z l)) = _
  rw [ch_tok, pos_tok]
theorem qv_din (z : Fin 64) (l h : Fin 128) : qv r2 r3 r4 2 (tok z l) h = Ker.din (fZ r2 r3 r4 z h) l := by
  show Ker.din (fZ r2 r3 r4 (ch (tok z l)) h) (pos (tok z l)) = _
  rw [ch_tok, pos_tok]
theorem qv_dst (z : Fin 64) (l h : Fin 128) : qv r2 r3 r4 3 (tok z l) h = Ker.dst (fZ r2 r3 r4 z h) l := by
  show Ker.dst (fZ r2 r3 r4 (ch (tok z l)) h) (pos (tok z l)) = _
  rw [ch_tok, pos_tok]
theorem back_bA (g j : Fin 8) (z : Fin 64) : back (bA r2 r3 r4 g j) z = fZ r2 r3 r4 z (head g j) :=
  funext fun l => congrArg (fun r => rA r2 r3 r4 r g j) (tok_rev z l)
theorem back_bU (g j : Fin 8) (z : Fin 64) :
    back (bU r0 r2 r3 g j) z = fun l p => rX r0 (tok z l) g j p * rD r2 r3 (tok z l) g j :=
  funext fun l => congrArg (fun r => rU r0 r2 r3 r g j) (tok_rev z l)
theorem back_bY (g j : Fin 8) (z : Fin 64) : back (bY r1 g j) z = fun l p => rY r1 (tok z l) g j p :=
  funext fun l => congrArg (fun r => rY r1 r g j) (tok_rev z l)
theorem back_bB (g : Fin 8) (z : Fin 64) : back (bB r0 g) z = fun l n => rB r0 (tok z l) g n :=
  funext fun l => congrArg (fun r => rB r0 r g) (tok_rev z l)
theorem back_bC (g : Fin 8) (z : Fin 64) : back (bC r0 g) z = fun l n => rC r0 (tok z l) g n :=
  funext fun l => congrArg (fun r => rC r0 r g) (tok_rev z l)

variable (x0 : Vec Ideal S128x4096 .bf16) (x1 : Vec Ideal S128x1024 .bf16) (x2 : Vec Ideal S128x1024 .bf16) (x3 : Vec Ideal S128x4096 .bf16) (x4 : Vec Ideal S8x1x128x512 .f32) (x5 : Vec Ideal S128x1024 .bf16) (x6 : Vec Ideal S64x128 .f32) (x7 : Vec Ideal S1x8x1024 .f32) (x8 : Vec Ideal S1x8x4096 .f32) (x9 : Vec Ideal S128x512 .bf16) (x10 : Vec Ideal S128x1024 .bf16) (x11 : Vec Ideal S128x512 .bf16) (x12 : Vec Ideal S128x512 .bf16) (x13 : Vec Ideal S512x128 .bf16) (xs0 : Vec Ideal S8x128x512 .f32)

/-- What the arrays of a launch hold at chunk `z`. -/
structure Chunk (z : Fin 64) : Prop where
  w0 : ∀ i, x0 i = ((r0 (tok z (i 0)) ⟨(i 1).val, lt_trans (i 1).isLt (by decide)⟩ : ℝ) : EReal)
  w1 : ∀ i (k : Fin 6144), k.val = 4096 + (i 1).val → x1 i = ((r0 (tok z (i 0)) k : ℝ) : EReal)
  w2 : ∀ i (k : Fin 6144), k.val = 5120 + (i 1).val → x2 i = ((r0 (tok z (i 0)) k : ℝ) : EReal)
  w3 : ∀ i, x3 i = ((r1 (tok z (i 0)) (i 1) : ℝ) : EReal)
  w4 : ∀ i, x4 i = ((Rev.h (bA r2 r3 r4 (i 0) (hd (i 3))) (bU r0 r2 r3 (i 0) (hd (i 3))) (bB r0 (i 0)) z.rev (pd (i 3)) (i 2) : ℝ) : EReal)
  w5 : ∀ i (g : Fin 8) (n : Fin 128), (i 1).val = 128 * g.val + n.val → x5 i = ((Q r2 r3 r4 (tok z (i 0)) g n : ℝ) : EReal)
  w6 : ∀ i (k : Fin 128), k.val = 64 + (i 0).val → x6 i = ((Ker.gam (fZ r2 r3 r4 z k) (i 1) : ℝ) : EReal)
  w7 : ∀ i (g : Fin 8) (n : Fin 128), (i 2).val = 128 * g.val + n.val →
    x7 i = ((if h : n.val < 8 then Real.exp (Ker.tot (fZ r2 r3 r4 z (head g ⟨n.val, h⟩))) else 0 : ℝ) : EReal)
  w8 : ∀ i, x8 i = ((Real.exp (Ker.tot (fZ r2 r3 r4 z (head (xg (i 2)) (xj (i 2))))) : ℝ) : EReal)
  w9 : ∀ i, x9 i = ((if ((i 0).val / 24 = 0 ∧ (i 0).val % 8 = (i 1).val / 64) ∧ (i 0).val < 96 then 1 else 0 : ℝ) : EReal)
  w10 : ∀ i, x10 i = ((if ((i 0).val / 24 = 1 ∧ (i 0).val % 8 = (i 1).val / 128) ∧ (i 0).val < 96 then 1 else 0 : ℝ) : EReal)
  w11 : ∀ i, x11 i = ((if ((i 0).val / 24 = 2 ∧ (i 0).val % 8 = (i 1).val / 64) ∧ (i 0).val < 96 then 1 else 0 : ℝ) : EReal)
  w12 : ∀ i, x12 i = ((if ((i 0).val / 24 = 3 ∧ (i 0).val % 8 = (i 1).val / 64) ∧ (i 0).val < 96 then 1 else 0 : ℝ) : EReal)
  w13 : ∀ i, x13 i = ((if (i 0).val / 64 = (i 1).val then 1 else 0 : ℝ) : EReal)

namespace Chunk
variable {r0 r1 r2 r3 r4 x0 x1 x2 x3 x4 x5 x6 x7 x8 x9 x10 x11 x12 x13} {z : Fin 64} (W : Chunk r0 r1 r2 r3 r4 x0 x1 x2 x3 x4 x5 x6 x7 x8 x9 x10 x11 x12 x13 z)
include W

theorem quant (g : Fin 8) (d : FVec Ideal S1x128x512 .f32) :
    Is (blocks x0 x1 x2 x3 x4 x5 x6 x7 x8 x9 x10 x11 x12 x13 g d).quant (fun i => Q r2 r3 r4 (tok z (i 0)) g (i 1)) := by
  intro i
  unfold In.quant
  rw [shapeCast_self]
  have key : ∀ E : S128x1024.Idx, (E 0).val = 0 + (i 0).val → (E 1).val = 128 * g.val + (i 1).val →
      x5 E = ((Q r2 r3 r4 (tok z (i 0)) g (i 1) : ℝ) : EReal) := fun E v0 v1 => by
    have e0 : E 0 = i 0 := Fin.ext (v0.trans (Nat.zero_add _))
    rw [W.w5 E g (i 1) v1, e0]
  exact key _ (at_val (s := S128x1024) ![0, 128 * g.val] S128x128.size (inB g) i 0) (at_val (s := S128x1024) ![0, 128 * g.val] S128x128.size (inB g) i 1)

theorem whole {s : Shape} {e : EltTy} (x : s.Idx → Elt Ideal e) (off : Fin s.rank → ℕ) (h0 : ∀ a, off a = 0) (inb : ∀ a, off a + s.size a ≤ s.size a) (i : s.Idx) :
    View.ld x (Rect.unit off s.size inb) i = x i :=
  congrArg x (funext fun a => Fin.ext ((at_val off s.size inb i a).trans (by rw [h0]; exact Nat.zero_add _)))

theorem spread (q : ℕ) (hq : q < 4) (g : Fin 8) (d : FVec Ideal S1x128x512 .f32) (e : FVec Ideal S128x512 .bf16)
    (he : ∀ i, e i = ((if ((i 0).val / 24 = q ∧ (i 0).val % 8 = (i 1).val / 64) ∧ (i 0).val < 96 then 1 else 0 : ℝ) : EReal)) :
    Is ((blocks x0 x1 x2 x3 x4 x5 x6 x7 x8 x9 x10 x11 x12 x13 g d).spread e) (fun i => qv r2 r3 r4 q (tok z (i 0)) (head g (hd (i 1)))) := by
  have h := dot10w (pr := none) (W.quant g d) (t := shapeCast S128x512 e shapeCasts_S128x512_S128x512) (D := fun i =>
    if ((i 0).val / 24 = q ∧ (i 0).val % 8 = (i 1).val / 64) ∧ (i 0).val < 96 then 1 else 0) (fun i => by rw [shapeCast_self]; exact he i)
  intro i
  refine (h i).trans (congrArg _ ?_)
  exact pick q hq (tok z (i 0)) g (hd (i 1))

theorem gcol (g : Fin 8) (d : FVec Ideal S1x128x512 .f32) :
    Is (blocks x0 x1 x2 x3 x4 x5 x6 x7 x8 x9 x10 x11 x12 x13 g d).gcol (fun i => qv r2 r3 r4 1 (tok z (i 0)) (head g (bg (i 1)))) := by
  have h := dot10x (pr := none) (W.quant g d) (w := shapeCast S128x1024 (blocks x0 x1 x2 x3 x4 x5 x6 x7 x8 x9 x10 x11 x12 x13 g d).egam shapeCasts_S128x1024_S128x1024) (H := fun i =>
    if ((i 0).val / 24 = 1 ∧ (i 0).val % 8 = (i 1).val / 128) ∧ (i 0).val < 96 then 1 else 0)
    (fun i => by rw [shapeCast_self]; exact (whole W x10 _ (fun a => match a with | ⟨0, _⟩ => rfl | ⟨1, _⟩ => rfl) _ i).trans (W.w10 i))
  intro i
  refine (h i).trans (congrArg _ ?_)
  exact pick 1 (by decide) (tok z (i 0)) g (bg (i 1))

theorem good (g : Fin 8) (d : FVec Ideal S1x128x512 .f32) (D : Fin 8 → Fin 64 → Fin 128 → ℝ)
    (hd' : ∀ i, d i = ((D (hd (i 2)) (pd (i 2)) (i 1) : ℝ) : EReal)) :
    Good (blocks x0 x1 x2 x3 x4 x5 x6 x7 x8 x9 x10 x11 x12 x13 g d) (back (bB r0 g) z) (back (bC r0 g) z) (fun j l p => rX r0 (tok z l) g j p) (fun j => back (bY r1 g j) z)
      (fun j => Rev.h (bA r2 r3 r4 g j) (bU r0 r2 r3 g j) (bB r0 g) z.rev) D (fun j => back (bA r2 r3 r4 g j) z)
      (fun j l => rD r2 r3 (tok z l) g j) := by
  have zz : ∀ a : Fin 2, (![0, 0] : Fin 2 → ℕ) a = 0 := fun a => match a with | ⟨0, _⟩ => rfl | ⟨1, _⟩ => rfl
  simp only [back_bA, back_bY, back_bB, back_bC]
  have g' := g.isLt
  constructor
  case b =>
    intro i
    have key : ∀ E : S128x1024.Idx, (E 0).val = 0 + (i 0).val → (E 1).val = 128 * g.val + (i 1).val →
        x1 E = ((rB r0 (tok z (i 0)) g (i 1) : ℝ) : EReal) := fun E v0 v1 => by
      have e0 : E 0 = i 0 := Fin.ext (v0.trans (Nat.zero_add _))
      rw [W.w1 E ⟨4096 + (col g (i 1)).val, by omega⟩ (by rw [v1]; rfl), e0]; rfl
    exact key _ (at_val (s := S128x1024) ![0, 128 * g.val] S128x128.size (inB g) i 0) (at_val (s := S128x1024) ![0, 128 * g.val] S128x128.size (inB g) i 1)
  case c =>
    intro i
    have key : ∀ E : S128x1024.Idx, (E 0).val = 0 + (i 0).val → (E 1).val = 128 * g.val + (i 1).val →
        x2 E = ((rC r0 (tok z (i 0)) g (i 1) : ℝ) : EReal) := fun E v0 v1 => by
      have e0 : E 0 = i 0 := Fin.ext (v0.trans (Nat.zero_add _))
      rw [W.w2 E ⟨5120 + (col g (i 1)).val, by omega⟩ (by rw [v1]; rfl), e0]; rfl
    exact key _ (at_val (s := S128x1024) ![0, 128 * g.val] S128x128.size (inB g) i 0) (at_val (s := S128x1024) ![0, 128 * g.val] S128x128.size (inB g) i 1)
  case x =>
    intro i
    have key : ∀ E : S128x4096.Idx, (E 0).val = 0 + (i 0).val → (E 1).val = 512 * g.val + (i 1).val →
        x0 E = ((rX r0 (tok z (i 0)) g (hd (i 1)) (pd (i 1)) : ℝ) : EReal) := fun E v0 v1 => by
      have e0 : E 0 = i 0 := Fin.ext (v0.trans (Nat.zero_add _))
      rw [W.w0 E, e0]
      refine congrArg (fun k => ((r0 (tok z (i 0)) k : ℝ) : EReal)) (Fin.ext ?_)
      show (E 1).val = 512 * g.val + 64 * ((i 1).val / 64) + (i 1).val % 64
      omega
    exact key _ (at_val (s := S128x4096) ![0, 512 * g.val] S128x512.size (inX g) i 0) (at_val (s := S128x4096) ![0, 512 * g.val] S128x512.size (inX g) i 1)
  case y =>
    intro i
    have key : ∀ E : S128x4096.Idx, (E 0).val = 0 + (i 0).val → (E 1).val = 512 * g.val + (i 1).val →
        x3 E = ((rY r1 (tok z (i 0)) g (hd (i 1)) (pd (i 1)) : ℝ) : EReal) := fun E v0 v1 => by
      have e0 : E 0 = i 0 := Fin.ext (v0.trans (Nat.zero_add _))
      rw [W.w3 E, e0]
      refine congrArg (fun k => ((r1 (tok z (i 0)) k : ℝ) : EReal)) (Fin.ext ?_)
      show (E 1).val = 512 * g.val + 64 * ((i 1).val / 64) + (i 1).val % 64
      omega
    exact key _ (at_val (s := S128x4096) ![0, 512 * g.val] S128x512.size (inX g) i 0) (at_val (s := S128x4096) ![0, 512 * g.val] S128x512.size (inX g) i 1)
  case hs =>
    intro i
    have key : ∀ E : S8x1x128x512.Idx, (E 0).val = g.val + (i 0).val → (E 2).val = 0 + (i 2).val → (E 3).val = 0 + (i 3).val →
        x4 E = ((Rev.h (bA r2 r3 r4 g (hd (i 3))) (bU r0 r2 r3 g (hd (i 3))) (bB r0 g) z.rev (pd (i 3)) (i 2) : ℝ) : EReal) := fun E v0 v2 v3 => by
      have i0 : (i 0).val < 1 := (i 0).isLt
      have e0 : E 0 = g := Fin.ext (by omega)
      have e2 : E 2 = i 2 := Fin.ext (v2.trans (Nat.zero_add _))
      have e3 : E 3 = i 3 := Fin.ext (v3.trans (Nat.zero_add _))
      rw [W.w4 E, e0, e2, e3]
    exact key _ (at_val (s := S8x1x128x512) ![g.val, 0, 0, 0] S1x1x128x512.size (inH g) i 0) (at_val (s := S8x1x128x512) ![g.val, 0, 0, 0] S1x1x128x512.size (inH g) i 2)
      (at_val (s := S8x1x128x512) ![g.val, 0, 0, 0] S1x1x128x512.size (inH g) i 3)
  case dh => exact hd'
  case ex =>
    intro i
    have key : ∀ E : S1x8x4096.Idx, (E 2).val = 512 * g.val + (i 2).val →
        x8 E = ((Real.exp (Ker.tot (fZ r2 r3 r4 z (head g (hd (i 2))))) : ℝ) : EReal) := fun E v2 => by
      have i2 : (i 2).val < 512 := (i 2).isLt
      have e1 : xg (E 2) = g := Fin.ext (by unfold xg; simp only; omega)
      have e2 : xj (E 2) = hd (i 2) := Fin.ext (by unfold xj hd; simp only; omega)
      rw [W.w8 E, e1, e2]
    exact key _ (at_val (s := S1x8x4096) ![0, 0, 512 * g.val] S1x1x512.size (inE g) i 2)
  case eg =>
    intro i
    exact W.w7 _ g (i 2) (at_val (s := S1x8x1024) ![0, 0, 128 * g.val] S1x1x128.size (inG g) i 2)
  case gr =>
    intro j i
    have key : ∀ E : S64x128.Idx, (E 0).val = 8 * g.val + j.val + (i 0).val → (E 1).val = 0 + (i 1).val →
        x6 E = ((Ker.gam (fZ r2 r3 r4 z (head g j)) (i 1) : ℝ) : EReal) := fun E v0 v1 => by
      have i0 : (i 0).val < 1 := (i 0).isLt
      have e1 : E 1 = i 1 := Fin.ext (v1.trans (Nat.zero_add _))
      rw [W.w6 E (head g j) (by show 64 + 8 * g.val + j.val = _; omega), e1]
    exact key _ (at_val (s := S64x128) ![8 * g.val + j.val, 0] S1x128.size (inR g j) i 0) (at_val (s := S64x128) ![8 * g.val + j.val, 0] S1x128.size (inR g j) i 1)
  case dtx =>
    exact W.spread 0 (by decide) g d _ (fun i => (whole W x9 _ zz _ i).trans (W.w9 i))
  case dinx =>
    intro i
    refine (W.spread 2 (by decide) g d _ (fun i => (whole W x11 _ zz _ i).trans (W.w11 i)) i).trans (congrArg _ ?_)
    exact qv_din r2 r3 r4 z (i 0) _
  case dstx =>
    intro i
    refine (W.spread 3 (by decide) g d _ (fun i => (whole W x12 _ zz _ i).trans (W.w12 i)) i).trans (congrArg _ ?_)
    exact qv_dst r2 r3 r4 z (i 0) _
  case gcol =>
    intro i
    refine (W.gcol g d i).trans (congrArg _ ?_)
    exact qv_gam r2 r3 r4 z (i 0) _
  case sel =>
    intro i
    unfold In.selc
    rw [shapeCast_self]
    exact (whole W x13 _ zz _ i).trans (W.w13 i)

end Chunk
end
end Scan.Body
-- ==== Proof.RefA.lean ====
module

public import proofs.«01_k».proof.Proof.Data
public import proofs.«01_k».proof.Proof.Gen.ReferenceIdeal.Read
public import Idealize.ShloMosaic.Lib.IdealHost

/-!
# The reference's stages, read: the operands and the forward scan
-/

@[expose] public section

open Cert.ReferenceIdeal Cert.ReferenceIdeal.Gen Cert.ReferenceIdeal.Read Idealize.ShloMosaic
open scoped BigOperators

namespace Scan.Ref

/-- The operand of a softplus, with the comparison that looks for a NaN. -/
theorem select_ne (a : EReal) (x y : EReal) : Scalar.select (Ideal.cmp .une a a) x y = y := by
  simp [Scalar.select, Ideal.cmp]

variable {r0 : Fin 8192 → Fin 6144 → ℝ} {r1 : Fin 8192 → Fin 4096 → ℝ} {r2 : Fin 8192 → Fin 128 → ℝ} {r3 r4 : Fin 128 → ℝ}
variable {x0 : (⟨S8192x6144, .bf16⟩ : BufTy).Contents (Elt Ideal)} {x1 : (⟨S8192x4096, .bf16⟩ : BufTy).Contents (Elt Ideal)}
  {x2 : (⟨S8192x128, .f32⟩ : BufTy).Contents (Elt Ideal)} {x3 x4 : (⟨S128, .f32⟩ : BufTy).Contents (Elt Ideal)}

/-! ## Rows of the operands -/

section rows
variable (h0 : ∀ i : S8192x6144.Idx, x0 i = ((r0 (i 0) (i 1) : ℝ) : EReal))
variable (h1 : ∀ i : S8192x4096.Idx, x1 i = ((r1 (i 0) (i 1) : ℝ) : EReal))
variable (h2 : ∀ i : S8192x128.Idx, x2 i = ((r2 (i 0) (i 1) : ℝ) : EReal))
variable (h3 : ∀ i : S128.Idx, x3 i = ((r3 (i 0) : ℝ) : EReal))
variable (h4 : ∀ i : S128.Idx, x4 i = ((r4 (i 0) : ℝ) : EReal))

include h0 in
theorem v4 (i : S8192x8x8x64.Idx) :
    val_main_v4 (F := Ideal) x0 i = ((rX r0 (i 0) (i 1) (i 2) (i 3) : ℝ) : EReal) := by
  rw [val_main_v4_apply, val_main_v1_apply, val_main_v0_apply, Ideal.extf_def, h0]
  have b0 : (i 0).val < 8192 := (i 0).isLt
  have b1 : (i 1).val < 8 := (i 1).isLt
  have b2 : (i 2).val < 8 := (i 2).isLt
  have b3 : (i 3).val < 64 := (i 3).isLt
  refine congrArg _ (congrArg₂ r0 (Fin.ext ?_) (Fin.ext ?_))
  · show ((((i 0).val * 8 + (i 1).val) * 8 + (i 2).val) * 64 + (i 3).val) / 4096 = (i 0).val; omega
  · show ((((i 0).val * 8 + (i 1).val) * 8 + (i 2).val) * 64 + (i 3).val) % 4096
      = 512 * (i 1).val + 64 * (i 2).val + (i 3).val
    omega

include h1 in
theorem v26 (i : S8192x8x8x64.Idx) :
    val_main_v26 (F := Ideal) x1 i = ((rY r1 (i 0) (i 1) (i 2) (i 3) : ℝ) : EReal) := by
  rw [val_main_v26_apply, val_main_v25_apply, Ideal.extf_def, h1]
  have b0 : (i 0).val < 8192 := (i 0).isLt
  have b1 : (i 1).val < 8 := (i 1).isLt
  have b2 : (i 2).val < 8 := (i 2).isLt
  have b3 : (i 3).val < 64 := (i 3).isLt
  refine congrArg _ (congrArg₂ r1 (Fin.ext ?_) (Fin.ext ?_))
  · show ((((i 0).val * 8 + (i 1).val) * 8 + (i 2).val) * 64 + (i 3).val) / 4096 = (i 0).val; omega
  · show ((((i 0).val * 8 + (i 1).val) * 8 + (i 2).val) * 64 + (i 3).val) % 4096
      = 512 * (i 1).val + 64 * (i 2).val + (i 3).val
    omega

include h0 in
theorem v5 (i : S8192x8x128.Idx) :
    val_main_v5 (F := Ideal) x0 i = ((rB r0 (i 0) (i 1) (i 2) : ℝ) : EReal) := by
  rw [val_main_v5_apply, val_main_v2_apply, val_main_v0_apply, Ideal.extf_def, h0]
  have b0 : (i 0).val < 8192 := (i 0).isLt
  have b1 : (i 1).val < 8 := (i 1).isLt
  have b2 : (i 2).val < 128 := (i 2).isLt
  refine congrArg _ (congrArg₂ r0 (Fin.ext ?_) (Fin.ext ?_))
  · show (((i 0).val * 8 + (i 1).val) * 128 + (i 2).val) / 1024 = (i 0).val; omega
  · show 4096 + (((i 0).val * 8 + (i 1).val) * 128 + (i 2).val) % 1024 = 4096 + (128 * (i 1).val + (i 2).val)
    omega

include h0 in
theorem v6 (i : S8192x8x128.Idx) :
    val_main_v6 (F := Ideal) x0 i = ((rC r0 (i 0) (i 1) (i 2) : ℝ) : EReal) := by
  rw [val_main_v6_apply, val_main_v3_apply, val_main_v0_apply, Ideal.extf_def, h0]
  have b0 : (i 0).val < 8192 := (i 0).isLt
  have b1 : (i 1).val < 8 := (i 1).isLt
  have b2 : (i 2).val < 128 := (i 2).isLt
  refine congrArg _ (congrArg₂ r0 (Fin.ext ?_) (Fin.ext ?_))
  · show (((i 0).val * 8 + (i 1).val) * 128 + (i 2).val) / 1024 = (i 0).val; omega
  · show 5120 + (((i 0).val * 8 + (i 1).val) * 128 + (i 2).val) % 1024 = 5120 + (128 * (i 1).val + (i 2).val)
    omega

include h2 h3 in
theorem v15 (i : S8192x8x8.Idx) :
    val_main_v15 (F := Ideal) x2 x3 i = ((r2 (i 0) (head (i 1) (i 2)) + r3 (head (i 1) (i 2)) : ℝ) : EReal) := by
  rw [val_main_v15_apply, val_main_v9_apply, val_main_v8_apply, val_main_v14_apply, val_main_v13_apply,
    val_main_v12_apply, val_main_v11_apply, h2, h3, Ideal.addf_def, ← EReal.coe_add]
  have b0 : (i 0).val < 8192 := (i 0).isLt
  have b1 : (i 1).val < 8 := (i 1).isLt
  have b2 : (i 2).val < 8 := (i 2).isLt
  refine congrArg _ (congrArg₂ _ (congrArg₂ r2 (Fin.ext ?_) (Fin.ext ?_)) (congrArg r3 (Fin.ext ?_)))
  · show (((i 0).val * 8 + (i 1).val) * 8 + (i 2).val) / 64 = (i 0).val; omega
  · show 64 + (((i 0).val * 8 + (i 1).val) * 8 + (i 2).val) % 64 = 64 + 8 * (i 1).val + (i 2).val; omega
  · show 64 + ((i 1).val * 8 + (i 2).val) = 64 + 8 * (i 1).val + (i 2).val; omega

include h2 h3 in
theorem v16 (i : S8192x8x8.Idx) :
    val_main_v16 (F := Ideal) x2 x3 i = ((rD r2 r3 (i 0) (i 1) (i 2) : ℝ) : EReal) := by
  rw [val_main_v16_apply, val_main_call0_v4_apply, Ideal.cmpf_def, select_ne, val_main_call0_v11_apply,
    val_main_call0_v1_apply, val_main_call0_v10_apply, val_main_call0_v9_apply, val_main_call0_v8_apply,
    val_main_call0_v7_apply, val_main_call0_v3_apply, val_main_call0_v2_apply, val_main_call0_v0_apply,
    val_main_call0_cst_apply, v15 h2 h3]
  simp only [Ideal.ofBits_def, Ideal.ofBits_zero_f32, Ideal.addf_def, Ideal.subf_def, Ideal.maximumf_def,
    Ideal.hostUnary_exp_def, Ideal.hostUnary_log1p_def, Ideal.hostNegf_def, Ideal.hostAbsf_def, sub_zero]
  exact softplus_eq _

include h4 in
theorem v23 (i : S8192x8x8.Idx) :
    val_main_v23 (F := Ideal) x4 i = ((-Real.exp (r4 (head (i 1) (i 2))) : ℝ) : EReal) := by
  rw [val_main_v23_apply, val_main_v22_apply, val_main_v21_apply, val_main_v20_apply, val_main_v19_apply,
    val_main_v18_apply, h4]
  simp only [Ideal.hostUnary_exp_def, Ideal.hostNegf_def, Ideal.negf_def, Ideal.exp_coe, ← EReal.coe_neg]
  have b1 : (i 1).val < 8 := (i 1).isLt
  have b2 : (i 2).val < 8 := (i 2).isLt
  refine congrArg _ (congrArg (fun a => -Real.exp (r4 a)) (Fin.ext ?_))
  show 64 + ((i 1).val * 8 + (i 2).val) = 64 + 8 * (i 1).val + (i 2).val; omega

include h2 h3 h4 in
theorem v24 (i : S8192x8x8.Idx) :
    val_main_v24 (F := Ideal) x2 x3 x4 i = ((rA r2 r3 r4 (i 0) (i 1) (i 2) : ℝ) : EReal) := by
  rw [val_main_v24_apply, v16 h2 h3, v23 h4, Ideal.mulf_def, ← EReal.coe_mul]; rfl

include h0 h2 h3 in
theorem v29 (i : S8192x8x8x64.Idx) :
    val_main_v29 (F := Ideal) x0 x2 x3 i = ((rU r0 r2 r3 (i 0) (i 1) (i 2) (i 3) : ℝ) : EReal) := by
  rw [val_main_v29_apply, v4 h0, val_main_v28_apply, val_main_v27_apply, v16 h2 h3, Ideal.mulf_def, ← EReal.coe_mul]
  rfl

/-! ## From the last token to the first -/

theorem row_eq (a b : ℕ) (ha : a < 64) (hb : b < 128) (r : Fin 8192) (hr : r.val = a * 128 + b) :
    r.rev = (tok ⟨a, ha⟩ ⟨b, hb⟩).rev := by
  congr 1; apply Fin.ext; rw [hr]; show a * 128 + b = 128 * a + b; omega

include h0 h2 h3 in
theorem v34 (i : S64x128x8x8x64.Idx) :
    val_main_v34 (F := Ideal) x0 x2 x3 i = ((bU r0 r2 r3 (i 2) (i 3) (i 0) (i 1) (i 4) : ℝ) : EReal) := by
  rw [val_main_v34_apply]
  unfold val_main_v30
  rw [Host.reverse_apply, v29 h0 h2 h3]
  have b0 : (i 0).val < 64 := (i 0).isLt
  have b1 : (i 1).val < 128 := (i 1).isLt
  have b2 : (i 2).val < 8 := (i 2).isLt
  have b3 : (i 3).val < 8 := (i 3).isLt
  have b4 : (i 4).val < 64 := (i 4).isLt
  have e0 : (idx_main_v34 i 0).rev = (tok (i 0) (i 1)).rev := row_eq _ _ b0 b1 _ (by
    show (((((i 0).val * 128 + (i 1).val) * 8 + (i 2).val) * 8 + (i 3).val) * 64 + (i 4).val) / 4096 = _; omega)
  have e1 : idx_main_v34 i 1 = i 2 := Fin.ext (by
    show (((((i 0).val * 128 + (i 1).val) * 8 + (i 2).val) * 8 + (i 3).val) * 64 + (i 4).val) / 512 % 8 = _; omega)
  have e2 : idx_main_v34 i 2 = i 3 := Fin.ext (by
    show (((((i 0).val * 128 + (i 1).val) * 8 + (i 2).val) * 8 + (i 3).val) * 64 + (i 4).val) / 64 % 8 = _; omega)
  have e3 : idx_main_v34 i 3 = i 4 := Fin.ext (by
    show (((((i 0).val * 128 + (i 1).val) * 8 + (i 2).val) * 8 + (i 3).val) * 64 + (i 4).val) % 64 = _; omega)
  show ((rU r0 r2 r3 (idx_main_v34 i 0).rev (idx_main_v34 i 1) (idx_main_v34 i 2) (idx_main_v34 i 3) : ℝ) : EReal) = _
  rw [e0, e1, e2, e3]; rfl

include h1 in
theorem v92 (i : S64x128x8x8x64.Idx) :
    val_main_v92 (F := Ideal) x1 i = ((bY r1 (i 2) (i 3) (i 0) (i 1) (i 4) : ℝ) : EReal) := by
  rw [val_main_v92_apply]
  unfold val_main_v91
  rw [Host.reverse_apply, v26 h1]
  have b0 : (i 0).val < 64 := (i 0).isLt
  have b1 : (i 1).val < 128 := (i 1).isLt
  have b2 : (i 2).val < 8 := (i 2).isLt
  have b3 : (i 3).val < 8 := (i 3).isLt
  have b4 : (i 4).val < 64 := (i 4).isLt
  have e0 : (idx_main_v92 i 0).rev = (tok (i 0) (i 1)).rev := row_eq _ _ b0 b1 _ (by
    show (((((i 0).val * 128 + (i 1).val) * 8 + (i 2).val) * 8 + (i 3).val) * 64 + (i 4).val) / 4096 = _; omega)
  have e1 : idx_main_v92 i 1 = i 2 := Fin.ext (by
    show (((((i 0).val * 128 + (i 1).val) * 8 + (i 2).val) * 8 + (i 3).val) * 64 + (i 4).val) / 512 % 8 = _; omega)
  have e2 : idx_main_v92 i 2 = i 3 := Fin.ext (by
    show (((((i 0).val * 128 + (i 1).val) * 8 + (i 2).val) * 8 + (i 3).val) * 64 + (i 4).val) / 64 % 8 = _; omega)
  have e3 : idx_main_v92 i 3 = i 4 := Fin.ext (by
    show (((((i 0).val * 128 + (i 1).val) * 8 + (i 2).val) * 8 + (i 3).val) * 64 + (i 4).val) % 64 = _; omega)
  show ((rY r1 (idx_main_v92 i 0).rev (idx_main_v92 i 1) (idx_main_v92 i 2) (idx_main_v92 i 3) : ℝ) : EReal) = _
  rw [e0, e1, e2, e3]; rfl

include h0 in
theorem v35 (i : S64x128x8x128.Idx) :
    val_main_v35 (F := Ideal) x0 i = ((bB r0 (i 2) (i 0) (i 1) (i 3) : ℝ) : EReal) := by
  rw [val_main_v35_apply]
  unfold val_main_v32
  rw [Host.reverse_apply, v5 h0]
  have b0 : (i 0).val < 64 := (i 0).isLt
  have b1 : (i 1).val < 128 := (i 1).isLt
  have b2 : (i 2).val < 8 := (i 2).isLt
  have b3 : (i 3).val < 128 := (i 3).isLt
  have e0 : (idx_main_v35 i 0).rev = (tok (i 0) (i 1)).rev := row_eq _ _ b0 b1 _ (by
    show ((((i 0).val * 128 + (i 1).val) * 8 + (i 2).val) * 128 + (i 3).val) / 1024 = _; omega)
  have e1 : idx_main_v35 i 1 = i 2 := Fin.ext (by
    show ((((i 0).val * 128 + (i 1).val) * 8 + (i 2).val) * 128 + (i 3).val) / 128 % 8 = _; omega)
  have e2 : idx_main_v35 i 2 = i 3 := Fin.ext (by
    show ((((i 0).val * 128 + (i 1).val) * 8 + (i 2).val) * 128 + (i 3).val) % 128 = _; omega)
  show ((rB r0 (idx_main_v35 i 0).rev (idx_main_v35 i 1) (idx_main_v35 i 2) : ℝ) : EReal) = _
  rw [e0, e1, e2]; rfl

include h0 in
theorem v38 (i : S64x128x8x128.Idx) :
    val_main_v38 (F := Ideal) x0 i = ((bC r0 (i 2) (i 0) (i 1) (i 3) : ℝ) : EReal) := by
  rw [val_main_v38_apply]
  unfold val_main_v33
  rw [Host.reverse_apply, v6 h0]
  have b0 : (i 0).val < 64 := (i 0).isLt
  have b1 : (i 1).val < 128 := (i 1).isLt
  have b2 : (i 2).val < 8 := (i 2).isLt
  have b3 : (i 3).val < 128 := (i 3).isLt
  have e0 : (idx_main_v38 i 0).rev = (tok (i 0) (i 1)).rev := row_eq _ _ b0 b1 _ (by
    show ((((i 0).val * 128 + (i 1).val) * 8 + (i 2).val) * 128 + (i 3).val) / 1024 = _; omega)
  have e1 : idx_main_v38 i 1 = i 2 := Fin.ext (by
    show ((((i 0).val * 128 + (i 1).val) * 8 + (i 2).val) * 128 + (i 3).val) / 128 % 8 = _; omega)
  have e2 : idx_main_v38 i 2 = i 3 := Fin.ext (by
    show ((((i 0).val * 128 + (i 1).val) * 8 + (i 2).val) * 128 + (i 3).val) % 128 = _; omega)
  show ((rC r0 (idx_main_v38 i 0).rev (idx_main_v38 i 1) (idx_main_v38 i 2) : ℝ) : EReal) = _
  rw [e0, e1, e2]; rfl

include h2 h3 h4 in
theorem v37 (i : S8x8x64x128.Idx) :
    val_main_v37 (F := Ideal) x2 x3 x4 i = ((bA r2 r3 r4 (i 0) (i 1) (i 2) (i 3) : ℝ) : EReal) := by
  rw [val_main_v37_apply, val_main_v36_apply]
  unfold val_main_v31
  rw [Host.reverse_apply, v24 h2 h3 h4]
  have b0 : (i 0).val < 8 := (i 0).isLt
  have b1 : (i 1).val < 8 := (i 1).isLt
  have b2 : (i 2).val < 64 := (i 2).isLt
  have b3 : (i 3).val < 128 := (i 3).isLt
  have e0 : (idx_main_v36 (idx_main_v37 i) 0).rev = (tok (i 2) (i 3)).rev := row_eq _ _ b2 b3 _ (by
    show ((((i 2).val * 128 + (i 3).val) * 8 + (i 0).val) * 8 + (i 1).val) / 64 = _; omega)
  have e1 : idx_main_v36 (idx_main_v37 i) 1 = i 0 := Fin.ext (by
    show ((((i 2).val * 128 + (i 3).val) * 8 + (i 0).val) * 8 + (i 1).val) / 8 % 8 = _; omega)
  have e2 : idx_main_v36 (idx_main_v37 i) 2 = i 1 := Fin.ext (by
    show ((((i 2).val * 128 + (i 3).val) * 8 + (i 0).val) * 8 + (i 1).val) % 8 = _; omega)
  show ((rA r2 r3 r4 (idx_main_v36 (idx_main_v37 i) 0).rev (idx_main_v36 (idx_main_v37 i) 1)
    (idx_main_v36 (idx_main_v37 i) 2) : ℝ) : EReal) = _
  rw [e0, e1, e2]; rfl

end rows

/-! ## The forward scan -/

/-- A running sum of real numbers along the last of four axes, from the front. -/
theorem cumsum4_low {init : S_.Idx → Ideal .f32} (h) (hu) (h0 : init (Shape.Idx.first hu) = (0 : EReal))
    (x : FVec Ideal S8x8x64x128 .f32) (f : Fin 8 → Fin 8 → Fin 64 → Fin 128 → ℝ)
    (hx : ∀ i : S8x8x64x128.Idx, x i = ((f (i 0) (i 1) (i 2) (i 3) : ℝ) : EReal)) (j : S8x8x64x128.Idx) :
    Host.reduceWindowAdd ![1, 1, 1, 128] ![1, 1, 1, 1] ![0, 0, 0, 127] ![0, 0, 0, 0] x init h hu j
      = ((∑ k, if k ≤ j 3 then f (j 0) (j 1) (j 2) k else 0 : ℝ) : EReal) := by
  rw [cumsum_low (size := S8x8x64x128.size) (3 : Fin 4) 127 rfl _ _ _ _ (by decide) (by decide) (by decide) x init h hu
    h0 j (fun k => ((f (j 0) (j 1) (j 2) k : ℝ) : EReal)) (fun i hi => ?_)]
  · simp only [coe_ite_zero, coe_sum]; rfl
  · rw [hx]
    have e0 : i 0 = j 0 := Fin.ext (hi 0 (by decide))
    have e1 : i 1 = j 1 := Fin.ext (hi 1 (by decide))
    have e2 : i 2 = j 2 := Fin.ext (hi 2 (by decide))
    rw [e0, e1, e2]; rfl

/-- The same from the back. -/
theorem cumsum4_high {init : S_.Idx → Ideal .f32} (h) (hu) (h0 : init (Shape.Idx.first hu) = (0 : EReal))
    (x : FVec Ideal S8x8x64x128 .f32) (f : Fin 8 → Fin 8 → Fin 64 → Fin 128 → ℝ)
    (hx : ∀ i : S8x8x64x128.Idx, x i = ((f (i 0) (i 1) (i 2) (i 3) : ℝ) : EReal)) (j : S8x8x64x128.Idx) :
    Host.reduceWindowAdd ![1, 1, 1, 128] ![1, 1, 1, 1] ![0, 0, 0, 0] ![0, 0, 0, 127] x init h hu j
      = ((∑ k, if j 3 ≤ k then f (j 0) (j 1) (j 2) k else 0 : ℝ) : EReal) := by
  rw [cumsum_high (size := S8x8x64x128.size) (3 : Fin 4) 127 rfl _ _ _ _ (by decide) (by decide) (by decide) x init h hu
    h0 j (fun k => ((f (j 0) (j 1) (j 2) k : ℝ) : EReal)) (fun i hi => ?_)]
  · simp only [coe_ite_zero, coe_sum]; rfl
  · rw [hx]
    have e0 : i 0 = j 0 := Fin.ext (hi 0 (by decide))
    have e1 : i 1 = j 1 := Fin.ext (hi 1 (by decide))
    have e2 : i 2 = j 2 := Fin.ext (hi 2 (by decide))
    rw [e0, e1, e2]; rfl

/-- A running sum of real numbers along the last of three axes, from the front. -/
theorem cumsum3_low {init : S_.Idx → Ideal .f32} (h) (hu) (h0 : init (Shape.Idx.first hu) = (0 : EReal))
    (x : FVec Ideal S8x8x64 .f32) (f : Fin 8 → Fin 8 → Fin 64 → ℝ)
    (hx : ∀ i : S8x8x64.Idx, x i = ((f (i 0) (i 1) (i 2) : ℝ) : EReal)) (j : S8x8x64.Idx) :
    Host.reduceWindowAdd ![1, 1, 64] ![1, 1, 1] ![0, 0, 63] ![0, 0, 0] x init h hu j
      = ((∑ k, if k ≤ j 2 then f (j 0) (j 1) k else 0 : ℝ) : EReal) := by
  rw [cumsum_low (size := S8x8x64.size) (2 : Fin 3) 63 rfl _ _ _ _ (by decide) (by decide) (by decide) x init h hu
    h0 j (fun k => ((f (j 0) (j 1) k : ℝ) : EReal)) (fun i hi => ?_)]
  · simp only [coe_ite_zero, coe_sum]; rfl
  · rw [hx]
    have e0 : i 0 = j 0 := Fin.ext (hi 0 (by decide))
    have e1 : i 1 = j 1 := Fin.ext (hi 1 (by decide))
    rw [e0, e1]; rfl

/-- The same from the back. -/
theorem cumsum3_high {init : S_.Idx → Ideal .f32} (h) (hu) (h0 : init (Shape.Idx.first hu) = (0 : EReal))
    (x : FVec Ideal S8x8x64 .f32) (f : Fin 8 → Fin 8 → Fin 64 → ℝ)
    (hx : ∀ i : S8x8x64.Idx, x i = ((f (i 0) (i 1) (i 2) : ℝ) : EReal)) (j : S8x8x64.Idx) :
    Host.reduceWindowAdd ![1, 1, 64] ![1, 1, 1] ![0, 0, 0] ![0, 0, 63] x init h hu j
      = ((∑ k, if j 2 ≤ k then f (j 0) (j 1) k else 0 : ℝ) : EReal) := by
  rw [cumsum_high (size := S8x8x64.size) (2 : Fin 3) 63 rfl _ _ _ _ (by decide) (by decide) (by decide) x init h hu
    h0 j (fun k => ((f (j 0) (j 1) k : ℝ) : EReal)) (fun i hi => ?_)]
  · simp only [coe_ite_zero, coe_sum]; rfl
  · rw [hx]
    have e0 : i 0 = j 0 := Fin.ext (hi 0 (by decide))
    have e1 : i 1 = j 1 := Fin.ext (hi 1 (by decide))
    rw [e0, e1]; rfl

/-- A comparison of two coordinates, as the lower triangle tests it. -/
theorem sge_word (a b n : ℕ) (ha : a < 2 ^ 16) (hb : b < 2 ^ 16) (hn : n = 0 ∨ n = 1) :
    IntOp.cmpi .sge (IntOp.addi (BitVec.ofNat 32 a) (if n = 0 then 0#32 else 4294967295#32)) (BitVec.ofNat 32 b)
      = BitVec.ofBool (decide (b + n ≤ a)) := by
  have h2 : (BitVec.ofNat 32 b).toInt = b := by
    rw [BitVec.toInt_eq_toNat_cond, BitVec.toNat_ofNat]; omega
  have t1 : (4294967295#32).toNat = 4294967295 := rfl
  have h1 : (IntOp.addi (BitVec.ofNat 32 a) (if n = 0 then 0#32 else 4294967295#32)).toInt = (a : ℤ) - n := by
    unfold IntOp.addi
    rcases hn with rfl | rfl
    · rw [if_pos rfl, BitVec.add_zero, BitVec.toInt_eq_toNat_cond, BitVec.toNat_ofNat]; omega
    · rw [if_neg (by decide), BitVec.toInt_eq_toNat_cond, BitVec.toNat_add, BitVec.toNat_ofNat, t1]; omega
  unfold IntOp.cmpi
  simp only [BitVec.sle, h1, h2]
  congr 1
  simp only [decide_eq_decide]; omega

section scan
variable (h0 : ∀ i : S8192x6144.Idx, x0 i = ((r0 (i 0) (i 1) : ℝ) : EReal))
variable (h1 : ∀ i : S8192x4096.Idx, x1 i = ((r1 (i 0) (i 1) : ℝ) : EReal))
variable (h2 : ∀ i : S8192x128.Idx, x2 i = ((r2 (i 0) (i 1) : ℝ) : EReal))
variable (h3 : ∀ i : S128.Idx, x3 i = ((r3 (i 0) : ℝ) : EReal))
variable (h4 : ∀ i : S128.Idx, x4 i = ((r4 (i 0) : ℝ) : EReal))

include h2 h3 h4 in
theorem v39 (i : S8x8x64x128.Idx) :
    val_main_v39 (F := Ideal) x2 x3 x4 i = ((Rev.cs (bA r2 r3 r4 (i 0) (i 1)) (i 2) (i 3) : ℝ) : EReal) :=
  cumsum4_low _ _ Ideal.ofBits_zero_f32 _ _ (v37 h2 h3 h4) i
include h2 h3 h4 in
theorem v42 (i : S8x8x64x128.Idx) :
    val_main_v42 (F := Ideal) x2 x3 x4 i = ((Rev.cs (bA r2 r3 r4 (i 0) (i 1)) (i 2) (i 3) : ℝ) : EReal) :=
  cumsum4_low _ _ Ideal.ofBits_zero_f32 _ _ (v37 h2 h3 h4) i
include h2 h3 h4 in
theorem v56 (i : S8x8x64x128.Idx) :
    val_main_v56 (F := Ideal) x2 x3 x4 i = ((Rev.cs (bA r2 r3 r4 (i 0) (i 1)) (i 2) (i 3) : ℝ) : EReal) :=
  cumsum4_low _ _ Ideal.ofBits_zero_f32 _ _ (v37 h2 h3 h4) i

theorem fin_zero (a : Fin 1) : a.val = 0 := by omega

include h2 h3 h4 in
theorem v60 (i : S8x8x64x128.Idx) :
    val_main_v60 (F := Ideal) x2 x3 x4 i = ((Rev.dst (bA r2 r3 r4 (i 0) (i 1)) (i 2) (i 3) : ℝ) : EReal) := by
  rw [val_main_v60_apply, val_main_v59_apply, val_main_v58_apply, val_main_v57_apply, v56 h2 h3 h4, v56 h2 h3 h4,
    Ideal.subf_def, ← EReal.coe_sub, Ideal.hostUnary_exp_def, Ideal.exp_coe]
  rfl

include h0 h2 h3 h4 in
theorem v64 (i : S64x128x8x8x64.Idx) :
    val_main_v64 (F := Ideal) x0 x2 x3 x4 i
      = ((bU r0 r2 r3 (i 2) (i 3) (i 0) (i 1) (i 4) * Rev.dst (bA r2 r3 r4 (i 2) (i 3)) (i 0) (i 1) : ℝ) : EReal) := by
  rw [val_main_v64_apply, v34 h0 h2 h3, val_main_v63_apply, val_main_v62_apply, val_main_v61_apply, v60 h2 h3 h4,
    Ideal.mulf_def, ← EReal.coe_mul]
  rfl

include h0 h2 h3 h4 in
theorem v65 (i : S64x8x8x64x128.Idx) :
    val_main_v65 (F := Ideal) x0 x2 x3 x4 i
      = ((Rev.st (bA r2 r3 r4 (i 1) (i 2)) (bU r0 r2 r3 (i 1) (i 2)) (bB r0 (i 1)) (i 0) (i 3) (i 4) : ℝ) : EReal) := by
  rw [val_main_v65_apply]
  simp only [v64 h0 h2 h3 h4, v35 h0, ← EReal.coe_mul, coe_sum]
  rfl

include h2 h3 h4 in
theorem v67 (i : S8x8x64.Idx) :
    val_main_v67 (F := Ideal) x2 x3 x4 i = ((Rev.tot (bA r2 r3 r4 (i 0) (i 1)) (i 2) : ℝ) : EReal) := by
  rw [val_main_v67_apply, val_main_v66_apply, v56 h2 h3 h4]
  have b0 : (i 0).val < 8 := (i 0).isLt
  have b1 : (i 1).val < 8 := (i 1).isLt
  have b2 : (i 2).val < 64 := (i 2).isLt
  have e0 : (idx_main_v67 i) 0 = i 0 := Fin.ext (by
    show (((i 0).val * 8 + (i 1).val) * 64 + (i 2).val) / 512 = (i 0).val; omega)
  have e1 : (idx_main_v67 i) 1 = i 1 := Fin.ext (by
    show (((i 0).val * 8 + (i 1).val) * 64 + (i 2).val) / 64 % 8 = (i 1).val; omega)
  have e2 : (idx_main_v67 i) 2 = i 2 := Fin.ext (by
    show (((i 0).val * 8 + (i 1).val) * 64 + (i 2).val) / 1 % 64 = (i 2).val; omega)
  have e3 : (idx_main_v66 (idx_main_v67 i)) 3 = Fin.last 127 := Fin.ext (by
    have := fin_zero (idx_main_v67 i 3)
    show 127 + (idx_main_v67 i 3).val = 127; omega)
  show ((Rev.cs (bA r2 r3 r4 (idx_main_v67 i 0) (idx_main_v67 i 1)) (idx_main_v67 i 2)
    (idx_main_v66 (idx_main_v67 i) 3) : ℝ) : EReal) = _
  rw [e0, e1, e2, e3]; rfl

include h2 h3 h4 in
theorem v68 (i : S8x8x64.Idx) :
    val_main_v68 (F := Ideal) x2 x3 x4 i = ((Rev.en (bA r2 r3 r4 (i 0) (i 1)) (i 2) : ℝ) : EReal) :=
  cumsum3_low _ _ Ideal.ofBits_zero_f32 _ (fun g j z => Rev.tot (bA r2 r3 r4 g j) z) (v67 h2 h3 h4) i

theorem v77_1 (i : S8x8x64x64.Idx) :
    val_main_v77_1 (F := Ideal) i = BitVec.ofBool (decide (i 3 < i 2)) := by
  rw [val_main_v77_1_apply, val_main_v76_apply, val_main_call11_v4_apply, val_main_call11_v2_apply,
    val_main_call11_v0_apply, val_main_call11_v1_apply, val_main_call11_c_apply, val_main_call11_v3_apply]
  have b2 : (i 2).val < 64 := (i 2).isLt
  have b3 : (i 3).val < 64 := (i 3).isLt
  have := sge_word (i 2).val (i 3).val 1 (by omega) (by omega) (Or.inr rfl)
  rw [if_neg (by decide)] at this
  have e : ∀ c : BitVec 1, Scalar.select c (1#1) (0#1) = c := by decide
  refine (e _).trans (this.trans ?_)
  congr 1

theorem v50_1 (i : S8x8x64x128x128.Idx) :
    val_main_v50_1 (F := Ideal) i = BitVec.ofBool (decide (i 4 ≤ i 3)) := by
  rw [val_main_v50_1_apply, val_main_v49_apply, val_main_call7_v4_apply, val_main_call7_v2_apply,
    val_main_call7_v0_apply, val_main_call7_v1_apply, val_main_call7_c_apply, val_main_call7_v3_apply]
  have b3 : (i 3).val < 128 := (i 3).isLt
  have b4 : (i 4).val < 128 := (i 4).isLt
  have := sge_word (i 3).val (i 4).val 0 (by omega) (by omega) (Or.inl rfl)
  rw [if_pos rfl] at this
  have e : ∀ c : BitVec 1, Scalar.select c (1#1) (0#1) = c := by decide
  refine (e _).trans (this.trans ?_)
  congr 1

theorem select_ofBool {α : Type} (p : Prop) [Decidable p] (a b : α) :
    Scalar.select (BitVec.ofBool (decide p)) a b = if p then a else b := by
  by_cases h : p <;> simp [Scalar.select, h]

theorem exp_mask (p : Prop) [Decidable p] (a : ℝ) :
    Ideal.exp (if p then (a : EReal) else ⊥) = ((if p then Real.exp a else 0 : ℝ) : EReal) := by
  split_ifs <;> simp

theorem ninf : (FloatOps.ofBits .f32 0xFF800000#32 : Ideal .f32) = (⊥ : EReal) := by
  simp [Ideal.ofBits, Ideal.ieee]

include h2 h3 h4 in
theorem v78 (i : S8x8x64x64.Idx) :
    val_main_v78 (F := Ideal) x2 x3 x4 i = ((Rev.cd (bA r2 r3 r4 (i 0) (i 1)) (i 2) (i 3) : ℝ) : EReal) := by
  rw [val_main_v78_apply, val_main_v77_0_apply, v77_1, select_ofBool, val_main_v74_apply, val_main_v72_apply,
    val_main_v70_apply, val_main_v69_apply, val_main_v73_apply, val_main_v71_apply, v68 h2 h3 h4, v68 h2 h3 h4,
    v67 h2 h3 h4, val_main_call12_v2_apply, val_main_call12_v0_apply, val_main_cst_1_apply, ninf,
    Ideal.subf_def, Ideal.subf_def, ← EReal.coe_sub, ← EReal.coe_sub, Ideal.hostUnary_exp_def, exp_mask]
  rfl

include h2 h3 h4 in
theorem v51 (i : S8x8x64x128x128.Idx) :
    val_main_v51 (F := Ideal) x2 x3 x4 i = ((Rev.dec (bA r2 r3 r4 (i 0) (i 1)) (i 2) (i 3) (i 4) : ℝ) : EReal) := by
  rw [val_main_v51_apply, val_main_v50_0_apply, v50_1, select_ofBool, val_main_v47_apply, val_main_v45_apply,
    val_main_v43_apply, val_main_v46_apply, val_main_v44_apply, v42 h2 h3 h4, v42 h2 h3 h4,
    val_main_call8_v2_apply, val_main_call8_v0_apply, val_main_cst_apply, ninf,
    Ideal.subf_def, ← EReal.coe_sub, Ideal.hostUnary_exp_def, exp_mask]
  rfl

include h0 in
theorem v41 (i : S8x1x64x128x128.Idx) :
    val_main_v41 (F := Ideal) x0 i = ((Rev.cb (bB r0 (i 0)) (bC r0 (i 0)) (i 2) (i 3) (i 4) : ℝ) : EReal) := by
  rw [val_main_v41_apply, val_main_v40_apply]
  simp only [v38 h0, v35 h0, ← EReal.coe_mul, coe_sum]
  rfl

include h0 h2 h3 h4 in
theorem v53 (i : S8x8x64x128x128.Idx) :
    val_main_v53 (F := Ideal) x0 x2 x3 x4 i
      = ((Rev.cb (bB r0 (i 0)) (bC r0 (i 0)) (i 2) (i 3) (i 4)
          * Rev.dec (bA r2 r3 r4 (i 0) (i 1)) (i 2) (i 3) (i 4) : ℝ) : EReal) := by
  rw [val_main_v53_apply, val_main_v52_apply, v41 h0, v51 h2 h3 h4, Ideal.mulf_def, ← EReal.coe_mul]
  rfl

include h0 h2 h3 h4 in
theorem v80 (i : S64x8x8x64x128.Idx) :
    val_main_v80 (F := Ideal) x0 x2 x3 x4 i
      = ((Rev.h (bA r2 r3 r4 (i 1) (i 2)) (bU r0 r2 r3 (i 1) (i 2)) (bB r0 (i 1)) (i 0) (i 3) (i 4) : ℝ) : EReal) := by
  rw [val_main_v80_apply, val_main_v79_apply]
  simp only [v65 h0 h2 h3 h4, v78 h2 h3 h4, ← EReal.coe_mul, coe_sum]
  rfl

include h2 h3 h4 in
theorem v81 (i : S8x8x64x128.Idx) :
    val_main_v81 (F := Ideal) x2 x3 x4 i = ((Rev.din (bA r2 r3 r4 (i 0) (i 1)) (i 2) (i 3) : ℝ) : EReal) := by
  rw [val_main_v81_apply, v39 h2 h3 h4, Ideal.hostUnary_exp_def, Ideal.exp_coe]
  rfl

include h2 h3 h4 in
theorem v85 (i : S64x128x8x8x1.Idx) :
    val_main_v85 (F := Ideal) x2 x3 x4 i = ((Rev.din (bA r2 r3 r4 (i 2) (i 3)) (i 0) (i 1) : ℝ) : EReal) := by
  rw [val_main_v85_apply, val_main_v82_apply, v81 h2 h3 h4]; rfl

include h0 h2 h3 h4 in
theorem v84 (i : S64x128x8x8x64.Idx) :
    val_main_v84 (F := Ideal) x0 x2 x3 x4 i
      = ((Rev.ych (bA r2 r3 r4 (i 2) (i 3)) (bU r0 r2 r3 (i 2) (i 3)) (bB r0 (i 2)) (bC r0 (i 2)) (i 0) (i 1) (i 4) : ℝ)
          : EReal) := by
  rw [val_main_v84_apply, val_main_v83_apply]
  simp only [v80 h0 h2 h3 h4, v38 h0, ← EReal.coe_mul, coe_sum]
  rfl

end scan

end Scan.Ref
-- ==== Proof.HostS.lean ====
/- The launch's chunk states: the operations are the reference's own. -/
module

public import proofs.«01_k».proof.Proof.HostQ
public import proofs.«01_k».proof.Proof.RefA

@[expose] public section

noncomputable section

namespace Scan.Line

attribute [local irreducible] rd

open Idealize.ShloMosaic Idealize.ShloMosaic.TcCoe Cert.KernelIdeal Cert.KernelIdeal.Gen Cert.ReferenceIdeal.Read
open scoped BigOperators

variable {X : Valuation τ sig (Elt Ideal)}
variable {r0 : Fin 8192 → Fin 6144 → ℝ} {r2 : Fin 8192 → Fin 128 → ℝ} {r3 r4 : Fin 128 → ℝ}

variable (h0 : ∀ i : S8192x6144.Idx, rd X main_arg0 i = ((r0 (i 0) (i 1) : ℝ) : EReal))
variable (h2 : ∀ i : S8192x128.Idx, rd X main_arg2 i = ((r2 (i 0) (i 1) : ℝ) : EReal))
variable (h3 : ∀ i : S128.Idx, rd X main_arg3 i = ((r3 (i 0) : ℝ) : EReal))
variable (h4 : ∀ i : S128.Idx, rd X main_arg4 i = ((r4 (i 0) : ℝ) : EReal))

/-- A list of 8192 × 64 entries as groups of heads. -/
theorem heads_at (x : S8192x64.Idx → EReal) (f : Fin 8192 → Fin 128 → ℝ)
    (hx : ∀ k : S8192x64.Idx, ∀ h : Fin 128, h.val = 64 + (k 1).val → x k = ((f (k 0) h : ℝ) : EReal)) (i : S8192x8x8.Idx) :
    shapeCast S8192x8x8 x shapeCasts_S8192x64_S8192x8x8 i = ((f (i 0) (head (i 1) (i 2)) : ℝ) : EReal) := by
  obtain ⟨k, e, hk⟩ := cast_ex (s := S8192x64) x shapeCasts_S8192x64_S8192x8x8 i
  rw [Shape.rowMajor_val_two, Shape.rowMajor_val_three] at hk
  change (k 0).val * 64 + (k 1).val = ((i 0).val * 8 + (i 1).val) * 8 + (i 2).val at hk
  have b1 : (i 1).val < 8 := (i 1).isLt
  have b2 : (i 2).val < 8 := (i 2).isLt
  have c1 : (k 1).val < 64 := (k 1).isLt
  rw [e, hx k (head (i 1) (i 2)) (by show 64 + 8 * (i 1).val + (i 2).val = _; omega), show k 0 = i 0 from Fin.ext (by omega)]

include h2 h3 in
theorem v171 : rd X main_v171 = val_main_v16 (F := Ideal) (rd X main_arg2) (rd X main_arg3) := by
  funext i
  rw [rd_reshape X 426 rfl (by decide) (by decide), rd_unary X 425 rfl (by decide) (by decide)]
  refine (heads_at _ (fD r2 r3) (fun k h hh => ?_) i).trans (Scan.Ref.v16 h2 h3 i).symm
  refine (v92 h2 h3 _).trans ?_
  refine congrArg _ (congrArg₂ (fD r2 r3) (Fin.ext ?_) (Fin.ext ?_))
  · show 0 + (k 0).val = _; omega
  · show 64 + (k 1).val = _; omega

include h2 h3 h4 in
theorem v178 : rd X main_v178 = val_main_v24 (F := Ideal) (rd X main_arg2) (rd X main_arg3) (rd X main_arg4) := by
  funext i
  rw [rd_reshape X 433 rfl (by decide) (by decide), rd_unary X 432 rfl (by decide) (by decide)]
  refine (heads_at _ (fA r2 r3 r4) (fun k h hh => ?_) i).trans (Scan.Ref.v24 h2 h3 h4 i).symm
  refine (v95 h2 h3 h4 _).trans ?_
  refine congrArg _ (congrArg₂ (fA r2 r3 r4) (Fin.ext ?_) (Fin.ext ?_))
  · show 0 + (k 0).val = _; omega
  · show 64 + (k 1).val = _; omega

theorem v167 : rd X main_v167 = val_main_v5 (F := Ideal) (rd X main_arg0) := by
  rw [rd_reshape X 422 rfl (by decide) (by decide), rd_unary X 419 rfl (by decide) (by decide),
    rd_unary X 417 rfl (by decide) (by decide)]; rfl

theorem v166 : rd X main_v166 = val_main_v4 (F := Ideal) (rd X main_arg0) := by
  rw [rd_reshape X 421 rfl (by decide) (by decide), rd_unary X 418 rfl (by decide) (by decide),
    rd_unary X 417 rfl (by decide) (by decide)]; rfl

include h2 h3 in
theorem v174 : rd X main_v174 = val_main_v29 (F := Ideal) (rd X main_arg0) (rd X main_arg2) (rd X main_arg3) := by
  rw [rd_binary X 429 rfl (by decide) (by decide) (by decide), rd_unary X 428 rfl (by decide) (by decide),
    rd_unary X 427 rfl (by decide) (by decide), v166, v171 h2 h3]; rfl

include h2 h3 in
theorem v175 : rd X main_v175 = val_main_v30 (F := Ideal) (rd X main_arg0) (rd X main_arg2) (rd X main_arg3) := by
  rw [rd_unary X 430 rfl (by decide) (by decide), v174 h2 h3]; rfl

include h2 h3 h4 in
theorem v179 : rd X main_v179 = val_main_v31 (F := Ideal) (rd X main_arg2) (rd X main_arg3) (rd X main_arg4) := by
  rw [rd_unary X 434 rfl (by decide) (by decide), v178 h2 h3 h4]; rfl

theorem v180 : rd X main_v180 = val_main_v32 (F := Ideal) (rd X main_arg0) := by
  rw [rd_unary X 435 rfl (by decide) (by decide), v167]; rfl

include h2 h3 in
theorem v181 : rd X main_v181 = val_main_v34 (F := Ideal) (rd X main_arg0) (rd X main_arg2) (rd X main_arg3) := by
  rw [rd_reshape X 436 rfl (by decide) (by decide), v175 h2 h3]; rfl

theorem v182 : rd X main_v182 = val_main_v35 (F := Ideal) (rd X main_arg0) := by
  rw [rd_reshape X 437 rfl (by decide) (by decide), v180]; rfl

include h2 h3 h4 in
theorem v183 : rd X main_v183 = val_main_v36 (F := Ideal) (rd X main_arg2) (rd X main_arg3) (rd X main_arg4) := by
  rw [rd_reshape X 438 rfl (by decide) (by decide), v179 h2 h3 h4]; rfl

include h2 h3 h4 in
theorem v184 : rd X main_v184 = val_main_v37 (F := Ideal) (rd X main_arg2) (rd X main_arg3) (rd X main_arg4) := by
  rw [rd_unary X 439 rfl (by decide) (by decide), v183 h2 h3 h4]; rfl

theorem call22_call0_cst : rd X main_call22_call0_cst = val_main_call9_call0_cst (F := Ideal) := by
  rw [rd_nullary X 440 rfl (by decide)]; rfl

theorem call22_call0_v0 : rd X main_call22_call0_v0 = val_main_call9_call0_v0 (F := Ideal) := by
  rw [rd_unary X 441 rfl (by decide) (by decide), call22_call0_cst]; rfl

include h2 h3 h4 in
theorem v185 : rd X main_v185 = val_main_v56 (F := Ideal) (rd X main_arg2) (rd X main_arg3) (rd X main_arg4) := by
  rw [rd_binary X 442 rfl (by decide) (by decide) (by decide), v184 h2 h3 h4, call22_call0_v0]; rfl

include h2 h3 h4 in
theorem v186 : rd X main_v186 = val_main_v57 (F := Ideal) (rd X main_arg2) (rd X main_arg3) (rd X main_arg4) := by
  rw [rd_unary X 443 rfl (by decide) (by decide), v185 h2 h3 h4]; rfl

include h2 h3 h4 in
theorem v187 : rd X main_v187 = val_main_v58 (F := Ideal) (rd X main_arg2) (rd X main_arg3) (rd X main_arg4) := by
  rw [rd_unary X 444 rfl (by decide) (by decide), v186 h2 h3 h4]; rfl

include h2 h3 h4 in
theorem v188 : rd X main_v188 = val_main_v59 (F := Ideal) (rd X main_arg2) (rd X main_arg3) (rd X main_arg4) := by
  rw [rd_binary X 445 rfl (by decide) (by decide) (by decide), v187 h2 h3 h4, v185 h2 h3 h4]; rfl

include h2 h3 h4 in
theorem v189 : rd X main_v189 = val_main_v60 (F := Ideal) (rd X main_arg2) (rd X main_arg3) (rd X main_arg4) := by
  rw [rd_unary X 446 rfl (by decide) (by decide), v188 h2 h3 h4]; rfl

include h2 h3 h4 in
theorem v190 : rd X main_v190 = val_main_v61 (F := Ideal) (rd X main_arg2) (rd X main_arg3) (rd X main_arg4) := by
  rw [rd_unary X 447 rfl (by decide) (by decide), v189 h2 h3 h4]; rfl

include h2 h3 h4 in
theorem v191 : rd X main_v191 = val_main_v62 (F := Ideal) (rd X main_arg2) (rd X main_arg3) (rd X main_arg4) := by
  rw [rd_unary X 448 rfl (by decide) (by decide), v190 h2 h3 h4]; rfl

include h2 h3 h4 in
theorem v192 : rd X main_v192 = val_main_v63 (F := Ideal) (rd X main_arg2) (rd X main_arg3) (rd X main_arg4) := by
  rw [rd_unary X 449 rfl (by decide) (by decide), v191 h2 h3 h4]; rfl

include h2 h3 h4 in
theorem v193 : rd X main_v193 = val_main_v64 (F := Ideal) (rd X main_arg0) (rd X main_arg2) (rd X main_arg3) (rd X main_arg4) := by
  rw [rd_binary X 450 rfl (by decide) (by decide) (by decide), v181 h2 h3, v192 h2 h3 h4]; rfl

include h2 h3 h4 in
theorem v194 : rd X main_v194 = val_main_v65 (F := Ideal) (rd X main_arg0) (rd X main_arg2) (rd X main_arg3) (rd X main_arg4) := by
  rw [rd_binary X 451 rfl (by decide) (by decide) (by decide), v193 h2 h3 h4, v182]; rfl

include h2 h3 h4 in
theorem v195 : rd X main_v195 = val_main_v66 (F := Ideal) (rd X main_arg2) (rd X main_arg3) (rd X main_arg4) := by
  rw [rd_unary X 452 rfl (by decide) (by decide), v185 h2 h3 h4]; rfl

include h2 h3 h4 in
theorem v196 : rd X main_v196 = val_main_v67 (F := Ideal) (rd X main_arg2) (rd X main_arg3) (rd X main_arg4) := by
  rw [rd_reshape X 453 rfl (by decide) (by decide), v195 h2 h3 h4]; rfl

theorem call23_call0_cst : rd X main_call23_call0_cst = val_main_call10_call0_cst (F := Ideal) := by
  rw [rd_nullary X 454 rfl (by decide)]; rfl

theorem call23_call0_v0 : rd X main_call23_call0_v0 = val_main_call10_call0_v0 (F := Ideal) := by
  rw [rd_unary X 455 rfl (by decide) (by decide), call23_call0_cst]; rfl

include h2 h3 h4 in
theorem v197 : rd X main_v197 = val_main_v68 (F := Ideal) (rd X main_arg2) (rd X main_arg3) (rd X main_arg4) := by
  rw [rd_binary X 456 rfl (by decide) (by decide) (by decide), v196 h2 h3 h4, call23_call0_v0]; rfl

include h2 h3 h4 in
theorem v198 : rd X main_v198 = val_main_v69 (F := Ideal) (rd X main_arg2) (rd X main_arg3) (rd X main_arg4) := by
  rw [rd_binary X 457 rfl (by decide) (by decide) (by decide), v197 h2 h3 h4, v196 h2 h3 h4]; rfl

include h2 h3 h4 in
theorem v199 : rd X main_v199 = val_main_v70 (F := Ideal) (rd X main_arg2) (rd X main_arg3) (rd X main_arg4) := by
  rw [rd_unary X 458 rfl (by decide) (by decide), v198 h2 h3 h4]; rfl

include h2 h3 h4 in
theorem v200 : rd X main_v200 = val_main_v71 (F := Ideal) (rd X main_arg2) (rd X main_arg3) (rd X main_arg4) := by
  rw [rd_unary X 459 rfl (by decide) (by decide), v197 h2 h3 h4]; rfl

include h2 h3 h4 in
theorem v201 : rd X main_v201 = val_main_v72 (F := Ideal) (rd X main_arg2) (rd X main_arg3) (rd X main_arg4) := by
  rw [rd_unary X 460 rfl (by decide) (by decide), v199 h2 h3 h4]; rfl

include h2 h3 h4 in
theorem v202 : rd X main_v202 = val_main_v73 (F := Ideal) (rd X main_arg2) (rd X main_arg3) (rd X main_arg4) := by
  rw [rd_unary X 461 rfl (by decide) (by decide), v200 h2 h3 h4]; rfl

include h2 h3 h4 in
theorem v203 : rd X main_v203 = val_main_v74 (F := Ideal) (rd X main_arg2) (rd X main_arg3) (rd X main_arg4) := by
  rw [rd_binary X 462 rfl (by decide) (by decide) (by decide), v201 h2 h3 h4, v202 h2 h3 h4]; rfl

theorem cst_26 : rd X main_cst_26 = val_main_cst_1 (F := Ideal) := by
  rw [rd_nullary X 474 rfl (by decide)]; rfl

theorem call25_v0 : rd X main_call25_v0 = val_main_call12_v0 (F := Ideal) := by
  rw [rd_unary X 475 rfl (by decide) (by decide), cst_26]; rfl

/-! The mask of the earlier chunks. -/

section mask

theorem to_heq {T : BufTy} (x : StableHlo.TRef sig T) (v : T.Contents (Elt Ideal)) : HEq (x.toBuf v) v := cast_heq _ _

theorem of_heq {T : BufTy} (x : StableHlo.TRef sig T) (v : x.ref.ty.Contents (Elt Ideal)) : HEq (x.ofBuf v) v := cast_heq _ _

attribute [local irreducible] cmpi addi broadcastInDim iotaInDim constantI select constant

theorem v204 : rd X main_v204 = val_main_v75 (F := Ideal) := by
  rw [rd_unary X 464 rfl (by decide) (by decide), rd_nullary X 463 rfl (by decide)]
  rfl

theorem call24_v0 : rd X main_call24_v0 = val_main_call11_v0 (F := Ideal) := by
  rw [rd_nullary X 465 rfl (by decide)]
  rfl

theorem call24_c : rd X main_call24_c = val_main_call11_c (F := Ideal) := by
  rw [rd_nullary X 466 rfl (by decide)]
  rfl

theorem call24_v1 : rd X main_call24_v1 = val_main_call11_v1 (F := Ideal) := by
  rw [rd_unary X 467 rfl (by decide) (by decide), call24_c]
  rfl

theorem call24_v2 : rd X main_call24_v2 = val_main_call11_v2 (F := Ideal) := by
  rw [rd_binary X 468 rfl (by decide) (by decide) (by decide), call24_v0, call24_v1]
  rfl

theorem call24_v3 : rd X main_call24_v3 = val_main_call11_v3 (F := Ideal) := by
  rw [rd_nullary X 469 rfl (by decide)]
  rfl

theorem call24_v4 : rd X main_call24_v4 = val_main_call11_v4 (F := Ideal) := by
  rw [rd_binary X 470 rfl (by decide) (by decide) (by decide), call24_v2, call24_v3]
  rfl

theorem call24_v5 : rd X main_call24_v5 = val_main_call11_v5 (F := Ideal) := by
  rw [rd_unary X 472 rfl (by decide) (by decide), rd_nullary X 471 rfl (by decide)]
  rfl

theorem v205 : rd X main_v205 = val_main_v76 (F := Ideal) := by
  rw [rd_ternary X 473 rfl (by decide) (by decide) (by decide) (by decide), call24_v4, v204, call24_v5]
  refine eq_of_heq ((to_heq _ _).trans (heq_of_eq ?_))
  exact congr (congr (congrArg select (eq_of_heq (of_heq _ _))) (eq_of_heq (of_heq _ _))) (eq_of_heq (of_heq _ _))

theorem call25_v1 : rd X main_call25_v1 = val_main_v77_1 (F := Ideal) := by
  rw [rd_unary X 476 rfl (by decide) (by decide), v205]
  refine eq_of_heq ((to_heq _ _).trans (heq_of_eq ?_))
  exact congrArg (broadcastInDim S8x8x64x64 _ _) (eq_of_heq (of_heq _ _))

theorem call25_v2 : rd X main_call25_v2 = val_main_call12_v2 (F := Ideal) := by
  rw [rd_unary X 477 rfl (by decide) (by decide), call25_v0]; rfl

include h2 h3 h4 in
theorem v206 : rd X main_v206 = val_main_v77_0 (F := Ideal) (rd X main_arg2) (rd X main_arg3) (rd X main_arg4) := by
  rw [rd_ternary X 478 rfl (by decide) (by decide) (by decide) (by decide), call25_v1, v203 h2 h3 h4, call25_v2]
  refine eq_of_heq ((to_heq _ _).trans (heq_of_eq ?_))
  exact congr (congr (congrArg select (eq_of_heq (of_heq _ _))) (eq_of_heq (of_heq _ _))) (eq_of_heq (of_heq _ _))

end mask

include h2 h3 h4 in
theorem v207 : rd X main_v207 = val_main_v78 (F := Ideal) (rd X main_arg2) (rd X main_arg3) (rd X main_arg4) := by
  rw [rd_unary X 479 rfl (by decide) (by decide), v206 h2 h3 h4]; rfl

include h2 h3 h4 in
theorem v208 : rd X main_v208 = val_main_v79 (F := Ideal) (rd X main_arg0) (rd X main_arg2) (rd X main_arg3) (rd X main_arg4) := by
  rw [rd_binary X 480 rfl (by decide) (by decide) (by decide), v194 h2 h3 h4, v207 h2 h3 h4]; rfl

include h2 h3 h4 in
theorem v209 : rd X main_v209 = val_main_v80 (F := Ideal) (rd X main_arg0) (rd X main_arg2) (rd X main_arg3) (rd X main_arg4) := by
  rw [rd_unary X 481 rfl (by decide) (by decide), v208 h2 h3 h4]; rfl

include h0 h2 h3 h4 in
/-- The states the kernel reads: the ones before each chunk of the second direction, in the order of the launch. -/
theorem states (i : S8x64x128x512.Idx) :
    rd X main_v212 i = ((Rev.h (bA r2 r3 r4 (i 0) ⟨(i 3).val / 64, by have := (i 3).isLt; change (i 3).val < 512 at this; omega⟩)
      (bU r0 r2 r3 (i 0) ⟨(i 3).val / 64, by have := (i 3).isLt; change (i 3).val < 512 at this; omega⟩) (bB r0 (i 0))
      (i 1).rev ⟨(i 3).val % 64, Nat.mod_lt _ (by decide)⟩ (i 2) : ℝ) : EReal) := by
  rw [rd_reshape X 484 rfl (by decide) (by decide), rd_unary X 483 rfl (by decide) (by decide),
    rd_unary X 482 rfl (by decide) (by decide)]
  obtain ⟨k, e, hk⟩ := cast_ex (s := S8x64x128x8x64) (transpose S8x64x128x8x64 [1, 0, 4, 2, 3]
    (Host.reverse [0] (rd X main_v209 : S64x8x8x64x128.Idx → EReal)) transposes_S64x8x8x64x128_S8x64x128x8x64_1_0_4_2_3)
    shapeCasts_S8x64x128x8x64_S8x64x128x512 i
  refine Eq.trans e ?_
  rw [Shape.rowMajor_val_five, Shape.rowMajor_val_four] at hk
  change ((((k 0).val * 64 + (k 1).val) * 128 + (k 2).val) * 8 + (k 3).val) * 64 + (k 4).val
    = (((i 0).val * 64 + (i 1).val) * 128 + (i 2).val) * 512 + (i 3).val at hk
  have a1 : (i 1).val < 64 := (i 1).isLt
  have a2 : (i 2).val < 128 := (i 2).isLt
  have a3 : (i 3).val < 512 := (i 3).isLt
  have c1 : (k 1).val < 64 := (k 1).isLt
  have c2 : (k 2).val < 128 := (k 2).isLt
  have c3 : (k 3).val < 8 := (k 3).isLt
  have c4 : (k 4).val < 64 := (k 4).isLt
  have e0 : k 0 = i 0 := Fin.ext (by omega)
  have e1 : k 1 = i 1 := Fin.ext (by omega)
  have e2 : k 2 = i 2 := Fin.ext (by omega)
  refine (transpose_apply (s := S64x8x8x64x128) [1, 0, 4, 2, 3] _ transposes_S64x8x8x64x128_S8x64x128x8x64_1_0_4_2_3 k
    (fun a => match a with
      | ⟨0, _⟩ => k 1 | ⟨1, _⟩ => k 0 | ⟨2, _⟩ => k 3 | ⟨3, _⟩ => k 4 | ⟨4, _⟩ => k 2) (fun b => match b with
      | ⟨0, _⟩ => rfl | ⟨1, _⟩ => rfl | ⟨2, _⟩ => rfl | ⟨3, _⟩ => rfl | ⟨4, _⟩ => rfl)).trans ?_
  rw [v209 h2 h3 h4]
  refine (Scan.Ref.v80 h0 h2 h3 h4 _).trans (congrArg _ ?_)
  show Rev.h (bA r2 r3 r4 (k 0) (k 3)) (bU r0 r2 r3 (k 0) (k 3)) (bB r0 (k 0)) (k 1).rev (k 4) (k 2) = _
  rw [e0, e1, e2, show k 3 = ⟨(i 3).val / 64, by omega⟩ from Fin.ext (by show _ = (i 3).val / 64; omega),
    show k 4 = ⟨(i 3).val % 64, by omega⟩ from Fin.ext (by show _ = (i 3).val % 64; omega)]
  rfl

end Scan.Line
-- ==== Proof.Launch.lean ====
module

public import proofs.«01_k».proof.Proof.Gen.KernelIdeal.Value
public import proofs.«01_k».proof.Proof.Inputs
public import proofs.«01_k».proof.Proof.HostS
public import proofs.«01_k».proof.Proof.HostTab

/-!
# The arrays of the launch, by chunks

Each window's block at a point is the chunk's part of its array.
-/

@[expose] public section

set_option maxRecDepth 16384

namespace Scan.Launch
open Idealize.ShloMosaic Idealize.ShloMosaic.TcCoe Cert.KernelIdeal Cert.KernelIdeal.Gen Scan.Line Scan.Body

attribute [local irreducible] rd

noncomputable section

theorem fill_at {sig : RefSig} {G : Pipeline.Grid} (w : Pipeline.Window sig G) {α : Type} (i : G.Coords) (d : w.block.Idx → α)
    (g : (w.xblock i).Idx → α) (j : w.block.Idx) (h : w.moved i j = true) :
    w.fill i d g j = g fun a => ⟨(j a).val, (w.moved_iff i j).mp h a⟩ := dif_pos h

variable (m : (ℓ : Loc nD τ sig) → Buf (Elt Ideal) ℓ) (c : Dev nD)
variable {r0 : Fin 8192 → Fin 6144 → ℝ} {r1 : Fin 8192 → Fin 4096 → ℝ} {r2 : Fin 8192 → Fin 128 → ℝ} {r3 r4 : Fin 128 → ℝ}
variable (h0 : ∀ i : S8192x6144.Idx, rd (fun b => m (c, b)) main_arg0 i = ((r0 (i 0) (i 1) : ℝ) : EReal))
variable (h1 : ∀ i : S8192x4096.Idx, rd (fun b => m (c, b)) main_arg1 i = ((r1 (i 0) (i 1) : ℝ) : EReal))
variable (h2 : ∀ i : S8192x128.Idx, rd (fun b => m (c, b)) main_arg2 i = ((r2 (i 0) (i 1) : ℝ) : EReal))
variable (h3 : ∀ i : S128.Idx, rd (fun b => m (c, b)) main_arg3 i = ((r3 (i 0) : ℝ) : EReal))
variable (h4 : ∀ i : S128.Idx, rd (fun b => m (c, b)) main_arg4 i = ((r4 (i 0) : ℝ) : EReal))
variable (t : Fin cfg0.N) (z : Fin 64) (hz : z.val = t.val)

theorem idx0 : ∀ t : Fin cfg0.N, win0_0.index t (0 : Fin 2) = t.val ∧ win0_0.index t (1 : Fin 2) = 0 :=
  (by decide +kernel : ∀ t : Fin grid0.N, _)
/-- Window 0. -/
theorem win0 (i : S128x4096.Idx) : ∃ E : S8192x6144.Idx, X0_0 m c t i = rd (fun b => m (c, b)) main_arg0 E
    ∧ (E 0).val = t.val * 128 + (i 0).val ∧ (E 1).val = 0 * 4096 + (i 1).val := by
  obtain ⟨e0, e1⟩ := idx0 t
  have hX : X0_0 m c t i = iblk m c 0 t (fun a => ⟨(i a).val, ((cfg0.win 0).moved_iff _ i).mp (moved0_0 t i) a⟩) := by
    unfold X0_0
    exact fill_at (cfg0.win 0) _ _ _ _ (moved0_0 t i)
  refine ⟨((cfg0.win 0).blk t).view.emb (fun a => ⟨(i a).val, ((cfg0.win 0).moved_iff _ i).mp (moved0_0 t i) a⟩), hX.trans ?_, ?_, ?_⟩
  · show ((cfg0.win 0).blk t).view.read (Elt Ideal) (V m c (Pipeline.arrRef spec0 0)) _ = _
    rw [V_eq]
    rfl
  · show win0_0.index t (0 : Fin 2) * 128 + 1 * (i 0).val = _
    rw [e0]
    omega
  · show win0_0.index t (1 : Fin 2) * 4096 + 1 * (i 1).val = _
    rw [e1]
    omega

theorem idx1 : ∀ t : Fin cfg0.N, win0_1.index t (0 : Fin 2) = t.val ∧ win0_1.index t (1 : Fin 2) = 4 :=
  (by decide +kernel : ∀ t : Fin grid0.N, _)
/-- Window 1. -/
theorem win1 (i : S128x1024.Idx) : ∃ E : S8192x6144.Idx, iblk m c 1 t i = rd (fun b => m (c, b)) main_arg0 E
    ∧ (E 0).val = t.val * 128 + (i 0).val ∧ (E 1).val = 4 * 1024 + (i 1).val := by
  obtain ⟨e0, e1⟩ := idx1 t
  refine ⟨((cfg0.win 1).blk t).view.emb i, ?_, ?_, ?_⟩
  · show ((cfg0.win 1).blk t).view.read (Elt Ideal) (V m c (Pipeline.arrRef spec0 1)) i = _
    rw [V_eq]
    rfl
  · show win0_1.index t (0 : Fin 2) * 128 + 1 * (i 0).val = _
    rw [e0]
    omega
  · show win0_1.index t (1 : Fin 2) * 1024 + 1 * (i 1).val = _
    rw [e1]
    omega

theorem idx2 : ∀ t : Fin cfg0.N, win0_2.index t (0 : Fin 2) = t.val ∧ win0_2.index t (1 : Fin 2) = 5 :=
  (by decide +kernel : ∀ t : Fin grid0.N, _)
/-- Window 2. -/
theorem win2 (i : S128x1024.Idx) : ∃ E : S8192x6144.Idx, iblk m c 2 t i = rd (fun b => m (c, b)) main_arg0 E
    ∧ (E 0).val = t.val * 128 + (i 0).val ∧ (E 1).val = 5 * 1024 + (i 1).val := by
  obtain ⟨e0, e1⟩ := idx2 t
  refine ⟨((cfg0.win 2).blk t).view.emb i, ?_, ?_, ?_⟩
  · show ((cfg0.win 2).blk t).view.read (Elt Ideal) (V m c (Pipeline.arrRef spec0 2)) i = _
    rw [V_eq]
    rfl
  · show win0_2.index t (0 : Fin 2) * 128 + 1 * (i 0).val = _
    rw [e0]
    omega
  · show win0_2.index t (1 : Fin 2) * 1024 + 1 * (i 1).val = _
    rw [e1]
    omega

theorem idx3 : ∀ t : Fin cfg0.N, win0_3.index t (0 : Fin 2) = t.val ∧ win0_3.index t (1 : Fin 2) = 0 :=
  (by decide +kernel : ∀ t : Fin grid0.N, _)
/-- Window 3. -/
theorem win3 (i : S128x4096.Idx) : ∃ E : S8192x4096.Idx, iblk m c 3 t i = rd (fun b => m (c, b)) main_arg1 E
    ∧ (E 0).val = t.val * 128 + (i 0).val ∧ (E 1).val = 0 * 4096 + (i 1).val := by
  obtain ⟨e0, e1⟩ := idx3 t
  refine ⟨((cfg0.win 3).blk t).view.emb i, ?_, ?_, ?_⟩
  · show ((cfg0.win 3).blk t).view.read (Elt Ideal) (V m c (Pipeline.arrRef spec0 3)) i = _
    rw [V_eq]
    rfl
  · show win0_3.index t (0 : Fin 2) * 128 + 1 * (i 0).val = _
    rw [e0]
    omega
  · show win0_3.index t (1 : Fin 2) * 4096 + 1 * (i 1).val = _
    rw [e1]
    omega

theorem idx4 : ∀ t : Fin cfg0.N, win0_4.index t (0 : Fin 4) = 0 ∧ win0_4.index t (1 : Fin 4) = t.val ∧ win0_4.index t (2 : Fin 4) = 0 ∧ win0_4.index t (3 : Fin 4) = 0 :=
  (by decide +kernel : ∀ t : Fin grid0.N, _)
/-- Window 4. -/
theorem win4 (i : S8x1x128x512.Idx) : ∃ E : S8x64x128x512.Idx, iblk m c 4 t i = rd (fun b => m (c, b)) main_v212 E
    ∧ (E 0).val = 0 * 8 + (i 0).val ∧ (E 1).val = t.val * 1 + (i 1).val ∧ (E 2).val = 0 * 128 + (i 2).val ∧ (E 3).val = 0 * 512 + (i 3).val := by
  obtain ⟨e0, e1, e2, e3⟩ := idx4 t
  refine ⟨((cfg0.win 4).blk t).view.emb i, ?_, ?_, ?_, ?_, ?_⟩
  · show ((cfg0.win 4).blk t).view.read (Elt Ideal) (V m c (Pipeline.arrRef spec0 4)) i = _
    rw [V_eq]
    rfl
  · show win0_4.index t (0 : Fin 4) * 8 + 1 * (i 0).val = _
    rw [e0]
    omega
  · show win0_4.index t (1 : Fin 4) * 1 + 1 * (i 1).val = _
    rw [e1]
    omega
  · show win0_4.index t (2 : Fin 4) * 128 + 1 * (i 2).val = _
    rw [e2]
    omega
  · show win0_4.index t (3 : Fin 4) * 512 + 1 * (i 3).val = _
    rw [e3]
    omega

theorem idx5 : ∀ t : Fin cfg0.N, win0_5.index t (0 : Fin 2) = t.val ∧ win0_5.index t (1 : Fin 2) = 1 :=
  (by decide +kernel : ∀ t : Fin grid0.N, _)
/-- Window 5. -/
theorem win5 (i : S128x1024.Idx) : ∃ E : S8192x2048.Idx, iblk m c 5 t i = rd (fun b => m (c, b)) main_v152 E
    ∧ (E 0).val = t.val * 128 + (i 0).val ∧ (E 1).val = 1 * 1024 + (i 1).val := by
  obtain ⟨e0, e1⟩ := idx5 t
  refine ⟨((cfg0.win 5).blk t).view.emb i, ?_, ?_, ?_⟩
  · show ((cfg0.win 5).blk t).view.read (Elt Ideal) (V m c (Pipeline.arrRef spec0 5)) i = _
    rw [V_eq]
    rfl
  · show win0_5.index t (0 : Fin 2) * 128 + 1 * (i 0).val = _
    rw [e0]
    omega
  · show win0_5.index t (1 : Fin 2) * 1024 + 1 * (i 1).val = _
    rw [e1]
    omega

theorem idx6 : ∀ t : Fin cfg0.N, win0_6.index t (0 : Fin 2) = 1 ∧ win0_6.index t (1 : Fin 2) = t.val :=
  (by decide +kernel : ∀ t : Fin grid0.N, _)
/-- Window 6. -/
theorem win6 (i : S64x128.Idx) : ∃ E : S128x8192.Idx, iblk m c 6 t i = rd (fun b => m (c, b)) main_v153 E
    ∧ (E 0).val = 1 * 64 + (i 0).val ∧ (E 1).val = t.val * 128 + (i 1).val := by
  obtain ⟨e0, e1⟩ := idx6 t
  refine ⟨((cfg0.win 6).blk t).view.emb i, ?_, ?_, ?_⟩
  · show ((cfg0.win 6).blk t).view.read (Elt Ideal) (V m c (Pipeline.arrRef spec0 6)) i = _
    rw [V_eq]
    rfl
  · show win0_6.index t (0 : Fin 2) * 64 + 1 * (i 0).val = _
    rw [e0]
    omega
  · show win0_6.index t (1 : Fin 2) * 128 + 1 * (i 1).val = _
    rw [e1]
    omega

theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)
/-- Window 7. -/
theorem win7 (i : S1x8x1024.Idx) : ∃ E : S64x8x1024.Idx, iblk m c 7 t i = rd (fun b => m (c, b)) main_v161 E
    ∧ (E 0).val = t.val * 1 + (i 0).val ∧ (E 1).val = 0 * 8 + (i 1).val ∧ (E 2).val = 0 * 1024 + (i 2).val := by
  obtain ⟨e0, e1, e2⟩ := idx7 t
  refine ⟨((cfg0.win 7).blk t).view.emb i, ?_, ?_, ?_, ?_⟩
  · show ((cfg0.win 7).blk t).view.read (Elt Ideal) (V m c (Pipeline.arrRef spec0 7)) i = _
    rw [V_eq]
    rfl
  · show win0_7.index t (0 : Fin 3) * 1 + 1 * (i 0).val = _
    rw [e0]
    omega
  · show win0_7.index t (1 : Fin 3) * 8 + 1 * (i 1).val = _
    rw [e1]
    omega
  · show win0_7.index t (2 : Fin 3) * 1024 + 1 * (i 2).val = _
    rw [e2]
    omega

theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)
/-- Window 8. -/
theorem win8 (i : S1x8x4096.Idx) : ∃ E : S64x8x4096.Idx, iblk m c 8 t i = rd (fun b => m (c, b)) main_v160 E
    ∧ (E 0).val = t.val * 1 + (i 0).val ∧ (E 1).val = 0 * 8 + (i 1).val ∧ (E 2).val = 0 * 4096 + (i 2).val := by
  obtain ⟨e0, e1, e2⟩ := idx8 t
  refine ⟨((cfg0.win 8).blk t).view.emb i, ?_, ?_, ?_, ?_⟩
  · show ((cfg0.win 8).blk t).view.read (Elt Ideal) (V m c (Pipeline.arrRef spec0 8)) i = _
    rw [V_eq]
    rfl
  · show win0_8.index t (0 : Fin 3) * 1 + 1 * (i 0).val = _
    rw [e0]
    omega
  · show win0_8.index t (1 : Fin 3) * 8 + 1 * (i 1).val = _
    rw [e1]
    omega
  · show win0_8.index t (2 : Fin 3) * 4096 + 1 * (i 2).val = _
    rw [e2]
    omega

theorem idx9 : ∀ t : Fin cfg0.N, win0_9.index t (0 : Fin 2) = 0 ∧ win0_9.index t (1 : Fin 2) = 0 :=
  (by decide +kernel : ∀ t : Fin grid0.N, _)
/-- Window 9. -/
theorem win9 (i : S128x512.Idx) : ∃ E : S128x512.Idx, iblk m c 9 t i = rd (fun b => m (c, b)) main_v27 E
    ∧ (E 0).val = 0 * 128 + (i 0).val ∧ (E 1).val = 0 * 512 + (i 1).val := by
  obtain ⟨e0, e1⟩ := idx9 t
  refine ⟨((cfg0.win 9).blk t).view.emb i, ?_, ?_, ?_⟩
  · show ((cfg0.win 9).blk t).view.read (Elt Ideal) (V m c (Pipeline.arrRef spec0 9)) i = _
    rw [V_eq]
    rfl
  · show win0_9.index t (0 : Fin 2) * 128 + 1 * (i 0).val = _
    rw [e0]
    omega
  · show win0_9.index t (1 : Fin 2) * 512 + 1 * (i 1).val = _
    rw [e1]
    omega

theorem idx10 : ∀ t : Fin cfg0.N, win0_10.index t (0 : Fin 2) = 0 ∧ win0_10.index t (1 : Fin 2) = 0 :=
  (by decide +kernel : ∀ t : Fin grid0.N, _)
/-- Window 10. -/
theorem win10 (i : S128x1024.Idx) : ∃ E : S128x1024.Idx, iblk m c 10 t i = rd (fun b => m (c, b)) main_v44 E
    ∧ (E 0).val = 0 * 128 + (i 0).val ∧ (E 1).val = 0 * 1024 + (i 1).val := by
  obtain ⟨e0, e1⟩ := idx10 t
  refine ⟨((cfg0.win 10).blk t).view.emb i, ?_, ?_, ?_⟩
  · show ((cfg0.win 10).blk t).view.read (Elt Ideal) (V m c (Pipeline.arrRef spec0 10)) i = _
    rw [V_eq]
    rfl
  · show win0_10.index t (0 : Fin 2) * 128 + 1 * (i 0).val = _
    rw [e0]
    omega
  · show win0_10.index t (1 : Fin 2) * 1024 + 1 * (i 1).val = _
    rw [e1]
    omega

theorem idx11 : ∀ t : Fin cfg0.N, win0_11.index t (0 : Fin 2) = 0 ∧ win0_11.index t (1 : Fin 2) = 0 :=
  (by decide +kernel : ∀ t : Fin grid0.N, _)
/-- Window 11. -/
theorem win11 (i : S128x512.Idx) : ∃ E : S128x512.Idx, iblk m c 11 t i = rd (fun b => m (c, b)) main_v61 E
    ∧ (E 0).val = 0 * 128 + (i 0).val ∧ (E 1).val = 0 * 512 + (i 1).val := by
  obtain ⟨e0, e1⟩ := idx11 t
  refine ⟨((cfg0.win 11).blk t).view.emb i, ?_, ?_, ?_⟩
  · show ((cfg0.win 11).blk t).view.read (Elt Ideal) (V m c (Pipeline.arrRef spec0 11)) i = _
    rw [V_eq]
    rfl
  · show win0_11.index t (0 : Fin 2) * 128 + 1 * (i 0).val = _
    rw [e0]
    omega
  · show win0_11.index t (1 : Fin 2) * 512 + 1 * (i 1).val = _
    rw [e1]
    omega

theorem idx12 : ∀ t : Fin cfg0.N, win0_12.index t (0 : Fin 2) = 0 ∧ win0_12.index t (1 : Fin 2) = 0 :=
  (by decide +kernel : ∀ t : Fin grid0.N, _)
/-- Window 12. -/
theorem win12 (i : S128x512.Idx) : ∃ E : S128x512.Idx, iblk m c 12 t i = rd (fun b => m (c, b)) main_v78 E
    ∧ (E 0).val = 0 * 128 + (i 0).val ∧ (E 1).val = 0 * 512 + (i 1).val := by
  obtain ⟨e0, e1⟩ := idx12 t
  refine ⟨((cfg0.win 12).blk t).view.emb i, ?_, ?_, ?_⟩
  · show ((cfg0.win 12).blk t).view.read (Elt Ideal) (V m c (Pipeline.arrRef spec0 12)) i = _
    rw [V_eq]
    rfl
  · show win0_12.index t (0 : Fin 2) * 128 + 1 * (i 0).val = _
    rw [e0]
    omega
  · show win0_12.index t (1 : Fin 2) * 512 + 1 * (i 1).val = _
    rw [e1]
    omega

theorem idx13 : ∀ t : Fin cfg0.N, win0_13.index t (0 : Fin 2) = 0 ∧ win0_13.index t (1 : Fin 2) = 0 :=
  (by decide +kernel : ∀ t : Fin grid0.N, _)
/-- Window 13. -/
theorem win13 (i : S512x128.Idx) : ∃ E : S512x128.Idx, iblk m c 13 t i = rd (fun b => m (c, b)) main_v10 E
    ∧ (E 0).val = 0 * 512 + (i 0).val ∧ (E 1).val = 0 * 128 + (i 1).val := by
  obtain ⟨e0, e1⟩ := idx13 t
  refine ⟨((cfg0.win 13).blk t).view.emb i, ?_, ?_, ?_⟩
  · show ((cfg0.win 13).blk t).view.read (Elt Ideal) (V m c (Pipeline.arrRef spec0 13)) i = _
    rw [V_eq]
    rfl
  · show win0_13.index t (0 : Fin 2) * 512 + 1 * (i 0).val = _
    rw [e0]
    omega
  · show win0_13.index t (1 : Fin 2) * 128 + 1 * (i 1).val = _
    rw [e1]
    omega

include h0 h1 h2 h3 h4 hz in
theorem chunk : Chunk r0 r1 r2 r3 r4 (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) z := by
  constructor
  case w0 =>
    intro i
    obtain ⟨E, e, e0, e1⟩ := win0 m c t i
    rw [e, h0 E, show E 0 = tok z (i 0) from Fin.ext (by show _ = 128 * z.val + (i 0).val; omega)]
    exact congrArg (fun k => ((r0 (tok z (i 0)) k : ℝ) : EReal)) (Fin.ext (by show (E 1).val = (i 1).val; omega))
  case w1 =>
    intro i k hk
    obtain ⟨E, e, e0, e1⟩ := win1 m c t i
    rw [e, h0 E, show E 0 = tok z (i 0) from Fin.ext (by show _ = 128 * z.val + (i 0).val; omega)]
    exact congrArg (fun k => ((r0 (tok z (i 0)) k : ℝ) : EReal)) (Fin.ext (by omega))
  case w2 =>
    intro i k hk
    obtain ⟨E, e, e0, e1⟩ := win2 m c t i
    rw [e, h0 E, show E 0 = tok z (i 0) from Fin.ext (by show _ = 128 * z.val + (i 0).val; omega)]
    exact congrArg (fun k => ((r0 (tok z (i 0)) k : ℝ) : EReal)) (Fin.ext (by omega))
  case w3 =>
    intro i
    obtain ⟨E, e, e0, e1⟩ := win3 m c t i
    rw [e, h1 E, show E 0 = tok z (i 0) from Fin.ext (by show _ = 128 * z.val + (i 0).val; omega)]
    exact congrArg (fun k => ((r1 (tok z (i 0)) k : ℝ) : EReal)) (Fin.ext (by omega))
  case w4 =>
    intro i
    obtain ⟨E, e, e0, e1, e2, e3⟩ := win4 m c t i
    have i1 : (i 1).val < 1 := (i 1).isLt
    have q0 : E 0 = i 0 := Fin.ext (by omega)
    have q1 : E 1 = z := Fin.ext (by omega)
    have q2 : E 2 = i 2 := Fin.ext (by omega)
    have q3 : E 3 = i 3 := Fin.ext (by omega)
    refine (e.trans (states h0 h2 h3 h4 E)).trans ?_
    show ((Rev.h (bA r2 r3 r4 (E 0) (hd (E 3))) (bU r0 r2 r3 (E 0) (hd (E 3))) (bB r0 (E 0)) (E 1).rev (pd (E 3)) (E 2) : ℝ) : EReal) = _
    rw [q0, q1, q2, q3]
    rfl
  case w5 =>
    intro i g n hi
    obtain ⟨E, e, e0, e1⟩ := win5 m c t i
    rw [e, quantities h2 h3 h4 E g n (by omega), show E 0 = tok z (i 0) from Fin.ext (by show _ = 128 * z.val + (i 0).val; omega)]
  case w6 =>
    intro i k hk
    obtain ⟨E, e, e0, e1⟩ := win6 m c t i
    rw [e, gam_t h2 h3 h4 E (by omega), show E 1 = tok z (i 1) from Fin.ext (by show _ = 128 * z.val + (i 1).val; omega),
      show E 0 = k from Fin.ext (by omega)]
    exact congrArg _ (qv_gam r2 r3 r4 z (i 1) k)
  case w7 =>
    intro i g n hi
    obtain ⟨E, e, e0, e1, e2⟩ := win7 m c t i
    have i0 : (i 0).val < 1 := (i 0).isLt
    rw [e, etot_g h2 h3 h4 E g n (by omega), show E 0 = z from Fin.ext (by omega)]
  case w8 =>
    intro i
    obtain ⟨E, e, e0, e1, e2⟩ := win8 m c t i
    have i0 : (i 0).val < 1 := (i 0).isLt
    rw [e, etot_x h2 h3 h4 E, show E 0 = z from Fin.ext (by omega), show E 2 = i 2 from Fin.ext (by omega)]
  case w9 =>
    intro i
    obtain ⟨E, e, e0, e1⟩ := win9 m c t i
    rw [e, ex_dt _ E, show (E 0).val = (i 0).val by omega, show (E 1).val = (i 1).val by omega]
  case w10 =>
    intro i
    obtain ⟨E, e, e0, e1⟩ := win10 m c t i
    rw [e, ex_gam _ E, show (E 0).val = (i 0).val by omega, show (E 1).val = (i 1).val by omega]
  case w11 =>
    intro i
    obtain ⟨E, e, e0, e1⟩ := win11 m c t i
    rw [e, ex_din _ E, show (E 0).val = (i 0).val by omega, show (E 1).val = (i 1).val by omega]
  case w12 =>
    intro i
    obtain ⟨E, e, e0, e1⟩ := win12 m c t i
    rw [e, ex_dst _ E, show (E 0).val = (i 0).val by omega, show (E 1).val = (i 1).val by omega]
  case w13 =>
    intro i
    obtain ⟨E, e, e0, e1⟩ := win13 m c t i
    rw [e, sel _ E, show (E 0).val = (i 0).val by omega, show (E 1).val = (i 1).val by omega]

end
end Scan.Launch
-- ==== Proof.Outs.lean ====
module

public import proofs.«01_k».proof.Proof.Points
public import proofs.«01_k».proof.Proof.Ops
public import proofs.«01_k».proof.Proof.Data
public import Idealize.ShloMosaic.Lib.WritesUnit

/-!
# What a point leaves, index by index

Each output of a point is, at an index, the result of the group that owns it.
-/

@[expose] public section

set_option maxRecDepth 16384

namespace Scan.Body
open Idealize.ShloMosaic Idealize.ShloMosaic.TcCoe Cert.KernelIdeal Cert.KernelIdeal.Gen

noncomputable section

/-- The pair of a column of `X` in its group, and the column's place in the pair's block. -/
def xq (c : Fin 4096) : Fin 4 := ⟨c.val % 512 / 128, by omega⟩
def xm (c : Fin 4096) : Fin 128 := ⟨c.val % 128, by omega⟩
def kq (c : Fin 512) : Fin 4 := ⟨c.val / 128, by omega⟩
def km (c : Fin 512) : Fin 128 := ⟨c.val % 128, by omega⟩

/-- The products with the inputs, over a group's columns. -/
def In.tmpAll (I : In) : FVec Ideal S128x512 .f32 := fun i => I.tmp (kq (i 1)) (ix2 (i 0) (km (i 1)))

theorem emb_val {s : Shape} (off size : Fin s.rank → ℕ) (inb : ∀ a, off a + size a ≤ s.size a)
    (x : (Rect.unit off size inb).shape.Idx) (a : Fin s.rank) : ((Rect.unit off size inb).emb x a).val = off a + (x a).val := by
  show off a + 1 * (x a).val = _
  rw [Nat.one_mul]

section reads
variable {e : EltTy}

theorem at8 (f : Fin 8 → S128x128.Idx → Elt Ideal e) (y : S128x1024.Idx)
    (hc : ∃ p ∈ eights (fun g => (⟨Rect.unit (s := S128x1024) ![0, 128 * g.val] S128x128.size (inB g), f g⟩ : View.Piece (Elt Ideal) S128x1024 e)),
      y ∈ p.1.set) :
    View.canon (eights (fun g => (⟨Rect.unit (s := S128x1024) ![0, 128 * g.val] S128x128.size (inB g), f g⟩ : View.Piece (Elt Ideal) S128x1024 e))) y
      = f (bg (y 1)) (ix2 (y 0) (bn (y 1))) := by
  refine View.canon_apply_of_pieces (fun y : S128x1024.Idx => f (bg (y 1)) (ix2 (y 0) (bn (y 1)))) _
    (eights_all _ (fun p : View.Piece (Elt Ideal) S128x1024 e => ∀ x : p.1.shape.Idx, p.2 x = f (bg (p.1.emb x 1)) (ix2 (p.1.emb x 0) (bn (p.1.emb x 1)))) fun g x => ?_) y hc
  have hx : (x 1).val < 128 := (x 1).isLt
  have key : ∀ E : S128x1024.Idx, (E 0).val = 0 + (x 0).val → (E 1).val = 128 * g.val + (x 1).val →
      f g x = f (bg (E 1)) (ix2 (E 0) (bn (E 1))) := by
    intro E v0 v1
    have e0 : E 0 = x 0 := Fin.ext (v0.trans (Nat.zero_add _))
    have e1 : bg (E 1) = g := Fin.ext (by unfold bg; simp only; omega)
    have e2 : bn (E 1) = x 1 := Fin.ext (by unfold bn; simp only; omega)
    rw [e1, e2, e0]
    exact congrArg (f g) (idx2 x)
  exact key _ (emb_val (s := S128x1024) ![0, 128 * g.val] S128x128.size (inB g) x 0) (emb_val (s := S128x1024) ![0, 128 * g.val] S128x128.size (inB g) x 1)

theorem row4_all (I : Fin 8 → In) (P : View.Piece (Elt Ideal) S128x4096 .bf16 → Prop) (h : ∀ g p, P (tile I g p)) (g : Fin 8)
    (L : List (View.Piece (Elt Ideal) S128x4096 .bf16)) (hL : ∀ q ∈ L, P q) : ∀ q ∈ row4 I g L, P q := by
  intro q hq
  simp only [row4, List.mem_cons] at hq
  rcases hq with rfl | rfl | rfl | rfl | hq
  · exact h _ _
  · exact h _ _
  · exact h _ _
  · exact h _ _
  · exact hL q hq

theorem at14 (I : Fin 8 → In) (y : S128x4096.Idx) (hc : ∃ p ∈ list14 I, y ∈ p.1.set) :
    View.canon (list14 I) y = (I (xg (y 1))).dxs (xq (y 1)) (ix2 (y 0) (xm (y 1))) := by
  have h : ∀ g p, (fun q : View.Piece (Elt Ideal) S128x4096 .bf16 => ∀ x : q.1.shape.Idx, q.2 x
      = (I (xg (q.1.emb x 1))).dxs (xq (q.1.emb x 1)) (ix2 (q.1.emb x 0) (xm (q.1.emb x 1)))) (tile I g p) := by
    intro g p (x : S128x128.Idx)
    have hx : (x 1).val < 128 := (x 1).isLt
    have key : ∀ E : S128x4096.Idx, (E 0).val = 0 + (x 0).val → (E 1).val = 512 * g.val + 128 * p.val + (x 1).val →
        (I g).dxs p x = (I (xg (E 1))).dxs (xq (E 1)) (ix2 (E 0) (xm (E 1))) := by
      intro E v0 v1
      have e0 : E 0 = x 0 := Fin.ext (v0.trans (Nat.zero_add _))
      have e1 : xg (E 1) = g := Fin.ext (by unfold xg; simp only; omega)
      have e3 : xq (E 1) = p := Fin.ext (by unfold xq; simp only; omega)
      have e2 : xm (E 1) = x 1 := Fin.ext (by unfold xm; simp only; omega)
      rw [e1, e2, e3, e0]
      exact congrArg ((I g).dxs p) (idx2 x)
    exact key _ (emb_val (s := S128x4096) ![0, 512 * g.val + 128 * p.val] S128x128.size (inO g p) x 0) (emb_val (s := S128x4096) ![0, 512 * g.val + 128 * p.val] S128x128.size (inO g p) x 1)
  refine View.canon_apply_of_pieces (fun y : S128x4096.Idx => (I (xg (y 1))).dxs (xq (y 1)) (ix2 (y 0) (xm (y 1)))) _ ?_ y hc
  exact row4_all I _ h _ _ (row4_all I _ h _ _ (row4_all I _ h _ _ (row4_all I _ h _ _ (row4_all I _ h _ _
    (row4_all I _ h _ _ (row4_all I _ h _ _ (row4_all I _ h _ _ (fun q hq => absurd hq List.not_mem_nil))))))))

theorem atD (I : Fin 8 → In) (y : S8x128x512.Idx) (hc : ∃ p ∈ listD I, y ∈ p.1.set) :
    View.canon (listD I) y = (I (y 0)).next (ix3 (0 : Fin 1) (y 1) (y 2)) := by
  refine View.canon_apply_of_pieces (fun y : S8x128x512.Idx => (I (y 0)).next (ix3 (0 : Fin 1) (y 1) (y 2))) _
    (eights_all _ (fun p : View.Piece (Elt Ideal) S8x128x512 .f32 => ∀ x : p.1.shape.Idx, p.2 x = (I (p.1.emb x 0)).next (ix3 (0 : Fin 1) (p.1.emb x 1) (p.1.emb x 2))) fun g x => ?_) y hc
  have v0 := emb_val (s := S8x128x512) ![g.val, 0, 0] S1x128x512.size (inD g) x 0
  have v1 := emb_val (s := S8x128x512) ![g.val, 0, 0] S1x128x512.size (inD g) x 1
  have v2 := emb_val (s := S8x128x512) ![g.val, 0, 0] S1x128x512.size (inD g) x 2
  have hx : (x 0).val < 1 := (x 0).isLt
  change (((Rect.unit (s := S8x128x512) ![g.val, 0, 0] S1x128x512.size (inD g)).emb x 0).val : ℕ) = g.val + (x 0).val at v0
  change (((Rect.unit (s := S8x128x512) ![g.val, 0, 0] S1x128x512.size (inD g)).emb x 1).val : ℕ) = 0 + (x 1).val at v1
  change (((Rect.unit (s := S8x128x512) ![g.val, 0, 0] S1x128x512.size (inD g)).emb x 2).val : ℕ) = 0 + (x 2).val at v2
  have e0 : (Rect.unit (s := S8x128x512) ![g.val, 0, 0] S1x128x512.size (inD g)).emb x 0 = g := Fin.ext (by rw [v0]; omega)
  have e1 : (Rect.unit (s := S8x128x512) ![g.val, 0, 0] S1x128x512.size (inD g)).emb x 1 = x 1 := Fin.ext (by rw [v1]; exact Nat.zero_add _)
  have e2 : (Rect.unit (s := S8x128x512) ![g.val, 0, 0] S1x128x512.size (inD g)).emb x 2 = x 2 := Fin.ext (by rw [v2]; exact Nat.zero_add _)
  show (I g).next x = (I _).next (ix3 (0 : Fin 1) _ _)
  rw [e0, e1, e2]
  refine congrArg (I g).next (funext fun a => ?_)
  match a with
  | ⟨0, _⟩ => exact Fin.ext (by show (x 0).val = 0; omega)
  | ⟨1, _⟩ => rfl
  | ⟨2, _⟩ => rfl

end reads

variable (c : Dev nD) (i : grid0.Coords) (arg2 : Memref sig .tc .vmem S128x4096 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x4096 .bf16) (harg5 : arg5.IsWhole) (arg6 : Memref sig .tc .vmem S8x1x128x512 .f32) (harg6 : arg6.IsWhole) (arg7 : Memref sig .tc .vmem S128x1024 .bf16) (harg7 : arg7.IsWhole) (arg8 : Memref sig .tc .vmem S64x128 .f32) (harg8 : arg8.IsWhole) (arg9 : Memref sig .tc .vmem S1x8x1024 .f32) (harg9 : arg9.IsWhole) (arg10 : Memref sig .tc .vmem S1x8x4096 .f32) (harg10 : arg10.IsWhole) (arg11 : Memref sig .tc .vmem S128x512 .bf16) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S128x512 .bf16) (harg14 : arg14.IsWhole) (arg15 : Memref sig .tc .vmem S512x128 .bf16) (harg15 : arg15.IsWhole) (arg16 : Memref sig .tc .vmem S128x4096 .bf16) (harg16 : arg16.IsWhole) (arg17 : Memref sig .tc .vmem S128x1024 .bf16) (harg17 : arg17.IsWhole) (arg18 : Memref sig .tc .vmem S128x1024 .bf16) (harg18 : arg18.IsWhole) (arg19 : Memref sig .tc .vmem S128x1024 .f32) (harg19 : arg19.IsWhole) (arg20 : Memref sig .tc .vmem S128x1024 .f32) (harg20 : arg20.IsWhole) (arg21 : Memref sig .tc .vmem S8x128x512 .f32) (harg21 : arg21.IsWhole) (arg22 : Memref sig .tc .vmem S128x512 .f32) (harg22 : arg22.IsWhole)
variable (x0 : Vec Ideal S128x4096 .bf16) (x1 : Vec Ideal S128x1024 .bf16) (x2 : Vec Ideal S128x1024 .bf16) (x3 : Vec Ideal S128x4096 .bf16) (x4 : Vec Ideal S8x1x128x512 .f32) (x5 : Vec Ideal S128x1024 .bf16) (x6 : Vec Ideal S64x128 .f32) (x7 : Vec Ideal S1x8x1024 .f32) (x8 : Vec Ideal S1x8x4096 .f32) (x9 : Vec Ideal S128x512 .bf16) (x10 : Vec Ideal S128x1024 .bf16) (x11 : Vec Ideal S128x512 .bf16) (x12 : Vec Ideal S128x512 .bf16) (x13 : Vec Ideal S512x128 .bf16) (xs0 : Vec Ideal S8x128x512 .f32)

theorem held_in (I : Fin 8 → In) (g : Fin 8) (y : S128x512.Idx) (p : Fin 4) (L : List (View.Piece (Elt Ideal) S128x512 .f32)) (hp : (y 1).val / 128 = p.val) :
    arg22.view.read (Elt Ideal) (arg22.view.writes (Elt Ideal) arg22.view.junk
      ((⟨Rect.unit (s := S128x512) ![0, 128 * p.val] S128x128.size (inT p), (I g).tmp p⟩ : View.Piece (Elt Ideal) S128x512 .f32) :: L)) y
      = (I g).tmpAll y := by
  have hk : kq (y 1) = p := Fin.ext hp
  refine (View.read_writes_cons_unit_of_mem (off := ![0, 128 * p.val]) (off' := ![0, 128 * p.val]) (size := S128x128.size) arg22.view _
    (inT p) ((I g).tmp p) L y (ix2 (y 0) (km (y 1)) : S128x128.Idx) rfl (fun a => ?_)).trans ?_
  · match a with
    | ⟨0, _⟩ => exact (Nat.zero_add _).symm
    | ⟨1, _⟩ => show (y 1).val = 128 * p.val + (y 1).val % 128; omega
  · unfold In.tmpAll
    rw [hk]

theorem held_out (y : S128x512.Idx) (p : Fin 4) (w : FVec Ideal S128x128 .f32) (L : List (View.Piece (Elt Ideal) S128x512 .f32)) (hp : ¬ (y 1).val / 128 = p.val) :
    arg22.view.read (Elt Ideal) (arg22.view.writes (Elt Ideal) arg22.view.junk
      ((⟨Rect.unit (s := S128x512) ![0, 128 * p.val] S128x128.size (inT p), w⟩ : View.Piece (Elt Ideal) S128x512 .f32) :: L)) y
      = arg22.view.read (Elt Ideal) (arg22.view.writes (Elt Ideal) arg22.view.junk L) y := by
  have ha : (y 1).val < 128 * p.val ∨ 128 * p.val + 128 ≤ (y 1).val := by omega
  refine (View.read_writes_cons_unit_of_not_mem _ _ (inT p) _ _ y rfl 1 ?_).trans ?_
  · exact ha
  · rfl

theorem held_read (I : Fin 8 → In) (k : ℕ) (y : S128x512.Idx) :
    arg22.view.read (Elt Ideal) (arg22.view.writes (Elt Ideal) arg22.view.junk (held I (k + 1))) y = (I (Fin.ofNat 8 k)).tmpAll y := by
  have hy : (y 1).val < 512 := (y 1).isLt
  unfold held
  by_cases h3 : (y 1).val / 128 = (3 : Fin 4).val
  · exact held_in arg22 I _ y 3 _ h3
  refine (held_out arg22 y 3 _ _ h3).trans ?_
  by_cases h2 : (y 1).val / 128 = (2 : Fin 4).val
  · exact held_in arg22 I _ y 2 _ h2
  refine (held_out arg22 y 2 _ _ h2).trans ?_
  by_cases h1 : (y 1).val / 128 = (1 : Fin 4).val
  · exact held_in arg22 I _ y 1 _ h1
  refine (held_out arg22 y 1 _ _ h1).trans ?_
  refine held_in arg22 I _ y 0 _ ?_
  have q3 : ¬ (y 1).val / 128 = 3 := h3
  have q2 : ¬ (y 1).val / 128 = 2 := h2
  have q1 : ¬ (y 1).val / 128 = 1 := h1
  show (y 1).val / 128 = 0
  omega

/-- What a group reads back of the second scratch is what it wrote there. -/
theorem taken_eq (I : Fin 8 → In) (g : Fin 8) : taken arg22 I g = (I g).tmpAll := by
  have hg : Fin.ofNat 8 g.val = g := Fin.ext (Nat.mod_eq_of_lt g.isLt)
  funext y
  unfold taken View.readCov
  rw [View.readAt_apply]
  have e : (Rect.unit (s := S128x512) ![0, 0] S128x512.size inb_S128x512_S128x512_0_0).toLoadRect.idx y = y := by
    funext a
    refine Fin.ext ((emb_val (s := S128x512) ![0, 0] S128x512.size inb_S128x512_S128x512_0_0 y a).trans ?_)
    match a with
    | ⟨0, _⟩ => exact Nat.zero_add _
    | ⟨1, _⟩ => exact Nat.zero_add _
  refine (congrArg _ e).trans ?_
  rw [held_read, hg]

/-- The first scratch at a first point, once `k` groups are done. -/
theorem heldD_read (k : ℕ) (hk : k ≤ 8) (y : S8x128x512.Idx) :
    arg21.view.read (Elt Ideal) (arg21.view.writes (Elt Ideal) arg21.view.junk (heldD arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 k)) y
      = if (y 0).val < k then (load arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 (y 0) (fresh arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 (y 0))).next (ix3 (0 : Fin 1) (y 1) (y 2)) else (0 : EReal) := by
  induction k with
  | zero =>
    rw [if_neg (Nat.not_lt_zero _)]
    refine (View.read_writes_cons_unit_of_mem _ _ inb_S8x128x512_S8x128x512_0_0_0 _ [] y y rfl (fun a => match a with
      | ⟨0, _⟩ => (Nat.zero_add _).symm
      | ⟨1, _⟩ => (Nat.zero_add _).symm
      | ⟨2, _⟩ => (Nat.zero_add _).symm)).trans ?_
    rw [shapeCast_self]
    exact zero32
  | succ k ih =>
    have hv : (Fin.ofNat 8 k).val = k := Nat.mod_eq_of_lt (by omega)
    by_cases q : (y 0).val = k
    · rw [if_pos (by omega)]
      have hf : Fin.ofNat 8 k = y 0 := Fin.ext (hv.trans q.symm)
      refine (View.read_writes_cons_unit_of_mem _ _ (inD (Fin.ofNat 8 k)) _ _ y (ix3 (0 : Fin 1) (y 1) (y 2)) rfl (fun a => match a with
        | ⟨0, _⟩ => by show (y 0).val = (Fin.ofNat 8 k).val + 0; omega
        | ⟨1, _⟩ => (Nat.zero_add _).symm
        | ⟨2, _⟩ => (Nat.zero_add _).symm)).trans ?_
      subst q
      exact congrArg (fun g : Fin 8 => (load arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 g (arg21.view.readCov (heldD arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 (y 0).val)
        (Rect.unit (s := S8x128x512) ![g.val, 0, 0] S1x128x512.size (inD g)).toLoadRect)).next (ix3 (0 : Fin 1) (y 1) (y 2))) hf
    · refine (View.read_writes_cons_unit_of_not_mem _ _ (inD (Fin.ofNat 8 k)) _ _ y rfl 0 (by
        show (y 0).val < (Fin.ofNat 8 k).val ∨ (Fin.ofNat 8 k).val + 1 ≤ (y 0).val; omega)).trans ?_
      rw [ih (by omega)]
      by_cases r : (y 0).val < k
      · rw [if_pos r, if_pos (by omega)]
      · rw [if_neg r, if_neg (by omega)]

theorem fresh_eq (g : Fin 8) : fresh arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 g = fun _ => (0 : EReal) := by
  funext x
  show arg21.view.readAt (Elt Ideal) (Rect.unit (s := S8x128x512) ![g.val, 0, 0] S1x128x512.size (inD g)).toLoadRect (arg21.view.writes (Elt Ideal) arg21.view.junk (heldD arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 g.val)) x = _
  rw [View.readAt_apply, heldD_read arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 g.val g.isLt.le]
  have v0 := emb_val (s := S8x128x512) ![g.val, 0, 0] S1x128x512.size (inD g) x 0
  change (((Rect.unit (s := S8x128x512) ![g.val, 0, 0] S1x128x512.size (inD g)).toLoadRect.idx x 0).val : ℕ) = g.val + (x 0).val at v0
  exact if_neg (by omega)

/-- The state gradient group `g` finds at a later point. -/
def kept (g : Fin 8) : FVec Ideal S1x128x512 .f32 := View.ld xs0 (Rect.unit (s := S8x128x512) ![g.val, 0, 0] S1x128x512.size (inD g))

theorem carried_eq (g : Fin 8) : carried arg21 harg21 xs0 g = kept xs0 g := by
  unfold carried kept
  simp only [View.readAt_eq_ld, Memref.IsWhole.read_unread]

/-- A point's groups. -/
def group (D : Fin 8 → FVec Ideal S1x128x512 .f32) (g : Fin 8) : In := blocks x0 x1 x2 x3 x4 x5 x6 x7 x8 x9 x10 x11 x12 x13 g (D g)

theorem groupA : (fun g => load arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 g (fresh arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 g)) = group x0 x1 x2 x3 x4 x5 x6 x7 x8 x9 x10 x11 x12 x13 (fun _ _ => (0 : EReal)) :=
  funext fun g => by rw [load_eq, fresh_eq]; rfl
theorem groupB : (fun g => load arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 g (carried arg21 harg21 xs0 g)) = group x0 x1 x2 x3 x4 x5 x6 x7 x8 x9 x10 x11 x12 x13 (kept xs0) :=
  funext fun g => by rw [load_eq, carried_eq]; rfl

theorem out_B_14 (hc0 : ¬cond0_0 i) (y : S128x4096.Idx) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 y = ((group x0 x1 x2 x3 x4 x5 x6 x7 x8 x9 x10 x11 x12 x13 (kept xs0)) (xg (y 1))).dxs (xq (y 1)) (ix2 (y 0) (xm (y 1))) := by
  have hl := (B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 xs0 hc0).trans (congrArg (fun I => list14 I) (groupB arg2 harg2 arg3 harg3 arg4 harg4 arg5 harg5 arg6 harg6 arg7 harg7 arg8 harg8 arg9 harg9 arg10 harg10 arg11 harg11 arg12 harg12 arg13 harg13 arg14 harg14 arg15 harg15 arg21 harg21 x0 x1 x2 x3 x4 x5 x6 x7 x8 x9 x10 x11 x12 x13 xs0))
  have hc : ∀ y, ∃ p ∈ list14 (group x0 x1 x2 x3 x4 x5 x6 x7 x8 x9 x10 x11 x12 x13 (kept xs0)), y ∈ p.1.set := fun y => hl ▸ cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 y
  unfold out0_B_14
  rw [hl, View.read_writes_eq_canon _ _ _ hc]
  exact at14 _ y (hc y)

theorem out_B_15 (hc0 : ¬cond0_0 i) (y : S128x1024.Idx) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 y = ((group x0 x1 x2 x3 x4 x5 x6 x7 x8 x9 x10 x11 x12 x13 (kept xs0)) (bg (y 1))).dB (ix2 (y 0) (bn (y 1))) := by
  have hl := (B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 xs0 hc0).trans (congrArg (fun I => list15 I) (groupB arg2 harg2 arg3 harg3 arg4 harg4 arg5 harg5 arg6 harg6 arg7 harg7 arg8 harg8 arg9 harg9 arg10 harg10 arg11 harg11 arg12 harg12 arg13 harg13 arg14 harg14 arg15 harg15 arg21 harg21 x0 x1 x2 x3 x4 x5 x6 x7 x8 x9 x10 x11 x12 x13 xs0))
  have hc : ∀ y, ∃ p ∈ list15 (group x0 x1 x2 x3 x4 x5 x6 x7 x8 x9 x10 x11 x12 x13 (kept xs0)), y ∈ p.1.set := fun y => hl ▸ cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 y
  unfold out0_B_15
  rw [hl, View.read_writes_eq_canon _ _ _ hc]
  exact at8 (e := .bf16) (fun g => ((group x0 x1 x2 x3 x4 x5 x6 x7 x8 x9 x10 x11 x12 x13 (kept xs0)) g).dB) y (hc y)

theorem out_B_16 (hc0 : ¬cond0_0 i) (y : S128x1024.Idx) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 y = ((group x0 x1 x2 x3 x4 x5 x6 x7 x8 x9 x10 x11 x12 x13 (kept xs0)) (bg (y 1))).dC (ix2 (y 0) (bn (y 1))) := by
  have hl := (B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 xs0 hc0).trans (congrArg (fun I => list16 I) (groupB arg2 harg2 arg3 harg3 arg4 harg4 arg5 harg5 arg6 harg6 arg7 harg7 arg8 harg8 arg9 harg9 arg10 harg10 arg11 harg11 arg12 harg12 arg13 harg13 arg14 harg14 arg15 harg15 arg21 harg21 x0 x1 x2 x3 x4 x5 x6 x7 x8 x9 x10 x11 x12 x13 xs0))
  have hc : ∀ y, ∃ p ∈ list16 (group x0 x1 x2 x3 x4 x5 x6 x7 x8 x9 x10 x11 x12 x13 (kept xs0)), y ∈ p.1.set := fun y => hl ▸ cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 y
  unfold out0_B_16
  rw [hl, View.read_writes_eq_canon _ _ _ hc]
  exact at8 (e := .bf16) (fun g => ((group x0 x1 x2 x3 x4 x5 x6 x7 x8 x9 x10 x11 x12 x13 (kept xs0)) g).dC) y (hc y)

theorem out_B_17 (hc0 : ¬cond0_0 i) (y : S128x1024.Idx) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 y = ((group x0 x1 x2 x3 x4 x5 x6 x7 x8 x9 x10 x11 x12 x13 (kept xs0)) (bg (y 1))).ddt ((group x0 x1 x2 x3 x4 x5 x6 x7 x8 x9 x10 x11 x12 x13 (kept xs0)) (bg (y 1))).tmpAll (ix2 (y 0) (bn (y 1))) := by
  have hl := (B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 xs0 hc0).trans (congrArg (fun I => list17 I (taken arg22 I)) (groupB arg2 harg2 arg3 harg3 arg4 harg4 arg5 harg5 arg6 harg6 arg7 harg7 arg8 harg8 arg9 harg9 arg10 harg10 arg11 harg11 arg12 harg12 arg13 harg13 arg14 harg14 arg15 harg15 arg21 harg21 x0 x1 x2 x3 x4 x5 x6 x7 x8 x9 x10 x11 x12 x13 xs0))
  dsimp only at hl
  rw [show taken arg22 (group x0 x1 x2 x3 x4 x5 x6 x7 x8 x9 x10 x11 x12 x13 (kept xs0)) = fun g => ((group x0 x1 x2 x3 x4 x5 x6 x7 x8 x9 x10 x11 x12 x13 (kept xs0)) g).tmpAll from funext fun g => taken_eq arg22 _ g] at hl
  have hc : ∀ y, ∃ p ∈ list17 (group x0 x1 x2 x3 x4 x5 x6 x7 x8 x9 x10 x11 x12 x13 (kept xs0)) (fun g => ((group x0 x1 x2 x3 x4 x5 x6 x7 x8 x9 x10 x11 x12 x13 (kept xs0)) g).tmpAll), y ∈ p.1.set := fun y => hl ▸ cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 y
  unfold out0_B_17
  rw [hl, View.read_writes_eq_canon _ _ _ hc]
  exact at8 (e := .f32) (fun g => ((group x0 x1 x2 x3 x4 x5 x6 x7 x8 x9 x10 x11 x12 x13 (kept xs0)) g).ddt ((group x0 x1 x2 x3 x4 x5 x6 x7 x8 x9 x10 x11 x12 x13 (kept xs0)) g).tmpAll) y (hc y)

theorem out_B_18 (hc0 : ¬cond0_0 i) (y : S128x1024.Idx) :
    out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 y = ((group x0 x1 x2 x3 x4 x5 x6 x7 x8 x9 x10 x11 x12 x13 (kept xs0)) (bg (y 1))).da (ix2 (y 0) (bn (y 1))) := by
  have hl := (B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 xs0 hc0).trans (congrArg (fun I => list18 I) (groupB arg2 harg2 arg3 harg3 arg4 harg4 arg5 harg5 arg6 harg6 arg7 harg7 arg8 harg8 arg9 harg9 arg10 harg10 arg11 harg11 arg12 harg12 arg13 harg13 arg14 harg14 arg15 harg15 arg21 harg21 x0 x1 x2 x3 x4 x5 x6 x7 x8 x9 x10 x11 x12 x13 xs0))
  have hc : ∀ y, ∃ p ∈ list18 (group x0 x1 x2 x3 x4 x5 x6 x7 x8 x9 x10 x11 x12 x13 (kept xs0)), y ∈ p.1.set := fun y => hl ▸ cover0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 y
  unfold out0_B_18
  rw [hl, View.read_writes_eq_canon _ _ _ hc]
  exact at8 (e := .f32) (fun g => ((group x0 x1 x2 x3 x4 x5 x6 x7 x8 x9 x10 x11 x12 x13 (kept xs0)) g).da) y (hc y)

theorem out_B_D (hc0 : ¬cond0_0 i) (y : S8x128x512.Idx) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 y = ((group x0 x1 x2 x3 x4 x5 x6 x7 x8 x9 x10 x11 x12 x13 (kept xs0)) (y 0)).next (ix3 (0 : Fin 1) (y 1) (y 2)) := by
  have hl := (B_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 xs0 hc0).trans (congrArg (fun I => listD I) (groupB arg2 harg2 arg3 harg3 arg4 harg4 arg5 harg5 arg6 harg6 arg7 harg7 arg8 harg8 arg9 harg9 arg10 harg10 arg11 harg11 arg12 harg12 arg13 harg13 arg14 harg14 arg15 harg15 arg21 harg21 x0 x1 x2 x3 x4 x5 x6 x7 x8 x9 x10 x11 x12 x13 xs0))
  have hc : ∀ y, ∃ p ∈ listD (group x0 x1 x2 x3 x4 x5 x6 x7 x8 x9 x10 x11 x12 x13 (kept xs0)), y ∈ p.1.set := fun y => hl ▸ scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 y
  unfold sout0_B_0
  rw [hl, View.read_writes_eq_canon _ _ _ hc]
  exact atD _ y (hc y)

theorem out_A_14 (hc0 : cond0_0 i) (y : S128x4096.Idx) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 y = ((group x0 x1 x2 x3 x4 x5 x6 x7 x8 x9 x10 x11 x12 x13 (fun _ _ => (0 : EReal))) (xg (y 1))).dxs (xq (y 1)) (ix2 (y 0) (xm (y 1))) := by
  have hl := (A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 hc0).trans (congrArg (fun I => list14 I) (groupA arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13))
  have hc : ∀ y, ∃ p ∈ list14 (group x0 x1 x2 x3 x4 x5 x6 x7 x8 x9 x10 x11 x12 x13 (fun _ _ => (0 : EReal))), y ∈ p.1.set := fun y => hl ▸ cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 y
  unfold out0_A_14
  rw [hl, View.read_writes_eq_canon _ _ _ hc]
  exact at14 _ y (hc y)

theorem out_A_15 (hc0 : cond0_0 i) (y : S128x1024.Idx) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 y = ((group x0 x1 x2 x3 x4 x5 x6 x7 x8 x9 x10 x11 x12 x13 (fun _ _ => (0 : EReal))) (bg (y 1))).dB (ix2 (y 0) (bn (y 1))) := by
  have hl := (A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 hc0).trans (congrArg (fun I => list15 I) (groupA arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13))
  have hc : ∀ y, ∃ p ∈ list15 (group x0 x1 x2 x3 x4 x5 x6 x7 x8 x9 x10 x11 x12 x13 (fun _ _ => (0 : EReal))), y ∈ p.1.set := fun y => hl ▸ cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 y
  unfold out0_A_15
  rw [hl, View.read_writes_eq_canon _ _ _ hc]
  exact at8 (e := .bf16) (fun g => ((group x0 x1 x2 x3 x4 x5 x6 x7 x8 x9 x10 x11 x12 x13 (fun _ _ => (0 : EReal))) g).dB) y (hc y)

theorem out_A_16 (hc0 : cond0_0 i) (y : S128x1024.Idx) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 y = ((group x0 x1 x2 x3 x4 x5 x6 x7 x8 x9 x10 x11 x12 x13 (fun _ _ => (0 : EReal))) (bg (y 1))).dC (ix2 (y 0) (bn (y 1))) := by
  have hl := (A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 hc0).trans (congrArg (fun I => list16 I) (groupA arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13))
  have hc : ∀ y, ∃ p ∈ list16 (group x0 x1 x2 x3 x4 x5 x6 x7 x8 x9 x10 x11 x12 x13 (fun _ _ => (0 : EReal))), y ∈ p.1.set := fun y => hl ▸ cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 y
  unfold out0_A_16
  rw [hl, View.read_writes_eq_canon _ _ _ hc]
  exact at8 (e := .bf16) (fun g => ((group x0 x1 x2 x3 x4 x5 x6 x7 x8 x9 x10 x11 x12 x13 (fun _ _ => (0 : EReal))) g).dC) y (hc y)

theorem out_A_17 (hc0 : cond0_0 i) (y : S128x1024.Idx) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 y = ((group x0 x1 x2 x3 x4 x5 x6 x7 x8 x9 x10 x11 x12 x13 (fun _ _ => (0 : EReal))) (bg (y 1))).ddt ((group x0 x1 x2 x3 x4 x5 x6 x7 x8 x9 x10 x11 x12 x13 (fun _ _ => (0 : EReal))) (bg (y 1))).tmpAll (ix2 (y 0) (bn (y 1))) := by
  have hl := (A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 hc0).trans (congrArg (fun I => list17 I (taken arg22 I)) (groupA arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13))
  dsimp only at hl
  rw [show taken arg22 (group x0 x1 x2 x3 x4 x5 x6 x7 x8 x9 x10 x11 x12 x13 (fun _ _ => (0 : EReal))) = fun g => ((group x0 x1 x2 x3 x4 x5 x6 x7 x8 x9 x10 x11 x12 x13 (fun _ _ => (0 : EReal))) g).tmpAll from funext fun g => taken_eq arg22 _ g] at hl
  have hc : ∀ y, ∃ p ∈ list17 (group x0 x1 x2 x3 x4 x5 x6 x7 x8 x9 x10 x11 x12 x13 (fun _ _ => (0 : EReal))) (fun g => ((group x0 x1 x2 x3 x4 x5 x6 x7 x8 x9 x10 x11 x12 x13 (fun _ _ => (0 : EReal))) g).tmpAll), y ∈ p.1.set := fun y => hl ▸ cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 y
  unfold out0_A_17
  rw [hl, View.read_writes_eq_canon _ _ _ hc]
  exact at8 (e := .f32) (fun g => ((group x0 x1 x2 x3 x4 x5 x6 x7 x8 x9 x10 x11 x12 x13 (fun _ _ => (0 : EReal))) g).ddt ((group x0 x1 x2 x3 x4 x5 x6 x7 x8 x9 x10 x11 x12 x13 (fun _ _ => (0 : EReal))) g).tmpAll) y (hc y)

theorem out_A_18 (hc0 : cond0_0 i) (y : S128x1024.Idx) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 y = ((group x0 x1 x2 x3 x4 x5 x6 x7 x8 x9 x10 x11 x12 x13 (fun _ _ => (0 : EReal))) (bg (y 1))).da (ix2 (y 0) (bn (y 1))) := by
  have hl := (A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 hc0).trans (congrArg (fun I => list18 I) (groupA arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13))
  have hc : ∀ y, ∃ p ∈ list18 (group x0 x1 x2 x3 x4 x5 x6 x7 x8 x9 x10 x11 x12 x13 (fun _ _ => (0 : EReal))), y ∈ p.1.set := fun y => hl ▸ cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 y
  unfold out0_A_18
  rw [hl, View.read_writes_eq_canon _ _ _ hc]
  exact at8 (e := .f32) (fun g => ((group x0 x1 x2 x3 x4 x5 x6 x7 x8 x9 x10 x11 x12 x13 (fun _ _ => (0 : EReal))) g).da) y (hc y)

theorem out_A_D (hc0 : cond0_0 i) (y : S8x128x512.Idx) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 y = ((group x0 x1 x2 x3 x4 x5 x6 x7 x8 x9 x10 x11 x12 x13 (fun _ _ => (0 : EReal))) (y 0)).next (ix3 (0 : Fin 1) (y 1) (y 2)) := by
  unfold sout0_A_0
  rw [A_D, View.read_writes_eq_canon _ _ _ (fun y => (A_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 hc0) ▸ scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 y)]
  rw [← View.read_writes_eq_canon arg21.view arg21.view.junk _ (fun y => (A_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 hc0) ▸ scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 y), heldD_read arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13 8 le_rfl y]
  refine (if_pos (show (y 0).val < 8 from (y 0).isLt)).trans ?_
  have e := congrFun (groupA arg2 harg2 arg3 harg3 arg4 harg4 arg5 harg5 arg6 harg6 arg7 harg7 arg8 harg8 arg9 harg9 arg10 harg10 arg11 harg11 arg12 harg12 arg13 harg13 arg14 harg14 arg15 harg15 arg21 x0 x1 x2 x3 x4 x5 x6 x7 x8 x9 x10 x11 x12 x13) (y 0)
  exact congrArg (fun I : In => I.next (ix3 (0 : Fin 1) (y 1) (y 2))) e

end
end Scan.Body
-- ==== Proof.Carry.lean ====
module

public import proofs.«01_k».proof.Proof.Launch
public import proofs.«01_k».proof.Proof.Outs

/-!
# The launch, point by point

The scratch carries the gradient of the state from a chunk to the next; each point's outputs are its chunk's.
-/

@[expose] public section

set_option maxRecDepth 16384

namespace Scan.Launch
open Idealize.ShloMosaic Idealize.ShloMosaic.TcCoe Cert.KernelIdeal Cert.KernelIdeal.Gen Cert.KernelIdeal.Value Scan.Line Scan.Body

attribute [local irreducible] rd

noncomputable section

theorem hd_wide (k : Fin 4096) : hd (wide (xq k) (xm k)) = xj k :=
  Fin.ext (by simp only [hd, wide, xq, xm, xj]; omega)
theorem pd_wide (k : Fin 4096) : pd (wide (xq k) (xm k)) = xp k :=
  Fin.ext (by simp only [pd, wide, xq, xm, xp]; omega)
theorem wide_k (k : Fin 512) : wide (kq k) (km k) = k :=
  Fin.ext (by simp only [wide, kq, km]; omega)
theorem tok_ch (r : Fin 8192) : tok (ch r) (pos r) = r :=
  Fin.ext (by simp only [tok, ch, pos]; omega)

theorem carry_succ (A : Tok ℝ) (Y : Tok (Fin 64 → ℝ)) (C : Tok (Fin 128 → ℝ)) (n : ℕ) (hn : n < 64) (p : Fin 64) (k : Fin 128) :
    Ker.carry A Y C (n + 1) p k = Ker.next (A ⟨n, hn⟩) (Y ⟨n, hn⟩) (C ⟨n, hn⟩) (Ker.carry A Y C n) p k := by
  show (if h : n < 64 then _ else _) = _
  exact dif_pos hn

/-- What a point leaves, `J` its groups. -/
structure Left (J : Fin 8 → In) (o : Vec Ideal S128x4096 .bf16 × Vec Ideal S128x1024 .bf16 × Vec Ideal S128x1024 .bf16 × Vec Ideal S128x1024 .f32 × Vec Ideal S128x1024 .f32 × Vec Ideal S8x128x512 .f32) : Prop where
  dxs : ∀ y, o.1 y = (J (xg (y 1))).dxs (xq (y 1)) (ix2 (y 0) (xm (y 1)))
  dB : ∀ y, o.2.1 y = (J (bg (y 1))).dB (ix2 (y 0) (bn (y 1)))
  dC : ∀ y, o.2.2.1 y = (J (bg (y 1))).dC (ix2 (y 0) (bn (y 1)))
  ddt : ∀ y, o.2.2.2.1 y = (J (bg (y 1))).ddt (J (bg (y 1))).tmpAll (ix2 (y 0) (bn (y 1)))
  da : ∀ y, o.2.2.2.2.1 y = (J (bg (y 1))).da (ix2 (y 0) (bn (y 1)))
  next : ∀ y, o.2.2.2.2.2 y = (J (y 0)).next (ix3 (0 : Fin 1) (y 1) (y 2))

variable (m : (ℓ : Loc nD τ sig) → Buf (Elt Ideal) ℓ) (c : Dev nD)

theorem left_A (t : Fin cfg0.N) (acc) (q : t.val % 64 = 0) :
    Left (group (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (fun _ _ => (0 : EReal))) (stAt0 m c t.val t.isLt acc) := by
  rw [stAt0_A m c t acc q]
  constructor
  · intro y; dsimp only; apply out_A_14
  · intro y; dsimp only; apply out_A_15
  · intro y; dsimp only; apply out_A_16
  · intro y; dsimp only; apply out_A_17
  · intro y; dsimp only; apply out_A_18
  · intro y; dsimp only; apply out_A_D

theorem left_B (t : Fin cfg0.N) (acc) (q : ¬ t.val % 64 = 0) :
    Left (group (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (kept acc.2.2.2.2.2)) (stAt0 m c t.val t.isLt acc) := by
  rw [stAt0_B m c t acc q]
  constructor
  · intro y; dsimp only; apply out_B_14
  · intro y; dsimp only; apply out_B_15
  · intro y; dsimp only; apply out_B_16
  · intro y; dsimp only; apply out_B_17
  · intro y; dsimp only; apply out_B_18
  · intro y; dsimp only; apply out_B_D

variable {r0 : Fin 8192 → Fin 6144 → ℝ} {r1 : Fin 8192 → Fin 4096 → ℝ} {r2 : Fin 8192 → Fin 128 → ℝ} {r3 r4 : Fin 128 → ℝ}
variable (h0 : ∀ i : S8192x6144.Idx, rd (fun b => m (c, b)) main_arg0 i = ((r0 (i 0) (i 1) : ℝ) : EReal))
variable (h1 : ∀ i : S8192x4096.Idx, rd (fun b => m (c, b)) main_arg1 i = ((r1 (i 0) (i 1) : ℝ) : EReal))
variable (h2 : ∀ i : S8192x128.Idx, rd (fun b => m (c, b)) main_arg2 i = ((r2 (i 0) (i 1) : ℝ) : EReal))
variable (h3 : ∀ i : S128.Idx, rd (fun b => m (c, b)) main_arg3 i = ((r3 (i 0) : ℝ) : EReal))
variable (h4 : ∀ i : S128.Idx, rd (fun b => m (c, b)) main_arg4 i = ((r4 (i 0) : ℝ) : EReal))

/-- The state gradient that enters point `n`. -/
def enters (r0 : Fin 8192 → Fin 6144 → ℝ) (r1 : Fin 8192 → Fin 4096 → ℝ) (r2 : Fin 8192 → Fin 128 → ℝ) (r3 r4 : Fin 128 → ℝ)
    (g : Fin 8) (n : ℕ) (j : Fin 8) : Fin 64 → Fin 128 → ℝ :=
  Ker.carry (back (bA r2 r3 r4 g j)) (back (bY r1 g j)) (back (bC r0 g)) n

include h0 h1 h2 h3 h4 in
/-- A point's groups, once the state gradient that enters is known. -/
theorem good (t : Fin cfg0.N) (z : Fin 64) (hz : z.val = t.val) (D : Fin 8 → FVec Ideal S1x128x512 .f32)
    (hD : ∀ g i, D g i = ((enters r0 r1 r2 r3 r4 g t.val (hd (i 2)) (pd (i 2)) (i 1) : ℝ) : EReal)) (g : Fin 8) :
    Good (group (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) D g) (back (bB r0 g) z) (back (bC r0 g) z) (fun j l p => rX r0 (tok z l) g j p) (fun j => back (bY r1 g j) z)
      (fun j => Rev.h (bA r2 r3 r4 g j) (bU r0 r2 r3 g j) (bB r0 g) z.rev) (enters r0 r1 r2 r3 r4 g t.val)
      (fun j => back (bA r2 r3 r4 g j) z) (fun j l => rD r2 r3 (tok z l) g j) :=
  (chunk m c h0 h1 h2 h3 h4 t z hz).good g (D g) _ (hD g)

include h0 h1 h2 h3 h4 in
theorem points : ∀ (n : ℕ) (hn : n < cfg0.N), ∃ D : Fin 8 → FVec Ideal S1x128x512 .f32,
    Left (group (X0_0 m c ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩) (iblk m c 11 ⟨n, hn⟩) (iblk m c 12 ⟨n, hn⟩) (iblk m c 13 ⟨n, hn⟩) D) (outsAt0 m c n hn)
    ∧ ∀ g i, D g i = ((enters r0 r1 r2 r3 r4 g n (hd (i 2)) (pd (i 2)) (i 1) : ℝ) : EReal)
  | 0, hn => by
    rw [outsAt0_zero]
    exact ⟨_, left_A m c ⟨0, hn⟩ _ (Nat.zero_mod _), fun g i => EReal.coe_zero.symm⟩
  | n + 1, hn => by
    have hN := lt_of_lt_of_eq hn (show cfg0.N = 64 from N_0)
    obtain ⟨D, L, hD⟩ := points n (Nat.lt_of_succ_lt hn)
    rw [outsAt0_succ]
    refine ⟨_, left_B m c ⟨n + 1, hn⟩ _ (by show ¬ (n + 1) % 64 = 0; omega), fun g i => ?_⟩
    have i0 : (i 0).val < 1 := (i 0).isLt
    have key : ∀ E : S8x128x512.Idx, (E 0).val = g.val + (i 0).val → (E 1).val = 0 + (i 1).val → (E 2).val = 0 + (i 2).val →
        (outsAt0 m c n (Nat.lt_of_succ_lt hn)).2.2.2.2.2 E = ((enters r0 r1 r2 r3 r4 g (n + 1) (hd (i 2)) (pd (i 2)) (i 1) : ℝ) : EReal) := fun E v0 v1 v2 => by
      have e0 : E 0 = g := Fin.ext (by omega)
      have e1 : E 1 = i 1 := Fin.ext (by omega)
      have e2 : E 2 = i 2 := Fin.ext (by omega)
      refine (L.next E).trans ?_
      rw [e0, e1, e2]
      refine ((good m c h0 h1 h2 h3 h4 ⟨n, Nat.lt_of_succ_lt hn⟩ ⟨n, by omega⟩ rfl D hD g).next _).trans (congrArg _ ?_)
      exact (carry_succ _ _ _ n (by omega) (pd (i 2)) (i 1)).symm
    exact key _ (at_val (s := S8x128x512) ![g.val, 0, 0] S1x128x512.size (inD g) i 0) (at_val (s := S8x128x512) ![g.val, 0, 0] S1x128x512.size (inD g) i 1)
      (at_val (s := S8x128x512) ![g.val, 0, 0] S1x128x512.size (inD g) i 2)

theorem enters_eq (g : Fin 8) (z : Fin 64) :
    enters r0 r1 r2 r3 r4 g z.val = fun j => Rev.ds (bA r2 r3 r4 g j) (bY r1 g j) (bC r0 g) z.rev :=
  funext fun j => funext fun p => funext fun n => carry_eq _ _ _ z.val z.isLt p n

/-! ## The outputs of a point -/

section outputs
variable (n : ℕ) (hn : n < cfg0.N) (z : Fin 64) (hz : z.val = n)
include h0 h1 h2 h3 h4 hz

theorem o14 (y : S128x4096.Idx) : (outsAt0 m c n hn).1 y
    = ((Rev.dx (bA r2 r3 r4 (xg (y 1)) (xj (y 1))) (bY r1 (xg (y 1)) (xj (y 1))) (bB r0 (xg (y 1))) (bC r0 (xg (y 1))) z.rev (y 0).rev (xp (y 1))
        * rD r2 r3 (tok z (y 0)) (xg (y 1)) (xj (y 1)) : ℝ) : EReal) := by
  subst hz
  obtain ⟨D, L, hD⟩ := points m c h0 h1 h2 h3 h4 z.val hn
  refine (L.dxs y).trans (((good m c h0 h1 h2 h3 h4 ⟨z.val, hn⟩ z rfl D hD (xg (y 1))).dxs (xq (y 1)) _).trans (congrArg _ ?_))
  show Ker.acc (back (bA r2 r3 r4 (xg (y 1)) (hd (wide (xq (y 1)) (xm (y 1))))) z) (back (bY r1 (xg (y 1)) (hd (wide (xq (y 1)) (xm (y 1))))) z)
    (back (bB r0 (xg (y 1))) z) (back (bC r0 (xg (y 1))) z) (enters r0 r1 r2 r3 r4 (xg (y 1)) z.val (hd (wide (xq (y 1)) (xm (y 1))))) (y 0)
    (pd (wide (xq (y 1)) (xm (y 1)))) * rD r2 r3 (tok z (y 0)) (xg (y 1)) (hd (wide (xq (y 1)) (xm (y 1)))) = _
  have w1 : hd (wide (xq (y 1)) (xm (y 1))) = xj (y 1) := hd_wide (y 1)
  have w2 : pd (wide (xq (y 1)) (xm (y 1))) = xp (y 1) := pd_wide (y 1)
  rw [w1, w2, enters_eq]
  exact congrArg (· * rD r2 r3 (tok z (y 0)) (xg (y 1)) (xj (y 1))) (acc_eq _ _ _ _ z (y 0) (xp (y 1)))

theorem o15 (y : S128x1024.Idx) : (outsAt0 m c n hn).2.1 y
    = ((Rev.dB (bA r2 r3 r4 (bg (y 1))) (bU r0 r2 r3 (bg (y 1))) (bY r1 (bg (y 1))) (bC r0 (bg (y 1))) z.rev (y 0).rev (bn (y 1)) : ℝ) : EReal) := by
  subst hz
  obtain ⟨D, L, hD⟩ := points m c h0 h1 h2 h3 h4 z.val hn
  refine (L.dB y).trans (((good m c h0 h1 h2 h3 h4 ⟨z.val, hn⟩ z rfl D hD (bg (y 1))).dB _).trans (congrArg _ ?_))
  refine Eq.trans ?_ (dB_eq _ _ _ _ z (y 0) (bn (y 1)))
  simp only [enters_eq, back_bU]
  rfl

theorem o16 (y : S128x1024.Idx) : (outsAt0 m c n hn).2.2.1 y
    = ((Rev.dC (bA r2 r3 r4 (bg (y 1))) (bU r0 r2 r3 (bg (y 1))) (bY r1 (bg (y 1))) (bB r0 (bg (y 1))) z.rev (y 0).rev (bn (y 1)) : ℝ) : EReal) := by
  subst hz
  obtain ⟨D, L, hD⟩ := points m c h0 h1 h2 h3 h4 z.val hn
  refine (L.dC y).trans (((good m c h0 h1 h2 h3 h4 ⟨z.val, hn⟩ z rfl D hD (bg (y 1))).dC _).trans (congrArg _ ?_))
  refine Eq.trans ?_ (dC_eq _ _ _ _ z (y 0) (bn (y 1)))
  simp only [back_bU]
  rfl

theorem o17 (y : S128x1024.Idx) : (outsAt0 m c n hn).2.2.2.1 y
    = ((if h : (bn (y 1)).val < 8 then ∑ p, rX r0 (tok z (y 0)) (bg (y 1)) ⟨(bn (y 1)).val, h⟩ p
        * Rev.dx (bA r2 r3 r4 (bg (y 1)) ⟨(bn (y 1)).val, h⟩) (bY r1 (bg (y 1)) ⟨(bn (y 1)).val, h⟩) (bB r0 (bg (y 1))) (bC r0 (bg (y 1))) z.rev (y 0).rev p
        else 0 : ℝ) : EReal) := by
  subst hz
  obtain ⟨D, L, hD⟩ := points m c h0 h1 h2 h3 h4 z.val hn
  have G := good m c h0 h1 h2 h3 h4 ⟨z.val, hn⟩ z rfl D hD (bg (y 1))
  refine (L.ddt y).trans ((G.ddt (fun i => ?_) _).trans (congrArg _ ?_))
  · refine (G.tmp (kq (i 1)) (ix2 (i 0) (km (i 1)))).trans ?_
    show ((_ : ℝ) : EReal) = _
    have e := wide_k (i 1)
    dsimp only [ix2]
    exact congrArg (fun k => ((Ker.acc (back (bA r2 r3 r4 (bg (y 1)) (hd k)) z) (back (bY r1 (bg (y 1)) (hd k)) z) (back (bB r0 (bg (y 1))) z)
      (back (bC r0 (bg (y 1))) z) (enters r0 r1 r2 r3 r4 (bg (y 1)) z.val (hd k)) (i 0) (pd k) * rX r0 (tok z (i 0)) (bg (y 1)) (hd k) (pd k) : ℝ) : EReal)) e
  · refine dite_congr rfl (fun q => Finset.sum_congr rfl fun p _ => ?_) (fun _ => rfl)
    rw [mul_comm, enters_eq]
    exact congrArg _ (acc_eq _ _ _ _ z (y 0) p)

theorem o18 (y : S128x1024.Idx) : (outsAt0 m c n hn).2.2.2.2.1 y
    = ((if h : (bn (y 1)).val < 8 then Rev.da (bA r2 r3 r4 (bg (y 1)) ⟨(bn (y 1)).val, h⟩) (bU r0 r2 r3 (bg (y 1)) ⟨(bn (y 1)).val, h⟩)
        (bY r1 (bg (y 1)) ⟨(bn (y 1)).val, h⟩) (bB r0 (bg (y 1))) (bC r0 (bg (y 1))) z.rev (y 0).rev else 0 : ℝ) : EReal) := by
  subst hz
  obtain ⟨D, L, hD⟩ := points m c h0 h1 h2 h3 h4 z.val hn
  refine (L.da y).trans (((good m c h0 h1 h2 h3 h4 ⟨z.val, hn⟩ z rfl D hD (bg (y 1))).da _).trans (congrArg _ ?_))
  refine dite_congr rfl (fun q => ?_) (fun _ => rfl)
  refine Eq.trans ?_ (da_eq _ _ _ _ _ z (y 0))
  simp only [enters_eq, back_bU]
  rfl

end outputs

/-! ## The arrays after the launch -/
section arrays
include h0 h1 h2 h3 h4

theorem g14 (i : S8192x4096.Idx) : G14 m c i
    = ((Rev.dx (bA r2 r3 r4 (xg (i 1)) (xj (i 1))) (bY r1 (xg (i 1)) (xj (i 1))) (bB r0 (xg (i 1))) (bC r0 (xg (i 1))) (ch (i 0)).rev (pos (i 0)).rev (xp (i 1))
        * rD r2 r3 (i 0) (xg (i 1)) (xj (i 1)) : ℝ) : EReal) := by
  have b0 : (i 0).val < 8192 := (i 0).isLt
  have b1 : (i 1).val < 4096 := (i 1).isLt
  have hp : pt14Of i = (i 0).val / 128 := by show 1 * ((i 0).val / 128 - 0) + 1 * ((i 1).val / 4096 - 0) = _; omega
  have hn : pt14Of i < cfg0.N := lt_of_lt_of_eq (by omega) (show cfg0.N = 64 from N_0).symm
  unfold G14
  rw [dif_pos hn, ← outsAt0_sweep m c _ hn]
  have e := o14 m c h0 h1 h2 h3 h4 (pt14Of i) hn (ch (i 0)) hp.symm (loc14Of i)
  have l0 : loc14Of i 0 = pos (i 0) := rfl
  have l1 : loc14Of i 1 = i 1 := Fin.ext (Nat.mod_eq_of_lt b1)
  have et : tok (ch (i 0)) (pos (i 0)) = i 0 := tok_ch (i 0)
  rw [l0, l1, et] at e
  exact e

theorem g15 (i : S8192x1024.Idx) : G15 m c i
    = ((Rev.dB (bA r2 r3 r4 (bg (i 1))) (bU r0 r2 r3 (bg (i 1))) (bY r1 (bg (i 1))) (bC r0 (bg (i 1))) (ch (i 0)).rev (pos (i 0)).rev (bn (i 1)) : ℝ) : EReal) := by
  have b0 : (i 0).val < 8192 := (i 0).isLt
  have b1 : (i 1).val < 1024 := (i 1).isLt
  have hp : pt15Of i = (i 0).val / 128 := by show 1 * ((i 0).val / 128 - 0) + 1 * ((i 1).val / 1024 - 0) = _; omega
  have hn : pt15Of i < cfg0.N := lt_of_lt_of_eq (by omega) (show cfg0.N = 64 from N_0).symm
  unfold G15
  rw [dif_pos hn, ← outsAt0_sweep m c _ hn]
  have e := o15 m c h0 h1 h2 h3 h4 (pt15Of i) hn (ch (i 0)) hp.symm (loc15Of i)
  have l0 : loc15Of i 0 = pos (i 0) := rfl
  have l1 : loc15Of i 1 = i 1 := Fin.ext (Nat.mod_eq_of_lt b1)
  rw [l0, l1] at e
  exact e

theorem g16 (i : S8192x1024.Idx) : G16 m c i
    = ((Rev.dC (bA r2 r3 r4 (bg (i 1))) (bU r0 r2 r3 (bg (i 1))) (bY r1 (bg (i 1))) (bB r0 (bg (i 1))) (ch (i 0)).rev (pos (i 0)).rev (bn (i 1)) : ℝ) : EReal) := by
  have b0 : (i 0).val < 8192 := (i 0).isLt
  have b1 : (i 1).val < 1024 := (i 1).isLt
  have hp : pt16Of i = (i 0).val / 128 := by show 1 * ((i 0).val / 128 - 0) + 1 * ((i 1).val / 1024 - 0) = _; omega
  have hn : pt16Of i < cfg0.N := lt_of_lt_of_eq (by omega) (show cfg0.N = 64 from N_0).symm
  unfold G16
  rw [dif_pos hn, ← outsAt0_sweep m c _ hn]
  have e := o16 m c h0 h1 h2 h3 h4 (pt16Of i) hn (ch (i 0)) hp.symm (loc16Of i)
  have l0 : loc16Of i 0 = pos (i 0) := rfl
  have l1 : loc16Of i 1 = i 1 := Fin.ext (Nat.mod_eq_of_lt b1)
  rw [l0, l1] at e
  exact e

theorem g17 (i : S8192x1024.Idx) : G17 m c i
    = ((if h : (bn (i 1)).val < 8 then ∑ p, rX r0 (i 0) (bg (i 1)) ⟨(bn (i 1)).val, h⟩ p
        * Rev.dx (bA r2 r3 r4 (bg (i 1)) ⟨(bn (i 1)).val, h⟩) (bY r1 (bg (i 1)) ⟨(bn (i 1)).val, h⟩) (bB r0 (bg (i 1))) (bC r0 (bg (i 1))) (ch (i 0)).rev (pos (i 0)).rev p
        else 0 : ℝ) : EReal) := by
  have b0 : (i 0).val < 8192 := (i 0).isLt
  have b1 : (i 1).val < 1024 := (i 1).isLt
  have hp : pt17Of i = (i 0).val / 128 := by show 1 * ((i 0).val / 128 - 0) + 1 * ((i 1).val / 1024 - 0) = _; omega
  have hn : pt17Of i < cfg0.N := lt_of_lt_of_eq (by omega) (show cfg0.N = 64 from N_0).symm
  unfold G17
  rw [dif_pos hn, ← outsAt0_sweep m c _ hn]
  have e := o17 m c h0 h1 h2 h3 h4 (pt17Of i) hn (ch (i 0)) hp.symm (loc17Of i)
  have l0 : loc17Of i 0 = pos (i 0) := rfl
  have l1 : loc17Of i 1 = i 1 := Fin.ext (Nat.mod_eq_of_lt b1)
  have et : tok (ch (i 0)) (pos (i 0)) = i 0 := tok_ch (i 0)
  rw [l0, l1, et] at e
  exact e

theorem g18 (i : S8192x1024.Idx) : G18 m c i
    = ((if h : (bn (i 1)).val < 8 then Rev.da (bA r2 r3 r4 (bg (i 1)) ⟨(bn (i 1)).val, h⟩) (bU r0 r2 r3 (bg (i 1)) ⟨(bn (i 1)).val, h⟩)
        (bY r1 (bg (i 1)) ⟨(bn (i 1)).val, h⟩) (bB r0 (bg (i 1))) (bC r0 (bg (i 1))) (ch (i 0)).rev (pos (i 0)).rev else 0 : ℝ) : EReal) := by
  have b0 : (i 0).val < 8192 := (i 0).isLt
  have b1 : (i 1).val < 1024 := (i 1).isLt
  have hp : pt18Of i = (i 0).val / 128 := by show 1 * ((i 0).val / 128 - 0) + 1 * ((i 1).val / 1024 - 0) = _; omega
  have hn : pt18Of i < cfg0.N := lt_of_lt_of_eq (by omega) (show cfg0.N = 64 from N_0).symm
  unfold G18
  rw [dif_pos hn, ← outsAt0_sweep m c _ hn]
  have e := o18 m c h0 h1 h2 h3 h4 (pt18Of i) hn (ch (i 0)) hp.symm (loc18Of i)
  have l0 : loc18Of i 0 = pos (i 0) := rfl
  have l1 : loc18Of i 1 = i 1 := Fin.ext (Nat.mod_eq_of_lt b1)
  rw [l0, l1] at e
  exact e

end arrays
end
end Scan.Launch
-- ==== Proof.RefB.lean ====
module

public import proofs.«01_k».proof.Proof.RefA
public import Idealize.ShloMosaic.Lib.TwoAxisContraction
public import Idealize.ShloMosaic.Lib.KernelVsHost

/-!
# The reference's stages, read: the gradients of the scan
-/

@[expose] public section

open Cert.ReferenceIdeal Cert.ReferenceIdeal.Gen Cert.ReferenceIdeal.Read Idealize.ShloMosaic
open scoped BigOperators

namespace Scan.Ref

variable {r0 : Fin 8192 → Fin 6144 → ℝ} {r1 : Fin 8192 → Fin 4096 → ℝ} {r2 : Fin 8192 → Fin 128 → ℝ} {r3 r4 : Fin 128 → ℝ}
variable {x0 : (⟨S8192x6144, .bf16⟩ : BufTy).Contents (Elt Ideal)} {x1 : (⟨S8192x4096, .bf16⟩ : BufTy).Contents (Elt Ideal)}
  {x2 : (⟨S8192x128, .f32⟩ : BufTy).Contents (Elt Ideal)} {x3 x4 : (⟨S128, .f32⟩ : BufTy).Contents (Elt Ideal)}
variable (h0 : ∀ i : S8192x6144.Idx, x0 i = ((r0 (i 0) (i 1) : ℝ) : EReal))
variable (h1 : ∀ i : S8192x4096.Idx, x1 i = ((r1 (i 0) (i 1) : ℝ) : EReal))
variable (h2 : ∀ i : S8192x128.Idx, x2 i = ((r2 (i 0) (i 1) : ℝ) : EReal))
variable (h3 : ∀ i : S128.Idx, x3 i = ((r3 (i 0) : ℝ) : EReal))
variable (h4 : ∀ i : S128.Idx, x4 i = ((r4 (i 0) : ℝ) : EReal))

/-- A value at a chunk's last token. -/
noncomputable def atLast (k : Fin 128) (a : ℝ) : ℝ := if k = Fin.last 127 then a else 0

theorem zero32 : (FloatOps.ofBits .f32 0x00000000#32 : Ideal .f32) = (0 : EReal) := Ideal.ofBits_zero_f32

include h0 h1 h2 h3 h4 in
theorem v93 (i : S64x128x8x8x64.Idx) :
    val_main_v93 (F := Ideal) x0 x1 x2 x3 x4 i
      = ((Rev.ych (bA r2 r3 r4 (i 2) (i 3)) (bU r0 r2 r3 (i 2) (i 3)) (bB r0 (i 2)) (bC r0 (i 2)) (i 0) (i 1) (i 4) * (bY r1 (i 2) (i 3)) (i 0) (i 1) (i 4) : ℝ) : EReal) := by
  rw [val_main_v93_apply, v84 h0 h2 h3 h4, v92 h1, Ideal.mulf_def, ← EReal.coe_mul]

include h0 h1 h2 h3 h4 in
theorem v94 (i : S64x128x8x8.Idx) :
    val_main_v94 (F := Ideal) x0 x1 x2 x3 x4 i
      = ((∑ p, Rev.ych (bA r2 r3 r4 (i 2) (i 3)) (bU r0 r2 r3 (i 2) (i 3)) (bB r0 (i 2)) (bC r0 (i 2)) (i 0) (i 1) p * bY r1 (i 2) (i 3) (i 0) (i 1) p : ℝ) : EReal) := by
  rw [val_main_v94_apply, val_main_cst_2_apply, zero32, zero_add]
  simp only [v93 h0 h1 h2 h3 h4, coe_sum]
  rfl

include h0 h1 h2 h3 h4 in
theorem v98 (i : S64x128x8x8.Idx) :
    val_main_v98 (F := Ideal) x0 x1 x2 x3 x4 i
      = ((∑ p, Rev.ych (bA r2 r3 r4 (i 2) (i 3)) (bU r0 r2 r3 (i 2) (i 3)) (bB r0 (i 2)) (bC r0 (i 2)) (i 0) (i 1) p * bY r1 (i 2) (i 3) (i 0) (i 1) p : ℝ) : EReal) := by
  rw [val_main_v98_apply, val_main_cst_3_apply, zero32, zero_add, Fin.sum_univ_one, val_main_v95_apply, v94 h0 h1 h2 h3 h4]
  have b0 : (i 0).val < 64 := (i 0).isLt
  have b1 : (i 1).val < 128 := (i 1).isLt
  have b2 : (i 2).val < 8 := (i 2).isLt
  have b3 : (i 3).val < 8 := (i 3).isLt
  have e0 : idx_main_v95 (idx_main_v98 i 0) 0 = i 0 := Fin.ext (by
    show (((((i 0).val * 128 + (i 1).val) * 8 + (i 2).val) * 8 + (i 3).val) * 1 + 0) / 8192 = _; omega)
  have e1 : idx_main_v95 (idx_main_v98 i 0) 1 = i 1 := Fin.ext (by
    show (((((i 0).val * 128 + (i 1).val) * 8 + (i 2).val) * 8 + (i 3).val) * 1 + 0) / 64 % 128 = _; omega)
  have e2 : idx_main_v95 (idx_main_v98 i 0) 2 = i 2 := Fin.ext (by
    show (((((i 0).val * 128 + (i 1).val) * 8 + (i 2).val) * 8 + (i 3).val) * 1 + 0) / 8 % 8 = _; omega)
  have e3 : idx_main_v95 (idx_main_v98 i 0) 3 = i 3 := Fin.ext (by
    show (((((i 0).val * 128 + (i 1).val) * 8 + (i 2).val) * 8 + (i 3).val) * 1 + 0) % 8 = _; omega)
  show ((∑ p, Rev.ych (bA r2 r3 r4 (idx_main_v95 (idx_main_v98 i 0) 2) (idx_main_v95 (idx_main_v98 i 0) 3)) (bU r0 r2 r3 (idx_main_v95 (idx_main_v98 i 0) 2) (idx_main_v95 (idx_main_v98 i 0) 3)) (bB r0 (idx_main_v95 (idx_main_v98 i 0) 2)) (bC r0 (idx_main_v95 (idx_main_v98 i 0) 2)) (idx_main_v95 (idx_main_v98 i 0) 0) (idx_main_v95 (idx_main_v98 i 0) 1) p * bY r1 (idx_main_v95 (idx_main_v98 i 0) 2) (idx_main_v95 (idx_main_v98 i 0) 3) (idx_main_v95 (idx_main_v98 i 0) 0) (idx_main_v95 (idx_main_v98 i 0) 1) p : ℝ) : EReal) = _
  rw [e0, e1, e2, e3]

include h0 h1 h2 h3 h4 in
theorem v97 (i : S64x128x8x8x64.Idx) :
    val_main_v97 (F := Ideal) x1 x2 x3 x4 i
      = ((Rev.yd (bA r2 r3 r4 (i 2) (i 3)) (bY r1 (i 2) (i 3)) (i 0) (i 1) (i 4) : ℝ) : EReal) := by
  rw [val_main_v97_apply, v92 h1, val_main_v96_apply, v85 h2 h3 h4, Ideal.mulf_def, ← EReal.coe_mul]
  rfl

include h0 h1 h2 h3 h4 in
theorem v99 (i : S64x8x8x64x128.Idx) :
    val_main_v99 (F := Ideal) x1 x2 x3 x4 i
      = ((Rev.yd (bA r2 r3 r4 (i 1) (i 2)) (bY r1 (i 1) (i 2)) (i 0) (i 4) (i 3) : ℝ) : EReal) := by
  rw [val_main_v99_apply, v97 h0 h1 h2 h3 h4]
  rfl

include h0 h1 h2 h3 h4 in
theorem v104 (i : S8x8x64x128.Idx) :
    val_main_v104 (F := Ideal) x0 x1 x2 x3 x4 i
      = ((Rev.gin (bA r2 r3 r4 (i 0) (i 1)) (bU r0 r2 r3 (i 0) (i 1)) (bY r1 (i 0) (i 1)) (bB r0 (i 0)) (bC r0 (i 0)) (i 2) (i 3) : ℝ) : EReal) := by
  rw [val_main_v104_apply, val_main_v103_apply, v98 h0 h1 h2 h3 h4, v81 h2 h3 h4, Ideal.mulf_def, ← EReal.coe_mul]
  rfl

include h0 h1 h2 h3 h4 in
theorem v100 (i : S64x8x128x128.Idx) :
    val_main_v100 (F := Ideal) x0 x1 x2 x3 x4 i
      = ((∑ j, ∑ p, Rev.yd (bA r2 r3 r4 (i 1) j) (bY r1 (i 1) j) (i 0) (i 2) p * Rev.h (bA r2 r3 r4 (i 1) j) (bU r0 r2 r3 (i 1) j) (bB r0 (i 1)) (i 0) p (i 3) : ℝ) : EReal) := by
  unfold val_main_v100
  simp only [Host.dotGeneral]
  rw [Ideal.dotGeneral_apply, ValueIdx.sum_contr2 dot_S64x8x8x64x128_S64x8x8x64x128_S64x8x128x128_23_23_4_4_01_01 8 64 rfl rfl rfl]
  have e : ∀ (a : Fin 8) (b : Fin 64), val_main_v99 (F := Ideal) x1 x2 x3 x4 (dot_S64x8x8x64x128_S64x8x8x64x128_S64x8x128x128_23_23_4_4_01_01.lhsIdx i ((ValueIdx.contrEquiv2 dot_S64x8x8x64x128_S64x8x8x64x128_S64x8x128x128_23_23_4_4_01_01 8 64 rfl rfl rfl).symm (a, b)))
      * val_main_v80 (F := Ideal) x0 x2 x3 x4 (dot_S64x8x8x64x128_S64x8x8x64x128_S64x8x128x128_23_23_4_4_01_01.rhsIdx i ((ValueIdx.contrEquiv2 dot_S64x8x8x64x128_S64x8x8x64x128_S64x8x128x128_23_23_4_4_01_01 8 64 rfl rfl rfl).symm (a, b)))
      = ((Rev.yd (bA r2 r3 r4 (i 1) a) (bY r1 (i 1) a) (i 0) (i 2) b * Rev.h (bA r2 r3 r4 (i 1) a) (bU r0 r2 r3 (i 1) a) (bB r0 (i 1)) (i 0) b (i 3) : ℝ) : EReal) := fun a b => by
    generalize hq : (ValueIdx.contrEquiv2 dot_S64x8x8x64x128_S64x8x8x64x128_S64x8x128x128_23_23_4_4_01_01 8 64 rfl rfl rfl).symm (a, b) = q
    have q0 : (q ⟨0, by decide⟩).val = a.val := by rw [← hq]; exact ValueIdx.contrEquiv2_symm_val0 dot_S64x8x8x64x128_S64x8x8x64x128_S64x8x128x128_23_23_4_4_01_01 8 64 rfl rfl rfl (a, b)
    have q1 : (q ⟨1, by decide⟩).val = b.val := by rw [← hq]; exact ValueIdx.contrEquiv2_symm_val1 dot_S64x8x8x64x128_S64x8x8x64x128_S64x8x128x128_23_23_4_4_01_01 8 64 rfl rfl rfl (a, b)
    have l0 : dot_S64x8x8x64x128_S64x8x8x64x128_S64x8x128x128_23_23_4_4_01_01.lhsIdx i q 0 = i 0 := Fin.ext rfl
    have l1 : dot_S64x8x8x64x128_S64x8x8x64x128_S64x8x128x128_23_23_4_4_01_01.lhsIdx i q 1 = i 1 := Fin.ext rfl
    have l2 : dot_S64x8x8x64x128_S64x8x8x64x128_S64x8x128x128_23_23_4_4_01_01.lhsIdx i q 2 = a := Fin.ext (Eq.trans rfl q0)
    have l3 : dot_S64x8x8x64x128_S64x8x8x64x128_S64x8x128x128_23_23_4_4_01_01.lhsIdx i q 3 = b := Fin.ext (Eq.trans rfl q1)
    have l4 : dot_S64x8x8x64x128_S64x8x8x64x128_S64x8x128x128_23_23_4_4_01_01.lhsIdx i q 4 = i 2 := Fin.ext rfl
    have r0 : dot_S64x8x8x64x128_S64x8x8x64x128_S64x8x128x128_23_23_4_4_01_01.rhsIdx i q 0 = i 0 := Fin.ext rfl
    have r1 : dot_S64x8x8x64x128_S64x8x8x64x128_S64x8x128x128_23_23_4_4_01_01.rhsIdx i q 1 = i 1 := Fin.ext rfl
    have r2 : dot_S64x8x8x64x128_S64x8x8x64x128_S64x8x128x128_23_23_4_4_01_01.rhsIdx i q 2 = a := Fin.ext (Eq.trans rfl q0)
    have r3 : dot_S64x8x8x64x128_S64x8x8x64x128_S64x8x128x128_23_23_4_4_01_01.rhsIdx i q 3 = b := Fin.ext (Eq.trans rfl q1)
    have r4 : dot_S64x8x8x64x128_S64x8x8x64x128_S64x8x128x128_23_23_4_4_01_01.rhsIdx i q 4 = i 3 := Fin.ext rfl
    rw [v99 h0 h1 h2 h3 h4, v80 h0 h2 h3 h4, l0, l1, l2, l3, l4, r0, r1, r2, r3, r4, ← EReal.coe_mul]
  simp only [e, coe_sum]

include h0 h1 h2 h3 h4 in
theorem v102 (i : S64x8x8x64x128.Idx) :
    val_main_v102 (F := Ideal) x0 x1 x2 x3 x4 i
      = ((Rev.dh (bA r2 r3 r4 (i 1) (i 2)) (bY r1 (i 1) (i 2)) (bC r0 (i 1)) (i 0) (i 3) (i 4) : ℝ) : EReal) := by
  rw [val_main_v102_apply]
  simp only [v99 h0 h1 h2 h3 h4, v38 h0, ← EReal.coe_mul, coe_sum]
  rfl

include h0 h1 h2 h3 h4 in
theorem v105 (i : S8x8x64x128x64.Idx) :
    val_main_v105 (F := Ideal) x0 x1 x2 x3 x4 i
      = ((Rev.dh (bA r2 r3 r4 (i 0) (i 1)) (bY r1 (i 0) (i 1)) (bC r0 (i 0)) (i 4) (i 2) (i 3) : ℝ) : EReal) := by
  rw [val_main_v105_apply, v102 h0 h1 h2 h3 h4]
  rfl

include h0 h1 h2 h3 h4 in
theorem v106 (i : S8x8x64x64.Idx) :
    val_main_v106 (F := Ideal) x0 x1 x2 x3 x4 i
      = ((Rev.dcd (bA r2 r3 r4 (i 0) (i 1)) (bU r0 r2 r3 (i 0) (i 1)) (bY r1 (i 0) (i 1)) (bB r0 (i 0)) (bC r0 (i 0)) (i 2) (i 3) : ℝ) : EReal) := by
  unfold val_main_v106
  simp only [Host.dotGeneral]
  rw [Ideal.dotGeneral_apply, ValueIdx.sum_contr2 dot_S8x8x64x128x64_S64x8x8x64x128_S8x8x64x64_23_34_4_0_01_12 64 128 rfl rfl rfl]
  have e : ∀ (a : Fin 64) (b : Fin 128), val_main_v105 (F := Ideal) x0 x1 x2 x3 x4 (dot_S8x8x64x128x64_S64x8x8x64x128_S8x8x64x64_23_34_4_0_01_12.lhsIdx i ((ValueIdx.contrEquiv2 dot_S8x8x64x128x64_S64x8x8x64x128_S8x8x64x64_23_34_4_0_01_12 64 128 rfl rfl rfl).symm (a, b)))
      * val_main_v65 (F := Ideal) x0 x2 x3 x4 (dot_S8x8x64x128x64_S64x8x8x64x128_S8x8x64x64_23_34_4_0_01_12.rhsIdx i ((ValueIdx.contrEquiv2 dot_S8x8x64x128x64_S64x8x8x64x128_S8x8x64x64_23_34_4_0_01_12 64 128 rfl rfl rfl).symm (a, b)))
      = ((Rev.dh (bA r2 r3 r4 (i 0) (i 1)) (bY r1 (i 0) (i 1)) (bC r0 (i 0)) (i 2) a b * Rev.st (bA r2 r3 r4 (i 0) (i 1)) (bU r0 r2 r3 (i 0) (i 1)) (bB r0 (i 0)) (i 3) a b : ℝ) : EReal) := fun a b => by
    generalize hq : (ValueIdx.contrEquiv2 dot_S8x8x64x128x64_S64x8x8x64x128_S8x8x64x64_23_34_4_0_01_12 64 128 rfl rfl rfl).symm (a, b) = q
    have q0 : (q ⟨0, by decide⟩).val = a.val := by rw [← hq]; exact ValueIdx.contrEquiv2_symm_val0 dot_S8x8x64x128x64_S64x8x8x64x128_S8x8x64x64_23_34_4_0_01_12 64 128 rfl rfl rfl (a, b)
    have q1 : (q ⟨1, by decide⟩).val = b.val := by rw [← hq]; exact ValueIdx.contrEquiv2_symm_val1 dot_S8x8x64x128x64_S64x8x8x64x128_S8x8x64x64_23_34_4_0_01_12 64 128 rfl rfl rfl (a, b)
    have l0 : dot_S8x8x64x128x64_S64x8x8x64x128_S8x8x64x64_23_34_4_0_01_12.lhsIdx i q 0 = i 0 := Fin.ext rfl
    have l1 : dot_S8x8x64x128x64_S64x8x8x64x128_S8x8x64x64_23_34_4_0_01_12.lhsIdx i q 1 = i 1 := Fin.ext rfl
    have l2 : dot_S8x8x64x128x64_S64x8x8x64x128_S8x8x64x64_23_34_4_0_01_12.lhsIdx i q 2 = a := Fin.ext (Eq.trans rfl q0)
    have l3 : dot_S8x8x64x128x64_S64x8x8x64x128_S8x8x64x64_23_34_4_0_01_12.lhsIdx i q 3 = b := Fin.ext (Eq.trans rfl q1)
    have l4 : dot_S8x8x64x128x64_S64x8x8x64x128_S8x8x64x64_23_34_4_0_01_12.lhsIdx i q 4 = i 2 := Fin.ext rfl
    have r0 : dot_S8x8x64x128x64_S64x8x8x64x128_S8x8x64x64_23_34_4_0_01_12.rhsIdx i q 0 = i 3 := Fin.ext rfl
    have r1 : dot_S8x8x64x128x64_S64x8x8x64x128_S8x8x64x64_23_34_4_0_01_12.rhsIdx i q 1 = i 0 := Fin.ext rfl
    have r2 : dot_S8x8x64x128x64_S64x8x8x64x128_S8x8x64x64_23_34_4_0_01_12.rhsIdx i q 2 = i 1 := Fin.ext rfl
    have r3 : dot_S8x8x64x128x64_S64x8x8x64x128_S8x8x64x64_23_34_4_0_01_12.rhsIdx i q 3 = a := Fin.ext (Eq.trans rfl q0)
    have r4 : dot_S8x8x64x128x64_S64x8x8x64x128_S8x8x64x64_23_34_4_0_01_12.rhsIdx i q 4 = b := Fin.ext (Eq.trans rfl q1)
    rw [v105 h0 h1 h2 h3 h4, v65 h0 h2 h3 h4, l0, l1, l2, l3, l4, r0, r1, r2, r3, r4, ← EReal.coe_mul]
  simp only [e, coe_sum]
  rfl

include h0 h1 h2 h3 h4 in
theorem v107 (i : S8x8x64x128x64.Idx) :
    val_main_v107 (F := Ideal) x0 x1 x2 x3 x4 i
      = ((Rev.ds (bA r2 r3 r4 (i 0) (i 1)) (bY r1 (i 0) (i 1)) (bC r0 (i 0)) (i 4) (i 2) (i 3) : ℝ) : EReal) := by
  rw [val_main_v107_apply]
  simp only [v105 h0 h1 h2 h3 h4, v78 h2 h3 h4, ← EReal.coe_mul, coe_sum]
  rfl

include h0 h1 h2 h3 h4 in
theorem v108 (i : S64x8x8x64x128.Idx) :
    val_main_v108 (F := Ideal) x0 x1 x2 x3 x4 i
      = ((Rev.ds (bA r2 r3 r4 (i 1) (i 2)) (bY r1 (i 1) (i 2)) (bC r0 (i 1)) (i 0) (i 3) (i 4) : ℝ) : EReal) := by
  rw [val_main_v108_apply, v107 h0 h1 h2 h3 h4]
  rfl

include h0 h1 h2 h3 h4 in
theorem v110 (i : S8x8x64x64.Idx) :
    val_main_v110 (F := Ideal) x0 x1 x2 x3 x4 i
      = ((Rev.ecd (bA r2 r3 r4 (i 0) (i 1)) (bU r0 r2 r3 (i 0) (i 1)) (bY r1 (i 0) (i 1)) (bB r0 (i 0)) (bC r0 (i 0)) (i 2) (i 3) : ℝ) : EReal) := by
  rw [val_main_v110_apply, v77_1 , select_ofBool, val_main_v109_apply, v106 h0 h1 h2 h3 h4, v78 h2 h3 h4, Ideal.mulf_def, ← EReal.coe_mul, val_main_call15_v0_apply, val_main_call15_cst_apply, zero32, coe_ite_zero]
  rfl

include h0 h1 h2 h3 h4 in
theorem v111 (i : S8x8x64.Idx) :
    val_main_v111 (F := Ideal) x0 x1 x2 x3 x4 i
      = ((∑ w, Rev.ecd (bA r2 r3 r4 (i 0) (i 1)) (bU r0 r2 r3 (i 0) (i 1)) (bY r1 (i 0) (i 1)) (bB r0 (i 0)) (bC r0 (i 0)) (i 2) w : ℝ) : EReal) := by
  rw [val_main_v111_apply, val_main_cst_4_apply, zero32, zero_add]
  simp only [v110 h0 h1 h2 h3 h4, coe_sum]
  rfl

include h0 h1 h2 h3 h4 in
theorem v117 (i : S8x8x64.Idx) :
    val_main_v117 (F := Ideal) x0 x1 x2 x3 x4 i
      = ((∑ w, Rev.ecd (bA r2 r3 r4 (i 0) (i 1)) (bU r0 r2 r3 (i 0) (i 1)) (bY r1 (i 0) (i 1)) (bB r0 (i 0)) (bC r0 (i 0)) (i 2) w : ℝ) : EReal) := by
  rw [val_main_v117_apply, val_main_cst_7_apply, zero32, zero_add, Fin.sum_univ_one, val_main_v112_apply, v111 h0 h1 h2 h3 h4]
  have b0 : (i 0).val < 8 := (i 0).isLt
  have b1 : (i 1).val < 8 := (i 1).isLt
  have b2 : (i 2).val < 64 := (i 2).isLt
  have e0 : idx_main_v112 (idx_main_v117 i 0) 0 = i 0 := Fin.ext (by
    show ((((i 0).val * 8 + (i 1).val) * 64 + (i 2).val) * 1 + 0) / 512 = _; omega)
  have e1 : idx_main_v112 (idx_main_v117 i 0) 1 = i 1 := Fin.ext (by
    show ((((i 0).val * 8 + (i 1).val) * 64 + (i 2).val) * 1 + 0) / 64 % 8 = _; omega)
  have e2 : idx_main_v112 (idx_main_v117 i 0) 2 = i 2 := Fin.ext (by
    show ((((i 0).val * 8 + (i 1).val) * 64 + (i 2).val) * 1 + 0) % 64 = _; omega)
  show ((∑ w, Rev.ecd (bA r2 r3 r4 (idx_main_v112 (idx_main_v117 i 0) 0) (idx_main_v112 (idx_main_v117 i 0) 1)) (bU r0 r2 r3 (idx_main_v112 (idx_main_v117 i 0) 0) (idx_main_v112 (idx_main_v117 i 0) 1)) (bY r1 (idx_main_v112 (idx_main_v117 i 0) 0) (idx_main_v112 (idx_main_v117 i 0) 1)) (bB r0 (idx_main_v112 (idx_main_v117 i 0) 0)) (bC r0 (idx_main_v112 (idx_main_v117 i 0) 0)) (idx_main_v112 (idx_main_v117 i 0) 2) w : ℝ) : EReal) = _
  rw [e0, e1, e2]

include h0 h1 h2 h3 h4 in
theorem v113 (i : S8x8x64x64.Idx) :
    val_main_v113 (F := Ideal) x0 x1 x2 x3 x4 i
      = ((-Rev.ecd (bA r2 r3 r4 (i 0) (i 1)) (bU r0 r2 r3 (i 0) (i 1)) (bY r1 (i 0) (i 1)) (bB r0 (i 0)) (bC r0 (i 0)) (i 2) (i 3) : ℝ) : EReal) := by
  rw [val_main_v113_apply, v110 h0 h1 h2 h3 h4, Ideal.hostNegf_def, Ideal.negf_def, ← EReal.coe_neg]

include h0 h1 h2 h3 h4 in
theorem v114 (i : S8x8x64.Idx) :
    val_main_v114 (F := Ideal) x0 x1 x2 x3 x4 i
      = ((∑ z, -Rev.ecd (bA r2 r3 r4 (i 0) (i 1)) (bU r0 r2 r3 (i 0) (i 1)) (bY r1 (i 0) (i 1)) (bB r0 (i 0)) (bC r0 (i 0)) z (i 2) : ℝ) : EReal) := by
  rw [val_main_v114_apply, val_main_cst_5_apply, zero32, zero_add]
  simp only [v113 h0 h1 h2 h3 h4, coe_sum]
  rfl

include h0 h1 h2 h3 h4 in
theorem v116 (i : S8x8x64.Idx) :
    val_main_v116 (F := Ideal) x0 x1 x2 x3 x4 i
      = ((∑ z, -Rev.ecd (bA r2 r3 r4 (i 0) (i 1)) (bU r0 r2 r3 (i 0) (i 1)) (bY r1 (i 0) (i 1)) (bB r0 (i 0)) (bC r0 (i 0)) z (i 2) : ℝ) : EReal) := by
  rw [val_main_v116_apply, val_main_cst_6_apply, zero32, zero_add, Fin.sum_univ_one, val_main_v115_apply, v114 h0 h1 h2 h3 h4]
  have b0 : (i 0).val < 8 := (i 0).isLt
  have b1 : (i 1).val < 8 := (i 1).isLt
  have b2 : (i 2).val < 64 := (i 2).isLt
  have e0 : idx_main_v115 (idx_main_v116 i 0) 0 = i 0 := Fin.ext (by
    show ((((i 0).val * 8 + (i 1).val) * 1 + 0) * 64 + (i 2).val) / 512 = _; omega)
  have e1 : idx_main_v115 (idx_main_v116 i 0) 1 = i 1 := Fin.ext (by
    show ((((i 0).val * 8 + (i 1).val) * 1 + 0) * 64 + (i 2).val) / 64 % 8 = _; omega)
  have e2 : idx_main_v115 (idx_main_v116 i 0) 2 = i 2 := Fin.ext (by
    show ((((i 0).val * 8 + (i 1).val) * 1 + 0) * 64 + (i 2).val) % 64 = _; omega)
  show ((∑ z, -Rev.ecd (bA r2 r3 r4 (idx_main_v115 (idx_main_v116 i 0) 0) (idx_main_v115 (idx_main_v116 i 0) 1)) (bU r0 r2 r3 (idx_main_v115 (idx_main_v116 i 0) 0) (idx_main_v115 (idx_main_v116 i 0) 1)) (bY r1 (idx_main_v115 (idx_main_v116 i 0) 0) (idx_main_v115 (idx_main_v116 i 0) 1)) (bB r0 (idx_main_v115 (idx_main_v116 i 0) 0)) (bC r0 (idx_main_v115 (idx_main_v116 i 0) 0)) z (idx_main_v115 (idx_main_v116 i 0) 2) : ℝ) : EReal) = _
  rw [e0, e1, e2]

include h0 h1 h2 h3 h4 in
theorem v119 (i : S8x8x64.Idx) :
    val_main_v119 (F := Ideal) x0 x1 x2 x3 x4 i
      = (((∑ z, -Rev.ecd (bA r2 r3 r4 (i 0) (i 1)) (bU r0 r2 r3 (i 0) (i 1)) (bY r1 (i 0) (i 1)) (bB r0 (i 0)) (bC r0 (i 0)) z (i 2)) + ∑ w, Rev.ecd (bA r2 r3 r4 (i 0) (i 1)) (bU r0 r2 r3 (i 0) (i 1)) (bY r1 (i 0) (i 1)) (bB r0 (i 0)) (bC r0 (i 0)) (i 2) w : ℝ) : EReal) := by
  rw [val_main_v119_apply, v116 h0 h1 h2 h3 h4, v117 h0 h1 h2 h3 h4, Ideal.addf_def, ← EReal.coe_add]

include h0 h1 h2 h3 h4 in
theorem v120 (i : S8x8x64.Idx) :
    val_main_v120 (F := Ideal) x0 x1 x2 x3 x4 i
      = ((∑ k, if i 2 ≤ k then (∑ z, -Rev.ecd (bA r2 r3 r4 (i 0) (i 1)) (bU r0 r2 r3 (i 0) (i 1)) (bY r1 (i 0) (i 1)) (bB r0 (i 0)) (bC r0 (i 0)) z k) + ∑ w, Rev.ecd (bA r2 r3 r4 (i 0) (i 1)) (bU r0 r2 r3 (i 0) (i 1)) (bY r1 (i 0) (i 1)) (bB r0 (i 0)) (bC r0 (i 0)) k w else 0 : ℝ) : EReal) := by
  exact cumsum3_high _ _ Ideal.ofBits_zero_f32 _ (fun a b k => (∑ z, -Rev.ecd (bA r2 r3 r4 a b) (bU r0 r2 r3 a b) (bY r1 a b) (bB r0 a) (bC r0 a) z k) + ∑ w, Rev.ecd (bA r2 r3 r4 a b) (bU r0 r2 r3 a b) (bY r1 a b) (bB r0 a) (bC r0 a) k w) (v119 h0 h1 h2 h3 h4) i

include h0 h1 h2 h3 h4 in
theorem v121 (i : S8x8x64.Idx) :
    val_main_v121 (F := Ideal) x0 x1 x2 x3 x4 i
      = ((Rev.dtot (bA r2 r3 r4 (i 0) (i 1)) (bU r0 r2 r3 (i 0) (i 1)) (bY r1 (i 0) (i 1)) (bB r0 (i 0)) (bC r0 (i 0)) (i 2) : ℝ) : EReal) := by
  rw [val_main_v121_apply, val_main_v118_apply, v117 h0 h1 h2 h3 h4, v120 h0 h1 h2 h3 h4, Ideal.hostNegf_def, Ideal.negf_def, Ideal.addf_def, ← EReal.coe_neg, ← EReal.coe_add]
  refine congrArg _ ?_
  unfold Rev.dtot
  simp only [Finset.sum_neg_distrib]
  rw [neg_add_eq_sub]
  refine congrArg (· - _) (Finset.sum_congr rfl fun k _ => ?_)
  rw [neg_add_eq_sub]
  rfl

include h0 h1 h2 h3 h4 in
theorem v123 (i : S8x8x64x128.Idx) :
    val_main_v123 (F := Ideal) x0 x1 x2 x3 x4 i
      = ((atLast (i 3) (Rev.dtot (bA r2 r3 r4 (i 0) (i 1)) (bU r0 r2 r3 (i 0) (i 1)) (bY r1 (i 0) (i 1)) (bB r0 (i 0)) (bC r0 (i 0)) (i 2)) : ℝ) : EReal) := by
  unfold val_main_v123
  by_cases h : (show Fin 128 from i 3) = Fin.last 127
  · unfold atLast
    rw [if_pos h]
    have hv : (i 3).val = 127 := congrArg Fin.val h
    refine (pad_apply_of_inside _ _ _ _ _ _ _ i (fun a => match a with
      | ⟨0, _⟩ => i 0 | ⟨1, _⟩ => i 1 | ⟨2, _⟩ => i 2 | ⟨3, _⟩ => ⟨0, Nat.one_pos⟩ : S8x8x64x1.Idx) (fun a => by
      match a with
      | ⟨0, _⟩ => show (i 0).val = 0 + (i 0).val * 1; omega
      | ⟨1, _⟩ => show (i 1).val = 0 + (i 1).val * 1; omega
      | ⟨2, _⟩ => show (i 2).val = 0 + (i 2).val * 1; omega
      | ⟨3, _⟩ => show (i 3).val = 127 + 0 * 1; omega)).trans ?_
    exact (val_main_v122_apply _ _ _ _ _ _).trans (v121 h0 h1 h2 h3 h4 _)
  · unfold atLast
    rw [if_neg h]
    have hv : (i 3).val ≠ 127 := fun e => h (Fin.ext e)
    have b3 : (i 3).val < 128 := (i 3).isLt
    refine (pad_apply_of_not_inside _ _ _ _ _ _ _ i (3 : Fin 4) (by
      rintro ⟨e, -⟩
      have : 127 ≤ (i 3).val := e
      omega)).trans ?_
    exact (val_main_cst_8_apply _).trans Ideal.ofBits_zero_f32

include h0 h1 h2 h3 h4 in
theorem v124 (i : S64x8x128x128.Idx) :
    val_main_v124 (F := Ideal) x0 x1 x2 x3 x4 i
      = ((∑ j, ∑ p, Rev.ds (bA r2 r3 r4 (i 1) j) (bY r1 (i 1) j) (bC r0 (i 1)) (i 0) p (i 2) * (bU r0 r2 r3 (i 1) j (i 0) (i 3) p * Rev.dst (bA r2 r3 r4 (i 1) j) (i 0) (i 3)) : ℝ) : EReal) := by
  unfold val_main_v124
  simp only [Host.dotGeneral]
  rw [Ideal.dotGeneral_apply, ValueIdx.sum_contr2 dot_S64x8x8x64x128_S64x128x8x8x64_S64x8x128x128_23_34_4_1_01_02 8 64 rfl rfl rfl]
  have e : ∀ (a : Fin 8) (b : Fin 64), val_main_v108 (F := Ideal) x0 x1 x2 x3 x4 (dot_S64x8x8x64x128_S64x128x8x8x64_S64x8x128x128_23_34_4_1_01_02.lhsIdx i ((ValueIdx.contrEquiv2 dot_S64x8x8x64x128_S64x128x8x8x64_S64x8x128x128_23_34_4_1_01_02 8 64 rfl rfl rfl).symm (a, b)))
      * val_main_v64 (F := Ideal) x0 x2 x3 x4 (dot_S64x8x8x64x128_S64x128x8x8x64_S64x8x128x128_23_34_4_1_01_02.rhsIdx i ((ValueIdx.contrEquiv2 dot_S64x8x8x64x128_S64x128x8x8x64_S64x8x128x128_23_34_4_1_01_02 8 64 rfl rfl rfl).symm (a, b)))
      = ((Rev.ds (bA r2 r3 r4 (i 1) a) (bY r1 (i 1) a) (bC r0 (i 1)) (i 0) b (i 2) * (bU r0 r2 r3 (i 1) a (i 0) (i 3) b * Rev.dst (bA r2 r3 r4 (i 1) a) (i 0) (i 3)) : ℝ) : EReal) := fun a b => by
    generalize hq : (ValueIdx.contrEquiv2 dot_S64x8x8x64x128_S64x128x8x8x64_S64x8x128x128_23_34_4_1_01_02 8 64 rfl rfl rfl).symm (a, b) = q
    have q0 : (q ⟨0, by decide⟩).val = a.val := by rw [← hq]; exact ValueIdx.contrEquiv2_symm_val0 dot_S64x8x8x64x128_S64x128x8x8x64_S64x8x128x128_23_34_4_1_01_02 8 64 rfl rfl rfl (a, b)
    have q1 : (q ⟨1, by decide⟩).val = b.val := by rw [← hq]; exact ValueIdx.contrEquiv2_symm_val1 dot_S64x8x8x64x128_S64x128x8x8x64_S64x8x128x128_23_34_4_1_01_02 8 64 rfl rfl rfl (a, b)
    have l0 : dot_S64x8x8x64x128_S64x128x8x8x64_S64x8x128x128_23_34_4_1_01_02.lhsIdx i q 0 = i 0 := Fin.ext rfl
    have l1 : dot_S64x8x8x64x128_S64x128x8x8x64_S64x8x128x128_23_34_4_1_01_02.lhsIdx i q 1 = i 1 := Fin.ext rfl
    have l2 : dot_S64x8x8x64x128_S64x128x8x8x64_S64x8x128x128_23_34_4_1_01_02.lhsIdx i q 2 = a := Fin.ext (Eq.trans rfl q0)
    have l3 : dot_S64x8x8x64x128_S64x128x8x8x64_S64x8x128x128_23_34_4_1_01_02.lhsIdx i q 3 = b := Fin.ext (Eq.trans rfl q1)
    have l4 : dot_S64x8x8x64x128_S64x128x8x8x64_S64x8x128x128_23_34_4_1_01_02.lhsIdx i q 4 = i 2 := Fin.ext rfl
    have r0 : dot_S64x8x8x64x128_S64x128x8x8x64_S64x8x128x128_23_34_4_1_01_02.rhsIdx i q 0 = i 0 := Fin.ext rfl
    have r1 : dot_S64x8x8x64x128_S64x128x8x8x64_S64x8x128x128_23_34_4_1_01_02.rhsIdx i q 1 = i 3 := Fin.ext rfl
    have r2 : dot_S64x8x8x64x128_S64x128x8x8x64_S64x8x128x128_23_34_4_1_01_02.rhsIdx i q 2 = i 1 := Fin.ext rfl
    have r3 : dot_S64x8x8x64x128_S64x128x8x8x64_S64x8x128x128_23_34_4_1_01_02.rhsIdx i q 3 = a := Fin.ext (Eq.trans rfl q0)
    have r4 : dot_S64x8x8x64x128_S64x128x8x8x64_S64x8x128x128_23_34_4_1_01_02.rhsIdx i q 4 = b := Fin.ext (Eq.trans rfl q1)
    rw [v108 h0 h1 h2 h3 h4, v64 h0 h2 h3 h4, l0, l1, l2, l3, l4, r0, r1, r2, r3, r4, ← EReal.coe_mul]
  simp only [e, coe_sum]

include h0 h1 h2 h3 h4 in
theorem v126 (i : S64x8x8x64x128.Idx) :
    val_main_v126 (F := Ideal) x0 x1 x2 x3 x4 i
      = ((Rev.xst (bA r2 r3 r4 (i 1) (i 2)) (bY r1 (i 1) (i 2)) (bB r0 (i 1)) (bC r0 (i 1)) (i 0) (i 4) (i 3) : ℝ) : EReal) := by
  rw [val_main_v126_apply]
  simp only [v108 h0 h1 h2 h3 h4, v35 h0, ← EReal.coe_mul, coe_sum]
  rfl

include h0 h1 h2 h3 h4 in
theorem v127 (i : S64x128x8x8x64.Idx) :
    val_main_v127 (F := Ideal) x0 x1 x2 x3 x4 i
      = ((Rev.xst (bA r2 r3 r4 (i 2) (i 3)) (bY r1 (i 2) (i 3)) (bB r0 (i 2)) (bC r0 (i 2)) (i 0) (i 1) (i 4) : ℝ) : EReal) := by
  rw [val_main_v127_apply, v126 h0 h1 h2 h3 h4]
  rfl

include h0 h1 h2 h3 h4 in
theorem v129 (i : S64x128x8x8.Idx) :
    val_main_v129 (F := Ideal) x0 x1 x2 x3 x4 i
      = ((∑ p, bU r0 r2 r3 (i 2) (i 3) (i 0) (i 1) p * Rev.xst (bA r2 r3 r4 (i 2) (i 3)) (bY r1 (i 2) (i 3)) (bB r0 (i 2)) (bC r0 (i 2)) (i 0) (i 1) p : ℝ) : EReal) := by
  rw [val_main_v129_apply, val_main_cst_9_apply, zero32, zero_add]
  simp only [val_main_v128_apply, v34 h0 h2 h3, v127 h0 h1 h2 h3 h4, Ideal.mulf_def, ← EReal.coe_mul, coe_sum]
  rfl

include h0 h1 h2 h3 h4 in
theorem v133 (i : S64x128x8x8.Idx) :
    val_main_v133 (F := Ideal) x0 x1 x2 x3 x4 i
      = ((∑ p, bU r0 r2 r3 (i 2) (i 3) (i 0) (i 1) p * Rev.xst (bA r2 r3 r4 (i 2) (i 3)) (bY r1 (i 2) (i 3)) (bB r0 (i 2)) (bC r0 (i 2)) (i 0) (i 1) p : ℝ) : EReal) := by
  rw [val_main_v133_apply, val_main_cst_10_apply, zero32, zero_add, Fin.sum_univ_one, val_main_v130_apply, v129 h0 h1 h2 h3 h4]
  have b0 : (i 0).val < 64 := (i 0).isLt
  have b1 : (i 1).val < 128 := (i 1).isLt
  have b2 : (i 2).val < 8 := (i 2).isLt
  have b3 : (i 3).val < 8 := (i 3).isLt
  have e0 : idx_main_v130 (idx_main_v133 i 0) 0 = i 0 := Fin.ext (by
    show (((((i 0).val * 128 + (i 1).val) * 8 + (i 2).val) * 8 + (i 3).val) * 1 + 0) / 8192 = _; omega)
  have e1 : idx_main_v130 (idx_main_v133 i 0) 1 = i 1 := Fin.ext (by
    show (((((i 0).val * 128 + (i 1).val) * 8 + (i 2).val) * 8 + (i 3).val) * 1 + 0) / 64 % 128 = _; omega)
  have e2 : idx_main_v130 (idx_main_v133 i 0) 2 = i 2 := Fin.ext (by
    show (((((i 0).val * 128 + (i 1).val) * 8 + (i 2).val) * 8 + (i 3).val) * 1 + 0) / 8 % 8 = _; omega)
  have e3 : idx_main_v130 (idx_main_v133 i 0) 3 = i 3 := Fin.ext (by
    show (((((i 0).val * 128 + (i 1).val) * 8 + (i 2).val) * 8 + (i 3).val) * 1 + 0) % 8 = _; omega)
  show ((∑ p, bU r0 r2 r3 (idx_main_v130 (idx_main_v133 i 0) 2) (idx_main_v130 (idx_main_v133 i 0) 3) (idx_main_v130 (idx_main_v133 i 0) 0) (idx_main_v130 (idx_main_v133 i 0) 1) p * Rev.xst (bA r2 r3 r4 (idx_main_v130 (idx_main_v133 i 0) 2) (idx_main_v130 (idx_main_v133 i 0) 3)) (bY r1 (idx_main_v130 (idx_main_v133 i 0) 2) (idx_main_v130 (idx_main_v133 i 0) 3)) (bB r0 (idx_main_v130 (idx_main_v133 i 0) 2)) (bC r0 (idx_main_v130 (idx_main_v133 i 0) 2)) (idx_main_v130 (idx_main_v133 i 0) 0) (idx_main_v130 (idx_main_v133 i 0) 1) p : ℝ) : EReal) = _
  rw [e0, e1, e2, e3]

include h0 h1 h2 h3 h4 in
theorem v135 (i : S8x8x64x128.Idx) :
    val_main_v135 (F := Ideal) x0 x1 x2 x3 x4 i
      = ((Rev.gst (bA r2 r3 r4 (i 0) (i 1)) (bU r0 r2 r3 (i 0) (i 1)) (bY r1 (i 0) (i 1)) (bB r0 (i 0)) (bC r0 (i 0)) (i 2) (i 3) : ℝ) : EReal) := by
  rw [val_main_v135_apply, val_main_v134_apply, v133 h0 h1 h2 h3 h4, v60 h2 h3 h4, Ideal.mulf_def, ← EReal.coe_mul]
  rfl

include h0 h1 h2 h3 h4 in
theorem v136 (i : S8x8x64.Idx) :
    val_main_v136 (F := Ideal) x0 x1 x2 x3 x4 i
      = ((∑ m, Rev.gst (bA r2 r3 r4 (i 0) (i 1)) (bU r0 r2 r3 (i 0) (i 1)) (bY r1 (i 0) (i 1)) (bB r0 (i 0)) (bC r0 (i 0)) (i 2) m : ℝ) : EReal) := by
  rw [val_main_v136_apply, val_main_cst_11_apply, zero32, zero_add]
  simp only [v135 h0 h1 h2 h3 h4, coe_sum]
  rfl

include h0 h1 h2 h3 h4 in
theorem v137 (i : S8x8x64x1.Idx) :
    val_main_v137 (F := Ideal) x0 x1 x2 x3 x4 i
      = ((∑ m, Rev.gst (bA r2 r3 r4 (i 0) (i 1)) (bU r0 r2 r3 (i 0) (i 1)) (bY r1 (i 0) (i 1)) (bB r0 (i 0)) (bC r0 (i 0)) (i 2) m : ℝ) : EReal) := by
  rw [val_main_v137_apply, v136 h0 h1 h2 h3 h4]
  have b0 : (i 0).val < 8 := (i 0).isLt
  have b1 : (i 1).val < 8 := (i 1).isLt
  have b2 : (i 2).val < 64 := (i 2).isLt
  have b3 : (i 3).val < 1 := (i 3).isLt
  have e0 : idx_main_v137 i 0 = i 0 := Fin.ext (by
    show ((((i 0).val * 8 + (i 1).val) * 64 + (i 2).val) * 1 + (i 3).val) / 512 = _; omega)
  have e1 : idx_main_v137 i 1 = i 1 := Fin.ext (by
    show ((((i 0).val * 8 + (i 1).val) * 64 + (i 2).val) * 1 + (i 3).val) / 64 % 8 = _; omega)
  have e2 : idx_main_v137 i 2 = i 2 := Fin.ext (by
    show ((((i 0).val * 8 + (i 1).val) * 64 + (i 2).val) * 1 + (i 3).val) % 64 = _; omega)
  show ((∑ m, Rev.gst (bA r2 r3 r4 (idx_main_v137 i 0) (idx_main_v137 i 1)) (bU r0 r2 r3 (idx_main_v137 i 0) (idx_main_v137 i 1)) (bY r1 (idx_main_v137 i 0) (idx_main_v137 i 1)) (bB r0 (idx_main_v137 i 0)) (bC r0 (idx_main_v137 i 0)) (idx_main_v137 i 2) m : ℝ) : EReal) = _
  rw [e0, e1, e2]

include h0 h1 h2 h3 h4 in
theorem v140 (i : S8x8x64x128.Idx) :
    val_main_v140 (F := Ideal) x0 x1 x2 x3 x4 i
      = ((atLast (i 3) (∑ m, Rev.gst (bA r2 r3 r4 (i 0) (i 1)) (bU r0 r2 r3 (i 0) (i 1)) (bY r1 (i 0) (i 1)) (bB r0 (i 0)) (bC r0 (i 0)) (i 2) m) : ℝ) : EReal) := by
  unfold val_main_v140
  by_cases h : (show Fin 128 from i 3) = Fin.last 127
  · unfold atLast
    rw [if_pos h]
    have hv : (i 3).val = 127 := congrArg Fin.val h
    refine (pad_apply_of_inside _ _ _ _ _ _ _ i (fun a => match a with
      | ⟨0, _⟩ => i 0 | ⟨1, _⟩ => i 1 | ⟨2, _⟩ => i 2 | ⟨3, _⟩ => ⟨0, Nat.one_pos⟩ : S8x8x64x1.Idx) (fun a => by
      match a with
      | ⟨0, _⟩ => show (i 0).val = 0 + (i 0).val * 1; omega
      | ⟨1, _⟩ => show (i 1).val = 0 + (i 1).val * 1; omega
      | ⟨2, _⟩ => show (i 2).val = 0 + (i 2).val * 1; omega
      | ⟨3, _⟩ => show (i 3).val = 127 + 0 * 1; omega)).trans ?_
    exact v137 h0 h1 h2 h3 h4 _
  · unfold atLast
    rw [if_neg h]
    have hv : (i 3).val ≠ 127 := fun e => h (Fin.ext e)
    have b3 : (i 3).val < 128 := (i 3).isLt
    refine (pad_apply_of_not_inside _ _ _ _ _ _ _ i (3 : Fin 4) (by
      rintro ⟨e, -⟩
      have : 127 ≤ (i 3).val := e
      omega)).trans ?_
    exact (val_main_cst_12_apply _).trans Ideal.ofBits_zero_f32

include h0 h1 h2 h3 h4 in
theorem v141 (i : S8x8x64x128.Idx) :
    val_main_v141 (F := Ideal) x0 x1 x2 x3 x4 i
      = ((-Rev.gst (bA r2 r3 r4 (i 0) (i 1)) (bU r0 r2 r3 (i 0) (i 1)) (bY r1 (i 0) (i 1)) (bB r0 (i 0)) (bC r0 (i 0)) (i 2) (i 3) + atLast (i 3) (Rev.dtot (bA r2 r3 r4 (i 0) (i 1)) (bU r0 r2 r3 (i 0) (i 1)) (bY r1 (i 0) (i 1)) (bB r0 (i 0)) (bC r0 (i 0)) (i 2) + ∑ m, Rev.gst (bA r2 r3 r4 (i 0) (i 1)) (bU r0 r2 r3 (i 0) (i 1)) (bY r1 (i 0) (i 1)) (bB r0 (i 0)) (bC r0 (i 0)) (i 2) m) : ℝ) : EReal) := by
  rw [val_main_v141_apply, val_main_v139_apply, val_main_v138_apply, v123 h0 h1 h2 h3 h4, v135 h0 h1 h2 h3 h4, v140 h0 h1 h2 h3 h4, Ideal.hostNegf_def, Ideal.negf_def, Ideal.addf_def, Ideal.addf_def, ← EReal.coe_neg, ← EReal.coe_add, ← EReal.coe_add]
  refine congrArg _ ?_
  unfold atLast
  split_ifs <;> ring

include h0 h1 h2 h3 h4 in
theorem v142 (i : S8x8x64x128.Idx) :
    val_main_v142 (F := Ideal) x0 x1 x2 x3 x4 i
      = ((∑ k, if i 3 ≤ k then -Rev.gst (bA r2 r3 r4 (i 0) (i 1)) (bU r0 r2 r3 (i 0) (i 1)) (bY r1 (i 0) (i 1)) (bB r0 (i 0)) (bC r0 (i 0)) (i 2) k + atLast k (Rev.dtot (bA r2 r3 r4 (i 0) (i 1)) (bU r0 r2 r3 (i 0) (i 1)) (bY r1 (i 0) (i 1)) (bB r0 (i 0)) (bC r0 (i 0)) (i 2) + ∑ m, Rev.gst (bA r2 r3 r4 (i 0) (i 1)) (bU r0 r2 r3 (i 0) (i 1)) (bY r1 (i 0) (i 1)) (bB r0 (i 0)) (bC r0 (i 0)) (i 2) m) else 0 : ℝ) : EReal) := by
  exact cumsum4_high _ _ Ideal.ofBits_zero_f32 _ (fun a b c k => -Rev.gst (bA r2 r3 r4 a b) (bU r0 r2 r3 a b) (bY r1 a b) (bB r0 a) (bC r0 a) c k + atLast k (Rev.dtot (bA r2 r3 r4 a b) (bU r0 r2 r3 a b) (bY r1 a b) (bB r0 a) (bC r0 a) c + ∑ m, Rev.gst (bA r2 r3 r4 a b) (bU r0 r2 r3 a b) (bY r1 a b) (bB r0 a) (bC r0 a) c m)) (v141 h0 h1 h2 h3 h4) i

include h0 h1 h2 h3 h4 in
theorem v143 (i : S64x8x8x64x128.Idx) :
    val_main_v143 (F := Ideal) x1 i
      = (((bY r1 (i 1) (i 2)) (i 0) (i 4) (i 3) : ℝ) : EReal) := by
  rw [val_main_v143_apply, v92 h1]
  rfl

include h0 h1 h2 h3 h4 in
theorem v145 (i : S8x8x64x128x128.Idx) :
    val_main_v145 (F := Ideal) x0 x1 x2 x3 i
      = ((Rev.dm (bU r0 r2 r3 (i 0) (i 1)) (bY r1 (i 0) (i 1)) (i 2) (i 3) (i 4) : ℝ) : EReal) := by
  rw [val_main_v145_apply, val_main_v144_apply]
  simp only [v143 h0 h1 h2 h3 h4, v34 h0 h2 h3, ← EReal.coe_mul, coe_sum]
  rfl

include h0 h1 h2 h3 h4 in
theorem v147 (i : S64x128x8x8x64.Idx) :
    val_main_v147 (F := Ideal) x0 x1 x2 x3 x4 i
      = ((∑ l, (bY r1 (i 2) (i 3)) (i 0) l (i 4) * (Rev.cb (bB r0 (i 2)) (bC r0 (i 2)) (i 0) l (i 1) * Rev.dec (bA r2 r3 r4 (i 2) (i 3)) (i 0) l (i 1)) : ℝ) : EReal) := by
  rw [val_main_v147_apply, val_main_v146_apply]
  simp only [v143 h0 h1 h2 h3 h4, v53 h0 h2 h3 h4, ← EReal.coe_mul, coe_sum]
  rfl

include h0 h1 h2 h3 h4 in
theorem v148 (i : S64x128x8x8x64.Idx) :
    val_main_v148 (F := Ideal) x0 x1 x2 x3 x4 i
      = ((Rev.dx (bA r2 r3 r4 (i 2) (i 3)) (bY r1 (i 2) (i 3)) (bB r0 (i 2)) (bC r0 (i 2)) (i 0) (i 1) (i 4) : ℝ) : EReal) := by
  rw [val_main_v148_apply, val_main_v132_apply, v127 h0 h1 h2 h3 h4, val_main_v131_apply, val_main_v62_apply, val_main_v61_apply, v60 h2 h3 h4, v147 h0 h1 h2 h3 h4, Ideal.addf_def, Ideal.mulf_def, ← EReal.coe_mul, ← EReal.coe_add]
  rfl

include h0 h1 h2 h3 h4 in
theorem v151 (i : S8x8x64x128x128.Idx) :
    val_main_v151 (F := Ideal) x0 x1 x2 x3 x4 i
      = ((Rev.dm (bU r0 r2 r3 (i 0) (i 1)) (bY r1 (i 0) (i 1)) (i 2) (i 3) (i 4) * Rev.dec (bA r2 r3 r4 (i 0) (i 1)) (i 2) (i 3) (i 4) : ℝ) : EReal) := by
  rw [val_main_v151_apply, v145 h0 h1 h2 h3 h4, v51 h2 h3 h4, Ideal.mulf_def, ← EReal.coe_mul]

include h0 h1 h2 h3 h4 in
theorem v152 (i : S8x64x128x128.Idx) :
    val_main_v152 (F := Ideal) x0 x1 x2 x3 x4 i
      = ((Rev.dcb (bA r2 r3 r4 (i 0)) (bU r0 r2 r3 (i 0)) (bY r1 (i 0)) (i 1) (i 2) (i 3) : ℝ) : EReal) := by
  rw [val_main_v152_apply, val_main_cst_13_apply, zero32, zero_add]
  simp only [v151 h0 h1 h2 h3 h4, coe_sum]
  rfl

include h0 h1 h2 h3 h4 in
theorem v166 (i : S8x64x128x128.Idx) :
    val_main_v166 (F := Ideal) x0 x1 x2 x3 x4 i
      = ((Rev.dcb (bA r2 r3 r4 (i 0)) (bU r0 r2 r3 (i 0)) (bY r1 (i 0)) (i 1) (i 2) (i 3) : ℝ) : EReal) := by
  rw [val_main_v166_apply, val_main_cst_18_apply, zero32, zero_add, Fin.sum_univ_one, val_main_v153_apply, v152 h0 h1 h2 h3 h4]
  have b0 : (i 0).val < 8 := (i 0).isLt
  have b1 : (i 1).val < 64 := (i 1).isLt
  have b2 : (i 2).val < 128 := (i 2).isLt
  have b3 : (i 3).val < 128 := (i 3).isLt
  have e0 : idx_main_v153 (idx_main_v166 i 0) 0 = i 0 := Fin.ext (by
    show (((((i 0).val * 1 + 0) * 64 + (i 1).val) * 128 + (i 2).val) * 128 + (i 3).val) / 1048576 = _; omega)
  have e1 : idx_main_v153 (idx_main_v166 i 0) 1 = i 1 := Fin.ext (by
    show (((((i 0).val * 1 + 0) * 64 + (i 1).val) * 128 + (i 2).val) * 128 + (i 3).val) / 16384 % 64 = _; omega)
  have e2 : idx_main_v153 (idx_main_v166 i 0) 2 = i 2 := Fin.ext (by
    show (((((i 0).val * 1 + 0) * 64 + (i 1).val) * 128 + (i 2).val) * 128 + (i 3).val) / 128 % 128 = _; omega)
  have e3 : idx_main_v153 (idx_main_v166 i 0) 3 = i 3 := Fin.ext (by
    show (((((i 0).val * 1 + 0) * 64 + (i 1).val) * 128 + (i 2).val) * 128 + (i 3).val) % 128 = _; omega)
  show ((Rev.dcb (bA r2 r3 r4 (idx_main_v153 (idx_main_v166 i 0) 0)) (bU r0 r2 r3 (idx_main_v153 (idx_main_v166 i 0) 0)) (bY r1 (idx_main_v153 (idx_main_v166 i 0) 0)) (idx_main_v153 (idx_main_v166 i 0) 1) (idx_main_v153 (idx_main_v166 i 0) 2) (idx_main_v153 (idx_main_v166 i 0) 3) : ℝ) : EReal) = _
  rw [e0, e1, e2, e3]

include h0 h1 h2 h3 h4 in
theorem v155 (i : S8x8x64x128x128.Idx) :
    val_main_v155 (F := Ideal) x0 x1 x2 x3 x4 i
      = ((Rev.eg (bA r2 r3 r4 (i 0) (i 1)) (bU r0 r2 r3 (i 0) (i 1)) (bY r1 (i 0) (i 1)) (bB r0 (i 0)) (bC r0 (i 0)) (i 2) (i 3) (i 4) : ℝ) : EReal) := by
  rw [val_main_v155_apply, v50_1 , select_ofBool, val_main_v154_apply, val_main_v150_apply, val_main_v149_apply, v41 h0, v145 h0 h1 h2 h3 h4, v51 h2 h3 h4, Ideal.mulf_def, Ideal.mulf_def, ← EReal.coe_mul, ← EReal.coe_mul, val_main_call18_v0_apply, val_main_call18_cst_apply, zero32, coe_ite_zero]
  rfl

include h0 h1 h2 h3 h4 in
theorem v156 (i : S8x8x64x128.Idx) :
    val_main_v156 (F := Ideal) x0 x1 x2 x3 x4 i
      = ((∑ s, Rev.eg (bA r2 r3 r4 (i 0) (i 1)) (bU r0 r2 r3 (i 0) (i 1)) (bY r1 (i 0) (i 1)) (bB r0 (i 0)) (bC r0 (i 0)) (i 2) (i 3) s : ℝ) : EReal) := by
  rw [val_main_v156_apply, val_main_cst_14_apply, zero32, zero_add]
  simp only [v155 h0 h1 h2 h3 h4, coe_sum]
  rfl

include h0 h1 h2 h3 h4 in
theorem v158 (i : S8x8x64x128x128.Idx) :
    val_main_v158 (F := Ideal) x0 x1 x2 x3 x4 i
      = ((-Rev.eg (bA r2 r3 r4 (i 0) (i 1)) (bU r0 r2 r3 (i 0) (i 1)) (bY r1 (i 0) (i 1)) (bB r0 (i 0)) (bC r0 (i 0)) (i 2) (i 3) (i 4) : ℝ) : EReal) := by
  rw [val_main_v158_apply, v155 h0 h1 h2 h3 h4, Ideal.hostNegf_def, Ideal.negf_def, ← EReal.coe_neg]

include h0 h1 h2 h3 h4 in
theorem v159 (i : S8x8x64x128.Idx) :
    val_main_v159 (F := Ideal) x0 x1 x2 x3 x4 i
      = ((∑ m, -Rev.eg (bA r2 r3 r4 (i 0) (i 1)) (bU r0 r2 r3 (i 0) (i 1)) (bY r1 (i 0) (i 1)) (bB r0 (i 0)) (bC r0 (i 0)) (i 2) m (i 3) : ℝ) : EReal) := by
  rw [val_main_v159_apply, val_main_cst_15_apply, zero32, zero_add]
  simp only [v158 h0 h1 h2 h3 h4, coe_sum]
  rfl

include h0 h1 h2 h3 h4 in
theorem v161 (i : S8x8x64x128.Idx) :
    val_main_v161 (F := Ideal) x0 x1 x2 x3 x4 i
      = ((∑ m, -Rev.eg (bA r2 r3 r4 (i 0) (i 1)) (bU r0 r2 r3 (i 0) (i 1)) (bY r1 (i 0) (i 1)) (bB r0 (i 0)) (bC r0 (i 0)) (i 2) m (i 3) : ℝ) : EReal) := by
  rw [val_main_v161_apply, val_main_cst_16_apply, zero32, zero_add, Fin.sum_univ_one, val_main_v160_apply, v159 h0 h1 h2 h3 h4]
  have b0 : (i 0).val < 8 := (i 0).isLt
  have b1 : (i 1).val < 8 := (i 1).isLt
  have b2 : (i 2).val < 64 := (i 2).isLt
  have b3 : (i 3).val < 128 := (i 3).isLt
  have e0 : idx_main_v160 (idx_main_v161 i 0) 0 = i 0 := Fin.ext (by
    show (((((i 0).val * 8 + (i 1).val) * 64 + (i 2).val) * 1 + 0) * 128 + (i 3).val) / 65536 = _; omega)
  have e1 : idx_main_v160 (idx_main_v161 i 0) 1 = i 1 := Fin.ext (by
    show (((((i 0).val * 8 + (i 1).val) * 64 + (i 2).val) * 1 + 0) * 128 + (i 3).val) / 8192 % 8 = _; omega)
  have e2 : idx_main_v160 (idx_main_v161 i 0) 2 = i 2 := Fin.ext (by
    show (((((i 0).val * 8 + (i 1).val) * 64 + (i 2).val) * 1 + 0) * 128 + (i 3).val) / 128 % 64 = _; omega)
  have e3 : idx_main_v160 (idx_main_v161 i 0) 3 = i 3 := Fin.ext (by
    show (((((i 0).val * 8 + (i 1).val) * 64 + (i 2).val) * 1 + 0) * 128 + (i 3).val) % 128 = _; omega)
  show ((∑ m, -Rev.eg (bA r2 r3 r4 (idx_main_v160 (idx_main_v161 i 0) 0) (idx_main_v160 (idx_main_v161 i 0) 1)) (bU r0 r2 r3 (idx_main_v160 (idx_main_v161 i 0) 0) (idx_main_v160 (idx_main_v161 i 0) 1)) (bY r1 (idx_main_v160 (idx_main_v161 i 0) 0) (idx_main_v160 (idx_main_v161 i 0) 1)) (bB r0 (idx_main_v160 (idx_main_v161 i 0) 0)) (bC r0 (idx_main_v160 (idx_main_v161 i 0) 0)) (idx_main_v160 (idx_main_v161 i 0) 2) m (idx_main_v160 (idx_main_v161 i 0) 3) : ℝ) : EReal) = _
  rw [e0, e1, e2, e3]

include h0 h1 h2 h3 h4 in
theorem v162 (i : S8x8x64x128.Idx) :
    val_main_v162 (F := Ideal) x0 x1 x2 x3 x4 i
      = ((∑ s, Rev.eg (bA r2 r3 r4 (i 0) (i 1)) (bU r0 r2 r3 (i 0) (i 1)) (bY r1 (i 0) (i 1)) (bB r0 (i 0)) (bC r0 (i 0)) (i 2) (i 3) s : ℝ) : EReal) := by
  rw [val_main_v162_apply, val_main_cst_17_apply, zero32, zero_add, Fin.sum_univ_one, val_main_v157_apply, v156 h0 h1 h2 h3 h4]
  have b0 : (i 0).val < 8 := (i 0).isLt
  have b1 : (i 1).val < 8 := (i 1).isLt
  have b2 : (i 2).val < 64 := (i 2).isLt
  have b3 : (i 3).val < 128 := (i 3).isLt
  have e0 : idx_main_v157 (idx_main_v162 i 0) 0 = i 0 := Fin.ext (by
    show (((((i 0).val * 8 + (i 1).val) * 64 + (i 2).val) * 128 + (i 3).val) * 1 + 0) / 65536 = _; omega)
  have e1 : idx_main_v157 (idx_main_v162 i 0) 1 = i 1 := Fin.ext (by
    show (((((i 0).val * 8 + (i 1).val) * 64 + (i 2).val) * 128 + (i 3).val) * 1 + 0) / 8192 % 8 = _; omega)
  have e2 : idx_main_v157 (idx_main_v162 i 0) 2 = i 2 := Fin.ext (by
    show (((((i 0).val * 8 + (i 1).val) * 64 + (i 2).val) * 128 + (i 3).val) * 1 + 0) / 128 % 64 = _; omega)
  have e3 : idx_main_v157 (idx_main_v162 i 0) 3 = i 3 := Fin.ext (by
    show (((((i 0).val * 8 + (i 1).val) * 64 + (i 2).val) * 128 + (i 3).val) * 1 + 0) % 128 = _; omega)
  show ((∑ s, Rev.eg (bA r2 r3 r4 (idx_main_v157 (idx_main_v162 i 0) 0) (idx_main_v157 (idx_main_v162 i 0) 1)) (bU r0 r2 r3 (idx_main_v157 (idx_main_v162 i 0) 0) (idx_main_v157 (idx_main_v162 i 0) 1)) (bY r1 (idx_main_v157 (idx_main_v162 i 0) 0) (idx_main_v157 (idx_main_v162 i 0) 1)) (bB r0 (idx_main_v157 (idx_main_v162 i 0) 0)) (bC r0 (idx_main_v157 (idx_main_v162 i 0) 0)) (idx_main_v157 (idx_main_v162 i 0) 2) (idx_main_v157 (idx_main_v162 i 0) 3) s : ℝ) : EReal) = _
  rw [e0, e1, e2, e3]

include h0 h1 h2 h3 h4 in
theorem v163 (i : S8x8x64x128.Idx) :
    val_main_v163 (F := Ideal) x0 x1 x2 x3 x4 i
      = ((((∑ s, Rev.eg (bA r2 r3 r4 (i 0) (i 1)) (bU r0 r2 r3 (i 0) (i 1)) (bY r1 (i 0) (i 1)) (bB r0 (i 0)) (bC r0 (i 0)) (i 2) (i 3) s) - ∑ m, Rev.eg (bA r2 r3 r4 (i 0) (i 1)) (bU r0 r2 r3 (i 0) (i 1)) (bY r1 (i 0) (i 1)) (bB r0 (i 0)) (bC r0 (i 0)) (i 2) m (i 3)) : ℝ) : EReal) := by
  rw [val_main_v163_apply, v161 h0 h1 h2 h3 h4, v162 h0 h1 h2 h3 h4, Ideal.addf_def, ← EReal.coe_add, Finset.sum_neg_distrib, neg_add_eq_sub]

include h0 h1 h2 h3 h4 in
theorem v164 (i : S8x8x64x128.Idx) :
    val_main_v164 (F := Ideal) x0 x1 x2 x3 x4 i
      = ((∑ k, if i 3 ≤ k then ((∑ s, Rev.eg (bA r2 r3 r4 (i 0) (i 1)) (bU r0 r2 r3 (i 0) (i 1)) (bY r1 (i 0) (i 1)) (bB r0 (i 0)) (bC r0 (i 0)) (i 2) k s) - ∑ m, Rev.eg (bA r2 r3 r4 (i 0) (i 1)) (bU r0 r2 r3 (i 0) (i 1)) (bY r1 (i 0) (i 1)) (bB r0 (i 0)) (bC r0 (i 0)) (i 2) m k) else 0 : ℝ) : EReal) := by
  exact cumsum4_high _ _ Ideal.ofBits_zero_f32 _ (fun a b c k => ((∑ s, Rev.eg (bA r2 r3 r4 a b) (bU r0 r2 r3 a b) (bY r1 a b) (bB r0 a) (bC r0 a) c k s) - ∑ m, Rev.eg (bA r2 r3 r4 a b) (bU r0 r2 r3 a b) (bY r1 a b) (bB r0 a) (bC r0 a) c m k)) (v163 h0 h1 h2 h3 h4) i

include h0 h1 h2 h3 h4 in
theorem v168 (i : S64x128x8x128.Idx) :
    val_main_v168 (F := Ideal) x0 x1 x2 x3 x4 i
      = ((∑ l, Rev.dcb (bA r2 r3 r4 (i 2)) (bU r0 r2 r3 (i 2)) (bY r1 (i 2)) (i 0) l (i 1) * (bC r0 (i 2)) (i 0) l (i 3) : ℝ) : EReal) := by
  rw [val_main_v168_apply, val_main_v167_apply]
  simp only [v166 h0 h1 h2 h3 h4, v38 h0, ← EReal.coe_mul, coe_sum]
  rfl

include h0 h1 h2 h3 h4 in
theorem v169 (i : S64x128x8x128.Idx) :
    val_main_v169 (F := Ideal) x0 x1 x2 x3 x4 i
      = ((Rev.dB (bA r2 r3 r4 (i 2)) (bU r0 r2 r3 (i 2)) (bY r1 (i 2)) (bC r0 (i 2)) (i 0) (i 1) (i 3) : ℝ) : EReal) := by
  rw [val_main_v169_apply, val_main_v125_apply, v124 h0 h1 h2 h3 h4, v168 h0 h1 h2 h3 h4, Ideal.addf_def, ← EReal.coe_add]
  rfl

include h0 h1 h2 h3 h4 in
theorem v171 (i : S64x128x8x128.Idx) :
    val_main_v171 (F := Ideal) x0 x1 x2 x3 x4 i
      = ((∑ s, Rev.dcb (bA r2 r3 r4 (i 2)) (bU r0 r2 r3 (i 2)) (bY r1 (i 2)) (i 0) (i 1) s * (bB r0 (i 2)) (i 0) s (i 3) : ℝ) : EReal) := by
  rw [val_main_v171_apply, val_main_v170_apply]
  simp only [v166 h0 h1 h2 h3 h4, v35 h0, ← EReal.coe_mul, coe_sum]
  rfl

include h0 h1 h2 h3 h4 in
theorem v172 (i : S64x128x8x128.Idx) :
    val_main_v172 (F := Ideal) x0 x1 x2 x3 x4 i
      = ((Rev.dC (bA r2 r3 r4 (i 2)) (bU r0 r2 r3 (i 2)) (bY r1 (i 2)) (bB r0 (i 2)) (i 0) (i 1) (i 3) : ℝ) : EReal) := by
  rw [val_main_v172_apply, val_main_v101_apply, v100 h0 h1 h2 h3 h4, v171 h0 h1 h2 h3 h4, Ideal.addf_def, ← EReal.coe_add]
  rfl

include h0 h1 h2 h3 h4 in
theorem v173 (i : S8x8x64x128.Idx) :
    val_main_v173 (F := Ideal) x0 x1 x2 x3 x4 i
      = ((∑ k, if i 3 ≤ k then Rev.gin (bA r2 r3 r4 (i 0) (i 1)) (bU r0 r2 r3 (i 0) (i 1)) (bY r1 (i 0) (i 1)) (bB r0 (i 0)) (bC r0 (i 0)) (i 2) k else 0 : ℝ) : EReal) := by
  exact cumsum4_high _ _ Ideal.ofBits_zero_f32 _ (fun a b c k => Rev.gin (bA r2 r3 r4 a b) (bU r0 r2 r3 a b) (bY r1 a b) (bB r0 a) (bC r0 a) c k) (v104 h0 h1 h2 h3 h4) i

include h0 h1 h2 h3 h4 in
theorem v174 (i : S8x8x64x128.Idx) :
    val_main_v174 (F := Ideal) x0 x1 x2 x3 x4 i
      = ((Rev.da (bA r2 r3 r4 (i 0) (i 1)) (bU r0 r2 r3 (i 0) (i 1)) (bY r1 (i 0) (i 1)) (bB r0 (i 0)) (bC r0 (i 0)) (i 2) (i 3) : ℝ) : EReal) := by
  rw [val_main_v174_apply, val_main_v165_apply, v142 h0 h1 h2 h3 h4, v164 h0 h1 h2 h3 h4, v173 h0 h1 h2 h3 h4, Ideal.addf_def, Ideal.addf_def, ← EReal.coe_add, ← EReal.coe_add]
  rfl

end Scan.Ref
-- ==== Proof.RefC.lean ====
module

public import proofs.«01_k».proof.Proof.RefB

/-!
# The reference's stages, read: the results
-/

@[expose] public section

open Cert.ReferenceIdeal Cert.ReferenceIdeal.Gen Cert.ReferenceIdeal.Read Idealize.ShloMosaic
open scoped BigOperators

namespace Scan.Ref

variable {r0 : Fin 8192 → Fin 6144 → ℝ} {r1 : Fin 8192 → Fin 4096 → ℝ} {r2 : Fin 8192 → Fin 128 → ℝ} {r3 r4 : Fin 128 → ℝ}
variable {x0 : (⟨S8192x6144, .bf16⟩ : BufTy).Contents (Elt Ideal)} {x1 : (⟨S8192x4096, .bf16⟩ : BufTy).Contents (Elt Ideal)}
  {x2 : (⟨S8192x128, .f32⟩ : BufTy).Contents (Elt Ideal)} {x3 x4 : (⟨S128, .f32⟩ : BufTy).Contents (Elt Ideal)}
variable (h0 : ∀ i : S8192x6144.Idx, x0 i = ((r0 (i 0) (i 1) : ℝ) : EReal))
variable (h1 : ∀ i : S8192x4096.Idx, x1 i = ((r1 (i 0) (i 1) : ℝ) : EReal))
variable (h2 : ∀ i : S8192x128.Idx, x2 i = ((r2 (i 0) (i 1) : ℝ) : EReal))
variable (h3 : ∀ i : S128.Idx, x3 i = ((r3 (i 0) : ℝ) : EReal))
variable (h4 : ∀ i : S128.Idx, x4 i = ((r4 (i 0) : ℝ) : EReal))

/-- A reversal read at one index. -/
theorem rev_eq {α : Type} {s : Shape} (axes : List (Fin s.rank)) (x : s.Idx → α) (i k : s.Idx)
    (h : ∀ a, k a = if a ∈ axes then (i a).rev else i a) : Host.reverse axes x i = x k := by
  rw [Host.reverse_apply]
  exact congrArg x (funext fun a => (h a).symm)

/-- A padding of whole zeros. -/
theorem sitofp_zero (i : S_.Idx) : (sitofp .f32 (constantI S_ 32 0#32) : FVec Ideal S_ .f32) i = (0 : EReal) := by
  show ((((0#32 : BitVec 32).toInt : ℝ)) : EReal) = 0
  simp

include h0 h1 h2 h3 h4 in
theorem v180 (i : S8192x8x128.Idx) :
    val_main_v180 (F := Ideal) x0 x1 x2 x3 x4 i
      = ((Rev.dC (bA r2 r3 r4 (i 1)) (bU r0 r2 r3 (i 1)) (bY r1 (i 1)) (bB r0 (i 1)) (ch (i 0)).rev (pos (i 0)).rev (i 2) : ℝ) : EReal) := by
  unfold val_main_v180
  obtain ⟨k, k0, k1, k2, hk⟩ : ∃ k : S8192x8x128.Idx, (k 0).val = 8191 - (i 0).val ∧ k 1 = i 1 ∧ k 2 = i 2 ∧ Host.reverse [0] (val_main_v175 (F := Ideal) x0 x1 x2 x3 x4) i = val_main_v175 (F := Ideal) x0 x1 x2 x3 x4 k :=
    ⟨(fun a => match a with
      | ⟨0, _⟩ => (i 0).rev | ⟨1, _⟩ => i 1 | ⟨2, _⟩ => i 2 : S8192x8x128.Idx), by show (i 0).rev.val = _; rw [Fin.val_rev]; show 8192 - ((i 0).val + 1) = _; omega, rfl, rfl, rev_eq _ _ _ _ (fun a => by
      match a with
      | ⟨0, _⟩ => rfl
      | ⟨1, _⟩ => rfl
      | ⟨2, _⟩ => rfl)⟩
  rw [hk, val_main_v175_apply, v172 h0 h1 h2 h3 h4]
  have b0 : (i 0).val < 8192 := (i 0).isLt
  have b1 : (i 1).val < 8 := (i 1).isLt
  have b2 : (i 2).val < 128 := (i 2).isLt
  have e0 : idx_main_v175 k 0 = (ch (i 0)).rev := Fin.ext (by
    rw [Fin.val_rev]
    show (((k 0).val * 8 + (k 1).val) * 128 + (k 2).val) / 131072 = 64 - ((i 0).val / 128 + 1); rw [k0, k1, k2]; omega)
  have e1 : idx_main_v175 k 1 = (pos (i 0)).rev := Fin.ext (by
    rw [Fin.val_rev]
    show (((k 0).val * 8 + (k 1).val) * 128 + (k 2).val) / 1024 % 128 = 128 - ((i 0).val % 128 + 1); rw [k0, k1, k2]; omega)
  have e2 : idx_main_v175 k 2 = i 1 := Fin.ext (by
    show (((k 0).val * 8 + (k 1).val) * 128 + (k 2).val) / 128 % 8 = (i 1).val; rw [k0, k1, k2]; omega)
  have e3 : idx_main_v175 k 3 = i 2 := Fin.ext (by
    show (((k 0).val * 8 + (k 1).val) * 128 + (k 2).val) % 128 = (i 2).val; rw [k0, k1, k2]; omega)
  show ((Rev.dC (bA r2 r3 r4 (idx_main_v175 k 2)) (bU r0 r2 r3 (idx_main_v175 k 2)) (bY r1 (idx_main_v175 k 2)) (bB r0 (idx_main_v175 k 2)) (idx_main_v175 k 0) (idx_main_v175 k 1) (idx_main_v175 k 3) : ℝ) : EReal) = _
  rw [e0, e1, e2, e3]

include h0 h1 h2 h3 h4 in
theorem v181 (i : S8192x8x128.Idx) :
    val_main_v181 (F := Ideal) x0 x1 x2 x3 x4 i
      = ((Rev.dB (bA r2 r3 r4 (i 1)) (bU r0 r2 r3 (i 1)) (bY r1 (i 1)) (bC r0 (i 1)) (ch (i 0)).rev (pos (i 0)).rev (i 2) : ℝ) : EReal) := by
  unfold val_main_v181
  obtain ⟨k, k0, k1, k2, hk⟩ : ∃ k : S8192x8x128.Idx, (k 0).val = 8191 - (i 0).val ∧ k 1 = i 1 ∧ k 2 = i 2 ∧ Host.reverse [0] (val_main_v178 (F := Ideal) x0 x1 x2 x3 x4) i = val_main_v178 (F := Ideal) x0 x1 x2 x3 x4 k :=
    ⟨(fun a => match a with
      | ⟨0, _⟩ => (i 0).rev | ⟨1, _⟩ => i 1 | ⟨2, _⟩ => i 2 : S8192x8x128.Idx), by show (i 0).rev.val = _; rw [Fin.val_rev]; show 8192 - ((i 0).val + 1) = _; omega, rfl, rfl, rev_eq _ _ _ _ (fun a => by
      match a with
      | ⟨0, _⟩ => rfl
      | ⟨1, _⟩ => rfl
      | ⟨2, _⟩ => rfl)⟩
  rw [hk, val_main_v178_apply, v169 h0 h1 h2 h3 h4]
  have b0 : (i 0).val < 8192 := (i 0).isLt
  have b1 : (i 1).val < 8 := (i 1).isLt
  have b2 : (i 2).val < 128 := (i 2).isLt
  have e0 : idx_main_v178 k 0 = (ch (i 0)).rev := Fin.ext (by
    rw [Fin.val_rev]
    show (((k 0).val * 8 + (k 1).val) * 128 + (k 2).val) / 131072 = 64 - ((i 0).val / 128 + 1); rw [k0, k1, k2]; omega)
  have e1 : idx_main_v178 k 1 = (pos (i 0)).rev := Fin.ext (by
    rw [Fin.val_rev]
    show (((k 0).val * 8 + (k 1).val) * 128 + (k 2).val) / 1024 % 128 = 128 - ((i 0).val % 128 + 1); rw [k0, k1, k2]; omega)
  have e2 : idx_main_v178 k 2 = i 1 := Fin.ext (by
    show (((k 0).val * 8 + (k 1).val) * 128 + (k 2).val) / 128 % 8 = (i 1).val; rw [k0, k1, k2]; omega)
  have e3 : idx_main_v178 k 3 = i 2 := Fin.ext (by
    show (((k 0).val * 8 + (k 1).val) * 128 + (k 2).val) % 128 = (i 2).val; rw [k0, k1, k2]; omega)
  show ((Rev.dB (bA r2 r3 r4 (idx_main_v178 k 2)) (bU r0 r2 r3 (idx_main_v178 k 2)) (bY r1 (idx_main_v178 k 2)) (bC r0 (idx_main_v178 k 2)) (idx_main_v178 k 0) (idx_main_v178 k 1) (idx_main_v178 k 3) : ℝ) : EReal) = _
  rw [e0, e1, e2, e3]

include h0 h1 h2 h3 h4 in
theorem v182 (i : S8192x8x8.Idx) :
    val_main_v182 (F := Ideal) x0 x1 x2 x3 x4 i
      = ((Rev.da (bA r2 r3 r4 (i 1) (i 2)) (bU r0 r2 r3 (i 1) (i 2)) (bY r1 (i 1) (i 2)) (bB r0 (i 1)) (bC r0 (i 1)) (ch (i 0)).rev (pos (i 0)).rev : ℝ) : EReal) := by
  unfold val_main_v182
  obtain ⟨k, k0, k1, k2, hk⟩ : ∃ k : S8192x8x8.Idx, (k 0).val = 8191 - (i 0).val ∧ k 1 = i 1 ∧ k 2 = i 2 ∧ Host.reverse [0] (val_main_v177 (F := Ideal) x0 x1 x2 x3 x4) i = val_main_v177 (F := Ideal) x0 x1 x2 x3 x4 k :=
    ⟨(fun a => match a with
      | ⟨0, _⟩ => (i 0).rev | ⟨1, _⟩ => i 1 | ⟨2, _⟩ => i 2 : S8192x8x8.Idx), by show (i 0).rev.val = _; rw [Fin.val_rev]; show 8192 - ((i 0).val + 1) = _; omega, rfl, rfl, rev_eq _ _ _ _ (fun a => by
      match a with
      | ⟨0, _⟩ => rfl
      | ⟨1, _⟩ => rfl
      | ⟨2, _⟩ => rfl)⟩
  rw [hk, val_main_v177_apply, val_main_v176_apply, v174 h0 h1 h2 h3 h4]
  have b0 : (i 0).val < 8192 := (i 0).isLt
  have b1 : (i 1).val < 8 := (i 1).isLt
  have b2 : (i 2).val < 8 := (i 2).isLt
  have e0 : idx_main_v177 k 0 = (ch (i 0)).rev := Fin.ext (by
    rw [Fin.val_rev]
    show (((k 0).val * 8 + (k 1).val) * 8 + (k 2).val) / 8192 = 64 - ((i 0).val / 128 + 1); rw [k0, k1, k2]; omega)
  have e1 : idx_main_v177 k 1 = (pos (i 0)).rev := Fin.ext (by
    rw [Fin.val_rev]
    show (((k 0).val * 8 + (k 1).val) * 8 + (k 2).val) / 64 % 128 = 128 - ((i 0).val % 128 + 1); rw [k0, k1, k2]; omega)
  have e2 : idx_main_v177 k 2 = i 1 := Fin.ext (by
    show (((k 0).val * 8 + (k 1).val) * 8 + (k 2).val) / 8 % 8 = (i 1).val; rw [k0, k1, k2]; omega)
  have e3 : idx_main_v177 k 3 = i 2 := Fin.ext (by
    show (((k 0).val * 8 + (k 1).val) * 8 + (k 2).val) % 8 = (i 2).val; rw [k0, k1, k2]; omega)
  show ((Rev.da (bA r2 r3 r4 (idx_main_v177 k 2) (idx_main_v177 k 3)) (bU r0 r2 r3 (idx_main_v177 k 2) (idx_main_v177 k 3)) (bY r1 (idx_main_v177 k 2) (idx_main_v177 k 3)) (bB r0 (idx_main_v177 k 2)) (bC r0 (idx_main_v177 k 2)) (idx_main_v177 k 0) (idx_main_v177 k 1) : ℝ) : EReal) = _
  rw [e0, e1, e2, e3]

include h0 h1 h2 h3 h4 in
theorem v183 (i : S8192x8x8x64.Idx) :
    val_main_v183 (F := Ideal) x0 x1 x2 x3 x4 i
      = ((Rev.dx (bA r2 r3 r4 (i 1) (i 2)) (bY r1 (i 1) (i 2)) (bB r0 (i 1)) (bC r0 (i 1)) (ch (i 0)).rev (pos (i 0)).rev (i 3) : ℝ) : EReal) := by
  unfold val_main_v183
  obtain ⟨k, k0, k1, k2, k3, hk⟩ : ∃ k : S8192x8x8x64.Idx, (k 0).val = 8191 - (i 0).val ∧ k 1 = i 1 ∧ k 2 = i 2 ∧ k 3 = i 3 ∧ Host.reverse [0] (val_main_v179 (F := Ideal) x0 x1 x2 x3 x4) i = val_main_v179 (F := Ideal) x0 x1 x2 x3 x4 k :=
    ⟨(fun a => match a with
      | ⟨0, _⟩ => (i 0).rev | ⟨1, _⟩ => i 1 | ⟨2, _⟩ => i 2 | ⟨3, _⟩ => i 3 : S8192x8x8x64.Idx), by show (i 0).rev.val = _; rw [Fin.val_rev]; show 8192 - ((i 0).val + 1) = _; omega, rfl, rfl, rfl, rev_eq _ _ _ _ (fun a => by
      match a with
      | ⟨0, _⟩ => rfl
      | ⟨1, _⟩ => rfl
      | ⟨2, _⟩ => rfl
      | ⟨3, _⟩ => rfl)⟩
  rw [hk, val_main_v179_apply, v148 h0 h1 h2 h3 h4]
  have b0 : (i 0).val < 8192 := (i 0).isLt
  have b1 : (i 1).val < 8 := (i 1).isLt
  have b2 : (i 2).val < 8 := (i 2).isLt
  have b3 : (i 3).val < 64 := (i 3).isLt
  have e0 : idx_main_v179 k 0 = (ch (i 0)).rev := Fin.ext (by
    rw [Fin.val_rev]
    show ((((k 0).val * 8 + (k 1).val) * 8 + (k 2).val) * 64 + (k 3).val) / 524288 = 64 - ((i 0).val / 128 + 1); rw [k0, k1, k2, k3]; omega)
  have e1 : idx_main_v179 k 1 = (pos (i 0)).rev := Fin.ext (by
    rw [Fin.val_rev]
    show ((((k 0).val * 8 + (k 1).val) * 8 + (k 2).val) * 64 + (k 3).val) / 4096 % 128 = 128 - ((i 0).val % 128 + 1); rw [k0, k1, k2, k3]; omega)
  have e2 : idx_main_v179 k 2 = i 1 := Fin.ext (by
    show ((((k 0).val * 8 + (k 1).val) * 8 + (k 2).val) * 64 + (k 3).val) / 512 % 8 = (i 1).val; rw [k0, k1, k2, k3]; omega)
  have e3 : idx_main_v179 k 3 = i 2 := Fin.ext (by
    show ((((k 0).val * 8 + (k 1).val) * 8 + (k 2).val) * 64 + (k 3).val) / 64 % 8 = (i 2).val; rw [k0, k1, k2, k3]; omega)
  have e4 : idx_main_v179 k 4 = i 3 := Fin.ext (by
    show ((((k 0).val * 8 + (k 1).val) * 8 + (k 2).val) * 64 + (k 3).val) % 64 = (i 3).val; rw [k0, k1, k2, k3]; omega)
  show ((Rev.dx (bA r2 r3 r4 (idx_main_v179 k 2) (idx_main_v179 k 3)) (bY r1 (idx_main_v179 k 2) (idx_main_v179 k 3)) (bB r0 (idx_main_v179 k 2)) (bC r0 (idx_main_v179 k 2)) (idx_main_v179 k 0) (idx_main_v179 k 1) (idx_main_v179 k 4) : ℝ) : EReal) = _
  rw [e0, e1, e2, e3, e4]

include h0 h1 h2 h3 h4 in
theorem v185 (i : S8192x8x8.Idx) :
    val_main_v185 (F := Ideal) x0 x1 x2 x3 x4 i
      = ((∑ p, rX r0 (i 0) (i 1) (i 2) p * Rev.dx (bA r2 r3 r4 (i 1) (i 2)) (bY r1 (i 1) (i 2)) (bB r0 (i 1)) (bC r0 (i 1)) (ch (i 0)).rev (pos (i 0)).rev p : ℝ) : EReal) := by
  rw [val_main_v185_apply, val_main_cst_19_apply, zero32, zero_add]
  simp only [val_main_v184_apply, v4 h0, v183 h0 h1 h2 h3 h4, Ideal.mulf_def, ← EReal.coe_mul, coe_sum]
  rfl

include h0 h1 h2 h3 h4 in
theorem v189 (i : S8192x8x8.Idx) :
    val_main_v189 (F := Ideal) x0 x1 x2 x3 x4 i
      = ((∑ p, rX r0 (i 0) (i 1) (i 2) p * Rev.dx (bA r2 r3 r4 (i 1) (i 2)) (bY r1 (i 1) (i 2)) (bB r0 (i 1)) (bC r0 (i 1)) (ch (i 0)).rev (pos (i 0)).rev p : ℝ) : EReal) := by
  rw [val_main_v189_apply, val_main_cst_20_apply, zero32, zero_add, Fin.sum_univ_one, val_main_v186_apply, v185 h0 h1 h2 h3 h4]
  have b0 : (i 0).val < 8192 := (i 0).isLt
  have b1 : (i 1).val < 8 := (i 1).isLt
  have b2 : (i 2).val < 8 := (i 2).isLt
  have e0 : idx_main_v186 (idx_main_v189 i 0) 0 = i 0 := Fin.ext (by
    show ((((i 0).val * 8 + (i 1).val) * 8 + (i 2).val) * 1 + 0) / 64 = _; omega)
  have e1 : idx_main_v186 (idx_main_v189 i 0) 1 = i 1 := Fin.ext (by
    show ((((i 0).val * 8 + (i 1).val) * 8 + (i 2).val) * 1 + 0) / 8 % 8 = _; omega)
  have e2 : idx_main_v186 (idx_main_v189 i 0) 2 = i 2 := Fin.ext (by
    show ((((i 0).val * 8 + (i 1).val) * 8 + (i 2).val) * 1 + 0) % 8 = _; omega)
  show ((∑ p, rX r0 (idx_main_v186 (idx_main_v189 i 0) 0) (idx_main_v186 (idx_main_v189 i 0) 1) (idx_main_v186 (idx_main_v189 i 0) 2) p * Rev.dx (bA r2 r3 r4 (idx_main_v186 (idx_main_v189 i 0) 1) (idx_main_v186 (idx_main_v189 i 0) 2)) (bY r1 (idx_main_v186 (idx_main_v189 i 0) 1) (idx_main_v186 (idx_main_v189 i 0) 2)) (bB r0 (idx_main_v186 (idx_main_v189 i 0) 1)) (bC r0 (idx_main_v186 (idx_main_v189 i 0) 1)) (ch (idx_main_v186 (idx_main_v189 i 0) 0)).rev (pos (idx_main_v186 (idx_main_v189 i 0) 0)).rev p : ℝ) : EReal) = _
  rw [e0, e1, e2]

include h0 h1 h2 h3 h4 in
theorem v188 (i : S8192x8x8x64.Idx) :
    val_main_v188 (F := Ideal) x0 x1 x2 x3 x4 i
      = ((Rev.dx (bA r2 r3 r4 (i 1) (i 2)) (bY r1 (i 1) (i 2)) (bB r0 (i 1)) (bC r0 (i 1)) (ch (i 0)).rev (pos (i 0)).rev (i 3) * rD r2 r3 (i 0) (i 1) (i 2) : ℝ) : EReal) := by
  rw [val_main_v188_apply, v183 h0 h1 h2 h3 h4, val_main_v187_apply, val_main_v27_apply, v16 h2 h3, Ideal.mulf_def, ← EReal.coe_mul]
  rfl

include h0 h1 h2 h3 h4 in
theorem v191 (i : S8192x4096.Idx) :
    val_main_v191 (F := Ideal) x0 x1 x2 x3 x4 i
      = ((Rev.dx (bA r2 r3 r4 (xg (i 1)) (xj (i 1))) (bY r1 (xg (i 1)) (xj (i 1))) (bB r0 (xg (i 1))) (bC r0 (xg (i 1))) (ch (i 0)).rev (pos (i 0)).rev (xp (i 1)) * rD r2 r3 (i 0) (xg (i 1)) (xj (i 1)) : ℝ) : EReal) := by
  rw [val_main_v191_apply, Ideal.truncf_def, val_main_v190_apply, v188 h0 h1 h2 h3 h4]
  have b0 : (i 0).val < 8192 := (i 0).isLt
  have b1 : (i 1).val < 4096 := (i 1).isLt
  have e0 : idx_main_v190 i 0 = i 0 := Fin.ext (by
    show ((i 0).val * 4096 + (i 1).val) / 4096 = _; omega)
  have e1 : idx_main_v190 i 1 = xg (i 1) := Fin.ext (by
    show ((i 0).val * 4096 + (i 1).val) / 512 % 8 = (i 1).val / 512; omega)
  have e2 : idx_main_v190 i 2 = xj (i 1) := Fin.ext (by
    show ((i 0).val * 4096 + (i 1).val) / 64 % 8 = (i 1).val / 64 % 8; omega)
  have e3 : idx_main_v190 i 3 = xp (i 1) := Fin.ext (by
    show ((i 0).val * 4096 + (i 1).val) % 64 = (i 1).val % 64; omega)
  show ((Rev.dx (bA r2 r3 r4 (idx_main_v190 i 1) (idx_main_v190 i 2)) (bY r1 (idx_main_v190 i 1) (idx_main_v190 i 2)) (bB r0 (idx_main_v190 i 1)) (bC r0 (idx_main_v190 i 1)) (ch (idx_main_v190 i 0)).rev (pos (idx_main_v190 i 0)).rev (idx_main_v190 i 3) * rD r2 r3 (idx_main_v190 i 0) (idx_main_v190 i 1) (idx_main_v190 i 2) : ℝ) : EReal) = _
  rw [e0, e1, e2, e3]

include h0 h1 h2 h3 h4 in
theorem v193 (i : S8192x1024.Idx) :
    val_main_v193 (F := Ideal) x0 x1 x2 x3 x4 i
      = ((Rev.dB (bA r2 r3 r4 (bg (i 1))) (bU r0 r2 r3 (bg (i 1))) (bY r1 (bg (i 1))) (bC r0 (bg (i 1))) (ch (i 0)).rev (pos (i 0)).rev (bn (i 1)) : ℝ) : EReal) := by
  rw [val_main_v193_apply, Ideal.truncf_def, val_main_v192_apply, v181 h0 h1 h2 h3 h4]
  have b0 : (i 0).val < 8192 := (i 0).isLt
  have b1 : (i 1).val < 1024 := (i 1).isLt
  have e0 : idx_main_v192 i 0 = i 0 := Fin.ext (by
    show ((i 0).val * 1024 + (i 1).val) / 1024 = _; omega)
  have e1 : idx_main_v192 i 1 = bg (i 1) := Fin.ext (by
    show ((i 0).val * 1024 + (i 1).val) / 128 % 8 = (i 1).val / 128; omega)
  have e2 : idx_main_v192 i 2 = bn (i 1) := Fin.ext (by
    show ((i 0).val * 1024 + (i 1).val) % 128 = (i 1).val % 128; omega)
  show ((Rev.dB (bA r2 r3 r4 (idx_main_v192 i 1)) (bU r0 r2 r3 (idx_main_v192 i 1)) (bY r1 (idx_main_v192 i 1)) (bC r0 (idx_main_v192 i 1)) (ch (idx_main_v192 i 0)).rev (pos (idx_main_v192 i 0)).rev (idx_main_v192 i 2) : ℝ) : EReal) = _
  rw [e0, e1, e2]

include h0 h1 h2 h3 h4 in
theorem v195 (i : S8192x1024.Idx) :
    val_main_v195 (F := Ideal) x0 x1 x2 x3 x4 i
      = ((Rev.dC (bA r2 r3 r4 (bg (i 1))) (bU r0 r2 r3 (bg (i 1))) (bY r1 (bg (i 1))) (bB r0 (bg (i 1))) (ch (i 0)).rev (pos (i 0)).rev (bn (i 1)) : ℝ) : EReal) := by
  rw [val_main_v195_apply, Ideal.truncf_def, val_main_v194_apply, v180 h0 h1 h2 h3 h4]
  have b0 : (i 0).val < 8192 := (i 0).isLt
  have b1 : (i 1).val < 1024 := (i 1).isLt
  have e0 : idx_main_v194 i 0 = i 0 := Fin.ext (by
    show ((i 0).val * 1024 + (i 1).val) / 1024 = _; omega)
  have e1 : idx_main_v194 i 1 = bg (i 1) := Fin.ext (by
    show ((i 0).val * 1024 + (i 1).val) / 128 % 8 = (i 1).val / 128; omega)
  have e2 : idx_main_v194 i 2 = bn (i 1) := Fin.ext (by
    show ((i 0).val * 1024 + (i 1).val) % 128 = (i 1).val % 128; omega)
  show ((Rev.dC (bA r2 r3 r4 (idx_main_v194 i 1)) (bU r0 r2 r3 (idx_main_v194 i 1)) (bY r1 (idx_main_v194 i 1)) (bB r0 (idx_main_v194 i 1)) (ch (idx_main_v194 i 0)).rev (pos (idx_main_v194 i 0)).rev (idx_main_v194 i 2) : ℝ) : EReal) = _
  rw [e0, e1, e2]

include h0 h1 h2 h3 h4 in
theorem v196 (i : S8192x8x128.Idx) :
    val_main_v196 (F := Ideal) x0 x1 x2 x3 x4 i
      = ((if h : (i 2).val < 8 then ∑ p, rX r0 (i 0) (i 1) ⟨_, h⟩ p * Rev.dx (bA r2 r3 r4 (i 1) ⟨_, h⟩) (bY r1 (i 1) ⟨_, h⟩) (bB r0 (i 1)) (bC r0 (i 1)) (ch (i 0)).rev (pos (i 0)).rev p else 0 : ℝ) : EReal) := by
  unfold val_main_v196
  by_cases h : (i 2).val < 8
  · rw [dif_pos h]
    refine (pad_apply_of_inside _ _ _ _ _ _ _ i (fun a => match a with
      | ⟨0, _⟩ => i 0 | ⟨1, _⟩ => i 1 | ⟨2, _⟩ => ⟨(i 2).val, h⟩ : S8192x8x8.Idx) (fun a => by
      match a with
      | ⟨0, _⟩ => show (i 0).val = 0 + (i 0).val * 1; omega
      | ⟨1, _⟩ => show (i 1).val = 0 + (i 1).val * 1; omega
      | ⟨2, _⟩ => show (i 2).val = 0 + (i 2).val * 1; omega)).trans ?_
    exact v189 h0 h1 h2 h3 h4 _
  · rw [dif_neg h]
    refine (pad_apply_of_not_inside _ _ _ _ _ _ _ i (2 : Fin 3) (by
      rintro ⟨-, -, e⟩
      have : ((i 2).val - 0) / 1 < 8 := e
      omega)).trans ?_
    exact sitofp_zero _

include h0 h1 h2 h3 h4 in
theorem v198 (i : S8192x8x128.Idx) :
    val_main_v198 (F := Ideal) x0 x1 x2 x3 x4 i
      = ((if h : (i 2).val < 8 then Rev.da (bA r2 r3 r4 (i 1) ⟨_, h⟩) (bU r0 r2 r3 (i 1) ⟨_, h⟩) (bY r1 (i 1) ⟨_, h⟩) (bB r0 (i 1)) (bC r0 (i 1)) (ch (i 0)).rev (pos (i 0)).rev else 0 : ℝ) : EReal) := by
  unfold val_main_v198
  by_cases h : (i 2).val < 8
  · rw [dif_pos h]
    refine (pad_apply_of_inside _ _ _ _ _ _ _ i (fun a => match a with
      | ⟨0, _⟩ => i 0 | ⟨1, _⟩ => i 1 | ⟨2, _⟩ => ⟨(i 2).val, h⟩ : S8192x8x8.Idx) (fun a => by
      match a with
      | ⟨0, _⟩ => show (i 0).val = 0 + (i 0).val * 1; omega
      | ⟨1, _⟩ => show (i 1).val = 0 + (i 1).val * 1; omega
      | ⟨2, _⟩ => show (i 2).val = 0 + (i 2).val * 1; omega)).trans ?_
    exact v182 h0 h1 h2 h3 h4 _
  · rw [dif_neg h]
    refine (pad_apply_of_not_inside _ _ _ _ _ _ _ i (2 : Fin 3) (by
      rintro ⟨-, -, e⟩
      have : ((i 2).val - 0) / 1 < 8 := e
      omega)).trans ?_
    exact sitofp_zero _

include h0 h1 h2 h3 h4 in
theorem v197 (i : S8192x1024.Idx) :
    val_main_v197 (F := Ideal) x0 x1 x2 x3 x4 i
      = ((if h : ((bn (i 1))).val < 8 then ∑ p, rX r0 (i 0) (bg (i 1)) ⟨_, h⟩ p * Rev.dx (bA r2 r3 r4 (bg (i 1)) ⟨_, h⟩) (bY r1 (bg (i 1)) ⟨_, h⟩) (bB r0 (bg (i 1))) (bC r0 (bg (i 1))) (ch (i 0)).rev (pos (i 0)).rev p else 0 : ℝ) : EReal) := by
  rw [val_main_v197_apply, v196 h0 h1 h2 h3 h4]
  have b0 : (i 0).val < 8192 := (i 0).isLt
  have b1 : (i 1).val < 1024 := (i 1).isLt
  have e0 : idx_main_v197 i 0 = i 0 := Fin.ext (by
    show ((i 0).val * 1024 + (i 1).val) / 1024 = _; omega)
  have e1 : idx_main_v197 i 1 = bg (i 1) := Fin.ext (by
    show ((i 0).val * 1024 + (i 1).val) / 128 % 8 = (i 1).val / 128; omega)
  have e2 : idx_main_v197 i 2 = bn (i 1) := Fin.ext (by
    show ((i 0).val * 1024 + (i 1).val) % 128 = (i 1).val % 128; omega)
  show ((if h : ((idx_main_v197 i 2)).val < 8 then ∑ p, rX r0 (idx_main_v197 i 0) (idx_main_v197 i 1) ⟨_, h⟩ p * Rev.dx (bA r2 r3 r4 (idx_main_v197 i 1) ⟨_, h⟩) (bY r1 (idx_main_v197 i 1) ⟨_, h⟩) (bB r0 (idx_main_v197 i 1)) (bC r0 (idx_main_v197 i 1)) (ch (idx_main_v197 i 0)).rev (pos (idx_main_v197 i 0)).rev p else 0 : ℝ) : EReal) = _
  rw [e0, e1, e2]

include h0 h1 h2 h3 h4 in
theorem v199 (i : S8192x1024.Idx) :
    val_main_v199 (F := Ideal) x0 x1 x2 x3 x4 i
      = ((if h : ((bn (i 1))).val < 8 then Rev.da (bA r2 r3 r4 (bg (i 1)) ⟨_, h⟩) (bU r0 r2 r3 (bg (i 1)) ⟨_, h⟩) (bY r1 (bg (i 1)) ⟨_, h⟩) (bB r0 (bg (i 1))) (bC r0 (bg (i 1))) (ch (i 0)).rev (pos (i 0)).rev else 0 : ℝ) : EReal) := by
  rw [val_main_v199_apply, v198 h0 h1 h2 h3 h4]
  have b0 : (i 0).val < 8192 := (i 0).isLt
  have b1 : (i 1).val < 1024 := (i 1).isLt
  have e0 : idx_main_v199 i 0 = i 0 := Fin.ext (by
    show ((i 0).val * 1024 + (i 1).val) / 1024 = _; omega)
  have e1 : idx_main_v199 i 1 = bg (i 1) := Fin.ext (by
    show ((i 0).val * 1024 + (i 1).val) / 128 % 8 = (i 1).val / 128; omega)
  have e2 : idx_main_v199 i 2 = bn (i 1) := Fin.ext (by
    show ((i 0).val * 1024 + (i 1).val) % 128 = (i 1).val % 128; omega)
  show ((if h : ((idx_main_v199 i 2)).val < 8 then Rev.da (bA r2 r3 r4 (idx_main_v199 i 1) ⟨_, h⟩) (bU r0 r2 r3 (idx_main_v199 i 1) ⟨_, h⟩) (bY r1 (idx_main_v199 i 1) ⟨_, h⟩) (bB r0 (idx_main_v199 i 1)) (bC r0 (idx_main_v199 i 1)) (ch (idx_main_v199 i 0)).rev (pos (idx_main_v199 i 0)).rev else 0 : ℝ) : EReal) = _
  rw [e0, e1, e2]

end Scan.Ref
-- ==== Proof.Finite.lean ====
module

public import proofs.«01_k».proof.Defs
public import Idealize.ShloMosaic.Lib.Exec
public import Idealize.ShloMosaic.Lib.Pointwise

/-!
# The precondition

Where `finite` is all ones an argument holds no infinity: its entries are reals.
-/

@[expose] public section

namespace Scan.Finite
open Idealize.ShloMosaic

theorem facts : Cert.Pre_finite.Facts where
  bitsLt_bf16_f32 := by decide
  bcast_S_S8192x6144 := by decide
  bcast_S_S8192x4096 := by decide
  bcast_S_S8192x128 := by decide
  bcast_S_S128 := by decide

attribute [local instance] facts

/-- The comparison `finite` makes of one entry: the entry is a real. -/
theorem real_of (x : EReal) (h : Ideal.cmp .olt (max x (-x)) (Ideal.ofBits .f32 0x7F800000#32) = 1#1) :
    x = ((x.toReal : ℝ) : EReal) := by
  have e : Ideal.ofBits .f32 0x7F800000#32 = ⊤ := by simp [Ideal.ofBits, Ideal.ieee]
  rw [e] at h
  induction x using EReal.rec with
  | bot => simp [Ideal.cmp] at h
  | coe r => rfl
  | top => simp [Ideal.cmp] at h

theorem real2 {a b : ℕ} (x : (⟨2, ![a, b]⟩ : Shape).Idx → EReal)
    (h : ∀ i, Ideal.cmp .olt (max (x i) (-x i)) (Ideal.ofBits .f32 0x7F800000#32) = 1#1) :
    ∃ r : Fin a → Fin b → ℝ, ∀ i : (⟨2, ![a, b]⟩ : Shape).Idx, x i = ((r (i 0) (i 1) : ℝ) : EReal) :=
  ⟨fun p q => (x (ix2 p q)).toReal, fun i =>
    (real_of _ (h i)).trans (congrArg (fun j => ((x j).toReal : EReal)) (eq_ix2 i))⟩

theorem real1 {a : ℕ} (x : (⟨1, ![a]⟩ : Shape).Idx → EReal)
    (h : ∀ i, Ideal.cmp .olt (max (x i) (-x i)) (Ideal.ofBits .f32 0x7F800000#32) = 1#1) :
    ∃ r : Fin a → ℝ, ∀ i : (⟨1, ![a]⟩ : Shape).Idx, x i = ((r (i 0) : ℝ) : EReal) :=
  ⟨fun p => (x (ix1 p)).toReal, fun i =>
    (real_of _ (h i)).trans (congrArg (fun j => ((x j).toReal : EReal)) (eq_ix1 i))⟩

section
open Cert.KernelIdeal

variable {m : (ℓ : Loc nD τ sig) → Buf (Elt Ideal) ℓ} (h : Cert.Pre_KernelIdeal_finite m) (c : Dev nD)
include h

theorem arg0 : ∃ r : Fin 8192 → Fin 6144 → ℝ, ∀ i : S8192x6144.Idx,
    m ((c.tc : Thread nD τ).loc main_arg0) i = ((r (i 0) (i 1) : ℝ) : EReal) :=
  real2 (m ((c.tc : Thread nD τ).loc main_arg0)) fun i => congrFun (h c).1 i
theorem arg1 : ∃ r : Fin 8192 → Fin 4096 → ℝ, ∀ i : S8192x4096.Idx,
    m ((c.tc : Thread nD τ).loc main_arg1) i = ((r (i 0) (i 1) : ℝ) : EReal) :=
  real2 (m ((c.tc : Thread nD τ).loc main_arg1)) fun i => congrFun (h c).2.1 i
theorem arg2 : ∃ r : Fin 8192 → Fin 128 → ℝ, ∀ i : S8192x128.Idx,
    m ((c.tc : Thread nD τ).loc main_arg2) i = ((r (i 0) (i 1) : ℝ) : EReal) :=
  real2 (m ((c.tc : Thread nD τ).loc main_arg2)) fun i => congrFun (h c).2.2.1 i
theorem arg3 : ∃ r : Fin 128 → ℝ, ∀ i : S128.Idx,
    m ((c.tc : Thread nD τ).loc main_arg3) i = ((r (i 0) : ℝ) : EReal) :=
  real1 (m ((c.tc : Thread nD τ).loc main_arg3)) fun i => congrFun (h c).2.2.2.1 i
theorem arg4 : ∃ r : Fin 128 → ℝ, ∀ i : S128.Idx,
    m ((c.tc : Thread nD τ).loc main_arg4) i = ((r (i 0) : ℝ) : EReal) :=
  real1 (m ((c.tc : Thread nD τ).loc main_arg4)) fun i => congrFun (h c).2.2.2.2 i

end
end Scan.Finite
-- ==== Proof.Prod.lean ====
module

public import Idealize.ShloMosaic.Lib.TwoAxisContraction
public import Idealize.ShloMosaic.Lib.Pointwise
public import Idealize.ShloMosaic.PureOps.Ideal

/-!
# Products of matrices, by natural-number indices

A launch takes a product of two matrices block by block.  Reading an array at natural numbers, with `0` outside
it, lets the blocks' sums be put one after the other without casts between the blocks' index types.
-/

@[expose] public section

namespace Prod
open Idealize.ShloMosaic

noncomputable section

/-- The array `A` at row `r` and column `c`, `0` outside. -/
def nat2 {n m : ℕ} (A : (⟨2, ![n, m]⟩ : Shape).Idx → EReal) (r c : ℕ) : EReal :=
  if h : r < n ∧ c < m then A (ix2 ⟨r, h.1⟩ ⟨c, h.2⟩) else 0

/-- The array `A` at `(q, r, c)`, `0` outside. -/
def nat3 {l n m : ℕ} (A : (⟨3, ![l, n, m]⟩ : Shape).Idx → EReal) (q r c : ℕ) : EReal :=
  if h : q < l ∧ r < n ∧ c < m then A (ix3 ⟨q, h.1⟩ ⟨r, h.2.1⟩ ⟨c, h.2.2⟩) else 0

theorem nat2_of {n m : ℕ} (A : (⟨2, ![n, m]⟩ : Shape).Idx → EReal) (j : (⟨2, ![n, m]⟩ : Shape).Idx) {r c : ℕ}
    (h0 : (j 0).val = r) (h1 : (j 1).val = c) : A j = nat2 A r c := by
  subst h0 h1
  unfold nat2
  rw [dif_pos ⟨(j 0).isLt, (j 1).isLt⟩]
  exact congrArg A (eq_ix2 j)

theorem nat3_of {l n m : ℕ} (A : (⟨3, ![l, n, m]⟩ : Shape).Idx → EReal) (j : (⟨3, ![l, n, m]⟩ : Shape).Idx) {q r c : ℕ}
    (h0 : (j 0).val = q) (h1 : (j 1).val = r) (h2 : (j 2).val = c) : A j = nat3 A q r c := by
  subst h0 h1 h2
  unfold nat3
  rw [dif_pos ⟨(j 0).isLt, (j 1).isLt, (j 2).isLt⟩]
  exact congrArg A (eq_ix3 j)

/-- One more block of `T` terms. -/
theorem sum_block (f : ℕ → EReal) (s T : ℕ) :
    ∑ k ∈ Finset.range (s * T), f k + ∑ k : Fin T, f (s * T + k.val) = ∑ k ∈ Finset.range ((s + 1) * T), f k := by
  rw [add_mul, one_mul, Finset.sum_range_add, Finset.sum_range fun k => f (s * T + k)]

/-- The first block of `T` terms. -/
theorem sum_first (f : ℕ → EReal) (T : ℕ) :
    ∑ k : Fin T, f (0 * T + k.val) = ∑ k ∈ Finset.range ((0 + 1) * T), f k := by
  rw [← sum_block f 0 T, Nat.zero_mul, Finset.sum_range_zero, zero_add]

/-- A sum over an axis, by natural numbers. -/
theorem sum_axis (f : ℕ → EReal) (T : ℕ) : ∑ k : Fin T, f k.val = ∑ k ∈ Finset.range T, f k :=
  (Finset.sum_range f).symm

theorem addf_at {s : Shape} {φ : FTy} (x y : FVec Ideal s φ) (i : s.Idx) : (addf x y i : EReal) = (x i : EReal) + (y i : EReal) := rfl

theorem truncf_at {s : Shape} {φ ψ : FTy} (x : FVec Ideal s φ) (h : ψ.bits < φ.bits) (i : s.Idx) : (truncf ψ x h i : EReal) = x i := rfl

theorem extf_at {s : Shape} {φ ψ : FTy} (x : FVec Ideal s φ) (h : φ.bits < ψ.bits) (i : s.Idx) : (extf ψ x h i : EReal) = x i := rfl

theorem hz2 : (![0, 0] : Fin 2 → Nat) = fun _ => 0 := funext fun a => by fin_cases a <;> rfl
theorem hz3 : (![0, 0, 0] : Fin 3 → Nat) = fun _ => 0 := funext fun a => by fin_cases a <;> rfl

theorem zero32 : (FloatOps.ofBits (F := Ideal) .f32 0#32 : EReal) = 0 := Ideal.ofBits_zero_f32

end

end Prod
-- ==== Proof.WGateUp.lean ====
module

public import proofs.«01_k».proof.Proof.Prod
public import proofs.«01_k».proof.Proof.Gen.GradWGateUpIdeal.Value
public import proofs.«01_k».proof.Proof.Gen.GradWGateUpIdeal.Frame
public import proofs.«01_k».proof.Proof.Gen.GradWGateUp.Frame
public import proofs.«01_k».proof.Proof.Gen.RefGradWGateUpIdeal.Run
public import proofs.«01_k».proof.Defs

/-!
# The gradient of `w_gate_up`: `hᵀ · dgu`

The launch adds, for each block of the result, four products of blocks in a scratch array, and writes the block after
the fourth.  The result is cut as the mesh cuts the matrix: four blocks of columns.
-/

@[expose] public section

set_option maxRecDepth 16384

namespace Prod.WGateUp
open Idealize.ShloMosaic Idealize.ShloMosaic.TcCoe Idealize.SL.Sem Cert.GradWGateUpIdeal Cert.GradWGateUpIdeal.Gen

noncomputable section

variable (c : Dev nD) (i : grid0.Coords) (a3 : Memref sig .tc .vmem S2048x1024 .bf16) (h3 : a3.IsWhole)
  (a4 : Memref sig .tc .vmem S2048x1408 .bf16) (h4 : a4.IsWhole) (a5 : Memref sig .tc .vmem S1x1024x1408 .bf16) (h5 : a5.IsWhole)
  (a6 : Memref sig .tc .vmem S1024x1408 .f32) (h6 : a6.IsWhole)
  (x0 : Vec Ideal S2048x1024 .bf16) (x1 : Vec Ideal S2048x1408 .bf16) (xs : Vec Ideal S1024x1408 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x1024) hz2, View.ld_unit_zero (S := S2048x1408) hz2, shapeCast_self]

theorem sout_B (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz2]
  unfold k0_pay3
  simp only [View.readAt_eq_ld, h3.read_unread, h4.read_unread, h6.read_unread, View.ld_unit_zero (S := S2048x1024) hz2, View.ld_unit_zero (S := S2048x1408) hz2, View.ld_unit_zero (S := S1024x1408) hz2, shapeCast_self]

theorem out_C (hc0 : ¬cond0_0 i) (hc1 : cond0_1 i) (hc2 : cond0_2 i) :
    out0_C_2 c i a3 h3 a4 h4 a5 h5 a6 h6 hc0 hc1 hc2 x0 x1 xs = k0_pay4 (addf xs (k0_pay1 x0 x1)) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz3, View.readCov_unit_zero (S := S1024x1408) _ hz2]
  unfold k0_pay3
  simp only [View.readAt_eq_ld, h3.read_unread, h4.read_unread, h6.read_unread, View.ld_unit_zero (S := S2048x1024) hz2, View.ld_unit_zero (S := S2048x1408) hz2, View.ld_unit_zero (S := S1024x1408) hz2, shapeCast_self]

theorem pay1_at (y : S1024x1408.Idx) : (k0_pay1 x0 x1 y : EReal) = ∑ k : Fin 2048, x0 (ix2 k (y 0)) * x1 (ix2 k (y 1)) := by
  unfold k0_pay1
  simp only [pointwise]
  exact zero_add _

theorem index0 : ∀ t : Fin cfg0.N, win0_0.index t (0 : Fin 2) = t.val % 4 ∧ win0_0.index t (1 : Fin 2) = t.val / 32 :=
  (by decide +kernel : ∀ t : Fin grid0.N, _)
theorem index1 : ∀ t : Fin cfg0.N, win0_1.index t (0 : Fin 2) = t.val % 4 ∧ win0_1.index t (1 : Fin 2) = t.val / 4 % 8 :=
  (by decide +kernel : ∀ t : Fin grid0.N, _)
theorem index2 : ∀ t : Fin cfg0.N, win0_2.index t (0 : Fin 3) = t.val / 4 % 8 / 2 ∧ win0_2.index t (1 : Fin 3) = t.val / 32 ∧ win0_2.index t (2 : Fin 3) = t.val / 4 % 2 :=
  (by decide +kernel : ∀ t : Fin grid0.N, _)

variable (m : (ℓ : Loc nD τ sig) → Buf (Elt Ideal) ℓ) (ρ : Dev nD → PrngReg)

/-- The arguments. -/
def lhs : S8192x2048.Idx → EReal := m ((c : Thread nD τ).loc main_arg0)
def rhs : S8192x11264.Idx → EReal := m ((c : Thread nD τ).loc main_arg1)

theorem blk0 (t : Fin cfg0.N) (j : S2048x1024.Idx) :
    (iblk m c 0 t j : EReal) = nat2 (lhs c m) (t.val % 4 * 2048 + (j 0).val) (t.val / 32 * 1024 + (j 1).val) := by
  obtain ⟨e0, e1⟩ := index0 t
  unfold iblk
  rw [View.read_apply]
  show (V m c main_arg0 _ : EReal) = _
  rw [V_main_arg0 m c]
  refine nat2_of (lhs c m) _ ?_ ?_
  · show win0_0.index t 0 * 2048 + 1 * (j 0).val = _
    rw [e0, Nat.one_mul]
  · show win0_0.index t 1 * 1024 + 1 * (j 1).val = _
    rw [e1, Nat.one_mul]

theorem blk1 (t : Fin cfg0.N) (j : S2048x1408.Idx) :
    (iblk m c 1 t j : EReal) = nat2 (rhs c m) (t.val % 4 * 2048 + (j 0).val) (t.val / 4 % 8 * 1408 + (j 1).val) := by
  obtain ⟨e0, e1⟩ := index1 t
  unfold iblk
  rw [View.read_apply]
  show (V m c main_arg1 _ : EReal) = _
  rw [V_main_arg1 m c]
  refine nat2_of (rhs c m) _ ?_ ?_
  · show win0_1.index t 0 * 2048 + 1 * (j 0).val = _
    rw [e0, Nat.one_mul]
  · show win0_1.index t 1 * 1408 + 1 * (j 1).val = _
    rw [e1, Nat.one_mul]

/-- The `k`-th product of the sum at row `r` and column `s`. -/
def term (r s k : ℕ) : EReal := nat2 (lhs c m) k r * nat2 (rhs c m) k s

/-- What a point's blocks contribute. -/
theorem pay (t : Fin cfg0.N) (y : S1024x1408.Idx) :
    (k0_pay1 (iblk m c 0 t : Vec Ideal S2048x1024 .bf16) (iblk m c 1 t : Vec Ideal S2048x1408 .bf16) y : EReal)
      = ∑ k : Fin 2048, term c m (t.val / 32 * 1024 + (y 0).val) (t.val / 4 % 8 * 1408 + (y 1).val) (t.val % 4 * 2048 + k.val) := by
  rw [pay1_at]
  refine Finset.sum_congr rfl fun k _ => congrArg₂ (· * ·) (blk0 c m t _) (blk1 c m t _)

/-- The scratch array after the first points of a block. -/
theorem scratch : ∀ (s q : ℕ) (hs : s < 3) (h : 4 * q + s < cfg0.N) (y : S1024x1408.Idx),
    ((outsAt0 m c (4 * q + s) h).2 y : EReal)
      = ∑ k ∈ Finset.range ((s + 1) * 2048), term c m (q / 8 * 1024 + (y 0).val) (q % 8 * 1408 + (y 1).val) k
  | 0, q, hs, h, y => by
    have e := outsAt0_A m c ⟨4 * q + 0, h⟩ (by show (4 * q + 0) % 4 = 0; omega) (by show ¬1 ≤ (4 * q + 0) % 4; omega) (by show ¬(4 * q + 0) % 4 = 3; omega)
    rw [show outsAt0 m c (4 * q + 0) h = _ from e]
    dsimp only
    rw [sout_A, pay, ← sum_first]
    simp only [show (4 * q + 0) / 32 = q / 8 from by omega, show (4 * q + 0) / 4 % 8 = q % 8 from by omega,
      show (4 * q + 0) % 4 = 0 from by omega]
  | s + 1, q, hs, h, y => by
    have e := outsAt0_B m c ⟨4 * q + (s + 1), h⟩ (by show ¬(4 * q + (s + 1)) % 4 = 0; omega)
      (by show 1 ≤ (4 * q + (s + 1)) % 4; omega) (by show ¬(4 * q + (s + 1)) % 4 = 3; omega)
    rw [show outsAt0 m c (4 * q + (s + 1)) h = _ from e]
    dsimp only
    rw [sout_B, addf_at, pay, ← sum_block]
    refine congrArg₂ (· + ·) (scratch s q (by omega) (by omega) y) ?_
    simp only [show (4 * q + (s + 1)) / 32 = q / 8 from by omega, show (4 * q + (s + 1)) / 4 % 8 = q % 8 from by omega,
      show (4 * q + (s + 1)) % 4 = s + 1 from by omega]

/-- The product of the whole matrices. -/
def G : S4x2048x2816.Idx → EReal := fun i => ∑ k ∈ Finset.range 8192, term c m ((i 1).val) ((i 0).val * 2816 + (i 2).val) k

theorem flushed_eq (t : Fin cfg0.N) (hf : (cfg0.win 2).flush t = true) :
    (dats m 0 c).flushed 2 t = ((cfg0.win 2).blk t).view.read (Elt Ideal) (G c m) := by
  have hm : t.val % 4 = 3 := (flush0_2 t).mp hf
  obtain ⟨e0, e1, e2⟩ := index2 t
  rw [Value.flushed2_C m c t (by omega) (by omega) hm, out_C]
  funext (y : S1x1024x1408.Idx)
  rw [View.read_apply]
  show (k0_pay4 (addf (outsAt0 m c (t.val - 1) _).2 (k0_pay1 (iblk m c 0 t : Vec Ideal S2048x1024 .bf16) (iblk m c 1 t : Vec Ideal S2048x1408 .bf16))) y : EReal) = _
  unfold k0_pay4
  simp only [pointwise]
  rw [pay]
  show ((outsAt0 m c (t.val - 1) _).2 (ix2 (y 1) (y 2)) : EReal) + ∑ k : Fin 2048,
    term c m (t.val / 32 * 1024 + (y 1).val) (t.val / 4 % 8 * 1408 + (y 2).val) (t.val % 4 * 2048 + k.val) = _
  have key : ∀ (n : ℕ) (h : n < cfg0.N), n = 4 * (t.val / 4) + 2 → ((outsAt0 m c n h).2 (ix2 (y 1) (y 2)) : EReal)
      = ∑ k ∈ Finset.range (3 * 2048), term c m (t.val / 32 * 1024 + (y 1).val) (t.val / 4 % 8 * 1408 + (y 2).val) k := by
    intro n h e
    subst e
    rw [scratch c m 2 (t.val / 4) (by omega) h (ix2 (y 1) (y 2)), show t.val / 4 / 8 = t.val / 32 from by omega]
    rfl
  rw [key _ _ (by omega), hm, sum_block]
  have g : ∀ E : S4x2048x2816.Idx, (E 0).val = t.val / 4 % 8 / 2 * 1 + (y 0).val → (E 1).val = t.val / 32 * 1024 + (y 1).val → (E 2).val = t.val / 4 % 2 * 1408 + (y 2).val →
      ∑ k ∈ Finset.range ((3 + 1) * 2048), term c m (t.val / 32 * 1024 + (y 1).val) (t.val / 4 % 8 * 1408 + (y 2).val) k = G c m E := by
    intro E v0 v1 v2
    unfold G
    rw [v1, show (E 0).val * 2816 + (E 2).val = t.val / 4 % 8 * 1408 + (y 2).val from by
      have : (y 0).val < 1 := (y 0).isLt
      omega]
  refine g _ ?_ ?_ ?_
  · show win0_2.index t 0 * 1 + 1 * (y 0).val = _
    rw [e0, Nat.one_mul]
  · show win0_2.index t 1 * 1024 + 1 * (y 1).val = _
    rw [e1, Nat.one_mul]
  · show win0_2.index t 2 * 1408 + 1 * (y 2).val = _
    rw [e2, Nat.one_mul]

theorem final : (dats m 0 c).arrAt 2 cfg0.N = G c m :=
  (dats m 0 c).arrAt_eq_of_cover 2 (G c m) (flushed_eq c m) fun i => by
    have h0 : (i 0 : Nat) < 4 := (i 0).isLt
    have h1 : (i 1 : Nat) < 2048 := (i 1).isLt
    have h2 : (i 2 : Nat) < 2816 := (i 2).isLt
    have hN : cfg0.N = 64 := N_0
    obtain ⟨t, ht⟩ : ∃ t : Fin cfg0.N, t.val = 32 * ((i 1).val / 1024) + 4 * (2 * (i 0).val + (i 2).val / 1408) + 3 :=
      ⟨⟨32 * ((i 1).val / 1024) + 4 * (2 * (i 0).val + (i 2).val / 1408) + 3, by omega⟩, rfl⟩
    obtain ⟨e0, e1, e2⟩ := index2 t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [e0]; omega
    | ⟨1, _⟩ => show win0_2.index t 1 * 1024 ≤ (i 1 : Nat) ∧ (i 1 : Nat) < win0_2.index t 1 * 1024 + 1024
                rw [e1]; omega
    | ⟨2, _⟩ => show win0_2.index t 2 * 1408 ≤ (i 2 : Nat) ∧ (i 2 : Nat) < win0_2.index t 2 * 1408 + 1408
                rw [e2]; omega

/-- The reference's product. -/
theorem ref_at (A : FVec Ideal S8192x2048 .bf16) (B : FVec Ideal S8192x11264 .bf16) (i : S4x2048x2816.Idx) :
    (truncf .bf16 (transpose Cert.RefGradWGateUpIdeal.S4x2048x2816 [1, 0, 2] (shapeCast Cert.RefGradWGateUpIdeal.S2048x4x2816 (transpose Cert.RefGradWGateUpIdeal.S2048x11264 [1, 0] (Host.dotGeneral Cert.RefGradWGateUpIdeal.dot_S8192x11264_S8192x2048_S11264x2048_0_0_1_1_n_n none (extf .f32 B Cert.RefGradWGateUpIdeal.Gen.facts.bitsLt_bf16_f32) (extf .f32 A Cert.RefGradWGateUpIdeal.Gen.facts.bitsLt_bf16_f32)) Cert.RefGradWGateUpIdeal.Gen.facts.transposes_S11264x2048_S2048x11264_1_0) Cert.RefGradWGateUpIdeal.Gen.facts.shapeCasts_S2048x11264_S2048x4x2816) Cert.RefGradWGateUpIdeal.Gen.facts.transposes_S2048x4x2816_S4x2048x2816_1_0_2) Cert.RefGradWGateUpIdeal.Gen.facts.bitsLt_bf16_f32 i : EReal)
      = ∑ k ∈ Finset.range 8192, nat2 A k (i 1).val * nat2 B k ((i 0).val * 2816 + (i 2).val) := by
  simp only [pointwise]
  exact (zero_add _).trans ((Finset.sum_congr rfl fun k _ => (mul_comm _ _).trans
    (congrArg₂ (· * ·) (nat2_of A _ rfl rfl) (nat2_of B _ rfl rfl))).trans
      (sum_axis (fun k => nat2 A k (i 1).val * nat2 B k ((i 0).val * 2816 + (i 2).val)) 8192))

/-! ## The claims -/

section claims

theorem frame : Cert.quiescent_GradWGateUp (hGradWGateUp := Cert.GradWGateUp.Gen.facts) :=
  fun m ρ _ => Cert.GradWGateUp.Gen.frame m ρ

theorem frame_ideal : Cert.quiescent_GradWGateUpIdeal (hGradWGateUpIdeal := Cert.GradWGateUpIdeal.Gen.facts) :=
  fun m ρ _ => Cert.GradWGateUpIdeal.Gen.frame m ρ

/-- The reference declares no semaphore. -/
theorem frame_ref : Cert.quiescent_RefGradWGateUpIdeal (hRefGradWGateUpIdeal := Cert.RefGradWGateUpIdeal.Gen.facts) := by
  intro m ρ _
  exact (θ_run Cert.RefGradWGateUpIdeal.defs _ _).mono
    (fun r h => ⟨fun c => (h c).2, Idealize.ShloMosaic.sem_eq_zero_of_no_sems (by decide) r.2⟩)
    (Cert.RefGradWGateUpIdeal.Value.run (F := Ideal) m ρ)

theorem preserves : Cert.preserves_GradWGateUp_GradWGateUpIdeal := trivial

theorem algebraic : Cert.algebraic_GradWGateUpIdeal_RefGradWGateUpIdeal (hGradWGateUpIdeal := Cert.GradWGateUpIdeal.Gen.facts)
    (hRefGradWGateUpIdeal := Cert.RefGradWGateUpIdeal.Gen.facts) := by
  intro m g m' g' _ hagree
  refine ⟨fun c => G c m,
    (θ_run Cert.GradWGateUpIdeal.defs _ _).mono (fun r h c => ⟨(h c).1.trans (final c m), (h c).2⟩) (Value.run_blocks (F := Ideal) m g),
    (θ_run Cert.RefGradWGateUpIdeal.defs _ _).mono (fun r h c => ⟨(h c).1.trans (funext fun i => ?_), (h c).2⟩)
      (Cert.RefGradWGateUpIdeal.Value.run (F := Ideal) m' g')⟩
  obtain ⟨e0, e1⟩ := hagree c
  refine (ref_at _ _ i).trans ?_
  rw [e0, e1]
  rfl

end claims

end

end Prod.WGateUp
-- ==== Proof.HGateUp.lean ====
module

public import proofs.«01_k».proof.Proof.Prod
public import proofs.«01_k».proof.Proof.Gen.GradHGateUpIdeal.Value
public import proofs.«01_k».proof.Proof.Gen.GradHGateUpIdeal.Frame
public import proofs.«01_k».proof.Proof.Gen.GradHGateUp.Frame
public import proofs.«01_k».proof.Proof.Gen.RefGradHGateUpIdeal.Run
public import proofs.«01_k».proof.Defs

/-!
# The gradient of the part's input: `dgu · w_gate_upᵀ`

The launch adds, for each block of the result, four products of blocks in a scratch array, and writes the block after
the fourth.  The matrix is given as the mesh cuts it: four blocks of columns, one for each of the four products.
-/

@[expose] public section

set_option maxRecDepth 16384

namespace Prod.HGateUp
open Idealize.ShloMosaic Idealize.ShloMosaic.TcCoe Idealize.SL.Sem Cert.GradHGateUpIdeal Cert.GradHGateUpIdeal.Gen

noncomputable section

variable (c : Dev nD) (i : grid0.Coords) (a3 : Memref sig .tc .vmem S1024x2816 .bf16) (h3 : a3.IsWhole)
  (a4 : Memref sig .tc .vmem S1x1024x2816 .bf16) (h4 : a4.IsWhole) (a5 : Memref sig .tc .vmem S1024x1024 .f32) (h5 : a5.IsWhole)
  (a6 : Memref sig .tc .vmem S1024x1024 .f32) (h6 : a6.IsWhole)
  (x0 : Vec Ideal S1024x2816 .bf16) (x1 : Vec Ideal S1x1024x2816 .bf16) (xs : Vec Ideal S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S1024x2816) hz2, View.ld_unit_zero (S := S1x1024x2816) hz3, shapeCast_self]

theorem sout_B (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz2]
  unfold k0_pay3
  simp only [View.readAt_eq_ld, h3.read_unread, h4.read_unread, h6.read_unread, View.ld_unit_zero (S := S1024x2816) hz2, View.ld_unit_zero (S := S1x1024x2816) hz3, View.ld_unit_zero (S := S1024x1024) hz2, shapeCast_self]

theorem out_C (hc0 : ¬cond0_0 i) (hc1 : cond0_1 i) (hc2 : cond0_2 i) :
    out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz2, View.readCov_unit_zero (S := S1024x1024) _ hz2]
  unfold k0_pay3
  simp only [View.readAt_eq_ld, h3.read_unread, h4.read_unread, h6.read_unread, View.ld_unit_zero (S := S1024x2816) hz2, View.ld_unit_zero (S := S1x1024x2816) hz3, View.ld_unit_zero (S := S1024x1024) hz2, shapeCast_self]

theorem pay1_at (y : S1024x1024.Idx) : (k0_pay1 x0 x1 y : EReal) = ∑ k : Fin 2816, x0 (ix2 (y 0) k) * x1 (ix3 0 (y 1) k) := by
  unfold k0_pay1
  simp only [pointwise]
  exact zero_add _

theorem index0 : ∀ t : Fin cfg0.N, win0_0.index t (0 : Fin 2) = t.val / 8 ∧ win0_0.index t (1 : Fin 2) = t.val % 4 :=
  (by decide +kernel : ∀ t : Fin grid0.N, _)
theorem index1 : ∀ t : Fin cfg0.N, win0_1.index t (0 : Fin 3) = t.val % 4 ∧ win0_1.index t (1 : Fin 3) = t.val / 4 % 2 ∧ win0_1.index t (2 : Fin 3) = 0 :=
  (by decide +kernel : ∀ t : Fin grid0.N, _)
theorem index2 : ∀ t : Fin cfg0.N, win0_2.index t (0 : Fin 2) = t.val / 8 ∧ win0_2.index t (1 : Fin 2) = t.val / 4 % 2 :=
  (by decide +kernel : ∀ t : Fin grid0.N, _)

variable (m : (ℓ : Loc nD τ sig) → Buf (Elt Ideal) ℓ) (ρ : Dev nD → PrngReg)

/-- The arguments. -/
def lhs : S8192x11264.Idx → EReal := m ((c : Thread nD τ).loc main_arg0)
def rhs : S4x2048x2816.Idx → EReal := m ((c : Thread nD τ).loc main_arg1)

theorem blk0 (t : Fin cfg0.N) (j : S1024x2816.Idx) :
    (iblk m c 0 t j : EReal) = nat2 (lhs c m) (t.val / 8 * 1024 + (j 0).val) (t.val % 4 * 2816 + (j 1).val) := by
  obtain ⟨e0, e1⟩ := index0 t
  unfold iblk
  rw [View.read_apply]
  show (V m c main_arg0 _ : EReal) = _
  rw [V_main_arg0 m c]
  refine nat2_of (lhs c m) _ ?_ ?_
  · show win0_0.index t 0 * 1024 + 1 * (j 0).val = _
    rw [e0, Nat.one_mul]
  · show win0_0.index t 1 * 2816 + 1 * (j 1).val = _
    rw [e1, Nat.one_mul]

theorem blk1 (t : Fin cfg0.N) (j : S1x1024x2816.Idx) :
    (iblk m c 1 t j : EReal) = nat3 (rhs c m) (t.val % 4 * 1 + (j 0).val) (t.val / 4 % 2 * 1024 + (j 1).val) (0 * 2816 + (j 2).val) := by
  obtain ⟨e0, e1, e2⟩ := index1 t
  unfold iblk
  rw [View.read_apply]
  show (V m c main_arg1 _ : EReal) = _
  rw [V_main_arg1 m c]
  refine nat3_of (rhs c m) _ ?_ ?_ ?_
  · show win0_1.index t 0 * 1 + 1 * (j 0).val = _
    rw [e0, Nat.one_mul]
  · show win0_1.index t 1 * 1024 + 1 * (j 1).val = _
    rw [e1, Nat.one_mul]
  · show win0_1.index t 2 * 2816 + 1 * (j 2).val = _
    rw [e2, Nat.one_mul]

/-- The `k`-th product of the sum at row `r` and column `s`. -/
def term (r s k : ℕ) : EReal := nat2 (lhs c m) r k * nat3 (rhs c m) (k / 2816) s (k % 2816)

/-- What a point's blocks contribute. -/
theorem pay (t : Fin cfg0.N) (y : S1024x1024.Idx) :
    (k0_pay1 (iblk m c 0 t : Vec Ideal S1024x2816 .bf16) (iblk m c 1 t : Vec Ideal S1x1024x2816 .bf16) y : EReal)
      = ∑ k : Fin 2816, term c m (t.val / 8 * 1024 + (y 0).val) (t.val / 4 % 2 * 1024 + (y 1).val) (t.val % 4 * 2816 + k.val) := by
  rw [pay1_at]
  refine Finset.sum_congr rfl fun k _ => congrArg₂ (· * ·) (blk0 c m t _) (blk1 c m t _ |>.trans ?_)
  show nat3 (rhs c m) (t.val % 4 * 1 + 0) (t.val / 4 % 2 * 1024 + (y 1).val) (0 * 2816 + k.val) = _
  have hk : k.val < 2816 := k.isLt
  rw [show (t.val % 4 * 2816 + k.val) / 2816 = t.val % 4 * 1 + 0 from by omega,
    show (t.val % 4 * 2816 + k.val) % 2816 = 0 * 2816 + k.val from by omega]

/-- The scratch array after the first points of a block. -/
theorem scratch : ∀ (s q : ℕ) (hs : s < 3) (h : 4 * q + s < cfg0.N) (y : S1024x1024.Idx),
    ((outsAt0 m c (4 * q + s) h).2 y : EReal)
      = ∑ k ∈ Finset.range ((s + 1) * 2816), term c m (q / 2 * 1024 + (y 0).val) (q % 2 * 1024 + (y 1).val) k
  | 0, q, hs, h, y => by
    have e := outsAt0_A m c ⟨4 * q + 0, h⟩ (by show (4 * q + 0) % 4 = 0; omega) (by show ¬1 ≤ (4 * q + 0) % 4; omega) (by show ¬(4 * q + 0) % 4 = 3; omega)
    rw [show outsAt0 m c (4 * q + 0) h = _ from e]
    dsimp only
    rw [sout_A, pay, ← sum_first]
    simp only [show (4 * q + 0) / 8 = q / 2 from by omega, show (4 * q + 0) / 4 % 2 = q % 2 from by omega,
      show (4 * q + 0) % 4 = 0 from by omega]
  | s + 1, q, hs, h, y => by
    have e := outsAt0_B m c ⟨4 * q + (s + 1), h⟩ (by show ¬(4 * q + (s + 1)) % 4 = 0; omega)
      (by show 1 ≤ (4 * q + (s + 1)) % 4; omega) (by show ¬(4 * q + (s + 1)) % 4 = 3; omega)
    rw [show outsAt0 m c (4 * q + (s + 1)) h = _ from e]
    dsimp only
    rw [sout_B, addf_at, pay, ← sum_block]
    refine congrArg₂ (· + ·) (scratch s q (by omega) (by omega) y) ?_
    simp only [show (4 * q + (s + 1)) / 8 = q / 2 from by omega, show (4 * q + (s + 1)) / 4 % 2 = q % 2 from by omega,
      show (4 * q + (s + 1)) % 4 = s + 1 from by omega]

/-- The product of the whole matrices. -/
def G : S8192x2048.Idx → EReal := fun i => ∑ k ∈ Finset.range 11264, term c m ((i 0).val) ((i 1).val) k

theorem flushed_eq (t : Fin cfg0.N) (hf : (cfg0.win 2).flush t = true) :
    (dats m 0 c).flushed 2 t = ((cfg0.win 2).blk t).view.read (Elt Ideal) (G c m) := by
  have hm : t.val % 4 = 3 := (flush0_2 t).mp hf
  obtain ⟨e0, e1⟩ := index2 t
  rw [Value.flushed2_C m c t (by omega) (by omega) hm, out_C]
  funext (y : S1024x1024.Idx)
  rw [View.read_apply]
  show (addf (outsAt0 m c (t.val - 1) _).2 (k0_pay1 (iblk m c 0 t : Vec Ideal S1024x2816 .bf16) (iblk m c 1 t : Vec Ideal S1x1024x2816 .bf16)) y : EReal) = _
  rw [addf_at, pay]
  have key : ∀ (n : ℕ) (h : n < cfg0.N), n = 4 * (t.val / 4) + 2 → ((outsAt0 m c n h).2 y : EReal)
      = ∑ k ∈ Finset.range (3 * 2816), term c m (t.val / 8 * 1024 + (y 0).val) (t.val / 4 % 2 * 1024 + (y 1).val) k := by
    intro n h e
    subst e
    rw [scratch c m 2 (t.val / 4) (by omega) h y, show t.val / 4 / 2 = t.val / 8 from by omega]
  rw [key _ _ (by omega), hm, sum_block]
  have g : ∀ E : S8192x2048.Idx, (E 0).val = t.val / 8 * 1024 + (y 0).val → (E 1).val = t.val / 4 % 2 * 1024 + (y 1).val →
      ∑ k ∈ Finset.range ((3 + 1) * 2816), term c m (t.val / 8 * 1024 + (y 0).val) (t.val / 4 % 2 * 1024 + (y 1).val) k = G c m E := by
    intro E v0 v1
    unfold G
    rw [v0, v1]
  refine g _ ?_ ?_
  · show win0_2.index t 0 * 1024 + 1 * (y 0).val = _
    rw [e0, Nat.one_mul]
  · show win0_2.index t 1 * 1024 + 1 * (y 1).val = _
    rw [e1, Nat.one_mul]

theorem final : (dats m 0 c).arrAt 2 cfg0.N = G c m :=
  (dats m 0 c).arrAt_eq_of_cover 2 (G c m) (flushed_eq c m) fun i => by
    have h0 : (i 0 : Nat) < 8192 := (i 0).isLt
    have h1 : (i 1 : Nat) < 2048 := (i 1).isLt
    have hN : cfg0.N = 64 := N_0
    obtain ⟨t, ht⟩ : ∃ t : Fin cfg0.N, t.val = 8 * ((i 0).val / 1024) + 4 * ((i 1).val / 1024) + 3 :=
      ⟨⟨8 * ((i 0).val / 1024) + 4 * ((i 1).val / 1024) + 3, by omega⟩, rfl⟩
    obtain ⟨e0, e1⟩ := index2 t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [e0]; omega
    | ⟨1, _⟩ => show win0_2.index t 1 * 1024 ≤ (i 1 : Nat) ∧ (i 1 : Nat) < win0_2.index t 1 * 1024 + 1024
                rw [e1]; omega

/-- The reference's product. -/
theorem ref_at (A : FVec Ideal S8192x11264 .bf16) (B : FVec Ideal S4x2048x2816 .bf16) (i : S8192x2048.Idx) :
    (Host.dotGeneral Cert.RefGradHGateUpIdeal.dot_S8192x11264_S2048x11264_S8192x2048_1_1_0_0_n_n none (extf .f32 A Cert.RefGradHGateUpIdeal.Gen.facts.bitsLt_bf16_f32) (extf .f32 (shapeCast Cert.RefGradHGateUpIdeal.S2048x11264 (transpose Cert.RefGradHGateUpIdeal.S2048x4x2816 [1, 0, 2] B Cert.RefGradHGateUpIdeal.Gen.facts.transposes_S4x2048x2816_S2048x4x2816_1_0_2) Cert.RefGradHGateUpIdeal.Gen.facts.shapeCasts_S2048x4x2816_S2048x11264) Cert.RefGradHGateUpIdeal.Gen.facts.bitsLt_bf16_f32) i : EReal)
      = ∑ k ∈ Finset.range 11264, nat2 A (i 0).val k * nat3 B (k / 2816) (i 1).val (k % 2816) := by
  simp only [pointwise]
  exact (zero_add _).trans ((Finset.sum_congr rfl fun k _ =>
    (congrArg₂ (· * ·) (nat2_of A _ rfl rfl) (nat3_of B _ rfl rfl rfl))).trans
      (sum_axis (fun k => nat2 A (i 0).val k * nat3 B (k / 2816) (i 1).val (k % 2816)) 11264))

/-! ## The claims -/

section claims

theorem frame : Cert.quiescent_GradHGateUp (hGradHGateUp := Cert.GradHGateUp.Gen.facts) :=
  fun m ρ _ => Cert.GradHGateUp.Gen.frame m ρ

theorem frame_ideal : Cert.quiescent_GradHGateUpIdeal (hGradHGateUpIdeal := Cert.GradHGateUpIdeal.Gen.facts) :=
  fun m ρ _ => Cert.GradHGateUpIdeal.Gen.frame m ρ

/-- The reference declares no semaphore. -/
theorem frame_ref : Cert.quiescent_RefGradHGateUpIdeal (hRefGradHGateUpIdeal := Cert.RefGradHGateUpIdeal.Gen.facts) := by
  intro m ρ _
  exact (θ_run Cert.RefGradHGateUpIdeal.defs _ _).mono
    (fun r h => ⟨fun c => (h c).2, Idealize.ShloMosaic.sem_eq_zero_of_no_sems (by decide) r.2⟩)
    (Cert.RefGradHGateUpIdeal.Value.run (F := Ideal) m ρ)

theorem preserves : Cert.preserves_GradHGateUp_GradHGateUpIdeal := trivial

theorem algebraic : Cert.algebraic_GradHGateUpIdeal_RefGradHGateUpIdeal (hGradHGateUpIdeal := Cert.GradHGateUpIdeal.Gen.facts)
    (hRefGradHGateUpIdeal := Cert.RefGradHGateUpIdeal.Gen.facts) := by
  intro m g m' g' _ hagree
  refine ⟨fun c => G c m,
    (θ_run Cert.GradHGateUpIdeal.defs _ _).mono (fun r h c => ⟨(h c).1.trans (final c m), (h c).2⟩) (Value.run_blocks (F := Ideal) m g),
    (θ_run Cert.RefGradHGateUpIdeal.defs _ _).mono (fun r h c => ⟨(h c).1.trans (funext fun i => ?_), (h c).2⟩)
      (Cert.RefGradHGateUpIdeal.Value.run (F := Ideal) m' g')⟩
  obtain ⟨e0, e1⟩ := hagree c
  refine (ref_at _ _ i).trans ?_
  rw [e0, e1]
  rfl

end claims

end

end Prod.HGateUp
-- ==== Proof.GateUpF.lean ====
module

public import proofs.«01_k».proof.Proof.Prod
public import proofs.«01_k».proof.Proof.Gen.GateUpIdeal.Value
public import proofs.«01_k».proof.Proof.Gen.GateUpIdeal.Frame
public import proofs.«01_k».proof.Proof.Gen.GateUp.Frame
public import proofs.«01_k».proof.Proof.Gen.RefGateUpIdeal.Run
public import proofs.«01_k».proof.Defs

/-!
# The gate and the other factor: `h · w_gate_up`

Each point of the launch writes one block of the result.  The matrix is given as the mesh cuts it: four blocks of columns.
-/

@[expose] public section

set_option maxRecDepth 16384

namespace Prod.GateUpF
open Idealize.ShloMosaic Idealize.ShloMosaic.TcCoe Idealize.SL.Sem Cert.GateUpIdeal Cert.GateUpIdeal.Gen

noncomputable section

variable (c : Dev nD) (x0 : Vec Ideal S1024x2048 .bf16) (x1 : Vec Ideal S1x2048x1408 .bf16)

theorem out_eq : out0_2 x0 x1 = k0_pay1 x0 x1 := by
  unfold out0_2
  rw [View.canon_unit_zero hz2, View.ld_unit_zero (S := S1024x2048) hz2, View.ld_unit_zero (S := S1x2048x1408) hz3]

theorem pay1_at (y : S1024x1408.Idx) : (k0_pay1 x0 x1 y : EReal) = ∑ k : Fin 2048, x0 (ix2 (y 0) k) * x1 (ix3 0 k (y 1)) := by
  unfold k0_pay1
  simp only [pointwise]
  exact zero_add _

theorem index0 : ∀ t : Fin cfg0.N, win0_0.index t (0 : Fin 2) = t.val / 8 ∧ win0_0.index t (1 : Fin 2) = 0 :=
  (by decide +kernel : ∀ t : Fin grid0.N, _)
theorem index1 : ∀ t : Fin cfg0.N, win0_1.index t (0 : Fin 3) = t.val % 8 / 2 ∧ win0_1.index t (1 : Fin 3) = 0 ∧ win0_1.index t (2 : Fin 3) = t.val % 2 :=
  (by decide +kernel : ∀ t : Fin grid0.N, _)
theorem index2 : ∀ t : Fin cfg0.N, win0_2.index t (0 : Fin 2) = t.val / 8 ∧ win0_2.index t (1 : Fin 2) = t.val % 8 :=
  (by decide +kernel : ∀ t : Fin grid0.N, _)

variable (m : (ℓ : Loc nD τ sig) → Buf (Elt Ideal) ℓ) (ρ : Dev nD → PrngReg)

/-- The arguments. -/
def lhs : S8192x2048.Idx → EReal := m ((c : Thread nD τ).loc main_arg0)
def rhs : S4x2048x2816.Idx → EReal := m ((c : Thread nD τ).loc main_arg1)

theorem blk0 (t : Fin cfg0.N) (j : S1024x2048.Idx) :
    (iblk m c 0 t j : EReal) = nat2 (lhs c m) (t.val / 8 * 1024 + (j 0).val) (0 * 2048 + (j 1).val) := by
  obtain ⟨e0, e1⟩ := index0 t
  unfold iblk
  rw [View.read_apply]
  show (V m c main_arg0 _ : EReal) = _
  rw [V_main_arg0 m c]
  refine nat2_of (lhs c m) _ ?_ ?_
  · show win0_0.index t 0 * 1024 + 1 * (j 0).val = _
    rw [e0, Nat.one_mul]
  · show win0_0.index t 1 * 2048 + 1 * (j 1).val = _
    rw [e1, Nat.one_mul]

theorem blk1 (t : Fin cfg0.N) (j : S1x2048x1408.Idx) :
    (iblk m c 1 t j : EReal) = nat3 (rhs c m) (t.val % 8 / 2 * 1 + (j 0).val) (0 * 2048 + (j 1).val) (t.val % 2 * 1408 + (j 2).val) := by
  obtain ⟨e0, e1, e2⟩ := index1 t
  unfold iblk
  rw [View.read_apply]
  show (V m c main_arg1 _ : EReal) = _
  rw [V_main_arg1 m c]
  refine nat3_of (rhs c m) _ ?_ ?_ ?_
  · show win0_1.index t 0 * 1 + 1 * (j 0).val = _
    rw [e0, Nat.one_mul]
  · show win0_1.index t 1 * 2048 + 1 * (j 1).val = _
    rw [e1, Nat.one_mul]
  · show win0_1.index t 2 * 1408 + 1 * (j 2).val = _
    rw [e2, Nat.one_mul]

/-- The `k`-th product of the sum at row `r` and column `s`. -/
def term (r s k : ℕ) : EReal := nat2 (lhs c m) r k * nat3 (rhs c m) (s / 2816) k (s % 2816)

/-- What a point's blocks contribute. -/
theorem pay (t : Fin cfg0.N) (y : S1024x1408.Idx) :
    (k0_pay1 (iblk m c 0 t : Vec Ideal S1024x2048 .bf16) (iblk m c 1 t : Vec Ideal S1x2048x1408 .bf16) y : EReal)
      = ∑ k : Fin 2048, term c m (t.val / 8 * 1024 + (y 0).val) (t.val % 8 * 1408 + (y 1).val) (0 * 2048 + k.val) := by
  rw [pay1_at]
  refine Finset.sum_congr rfl fun k _ => congrArg₂ (· * ·) (blk0 c m t _) (blk1 c m t _ |>.trans ?_)
  have hy : (y 1).val < 1408 := (y 1).isLt
  show nat3 (rhs c m) (t.val % 8 / 2 * 1 + 0) (0 * 2048 + k.val) (t.val % 2 * 1408 + (y 1).val) = _
  rw [show (t.val % 8 * 1408 + (y 1).val) / 2816 = t.val % 8 / 2 * 1 + 0 from by omega,
    show (t.val % 8 * 1408 + (y 1).val) % 2816 = t.val % 2 * 1408 + (y 1).val from by omega]

/-- The product of the whole matrices. -/
def G : S8192x11264.Idx → EReal := fun i => ∑ k ∈ Finset.range 2048, term c m ((i 0).val) ((i 1).val) k

theorem flushed_eq (t : Fin cfg0.N) (_ : (cfg0.win 2).flush t = true) :
    (dats m 0 c).flushed 2 t = ((cfg0.win 2).blk t).view.read (Elt Ideal) (G c m) := by
  obtain ⟨e0, e1⟩ := index2 t
  rw [Value.flushed2 m c t, out_eq]
  funext (y : S1024x1408.Idx)
  rw [View.read_apply]
  show (k0_pay1 (iblk m c 0 t : Vec Ideal S1024x2048 .bf16) (iblk m c 1 t : Vec Ideal S1x2048x1408 .bf16) y : EReal) = _
  rw [pay, sum_first]
  have g : ∀ E : S8192x11264.Idx, (E 0).val = t.val / 8 * 1024 + (y 0).val → (E 1).val = t.val % 8 * 1408 + (y 1).val →
      ∑ k ∈ Finset.range ((0 + 1) * 2048), term c m (t.val / 8 * 1024 + (y 0).val) (t.val % 8 * 1408 + (y 1).val) k = G c m E := by
    intro E v0 v1
    unfold G
    rw [v0, v1]
  refine g _ ?_ ?_
  · show win0_2.index t 0 * 1024 + 1 * (y 0).val = _
    rw [e0, Nat.one_mul]
  · show win0_2.index t 1 * 1408 + 1 * (y 1).val = _
    rw [e1, Nat.one_mul]

theorem final : (dats m 0 c).arrAt 2 cfg0.N = G c m :=
  (dats m 0 c).arrAt_eq_of_cover 2 (G c m) (flushed_eq c m) fun i => by
    have h0 : (i 0 : Nat) < 8192 := (i 0).isLt
    have h1 : (i 1 : Nat) < 11264 := (i 1).isLt
    have hN : cfg0.N = 64 := N_0
    obtain ⟨t, ht⟩ : ∃ t : Fin cfg0.N, t.val = 8 * ((i 0).val / 1024) + (i 1).val / 1408 :=
      ⟨⟨8 * ((i 0).val / 1024) + (i 1).val / 1408, by omega⟩, rfl⟩
    obtain ⟨e0, e1⟩ := index2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [e0]; omega
    | ⟨1, _⟩ => show win0_2.index t 1 * 1408 ≤ (i 1 : Nat) ∧ (i 1 : Nat) < win0_2.index t 1 * 1408 + 1408
                rw [e1]; omega

/-- The reference's product. -/
theorem ref_at (A : FVec Ideal S8192x2048 .bf16) (B : FVec Ideal S4x2048x2816 .bf16) (i : S8192x11264.Idx) :
    (truncf .bf16 (Host.dotGeneral Cert.RefGateUpIdeal.dot_S8192x2048_S2048x11264_S8192x11264_1_0_0_1_n_n none (extf .f32 A Cert.RefGateUpIdeal.Gen.facts.bitsLt_bf16_f32) (extf .f32 (shapeCast Cert.RefGateUpIdeal.S2048x11264 (transpose Cert.RefGateUpIdeal.S2048x4x2816 [1, 0, 2] B Cert.RefGateUpIdeal.Gen.facts.transposes_S4x2048x2816_S2048x4x2816_1_0_2) Cert.RefGateUpIdeal.Gen.facts.shapeCasts_S2048x4x2816_S2048x11264) Cert.RefGateUpIdeal.Gen.facts.bitsLt_bf16_f32)) Cert.RefGateUpIdeal.Gen.facts.bitsLt_bf16_f32 i : EReal)
      = ∑ k ∈ Finset.range 2048, nat2 A (i 0).val k * nat3 B ((i 1).val / 2816) k ((i 1).val % 2816) := by
  simp only [pointwise]
  exact (zero_add _).trans ((Finset.sum_congr rfl fun k _ =>
    (congrArg₂ (· * ·) (nat2_of A _ rfl rfl) (nat3_of B _ rfl rfl rfl))).trans
      (sum_axis (fun k => nat2 A (i 0).val k * nat3 B ((i 1).val / 2816) k ((i 1).val % 2816)) 2048))

/-! ## The claims -/

section claims

theorem frame : Cert.quiescent_GateUp (hGateUp := Cert.GateUp.Gen.facts) :=
  fun m ρ _ => Cert.GateUp.Gen.frame m ρ

theorem frame_ideal : Cert.quiescent_GateUpIdeal (hGateUpIdeal := Cert.GateUpIdeal.Gen.facts) :=
  fun m ρ _ => Cert.GateUpIdeal.Gen.frame m ρ

/-- The reference declares no semaphore. -/
theorem frame_ref : Cert.quiescent_RefGateUpIdeal (hRefGateUpIdeal := Cert.RefGateUpIdeal.Gen.facts) := by
  intro m ρ _
  exact (θ_run Cert.RefGateUpIdeal.defs _ _).mono
    (fun r h => ⟨fun c => (h c).2, Idealize.ShloMosaic.sem_eq_zero_of_no_sems (by decide) r.2⟩)
    (Cert.RefGateUpIdeal.Value.run (F := Ideal) m ρ)

theorem preserves : Cert.preserves_GateUp_GateUpIdeal := trivial

theorem algebraic : Cert.algebraic_GateUpIdeal_RefGateUpIdeal (hGateUpIdeal := Cert.GateUpIdeal.Gen.facts)
    (hRefGateUpIdeal := Cert.RefGateUpIdeal.Gen.facts) := by
  intro m g m' g' _ hagree
  refine ⟨fun c => G c m,
    (θ_run Cert.GateUpIdeal.defs _ _).mono (fun r h c => ⟨(h c).1.trans (final c m), (h c).2⟩) (Value.run_blocks (F := Ideal) m g),
    (θ_run Cert.RefGateUpIdeal.defs _ _).mono (fun r h c => ⟨(h c).1.trans (funext fun i => ?_), (h c).2⟩)
      (Cert.RefGateUpIdeal.Value.run (F := Ideal) m' g')⟩
  obtain ⟨e0, e1⟩ := hagree c
  refine (ref_at _ _ i).trans ?_
  rw [e0, e1]
  rfl

end claims

end

end Prod.GateUpF
-- ==== Proof.WDown.lean ====
module

public import proofs.«01_k».proof.Proof.Prod
public import proofs.«01_k».proof.Proof.Gen.GradWDownIdeal.Value
public import proofs.«01_k».proof.Proof.Gen.GradWDownIdeal.Frame
public import proofs.«01_k».proof.Proof.Gen.GradWDown.Frame
public import proofs.«01_k».proof.Proof.Gen.RefGradWDownIdeal.Run
public import proofs.«01_k».proof.Defs

/-!
# The gradient of `w_down`: `actᵀ · df`

The launch adds, for each block of the result, four products of blocks in a scratch array, and writes the block after
the fourth.  Its result is the product of the whole matrices.
-/

@[expose] public section

set_option maxRecDepth 16384

namespace Prod.WDown
open Idealize.ShloMosaic Idealize.ShloMosaic.TcCoe Idealize.SL.Sem Cert.GradWDownIdeal Cert.GradWDownIdeal.Gen

noncomputable section

variable (c : Dev nD) (i : grid0.Coords) (a3 : Memref sig .tc .vmem S2048x512 .bf16) (h3 : a3.IsWhole)
  (a4 : Memref sig .tc .vmem S2048x1024 .bf16) (h4 : a4.IsWhole) (a5 : Memref sig .tc .vmem S512x1024 .bf16) (h5 : a5.IsWhole)
  (a6 : Memref sig .tc .vmem S512x1024 .f32) (h6 : a6.IsWhole)
  (x0 : Vec Ideal S2048x512 .bf16) (x1 : Vec Ideal S2048x1024 .bf16) (xs : Vec Ideal S512x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x512) hz2,
    View.ld_unit_zero (S := S2048x1024) hz2, shapeCast_self]

theorem sout_B (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz2]
  unfold k0_pay3
  simp only [View.readAt_eq_ld, h3.read_unread, h4.read_unread, h6.read_unread, View.ld_unit_zero (S := S2048x512) hz2,
    View.ld_unit_zero (S := S2048x1024) hz2, View.ld_unit_zero (S := S512x1024) hz2, shapeCast_self]

theorem out_C (hc0 : ¬cond0_0 i) (hc1 : cond0_1 i) (hc2 : cond0_2 i) :
    out0_C_2 c i a3 h3 a4 h4 a5 h5 a6 h6 hc0 hc1 hc2 x0 x1 xs = k0_pay4 (addf xs (k0_pay1 x0 x1)) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz2, View.readCov_unit_zero (S := S512x1024) _ hz2]
  unfold k0_pay3
  simp only [View.readAt_eq_ld, h3.read_unread, h4.read_unread, h6.read_unread, View.ld_unit_zero (S := S2048x512) hz2,
    View.ld_unit_zero (S := S2048x1024) hz2, View.ld_unit_zero (S := S512x1024) hz2, shapeCast_self]

theorem pay1_at (y : S512x1024.Idx) : (k0_pay1 x0 x1 y : EReal) = ∑ k : Fin 2048, x0 (ix2 k (y 0)) * x1 (ix2 k (y 1)) := by
  unfold k0_pay1
  simp only [pointwise]
  exact zero_add _

theorem index0 : ∀ t : Fin cfg0.N, win0_0.index t (0 : Fin 2) = t.val % 4 ∧ win0_0.index t (1 : Fin 2) = t.val / 8 :=
  (by decide +kernel : ∀ t : Fin grid0.N, _)
theorem index1 : ∀ t : Fin cfg0.N, win0_1.index t (0 : Fin 2) = t.val % 4 ∧ win0_1.index t (1 : Fin 2) = t.val / 4 % 2 :=
  (by decide +kernel : ∀ t : Fin grid0.N, _)
theorem index2 : ∀ t : Fin cfg0.N, win0_2.index t (0 : Fin 2) = t.val / 8 ∧ win0_2.index t (1 : Fin 2) = t.val / 4 % 2 :=
  (by decide +kernel : ∀ t : Fin grid0.N, _)

variable (m : (ℓ : Loc nD τ sig) → Buf (Elt Ideal) ℓ) (ρ : Dev nD → PrngReg)

/-- The arguments. -/
def lhs : S8192x5632.Idx → EReal := m ((c : Thread nD τ).loc main_arg0)
def rhs : S8192x2048.Idx → EReal := m ((c : Thread nD τ).loc main_arg1)

theorem blk0 (t : Fin cfg0.N) (j : S2048x512.Idx) :
    (iblk m c 0 t j : EReal) = nat2 (lhs c m) (t.val % 4 * 2048 + (j 0).val) (t.val / 8 * 512 + (j 1).val) := by
  obtain ⟨e0, e1⟩ := index0 t
  unfold iblk
  rw [View.read_apply]
  show (V m c main_arg0 _ : EReal) = _
  rw [V_main_arg0 m c]
  refine nat2_of (lhs c m) _ ?_ ?_
  · show win0_0.index t 0 * 2048 + 1 * (j 0).val = _
    rw [e0, Nat.one_mul]
  · show win0_0.index t 1 * 512 + 1 * (j 1).val = _
    rw [e1, Nat.one_mul]

theorem blk1 (t : Fin cfg0.N) (j : S2048x1024.Idx) :
    (iblk m c 1 t j : EReal) = nat2 (rhs c m) (t.val % 4 * 2048 + (j 0).val) (t.val / 4 % 2 * 1024 + (j 1).val) := by
  obtain ⟨e0, e1⟩ := index1 t
  unfold iblk
  rw [View.read_apply]
  show (V m c main_arg1 _ : EReal) = _
  rw [V_main_arg1 m c]
  refine nat2_of (rhs c m) _ ?_ ?_
  · show win0_1.index t 0 * 2048 + 1 * (j 0).val = _
    rw [e0, Nat.one_mul]
  · show win0_1.index t 1 * 1024 + 1 * (j 1).val = _
    rw [e1, Nat.one_mul]

/-- The product of the element `k` of a column of the one and of the other. -/
def term (r s k : ℕ) : EReal := nat2 (lhs c m) k r * nat2 (rhs c m) k s

/-- What a point's blocks contribute. -/
theorem pay (t : Fin cfg0.N) (y : S512x1024.Idx) :
    (k0_pay1 (iblk m c 0 t : Vec Ideal S2048x512 .bf16) (iblk m c 1 t : Vec Ideal S2048x1024 .bf16) y : EReal)
      = ∑ k : Fin 2048, term c m (t.val / 8 * 512 + (y 0).val) (t.val / 4 % 2 * 1024 + (y 1).val) (t.val % 4 * 2048 + k.val) := by
  rw [pay1_at]
  exact Finset.sum_congr rfl fun k _ => congrArg₂ (· * ·) (blk0 c m t _) (blk1 c m t _)

/-- The scratch array after the first points of a block. -/
theorem scratch : ∀ (s q : ℕ) (hs : s < 3) (h : 4 * q + s < cfg0.N) (y : S512x1024.Idx),
    ((outsAt0 m c (4 * q + s) h).2 y : EReal)
      = ∑ k ∈ Finset.range ((s + 1) * 2048), term c m (q / 2 * 512 + (y 0).val) (q % 2 * 1024 + (y 1).val) k
  | 0, q, hs, h, y => by
    have e := outsAt0_A m c ⟨4 * q + 0, h⟩ (by show (4 * q + 0) % 4 = 0; omega) (by show ¬1 ≤ (4 * q + 0) % 4; omega)
      (by show ¬(4 * q + 0) % 4 = 3; omega)
    rw [show outsAt0 m c (4 * q + 0) h = _ from e]
    dsimp only
    rw [sout_A, pay, ← sum_first]
    simp only [show (4 * q + 0) / 8 = q / 2 from by omega, show (4 * q + 0) / 4 % 2 = q % 2 from by omega,
      show (4 * q + 0) % 4 = 0 from by omega]
  | s + 1, q, hs, h, y => by
    have e := outsAt0_B m c ⟨4 * q + (s + 1), h⟩ (by show ¬(4 * q + (s + 1)) % 4 = 0; omega)
      (by show 1 ≤ (4 * q + (s + 1)) % 4; omega) (by show ¬(4 * q + (s + 1)) % 4 = 3; omega)
    rw [show outsAt0 m c (4 * q + (s + 1)) h = _ from e]
    dsimp only
    rw [sout_B, addf_at, pay, ← sum_block]
    refine congrArg₂ (· + ·) (scratch s q (by omega) (by omega) y) ?_
    simp only [show (4 * q + (s + 1)) / 8 = q / 2 from by omega, show (4 * q + (s + 1)) / 4 % 2 = q % 2 from by omega,
      show (4 * q + (s + 1)) % 4 = s + 1 from by omega]

/-- The product of the whole matrices. -/
def G : S5632x2048.Idx → EReal := fun i => ∑ k ∈ Finset.range 8192, term c m (i 0).val (i 1).val k

theorem flushed_eq (t : Fin cfg0.N) (hf : (cfg0.win 2).flush t = true) :
    (dats m 0 c).flushed 2 t = ((cfg0.win 2).blk t).view.read (Elt Ideal) (G c m) := by
  have hm : t.val % 4 = 3 := (flush0_2 t).mp hf
  obtain ⟨e0, e1⟩ := index2 t
  rw [Value.flushed2_C m c t (by omega) (by omega) hm, out_C]
  funext (y : S512x1024.Idx)
  rw [View.read_apply]
  show (k0_pay4 (addf (outsAt0 m c (t.val - 1) _).2 (k0_pay1 (iblk m c 0 t : Vec Ideal S2048x512 .bf16) (iblk m c 1 t : Vec Ideal S2048x1024 .bf16))) y : EReal) = _
  unfold k0_pay4
  dsimp only
  rw [truncf_at, addf_at, pay]
  have key : ∀ (n : ℕ) (h : n < cfg0.N), n = 4 * (t.val / 4) + 2 → ((outsAt0 m c n h).2 y : EReal)
      = ∑ k ∈ Finset.range (3 * 2048), term c m (t.val / 8 * 512 + (y 0).val) (t.val / 4 % 2 * 1024 + (y 1).val) k := by
    intro n h e
    subst e
    rw [scratch c m 2 (t.val / 4) (by omega) h y, show t.val / 4 / 2 = t.val / 8 from by omega]
  rw [key _ _ (by omega), hm, sum_block]
  have g : ∀ E : S5632x2048.Idx, (E 0).val = t.val / 8 * 512 + (y 0).val → (E 1).val = t.val / 4 % 2 * 1024 + (y 1).val →
      ∑ k ∈ Finset.range ((3 + 1) * 2048), term c m (t.val / 8 * 512 + (y 0).val) (t.val / 4 % 2 * 1024 + (y 1).val) k = G c m E := by
    intro E v0 v1
    unfold G
    rw [v0, v1]
  refine g _ ?_ ?_
  · show win0_2.index t 0 * 512 + 1 * (y 0).val = _
    rw [e0, Nat.one_mul]
  · show win0_2.index t 1 * 1024 + 1 * (y 1).val = _
    rw [e1, Nat.one_mul]

theorem final : (dats m 0 c).arrAt 2 cfg0.N = G c m :=
  (dats m 0 c).arrAt_eq_of_cover 2 (G c m) (flushed_eq c m) fun i => by
    have h0 : (i 0 : Nat) < 5632 := (i 0).isLt
    have h1 : (i 1 : Nat) < 2048 := (i 1).isLt
    have hN : cfg0.N = 88 := N_0
    obtain ⟨t, ht⟩ : ∃ t : Fin cfg0.N, t.val = 8 * ((i 0).val / 512) + 4 * ((i 1).val / 1024) + 3 :=
      ⟨⟨8 * ((i 0).val / 512) + 4 * ((i 1).val / 1024) + 3, by omega⟩, rfl⟩
    obtain ⟨e0, e1⟩ := index2 t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512
                rw [e0]; omega
    | ⟨1, _⟩ => show win0_2.index t 1 * 1024 ≤ (i 1 : Nat) ∧ (i 1 : Nat) < win0_2.index t 1 * 1024 + 1024
                rw [e1]; omega

/-- The reference's product, transposed. -/
theorem ref_at (A : FVec Ideal S8192x5632 .bf16) (B : FVec Ideal S8192x2048 .bf16) (i : S5632x2048.Idx) :
    (truncf .bf16 (transpose Cert.RefGradWDownIdeal.S5632x2048 [1, 0] (Host.dotGeneral
      Cert.RefGradWDownIdeal.dot_S8192x2048_S8192x5632_S2048x5632_0_0_1_1_n_n none (extf .f32 B Cert.RefGradWDownIdeal.Gen.facts.bitsLt_bf16_f32)
      (extf .f32 A Cert.RefGradWDownIdeal.Gen.facts.bitsLt_bf16_f32)) Cert.RefGradWDownIdeal.Gen.facts.transposes_S2048x5632_S5632x2048_1_0)
      Cert.RefGradWDownIdeal.Gen.facts.bitsLt_bf16_f32 i : EReal)
      = ∑ k ∈ Finset.range 8192, nat2 A k (i 0).val * nat2 B k (i 1).val := by
  rw [truncf_at]
  simp only [pointwise]
  exact (zero_add _).trans ((Finset.sum_congr rfl fun k _ => (mul_comm _ _).trans
    (congrArg₂ (· * ·) (nat2_of A _ rfl rfl) (nat2_of B _ rfl rfl))).trans (sum_axis (fun k => nat2 A k (i 0).val * nat2 B k (i 1).val) 8192))

/-! ## The claims -/

section claims

theorem frame : Cert.quiescent_GradWDown (hGradWDown := Cert.GradWDown.Gen.facts) :=
  fun m ρ _ => Cert.GradWDown.Gen.frame m ρ

theorem frame_ideal : Cert.quiescent_GradWDownIdeal (hGradWDownIdeal := Cert.GradWDownIdeal.Gen.facts) :=
  fun m ρ _ => Cert.GradWDownIdeal.Gen.frame m ρ

/-- The reference declares no semaphore. -/
theorem frame_ref : Cert.quiescent_RefGradWDownIdeal (hRefGradWDownIdeal := Cert.RefGradWDownIdeal.Gen.facts) := by
  intro m ρ _
  exact (θ_run Cert.RefGradWDownIdeal.defs _ _).mono
    (fun r h => ⟨fun c => (h c).2, Idealize.ShloMosaic.sem_eq_zero_of_no_sems (by decide) r.2⟩)
    (Cert.RefGradWDownIdeal.Value.run (F := Ideal) m ρ)

theorem preserves : Cert.preserves_GradWDown_GradWDownIdeal := trivial

theorem algebraic : Cert.algebraic_GradWDownIdeal_RefGradWDownIdeal (hGradWDownIdeal := Cert.GradWDownIdeal.Gen.facts)
    (hRefGradWDownIdeal := Cert.RefGradWDownIdeal.Gen.facts) := by
  intro m g m' g' _ hagree
  refine ⟨fun c => G c m,
    (θ_run Cert.GradWDownIdeal.defs _ _).mono (fun r h c => ⟨(h c).1.trans (final c m), (h c).2⟩) (Value.run_blocks (F := Ideal) m g),
    (θ_run Cert.RefGradWDownIdeal.defs _ _).mono (fun r h c => ⟨(h c).1.trans (funext fun i => ?_), (h c).2⟩)
      (Cert.RefGradWDownIdeal.Value.run (F := Ideal) m' g')⟩
  obtain ⟨e0, e1⟩ := hagree c
  refine (ref_at _ _ i).trans ?_
  rw [e0, e1]
  rfl

end claims

end

end Prod.WDown
-- ==== Proof.HDown.lean ====
module

public import proofs.«01_k».proof.Proof.Prod
public import proofs.«01_k».proof.Proof.Gen.GradHDownIdeal.Value
public import proofs.«01_k».proof.Proof.Gen.GradHDownIdeal.Frame
public import proofs.«01_k».proof.Proof.Gen.GradHDown.Frame
public import proofs.«01_k».proof.Proof.Gen.RefGradHDownIdeal.Run
public import proofs.«01_k».proof.Defs

/-!
# The gradient of the activations: `df · w_downᵀ`

Each point of the launch writes one block of the result, the product of a block of rows of each matrix.
-/

@[expose] public section

set_option maxRecDepth 16384

namespace Prod.HDown
open Idealize.ShloMosaic Idealize.ShloMosaic.TcCoe Idealize.SL.Sem Cert.GradHDownIdeal Cert.GradHDownIdeal.Gen

noncomputable section

variable (c : Dev nD) (x0 : Vec Ideal S1024x2048 .bf16) (x1 : Vec Ideal S1408x2048 .bf16)

theorem out_eq : out0_2 x0 x1 = k0_pay1 x0 x1 := by
  unfold out0_2
  rw [View.canon_unit_zero hz2, View.ld_unit_zero (S := S1024x2048) hz2, View.ld_unit_zero (S := S1408x2048) hz2]

theorem pay1_at (y : S1024x1408.Idx) : (k0_pay1 x0 x1 y : EReal) = ∑ k : Fin 2048, x0 (ix2 (y 0) k) * x1 (ix2 (y 1) k) := by
  unfold k0_pay1
  simp only [pointwise]
  exact zero_add _

theorem index0 : ∀ t : Fin cfg0.N, win0_0.index t (0 : Fin 2) = t.val / 4 ∧ win0_0.index t (1 : Fin 2) = 0 :=
  (by decide +kernel : ∀ t : Fin grid0.N, _)
theorem index1 : ∀ t : Fin cfg0.N, win0_1.index t (0 : Fin 2) = t.val % 4 ∧ win0_1.index t (1 : Fin 2) = 0 :=
  (by decide +kernel : ∀ t : Fin grid0.N, _)
theorem index2 : ∀ t : Fin cfg0.N, win0_2.index t (0 : Fin 2) = t.val / 4 ∧ win0_2.index t (1 : Fin 2) = t.val % 4 :=
  (by decide +kernel : ∀ t : Fin grid0.N, _)

variable (m : (ℓ : Loc nD τ sig) → Buf (Elt Ideal) ℓ) (ρ : Dev nD → PrngReg)

/-- The arguments. -/
def lhs : S8192x2048.Idx → EReal := m ((c : Thread nD τ).loc main_arg0)
def rhs : S5632x2048.Idx → EReal := m ((c : Thread nD τ).loc main_arg1)

theorem blk0 (t : Fin cfg0.N) (j : S1024x2048.Idx) :
    (iblk m c 0 t j : EReal) = nat2 (lhs c m) (t.val / 4 * 1024 + (j 0).val) (0 * 2048 + (j 1).val) := by
  obtain ⟨e0, e1⟩ := index0 t
  unfold iblk
  rw [View.read_apply]
  show (V m c main_arg0 _ : EReal) = _
  rw [V_main_arg0 m c]
  refine nat2_of (lhs c m) _ ?_ ?_
  · show win0_0.index t 0 * 1024 + 1 * (j 0).val = _
    rw [e0, Nat.one_mul]
  · show win0_0.index t 1 * 2048 + 1 * (j 1).val = _
    rw [e1, Nat.one_mul]

theorem blk1 (t : Fin cfg0.N) (j : S1408x2048.Idx) :
    (iblk m c 1 t j : EReal) = nat2 (rhs c m) (t.val % 4 * 1408 + (j 0).val) (0 * 2048 + (j 1).val) := by
  obtain ⟨e0, e1⟩ := index1 t
  unfold iblk
  rw [View.read_apply]
  show (V m c main_arg1 _ : EReal) = _
  rw [V_main_arg1 m c]
  refine nat2_of (rhs c m) _ ?_ ?_
  · show win0_1.index t 0 * 1408 + 1 * (j 0).val = _
    rw [e0, Nat.one_mul]
  · show win0_1.index t 1 * 2048 + 1 * (j 1).val = _
    rw [e1, Nat.one_mul]

/-- The `k`-th product of the sum at row `r` and column `s`. -/
def term (r s k : ℕ) : EReal := nat2 (lhs c m) r k * nat2 (rhs c m) s k

/-- What a point's blocks contribute. -/
theorem pay (t : Fin cfg0.N) (y : S1024x1408.Idx) :
    (k0_pay1 (iblk m c 0 t : Vec Ideal S1024x2048 .bf16) (iblk m c 1 t : Vec Ideal S1408x2048 .bf16) y : EReal)
      = ∑ k : Fin 2048, term c m (t.val / 4 * 1024 + (y 0).val) (t.val % 4 * 1408 + (y 1).val) (0 * 2048 + k.val) := by
  rw [pay1_at]
  refine Finset.sum_congr rfl fun k _ => congrArg₂ (· * ·) (blk0 c m t _) (blk1 c m t _)

/-- The product of the whole matrices. -/
def G : S8192x5632.Idx → EReal := fun i => ∑ k ∈ Finset.range 2048, term c m ((i 0).val) ((i 1).val) k

theorem flushed_eq (t : Fin cfg0.N) (_ : (cfg0.win 2).flush t = true) :
    (dats m 0 c).flushed 2 t = ((cfg0.win 2).blk t).view.read (Elt Ideal) (G c m) := by
  obtain ⟨e0, e1⟩ := index2 t
  rw [Value.flushed2 m c t, out_eq]
  funext (y : S1024x1408.Idx)
  rw [View.read_apply]
  show (k0_pay1 (iblk m c 0 t : Vec Ideal S1024x2048 .bf16) (iblk m c 1 t : Vec Ideal S1408x2048 .bf16) y : EReal) = _
  rw [pay, sum_first]
  have g : ∀ E : S8192x5632.Idx, (E 0).val = t.val / 4 * 1024 + (y 0).val → (E 1).val = t.val % 4 * 1408 + (y 1).val →
      ∑ k ∈ Finset.range ((0 + 1) * 2048), term c m (t.val / 4 * 1024 + (y 0).val) (t.val % 4 * 1408 + (y 1).val) k = G c m E := by
    intro E v0 v1
    unfold G
    rw [v0, v1]
  refine g _ ?_ ?_
  · show win0_2.index t 0 * 1024 + 1 * (y 0).val = _
    rw [e0, Nat.one_mul]
  · show win0_2.index t 1 * 1408 + 1 * (y 1).val = _
    rw [e1, Nat.one_mul]

theorem final : (dats m 0 c).arrAt 2 cfg0.N = G c m :=
  (dats m 0 c).arrAt_eq_of_cover 2 (G c m) (flushed_eq c m) fun i => by
    have h0 : (i 0 : Nat) < 8192 := (i 0).isLt
    have h1 : (i 1 : Nat) < 5632 := (i 1).isLt
    have hN : cfg0.N = 32 := N_0
    obtain ⟨t, ht⟩ : ∃ t : Fin cfg0.N, t.val = 4 * ((i 0).val / 1024) + (i 1).val / 1408 :=
      ⟨⟨4 * ((i 0).val / 1024) + (i 1).val / 1408, by omega⟩, rfl⟩
    obtain ⟨e0, e1⟩ := index2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [e0]; omega
    | ⟨1, _⟩ => show win0_2.index t 1 * 1408 ≤ (i 1 : Nat) ∧ (i 1 : Nat) < win0_2.index t 1 * 1408 + 1408
                rw [e1]; omega

/-- The reference's product. -/
theorem ref_at (A : FVec Ideal S8192x2048 .bf16) (B : FVec Ideal S5632x2048 .bf16) (i : S8192x5632.Idx) :
    (truncf .bf16 (Host.dotGeneral Cert.RefGradHDownIdeal.dot_S8192x2048_S5632x2048_S8192x5632_1_1_0_0_n_n none (extf .f32 A Cert.RefGradHDownIdeal.Gen.facts.bitsLt_bf16_f32) (extf .f32 B Cert.RefGradHDownIdeal.Gen.facts.bitsLt_bf16_f32)) Cert.RefGradHDownIdeal.Gen.facts.bitsLt_bf16_f32 i : EReal)
      = ∑ k ∈ Finset.range 2048, nat2 A (i 0).val k * nat2 B (i 1).val k := by
  simp only [pointwise]
  exact (zero_add _).trans ((Finset.sum_congr rfl fun k _ =>
    (congrArg₂ (· * ·) (nat2_of A _ rfl rfl) (nat2_of B _ rfl rfl))).trans
      (sum_axis (fun k => nat2 A (i 0).val k * nat2 B (i 1).val k) 2048))

/-! ## The claims -/

section claims

theorem frame : Cert.quiescent_GradHDown (hGradHDown := Cert.GradHDown.Gen.facts) :=
  fun m ρ _ => Cert.GradHDown.Gen.frame m ρ

theorem frame_ideal : Cert.quiescent_GradHDownIdeal (hGradHDownIdeal := Cert.GradHDownIdeal.Gen.facts) :=
  fun m ρ _ => Cert.GradHDownIdeal.Gen.frame m ρ

/-- The reference declares no semaphore. -/
theorem frame_ref : Cert.quiescent_RefGradHDownIdeal (hRefGradHDownIdeal := Cert.RefGradHDownIdeal.Gen.facts) := by
  intro m ρ _
  exact (θ_run Cert.RefGradHDownIdeal.defs _ _).mono
    (fun r h => ⟨fun c => (h c).2, Idealize.ShloMosaic.sem_eq_zero_of_no_sems (by decide) r.2⟩)
    (Cert.RefGradHDownIdeal.Value.run (F := Ideal) m ρ)

theorem preserves : Cert.preserves_GradHDown_GradHDownIdeal := trivial

theorem algebraic : Cert.algebraic_GradHDownIdeal_RefGradHDownIdeal (hGradHDownIdeal := Cert.GradHDownIdeal.Gen.facts)
    (hRefGradHDownIdeal := Cert.RefGradHDownIdeal.Gen.facts) := by
  intro m g m' g' _ hagree
  refine ⟨fun c => G c m,
    (θ_run Cert.GradHDownIdeal.defs _ _).mono (fun r h c => ⟨(h c).1.trans (final c m), (h c).2⟩) (Value.run_blocks (F := Ideal) m g),
    (θ_run Cert.RefGradHDownIdeal.defs _ _).mono (fun r h c => ⟨(h c).1.trans (funext fun i => ?_), (h c).2⟩)
      (Cert.RefGradHDownIdeal.Value.run (F := Ideal) m' g')⟩
  obtain ⟨e0, e1⟩ := hagree c
  refine (ref_at _ _ i).trans ?_
  rw [e0, e1]
  rfl

end claims

end

end Prod.HDown
-- ==== Proof.Down.lean ====
module

public import proofs.«01_k».proof.Proof.Prod
public import proofs.«01_k».proof.Proof.Gen.DownIdeal.Value
public import proofs.«01_k».proof.Proof.Gen.DownIdeal.Frame
public import proofs.«01_k».proof.Proof.Gen.Down.Frame
public import proofs.«01_k».proof.Proof.Gen.RefDownIdeal.Run
public import proofs.«01_k».proof.Defs

/-!
# The part's result: `act · w_down`

The launch keeps the first half of each block's sum in a scratch array, and writes the block with the second.
-/

@[expose] public section

set_option maxRecDepth 16384

namespace Prod.Down
open Idealize.ShloMosaic Idealize.ShloMosaic.TcCoe Idealize.SL.Sem Cert.DownIdeal Cert.DownIdeal.Gen

noncomputable section

variable (c : Dev nD) (i : grid0.Coords) (a3 : Memref sig .tc .vmem S1024x2816 .bf16) (h3 : a3.IsWhole)
  (a4 : Memref sig .tc .vmem S2816x1024 .bf16) (h4 : a4.IsWhole) (a5 : Memref sig .tc .vmem S1024x1024 .f32) (h5 : a5.IsWhole)
  (a6 : Memref sig .tc .vmem S1024x1024 .f32) (h6 : a6.IsWhole)
  (x0 : Vec Ideal S1024x2816 .bf16) (x1 : Vec Ideal S2816x1024 .bf16) (xs : Vec Ideal S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S1024x2816) hz2, View.ld_unit_zero (S := S2816x1024) hz2, shapeCast_self]

theorem out_B (hc0 : ¬cond0_0 i) (hc1 : cond0_1 i) (hc2 : cond0_2 i) :
    out0_B_2 c i a3 h3 a4 h4 a5 h5 a6 h6 hc0 hc1 hc2 x0 x1 xs = addf xs (k0_pay1 x0 x1) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz2, View.readCov_unit_zero (S := S1024x1024) _ hz2]
  unfold k0_pay3
  simp only [View.readAt_eq_ld, h3.read_unread, h4.read_unread, h6.read_unread, View.ld_unit_zero (S := S1024x2816) hz2, View.ld_unit_zero (S := S2816x1024) hz2, View.ld_unit_zero (S := S1024x1024) hz2, shapeCast_self]

theorem pay1_at (y : S1024x1024.Idx) : (k0_pay1 x0 x1 y : EReal) = ∑ k : Fin 2816, x0 (ix2 (y 0) k) * x1 (ix2 k (y 1)) := by
  unfold k0_pay1
  simp only [pointwise]
  exact zero_add _

theorem index0 : ∀ t : Fin cfg0.N, win0_0.index t (0 : Fin 2) = t.val / 4 ∧ win0_0.index t (1 : Fin 2) = t.val % 2 :=
  (by decide +kernel : ∀ t : Fin grid0.N, _)
theorem index1 : ∀ t : Fin cfg0.N, win0_1.index t (0 : Fin 2) = t.val % 2 ∧ win0_1.index t (1 : Fin 2) = t.val / 2 % 2 :=
  (by decide +kernel : ∀ t : Fin grid0.N, _)
theorem index2 : ∀ t : Fin cfg0.N, win0_2.index t (0 : Fin 2) = t.val / 4 ∧ win0_2.index t (1 : Fin 2) = t.val / 2 % 2 :=
  (by decide +kernel : ∀ t : Fin grid0.N, _)

variable (m : (ℓ : Loc nD τ sig) → Buf (Elt Ideal) ℓ) (ρ : Dev nD → PrngReg)

/-- The arguments. -/
def lhs : S8192x5632.Idx → EReal := m ((c : Thread nD τ).loc main_arg0)
def rhs : S5632x2048.Idx → EReal := m ((c : Thread nD τ).loc main_arg1)

theorem blk0 (t : Fin cfg0.N) (j : S1024x2816.Idx) :
    (iblk m c 0 t j : EReal) = nat2 (lhs c m) (t.val / 4 * 1024 + (j 0).val) (t.val % 2 * 2816 + (j 1).val) := by
  obtain ⟨e0, e1⟩ := index0 t
  unfold iblk
  rw [View.read_apply]
  show (V m c main_arg0 _ : EReal) = _
  rw [V_main_arg0 m c]
  refine nat2_of (lhs c m) _ ?_ ?_
  · show win0_0.index t 0 * 1024 + 1 * (j 0).val = _
    rw [e0, Nat.one_mul]
  · show win0_0.index t 1 * 2816 + 1 * (j 1).val = _
    rw [e1, Nat.one_mul]

theorem blk1 (t : Fin cfg0.N) (j : S2816x1024.Idx) :
    (iblk m c 1 t j : EReal) = nat2 (rhs c m) (t.val % 2 * 2816 + (j 0).val) (t.val / 2 % 2 * 1024 + (j 1).val) := by
  obtain ⟨e0, e1⟩ := index1 t
  unfold iblk
  rw [View.read_apply]
  show (V m c main_arg1 _ : EReal) = _
  rw [V_main_arg1 m c]
  refine nat2_of (rhs c m) _ ?_ ?_
  · show win0_1.index t 0 * 2816 + 1 * (j 0).val = _
    rw [e0, Nat.one_mul]
  · show win0_1.index t 1 * 1024 + 1 * (j 1).val = _
    rw [e1, Nat.one_mul]

/-- The `k`-th product of the sum at row `r` and column `s`. -/
def term (r s k : ℕ) : EReal := nat2 (lhs c m) r k * nat2 (rhs c m) k s

/-- What a point's blocks contribute. -/
theorem pay (t : Fin cfg0.N) (y : S1024x1024.Idx) :
    (k0_pay1 (iblk m c 0 t : Vec Ideal S1024x2816 .bf16) (iblk m c 1 t : Vec Ideal S2816x1024 .bf16) y : EReal)
      = ∑ k : Fin 2816, term c m (t.val / 4 * 1024 + (y 0).val) (t.val / 2 % 2 * 1024 + (y 1).val) (t.val % 2 * 2816 + k.val) := by
  rw [pay1_at]
  refine Finset.sum_congr rfl fun k _ => congrArg₂ (· * ·) (blk0 c m t _) (blk1 c m t _)

/-- The scratch array after the first point of a block. -/
theorem scratch (q : ℕ) (h : 2 * q < cfg0.N) (y : S1024x1024.Idx) :
    ((outsAt0 m c (2 * q) h).2 y : EReal)
      = ∑ k ∈ Finset.range ((0 + 1) * 2816), term c m (q / 2 * 1024 + (y 0).val) (q % 2 * 1024 + (y 1).val) k := by
  have e := outsAt0_A m c ⟨2 * q, h⟩ (by show (2 * q) % 2 = 0; omega) (by show ¬(2 * q) % 2 = 1; omega) (by show ¬(2 * q) % 2 = 1; omega)
  rw [show outsAt0 m c (2 * q) h = _ from e]
  dsimp only
  rw [sout_A, pay, ← sum_first]
  simp only [show (2 * q) / 4 = q / 2 from by omega, show (2 * q) / 2 % 2 = q % 2 from by omega,
      show (2 * q) % 2 = 0 from by omega]

/-- The product of the whole matrices. -/
def G : S8192x2048.Idx → EReal := fun i => ∑ k ∈ Finset.range 5632, term c m ((i 0).val) ((i 1).val) k

theorem flushed_eq (t : Fin cfg0.N) (hf : (cfg0.win 2).flush t = true) :
    (dats m 0 c).flushed 2 t = ((cfg0.win 2).blk t).view.read (Elt Ideal) (G c m) := by
  have hm : t.val % 2 = 1 := (flush0_2 t).mp hf
  obtain ⟨e0, e1⟩ := index2 t
  rw [Value.flushed2_B m c t (by omega) hm hm, out_B]
  funext (y : S1024x1024.Idx)
  rw [View.read_apply]
  show (addf (outsAt0 m c (t.val - 1) _).2 (k0_pay1 (iblk m c 0 t : Vec Ideal S1024x2816 .bf16) (iblk m c 1 t : Vec Ideal S2816x1024 .bf16)) y : EReal) = _
  rw [addf_at, pay]
  have key : ∀ (n : ℕ) (h : n < cfg0.N), n = 2 * (t.val / 2) → ((outsAt0 m c n h).2 y : EReal)
      = ∑ k ∈ Finset.range (1 * 2816), term c m (t.val / 4 * 1024 + (y 0).val) (t.val / 2 % 2 * 1024 + (y 1).val) k := by
    intro n h e
    subst e
    rw [scratch c m (t.val / 2) h y, show t.val / 2 / 2 = t.val / 4 from by omega]
  rw [key _ _ (by omega), hm, sum_block]
  have g : ∀ E : S8192x2048.Idx, (E 0).val = t.val / 4 * 1024 + (y 0).val → (E 1).val = t.val / 2 % 2 * 1024 + (y 1).val →
      ∑ k ∈ Finset.range ((1 + 1) * 2816), term c m (t.val / 4 * 1024 + (y 0).val) (t.val / 2 % 2 * 1024 + (y 1).val) k = G c m E := by
    intro E v0 v1
    unfold G
    rw [v0, v1]
  refine g _ ?_ ?_
  · show win0_2.index t 0 * 1024 + 1 * (y 0).val = _
    rw [e0, Nat.one_mul]
  · show win0_2.index t 1 * 1024 + 1 * (y 1).val = _
    rw [e1, Nat.one_mul]

theorem final : (dats m 0 c).arrAt 2 cfg0.N = G c m :=
  (dats m 0 c).arrAt_eq_of_cover 2 (G c m) (flushed_eq c m) fun i => by
    have h0 : (i 0 : Nat) < 8192 := (i 0).isLt
    have h1 : (i 1 : Nat) < 2048 := (i 1).isLt
    have hN : cfg0.N = 32 := N_0
    obtain ⟨t, ht⟩ : ∃ t : Fin cfg0.N, t.val = 4 * ((i 0).val / 1024) + 2 * ((i 1).val / 1024) + 1 :=
      ⟨⟨4 * ((i 0).val / 1024) + 2 * ((i 1).val / 1024) + 1, by omega⟩, rfl⟩
    obtain ⟨e0, e1⟩ := index2 t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [e0]; omega
    | ⟨1, _⟩ => show win0_2.index t 1 * 1024 ≤ (i 1 : Nat) ∧ (i 1 : Nat) < win0_2.index t 1 * 1024 + 1024
                rw [e1]; omega

/-- The reference's product. -/
theorem ref_at (A : FVec Ideal S8192x5632 .bf16) (B : FVec Ideal S5632x2048 .bf16) (i : S8192x2048.Idx) :
    (Host.dotGeneral Cert.RefDownIdeal.dot_S8192x5632_S5632x2048_S8192x2048_1_0_0_1_n_n none (extf .f32 A Cert.RefDownIdeal.Gen.facts.bitsLt_bf16_f32) (extf .f32 B Cert.RefDownIdeal.Gen.facts.bitsLt_bf16_f32) i : EReal)
      = ∑ k ∈ Finset.range 5632, nat2 A (i 0).val k * nat2 B k (i 1).val := by
  simp only [pointwise]
  exact (zero_add _).trans ((Finset.sum_congr rfl fun k _ =>
    (congrArg₂ (· * ·) (nat2_of A _ rfl rfl) (nat2_of B _ rfl rfl))).trans
      (sum_axis (fun k => nat2 A (i 0).val k * nat2 B k (i 1).val) 5632))

/-! ## The claims -/

section claims

theorem frame : Cert.quiescent_Down (hDown := Cert.Down.Gen.facts) :=
  fun m ρ _ => Cert.Down.Gen.frame m ρ

theorem frame_ideal : Cert.quiescent_DownIdeal (hDownIdeal := Cert.DownIdeal.Gen.facts) :=
  fun m ρ _ => Cert.DownIdeal.Gen.frame m ρ

/-- The reference declares no semaphore. -/
theorem frame_ref : Cert.quiescent_RefDownIdeal (hRefDownIdeal := Cert.RefDownIdeal.Gen.facts) := by
  intro m ρ _
  exact (θ_run Cert.RefDownIdeal.defs _ _).mono
    (fun r h => ⟨fun c => (h c).2, Idealize.ShloMosaic.sem_eq_zero_of_no_sems (by decide) r.2⟩)
    (Cert.RefDownIdeal.Value.run (F := Ideal) m ρ)

theorem preserves : Cert.preserves_Down_DownIdeal := trivial

theorem algebraic : Cert.algebraic_DownIdeal_RefDownIdeal (hDownIdeal := Cert.DownIdeal.Gen.facts)
    (hRefDownIdeal := Cert.RefDownIdeal.Gen.facts) := by
  intro m g m' g' _ hagree
  refine ⟨fun c => G c m,
    (θ_run Cert.DownIdeal.defs _ _).mono (fun r h c => ⟨(h c).1.trans (final c m), (h c).2⟩) (Value.run_blocks (F := Ideal) m g),
    (θ_run Cert.RefDownIdeal.defs _ _).mono (fun r h c => ⟨(h c).1.trans (funext fun i => ?_), (h c).2⟩)
      (Cert.RefDownIdeal.Value.run (F := Ideal) m' g')⟩
  obtain ⟨e0, e1⟩ := hagree c
  refine (ref_at _ _ i).trans ?_
  rw [e0, e1]
  rfl

end claims

end

end Prod.Down
-- ==== Proof.ZF.lean ====
module

public import proofs.«01_k».proof.Proof.Prod
public import proofs.«01_k».proof.Proof.Gen.ProjZIdeal.Value
public import proofs.«01_k».proof.Proof.Gen.ProjZIdeal.Frame
public import proofs.«01_k».proof.Proof.Gen.ProjZ.Frame
public import proofs.«01_k».proof.Proof.Gen.RefProjZIdeal.Run
public import proofs.«01_k».proof.Defs

/-!
# The first projection's columns from 0 to 4095

Each point of the launch writes one block of the result, the product of a block of rows of each matrix.  The second is the
projection's matrix transposed, and its blocks begin at row 0.
-/

@[expose] public section

set_option maxRecDepth 16384

namespace Prod.ZF
open Idealize.ShloMosaic Idealize.ShloMosaic.TcCoe Idealize.SL.Sem Cert.ProjZIdeal Cert.ProjZIdeal.Gen

noncomputable section

variable (c : Dev nD) (x0 : Vec Ideal S1024x2048 .bf16) (x1 : Vec Ideal S1024x2048 .bf16)

theorem out_eq : out0_2 x0 x1 = k0_pay1 x0 x1 := by
  unfold out0_2
  rw [View.canon_unit_zero hz2, View.ld_unit_zero (S := S1024x2048) hz2, View.ld_unit_zero (S := S1024x2048) hz2]

theorem pay1_at (y : S1024x1024.Idx) : (k0_pay1 x0 x1 y : EReal) = ∑ k : Fin 2048, x0 (ix2 (y 0) k) * x1 (ix2 (y 1) k) := by
  unfold k0_pay1
  simp only [pointwise]
  exact zero_add _

theorem index0 : ∀ t : Fin cfg0.N, win0_0.index t (0 : Fin 2) = t.val / 4 ∧ win0_0.index t (1 : Fin 2) = 0 :=
  (by decide +kernel : ∀ t : Fin grid0.N, _)
theorem index1 : ∀ t : Fin cfg0.N, win0_1.index t (0 : Fin 2) = 0 + t.val % 4 * 1024 ∧ win0_1.index t (1 : Fin 2) = 0 :=
  (by decide +kernel : ∀ t : Fin grid0.N, _)
theorem index2 : ∀ t : Fin cfg0.N, win0_2.index t (0 : Fin 2) = t.val / 4 ∧ win0_2.index t (1 : Fin 2) = t.val % 4 :=
  (by decide +kernel : ∀ t : Fin grid0.N, _)

variable (m : (ℓ : Loc nD τ sig) → Buf (Elt Ideal) ℓ) (ρ : Dev nD → PrngReg)

/-- The arguments. -/
def lhs : S8192x2048.Idx → EReal := m ((c : Thread nD τ).loc main_arg0)
def rhs : S18560x2048.Idx → EReal := m ((c : Thread nD τ).loc main_arg1)

theorem blk0 (t : Fin cfg0.N) (j : S1024x2048.Idx) :
    (iblk m c 0 t j : EReal) = nat2 (lhs c m) (t.val / 4 * 1024 + (j 0).val) (0 * 2048 + (j 1).val) := by
  obtain ⟨e0, e1⟩ := index0 t
  unfold iblk
  rw [View.read_apply]
  show (V m c main_arg0 _ : EReal) = _
  rw [V_main_arg0 m c]
  refine nat2_of (lhs c m) _ ?_ ?_
  · show win0_0.index t 0 * 1024 + 1 * (j 0).val = _
    rw [e0, Nat.one_mul]
  · show win0_0.index t 1 * 2048 + 1 * (j 1).val = _
    rw [e1, Nat.one_mul]

theorem blk1 (t : Fin cfg0.N) (j : S1024x2048.Idx) :
    (iblk m c 1 t j : EReal) = nat2 (rhs c m) (0 + t.val % 4 * 1024 + (j 0).val) (0 + (j 1).val) := by
  obtain ⟨e0, e1⟩ := index1 t
  unfold iblk
  rw [View.read_apply]
  show (V m c main_arg1 _ : EReal) = _
  rw [V_main_arg1 m c]
  refine nat2_of (rhs c m) _ ?_ ?_
  · show win0_1.index t 0 + 1 * (j 0).val = _
    rw [e0, Nat.one_mul]
  · show win0_1.index t 1 + 1 * (j 1).val = _
    rw [e1, Nat.one_mul]

/-- The `k`-th product of the sum at row `r` and column `s`. -/
def term (r s k : ℕ) : EReal := nat2 (lhs c m) r k * nat2 (rhs c m) (0 + s) k

/-- What a point's blocks contribute. -/
theorem pay (t : Fin cfg0.N) (y : S1024x1024.Idx) :
    (k0_pay1 (iblk m c 0 t : Vec Ideal S1024x2048 .bf16) (iblk m c 1 t : Vec Ideal S1024x2048 .bf16) y : EReal)
      = ∑ k : Fin 2048, term c m (t.val / 4 * 1024 + (y 0).val) (t.val % 4 * 1024 + (y 1).val) (0 * 2048 + k.val) := by
  rw [pay1_at]
  refine Finset.sum_congr rfl fun k _ => congrArg₂ (· * ·) (blk0 c m t _) (blk1 c m t _ |>.trans ?_)
  show nat2 (rhs c m) (0 + t.val % 4 * 1024 + (y 1).val) (0 + k.val) = nat2 (rhs c m) (0 + (t.val % 4 * 1024 + (y 1).val)) (0 * 2048 + k.val)
  rw [Nat.add_assoc, Nat.zero_mul]

/-- The product of the whole matrices. -/
def G : S8192x4096.Idx → EReal := fun i => ∑ k ∈ Finset.range 2048, term c m ((i 0).val) ((i 1).val) k

theorem flushed_eq (t : Fin cfg0.N) (_ : (cfg0.win 2).flush t = true) :
    (dats m 0 c).flushed 2 t = ((cfg0.win 2).blk t).view.read (Elt Ideal) (G c m) := by
  obtain ⟨e0, e1⟩ := index2 t
  rw [Value.flushed2 m c t, out_eq]
  funext (y : S1024x1024.Idx)
  rw [View.read_apply]
  show (k0_pay1 (iblk m c 0 t : Vec Ideal S1024x2048 .bf16) (iblk m c 1 t : Vec Ideal S1024x2048 .bf16) y : EReal) = _
  rw [pay, sum_first]
  have g : ∀ E : S8192x4096.Idx, (E 0).val = t.val / 4 * 1024 + (y 0).val → (E 1).val = t.val % 4 * 1024 + (y 1).val →
      ∑ k ∈ Finset.range ((0 + 1) * 2048), term c m (t.val / 4 * 1024 + (y 0).val) (t.val % 4 * 1024 + (y 1).val) k = G c m E := by
    intro E v0 v1
    unfold G
    rw [v0, v1]
  refine g _ ?_ ?_
  · show win0_2.index t 0 * 1024 + 1 * (y 0).val = _
    rw [e0, Nat.one_mul]
  · show win0_2.index t 1 * 1024 + 1 * (y 1).val = _
    rw [e1, Nat.one_mul]

theorem final : (dats m 0 c).arrAt 2 cfg0.N = G c m :=
  (dats m 0 c).arrAt_eq_of_cover 2 (G c m) (flushed_eq c m) fun i => by
    have h0 : (i 0 : Nat) < 8192 := (i 0).isLt
    have h1 : (i 1 : Nat) < 4096 := (i 1).isLt
    have hN : cfg0.N = 32 := N_0
    obtain ⟨t, ht⟩ : ∃ t : Fin cfg0.N, t.val = 4 * ((i 0).val / 1024) + (i 1).val / 1024 :=
      ⟨⟨4 * ((i 0).val / 1024) + (i 1).val / 1024, by omega⟩, rfl⟩
    obtain ⟨e0, e1⟩ := index2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [e0]; omega
    | ⟨1, _⟩ => show win0_2.index t 1 * 1024 ≤ (i 1 : Nat) ∧ (i 1 : Nat) < win0_2.index t 1 * 1024 + 1024
                rw [e1]; omega

/-- The reference's product. -/
theorem ref_at (A : FVec Ideal S8192x2048 .bf16) (B : FVec Ideal S18560x2048 .bf16) (i : S8192x4096.Idx) :
    (truncf .bf16 (extractStridedSlice Cert.RefProjZIdeal.S8192x4096 ![0, 0] (Host.dotGeneral Cert.RefProjZIdeal.dot_S8192x2048_S2048x18560_S8192x18560_1_0_0_1_n_n none (extf .f32 A Cert.RefProjZIdeal.Gen.facts.bitsLt_bf16_f32) (transpose Cert.RefProjZIdeal.S2048x18560 [1, 0] (extf .f32 B Cert.RefProjZIdeal.Gen.facts.bitsLt_bf16_f32) Cert.RefProjZIdeal.Gen.facts.transposes_S18560x2048_S2048x18560_1_0)) Cert.RefProjZIdeal.Gen.facts.slices_S8192x18560_S8192x4096_0_0) Cert.RefProjZIdeal.Gen.facts.bitsLt_bf16_f32 i : EReal)
      = ∑ k ∈ Finset.range 2048, nat2 A (i 0).val k * nat2 B (0 + (i 1).val) k := by
  simp only [pointwise]
  exact (zero_add _).trans ((Finset.sum_congr rfl fun k _ =>
    show _ = nat2 A (i 0).val k.val * nat2 B (0 + (i 1).val) k.val from
    congrArg₂ (· * ·) (nat2_of A _ (Nat.zero_add _) rfl) (nat2_of B _ rfl rfl)).trans
      (sum_axis (fun k => nat2 A (i 0).val k * nat2 B (0 + (i 1).val) k) 2048))

/-! ## The claims -/

section claims

theorem frame : Cert.quiescent_ProjZ (hProjZ := Cert.ProjZ.Gen.facts) :=
  fun m ρ _ => Cert.ProjZ.Gen.frame m ρ

theorem frame_ideal : Cert.quiescent_ProjZIdeal (hProjZIdeal := Cert.ProjZIdeal.Gen.facts) :=
  fun m ρ _ => Cert.ProjZIdeal.Gen.frame m ρ

/-- The reference declares no semaphore. -/
theorem frame_ref : Cert.quiescent_RefProjZIdeal (hRefProjZIdeal := Cert.RefProjZIdeal.Gen.facts) := by
  intro m ρ _
  exact (θ_run Cert.RefProjZIdeal.defs _ _).mono
    (fun r h => ⟨fun c => (h c).2, Idealize.ShloMosaic.sem_eq_zero_of_no_sems (by decide) r.2⟩)
    (Cert.RefProjZIdeal.Value.run (F := Ideal) m ρ)

theorem preserves : Cert.preserves_ProjZ_ProjZIdeal := trivial

theorem algebraic : Cert.algebraic_ProjZIdeal_RefProjZIdeal (hProjZIdeal := Cert.ProjZIdeal.Gen.facts)
    (hRefProjZIdeal := Cert.RefProjZIdeal.Gen.facts) := by
  intro m g m' g' _ hagree
  refine ⟨fun c => G c m,
    (θ_run Cert.ProjZIdeal.defs _ _).mono (fun r h c => ⟨(h c).1.trans (final c m), (h c).2⟩) (Value.run_blocks (F := Ideal) m g),
    (θ_run Cert.RefProjZIdeal.defs _ _).mono (fun r h c => ⟨(h c).1.trans (funext fun i => ?_), (h c).2⟩)
      (Cert.RefProjZIdeal.Value.run (F := Ideal) m' g')⟩
  obtain ⟨e0, e1⟩ := hagree c
  refine (ref_at _ _ i).trans ?_
  rw [e0, e1]
  rfl

end claims

end

end Prod.ZF
-- ==== Proof.XbcF.lean ====
module

public import proofs.«01_k».proof.Proof.Prod
public import proofs.«01_k».proof.Proof.Gen.ProjXbcIdeal.Value
public import proofs.«01_k».proof.Proof.Gen.ProjXbcIdeal.Frame
public import proofs.«01_k».proof.Proof.Gen.ProjXbc.Frame
public import proofs.«01_k».proof.Proof.Gen.RefProjXbcIdeal.Run
public import proofs.«01_k».proof.Defs

/-!
# The first projection's columns from 4096 to 10239

Each point of the launch writes one block of the result, the product of a block of rows of each matrix.  The second is the
projection's matrix transposed, and its blocks begin at row 4096.
-/

@[expose] public section

set_option maxRecDepth 16384

namespace Prod.XbcF
open Idealize.ShloMosaic Idealize.ShloMosaic.TcCoe Idealize.SL.Sem Cert.ProjXbcIdeal Cert.ProjXbcIdeal.Gen

noncomputable section

variable (c : Dev nD) (x0 : Vec Ideal S1024x2048 .bf16) (x1 : Vec Ideal S1024x2048 .bf16)

theorem out_eq : out0_2 x0 x1 = k0_pay1 x0 x1 := by
  unfold out0_2
  rw [View.canon_unit_zero hz2, View.ld_unit_zero (S := S1024x2048) hz2, View.ld_unit_zero (S := S1024x2048) hz2]

theorem pay1_at (y : S1024x1024.Idx) : (k0_pay1 x0 x1 y : EReal) = ∑ k : Fin 2048, x0 (ix2 (y 0) k) * x1 (ix2 (y 1) k) := by
  unfold k0_pay1
  simp only [pointwise]
  exact zero_add _

theorem index0 : ∀ t : Fin cfg0.N, win0_0.index t (0 : Fin 2) = t.val / 6 ∧ win0_0.index t (1 : Fin 2) = 0 :=
  (by decide +kernel : ∀ t : Fin grid0.N, _)
theorem index1 : ∀ t : Fin cfg0.N, win0_1.index t (0 : Fin 2) = 4096 + t.val % 6 * 1024 ∧ win0_1.index t (1 : Fin 2) = 0 :=
  (by decide +kernel : ∀ t : Fin grid0.N, _)
theorem index2 : ∀ t : Fin cfg0.N, win0_2.index t (0 : Fin 2) = t.val / 6 ∧ win0_2.index t (1 : Fin 2) = t.val % 6 :=
  (by decide +kernel : ∀ t : Fin grid0.N, _)

variable (m : (ℓ : Loc nD τ sig) → Buf (Elt Ideal) ℓ) (ρ : Dev nD → PrngReg)

/-- The arguments. -/
def lhs : S8192x2048.Idx → EReal := m ((c : Thread nD τ).loc main_arg0)
def rhs : S18560x2048.Idx → EReal := m ((c : Thread nD τ).loc main_arg1)

theorem blk0 (t : Fin cfg0.N) (j : S1024x2048.Idx) :
    (iblk m c 0 t j : EReal) = nat2 (lhs c m) (t.val / 6 * 1024 + (j 0).val) (0 * 2048 + (j 1).val) := by
  obtain ⟨e0, e1⟩ := index0 t
  unfold iblk
  rw [View.read_apply]
  show (V m c main_arg0 _ : EReal) = _
  rw [V_main_arg0 m c]
  refine nat2_of (lhs c m) _ ?_ ?_
  · show win0_0.index t 0 * 1024 + 1 * (j 0).val = _
    rw [e0, Nat.one_mul]
  · show win0_0.index t 1 * 2048 + 1 * (j 1).val = _
    rw [e1, Nat.one_mul]

theorem blk1 (t : Fin cfg0.N) (j : S1024x2048.Idx) :
    (iblk m c 1 t j : EReal) = nat2 (rhs c m) (4096 + t.val % 6 * 1024 + (j 0).val) (0 + (j 1).val) := by
  obtain ⟨e0, e1⟩ := index1 t
  unfold iblk
  rw [View.read_apply]
  show (V m c main_arg1 _ : EReal) = _
  rw [V_main_arg1 m c]
  refine nat2_of (rhs c m) _ ?_ ?_
  · show win0_1.index t 0 + 1 * (j 0).val = _
    rw [e0, Nat.one_mul]
  · show win0_1.index t 1 + 1 * (j 1).val = _
    rw [e1, Nat.one_mul]

/-- The `k`-th product of the sum at row `r` and column `s`. -/
def term (r s k : ℕ) : EReal := nat2 (lhs c m) r k * nat2 (rhs c m) (4096 + s) k

/-- What a point's blocks contribute. -/
theorem pay (t : Fin cfg0.N) (y : S1024x1024.Idx) :
    (k0_pay1 (iblk m c 0 t : Vec Ideal S1024x2048 .bf16) (iblk m c 1 t : Vec Ideal S1024x2048 .bf16) y : EReal)
      = ∑ k : Fin 2048, term c m (t.val / 6 * 1024 + (y 0).val) (t.val % 6 * 1024 + (y 1).val) (0 * 2048 + k.val) := by
  rw [pay1_at]
  refine Finset.sum_congr rfl fun k _ => congrArg₂ (· * ·) (blk0 c m t _) (blk1 c m t _ |>.trans ?_)
  show nat2 (rhs c m) (4096 + t.val % 6 * 1024 + (y 1).val) (0 + k.val) = nat2 (rhs c m) (4096 + (t.val % 6 * 1024 + (y 1).val)) (0 * 2048 + k.val)
  rw [Nat.add_assoc, Nat.zero_mul]

/-- The product of the whole matrices. -/
def G : S8192x6144.Idx → EReal := fun i => ∑ k ∈ Finset.range 2048, term c m ((i 0).val) ((i 1).val) k

theorem flushed_eq (t : Fin cfg0.N) (_ : (cfg0.win 2).flush t = true) :
    (dats m 0 c).flushed 2 t = ((cfg0.win 2).blk t).view.read (Elt Ideal) (G c m) := by
  obtain ⟨e0, e1⟩ := index2 t
  rw [Value.flushed2 m c t, out_eq]
  funext (y : S1024x1024.Idx)
  rw [View.read_apply]
  show (k0_pay1 (iblk m c 0 t : Vec Ideal S1024x2048 .bf16) (iblk m c 1 t : Vec Ideal S1024x2048 .bf16) y : EReal) = _
  rw [pay, sum_first]
  have g : ∀ E : S8192x6144.Idx, (E 0).val = t.val / 6 * 1024 + (y 0).val → (E 1).val = t.val % 6 * 1024 + (y 1).val →
      ∑ k ∈ Finset.range ((0 + 1) * 2048), term c m (t.val / 6 * 1024 + (y 0).val) (t.val % 6 * 1024 + (y 1).val) k = G c m E := by
    intro E v0 v1
    unfold G
    rw [v0, v1]
  refine g _ ?_ ?_
  · show win0_2.index t 0 * 1024 + 1 * (y 0).val = _
    rw [e0, Nat.one_mul]
  · show win0_2.index t 1 * 1024 + 1 * (y 1).val = _
    rw [e1, Nat.one_mul]

theorem final : (dats m 0 c).arrAt 2 cfg0.N = G c m :=
  (dats m 0 c).arrAt_eq_of_cover 2 (G c m) (flushed_eq c m) fun i => by
    have h0 : (i 0 : Nat) < 8192 := (i 0).isLt
    have h1 : (i 1 : Nat) < 6144 := (i 1).isLt
    have hN : cfg0.N = 48 := N_0
    obtain ⟨t, ht⟩ : ∃ t : Fin cfg0.N, t.val = 6 * ((i 0).val / 1024) + (i 1).val / 1024 :=
      ⟨⟨6 * ((i 0).val / 1024) + (i 1).val / 1024, by omega⟩, rfl⟩
    obtain ⟨e0, e1⟩ := index2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [e0]; omega
    | ⟨1, _⟩ => show win0_2.index t 1 * 1024 ≤ (i 1 : Nat) ∧ (i 1 : Nat) < win0_2.index t 1 * 1024 + 1024
                rw [e1]; omega

/-- The reference's product. -/
theorem ref_at (A : FVec Ideal S8192x2048 .bf16) (B : FVec Ideal S18560x2048 .bf16) (i : S8192x6144.Idx) :
    (truncf .bf16 (extractStridedSlice Cert.RefProjXbcIdeal.S8192x6144 ![0, 4096] (Host.dotGeneral Cert.RefProjXbcIdeal.dot_S8192x2048_S2048x18560_S8192x18560_1_0_0_1_n_n none (extf .f32 A Cert.RefProjXbcIdeal.Gen.facts.bitsLt_bf16_f32) (transpose Cert.RefProjXbcIdeal.S2048x18560 [1, 0] (extf .f32 B Cert.RefProjXbcIdeal.Gen.facts.bitsLt_bf16_f32) Cert.RefProjXbcIdeal.Gen.facts.transposes_S18560x2048_S2048x18560_1_0)) Cert.RefProjXbcIdeal.Gen.facts.slices_S8192x18560_S8192x6144_0_4096) Cert.RefProjXbcIdeal.Gen.facts.bitsLt_bf16_f32 i : EReal)
      = ∑ k ∈ Finset.range 2048, nat2 A (i 0).val k * nat2 B (4096 + (i 1).val) k := by
  simp only [pointwise]
  exact (zero_add _).trans ((Finset.sum_congr rfl fun k _ =>
    show _ = nat2 A (i 0).val k.val * nat2 B (4096 + (i 1).val) k.val from
    congrArg₂ (· * ·) (nat2_of A _ (Nat.zero_add _) rfl) (nat2_of B _ rfl rfl)).trans
      (sum_axis (fun k => nat2 A (i 0).val k * nat2 B (4096 + (i 1).val) k) 2048))

/-! ## The claims -/

section claims

theorem frame : Cert.quiescent_ProjXbc (hProjXbc := Cert.ProjXbc.Gen.facts) :=
  fun m ρ _ => Cert.ProjXbc.Gen.frame m ρ

theorem frame_ideal : Cert.quiescent_ProjXbcIdeal (hProjXbcIdeal := Cert.ProjXbcIdeal.Gen.facts) :=
  fun m ρ _ => Cert.ProjXbcIdeal.Gen.frame m ρ

/-- The reference declares no semaphore. -/
theorem frame_ref : Cert.quiescent_RefProjXbcIdeal (hRefProjXbcIdeal := Cert.RefProjXbcIdeal.Gen.facts) := by
  intro m ρ _
  exact (θ_run Cert.RefProjXbcIdeal.defs _ _).mono
    (fun r h => ⟨fun c => (h c).2, Idealize.ShloMosaic.sem_eq_zero_of_no_sems (by decide) r.2⟩)
    (Cert.RefProjXbcIdeal.Value.run (F := Ideal) m ρ)

theorem preserves : Cert.preserves_ProjXbc_ProjXbcIdeal := trivial

theorem algebraic : Cert.algebraic_ProjXbcIdeal_RefProjXbcIdeal (hProjXbcIdeal := Cert.ProjXbcIdeal.Gen.facts)
    (hRefProjXbcIdeal := Cert.RefProjXbcIdeal.Gen.facts) := by
  intro m g m' g' _ hagree
  refine ⟨fun c => G c m,
    (θ_run Cert.ProjXbcIdeal.defs _ _).mono (fun r h c => ⟨(h c).1.trans (final c m), (h c).2⟩) (Value.run_blocks (F := Ideal) m g),
    (θ_run Cert.RefProjXbcIdeal.defs _ _).mono (fun r h c => ⟨(h c).1.trans (funext fun i => ?_), (h c).2⟩)
      (Cert.RefProjXbcIdeal.Value.run (F := Ideal) m' g')⟩
  obtain ⟨e0, e1⟩ := hagree c
  refine (ref_at _ _ i).trans ?_
  rw [e0, e1]
  rfl

end claims

end

end Prod.XbcF
-- ==== Proof.GluF.lean ====
module

public import proofs.«01_k».proof.Proof.Prod
public import proofs.«01_k».proof.Proof.Gen.ProjGluIdeal.Value
public import proofs.«01_k».proof.Proof.Gen.ProjGluIdeal.Frame
public import proofs.«01_k».proof.Proof.Gen.ProjGlu.Frame
public import proofs.«01_k».proof.Proof.Gen.RefProjGluIdeal.Run
public import proofs.«01_k».proof.Defs

/-!
# The first projection's columns from 10368 to 14463

Each point of the launch writes one block of the result, the product of a block of rows of each matrix.  The second is the
projection's matrix transposed, and its blocks begin at row 10368.
-/

@[expose] public section

set_option maxRecDepth 16384

namespace Prod.GluF
open Idealize.ShloMosaic Idealize.ShloMosaic.TcCoe Idealize.SL.Sem Cert.ProjGluIdeal Cert.ProjGluIdeal.Gen

noncomputable section

variable (c : Dev nD) (x0 : Vec Ideal S1024x2048 .bf16) (x1 : Vec Ideal S1024x2048 .bf16)

theorem out_eq : out0_2 x0 x1 = k0_pay1 x0 x1 := by
  unfold out0_2
  rw [View.canon_unit_zero hz2, View.ld_unit_zero (S := S1024x2048) hz2, View.ld_unit_zero (S := S1024x2048) hz2]

theorem pay1_at (y : S1024x1024.Idx) : (k0_pay1 x0 x1 y : EReal) = ∑ k : Fin 2048, x0 (ix2 (y 0) k) * x1 (ix2 (y 1) k) := by
  unfold k0_pay1
  simp only [pointwise]
  exact zero_add _

theorem index0 : ∀ t : Fin cfg0.N, win0_0.index t (0 : Fin 2) = t.val / 4 ∧ win0_0.index t (1 : Fin 2) = 0 :=
  (by decide +kernel : ∀ t : Fin grid0.N, _)
theorem index1 : ∀ t : Fin cfg0.N, win0_1.index t (0 : Fin 2) = 10368 + t.val % 4 * 1024 ∧ win0_1.index t (1 : Fin 2) = 0 :=
  (by decide +kernel : ∀ t : Fin grid0.N, _)
theorem index2 : ∀ t : Fin cfg0.N, win0_2.index t (0 : Fin 2) = t.val / 4 ∧ win0_2.index t (1 : Fin 2) = t.val % 4 :=
  (by decide +kernel : ∀ t : Fin grid0.N, _)

variable (m : (ℓ : Loc nD τ sig) → Buf (Elt Ideal) ℓ) (ρ : Dev nD → PrngReg)

/-- The arguments. -/
def lhs : S8192x2048.Idx → EReal := m ((c : Thread nD τ).loc main_arg0)
def rhs : S18560x2048.Idx → EReal := m ((c : Thread nD τ).loc main_arg1)

theorem blk0 (t : Fin cfg0.N) (j : S1024x2048.Idx) :
    (iblk m c 0 t j : EReal) = nat2 (lhs c m) (t.val / 4 * 1024 + (j 0).val) (0 * 2048 + (j 1).val) := by
  obtain ⟨e0, e1⟩ := index0 t
  unfold iblk
  rw [View.read_apply]
  show (V m c main_arg0 _ : EReal) = _
  rw [V_main_arg0 m c]
  refine nat2_of (lhs c m) _ ?_ ?_
  · show win0_0.index t 0 * 1024 + 1 * (j 0).val = _
    rw [e0, Nat.one_mul]
  · show win0_0.index t 1 * 2048 + 1 * (j 1).val = _
    rw [e1, Nat.one_mul]

theorem blk1 (t : Fin cfg0.N) (j : S1024x2048.Idx) :
    (iblk m c 1 t j : EReal) = nat2 (rhs c m) (10368 + t.val % 4 * 1024 + (j 0).val) (0 + (j 1).val) := by
  obtain ⟨e0, e1⟩ := index1 t
  unfold iblk
  rw [View.read_apply]
  show (V m c main_arg1 _ : EReal) = _
  rw [V_main_arg1 m c]
  refine nat2_of (rhs c m) _ ?_ ?_
  · show win0_1.index t 0 + 1 * (j 0).val = _
    rw [e0, Nat.one_mul]
  · show win0_1.index t 1 + 1 * (j 1).val = _
    rw [e1, Nat.one_mul]

/-- The `k`-th product of the sum at row `r` and column `s`. -/
def term (r s k : ℕ) : EReal := nat2 (lhs c m) r k * nat2 (rhs c m) (10368 + s) k

/-- What a point's blocks contribute. -/
theorem pay (t : Fin cfg0.N) (y : S1024x1024.Idx) :
    (k0_pay1 (iblk m c 0 t : Vec Ideal S1024x2048 .bf16) (iblk m c 1 t : Vec Ideal S1024x2048 .bf16) y : EReal)
      = ∑ k : Fin 2048, term c m (t.val / 4 * 1024 + (y 0).val) (t.val % 4 * 1024 + (y 1).val) (0 * 2048 + k.val) := by
  rw [pay1_at]
  refine Finset.sum_congr rfl fun k _ => congrArg₂ (· * ·) (blk0 c m t _) (blk1 c m t _ |>.trans ?_)
  show nat2 (rhs c m) (10368 + t.val % 4 * 1024 + (y 1).val) (0 + k.val) = nat2 (rhs c m) (10368 + (t.val % 4 * 1024 + (y 1).val)) (0 * 2048 + k.val)
  rw [Nat.add_assoc, Nat.zero_mul]

/-- The product of the whole matrices. -/
def G : S8192x4096.Idx → EReal := fun i => ∑ k ∈ Finset.range 2048, term c m ((i 0).val) ((i 1).val) k

theorem flushed_eq (t : Fin cfg0.N) (_ : (cfg0.win 2).flush t = true) :
    (dats m 0 c).flushed 2 t = ((cfg0.win 2).blk t).view.read (Elt Ideal) (G c m) := by
  obtain ⟨e0, e1⟩ := index2 t
  rw [Value.flushed2 m c t, out_eq]
  funext (y : S1024x1024.Idx)
  rw [View.read_apply]
  show (k0_pay1 (iblk m c 0 t : Vec Ideal S1024x2048 .bf16) (iblk m c 1 t : Vec Ideal S1024x2048 .bf16) y : EReal) = _
  rw [pay, sum_first]
  have g : ∀ E : S8192x4096.Idx, (E 0).val = t.val / 4 * 1024 + (y 0).val → (E 1).val = t.val % 4 * 1024 + (y 1).val →
      ∑ k ∈ Finset.range ((0 + 1) * 2048), term c m (t.val / 4 * 1024 + (y 0).val) (t.val % 4 * 1024 + (y 1).val) k = G c m E := by
    intro E v0 v1
    unfold G
    rw [v0, v1]
  refine g _ ?_ ?_
  · show win0_2.index t 0 * 1024 + 1 * (y 0).val = _
    rw [e0, Nat.one_mul]
  · show win0_2.index t 1 * 1024 + 1 * (y 1).val = _
    rw [e1, Nat.one_mul]

theorem final : (dats m 0 c).arrAt 2 cfg0.N = G c m :=
  (dats m 0 c).arrAt_eq_of_cover 2 (G c m) (flushed_eq c m) fun i => by
    have h0 : (i 0 : Nat) < 8192 := (i 0).isLt
    have h1 : (i 1 : Nat) < 4096 := (i 1).isLt
    have hN : cfg0.N = 32 := N_0
    obtain ⟨t, ht⟩ : ∃ t : Fin cfg0.N, t.val = 4 * ((i 0).val / 1024) + (i 1).val / 1024 :=
      ⟨⟨4 * ((i 0).val / 1024) + (i 1).val / 1024, by omega⟩, rfl⟩
    obtain ⟨e0, e1⟩ := index2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [e0]; omega
    | ⟨1, _⟩ => show win0_2.index t 1 * 1024 ≤ (i 1 : Nat) ∧ (i 1 : Nat) < win0_2.index t 1 * 1024 + 1024
                rw [e1]; omega

/-- The reference's product. -/
theorem ref_at (A : FVec Ideal S8192x2048 .bf16) (B : FVec Ideal S18560x2048 .bf16) (i : S8192x4096.Idx) :
    (truncf .bf16 (extractStridedSlice Cert.RefProjGluIdeal.S8192x4096 ![0, 10368] (Host.dotGeneral Cert.RefProjGluIdeal.dot_S8192x2048_S2048x18560_S8192x18560_1_0_0_1_n_n none (extf .f32 A Cert.RefProjGluIdeal.Gen.facts.bitsLt_bf16_f32) (transpose Cert.RefProjGluIdeal.S2048x18560 [1, 0] (extf .f32 B Cert.RefProjGluIdeal.Gen.facts.bitsLt_bf16_f32) Cert.RefProjGluIdeal.Gen.facts.transposes_S18560x2048_S2048x18560_1_0)) Cert.RefProjGluIdeal.Gen.facts.slices_S8192x18560_S8192x4096_0_10368) Cert.RefProjGluIdeal.Gen.facts.bitsLt_bf16_f32 i : EReal)
      = ∑ k ∈ Finset.range 2048, nat2 A (i 0).val k * nat2 B (10368 + (i 1).val) k := by
  simp only [pointwise]
  exact (zero_add _).trans ((Finset.sum_congr rfl fun k _ =>
    show _ = nat2 A (i 0).val k.val * nat2 B (10368 + (i 1).val) k.val from
    congrArg₂ (· * ·) (nat2_of A _ (Nat.zero_add _) rfl) (nat2_of B _ rfl rfl)).trans
      (sum_axis (fun k => nat2 A (i 0).val k * nat2 B (10368 + (i 1).val) k) 2048))

/-! ## The claims -/

section claims

theorem frame : Cert.quiescent_ProjGlu (hProjGlu := Cert.ProjGlu.Gen.facts) :=
  fun m ρ _ => Cert.ProjGlu.Gen.frame m ρ

theorem frame_ideal : Cert.quiescent_ProjGluIdeal (hProjGluIdeal := Cert.ProjGluIdeal.Gen.facts) :=
  fun m ρ _ => Cert.ProjGluIdeal.Gen.frame m ρ

/-- The reference declares no semaphore. -/
theorem frame_ref : Cert.quiescent_RefProjGluIdeal (hRefProjGluIdeal := Cert.RefProjGluIdeal.Gen.facts) := by
  intro m ρ _
  exact (θ_run Cert.RefProjGluIdeal.defs _ _).mono
    (fun r h => ⟨fun c => (h c).2, Idealize.ShloMosaic.sem_eq_zero_of_no_sems (by decide) r.2⟩)
    (Cert.RefProjGluIdeal.Value.run (F := Ideal) m ρ)

theorem preserves : Cert.preserves_ProjGlu_ProjGluIdeal := trivial

theorem algebraic : Cert.algebraic_ProjGluIdeal_RefProjGluIdeal (hProjGluIdeal := Cert.ProjGluIdeal.Gen.facts)
    (hRefProjGluIdeal := Cert.RefProjGluIdeal.Gen.facts) := by
  intro m g m' g' _ hagree
  refine ⟨fun c => G c m,
    (θ_run Cert.ProjGluIdeal.defs _ _).mono (fun r h c => ⟨(h c).1.trans (final c m), (h c).2⟩) (Value.run_blocks (F := Ideal) m g),
    (θ_run Cert.RefProjGluIdeal.defs _ _).mono (fun r h c => ⟨(h c).1.trans (funext fun i => ?_), (h c).2⟩)
      (Cert.RefProjGluIdeal.Value.run (F := Ideal) m' g')⟩
  obtain ⟨e0, e1⟩ := hagree c
  refine (ref_at _ _ i).trans ?_
  rw [e0, e1]
  rfl

end claims

end

end Prod.GluF
-- ==== Proof.GateF.lean ====
module

public import proofs.«01_k».proof.Proof.Prod
public import proofs.«01_k».proof.Proof.Gen.ProjGateIdeal.Value
public import proofs.«01_k».proof.Proof.Gen.ProjGateIdeal.Frame
public import proofs.«01_k».proof.Proof.Gen.ProjGate.Frame
public import proofs.«01_k».proof.Proof.Gen.RefProjGateIdeal.Run
public import proofs.«01_k».proof.Defs

/-!
# The first projection's columns from 14464 to 18559

Each point of the launch writes one block of the result, the product of a block of rows of each matrix.  The second is the
projection's matrix transposed, and its blocks begin at row 14464.
-/

@[expose] public section

set_option maxRecDepth 16384

namespace Prod.GateF
open Idealize.ShloMosaic Idealize.ShloMosaic.TcCoe Idealize.SL.Sem Cert.ProjGateIdeal Cert.ProjGateIdeal.Gen

noncomputable section

variable (c : Dev nD) (x0 : Vec Ideal S1024x2048 .bf16) (x1 : Vec Ideal S1024x2048 .bf16)

theorem out_eq : out0_2 x0 x1 = k0_pay1 x0 x1 := by
  unfold out0_2
  rw [View.canon_unit_zero hz2, View.ld_unit_zero (S := S1024x2048) hz2, View.ld_unit_zero (S := S1024x2048) hz2]

theorem pay1_at (y : S1024x1024.Idx) : (k0_pay1 x0 x1 y : EReal) = ∑ k : Fin 2048, x0 (ix2 (y 0) k) * x1 (ix2 (y 1) k) := by
  unfold k0_pay1
  simp only [pointwise]
  exact zero_add _

theorem index0 : ∀ t : Fin cfg0.N, win0_0.index t (0 : Fin 2) = t.val / 4 ∧ win0_0.index t (1 : Fin 2) = 0 :=
  (by decide +kernel : ∀ t : Fin grid0.N, _)
theorem index1 : ∀ t : Fin cfg0.N, win0_1.index t (0 : Fin 2) = 14464 + t.val % 4 * 1024 ∧ win0_1.index t (1 : Fin 2) = 0 :=
  (by decide +kernel : ∀ t : Fin grid0.N, _)
theorem index2 : ∀ t : Fin cfg0.N, win0_2.index t (0 : Fin 2) = t.val / 4 ∧ win0_2.index t (1 : Fin 2) = t.val % 4 :=
  (by decide +kernel : ∀ t : Fin grid0.N, _)

variable (m : (ℓ : Loc nD τ sig) → Buf (Elt Ideal) ℓ) (ρ : Dev nD → PrngReg)

/-- The arguments. -/
def lhs : S8192x2048.Idx → EReal := m ((c : Thread nD τ).loc main_arg0)
def rhs : S18560x2048.Idx → EReal := m ((c : Thread nD τ).loc main_arg1)

theorem blk0 (t : Fin cfg0.N) (j : S1024x2048.Idx) :
    (iblk m c 0 t j : EReal) = nat2 (lhs c m) (t.val / 4 * 1024 + (j 0).val) (0 * 2048 + (j 1).val) := by
  obtain ⟨e0, e1⟩ := index0 t
  unfold iblk
  rw [View.read_apply]
  show (V m c main_arg0 _ : EReal) = _
  rw [V_main_arg0 m c]
  refine nat2_of (lhs c m) _ ?_ ?_
  · show win0_0.index t 0 * 1024 + 1 * (j 0).val = _
    rw [e0, Nat.one_mul]
  · show win0_0.index t 1 * 2048 + 1 * (j 1).val = _
    rw [e1, Nat.one_mul]

theorem blk1 (t : Fin cfg0.N) (j : S1024x2048.Idx) :
    (iblk m c 1 t j : EReal) = nat2 (rhs c m) (14464 + t.val % 4 * 1024 + (j 0).val) (0 + (j 1).val) := by
  obtain ⟨e0, e1⟩ := index1 t
  unfold iblk
  rw [View.read_apply]
  show (V m c main_arg1 _ : EReal) = _
  rw [V_main_arg1 m c]
  refine nat2_of (rhs c m) _ ?_ ?_
  · show win0_1.index t 0 + 1 * (j 0).val = _
    rw [e0, Nat.one_mul]
  · show win0_1.index t 1 + 1 * (j 1).val = _
    rw [e1, Nat.one_mul]

/-- The `k`-th product of the sum at row `r` and column `s`. -/
def term (r s k : ℕ) : EReal := nat2 (lhs c m) r k * nat2 (rhs c m) (14464 + s) k

/-- What a point's blocks contribute. -/
theorem pay (t : Fin cfg0.N) (y : S1024x1024.Idx) :
    (k0_pay1 (iblk m c 0 t : Vec Ideal S1024x2048 .bf16) (iblk m c 1 t : Vec Ideal S1024x2048 .bf16) y : EReal)
      = ∑ k : Fin 2048, term c m (t.val / 4 * 1024 + (y 0).val) (t.val % 4 * 1024 + (y 1).val) (0 * 2048 + k.val) := by
  rw [pay1_at]
  refine Finset.sum_congr rfl fun k _ => congrArg₂ (· * ·) (blk0 c m t _) (blk1 c m t _ |>.trans ?_)
  show nat2 (rhs c m) (14464 + t.val % 4 * 1024 + (y 1).val) (0 + k.val) = nat2 (rhs c m) (14464 + (t.val % 4 * 1024 + (y 1).val)) (0 * 2048 + k.val)
  rw [Nat.add_assoc, Nat.zero_mul]

/-- The product of the whole matrices. -/
def G : S8192x4096.Idx → EReal := fun i => ∑ k ∈ Finset.range 2048, term c m ((i 0).val) ((i 1).val) k

theorem flushed_eq (t : Fin cfg0.N) (_ : (cfg0.win 2).flush t = true) :
    (dats m 0 c).flushed 2 t = ((cfg0.win 2).blk t).view.read (Elt Ideal) (G c m) := by
  obtain ⟨e0, e1⟩ := index2 t
  rw [Value.flushed2 m c t, out_eq]
  funext (y : S1024x1024.Idx)
  rw [View.read_apply]
  show (k0_pay1 (iblk m c 0 t : Vec Ideal S1024x2048 .bf16) (iblk m c 1 t : Vec Ideal S1024x2048 .bf16) y : EReal) = _
  rw [pay, sum_first]
  have g : ∀ E : S8192x4096.Idx, (E 0).val = t.val / 4 * 1024 + (y 0).val → (E 1).val = t.val % 4 * 1024 + (y 1).val →
      ∑ k ∈ Finset.range ((0 + 1) * 2048), term c m (t.val / 4 * 1024 + (y 0).val) (t.val % 4 * 1024 + (y 1).val) k = G c m E := by
    intro E v0 v1
    unfold G
    rw [v0, v1]
  refine g _ ?_ ?_
  · show win0_2.index t 0 * 1024 + 1 * (y 0).val = _
    rw [e0, Nat.one_mul]
  · show win0_2.index t 1 * 1024 + 1 * (y 1).val = _
    rw [e1, Nat.one_mul]

theorem final : (dats m 0 c).arrAt 2 cfg0.N = G c m :=
  (dats m 0 c).arrAt_eq_of_cover 2 (G c m) (flushed_eq c m) fun i => by
    have h0 : (i 0 : Nat) < 8192 := (i 0).isLt
    have h1 : (i 1 : Nat) < 4096 := (i 1).isLt
    have hN : cfg0.N = 32 := N_0
    obtain ⟨t, ht⟩ : ∃ t : Fin cfg0.N, t.val = 4 * ((i 0).val / 1024) + (i 1).val / 1024 :=
      ⟨⟨4 * ((i 0).val / 1024) + (i 1).val / 1024, by omega⟩, rfl⟩
    obtain ⟨e0, e1⟩ := index2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [e0]; omega
    | ⟨1, _⟩ => show win0_2.index t 1 * 1024 ≤ (i 1 : Nat) ∧ (i 1 : Nat) < win0_2.index t 1 * 1024 + 1024
                rw [e1]; omega

/-- The reference's product. -/
theorem ref_at (A : FVec Ideal S8192x2048 .bf16) (B : FVec Ideal S18560x2048 .bf16) (i : S8192x4096.Idx) :
    (truncf .bf16 (extractStridedSlice Cert.RefProjGateIdeal.S8192x4096 ![0, 14464] (Host.dotGeneral Cert.RefProjGateIdeal.dot_S8192x2048_S2048x18560_S8192x18560_1_0_0_1_n_n none (extf .f32 A Cert.RefProjGateIdeal.Gen.facts.bitsLt_bf16_f32) (transpose Cert.RefProjGateIdeal.S2048x18560 [1, 0] (extf .f32 B Cert.RefProjGateIdeal.Gen.facts.bitsLt_bf16_f32) Cert.RefProjGateIdeal.Gen.facts.transposes_S18560x2048_S2048x18560_1_0)) Cert.RefProjGateIdeal.Gen.facts.slices_S8192x18560_S8192x4096_0_14464) Cert.RefProjGateIdeal.Gen.facts.bitsLt_bf16_f32 i : EReal)
      = ∑ k ∈ Finset.range 2048, nat2 A (i 0).val k * nat2 B (14464 + (i 1).val) k := by
  simp only [pointwise]
  exact (zero_add _).trans ((Finset.sum_congr rfl fun k _ =>
    show _ = nat2 A (i 0).val k.val * nat2 B (14464 + (i 1).val) k.val from
    congrArg₂ (· * ·) (nat2_of A _ (Nat.zero_add _) rfl) (nat2_of B _ rfl rfl)).trans
      (sum_axis (fun k => nat2 A (i 0).val k * nat2 B (14464 + (i 1).val) k) 2048))

/-! ## The claims -/

section claims

theorem frame : Cert.quiescent_ProjGate (hProjGate := Cert.ProjGate.Gen.facts) :=
  fun m ρ _ => Cert.ProjGate.Gen.frame m ρ

theorem frame_ideal : Cert.quiescent_ProjGateIdeal (hProjGateIdeal := Cert.ProjGateIdeal.Gen.facts) :=
  fun m ρ _ => Cert.ProjGateIdeal.Gen.frame m ρ

/-- The reference declares no semaphore. -/
theorem frame_ref : Cert.quiescent_RefProjGateIdeal (hRefProjGateIdeal := Cert.RefProjGateIdeal.Gen.facts) := by
  intro m ρ _
  exact (θ_run Cert.RefProjGateIdeal.defs _ _).mono
    (fun r h => ⟨fun c => (h c).2, Idealize.ShloMosaic.sem_eq_zero_of_no_sems (by decide) r.2⟩)
    (Cert.RefProjGateIdeal.Value.run (F := Ideal) m ρ)

theorem preserves : Cert.preserves_ProjGate_ProjGateIdeal := trivial

theorem algebraic : Cert.algebraic_ProjGateIdeal_RefProjGateIdeal (hProjGateIdeal := Cert.ProjGateIdeal.Gen.facts)
    (hRefProjGateIdeal := Cert.RefProjGateIdeal.Gen.facts) := by
  intro m g m' g' _ hagree
  refine ⟨fun c => G c m,
    (θ_run Cert.ProjGateIdeal.defs _ _).mono (fun r h c => ⟨(h c).1.trans (final c m), (h c).2⟩) (Value.run_blocks (F := Ideal) m g),
    (θ_run Cert.RefProjGateIdeal.defs _ _).mono (fun r h c => ⟨(h c).1.trans (funext fun i => ?_), (h c).2⟩)
      (Cert.RefProjGateIdeal.Value.run (F := Ideal) m' g')⟩
  obtain ⟨e0, e1⟩ := hagree c
  refine (ref_at _ _ i).trans ?_
  rw [e0, e1]
  rfl

end claims

end

end Prod.GateF
-- ==== Proof.WSsm.lean ====
module

public import proofs.«01_k».proof.Proof.Prod
public import proofs.«01_k».proof.Proof.Gen.GradWSsmOutIdeal.Value
public import proofs.«01_k».proof.Proof.Gen.GradWSsmOutIdeal.Frame
public import proofs.«01_k».proof.Proof.Gen.GradWSsmOut.Frame
public import proofs.«01_k».proof.Proof.Gen.RefGradWSsmOutIdeal.Run
public import proofs.«01_k».proof.Defs

/-!
# The gradient of `w_ssm_out`: `ynᵀ · dy`

The launch adds, for each block of the result, four products of blocks in a scratch array, and writes the block after
the fourth.
-/

@[expose] public section

set_option maxRecDepth 16384

namespace Prod.WSsm
open Idealize.ShloMosaic Idealize.ShloMosaic.TcCoe Idealize.SL.Sem Cert.GradWSsmOutIdeal Cert.GradWSsmOutIdeal.Gen

noncomputable section

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x0 : Vec Ideal S2048x1024 .bf16) (x1 : Vec Ideal S2048x1024 .bf16) (xs : Vec Ideal S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x1024) hz2, shapeCast_self]

theorem sout_B (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz2]
  unfold k0_pay3
  simp only [View.readAt_eq_ld, h3.read_unread, h4.read_unread, h6.read_unread, View.ld_unit_zero (S := S2048x1024) hz2, View.ld_unit_zero (S := S1024x1024) hz2, shapeCast_self]

theorem out_C (hc0 : ¬cond0_0 i) (hc1 : cond0_1 i) (hc2 : cond0_2 i) :
    out0_C_2 c i a3 h3 a4 h4 a5 h5 a6 h6 hc0 hc1 hc2 x0 x1 xs = k0_pay4 (addf xs (k0_pay1 x0 x1)) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz2, View.readCov_unit_zero (S := S1024x1024) _ hz2]
  unfold k0_pay3
  simp only [View.readAt_eq_ld, h3.read_unread, h4.read_unread, h6.read_unread, View.ld_unit_zero (S := S2048x1024) hz2, View.ld_unit_zero (S := S1024x1024) hz2, shapeCast_self]

theorem pay1_at (y : S1024x1024.Idx) : (k0_pay1 x0 x1 y : EReal) = ∑ k : Fin 2048, x0 (ix2 k (y 0)) * x1 (ix2 k (y 1)) := by
  unfold k0_pay1
  simp only [pointwise]
  exact zero_add _

theorem index0 : ∀ t : Fin cfg0.N, win0_0.index t (0 : Fin 2) = t.val % 4 ∧ win0_0.index t (1 : Fin 2) = t.val / 8 :=
  (by decide +kernel : ∀ t : Fin grid0.N, _)
theorem index1 : ∀ t : Fin cfg0.N, win0_1.index t (0 : Fin 2) = t.val % 4 ∧ win0_1.index t (1 : Fin 2) = t.val / 4 % 2 :=
  (by decide +kernel : ∀ t : Fin grid0.N, _)
theorem index2 : ∀ t : Fin cfg0.N, win0_2.index t (0 : Fin 2) = t.val / 8 ∧ win0_2.index t (1 : Fin 2) = t.val / 4 % 2 :=
  (by decide +kernel : ∀ t : Fin grid0.N, _)

variable (m : (ℓ : Loc nD τ sig) → Buf (Elt Ideal) ℓ) (ρ : Dev nD → PrngReg)

/-- The arguments. -/
def lhs : S8192x4096.Idx → EReal := m ((c : Thread nD τ).loc main_arg0)
def rhs : S8192x2048.Idx → EReal := m ((c : Thread nD τ).loc main_arg1)

theorem blk0 (t : Fin cfg0.N) (j : S2048x1024.Idx) :
    (iblk m c 0 t j : EReal) = nat2 (lhs c m) (t.val % 4 * 2048 + (j 0).val) (t.val / 8 * 1024 + (j 1).val) := by
  obtain ⟨e0, e1⟩ := index0 t
  unfold iblk
  rw [View.read_apply]
  show (V m c main_arg0 _ : EReal) = _
  rw [V_main_arg0 m c]
  refine nat2_of (lhs c m) _ ?_ ?_
  · show win0_0.index t 0 * 2048 + 1 * (j 0).val = _
    rw [e0, Nat.one_mul]
  · show win0_0.index t 1 * 1024 + 1 * (j 1).val = _
    rw [e1, Nat.one_mul]

theorem blk1 (t : Fin cfg0.N) (j : S2048x1024.Idx) :
    (iblk m c 1 t j : EReal) = nat2 (rhs c m) (t.val % 4 * 2048 + (j 0).val) (t.val / 4 % 2 * 1024 + (j 1).val) := by
  obtain ⟨e0, e1⟩ := index1 t
  unfold iblk
  rw [View.read_apply]
  show (V m c main_arg1 _ : EReal) = _
  rw [V_main_arg1 m c]
  refine nat2_of (rhs c m) _ ?_ ?_
  · show win0_1.index t 0 * 2048 + 1 * (j 0).val = _
    rw [e0, Nat.one_mul]
  · show win0_1.index t 1 * 1024 + 1 * (j 1).val = _
    rw [e1, Nat.one_mul]

/-- The `k`-th product of the sum at row `r` and column `s`. -/
def term (r s k : ℕ) : EReal := nat2 (lhs c m) k r * nat2 (rhs c m) k s

/-- What a point's blocks contribute. -/
theorem pay (t : Fin cfg0.N) (y : S1024x1024.Idx) :
    (k0_pay1 (iblk m c 0 t : Vec Ideal S2048x1024 .bf16) (iblk m c 1 t : Vec Ideal S2048x1024 .bf16) y : EReal)
      = ∑ k : Fin 2048, term c m (t.val / 8 * 1024 + (y 0).val) (t.val / 4 % 2 * 1024 + (y 1).val) (t.val % 4 * 2048 + k.val) := by
  rw [pay1_at]
  refine Finset.sum_congr rfl fun k _ => congrArg₂ (· * ·) (blk0 c m t _) (blk1 c m t _)

/-- The scratch array after the first points of a block. -/
theorem scratch : ∀ (s q : ℕ) (hs : s < 3) (h : 4 * q + s < cfg0.N) (y : S1024x1024.Idx),
    ((outsAt0 m c (4 * q + s) h).2 y : EReal)
      = ∑ k ∈ Finset.range ((s + 1) * 2048), term c m (q / 2 * 1024 + (y 0).val) (q % 2 * 1024 + (y 1).val) k
  | 0, q, hs, h, y => by
    have e := outsAt0_A m c ⟨4 * q + 0, h⟩ (by show (4 * q + 0) % 4 = 0; omega) (by show ¬1 ≤ (4 * q + 0) % 4; omega) (by show ¬(4 * q + 0) % 4 = 3; omega)
    rw [show outsAt0 m c (4 * q + 0) h = _ from e]
    dsimp only
    rw [sout_A, pay, ← sum_first]
    simp only [show (4 * q + 0) / 8 = q / 2 from by omega, show (4 * q + 0) / 4 % 2 = q % 2 from by omega,
      show (4 * q + 0) % 4 = 0 from by omega]
  | s + 1, q, hs, h, y => by
    have e := outsAt0_B m c ⟨4 * q + (s + 1), h⟩ (by show ¬(4 * q + (s + 1)) % 4 = 0; omega)
      (by show 1 ≤ (4 * q + (s + 1)) % 4; omega) (by show ¬(4 * q + (s + 1)) % 4 = 3; omega)
    rw [show outsAt0 m c (4 * q + (s + 1)) h = _ from e]
    dsimp only
    rw [sout_B, addf_at, pay, ← sum_block]
    refine congrArg₂ (· + ·) (scratch s q (by omega) (by omega) y) ?_
    simp only [show (4 * q + (s + 1)) / 8 = q / 2 from by omega, show (4 * q + (s + 1)) / 4 % 2 = q % 2 from by omega,
      show (4 * q + (s + 1)) % 4 = s + 1 from by omega]

/-- The product of the whole matrices. -/
def G : S4096x2048.Idx → EReal := fun i => ∑ k ∈ Finset.range 8192, term c m ((i 0).val) ((i 1).val) k

theorem flushed_eq (t : Fin cfg0.N) (hf : (cfg0.win 2).flush t = true) :
    (dats m 0 c).flushed 2 t = ((cfg0.win 2).blk t).view.read (Elt Ideal) (G c m) := by
  have hm : t.val % 4 = 3 := (flush0_2 t).mp hf
  obtain ⟨e0, e1⟩ := index2 t
  rw [Value.flushed2_C m c t (by omega) (by omega) hm, out_C]
  funext (y : S1024x1024.Idx)
  rw [View.read_apply]
  show (k0_pay4 (addf (outsAt0 m c (t.val - 1) _).2 (k0_pay1 (iblk m c 0 t : Vec Ideal S2048x1024 .bf16) (iblk m c 1 t : Vec Ideal S2048x1024 .bf16))) y : EReal) = _
  unfold k0_pay4
  dsimp only
  rw [truncf_at, addf_at, pay]
  have key : ∀ (n : ℕ) (h : n < cfg0.N), n = 4 * (t.val / 4) + 2 → ((outsAt0 m c n h).2 y : EReal)
      = ∑ k ∈ Finset.range (3 * 2048), term c m (t.val / 8 * 1024 + (y 0).val) (t.val / 4 % 2 * 1024 + (y 1).val) k := by
    intro n h e
    subst e
    rw [scratch c m 2 (t.val / 4) (by omega) h y, show t.val / 4 / 2 = t.val / 8 from by omega]
  rw [key _ _ (by omega), hm, sum_block]
  have g : ∀ E : S4096x2048.Idx, (E 0).val = t.val / 8 * 1024 + (y 0).val → (E 1).val = t.val / 4 % 2 * 1024 + (y 1).val →
      ∑ k ∈ Finset.range ((3 + 1) * 2048), term c m (t.val / 8 * 1024 + (y 0).val) (t.val / 4 % 2 * 1024 + (y 1).val) k = G c m E := by
    intro E v0 v1
    unfold G
    rw [v0, v1]
  refine g _ ?_ ?_
  · show win0_2.index t 0 * 1024 + 1 * (y 0).val = _
    rw [e0, Nat.one_mul]
  · show win0_2.index t 1 * 1024 + 1 * (y 1).val = _
    rw [e1, Nat.one_mul]

theorem final : (dats m 0 c).arrAt 2 cfg0.N = G c m :=
  (dats m 0 c).arrAt_eq_of_cover 2 (G c m) (flushed_eq c m) fun i => by
    have h0 : (i 0 : Nat) < 4096 := (i 0).isLt
    have h1 : (i 1 : Nat) < 2048 := (i 1).isLt
    have hN : cfg0.N = 32 := N_0
    obtain ⟨t, ht⟩ : ∃ t : Fin cfg0.N, t.val = 8 * ((i 0).val / 1024) + 4 * ((i 1).val / 1024) + 3 :=
      ⟨⟨8 * ((i 0).val / 1024) + 4 * ((i 1).val / 1024) + 3, by omega⟩, rfl⟩
    obtain ⟨e0, e1⟩ := index2 t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [e0]; omega
    | ⟨1, _⟩ => show win0_2.index t 1 * 1024 ≤ (i 1 : Nat) ∧ (i 1 : Nat) < win0_2.index t 1 * 1024 + 1024
                rw [e1]; omega

/-- The reference's product. -/
theorem ref_at (A : FVec Ideal S8192x4096 .bf16) (B : FVec Ideal S8192x2048 .bf16) (i : S4096x2048.Idx) :
    (truncf .bf16 (transpose Cert.RefGradWSsmOutIdeal.S4096x2048 [1, 0] (Host.dotGeneral Cert.RefGradWSsmOutIdeal.dot_S8192x2048_S8192x4096_S2048x4096_0_0_1_1_n_n none (extf .f32 B Cert.RefGradWSsmOutIdeal.Gen.facts.bitsLt_bf16_f32) (extf .f32 A Cert.RefGradWSsmOutIdeal.Gen.facts.bitsLt_bf16_f32)) Cert.RefGradWSsmOutIdeal.Gen.facts.transposes_S2048x4096_S4096x2048_1_0) Cert.RefGradWSsmOutIdeal.Gen.facts.bitsLt_bf16_f32 i : EReal)
      = ∑ k ∈ Finset.range 8192, nat2 A k (i 0).val * nat2 B k (i 1).val := by
  simp only [pointwise]
  exact (zero_add _).trans ((Finset.sum_congr rfl fun k _ => (mul_comm _ _).trans
    (congrArg₂ (· * ·) (nat2_of A _ rfl rfl) (nat2_of B _ rfl rfl))).trans
      (sum_axis (fun k => nat2 A k (i 0).val * nat2 B k (i 1).val) 8192))

/-! ## The claims -/

section claims

theorem frame : Cert.quiescent_GradWSsmOut (hGradWSsmOut := Cert.GradWSsmOut.Gen.facts) :=
  fun m ρ _ => Cert.GradWSsmOut.Gen.frame m ρ

theorem frame_ideal : Cert.quiescent_GradWSsmOutIdeal (hGradWSsmOutIdeal := Cert.GradWSsmOutIdeal.Gen.facts) :=
  fun m ρ _ => Cert.GradWSsmOutIdeal.Gen.frame m ρ

/-- The reference declares no semaphore. -/
theorem frame_ref : Cert.quiescent_RefGradWSsmOutIdeal (hRefGradWSsmOutIdeal := Cert.RefGradWSsmOutIdeal.Gen.facts) := by
  intro m ρ _
  exact (θ_run Cert.RefGradWSsmOutIdeal.defs _ _).mono
    (fun r h => ⟨fun c => (h c).2, Idealize.ShloMosaic.sem_eq_zero_of_no_sems (by decide) r.2⟩)
    (Cert.RefGradWSsmOutIdeal.Value.run (F := Ideal) m ρ)

theorem preserves : Cert.preserves_GradWSsmOut_GradWSsmOutIdeal := trivial

theorem algebraic : Cert.algebraic_GradWSsmOutIdeal_RefGradWSsmOutIdeal (hGradWSsmOutIdeal := Cert.GradWSsmOutIdeal.Gen.facts)
    (hRefGradWSsmOutIdeal := Cert.RefGradWSsmOutIdeal.Gen.facts) := by
  intro m g m' g' _ hagree
  refine ⟨fun c => G c m,
    (θ_run Cert.GradWSsmOutIdeal.defs _ _).mono (fun r h c => ⟨(h c).1.trans (final c m), (h c).2⟩) (Value.run_blocks (F := Ideal) m g),
    (θ_run Cert.RefGradWSsmOutIdeal.defs _ _).mono (fun r h c => ⟨(h c).1.trans (funext fun i => ?_), (h c).2⟩)
      (Cert.RefGradWSsmOutIdeal.Value.run (F := Ideal) m' g')⟩
  obtain ⟨e0, e1⟩ := hagree c
  refine (ref_at _ _ i).trans ?_
  rw [e0, e1]
  rfl

end claims

end

end Prod.WSsm
-- ==== Proof.HSsm.lean ====
module

public import proofs.«01_k».proof.Proof.Prod
public import proofs.«01_k».proof.Proof.Gen.GradHSsmOutIdeal.Value
public import proofs.«01_k».proof.Proof.Gen.GradHSsmOutIdeal.Frame
public import proofs.«01_k».proof.Proof.Gen.GradHSsmOut.Frame
public import proofs.«01_k».proof.Proof.Gen.RefGradHSsmOutIdeal.Run
public import proofs.«01_k».proof.Defs

/-!
# The gradient of the scan's normed output: `dy · w_ssm_outᵀ`

Each point of the launch writes one block of the result, the product of a block of rows of each matrix.
-/

@[expose] public section

set_option maxRecDepth 16384

namespace Prod.HSsm
open Idealize.ShloMosaic Idealize.ShloMosaic.TcCoe Idealize.SL.Sem Cert.GradHSsmOutIdeal Cert.GradHSsmOutIdeal.Gen

noncomputable section

variable (c : Dev nD) (x0 : Vec Ideal S1024x2048 .bf16) (x1 : Vec Ideal S1024x2048 .bf16)

theorem out_eq : out0_2 x0 x1 = k0_pay1 x0 x1 := by
  unfold out0_2
  rw [View.canon_unit_zero hz2, View.ld_unit_zero (S := S1024x2048) hz2, View.ld_unit_zero (S := S1024x2048) hz2]

theorem pay1_at (y : S1024x1024.Idx) : (k0_pay1 x0 x1 y : EReal) = ∑ k : Fin 2048, x0 (ix2 (y 0) k) * x1 (ix2 (y 1) k) := by
  unfold k0_pay1
  simp only [pointwise]
  exact zero_add _

theorem index0 : ∀ t : Fin cfg0.N, win0_0.index t (0 : Fin 2) = t.val / 4 ∧ win0_0.index t (1 : Fin 2) = 0 :=
  (by decide +kernel : ∀ t : Fin grid0.N, _)
theorem index1 : ∀ t : Fin cfg0.N, win0_1.index t (0 : Fin 2) = t.val % 4 ∧ win0_1.index t (1 : Fin 2) = 0 :=
  (by decide +kernel : ∀ t : Fin grid0.N, _)
theorem index2 : ∀ t : Fin cfg0.N, win0_2.index t (0 : Fin 2) = t.val / 4 ∧ win0_2.index t (1 : Fin 2) = t.val % 4 :=
  (by decide +kernel : ∀ t : Fin grid0.N, _)

variable (m : (ℓ : Loc nD τ sig) → Buf (Elt Ideal) ℓ) (ρ : Dev nD → PrngReg)

/-- The arguments. -/
def lhs : S8192x2048.Idx → EReal := m ((c : Thread nD τ).loc main_arg0)
def rhs : S4096x2048.Idx → EReal := m ((c : Thread nD τ).loc main_arg1)

theorem blk0 (t : Fin cfg0.N) (j : S1024x2048.Idx) :
    (iblk m c 0 t j : EReal) = nat2 (lhs c m) (t.val / 4 * 1024 + (j 0).val) (0 * 2048 + (j 1).val) := by
  obtain ⟨e0, e1⟩ := index0 t
  unfold iblk
  rw [View.read_apply]
  show (V m c main_arg0 _ : EReal) = _
  rw [V_main_arg0 m c]
  refine nat2_of (lhs c m) _ ?_ ?_
  · show win0_0.index t 0 * 1024 + 1 * (j 0).val = _
    rw [e0, Nat.one_mul]
  · show win0_0.index t 1 * 2048 + 1 * (j 1).val = _
    rw [e1, Nat.one_mul]

theorem blk1 (t : Fin cfg0.N) (j : S1024x2048.Idx) :
    (iblk m c 1 t j : EReal) = nat2 (rhs c m) (t.val % 4 * 1024 + (j 0).val) (0 * 2048 + (j 1).val) := by
  obtain ⟨e0, e1⟩ := index1 t
  unfold iblk
  rw [View.read_apply]
  show (V m c main_arg1 _ : EReal) = _
  rw [V_main_arg1 m c]
  refine nat2_of (rhs c m) _ ?_ ?_
  · show win0_1.index t 0 * 1024 + 1 * (j 0).val = _
    rw [e0, Nat.one_mul]
  · show win0_1.index t 1 * 2048 + 1 * (j 1).val = _
    rw [e1, Nat.one_mul]

/-- The `k`-th product of the sum at row `r` and column `s`. -/
def term (r s k : ℕ) : EReal := nat2 (lhs c m) r k * nat2 (rhs c m) s k

/-- What a point's blocks contribute. -/
theorem pay (t : Fin cfg0.N) (y : S1024x1024.Idx) :
    (k0_pay1 (iblk m c 0 t : Vec Ideal S1024x2048 .bf16) (iblk m c 1 t : Vec Ideal S1024x2048 .bf16) y : EReal)
      = ∑ k : Fin 2048, term c m (t.val / 4 * 1024 + (y 0).val) (t.val % 4 * 1024 + (y 1).val) (0 * 2048 + k.val) := by
  rw [pay1_at]
  refine Finset.sum_congr rfl fun k _ => congrArg₂ (· * ·) (blk0 c m t _) (blk1 c m t _)

/-- The product of the whole matrices. -/
def G : S8192x4096.Idx → EReal := fun i => ∑ k ∈ Finset.range 2048, term c m ((i 0).val) ((i 1).val) k

theorem flushed_eq (t : Fin cfg0.N) (_ : (cfg0.win 2).flush t = true) :
    (dats m 0 c).flushed 2 t = ((cfg0.win 2).blk t).view.read (Elt Ideal) (G c m) := by
  obtain ⟨e0, e1⟩ := index2 t
  rw [Value.flushed2 m c t, out_eq]
  funext (y : S1024x1024.Idx)
  rw [View.read_apply]
  show (k0_pay1 (iblk m c 0 t : Vec Ideal S1024x2048 .bf16) (iblk m c 1 t : Vec Ideal S1024x2048 .bf16) y : EReal) = _
  rw [pay, sum_first]
  have g : ∀ E : S8192x4096.Idx, (E 0).val = t.val / 4 * 1024 + (y 0).val → (E 1).val = t.val % 4 * 1024 + (y 1).val →
      ∑ k ∈ Finset.range ((0 + 1) * 2048), term c m (t.val / 4 * 1024 + (y 0).val) (t.val % 4 * 1024 + (y 1).val) k = G c m E := by
    intro E v0 v1
    unfold G
    rw [v0, v1]
  refine g _ ?_ ?_
  · show win0_2.index t 0 * 1024 + 1 * (y 0).val = _
    rw [e0, Nat.one_mul]
  · show win0_2.index t 1 * 1024 + 1 * (y 1).val = _
    rw [e1, Nat.one_mul]

theorem final : (dats m 0 c).arrAt 2 cfg0.N = G c m :=
  (dats m 0 c).arrAt_eq_of_cover 2 (G c m) (flushed_eq c m) fun i => by
    have h0 : (i 0 : Nat) < 8192 := (i 0).isLt
    have h1 : (i 1 : Nat) < 4096 := (i 1).isLt
    have hN : cfg0.N = 32 := N_0
    obtain ⟨t, ht⟩ : ∃ t : Fin cfg0.N, t.val = 4 * ((i 0).val / 1024) + (i 1).val / 1024 :=
      ⟨⟨4 * ((i 0).val / 1024) + (i 1).val / 1024, by omega⟩, rfl⟩
    obtain ⟨e0, e1⟩ := index2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [e0]; omega
    | ⟨1, _⟩ => show win0_2.index t 1 * 1024 ≤ (i 1 : Nat) ∧ (i 1 : Nat) < win0_2.index t 1 * 1024 + 1024
                rw [e1]; omega

/-- The reference's product. -/
theorem ref_at (A : FVec Ideal S8192x2048 .bf16) (B : FVec Ideal S4096x2048 .bf16) (i : S8192x4096.Idx) :
    (truncf .bf16 (Host.dotGeneral Cert.RefGradHSsmOutIdeal.dot_S8192x2048_S4096x2048_S8192x4096_1_1_0_0_n_n none (extf .f32 A Cert.RefGradHSsmOutIdeal.Gen.facts.bitsLt_bf16_f32) (extf .f32 B Cert.RefGradHSsmOutIdeal.Gen.facts.bitsLt_bf16_f32)) Cert.RefGradHSsmOutIdeal.Gen.facts.bitsLt_bf16_f32 i : EReal)
      = ∑ k ∈ Finset.range 2048, nat2 A (i 0).val k * nat2 B (i 1).val k := by
  simp only [pointwise]
  exact (zero_add _).trans ((Finset.sum_congr rfl fun k _ =>
    (congrArg₂ (· * ·) (nat2_of A _ rfl rfl) (nat2_of B _ rfl rfl))).trans
      (sum_axis (fun k => nat2 A (i 0).val k * nat2 B (i 1).val k) 2048))

/-! ## The claims -/

section claims

theorem frame : Cert.quiescent_GradHSsmOut (hGradHSsmOut := Cert.GradHSsmOut.Gen.facts) :=
  fun m ρ _ => Cert.GradHSsmOut.Gen.frame m ρ

theorem frame_ideal : Cert.quiescent_GradHSsmOutIdeal (hGradHSsmOutIdeal := Cert.GradHSsmOutIdeal.Gen.facts) :=
  fun m ρ _ => Cert.GradHSsmOutIdeal.Gen.frame m ρ

/-- The reference declares no semaphore. -/
theorem frame_ref : Cert.quiescent_RefGradHSsmOutIdeal (hRefGradHSsmOutIdeal := Cert.RefGradHSsmOutIdeal.Gen.facts) := by
  intro m ρ _
  exact (θ_run Cert.RefGradHSsmOutIdeal.defs _ _).mono
    (fun r h => ⟨fun c => (h c).2, Idealize.ShloMosaic.sem_eq_zero_of_no_sems (by decide) r.2⟩)
    (Cert.RefGradHSsmOutIdeal.Value.run (F := Ideal) m ρ)

theorem preserves : Cert.preserves_GradHSsmOut_GradHSsmOutIdeal := trivial

theorem algebraic : Cert.algebraic_GradHSsmOutIdeal_RefGradHSsmOutIdeal (hGradHSsmOutIdeal := Cert.GradHSsmOutIdeal.Gen.facts)
    (hRefGradHSsmOutIdeal := Cert.RefGradHSsmOutIdeal.Gen.facts) := by
  intro m g m' g' _ hagree
  refine ⟨fun c => G c m,
    (θ_run Cert.GradHSsmOutIdeal.defs _ _).mono (fun r h c => ⟨(h c).1.trans (final c m), (h c).2⟩) (Value.run_blocks (F := Ideal) m g),
    (θ_run Cert.RefGradHSsmOutIdeal.defs _ _).mono (fun r h c => ⟨(h c).1.trans (funext fun i => ?_), (h c).2⟩)
      (Cert.RefGradHSsmOutIdeal.Value.run (F := Ideal) m' g')⟩
  obtain ⟨e0, e1⟩ := hagree c
  refine (ref_at _ _ i).trans ?_
  rw [e0, e1]
  rfl

end claims

end

end Prod.HSsm
-- ==== Proof.SsmF.lean ====
module

public import proofs.«01_k».proof.Proof.Prod
public import proofs.«01_k».proof.Proof.Gen.SsmOutIdeal.Value
public import proofs.«01_k».proof.Proof.Gen.SsmOutIdeal.Frame
public import proofs.«01_k».proof.Proof.Gen.SsmOut.Frame
public import proofs.«01_k».proof.Proof.Gen.RefSsmOutIdeal.Run
public import proofs.«01_k».proof.Defs

/-!
# The scan branch's last product: `yn · w_ssm_out`

The launch keeps the first half of each block's sum in a scratch array, and writes the block with the second.
-/

@[expose] public section

set_option maxRecDepth 16384

namespace Prod.SsmF
open Idealize.ShloMosaic Idealize.ShloMosaic.TcCoe Idealize.SL.Sem Cert.SsmOutIdeal Cert.SsmOutIdeal.Gen

noncomputable section

variable (c : Dev nD) (i : grid0.Coords) (a3 : Memref sig .tc .vmem S1024x2048 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x1024 .f32) (h6 : a6.IsWhole)
  (x0 : Vec Ideal S1024x2048 .bf16) (x1 : Vec Ideal S2048x1024 .bf16) (xs : Vec Ideal S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S1024x2048) hz2, View.ld_unit_zero (S := S2048x1024) hz2, shapeCast_self]

theorem out_B (hc0 : ¬cond0_0 i) (hc1 : cond0_1 i) (hc2 : cond0_2 i) :
    out0_B_2 c i a3 h3 a4 h4 a5 h5 a6 h6 hc0 hc1 hc2 x0 x1 xs = addf xs (k0_pay1 x0 x1) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz2, View.readCov_unit_zero (S := S1024x1024) _ hz2]
  unfold k0_pay3
  simp only [View.readAt_eq_ld, h3.read_unread, h4.read_unread, h6.read_unread, View.ld_unit_zero (S := S1024x2048) hz2, View.ld_unit_zero (S := S2048x1024) hz2, View.ld_unit_zero (S := S1024x1024) hz2, shapeCast_self]

theorem pay1_at (y : S1024x1024.Idx) : (k0_pay1 x0 x1 y : EReal) = ∑ k : Fin 2048, x0 (ix2 (y 0) k) * x1 (ix2 k (y 1)) := by
  unfold k0_pay1
  simp only [pointwise]
  exact zero_add _

theorem index0 : ∀ t : Fin cfg0.N, win0_0.index t (0 : Fin 2) = t.val / 4 ∧ win0_0.index t (1 : Fin 2) = t.val % 2 :=
  (by decide +kernel : ∀ t : Fin grid0.N, _)
theorem index1 : ∀ t : Fin cfg0.N, win0_1.index t (0 : Fin 2) = t.val % 2 ∧ win0_1.index t (1 : Fin 2) = t.val / 2 % 2 :=
  (by decide +kernel : ∀ t : Fin grid0.N, _)
theorem index2 : ∀ t : Fin cfg0.N, win0_2.index t (0 : Fin 2) = t.val / 4 ∧ win0_2.index t (1 : Fin 2) = t.val / 2 % 2 :=
  (by decide +kernel : ∀ t : Fin grid0.N, _)

variable (m : (ℓ : Loc nD τ sig) → Buf (Elt Ideal) ℓ) (ρ : Dev nD → PrngReg)

/-- The arguments. -/
def lhs : S8192x4096.Idx → EReal := m ((c : Thread nD τ).loc main_arg0)
def rhs : S4096x2048.Idx → EReal := m ((c : Thread nD τ).loc main_arg1)

theorem blk0 (t : Fin cfg0.N) (j : S1024x2048.Idx) :
    (iblk m c 0 t j : EReal) = nat2 (lhs c m) (t.val / 4 * 1024 + (j 0).val) (t.val % 2 * 2048 + (j 1).val) := by
  obtain ⟨e0, e1⟩ := index0 t
  unfold iblk
  rw [View.read_apply]
  show (V m c main_arg0 _ : EReal) = _
  rw [V_main_arg0 m c]
  refine nat2_of (lhs c m) _ ?_ ?_
  · show win0_0.index t 0 * 1024 + 1 * (j 0).val = _
    rw [e0, Nat.one_mul]
  · show win0_0.index t 1 * 2048 + 1 * (j 1).val = _
    rw [e1, Nat.one_mul]

theorem blk1 (t : Fin cfg0.N) (j : S2048x1024.Idx) :
    (iblk m c 1 t j : EReal) = nat2 (rhs c m) (t.val % 2 * 2048 + (j 0).val) (t.val / 2 % 2 * 1024 + (j 1).val) := by
  obtain ⟨e0, e1⟩ := index1 t
  unfold iblk
  rw [View.read_apply]
  show (V m c main_arg1 _ : EReal) = _
  rw [V_main_arg1 m c]
  refine nat2_of (rhs c m) _ ?_ ?_
  · show win0_1.index t 0 * 2048 + 1 * (j 0).val = _
    rw [e0, Nat.one_mul]
  · show win0_1.index t 1 * 1024 + 1 * (j 1).val = _
    rw [e1, Nat.one_mul]

/-- The `k`-th product of the sum at row `r` and column `s`. -/
def term (r s k : ℕ) : EReal := nat2 (lhs c m) r k * nat2 (rhs c m) k s

/-- What a point's blocks contribute. -/
theorem pay (t : Fin cfg0.N) (y : S1024x1024.Idx) :
    (k0_pay1 (iblk m c 0 t : Vec Ideal S1024x2048 .bf16) (iblk m c 1 t : Vec Ideal S2048x1024 .bf16) y : EReal)
      = ∑ k : Fin 2048, term c m (t.val / 4 * 1024 + (y 0).val) (t.val / 2 % 2 * 1024 + (y 1).val) (t.val % 2 * 2048 + k.val) := by
  rw [pay1_at]
  refine Finset.sum_congr rfl fun k _ => congrArg₂ (· * ·) (blk0 c m t _) (blk1 c m t _)

/-- The scratch array after the first point of a block. -/
theorem scratch (q : ℕ) (h : 2 * q < cfg0.N) (y : S1024x1024.Idx) :
    ((outsAt0 m c (2 * q) h).2 y : EReal)
      = ∑ k ∈ Finset.range ((0 + 1) * 2048), term c m (q / 2 * 1024 + (y 0).val) (q % 2 * 1024 + (y 1).val) k := by
  have e := outsAt0_A m c ⟨2 * q, h⟩ (by show (2 * q) % 2 = 0; omega) (by show ¬(2 * q) % 2 = 1; omega) (by show ¬(2 * q) % 2 = 1; omega)
  rw [show outsAt0 m c (2 * q) h = _ from e]
  dsimp only
  rw [sout_A, pay, ← sum_first]
  simp only [show (2 * q) / 4 = q / 2 from by omega, show (2 * q) / 2 % 2 = q % 2 from by omega,
      show (2 * q) % 2 = 0 from by omega]

/-- The product of the whole matrices. -/
def G : S8192x2048.Idx → EReal := fun i => ∑ k ∈ Finset.range 4096, term c m ((i 0).val) ((i 1).val) k

theorem flushed_eq (t : Fin cfg0.N) (hf : (cfg0.win 2).flush t = true) :
    (dats m 0 c).flushed 2 t = ((cfg0.win 2).blk t).view.read (Elt Ideal) (G c m) := by
  have hm : t.val % 2 = 1 := (flush0_2 t).mp hf
  obtain ⟨e0, e1⟩ := index2 t
  rw [Value.flushed2_B m c t (by omega) hm hm, out_B]
  funext (y : S1024x1024.Idx)
  rw [View.read_apply]
  show (addf (outsAt0 m c (t.val - 1) _).2 (k0_pay1 (iblk m c 0 t : Vec Ideal S1024x2048 .bf16) (iblk m c 1 t : Vec Ideal S2048x1024 .bf16)) y : EReal) = _
  rw [addf_at, pay]
  have key : ∀ (n : ℕ) (h : n < cfg0.N), n = 2 * (t.val / 2) → ((outsAt0 m c n h).2 y : EReal)
      = ∑ k ∈ Finset.range (1 * 2048), term c m (t.val / 4 * 1024 + (y 0).val) (t.val / 2 % 2 * 1024 + (y 1).val) k := by
    intro n h e
    subst e
    rw [scratch c m (t.val / 2) h y, show t.val / 2 / 2 = t.val / 4 from by omega]
  rw [key _ _ (by omega), hm, sum_block]
  have g : ∀ E : S8192x2048.Idx, (E 0).val = t.val / 4 * 1024 + (y 0).val → (E 1).val = t.val / 2 % 2 * 1024 + (y 1).val →
      ∑ k ∈ Finset.range ((1 + 1) * 2048), term c m (t.val / 4 * 1024 + (y 0).val) (t.val / 2 % 2 * 1024 + (y 1).val) k = G c m E := by
    intro E v0 v1
    unfold G
    rw [v0, v1]
  refine g _ ?_ ?_
  · show win0_2.index t 0 * 1024 + 1 * (y 0).val = _
    rw [e0, Nat.one_mul]
  · show win0_2.index t 1 * 1024 + 1 * (y 1).val = _
    rw [e1, Nat.one_mul]

theorem final : (dats m 0 c).arrAt 2 cfg0.N = G c m :=
  (dats m 0 c).arrAt_eq_of_cover 2 (G c m) (flushed_eq c m) fun i => by
    have h0 : (i 0 : Nat) < 8192 := (i 0).isLt
    have h1 : (i 1 : Nat) < 2048 := (i 1).isLt
    have hN : cfg0.N = 32 := N_0
    obtain ⟨t, ht⟩ : ∃ t : Fin cfg0.N, t.val = 4 * ((i 0).val / 1024) + 2 * ((i 1).val / 1024) + 1 :=
      ⟨⟨4 * ((i 0).val / 1024) + 2 * ((i 1).val / 1024) + 1, by omega⟩, rfl⟩
    obtain ⟨e0, e1⟩ := index2 t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [e0]; omega
    | ⟨1, _⟩ => show win0_2.index t 1 * 1024 ≤ (i 1 : Nat) ∧ (i 1 : Nat) < win0_2.index t 1 * 1024 + 1024
                rw [e1]; omega

/-- The reference's product. -/
theorem ref_at (A : FVec Ideal S8192x4096 .bf16) (B : FVec Ideal S4096x2048 .bf16) (i : S8192x2048.Idx) :
    (Host.dotGeneral Cert.RefSsmOutIdeal.dot_S8192x4096_S4096x2048_S8192x2048_1_0_0_1_n_n none (extf .f32 A Cert.RefSsmOutIdeal.Gen.facts.bitsLt_bf16_f32) (extf .f32 B Cert.RefSsmOutIdeal.Gen.facts.bitsLt_bf16_f32) i : EReal)
      = ∑ k ∈ Finset.range 4096, nat2 A (i 0).val k * nat2 B k (i 1).val := by
  simp only [pointwise]
  exact (zero_add _).trans ((Finset.sum_congr rfl fun k _ =>
    (congrArg₂ (· * ·) (nat2_of A _ rfl rfl) (nat2_of B _ rfl rfl))).trans
      (sum_axis (fun k => nat2 A (i 0).val k * nat2 B k (i 1).val) 4096))

/-! ## The claims -/

section claims

theorem frame : Cert.quiescent_SsmOut (hSsmOut := Cert.SsmOut.Gen.facts) :=
  fun m ρ _ => Cert.SsmOut.Gen.frame m ρ

theorem frame_ideal : Cert.quiescent_SsmOutIdeal (hSsmOutIdeal := Cert.SsmOutIdeal.Gen.facts) :=
  fun m ρ _ => Cert.SsmOutIdeal.Gen.frame m ρ

/-- The reference declares no semaphore. -/
theorem frame_ref : Cert.quiescent_RefSsmOutIdeal (hRefSsmOutIdeal := Cert.RefSsmOutIdeal.Gen.facts) := by
  intro m ρ _
  exact (θ_run Cert.RefSsmOutIdeal.defs _ _).mono
    (fun r h => ⟨fun c => (h c).2, Idealize.ShloMosaic.sem_eq_zero_of_no_sems (by decide) r.2⟩)
    (Cert.RefSsmOutIdeal.Value.run (F := Ideal) m ρ)

theorem preserves : Cert.preserves_SsmOut_SsmOutIdeal := trivial

theorem algebraic : Cert.algebraic_SsmOutIdeal_RefSsmOutIdeal (hSsmOutIdeal := Cert.SsmOutIdeal.Gen.facts)
    (hRefSsmOutIdeal := Cert.RefSsmOutIdeal.Gen.facts) := by
  intro m g m' g' _ hagree
  refine ⟨fun c => G c m,
    (θ_run Cert.SsmOutIdeal.defs _ _).mono (fun r h c => ⟨(h c).1.trans (final c m), (h c).2⟩) (Value.run_blocks (F := Ideal) m g),
    (θ_run Cert.RefSsmOutIdeal.defs _ _).mono (fun r h c => ⟨(h c).1.trans (funext fun i => ?_), (h c).2⟩)
      (Cert.RefSsmOutIdeal.Value.run (F := Ideal) m' g')⟩
  obtain ⟨e0, e1⟩ := hagree c
  refine (ref_at _ _ i).trans ?_
  rw [e0, e1]
  rfl

end claims

end

end Prod.SsmF
-- ==== Proof.WMix.lean ====
module

public import proofs.«01_k».proof.Proof.Prod
public import proofs.«01_k».proof.Proof.Gen.GradWMixOutIdeal.Value
public import proofs.«01_k».proof.Proof.Gen.GradWMixOutIdeal.Frame
public import proofs.«01_k».proof.Proof.Gen.GradWMixOut.Frame
public import proofs.«01_k».proof.Proof.Gen.RefGradWMixOutIdeal.Run
public import proofs.«01_k».proof.Defs

/-!
# The gradient of `w_mix_out`, and of `w_conv_out`: `mixinᵀ · dmix`

The launch adds, for each block of the result, four products of blocks in a scratch array, and writes the block after
the fourth.
-/

@[expose] public section

set_option maxRecDepth 16384

namespace Prod.WMix
open Idealize.ShloMosaic Idealize.ShloMosaic.TcCoe Idealize.SL.Sem Cert.GradWMixOutIdeal Cert.GradWMixOutIdeal.Gen

noncomputable section

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x0 : Vec Ideal S2048x1024 .bf16) (x1 : Vec Ideal S2048x1024 .bf16) (xs : Vec Ideal S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x1024) hz2, shapeCast_self]

theorem sout_B (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz2]
  unfold k0_pay3
  simp only [View.readAt_eq_ld, h3.read_unread, h4.read_unread, h6.read_unread, View.ld_unit_zero (S := S2048x1024) hz2, View.ld_unit_zero (S := S1024x1024) hz2, shapeCast_self]

theorem out_C (hc0 : ¬cond0_0 i) (hc1 : cond0_1 i) (hc2 : cond0_2 i) :
    out0_C_2 c i a3 h3 a4 h4 a5 h5 a6 h6 hc0 hc1 hc2 x0 x1 xs = k0_pay4 (addf xs (k0_pay1 x0 x1)) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz2, View.readCov_unit_zero (S := S1024x1024) _ hz2]
  unfold k0_pay3
  simp only [View.readAt_eq_ld, h3.read_unread, h4.read_unread, h6.read_unread, View.ld_unit_zero (S := S2048x1024) hz2, View.ld_unit_zero (S := S1024x1024) hz2, shapeCast_self]

theorem pay1_at (y : S1024x1024.Idx) : (k0_pay1 x0 x1 y : EReal) = ∑ k : Fin 2048, x0 (ix2 k (y 0)) * x1 (ix2 k (y 1)) := by
  unfold k0_pay1
  simp only [pointwise]
  exact zero_add _

theorem index0 : ∀ t : Fin cfg0.N, win0_0.index t (0 : Fin 2) = t.val % 4 ∧ win0_0.index t (1 : Fin 2) = t.val / 8 :=
  (by decide +kernel : ∀ t : Fin grid0.N, _)
theorem index1 : ∀ t : Fin cfg0.N, win0_1.index t (0 : Fin 2) = t.val % 4 ∧ win0_1.index t (1 : Fin 2) = t.val / 4 % 2 :=
  (by decide +kernel : ∀ t : Fin grid0.N, _)
theorem index2 : ∀ t : Fin cfg0.N, win0_2.index t (0 : Fin 2) = t.val / 8 ∧ win0_2.index t (1 : Fin 2) = t.val / 4 % 2 :=
  (by decide +kernel : ∀ t : Fin grid0.N, _)

variable (m : (ℓ : Loc nD τ sig) → Buf (Elt Ideal) ℓ) (ρ : Dev nD → PrngReg)

/-- The arguments. -/
def lhs : S8192x2048.Idx → EReal := m ((c : Thread nD τ).loc main_arg0)
def rhs : S8192x2048.Idx → EReal := m ((c : Thread nD τ).loc main_arg1)

theorem blk0 (t : Fin cfg0.N) (j : S2048x1024.Idx) :
    (iblk m c 0 t j : EReal) = nat2 (lhs c m) (t.val % 4 * 2048 + (j 0).val) (t.val / 8 * 1024 + (j 1).val) := by
  obtain ⟨e0, e1⟩ := index0 t
  unfold iblk
  rw [View.read_apply]
  show (V m c main_arg0 _ : EReal) = _
  rw [V_main_arg0 m c]
  refine nat2_of (lhs c m) _ ?_ ?_
  · show win0_0.index t 0 * 2048 + 1 * (j 0).val = _
    rw [e0, Nat.one_mul]
  · show win0_0.index t 1 * 1024 + 1 * (j 1).val = _
    rw [e1, Nat.one_mul]

theorem blk1 (t : Fin cfg0.N) (j : S2048x1024.Idx) :
    (iblk m c 1 t j : EReal) = nat2 (rhs c m) (t.val % 4 * 2048 + (j 0).val) (t.val / 4 % 2 * 1024 + (j 1).val) := by
  obtain ⟨e0, e1⟩ := index1 t
  unfold iblk
  rw [View.read_apply]
  show (V m c main_arg1 _ : EReal) = _
  rw [V_main_arg1 m c]
  refine nat2_of (rhs c m) _ ?_ ?_
  · show win0_1.index t 0 * 2048 + 1 * (j 0).val = _
    rw [e0, Nat.one_mul]
  · show win0_1.index t 1 * 1024 + 1 * (j 1).val = _
    rw [e1, Nat.one_mul]

/-- The `k`-th product of the sum at row `r` and column `s`. -/
def term (r s k : ℕ) : EReal := nat2 (lhs c m) k r * nat2 (rhs c m) k s

/-- What a point's blocks contribute. -/
theorem pay (t : Fin cfg0.N) (y : S1024x1024.Idx) :
    (k0_pay1 (iblk m c 0 t : Vec Ideal S2048x1024 .bf16) (iblk m c 1 t : Vec Ideal S2048x1024 .bf16) y : EReal)
      = ∑ k : Fin 2048, term c m (t.val / 8 * 1024 + (y 0).val) (t.val / 4 % 2 * 1024 + (y 1).val) (t.val % 4 * 2048 + k.val) := by
  rw [pay1_at]
  refine Finset.sum_congr rfl fun k _ => congrArg₂ (· * ·) (blk0 c m t _) (blk1 c m t _)

/-- The scratch array after the first points of a block. -/
theorem scratch : ∀ (s q : ℕ) (hs : s < 3) (h : 4 * q + s < cfg0.N) (y : S1024x1024.Idx),
    ((outsAt0 m c (4 * q + s) h).2 y : EReal)
      = ∑ k ∈ Finset.range ((s + 1) * 2048), term c m (q / 2 * 1024 + (y 0).val) (q % 2 * 1024 + (y 1).val) k
  | 0, q, hs, h, y => by
    have e := outsAt0_A m c ⟨4 * q + 0, h⟩ (by show (4 * q + 0) % 4 = 0; omega) (by show ¬1 ≤ (4 * q + 0) % 4; omega) (by show ¬(4 * q + 0) % 4 = 3; omega)
    rw [show outsAt0 m c (4 * q + 0) h = _ from e]
    dsimp only
    rw [sout_A, pay, ← sum_first]
    simp only [show (4 * q + 0) / 8 = q / 2 from by omega, show (4 * q + 0) / 4 % 2 = q % 2 from by omega,
      show (4 * q + 0) % 4 = 0 from by omega]
  | s + 1, q, hs, h, y => by
    have e := outsAt0_B m c ⟨4 * q + (s + 1), h⟩ (by show ¬(4 * q + (s + 1)) % 4 = 0; omega)
      (by show 1 ≤ (4 * q + (s + 1)) % 4; omega) (by show ¬(4 * q + (s + 1)) % 4 = 3; omega)
    rw [show outsAt0 m c (4 * q + (s + 1)) h = _ from e]
    dsimp only
    rw [sout_B, addf_at, pay, ← sum_block]
    refine congrArg₂ (· + ·) (scratch s q (by omega) (by omega) y) ?_
    simp only [show (4 * q + (s + 1)) / 8 = q / 2 from by omega, show (4 * q + (s + 1)) / 4 % 2 = q % 2 from by omega,
      show (4 * q + (s + 1)) % 4 = s + 1 from by omega]

/-- The product of the whole matrices. -/
def G : S2048x2048.Idx → EReal := fun i => ∑ k ∈ Finset.range 8192, term c m ((i 0).val) ((i 1).val) k

theorem flushed_eq (t : Fin cfg0.N) (hf : (cfg0.win 2).flush t = true) :
    (dats m 0 c).flushed 2 t = ((cfg0.win 2).blk t).view.read (Elt Ideal) (G c m) := by
  have hm : t.val % 4 = 3 := (flush0_2 t).mp hf
  obtain ⟨e0, e1⟩ := index2 t
  rw [Value.flushed2_C m c t (by omega) (by omega) hm, out_C]
  funext (y : S1024x1024.Idx)
  rw [View.read_apply]
  show (k0_pay4 (addf (outsAt0 m c (t.val - 1) _).2 (k0_pay1 (iblk m c 0 t : Vec Ideal S2048x1024 .bf16) (iblk m c 1 t : Vec Ideal S2048x1024 .bf16))) y : EReal) = _
  unfold k0_pay4
  dsimp only
  rw [truncf_at, addf_at, pay]
  have key : ∀ (n : ℕ) (h : n < cfg0.N), n = 4 * (t.val / 4) + 2 → ((outsAt0 m c n h).2 y : EReal)
      = ∑ k ∈ Finset.range (3 * 2048), term c m (t.val / 8 * 1024 + (y 0).val) (t.val / 4 % 2 * 1024 + (y 1).val) k := by
    intro n h e
    subst e
    rw [scratch c m 2 (t.val / 4) (by omega) h y, show t.val / 4 / 2 = t.val / 8 from by omega]
  rw [key _ _ (by omega), hm, sum_block]
  have g : ∀ E : S2048x2048.Idx, (E 0).val = t.val / 8 * 1024 + (y 0).val → (E 1).val = t.val / 4 % 2 * 1024 + (y 1).val →
      ∑ k ∈ Finset.range ((3 + 1) * 2048), term c m (t.val / 8 * 1024 + (y 0).val) (t.val / 4 % 2 * 1024 + (y 1).val) k = G c m E := by
    intro E v0 v1
    unfold G
    rw [v0, v1]
  refine g _ ?_ ?_
  · show win0_2.index t 0 * 1024 + 1 * (y 0).val = _
    rw [e0, Nat.one_mul]
  · show win0_2.index t 1 * 1024 + 1 * (y 1).val = _
    rw [e1, Nat.one_mul]

theorem final : (dats m 0 c).arrAt 2 cfg0.N = G c m :=
  (dats m 0 c).arrAt_eq_of_cover 2 (G c m) (flushed_eq c m) fun i => by
    have h0 : (i 0 : Nat) < 2048 := (i 0).isLt
    have h1 : (i 1 : Nat) < 2048 := (i 1).isLt
    have hN : cfg0.N = 16 := N_0
    obtain ⟨t, ht⟩ : ∃ t : Fin cfg0.N, t.val = 8 * ((i 0).val / 1024) + 4 * ((i 1).val / 1024) + 3 :=
      ⟨⟨8 * ((i 0).val / 1024) + 4 * ((i 1).val / 1024) + 3, by omega⟩, rfl⟩
    obtain ⟨e0, e1⟩ := index2 t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [e0]; omega
    | ⟨1, _⟩ => show win0_2.index t 1 * 1024 ≤ (i 1 : Nat) ∧ (i 1 : Nat) < win0_2.index t 1 * 1024 + 1024
                rw [e1]; omega

/-- The reference's product. -/
theorem ref_at (A : FVec Ideal S8192x2048 .bf16) (B : FVec Ideal S8192x2048 .bf16) (i : S2048x2048.Idx) :
    (truncf .bf16 (transpose Cert.RefGradWMixOutIdeal.S2048x2048 [1, 0] (Host.dotGeneral Cert.RefGradWMixOutIdeal.dot_S8192x2048_S8192x2048_S2048x2048_0_0_1_1_n_n none (extf .f32 B Cert.RefGradWMixOutIdeal.Gen.facts.bitsLt_bf16_f32) (extf .f32 A Cert.RefGradWMixOutIdeal.Gen.facts.bitsLt_bf16_f32)) Cert.RefGradWMixOutIdeal.Gen.facts.transposes_S2048x2048_S2048x2048_1_0) Cert.RefGradWMixOutIdeal.Gen.facts.bitsLt_bf16_f32 i : EReal)
      = ∑ k ∈ Finset.range 8192, nat2 A k (i 0).val * nat2 B k (i 1).val := by
  simp only [pointwise]
  exact (zero_add _).trans ((Finset.sum_congr rfl fun k _ => (mul_comm _ _).trans
    (congrArg₂ (· * ·) (nat2_of A _ rfl rfl) (nat2_of B _ rfl rfl))).trans
      (sum_axis (fun k => nat2 A k (i 0).val * nat2 B k (i 1).val) 8192))

/-! ## The claims -/

section claims

theorem frame : Cert.quiescent_GradWMixOut (hGradWMixOut := Cert.GradWMixOut.Gen.facts) :=
  fun m ρ _ => Cert.GradWMixOut.Gen.frame m ρ

theorem frame_ideal : Cert.quiescent_GradWMixOutIdeal (hGradWMixOutIdeal := Cert.GradWMixOutIdeal.Gen.facts) :=
  fun m ρ _ => Cert.GradWMixOutIdeal.Gen.frame m ρ

/-- The reference declares no semaphore. -/
theorem frame_ref : Cert.quiescent_RefGradWMixOutIdeal (hRefGradWMixOutIdeal := Cert.RefGradWMixOutIdeal.Gen.facts) := by
  intro m ρ _
  exact (θ_run Cert.RefGradWMixOutIdeal.defs _ _).mono
    (fun r h => ⟨fun c => (h c).2, Idealize.ShloMosaic.sem_eq_zero_of_no_sems (by decide) r.2⟩)
    (Cert.RefGradWMixOutIdeal.Value.run (F := Ideal) m ρ)

theorem preserves : Cert.preserves_GradWMixOut_GradWMixOutIdeal := trivial

theorem algebraic : Cert.algebraic_GradWMixOutIdeal_RefGradWMixOutIdeal (hGradWMixOutIdeal := Cert.GradWMixOutIdeal.Gen.facts)
    (hRefGradWMixOutIdeal := Cert.RefGradWMixOutIdeal.Gen.facts) := by
  intro m g m' g' _ hagree
  refine ⟨fun c => G c m,
    (θ_run Cert.GradWMixOutIdeal.defs _ _).mono (fun r h c => ⟨(h c).1.trans (final c m), (h c).2⟩) (Value.run_blocks (F := Ideal) m g),
    (θ_run Cert.RefGradWMixOutIdeal.defs _ _).mono (fun r h c => ⟨(h c).1.trans (funext fun i => ?_), (h c).2⟩)
      (Cert.RefGradWMixOutIdeal.Value.run (F := Ideal) m' g')⟩
  obtain ⟨e0, e1⟩ := hagree c
  refine (ref_at _ _ i).trans ?_
  rw [e0, e1]
  rfl

end claims

end

end Prod.WMix
-- ==== Proof.HMix.lean ====
module

public import proofs.«01_k».proof.Proof.Prod
public import proofs.«01_k».proof.Proof.Gen.GradHMixOutIdeal.Value
public import proofs.«01_k».proof.Proof.Gen.GradHMixOutIdeal.Frame
public import proofs.«01_k».proof.Proof.Gen.GradHMixOut.Frame
public import proofs.«01_k».proof.Proof.Gen.RefGradHMixOutIdeal.Run
public import proofs.«01_k».proof.Defs

/-!
# The gradient of the merged branches: `dmix · w_mix_outᵀ`

Each point of the launch writes one block of the result, the product of a block of rows of each matrix.
-/

@[expose] public section

set_option maxRecDepth 16384

namespace Prod.HMix
open Idealize.ShloMosaic Idealize.ShloMosaic.TcCoe Idealize.SL.Sem Cert.GradHMixOutIdeal Cert.GradHMixOutIdeal.Gen

noncomputable section

variable (c : Dev nD) (x0 : Vec Ideal S1024x2048 .bf16) (x1 : Vec Ideal S1024x2048 .bf16)

theorem out_eq : out0_2 x0 x1 = k0_pay1 x0 x1 := by
  unfold out0_2
  rw [View.canon_unit_zero hz2, View.ld_unit_zero (S := S1024x2048) hz2, View.ld_unit_zero (S := S1024x2048) hz2]

theorem pay1_at (y : S1024x1024.Idx) : (k0_pay1 x0 x1 y : EReal) = ∑ k : Fin 2048, x0 (ix2 (y 0) k) * x1 (ix2 (y 1) k) := by
  unfold k0_pay1
  simp only [pointwise]
  exact zero_add _

theorem index0 : ∀ t : Fin cfg0.N, win0_0.index t (0 : Fin 2) = t.val / 2 ∧ win0_0.index t (1 : Fin 2) = 0 :=
  (by decide +kernel : ∀ t : Fin grid0.N, _)
theorem index1 : ∀ t : Fin cfg0.N, win0_1.index t (0 : Fin 2) = t.val % 2 ∧ win0_1.index t (1 : Fin 2) = 0 :=
  (by decide +kernel : ∀ t : Fin grid0.N, _)
theorem index2 : ∀ t : Fin cfg0.N, win0_2.index t (0 : Fin 2) = t.val / 2 ∧ win0_2.index t (1 : Fin 2) = t.val % 2 :=
  (by decide +kernel : ∀ t : Fin grid0.N, _)

variable (m : (ℓ : Loc nD τ sig) → Buf (Elt Ideal) ℓ) (ρ : Dev nD → PrngReg)

/-- The arguments. -/
def lhs : S8192x2048.Idx → EReal := m ((c : Thread nD τ).loc main_arg0)
def rhs : S2048x2048.Idx → EReal := m ((c : Thread nD τ).loc main_arg1)

theorem blk0 (t : Fin cfg0.N) (j : S1024x2048.Idx) :
    (iblk m c 0 t j : EReal) = nat2 (lhs c m) (t.val / 2 * 1024 + (j 0).val) (0 * 2048 + (j 1).val) := by
  obtain ⟨e0, e1⟩ := index0 t
  unfold iblk
  rw [View.read_apply]
  show (V m c main_arg0 _ : EReal) = _
  rw [V_main_arg0 m c]
  refine nat2_of (lhs c m) _ ?_ ?_
  · show win0_0.index t 0 * 1024 + 1 * (j 0).val = _
    rw [e0, Nat.one_mul]
  · show win0_0.index t 1 * 2048 + 1 * (j 1).val = _
    rw [e1, Nat.one_mul]

theorem blk1 (t : Fin cfg0.N) (j : S1024x2048.Idx) :
    (iblk m c 1 t j : EReal) = nat2 (rhs c m) (t.val % 2 * 1024 + (j 0).val) (0 * 2048 + (j 1).val) := by
  obtain ⟨e0, e1⟩ := index1 t
  unfold iblk
  rw [View.read_apply]
  show (V m c main_arg1 _ : EReal) = _
  rw [V_main_arg1 m c]
  refine nat2_of (rhs c m) _ ?_ ?_
  · show win0_1.index t 0 * 1024 + 1 * (j 0).val = _
    rw [e0, Nat.one_mul]
  · show win0_1.index t 1 * 2048 + 1 * (j 1).val = _
    rw [e1, Nat.one_mul]

/-- The `k`-th product of the sum at row `r` and column `s`. -/
def term (r s k : ℕ) : EReal := nat2 (lhs c m) r k * nat2 (rhs c m) s k

/-- What a point's blocks contribute. -/
theorem pay (t : Fin cfg0.N) (y : S1024x1024.Idx) :
    (k0_pay1 (iblk m c 0 t : Vec Ideal S1024x2048 .bf16) (iblk m c 1 t : Vec Ideal S1024x2048 .bf16) y : EReal)
      = ∑ k : Fin 2048, term c m (t.val / 2 * 1024 + (y 0).val) (t.val % 2 * 1024 + (y 1).val) (0 * 2048 + k.val) := by
  rw [pay1_at]
  refine Finset.sum_congr rfl fun k _ => congrArg₂ (· * ·) (blk0 c m t _) (blk1 c m t _)

/-- The product of the whole matrices. -/
def G : S8192x2048.Idx → EReal := fun i => ∑ k ∈ Finset.range 2048, term c m ((i 0).val) ((i 1).val) k

theorem flushed_eq (t : Fin cfg0.N) (_ : (cfg0.win 2).flush t = true) :
    (dats m 0 c).flushed 2 t = ((cfg0.win 2).blk t).view.read (Elt Ideal) (G c m) := by
  obtain ⟨e0, e1⟩ := index2 t
  rw [Value.flushed2 m c t, out_eq]
  funext (y : S1024x1024.Idx)
  rw [View.read_apply]
  show (k0_pay1 (iblk m c 0 t : Vec Ideal S1024x2048 .bf16) (iblk m c 1 t : Vec Ideal S1024x2048 .bf16) y : EReal) = _
  rw [pay, sum_first]
  have g : ∀ E : S8192x2048.Idx, (E 0).val = t.val / 2 * 1024 + (y 0).val → (E 1).val = t.val % 2 * 1024 + (y 1).val →
      ∑ k ∈ Finset.range ((0 + 1) * 2048), term c m (t.val / 2 * 1024 + (y 0).val) (t.val % 2 * 1024 + (y 1).val) k = G c m E := by
    intro E v0 v1
    unfold G
    rw [v0, v1]
  refine g _ ?_ ?_
  · show win0_2.index t 0 * 1024 + 1 * (y 0).val = _
    rw [e0, Nat.one_mul]
  · show win0_2.index t 1 * 1024 + 1 * (y 1).val = _
    rw [e1, Nat.one_mul]

theorem final : (dats m 0 c).arrAt 2 cfg0.N = G c m :=
  (dats m 0 c).arrAt_eq_of_cover 2 (G c m) (flushed_eq c m) fun i => by
    have h0 : (i 0 : Nat) < 8192 := (i 0).isLt
    have h1 : (i 1 : Nat) < 2048 := (i 1).isLt
    have hN : cfg0.N = 16 := N_0
    obtain ⟨t, ht⟩ : ∃ t : Fin cfg0.N, t.val = 2 * ((i 0).val / 1024) + (i 1).val / 1024 :=
      ⟨⟨2 * ((i 0).val / 1024) + (i 1).val / 1024, by omega⟩, rfl⟩
    obtain ⟨e0, e1⟩ := index2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [e0]; omega
    | ⟨1, _⟩ => show win0_2.index t 1 * 1024 ≤ (i 1 : Nat) ∧ (i 1 : Nat) < win0_2.index t 1 * 1024 + 1024
                rw [e1]; omega

/-- The reference's product. -/
theorem ref_at (A : FVec Ideal S8192x2048 .bf16) (B : FVec Ideal S2048x2048 .bf16) (i : S8192x2048.Idx) :
    (truncf .bf16 (Host.dotGeneral Cert.RefGradHMixOutIdeal.dot_S8192x2048_S2048x2048_S8192x2048_1_1_0_0_n_n none (extf .f32 A Cert.RefGradHMixOutIdeal.Gen.facts.bitsLt_bf16_f32) (extf .f32 B Cert.RefGradHMixOutIdeal.Gen.facts.bitsLt_bf16_f32)) Cert.RefGradHMixOutIdeal.Gen.facts.bitsLt_bf16_f32 i : EReal)
      = ∑ k ∈ Finset.range 2048, nat2 A (i 0).val k * nat2 B (i 1).val k := by
  simp only [pointwise]
  exact (zero_add _).trans ((Finset.sum_congr rfl fun k _ =>
    (congrArg₂ (· * ·) (nat2_of A _ rfl rfl) (nat2_of B _ rfl rfl))).trans
      (sum_axis (fun k => nat2 A (i 0).val k * nat2 B (i 1).val k) 2048))

/-! ## The claims -/

section claims

theorem frame : Cert.quiescent_GradHMixOut (hGradHMixOut := Cert.GradHMixOut.Gen.facts) :=
  fun m ρ _ => Cert.GradHMixOut.Gen.frame m ρ

theorem frame_ideal : Cert.quiescent_GradHMixOutIdeal (hGradHMixOutIdeal := Cert.GradHMixOutIdeal.Gen.facts) :=
  fun m ρ _ => Cert.GradHMixOutIdeal.Gen.frame m ρ

/-- The reference declares no semaphore. -/
theorem frame_ref : Cert.quiescent_RefGradHMixOutIdeal (hRefGradHMixOutIdeal := Cert.RefGradHMixOutIdeal.Gen.facts) := by
  intro m ρ _
  exact (θ_run Cert.RefGradHMixOutIdeal.defs _ _).mono
    (fun r h => ⟨fun c => (h c).2, Idealize.ShloMosaic.sem_eq_zero_of_no_sems (by decide) r.2⟩)
    (Cert.RefGradHMixOutIdeal.Value.run (F := Ideal) m ρ)

theorem preserves : Cert.preserves_GradHMixOut_GradHMixOutIdeal := trivial

theorem algebraic : Cert.algebraic_GradHMixOutIdeal_RefGradHMixOutIdeal (hGradHMixOutIdeal := Cert.GradHMixOutIdeal.Gen.facts)
    (hRefGradHMixOutIdeal := Cert.RefGradHMixOutIdeal.Gen.facts) := by
  intro m g m' g' _ hagree
  refine ⟨fun c => G c m,
    (θ_run Cert.GradHMixOutIdeal.defs _ _).mono (fun r h c => ⟨(h c).1.trans (final c m), (h c).2⟩) (Value.run_blocks (F := Ideal) m g),
    (θ_run Cert.RefGradHMixOutIdeal.defs _ _).mono (fun r h c => ⟨(h c).1.trans (funext fun i => ?_), (h c).2⟩)
      (Cert.RefGradHMixOutIdeal.Value.run (F := Ideal) m' g')⟩
  obtain ⟨e0, e1⟩ := hagree c
  refine (ref_at _ _ i).trans ?_
  rw [e0, e1]
  rfl

end claims

end

end Prod.HMix
-- ==== Proof.MixF.lean ====
module

public import proofs.«01_k».proof.Proof.Prod
public import proofs.«01_k».proof.Proof.Gen.MixOutIdeal.Value
public import proofs.«01_k».proof.Proof.Gen.MixOutIdeal.Frame
public import proofs.«01_k».proof.Proof.Gen.MixOut.Frame
public import proofs.«01_k».proof.Proof.Gen.RefMixOutIdeal.Run
public import proofs.«01_k».proof.Defs

/-!
# The mixer's last product: `mixin · w_mix_out`

Each point of the launch writes one block of the result.
-/

@[expose] public section

set_option maxRecDepth 16384

namespace Prod.MixF
open Idealize.ShloMosaic Idealize.ShloMosaic.TcCoe Idealize.SL.Sem Cert.MixOutIdeal Cert.MixOutIdeal.Gen

noncomputable section

variable (c : Dev nD) (x0 : Vec Ideal S1024x2048 .bf16) (x1 : Vec Ideal S2048x1024 .bf16)

theorem out_eq : out0_2 x0 x1 = k0_pay1 x0 x1 := by
  unfold out0_2
  rw [View.canon_unit_zero hz2, View.ld_unit_zero (S := S1024x2048) hz2, View.ld_unit_zero (S := S2048x1024) hz2]

theorem pay1_at (y : S1024x1024.Idx) : (k0_pay1 x0 x1 y : EReal) = ∑ k : Fin 2048, x0 (ix2 (y 0) k) * x1 (ix2 k (y 1)) := by
  unfold k0_pay1
  simp only [pointwise]
  exact zero_add _

theorem index0 : ∀ t : Fin cfg0.N, win0_0.index t (0 : Fin 2) = t.val / 2 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val % 2 :=
  (by decide +kernel : ∀ t : Fin grid0.N, _)
theorem index2 : ∀ t : Fin cfg0.N, win0_2.index t (0 : Fin 2) = t.val / 2 ∧ win0_2.index t (1 : Fin 2) = t.val % 2 :=
  (by decide +kernel : ∀ t : Fin grid0.N, _)

variable (m : (ℓ : Loc nD τ sig) → Buf (Elt Ideal) ℓ) (ρ : Dev nD → PrngReg)

/-- The arguments. -/
def lhs : S8192x2048.Idx → EReal := m ((c : Thread nD τ).loc main_arg0)
def rhs : S2048x2048.Idx → EReal := m ((c : Thread nD τ).loc main_arg1)

theorem blk0 (t : Fin cfg0.N) (j : S1024x2048.Idx) :
    (iblk m c 0 t j : EReal) = nat2 (lhs c m) (t.val / 2 * 1024 + (j 0).val) (0 * 2048 + (j 1).val) := by
  obtain ⟨e0, e1⟩ := index0 t
  unfold iblk
  rw [View.read_apply]
  show (V m c main_arg0 _ : EReal) = _
  rw [V_main_arg0 m c]
  refine nat2_of (lhs c m) _ ?_ ?_
  · show win0_0.index t 0 * 1024 + 1 * (j 0).val = _
    rw [e0, Nat.one_mul]
  · show win0_0.index t 1 * 2048 + 1 * (j 1).val = _
    rw [e1, Nat.one_mul]

theorem blk1 (t : Fin cfg0.N) (j : S2048x1024.Idx) :
    (iblk m c 1 t j : EReal) = nat2 (rhs c m) (0 * 2048 + (j 0).val) (t.val % 2 * 1024 + (j 1).val) := by
  obtain ⟨e0, e1⟩ := index1 t
  unfold iblk
  rw [View.read_apply]
  show (V m c main_arg1 _ : EReal) = _
  rw [V_main_arg1 m c]
  refine nat2_of (rhs c m) _ ?_ ?_
  · show win0_1.index t 0 * 2048 + 1 * (j 0).val = _
    rw [e0, Nat.one_mul]
  · show win0_1.index t 1 * 1024 + 1 * (j 1).val = _
    rw [e1, Nat.one_mul]

/-- The `k`-th product of the sum at row `r` and column `s`. -/
def term (r s k : ℕ) : EReal := nat2 (lhs c m) r k * nat2 (rhs c m) k s

/-- What a point's blocks contribute. -/
theorem pay (t : Fin cfg0.N) (y : S1024x1024.Idx) :
    (k0_pay1 (iblk m c 0 t : Vec Ideal S1024x2048 .bf16) (iblk m c 1 t : Vec Ideal S2048x1024 .bf16) y : EReal)
      = ∑ k : Fin 2048, term c m (t.val / 2 * 1024 + (y 0).val) (t.val % 2 * 1024 + (y 1).val) (0 * 2048 + k.val) := by
  rw [pay1_at]
  refine Finset.sum_congr rfl fun k _ => congrArg₂ (· * ·) (blk0 c m t _) (blk1 c m t _)

/-- The product of the whole matrices. -/
def G : S8192x2048.Idx → EReal := fun i => ∑ k ∈ Finset.range 2048, term c m ((i 0).val) ((i 1).val) k

theorem flushed_eq (t : Fin cfg0.N) (_ : (cfg0.win 2).flush t = true) :
    (dats m 0 c).flushed 2 t = ((cfg0.win 2).blk t).view.read (Elt Ideal) (G c m) := by
  obtain ⟨e0, e1⟩ := index2 t
  rw [Value.flushed2 m c t, out_eq]
  funext (y : S1024x1024.Idx)
  rw [View.read_apply]
  show (k0_pay1 (iblk m c 0 t : Vec Ideal S1024x2048 .bf16) (iblk m c 1 t : Vec Ideal S2048x1024 .bf16) y : EReal) = _
  rw [pay, sum_first]
  have g : ∀ E : S8192x2048.Idx, (E 0).val = t.val / 2 * 1024 + (y 0).val → (E 1).val = t.val % 2 * 1024 + (y 1).val →
      ∑ k ∈ Finset.range ((0 + 1) * 2048), term c m (t.val / 2 * 1024 + (y 0).val) (t.val % 2 * 1024 + (y 1).val) k = G c m E := by
    intro E v0 v1
    unfold G
    rw [v0, v1]
  refine g _ ?_ ?_
  · show win0_2.index t 0 * 1024 + 1 * (y 0).val = _
    rw [e0, Nat.one_mul]
  · show win0_2.index t 1 * 1024 + 1 * (y 1).val = _
    rw [e1, Nat.one_mul]

theorem final : (dats m 0 c).arrAt 2 cfg0.N = G c m :=
  (dats m 0 c).arrAt_eq_of_cover 2 (G c m) (flushed_eq c m) fun i => by
    have h0 : (i 0 : Nat) < 8192 := (i 0).isLt
    have h1 : (i 1 : Nat) < 2048 := (i 1).isLt
    have hN : cfg0.N = 16 := N_0
    obtain ⟨t, ht⟩ : ∃ t : Fin cfg0.N, t.val = 2 * ((i 0).val / 1024) + (i 1).val / 1024 :=
      ⟨⟨2 * ((i 0).val / 1024) + (i 1).val / 1024, by omega⟩, rfl⟩
    obtain ⟨e0, e1⟩ := index2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [e0]; omega
    | ⟨1, _⟩ => show win0_2.index t 1 * 1024 ≤ (i 1 : Nat) ∧ (i 1 : Nat) < win0_2.index t 1 * 1024 + 1024
                rw [e1]; omega

/-- The reference's product. -/
theorem ref_at (A : FVec Ideal S8192x2048 .bf16) (B : FVec Ideal S2048x2048 .bf16) (i : S8192x2048.Idx) :
    (Host.dotGeneral Cert.RefMixOutIdeal.dot_S8192x2048_S2048x2048_S8192x2048_1_0_0_1_n_n none (extf .f32 A Cert.RefMixOutIdeal.Gen.facts.bitsLt_bf16_f32) (extf .f32 B Cert.RefMixOutIdeal.Gen.facts.bitsLt_bf16_f32) i : EReal)
      = ∑ k ∈ Finset.range 2048, nat2 A (i 0).val k * nat2 B k (i 1).val := by
  simp only [pointwise]
  exact (zero_add _).trans ((Finset.sum_congr rfl fun k _ =>
    (congrArg₂ (· * ·) (nat2_of A _ rfl rfl) (nat2_of B _ rfl rfl))).trans
      (sum_axis (fun k => nat2 A (i 0).val k * nat2 B k (i 1).val) 2048))

/-! ## The claims -/

section claims

theorem frame : Cert.quiescent_MixOut (hMixOut := Cert.MixOut.Gen.facts) :=
  fun m ρ _ => Cert.MixOut.Gen.frame m ρ

theorem frame_ideal : Cert.quiescent_MixOutIdeal (hMixOutIdeal := Cert.MixOutIdeal.Gen.facts) :=
  fun m ρ _ => Cert.MixOutIdeal.Gen.frame m ρ

/-- The reference declares no semaphore. -/
theorem frame_ref : Cert.quiescent_RefMixOutIdeal (hRefMixOutIdeal := Cert.RefMixOutIdeal.Gen.facts) := by
  intro m ρ _
  exact (θ_run Cert.RefMixOutIdeal.defs _ _).mono
    (fun r h => ⟨fun c => (h c).2, Idealize.ShloMosaic.sem_eq_zero_of_no_sems (by decide) r.2⟩)
    (Cert.RefMixOutIdeal.Value.run (F := Ideal) m ρ)

theorem preserves : Cert.preserves_MixOut_MixOutIdeal := trivial

theorem algebraic : Cert.algebraic_MixOutIdeal_RefMixOutIdeal (hMixOutIdeal := Cert.MixOutIdeal.Gen.facts)
    (hRefMixOutIdeal := Cert.RefMixOutIdeal.Gen.facts) := by
  intro m g m' g' _ hagree
  refine ⟨fun c => G c m,
    (θ_run Cert.MixOutIdeal.defs _ _).mono (fun r h c => ⟨(h c).1.trans (final c m), (h c).2⟩) (Value.run_blocks (F := Ideal) m g),
    (θ_run Cert.RefMixOutIdeal.defs _ _).mono (fun r h c => ⟨(h c).1.trans (funext fun i => ?_), (h c).2⟩)
      (Cert.RefMixOutIdeal.Value.run (F := Ideal) m' g')⟩
  obtain ⟨e0, e1⟩ := hagree c
  refine (ref_at _ _ i).trans ?_
  rw [e0, e1]
  rfl

end claims

end

end Prod.MixF
-- ==== Proof.ConvF.lean ====
module

public import proofs.«01_k».proof.Proof.Prod
public import proofs.«01_k».proof.Proof.Gen.ConvOutIdeal.Value
public import proofs.«01_k».proof.Proof.Gen.ConvOutIdeal.Frame
public import proofs.«01_k».proof.Proof.Gen.ConvOut.Frame
public import proofs.«01_k».proof.Proof.Gen.RefConvOutIdeal.Run
public import proofs.«01_k».proof.Defs

/-!
# The Conformer branch's last product: `u · w_conv_out + b_conv_out`

Each point of the launch writes one block of the result.
-/

@[expose] public section

set_option maxRecDepth 16384

namespace Prod.ConvF
open Idealize.ShloMosaic Idealize.ShloMosaic.TcCoe Idealize.SL.Sem Cert.ConvOutIdeal Cert.ConvOutIdeal.Gen

noncomputable section

variable (c : Dev nD) (x0 : Vec Ideal S1024x2048 .bf16) (x1 : Vec Ideal S2048x1024 .bf16)
  (x2 : Vec Ideal S1x1024 .f32)

theorem out_eq : out0_3 x0 x1 x2 = k0_pay1 x0 x1 x2 := by
  unfold out0_3
  rw [View.canon_unit_zero hz2, View.ld_unit_zero (S := S1024x2048) hz2, View.ld_unit_zero (S := S2048x1024) hz2,
    View.ld_unit_zero (S := S1x1024) hz2]

theorem pay1_at (y : S1024x1024.Idx) :
    (k0_pay1 x0 x1 x2 y : EReal) = (∑ k : Fin 2048, x0 (ix2 (y 0) k) * x1 (ix2 k (y 1))) + x2 (ix2 0 (y 1)) := by
  unfold k0_pay1
  simp only [pointwise]
  exact congrArg (· + (x2 (ix2 0 (y 1)) : EReal)) (zero_add _)

theorem index0 : ∀ t : Fin cfg0.N, win0_0.index t (0 : Fin 2) = t.val / 2 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val % 2 :=
  (by decide +kernel : ∀ t : Fin grid0.N, _)
theorem index2 : ∀ t : Fin cfg0.N, win0_2.index t (0 : Fin 2) = 0 ∧ win0_2.index t (1 : Fin 2) = t.val % 2 :=
  (by decide +kernel : ∀ t : Fin grid0.N, _)

theorem index3 : ∀ t : Fin cfg0.N, win0_3.index t (0 : Fin 2) = t.val / 2 ∧ win0_3.index t (1 : Fin 2) = t.val % 2 :=
  (by decide +kernel : ∀ t : Fin grid0.N, _)

variable (m : (ℓ : Loc nD τ sig) → Buf (Elt Ideal) ℓ) (ρ : Dev nD → PrngReg)

/-- The arguments. -/
def lhs : S8192x2048.Idx → EReal := m ((c : Thread nD τ).loc main_arg0)
def rhs : S2048x2048.Idx → EReal := m ((c : Thread nD τ).loc main_arg1)
def bias : S1x2048.Idx → EReal := m ((c : Thread nD τ).loc main_arg2)

theorem blk0 (t : Fin cfg0.N) (j : S1024x2048.Idx) :
    (iblk m c 0 t j : EReal) = nat2 (lhs c m) (t.val / 2 * 1024 + (j 0).val) (0 * 2048 + (j 1).val) := by
  obtain ⟨e0, e1⟩ := index0 t
  unfold iblk
  rw [View.read_apply]
  show (V m c main_arg0 _ : EReal) = _
  rw [V_main_arg0 m c]
  refine nat2_of (lhs c m) _ ?_ ?_
  · show win0_0.index t 0 * 1024 + 1 * (j 0).val = _
    rw [e0, Nat.one_mul]
  · show win0_0.index t 1 * 2048 + 1 * (j 1).val = _
    rw [e1, Nat.one_mul]

theorem blk1 (t : Fin cfg0.N) (j : S2048x1024.Idx) :
    (iblk m c 1 t j : EReal) = nat2 (rhs c m) (0 * 2048 + (j 0).val) (t.val % 2 * 1024 + (j 1).val) := by
  obtain ⟨e0, e1⟩ := index1 t
  unfold iblk
  rw [View.read_apply]
  show (V m c main_arg1 _ : EReal) = _
  rw [V_main_arg1 m c]
  refine nat2_of (rhs c m) _ ?_ ?_
  · show win0_1.index t 0 * 2048 + 1 * (j 0).val = _
    rw [e0, Nat.one_mul]
  · show win0_1.index t 1 * 1024 + 1 * (j 1).val = _
    rw [e1, Nat.one_mul]

theorem blk2 (t : Fin cfg0.N) (j : S1x1024.Idx) :
    (iblk m c 2 t j : EReal) = nat2 (bias c m) (0 * 1 + (j 0).val) (t.val % 2 * 1024 + (j 1).val) := by
  obtain ⟨e0, e1⟩ := index2 t
  unfold iblk
  rw [View.read_apply]
  show (V m c main_arg2 _ : EReal) = _
  rw [V_main_arg2 m c]
  refine nat2_of (bias c m) _ ?_ ?_
  · show win0_2.index t 0 * 1 + 1 * (j 0).val = _
    rw [e0, Nat.one_mul]
  · show win0_2.index t 1 * 1024 + 1 * (j 1).val = _
    rw [e1, Nat.one_mul]

/-- The `k`-th product of the sum at row `r` and column `s`. -/
def term (r s k : ℕ) : EReal := nat2 (lhs c m) r k * nat2 (rhs c m) k s

/-- What a point's blocks contribute. -/
theorem pay (t : Fin cfg0.N) (y : S1024x1024.Idx) :
    (k0_pay1 (iblk m c 0 t : Vec Ideal S1024x2048 .bf16) (iblk m c 1 t : Vec Ideal S2048x1024 .bf16)
        (iblk m c 2 t : Vec Ideal S1x1024 .f32) y : EReal)
      = (∑ k : Fin 2048, term c m (t.val / 2 * 1024 + (y 0).val) (t.val % 2 * 1024 + (y 1).val) (0 * 2048 + k.val))
        + nat2 (bias c m) 0 (t.val % 2 * 1024 + (y 1).val) := by
  rw [pay1_at]
  refine congrArg₂ (· + ·) ?_ (blk2 c m t _)
  refine Finset.sum_congr rfl fun k _ => congrArg₂ (· * ·) (blk0 c m t _) (blk1 c m t _)

/-- The product of the whole matrices, and the bias. -/
def G : S8192x2048.Idx → EReal := fun i =>
  (∑ k ∈ Finset.range 2048, term c m ((i 0).val) ((i 1).val) k) + nat2 (bias c m) 0 (i 1).val

theorem flushed_eq (t : Fin cfg0.N) (_ : (cfg0.win 3).flush t = true) :
    (dats m 0 c).flushed 3 t = ((cfg0.win 3).blk t).view.read (Elt Ideal) (G c m) := by
  obtain ⟨e0, e1⟩ := index3 t
  rw [Value.flushed3 m c t, out_eq]
  funext (y : S1024x1024.Idx)
  rw [View.read_apply]
  show (k0_pay1 (iblk m c 0 t : Vec Ideal S1024x2048 .bf16) (iblk m c 1 t : Vec Ideal S2048x1024 .bf16)
    (iblk m c 2 t : Vec Ideal S1x1024 .f32) y : EReal) = _
  rw [pay, sum_first]
  have g : ∀ E : S8192x2048.Idx, (E 0).val = t.val / 2 * 1024 + (y 0).val → (E 1).val = t.val % 2 * 1024 + (y 1).val →
      (∑ k ∈ Finset.range ((0 + 1) * 2048), term c m (t.val / 2 * 1024 + (y 0).val) (t.val % 2 * 1024 + (y 1).val) k)
        + nat2 (bias c m) 0 (t.val % 2 * 1024 + (y 1).val) = G c m E := by
    intro E v0 v1
    unfold G
    rw [v0, v1]
  refine g _ ?_ ?_
  · show win0_3.index t 0 * 1024 + 1 * (y 0).val = _
    rw [e0, Nat.one_mul]
  · show win0_3.index t 1 * 1024 + 1 * (y 1).val = _
    rw [e1, Nat.one_mul]

theorem final : (dats m 0 c).arrAt 3 cfg0.N = G c m :=
  (dats m 0 c).arrAt_eq_of_cover 3 (G c m) (flushed_eq c m) fun i => by
    have h0 : (i 0 : Nat) < 8192 := (i 0).isLt
    have h1 : (i 1 : Nat) < 2048 := (i 1).isLt
    have hN : cfg0.N = 16 := N_0
    obtain ⟨t, ht⟩ : ∃ t : Fin cfg0.N, t.val = 2 * ((i 0).val / 1024) + (i 1).val / 1024 :=
      ⟨⟨2 * ((i 0).val / 1024) + (i 1).val / 1024, by omega⟩, rfl⟩
    obtain ⟨e0, e1⟩ := index3 t
    refine ⟨t, flush0_3 t, ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [e0]; omega
    | ⟨1, _⟩ => show win0_3.index t 1 * 1024 ≤ (i 1 : Nat) ∧ (i 1 : Nat) < win0_3.index t 1 * 1024 + 1024
                rw [e1]; omega

/-- The reference's product and bias. -/
theorem ref_at (A : FVec Ideal S8192x2048 .bf16) (B : FVec Ideal S2048x2048 .bf16) (b : FVec Ideal S1x2048 .f32) (i : S8192x2048.Idx) :
    (addf (Host.dotGeneral Cert.RefConvOutIdeal.dot_S8192x2048_S2048x2048_S8192x2048_1_0_0_1_n_n none (extf .f32 A Cert.RefConvOutIdeal.Gen.facts.bitsLt_bf16_f32)
        (extf .f32 B Cert.RefConvOutIdeal.Gen.facts.bitsLt_bf16_f32))
      (broadcastInDim Cert.RefConvOutIdeal.S8192x2048 ![0, 1] Cert.RefConvOutIdeal.Gen.facts.bcast_S1x2048_S8192x2048_0_1 b) i : EReal)
      = (∑ k ∈ Finset.range 2048, nat2 A (i 0).val k * nat2 B k (i 1).val) + nat2 b 0 (i 1).val := by
  rw [addf_at]
  refine congrArg₂ (· + ·) ?_ ?_
  · simp only [pointwise]
    exact (zero_add _).trans ((Finset.sum_congr rfl fun k _ =>
      (congrArg₂ (· * ·) (nat2_of A _ rfl rfl) (nat2_of B _ rfl rfl))).trans
        (sum_axis (fun k => nat2 A (i 0).val k * nat2 B k (i 1).val) 2048))
  · simp only [pointwise]
    exact nat2_of b _ rfl rfl

/-! ## The claims -/

section claims

theorem frame : Cert.quiescent_ConvOut (hConvOut := Cert.ConvOut.Gen.facts) :=
  fun m ρ _ => Cert.ConvOut.Gen.frame m ρ

theorem frame_ideal : Cert.quiescent_ConvOutIdeal (hConvOutIdeal := Cert.ConvOutIdeal.Gen.facts) :=
  fun m ρ _ => Cert.ConvOutIdeal.Gen.frame m ρ

/-- The reference declares no semaphore. -/
theorem frame_ref : Cert.quiescent_RefConvOutIdeal (hRefConvOutIdeal := Cert.RefConvOutIdeal.Gen.facts) := by
  intro m ρ _
  exact (θ_run Cert.RefConvOutIdeal.defs _ _).mono
    (fun r h => ⟨fun c => (h c).2, Idealize.ShloMosaic.sem_eq_zero_of_no_sems (by decide) r.2⟩)
    (Cert.RefConvOutIdeal.Value.run (F := Ideal) m ρ)

theorem preserves : Cert.preserves_ConvOut_ConvOutIdeal := trivial

theorem algebraic : Cert.algebraic_ConvOutIdeal_RefConvOutIdeal (hConvOutIdeal := Cert.ConvOutIdeal.Gen.facts)
    (hRefConvOutIdeal := Cert.RefConvOutIdeal.Gen.facts) := by
  intro m g m' g' _ hagree
  refine ⟨fun c => G c m,
    (θ_run Cert.ConvOutIdeal.defs _ _).mono (fun r h c => ⟨(h c).1.trans (final c m), (h c).2⟩) (Value.run_blocks (F := Ideal) m g),
    (θ_run Cert.RefConvOutIdeal.defs _ _).mono (fun r h c => ⟨(h c).1.trans (funext fun i => ?_), (h c).2⟩)
      (Cert.RefConvOutIdeal.Value.run (F := Ideal) m' g')⟩
  obtain ⟨e0, e1, e2⟩ := hagree c
  refine (ref_at _ _ _ i).trans ?_
  rw [e0, e1, e2]
  rfl

end claims

end

end Prod.ConvF
-- ==== Proof.DtF.lean ====
module

public import proofs.«01_k».proof.Proof.Prod
public import proofs.«01_k».proof.Proof.Gen.ProjDtIdeal.Value
public import proofs.«01_k».proof.Proof.Gen.ProjDtIdeal.Frame
public import proofs.«01_k».proof.Proof.Gen.ProjDt.Frame
public import proofs.«01_k».proof.Proof.Gen.RefProjDtIdeal.Run
public import proofs.«01_k».proof.Defs

/-!
# The first projection's columns from 10240 to 10367

Each point of the launch writes one block of rows of the result.  The second matrix is the projection's transposed, and its
one block begins at row 10240.
-/

@[expose] public section

set_option maxRecDepth 16384

namespace Prod.DtF
open Idealize.ShloMosaic Idealize.ShloMosaic.TcCoe Idealize.SL.Sem Cert.ProjDtIdeal Cert.ProjDtIdeal.Gen

noncomputable section

variable (c : Dev nD) (x0 : Vec Ideal S1024x2048 .bf16) (x1 : Vec Ideal S128x2048 .bf16)

theorem out_eq : out0_2 x0 x1 = k0_pay1 x0 x1 := by
  unfold out0_2
  rw [View.canon_unit_zero hz2, View.ld_unit_zero (S := S1024x2048) hz2, View.ld_unit_zero (S := S128x2048) hz2]

theorem pay1_at (y : S1024x128.Idx) : (k0_pay1 x0 x1 y : EReal) = ∑ k : Fin 2048, x0 (ix2 (y 0) k) * x1 (ix2 (y 1) k) := by
  unfold k0_pay1
  simp only [pointwise]
  exact zero_add _

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 10240 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)

variable (m : (ℓ : Loc nD τ sig) → Buf (Elt Ideal) ℓ) (ρ : Dev nD → PrngReg)

/-- The arguments. -/
def lhs : S8192x2048.Idx → EReal := m ((c : Thread nD τ).loc main_arg0)
def rhs : S18560x2048.Idx → EReal := m ((c : Thread nD τ).loc main_arg1)

theorem blk0 (t : Fin cfg0.N) (j : S1024x2048.Idx) :
    (iblk m c 0 t j : EReal) = nat2 (lhs c m) (t.val * 1024 + (j 0).val) (0 * 2048 + (j 1).val) := by
  obtain ⟨e0, e1⟩ := index0 t
  unfold iblk
  rw [View.read_apply]
  show (V m c main_arg0 _ : EReal) = _
  rw [V_main_arg0 m c]
  refine nat2_of (lhs c m) _ ?_ ?_
  · show win0_0.index t 0 * 1024 + 1 * (j 0).val = _
    rw [e0, Nat.one_mul]
  · show win0_0.index t 1 * 2048 + 1 * (j 1).val = _
    rw [e1, Nat.one_mul]

theorem blk1 (t : Fin cfg0.N) (j : S128x2048.Idx) :
    (iblk m c 1 t j : EReal) = nat2 (rhs c m) (10240 + (j 0).val) (0 + (j 1).val) := by
  obtain ⟨e0, e1⟩ := index1 t
  unfold iblk
  rw [View.read_apply]
  show (V m c main_arg1 _ : EReal) = _
  rw [V_main_arg1 m c]
  refine nat2_of (rhs c m) _ ?_ ?_
  · show win0_1.index t 0 + 1 * (j 0).val = _
    rw [e0, Nat.one_mul]
  · show win0_1.index t 1 + 1 * (j 1).val = _
    rw [e1, Nat.one_mul]

/-- The `k`-th product of the sum at row `r` and column `s`. -/
def term (r s k : ℕ) : EReal := nat2 (lhs c m) r k * nat2 (rhs c m) (10240 + s) k

/-- What a point's blocks contribute. -/
theorem pay (t : Fin cfg0.N) (y : S1024x128.Idx) :
    (k0_pay1 (iblk m c 0 t : Vec Ideal S1024x2048 .bf16) (iblk m c 1 t : Vec Ideal S128x2048 .bf16) y : EReal)
      = ∑ k : Fin 2048, term c m (t.val * 1024 + (y 0).val) (0 * 128 + (y 1).val) (0 * 2048 + k.val) := by
  rw [pay1_at]
  refine Finset.sum_congr rfl fun k _ => congrArg₂ (· * ·) (blk0 c m t _) (blk1 c m t _ |>.trans ?_)
  show nat2 (rhs c m) (10240 + (y 1).val) (0 + k.val) = nat2 (rhs c m) (10240 + (0 * 128 + (y 1).val)) (0 * 2048 + k.val)
  simp only [Nat.zero_mul, Nat.zero_add]

/-- The product of the whole matrices. -/
def G : S8192x128.Idx → EReal := fun i => ∑ k ∈ Finset.range 2048, term c m ((i 0).val) ((i 1).val) k

theorem flushed_eq (t : Fin cfg0.N) (_ : (cfg0.win 2).flush t = true) :
    (dats m 0 c).flushed 2 t = ((cfg0.win 2).blk t).view.read (Elt Ideal) (G c m) := by
  obtain ⟨e0, e1⟩ := index2 t
  rw [Value.flushed2 m c t, out_eq]
  funext (y : S1024x128.Idx)
  rw [View.read_apply]
  show (k0_pay1 (iblk m c 0 t : Vec Ideal S1024x2048 .bf16) (iblk m c 1 t : Vec Ideal S128x2048 .bf16) y : EReal) = _
  rw [pay, sum_first]
  have g : ∀ E : S8192x128.Idx, (E 0).val = t.val * 1024 + (y 0).val → (E 1).val = 0 * 128 + (y 1).val →
      ∑ k ∈ Finset.range ((0 + 1) * 2048), term c m (t.val * 1024 + (y 0).val) (0 * 128 + (y 1).val) k = G c m E := by
    intro E v0 v1
    unfold G
    rw [v0, v1]
  refine g _ ?_ ?_
  · show win0_2.index t 0 * 1024 + 1 * (y 0).val = _
    rw [e0, Nat.one_mul]
  · show win0_2.index t 1 * 128 + 1 * (y 1).val = _
    rw [e1, Nat.one_mul]

theorem final : (dats m 0 c).arrAt 2 cfg0.N = G c m :=
  (dats m 0 c).arrAt_eq_of_cover 2 (G c m) (flushed_eq c m) fun i => by
    have h0 : (i 0 : Nat) < 8192 := (i 0).isLt
    have h1 : (i 1 : Nat) < 128 := (i 1).isLt
    have hN : cfg0.N = 8 := N_0
    obtain ⟨t, ht⟩ : ∃ t : Fin cfg0.N, t.val = (i 0).val / 1024 :=
      ⟨⟨(i 0).val / 1024, by omega⟩, rfl⟩
    obtain ⟨e0, e1⟩ := index2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [e0]; omega
    | ⟨1, _⟩ => show win0_2.index t 1 * 128 ≤ (i 1 : Nat) ∧ (i 1 : Nat) < win0_2.index t 1 * 128 + 128
                rw [e1]; omega

/-- The reference's product. -/
theorem ref_at (A : FVec Ideal S8192x2048 .bf16) (B : FVec Ideal S18560x2048 .bf16) (i : S8192x128.Idx) :
    (extractStridedSlice Cert.RefProjDtIdeal.S8192x128 ![0, 10240] (Host.dotGeneral Cert.RefProjDtIdeal.dot_S8192x2048_S2048x18560_S8192x18560_1_0_0_1_n_n none (extf .f32 A Cert.RefProjDtIdeal.Gen.facts.bitsLt_bf16_f32) (transpose Cert.RefProjDtIdeal.S2048x18560 [1, 0] (extf .f32 B Cert.RefProjDtIdeal.Gen.facts.bitsLt_bf16_f32) Cert.RefProjDtIdeal.Gen.facts.transposes_S18560x2048_S2048x18560_1_0)) Cert.RefProjDtIdeal.Gen.facts.slices_S8192x18560_S8192x128_0_10240 i : EReal)
      = ∑ k ∈ Finset.range 2048, nat2 A (i 0).val k * nat2 B (10240 + (i 1).val) k := by
  simp only [pointwise]
  exact (zero_add _).trans ((Finset.sum_congr rfl fun k _ =>
    show _ = nat2 A (i 0).val k.val * nat2 B (10240 + (i 1).val) k.val from
    congrArg₂ (· * ·) (nat2_of A _ (Nat.zero_add _) rfl) (nat2_of B _ rfl rfl)).trans
      (sum_axis (fun k => nat2 A (i 0).val k * nat2 B (10240 + (i 1).val) k) 2048))

/-! ## The claims -/

section claims

theorem frame : Cert.quiescent_ProjDt (hProjDt := Cert.ProjDt.Gen.facts) :=
  fun m ρ _ => Cert.ProjDt.Gen.frame m ρ

theorem frame_ideal : Cert.quiescent_ProjDtIdeal (hProjDtIdeal := Cert.ProjDtIdeal.Gen.facts) :=
  fun m ρ _ => Cert.ProjDtIdeal.Gen.frame m ρ

/-- The reference declares no semaphore. -/
theorem frame_ref : Cert.quiescent_RefProjDtIdeal (hRefProjDtIdeal := Cert.RefProjDtIdeal.Gen.facts) := by
  intro m ρ _
  exact (θ_run Cert.RefProjDtIdeal.defs _ _).mono
    (fun r h => ⟨fun c => (h c).2, Idealize.ShloMosaic.sem_eq_zero_of_no_sems (by decide) r.2⟩)
    (Cert.RefProjDtIdeal.Value.run (F := Ideal) m ρ)

theorem preserves : Cert.preserves_ProjDt_ProjDtIdeal := trivial

theorem algebraic : Cert.algebraic_ProjDtIdeal_RefProjDtIdeal (hProjDtIdeal := Cert.ProjDtIdeal.Gen.facts)
    (hRefProjDtIdeal := Cert.RefProjDtIdeal.Gen.facts) := by
  intro m g m' g' _ hagree
  refine ⟨fun c => G c m,
    (θ_run Cert.ProjDtIdeal.defs _ _).mono (fun r h c => ⟨(h c).1.trans (final c m), (h c).2⟩) (Value.run_blocks (F := Ideal) m g),
    (θ_run Cert.RefProjDtIdeal.defs _ _).mono (fun r h c => ⟨(h c).1.trans (funext fun i => ?_), (h c).2⟩)
      (Cert.RefProjDtIdeal.Value.run (F := Ideal) m' g')⟩
  obtain ⟨e0, e1⟩ := hagree c
  refine (ref_at _ _ i).trans ?_
  rw [e0, e1]
  rfl

end claims

end

end Prod.DtF
-- ==== Proof.lean ====
module

public import proofs.«01_k».proof.Proof.Gen.Kernel.Frame
public import proofs.«01_k».proof.Proof.Gen.KernelIdeal.Frame
public import proofs.«01_k».proof.Proof.Gen.ReferenceIdeal.Run
public import proofs.«01_k».proof.Proof.Carry
public import proofs.«01_k».proof.Proof.RefC
public import proofs.«01_k».proof.Proof.Finite
public import proofs.«01_k».proof.Proof.WGateUp
public import proofs.«01_k».proof.Proof.HGateUp
public import proofs.«01_k».proof.Proof.GateUpF
public import proofs.«01_k».proof.Proof.WDown
public import proofs.«01_k».proof.Proof.HDown
public import proofs.«01_k».proof.Proof.Down
public import proofs.«01_k».proof.Proof.ZF
public import proofs.«01_k».proof.Proof.XbcF
public import proofs.«01_k».proof.Proof.GluF
public import proofs.«01_k».proof.Proof.GateF
public import proofs.«01_k».proof.Proof.WSsm
public import proofs.«01_k».proof.Proof.HSsm
public import proofs.«01_k».proof.Proof.SsmF
public import proofs.«01_k».proof.Proof.WMix
public import proofs.«01_k».proof.Proof.HMix
public import proofs.«01_k».proof.Proof.MixF
public import proofs.«01_k».proof.Proof.ConvF
public import proofs.«01_k».proof.Proof.DtF

/-!
# The claim

The frames; the mask's name; and the value: both programs leave, in each of their five results, the same function of the
arguments' reals (`Spec`), the launch's from `Carry` and the reference's from `RefC`.  The products' claims are each
proved in a module of their own.
-/

@[expose] public section

noncomputable section

namespace Cert.Proof

open Idealize.ShloMosaic Idealize.ShloMosaic.StableHlo Idealize.SL.Sem Scan.Line

theorem frame_kernel : Cert.quiescent_Kernel (hKernel := Cert.Kernel.Gen.facts) :=
  fun m ρ _ => Cert.Kernel.Gen.frame m ρ

theorem frame_ideal : Cert.quiescent_KernelIdeal (hKernelIdeal := Cert.KernelIdeal.Gen.facts) :=
  fun m ρ _ => Cert.KernelIdeal.Gen.frame m ρ

theorem frame_ideal_finite :
    Cert.quiescent_KernelIdeal_pre_finite (hKernelIdeal := Cert.KernelIdeal.Gen.facts) (hPre_finite := Scan.Finite.facts) :=
  fun m ρ _ => Cert.KernelIdeal.Gen.frame m ρ

/-- The reference's run, read at its arguments; it declares no semaphore. -/
theorem frame_ref : Cert.quiescent_ReferenceIdeal (hReferenceIdeal := Cert.ReferenceIdeal.Gen.facts) := by
  intro m ρ _
  exact (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

theorem frame_ref_finite :
    Cert.quiescent_ReferenceIdeal_pre_finite (hReferenceIdeal := Cert.ReferenceIdeal.Gen.facts) (hPre_finite := Scan.Finite.facts) :=
  fun m ρ _ => frame_ref m ρ trivial

theorem preserves : Cert.preserves_Kernel_KernelIdeal :=
  IdealRules.named_const.statement Cert.KernelIdeal.κ "mask" .f32 0xF149F2CA#32 ⊥ rfl

section value
open Cert.KernelIdeal Scan.Line

attribute [local irreducible] rd

variable {m : (ℓ : Loc nD τ sig) → Buf (Elt Ideal) ℓ} {c : Dev nD}
  {r0 : Fin 8192 → Fin 6144 → ℝ} {r1 : Fin 8192 → Fin 4096 → ℝ} {r2 : Fin 8192 → Fin 128 → ℝ} {r3 r4 : Fin 128 → ℝ}
variable {x0 : (⟨S8192x6144, .bf16⟩ : BufTy).Contents (Elt Ideal)} {x1 : (⟨S8192x4096, .bf16⟩ : BufTy).Contents (Elt Ideal)}
  {x2 : (⟨S8192x128, .f32⟩ : BufTy).Contents (Elt Ideal)} {x3 x4 : (⟨S128, .f32⟩ : BufTy).Contents (Elt Ideal)}

/-- The arrays a memory holds at the launch's arguments are those the line of operations starts from. -/
structure At (m : (ℓ : Loc nD τ sig) → Buf (Elt Ideal) ℓ) (c : Dev nD) (x0 : (⟨S8192x6144, .bf16⟩ : BufTy).Contents (Elt Ideal))
    (x1 : (⟨S8192x4096, .bf16⟩ : BufTy).Contents (Elt Ideal)) (x2 : (⟨S8192x128, .f32⟩ : BufTy).Contents (Elt Ideal))
    (x3 x4 : (⟨S128, .f32⟩ : BufTy).Contents (Elt Ideal)) : Prop where
  e0 : rd (fun b => m (c, b)) main_arg0 = x0
  e1 : rd (fun b => m (c, b)) main_arg1 = x1
  e2 : rd (fun b => m (c, b)) main_arg2 = x2
  e3 : rd (fun b => m (c, b)) main_arg3 = x3
  e4 : rd (fun b => m (c, b)) main_arg4 = x4

variable (A : At m c x0 x1 x2 x3 x4)
  (h0 : ∀ i : S8192x6144.Idx, x0 i = ((r0 (i 0) (i 1) : ℝ) : EReal))
  (h1 : ∀ i : S8192x4096.Idx, x1 i = ((r1 (i 0) (i 1) : ℝ) : EReal))
  (h2 : ∀ i : S8192x128.Idx, x2 i = ((r2 (i 0) (i 1) : ℝ) : EReal))
  (h3 : ∀ i : S128.Idx, x3 i = ((r3 (i 0) : ℝ) : EReal))
  (h4 : ∀ i : S128.Idx, x4 i = ((r4 (i 0) : ℝ) : EReal))
include A h0 h1 h2 h3 h4

theorem same0 (i : S8192x4096.Idx) : Cert.ReferenceIdeal.Read.val_main_v191 (F := Ideal) x0 x1 x2 x3 x4 i = Cert.KernelIdeal.Value.G14 m c i := by
  have e := Scan.Launch.g14 m c (fun i => (congrFun A.e0 i).trans (h0 i)) (fun i => (congrFun A.e1 i).trans (h1 i))
    (fun i => (congrFun A.e2 i).trans (h2 i)) (fun i => (congrFun A.e3 i).trans (h3 i)) (fun i => (congrFun A.e4 i).trans (h4 i)) i
  exact (Scan.Ref.v191 h0 h1 h2 h3 h4 i).trans e.symm

theorem same1 (i : S8192x1024.Idx) : Cert.ReferenceIdeal.Read.val_main_v193 (F := Ideal) x0 x1 x2 x3 x4 i = Cert.KernelIdeal.Value.G15 m c i := by
  have e := Scan.Launch.g15 m c (fun i => (congrFun A.e0 i).trans (h0 i)) (fun i => (congrFun A.e1 i).trans (h1 i))
    (fun i => (congrFun A.e2 i).trans (h2 i)) (fun i => (congrFun A.e3 i).trans (h3 i)) (fun i => (congrFun A.e4 i).trans (h4 i)) i
  exact (Scan.Ref.v193 h0 h1 h2 h3 h4 i).trans e.symm

theorem same2 (i : S8192x1024.Idx) : Cert.ReferenceIdeal.Read.val_main_v195 (F := Ideal) x0 x1 x2 x3 x4 i = Cert.KernelIdeal.Value.G16 m c i := by
  have e := Scan.Launch.g16 m c (fun i => (congrFun A.e0 i).trans (h0 i)) (fun i => (congrFun A.e1 i).trans (h1 i))
    (fun i => (congrFun A.e2 i).trans (h2 i)) (fun i => (congrFun A.e3 i).trans (h3 i)) (fun i => (congrFun A.e4 i).trans (h4 i)) i
  exact (Scan.Ref.v195 h0 h1 h2 h3 h4 i).trans e.symm

theorem same3 (i : S8192x1024.Idx) : Cert.ReferenceIdeal.Read.val_main_v197 (F := Ideal) x0 x1 x2 x3 x4 i = Cert.KernelIdeal.Value.G17 m c i := by
  have e := Scan.Launch.g17 m c (fun i => (congrFun A.e0 i).trans (h0 i)) (fun i => (congrFun A.e1 i).trans (h1 i))
    (fun i => (congrFun A.e2 i).trans (h2 i)) (fun i => (congrFun A.e3 i).trans (h3 i)) (fun i => (congrFun A.e4 i).trans (h4 i)) i
  exact (Scan.Ref.v197 h0 h1 h2 h3 h4 i).trans e.symm

theorem same4 (i : S8192x1024.Idx) : Cert.ReferenceIdeal.Read.val_main_v199 (F := Ideal) x0 x1 x2 x3 x4 i = Cert.KernelIdeal.Value.G18 m c i := by
  have e := Scan.Launch.g18 m c (fun i => (congrFun A.e0 i).trans (h0 i)) (fun i => (congrFun A.e1 i).trans (h1 i))
    (fun i => (congrFun A.e2 i).trans (h2 i)) (fun i => (congrFun A.e3 i).trans (h3 i)) (fun i => (congrFun A.e4 i).trans (h4 i)) i
  exact (Scan.Ref.v199 h0 h1 h2 h3 h4 i).trans e.symm

end value

/-- The reference's run, its results the stages of `Read`. -/
theorem run_ref (m' : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g⟩ fun r => ∀ c : Dev Cert.ReferenceIdeal.nD,
      r.2.mem ((c.tc : Thread Cert.ReferenceIdeal.nD Cert.ReferenceIdeal.τ).loc Cert.ReferenceIdeal.main_v191)
          = Cert.ReferenceIdeal.Read.val_main_v191 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v193)
          = Cert.ReferenceIdeal.Read.val_main_v193 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v195)
          = Cert.ReferenceIdeal.Read.val_main_v195 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v197)
          = Cert.ReferenceIdeal.Read.val_main_v197 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v199)
          = Cert.ReferenceIdeal.Read.val_main_v199 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4) := by
  refine (θ_run Cert.ReferenceIdeal.defs _ _).mono (fun r h c => ?_) (Cert.ReferenceIdeal.Value.run (F := Ideal) m' g)
  obtain ⟨o0, o1, o2, o3, o4, rest⟩ := h c
  exact ⟨o0.trans (Cert.ReferenceIdeal.Read.val_main_v191_eq (F := Ideal) (launchContents m' c)),
    o1.trans (Cert.ReferenceIdeal.Read.val_main_v193_eq (F := Ideal) (launchContents m' c)),
    o2.trans (Cert.ReferenceIdeal.Read.val_main_v195_eq (F := Ideal) (launchContents m' c)),
    o3.trans (Cert.ReferenceIdeal.Read.val_main_v197_eq (F := Ideal) (launchContents m' c)),
    o4.trans (Cert.ReferenceIdeal.Read.val_main_v199_eq (F := Ideal) (launchContents m' c)), rest⟩

theorem algebraic : Cert.algebraic_KernelIdeal_ReferenceIdeal_pre_finite
    (hKernelIdeal := Cert.KernelIdeal.Gen.facts) (hReferenceIdeal := Cert.ReferenceIdeal.Gen.facts)
    (hPre_finite := Scan.Finite.facts) := by
  intro m g m' g' hpre hagree
  refine ⟨fun c => Cert.KernelIdeal.Value.G14 m c, fun c => Cert.KernelIdeal.Value.G15 m c, fun c => Cert.KernelIdeal.Value.G16 m c,
    fun c => Cert.KernelIdeal.Value.G17 m c, fun c => Cert.KernelIdeal.Value.G18 m c,
    Cert.KernelIdeal.Value.run (F := Ideal) m g,
    (θ_run Cert.ReferenceIdeal.defs _ _).mono (fun r h c => ?_) (run_ref m' g')⟩
  obtain ⟨r0, k0⟩ := Scan.Finite.arg0 hpre c
  obtain ⟨r1, k1⟩ := Scan.Finite.arg1 hpre c
  obtain ⟨r2, k2⟩ := Scan.Finite.arg2 hpre c
  obtain ⟨r3, k3⟩ := Scan.Finite.arg3 hpre c
  obtain ⟨r4, k4⟩ := Scan.Finite.arg4 hpre c
  obtain ⟨e0, e1, e2, e3, e4⟩ := hagree c
  have A : At m c (m' (c.tc.loc Cert.ReferenceIdeal.main_arg0)) (m' (c.tc.loc Cert.ReferenceIdeal.main_arg1))
      (m' (c.tc.loc Cert.ReferenceIdeal.main_arg2)) (m' (c.tc.loc Cert.ReferenceIdeal.main_arg3))
      (m' (c.tc.loc Cert.ReferenceIdeal.main_arg4)) :=
    ⟨(rd_arg _ _ (by decide)).trans e0.symm, (rd_arg _ _ (by decide)).trans e1.symm, (rd_arg _ _ (by decide)).trans e2.symm,
      (rd_arg _ _ (by decide)).trans e3.symm, (rd_arg _ _ (by decide)).trans e4.symm⟩
  have k0' := fun i => (congrFun e0 i).trans (k0 i)
  have k1' := fun i => (congrFun e1 i).trans (k1 i)
  have k2' := fun i => (congrFun e2 i).trans (k2 i)
  have k3' := fun i => (congrFun e3 i).trans (k3 i)
  have k4' := fun i => (congrFun e4 i).trans (k4 i)
  obtain ⟨o0, o1, o2, o3, o4, rest⟩ := h c
  exact ⟨o0.trans (funext (same0 A k0' k1' k2' k3' k4')), o1.trans (funext (same1 A k0' k1' k2' k3' k4')),
    o2.trans (funext (same2 A k0' k1' k2' k3' k4')), o3.trans (funext (same3 A k0' k1' k2' k3' k4')),
    o4.trans (funext (same4 A k0' k1' k2' k3' k4')), rest⟩

theorem claim : Cert.Claim :=
  ⟨Cert.Kernel.Gen.facts, Cert.KernelIdeal.Gen.facts, Cert.ReferenceIdeal.Gen.facts,
    Cert.GradWGateUp.Gen.facts, Cert.GradWGateUpIdeal.Gen.facts, Cert.RefGradWGateUpIdeal.Gen.facts,
    Cert.GradHGateUp.Gen.facts, Cert.GradHGateUpIdeal.Gen.facts, Cert.RefGradHGateUpIdeal.Gen.facts,
    Cert.GateUp.Gen.facts, Cert.GateUpIdeal.Gen.facts, Cert.RefGateUpIdeal.Gen.facts,
    Cert.GradWDown.Gen.facts, Cert.GradWDownIdeal.Gen.facts, Cert.RefGradWDownIdeal.Gen.facts,
    Cert.GradHDown.Gen.facts, Cert.GradHDownIdeal.Gen.facts, Cert.RefGradHDownIdeal.Gen.facts,
    Cert.Down.Gen.facts, Cert.DownIdeal.Gen.facts, Cert.RefDownIdeal.Gen.facts,
    Cert.ProjZ.Gen.facts, Cert.ProjZIdeal.Gen.facts, Cert.RefProjZIdeal.Gen.facts,
    Cert.ProjXbc.Gen.facts, Cert.ProjXbcIdeal.Gen.facts, Cert.RefProjXbcIdeal.Gen.facts,
    Cert.ProjGlu.Gen.facts, Cert.ProjGluIdeal.Gen.facts, Cert.RefProjGluIdeal.Gen.facts,
    Cert.ProjGate.Gen.facts, Cert.ProjGateIdeal.Gen.facts, Cert.RefProjGateIdeal.Gen.facts,
    Cert.GradWSsmOut.Gen.facts, Cert.GradWSsmOutIdeal.Gen.facts, Cert.RefGradWSsmOutIdeal.Gen.facts,
    Cert.GradHSsmOut.Gen.facts, Cert.GradHSsmOutIdeal.Gen.facts, Cert.RefGradHSsmOutIdeal.Gen.facts,
    Cert.SsmOut.Gen.facts, Cert.SsmOutIdeal.Gen.facts, Cert.RefSsmOutIdeal.Gen.facts,
    Cert.GradWMixOut.Gen.facts, Cert.GradWMixOutIdeal.Gen.facts, Cert.RefGradWMixOutIdeal.Gen.facts,
    Cert.GradHMixOut.Gen.facts, Cert.GradHMixOutIdeal.Gen.facts, Cert.RefGradHMixOutIdeal.Gen.facts,
    Cert.MixOut.Gen.facts, Cert.MixOutIdeal.Gen.facts, Cert.RefMixOutIdeal.Gen.facts,
    Cert.ConvOut.Gen.facts, Cert.ConvOutIdeal.Gen.facts, Cert.RefConvOutIdeal.Gen.facts,
    Cert.ProjDt.Gen.facts, Cert.ProjDtIdeal.Gen.facts, Cert.RefProjDtIdeal.Gen.facts,
    Scan.Finite.facts,
    frame_kernel, frame_ideal, frame_ideal_finite, frame_ref, frame_ref_finite,
    Prod.WGateUp.frame, Prod.WGateUp.frame_ideal, Prod.WGateUp.frame_ref,
    Prod.HGateUp.frame, Prod.HGateUp.frame_ideal, Prod.HGateUp.frame_ref,
    Prod.GateUpF.frame, Prod.GateUpF.frame_ideal, Prod.GateUpF.frame_ref,
    Prod.WDown.frame, Prod.WDown.frame_ideal, Prod.WDown.frame_ref,
    Prod.HDown.frame, Prod.HDown.frame_ideal, Prod.HDown.frame_ref,
    Prod.Down.frame, Prod.Down.frame_ideal, Prod.Down.frame_ref,
    Prod.ZF.frame, Prod.ZF.frame_ideal, Prod.ZF.frame_ref,
    Prod.XbcF.frame, Prod.XbcF.frame_ideal, Prod.XbcF.frame_ref,
    Prod.GluF.frame, Prod.GluF.frame_ideal, Prod.GluF.frame_ref,
    Prod.GateF.frame, Prod.GateF.frame_ideal, Prod.GateF.frame_ref,
    Prod.WSsm.frame, Prod.WSsm.frame_ideal, Prod.WSsm.frame_ref,
    Prod.HSsm.frame, Prod.HSsm.frame_ideal, Prod.HSsm.frame_ref,
    Prod.SsmF.frame, Prod.SsmF.frame_ideal, Prod.SsmF.frame_ref,
    Prod.WMix.frame, Prod.WMix.frame_ideal, Prod.WMix.frame_ref,
    Prod.HMix.frame, Prod.HMix.frame_ideal, Prod.HMix.frame_ref,
    Prod.MixF.frame, Prod.MixF.frame_ideal, Prod.MixF.frame_ref,
    Prod.ConvF.frame, Prod.ConvF.frame_ideal, Prod.ConvF.frame_ref,
    Prod.DtF.frame, Prod.DtF.frame_ideal, Prod.DtF.frame_ref,
    preserves, algebraic,
    Prod.WGateUp.preserves, Prod.WGateUp.algebraic,
    Prod.HGateUp.preserves, Prod.HGateUp.algebraic,
    Prod.GateUpF.preserves, Prod.GateUpF.algebraic,
    Prod.WDown.preserves, Prod.WDown.algebraic,
    Prod.HDown.preserves, Prod.HDown.algebraic,
    Prod.Down.preserves, Prod.Down.algebraic,
    Prod.ZF.preserves, Prod.ZF.algebraic,
    Prod.XbcF.preserves, Prod.XbcF.algebraic,
    Prod.GluF.preserves, Prod.GluF.algebraic,
    Prod.GateF.preserves, Prod.GateF.algebraic,
    Prod.WSsm.preserves, Prod.WSsm.algebraic,
    Prod.HSsm.preserves, Prod.HSsm.algebraic,
    Prod.SsmF.preserves, Prod.SsmF.algebraic,
    Prod.WMix.preserves, Prod.WMix.algebraic,
    Prod.HMix.preserves, Prod.HMix.algebraic,
    Prod.MixF.preserves, Prod.MixF.algebraic,
    Prod.ConvF.preserves, Prod.ConvF.algebraic,
    Prod.DtF.preserves, Prod.DtF.algebraic⟩

end Cert.Proof

end
